-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_InDgradReferenceIdeal (m : (ℓ : Loc Cert.InDgradReferenceIdeal.nD Cert.InDgradReferenceIdeal.τ Cert.InDgradReferenceIdeal.sig) → Buf (Elt Ideal) ℓ) : Prop :=
  True

def Pre_UpDgrad (m : (ℓ : Loc Cert.UpDgrad.nD Cert.UpDgrad.τ Cert.UpDgrad.sig) → Buf (Elt Bits) ℓ) : Prop :=
  True

def Pre_UpDgradIdeal (m : (ℓ : Loc Cert.UpDgradIdeal.nD Cert.UpDgradIdeal.τ Cert.UpDgradIdeal.sig) → Buf (Elt Ideal) ℓ) : Prop :=
  True

def Pre_UpDgradReferenceIdeal (m : (ℓ : Loc Cert.UpDgradReferenceIdeal.nD Cert.UpDgradReferenceIdeal.τ Cert.UpDgradReferenceIdeal.sig) → Buf (Elt Ideal) ℓ) : Prop :=
  True

def Pre_DownDgrad (m : (ℓ : Loc Cert.DownDgrad.nD Cert.DownDgrad.τ Cert.DownDgrad.sig) → Buf (Elt Bits) ℓ) : Prop :=
  True

def Pre_DownDgradIdeal (m : (ℓ : Loc Cert.DownDgradIdeal.nD Cert.DownDgradIdeal.τ Cert.DownDgradIdeal.sig) → Buf (Elt Ideal) ℓ) : Prop :=
  True

def Pre_DownDgradReferenceIdeal (m : (ℓ : Loc Cert.DownDgradReferenceIdeal.nD Cert.DownDgradReferenceIdeal.τ Cert.DownDgradReferenceIdeal.sig) → Buf (Elt Ideal) ℓ) : Prop :=
  True

def Pre_DownWgrad (m : (ℓ : Loc Cert.DownWgrad.nD Cert.DownWgrad.τ Cert.DownWgrad.sig) → Buf (Elt Bits) ℓ) : Prop :=
  True

def Pre_DownWgradIdeal (m : (ℓ : Loc Cert.DownWgradIdeal.nD Cert.DownWgradIdeal.τ Cert.DownWgradIdeal.sig) → Buf (Elt Ideal) ℓ) : Prop :=
  True

def Pre_DownWgradReferenceIdeal (m : (ℓ : Loc Cert.DownWgradReferenceIdeal.nD Cert.DownWgradReferenceIdeal.τ Cert.DownWgradReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_DownProj (m : (ℓ : Loc Cert.DownProj.nD Cert.DownProj.τ Cert.DownProj.sig) → Buf (Elt Bits) ℓ) : Prop :=
  True

def Pre_DownProjIdeal (m : (ℓ : Loc Cert.DownProjIdeal.nD Cert.DownProjIdeal.τ Cert.DownProjIdeal.sig) → Buf (Elt Ideal) ℓ) : Prop :=
  True

def Pre_DownProjReferenceIdeal (m : (ℓ : Loc Cert.DownProjReferenceIdeal.nD Cert.DownProjReferenceIdeal.τ Cert.DownProjReferenceIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcReferenceIdeal (m : (ℓ : Loc Cert.InXbcReferenceIdeal.nD Cert.InXbcReferenceIdeal.τ Cert.InXbcReferenceIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZReferenceIdeal (m : (ℓ : Loc Cert.InZReferenceIdeal.nD Cert.InZReferenceIdeal.τ Cert.InZReferenceIdeal.sig) → Buf (Elt Ideal) ℓ) : Prop :=
  True

def Pre_InUv (m : (ℓ : Loc Cert.InUv.nD Cert.InUv.τ Cert.InUv.sig) → Buf (Elt Bits) ℓ) : Prop :=
  True

def Pre_InUvIdeal (m : (ℓ : Loc Cert.InUvIdeal.nD Cert.InUvIdeal.τ Cert.InUvIdeal.sig) → Buf (Elt Ideal) ℓ) : Prop :=
  True

def Pre_InUvReferenceIdeal (m : (ℓ : Loc Cert.InUvReferenceIdeal.nD Cert.InUvReferenceIdeal.τ Cert.InUvReferenceIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchAReferenceIdeal (m : (ℓ : Loc Cert.BranchAReferenceIdeal.nD Cert.BranchAReferenceIdeal.τ Cert.BranchAReferenceIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBReferenceIdeal (m : (ℓ : Loc Cert.BranchBReferenceIdeal.nD Cert.BranchBReferenceIdeal.τ Cert.BranchBReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_BranchADgrad (m : (ℓ : Loc Cert.BranchADgrad.nD Cert.BranchADgrad.τ Cert.BranchADgrad.sig) → Buf (Elt Bits) ℓ) : Prop :=
  True

def Pre_BranchADgradIdeal (m : (ℓ : Loc Cert.BranchADgradIdeal.nD Cert.BranchADgradIdeal.τ Cert.BranchADgradIdeal.sig) → Buf (Elt Ideal) ℓ) : Prop :=
  True

def Pre_BranchADgradReferenceIdeal (m : (ℓ : Loc Cert.BranchADgradReferenceIdeal.nD Cert.BranchADgradReferenceIdeal.τ Cert.BranchADgradReferenceIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradReferenceIdeal (m : (ℓ : Loc Cert.OutDgradReferenceIdeal.nD Cert.OutDgradReferenceIdeal.τ Cert.OutDgradReferenceIdeal.sig) → Buf (Elt Ideal) ℓ) : Prop :=
  True

def Pre_InZWgrad (m : (ℓ : Loc Cert.InZWgrad.nD Cert.InZWgrad.τ Cert.InZWgrad.sig) → Buf (Elt Bits) ℓ) : Prop :=
  True

def Pre_InZWgradIdeal (m : (ℓ : Loc Cert.InZWgradIdeal.nD Cert.InZWgradIdeal.τ Cert.InZWgradIdeal.sig) → Buf (Elt Ideal) ℓ) : Prop :=
  True

def Pre_InZWgradReferenceIdeal (m : (ℓ : Loc Cert.InZWgradReferenceIdeal.nD Cert.InZWgradReferenceIdeal.τ Cert.InZWgradReferenceIdeal.sig) → Buf (Elt Ideal) ℓ) : Prop :=
  True

def Pre_InXbcWgrad (m : (ℓ : Loc Cert.InXbcWgrad.nD Cert.InXbcWgrad.τ Cert.InXbcWgrad.sig) → Buf (Elt Bits) ℓ) : Prop :=
  True

def Pre_InXbcWgradIdeal (m : (ℓ : Loc Cert.InXbcWgradIdeal.nD Cert.InXbcWgradIdeal.τ Cert.InXbcWgradIdeal.sig) → Buf (Elt Ideal) ℓ) : Prop :=
  True

def Pre_InXbcWgradReferenceIdeal (m : (ℓ : Loc Cert.InXbcWgradReferenceIdeal.nD Cert.InXbcWgradReferenceIdeal.τ Cert.InXbcWgradReferenceIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradReferenceIdeal (m : (ℓ : Loc Cert.OutWgradReferenceIdeal.nD Cert.OutWgradReferenceIdeal.τ Cert.OutWgradReferenceIdeal.sig) → Buf (Elt Ideal) ℓ) : Prop :=
  True

def Pre_UpWgradA (m : (ℓ : Loc Cert.UpWgradA.nD Cert.UpWgradA.τ Cert.UpWgradA.sig) → Buf (Elt Bits) ℓ) : Prop :=
  True

def Pre_UpWgradAIdeal (m : (ℓ : Loc Cert.UpWgradAIdeal.nD Cert.UpWgradAIdeal.τ Cert.UpWgradAIdeal.sig) → Buf (Elt Ideal) ℓ) : Prop :=
  True

def Pre_UpWgradAReferenceIdeal (m : (ℓ : Loc Cert.UpWgradAReferenceIdeal.nD Cert.UpWgradAReferenceIdeal.τ Cert.UpWgradAReferenceIdeal.sig) → Buf (Elt Ideal) ℓ) : Prop :=
  True

def Pre_UpWgradV (m : (ℓ : Loc Cert.UpWgradV.nD Cert.UpWgradV.τ Cert.UpWgradV.sig) → Buf (Elt Bits) ℓ) : Prop :=
  True

def Pre_UpWgradVIdeal (m : (ℓ : Loc Cert.UpWgradVIdeal.nD Cert.UpWgradVIdeal.τ Cert.UpWgradVIdeal.sig) → Buf (Elt Ideal) ℓ) : Prop :=
  True

def Pre_UpWgradVReferenceIdeal (m : (ℓ : Loc Cert.UpWgradVReferenceIdeal.nD Cert.UpWgradVReferenceIdeal.τ Cert.UpWgradVReferenceIdeal.sig) → Buf (Elt Ideal) ℓ) : Prop :=
  True

def Pre_BranchAWgrad (m : (ℓ : Loc Cert.BranchAWgrad.nD Cert.BranchAWgrad.τ Cert.BranchAWgrad.sig) → Buf (Elt Bits) ℓ) : Prop :=
  True

def Pre_BranchAWgradIdeal (m : (ℓ : Loc Cert.BranchAWgradIdeal.nD Cert.BranchAWgradIdeal.τ Cert.BranchAWgradIdeal.sig) → Buf (Elt Ideal) ℓ) : Prop :=
  True

def Pre_BranchAWgradReferenceIdeal (m : (ℓ : Loc Cert.BranchAWgradReferenceIdeal.nD Cert.BranchAWgradReferenceIdeal.τ Cert.BranchAWgradReferenceIdeal.sig) → Buf (Elt Ideal) ℓ) : Prop :=
  True

def Pre_BranchBWgrad (m : (ℓ : Loc Cert.BranchBWgrad.nD Cert.BranchBWgrad.τ Cert.BranchBWgrad.sig) → Buf (Elt Bits) ℓ) : Prop :=
  True

def Pre_BranchBWgradIdeal (m : (ℓ : Loc Cert.BranchBWgradIdeal.nD Cert.BranchBWgradIdeal.τ Cert.BranchBWgradIdeal.sig) → Buf (Elt Ideal) ℓ) : Prop :=
  True

def Pre_BranchBWgradReferenceIdeal (m : (ℓ : Loc Cert.BranchBWgradReferenceIdeal.nD Cert.BranchBWgradReferenceIdeal.τ Cert.BranchBWgradReferenceIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtReferenceIdeal (m : (ℓ : Loc Cert.InDtReferenceIdeal.nD Cert.InDtReferenceIdeal.τ Cert.InDtReferenceIdeal.sig) → Buf (Elt Ideal) ℓ) : Prop :=
  True

def Pre_InDtWgrad (m : (ℓ : Loc Cert.InDtWgrad.nD Cert.InDtWgrad.τ Cert.InDtWgrad.sig) → Buf (Elt Bits) ℓ) : Prop :=
  True

def Pre_InDtWgradIdeal (m : (ℓ : Loc Cert.InDtWgradIdeal.nD Cert.InDtWgradIdeal.τ Cert.InDtWgradIdeal.sig) → Buf (Elt Ideal) ℓ) : Prop :=
  True

def Pre_InDtWgradReferenceIdeal (m : (ℓ : Loc Cert.InDtWgradReferenceIdeal.nD Cert.InDtWgradReferenceIdeal.τ Cert.InDtWgradReferenceIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdReferenceIdeal (m : (ℓ : Loc Cert.GateBwdReferenceIdeal.nD Cert.GateBwdReferenceIdeal.τ Cert.GateBwdReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdReferenceIdeal (m : (ℓ : Loc Cert.RmsFwdReferenceIdeal.nD Cert.RmsFwdReferenceIdeal.τ Cert.RmsFwdReferenceIdeal.sig) → Buf (Elt Ideal) ℓ) : Prop :=
  True

def Pre_AdamwDown (m : (ℓ : Loc Cert.AdamwDown.nD Cert.AdamwDown.τ Cert.AdamwDown.sig) → Buf (Elt Bits) ℓ) : Prop :=
  True

def Pre_AdamwDownIdeal (m : (ℓ : Loc Cert.AdamwDownIdeal.nD Cert.AdamwDownIdeal.τ Cert.AdamwDownIdeal.sig) → Buf (Elt Ideal) ℓ) : Prop :=
  True

def Pre_AdamwDownReferenceIdeal (m : (ℓ : Loc Cert.AdamwDownReferenceIdeal.nD Cert.AdamwDownReferenceIdeal.τ Cert.AdamwDownReferenceIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutReferenceIdeal (m : (ℓ : Loc Cert.AdamwOutReferenceIdeal.nD Cert.AdamwOutReferenceIdeal.τ Cert.AdamwOutReferenceIdeal.sig) → Buf (Elt Ideal) ℓ) : Prop :=
  True

def Pre_AdamwBranch (m : (ℓ : Loc Cert.AdamwBranch.nD Cert.AdamwBranch.τ Cert.AdamwBranch.sig) → Buf (Elt Bits) ℓ) : Prop :=
  True

def Pre_AdamwBranchIdeal (m : (ℓ : Loc Cert.AdamwBranchIdeal.nD Cert.AdamwBranchIdeal.τ Cert.AdamwBranchIdeal.sig) → Buf (Elt Ideal) ℓ) : Prop :=
  True

def Pre_AdamwBranchReferenceIdeal (m : (ℓ : Loc Cert.AdamwBranchReferenceIdeal.nD Cert.AdamwBranchReferenceIdeal.τ Cert.AdamwBranchReferenceIdeal.sig) → Buf (Elt Ideal) ℓ) : Prop :=
  True

def Pre_AdamwUp (m : (ℓ : Loc Cert.AdamwUp.nD Cert.AdamwUp.τ Cert.AdamwUp.sig) → Buf (Elt Bits) ℓ) : Prop :=
  True

def Pre_AdamwUpIdeal (m : (ℓ : Loc Cert.AdamwUpIdeal.nD Cert.AdamwUpIdeal.τ Cert.AdamwUpIdeal.sig) → Buf (Elt Ideal) ℓ) : Prop :=
  True

def Pre_AdamwUpReferenceIdeal (m : (ℓ : Loc Cert.AdamwUpReferenceIdeal.nD Cert.AdamwUpReferenceIdeal.τ Cert.AdamwUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1)
      ∧ r.2.mem ((c.tc : Thread Cert.InDgrad.nD Cert.InDgrad.τ).loc Cert.InDgrad.main_arg2) = m ((c.tc : Thread Cert.InDgrad.nD Cert.InDgrad.τ).loc Cert.InDgrad.main_arg2)
      ∧ r.2.mem ((c.tc : Thread Cert.InDgrad.nD Cert.InDgrad.τ).loc Cert.InDgrad.main_arg3) = m ((c.tc : Thread Cert.InDgrad.nD Cert.InDgrad.τ).loc Cert.InDgrad.main_arg3)
      ∧ r.2.mem ((c.tc : Thread Cert.InDgrad.nD Cert.InDgrad.τ).loc Cert.InDgrad.main_arg4) = m ((c.tc : Thread Cert.InDgrad.nD Cert.InDgrad.τ).loc Cert.InDgrad.main_arg4)
      ∧ r.2.mem ((c.tc : Thread Cert.InDgrad.nD Cert.InDgrad.τ).loc Cert.InDgrad.main_arg5) = m ((c.tc : Thread Cert.InDgrad.nD Cert.InDgrad.τ).loc Cert.InDgrad.main_arg5)
      ∧ r.2.mem ((c.tc : Thread Cert.InDgrad.nD Cert.InDgrad.τ).loc Cert.InDgrad.main_arg6) = m ((c.tc : Thread Cert.InDgrad.nD Cert.InDgrad.τ).loc Cert.InDgrad.main_arg6))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
      ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
      ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4)
      ∧ r.2.mem ((c.tc : Thread Cert.InDgradIdeal.nD Cert.InDgradIdeal.τ).loc Cert.InDgradIdeal.main_arg5) = m ((c.tc : Thread Cert.InDgradIdeal.nD Cert.InDgradIdeal.τ).loc Cert.InDgradIdeal.main_arg5)
      ∧ r.2.mem ((c.tc : Thread Cert.InDgradIdeal.nD Cert.InDgradIdeal.τ).loc Cert.InDgradIdeal.main_arg6) = m ((c.tc : Thread Cert.InDgradIdeal.nD Cert.InDgradIdeal.τ).loc Cert.InDgradIdeal.main_arg6))
      ∧ r.2.sem = fun _ => 0)

def quiescent_InDgradReferenceIdeal [hInDgradReferenceIdeal : Cert.InDgradReferenceIdeal.Facts] : Prop :=
  ∀ (m : (ℓ : Loc Cert.InDgradReferenceIdeal.nD Cert.InDgradReferenceIdeal.τ Cert.InDgradReferenceIdeal.sig) → Buf (Elt Ideal) ℓ) (g : Dev Cert.InDgradReferenceIdeal.nD → PrngReg), Pre_InDgradReferenceIdeal m →
    θ_run (Cert.InDgradReferenceIdeal.defs (F := Ideal)) (onTc (τ := Cert.InDgradReferenceIdeal.τ) (Cert.InDgradReferenceIdeal.main (F := Ideal))) ⟨m, fun _ => 0, g⟩ (fun r => (∀ c : Dev Cert.InDgradReferenceIdeal.nD,
      r.2.mem ((c.tc : Thread Cert.InDgradReferenceIdeal.nD Cert.InDgradReferenceIdeal.τ).loc Cert.InDgradReferenceIdeal.main_arg0) = m ((c.tc : Thread Cert.InDgradReferenceIdeal.nD Cert.InDgradReferenceIdeal.τ).loc Cert.InDgradReferenceIdeal.main_arg0)
      ∧ r.2.mem ((c.tc : Thread Cert.InDgradReferenceIdeal.nD Cert.InDgradReferenceIdeal.τ).loc Cert.InDgradReferenceIdeal.main_arg1) = m ((c.tc : Thread Cert.InDgradReferenceIdeal.nD Cert.InDgradReferenceIdeal.τ).loc Cert.InDgradReferenceIdeal.main_arg1)
      ∧ r.2.mem ((c.tc : Thread Cert.InDgradReferenceIdeal.nD Cert.InDgradReferenceIdeal.τ).loc Cert.InDgradReferenceIdeal.main_arg2) = m ((c.tc : Thread Cert.InDgradReferenceIdeal.nD Cert.InDgradReferenceIdeal.τ).loc Cert.InDgradReferenceIdeal.main_arg2)
      ∧ r.2.mem ((c.tc : Thread Cert.InDgradReferenceIdeal.nD Cert.InDgradReferenceIdeal.τ).loc Cert.InDgradReferenceIdeal.main_arg3) = m ((c.tc : Thread Cert.InDgradReferenceIdeal.nD Cert.InDgradReferenceIdeal.τ).loc Cert.InDgradReferenceIdeal.main_arg3)
      ∧ r.2.mem ((c.tc : Thread Cert.InDgradReferenceIdeal.nD Cert.InDgradReferenceIdeal.τ).loc Cert.InDgradReferenceIdeal.main_arg4) = m ((c.tc : Thread Cert.InDgradReferenceIdeal.nD Cert.InDgradReferenceIdeal.τ).loc Cert.InDgradReferenceIdeal.main_arg4)
      ∧ r.2.mem ((c.tc : Thread Cert.InDgradReferenceIdeal.nD Cert.InDgradReferenceIdeal.τ).loc Cert.InDgradReferenceIdeal.main_arg5) = m ((c.tc : Thread Cert.InDgradReferenceIdeal.nD Cert.InDgradReferenceIdeal.τ).loc Cert.InDgradReferenceIdeal.main_arg5)
      ∧ r.2.mem ((c.tc : Thread Cert.InDgradReferenceIdeal.nD Cert.InDgradReferenceIdeal.τ).loc Cert.InDgradReferenceIdeal.main_arg6) = m ((c.tc : Thread Cert.InDgradReferenceIdeal.nD Cert.InDgradReferenceIdeal.τ).loc Cert.InDgradReferenceIdeal.main_arg6))
      ∧ r.2.sem = fun _ => 0)

def quiescent_UpDgrad [hUpDgrad : Cert.UpDgrad.Facts] : Prop :=
  ∀ (m : (ℓ : Loc Cert.UpDgrad.nD Cert.UpDgrad.τ Cert.UpDgrad.sig) → Buf (Elt Bits) ℓ) (g : Dev Cert.UpDgrad.nD → PrngReg), Pre_UpDgrad m →
    θ_run (Cert.UpDgrad.defs (F := Bits)) (onTc (τ := Cert.UpDgrad.τ) (Cert.UpDgrad.main (F := Bits))) ⟨m, fun _ => 0, g⟩ (fun r => (∀ c : Dev Cert.UpDgrad.nD,
      r.2.mem ((c.tc : Thread Cert.UpDgrad.nD Cert.UpDgrad.τ).loc Cert.UpDgrad.main_arg0) = m ((c.tc : Thread Cert.UpDgrad.nD Cert.UpDgrad.τ).loc Cert.UpDgrad.main_arg0)
      ∧ r.2.mem ((c.tc : Thread Cert.UpDgrad.nD Cert.UpDgrad.τ).loc Cert.UpDgrad.main_arg1) = m ((c.tc : Thread Cert.UpDgrad.nD Cert.UpDgrad.τ).loc Cert.UpDgrad.main_arg1)
      ∧ r.2.mem ((c.tc : Thread Cert.UpDgrad.nD Cert.UpDgrad.τ).loc Cert.UpDgrad.main_arg2) = m ((c.tc : Thread Cert.UpDgrad.nD Cert.UpDgrad.τ).loc Cert.UpDgrad.main_arg2))
      ∧ r.2.sem = fun _ => 0)

def quiescent_UpDgradIdeal [hUpDgradIdeal : Cert.UpDgradIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg), Pre_UpDgradIdeal m →
    θ_run (Cert.UpDgradIdeal.defs (F := Ideal)) (onTc (τ := Cert.UpDgradIdeal.τ) (Cert.UpDgradIdeal.main (F := Ideal))) ⟨m, fun _ => 0, g⟩ (fun r => (∀ c : Dev Cert.UpDgradIdeal.nD,
      r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
      ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
      ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ r.2.sem = fun _ => 0)

def quiescent_UpDgradReferenceIdeal [hUpDgradReferenceIdeal : Cert.UpDgradReferenceIdeal.Facts] : Prop :=
  ∀ (m : (ℓ : Loc Cert.UpDgradReferenceIdeal.nD Cert.UpDgradReferenceIdeal.τ Cert.UpDgradReferenceIdeal.sig) → Buf (Elt Ideal) ℓ) (g : Dev Cert.UpDgradReferenceIdeal.nD → PrngReg), Pre_UpDgradReferenceIdeal m →
    θ_run (Cert.UpDgradReferenceIdeal.defs (F := Ideal)) (onTc (τ := Cert.UpDgradReferenceIdeal.τ) (Cert.UpDgradReferenceIdeal.main (F := Ideal))) ⟨m, fun _ => 0, g⟩ (fun r => (∀ c : Dev Cert.UpDgradReferenceIdeal.nD,
      r.2.mem ((c.tc : Thread Cert.UpDgradReferenceIdeal.nD Cert.UpDgradReferenceIdeal.τ).loc Cert.UpDgradReferenceIdeal.main_arg0) = m ((c.tc : Thread Cert.UpDgradReferenceIdeal.nD Cert.UpDgradReferenceIdeal.τ).loc Cert.UpDgradReferenceIdeal.main_arg0)
      ∧ r.2.mem ((c.tc : Thread Cert.UpDgradReferenceIdeal.nD Cert.UpDgradReferenceIdeal.τ).loc Cert.UpDgradReferenceIdeal.main_arg1) = m ((c.tc : Thread Cert.UpDgradReferenceIdeal.nD Cert.UpDgradReferenceIdeal.τ).loc Cert.UpDgradReferenceIdeal.main_arg1)
      ∧ r.2.mem ((c.tc : Thread Cert.UpDgradReferenceIdeal.nD Cert.UpDgradReferenceIdeal.τ).loc Cert.UpDgradReferenceIdeal.main_arg2) = m ((c.tc : Thread Cert.UpDgradReferenceIdeal.nD Cert.UpDgradReferenceIdeal.τ).loc Cert.UpDgradReferenceIdeal.main_arg2))
      ∧ r.2.sem = fun _ => 0)

def quiescent_DownDgrad [hDownDgrad : Cert.DownDgrad.Facts] : Prop :=
  ∀ (m : (ℓ : Loc Cert.DownDgrad.nD Cert.DownDgrad.τ Cert.DownDgrad.sig) → Buf (Elt Bits) ℓ) (g : Dev Cert.DownDgrad.nD → PrngReg), Pre_DownDgrad m →
    θ_run (Cert.DownDgrad.defs (F := Bits)) (onTc (τ := Cert.DownDgrad.τ) (Cert.DownDgrad.main (F := Bits))) ⟨m, fun _ => 0, g⟩ (fun r => (∀ c : Dev Cert.DownDgrad.nD,
      r.2.mem ((c.tc : Thread Cert.DownDgrad.nD Cert.DownDgrad.τ).loc Cert.DownDgrad.main_arg0) = m ((c.tc : Thread Cert.DownDgrad.nD Cert.DownDgrad.τ).loc Cert.DownDgrad.main_arg0)
      ∧ r.2.mem ((c.tc : Thread Cert.DownDgrad.nD Cert.DownDgrad.τ).loc Cert.DownDgrad.main_arg1) = m ((c.tc : Thread Cert.DownDgrad.nD Cert.DownDgrad.τ).loc Cert.DownDgrad.main_arg1))
      ∧ r.2.sem = fun _ => 0)

def quiescent_DownDgradIdeal [hDownDgradIdeal : Cert.DownDgradIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg), Pre_DownDgradIdeal m →
    θ_run (Cert.DownDgradIdeal.defs (F := Ideal)) (onTc (τ := Cert.DownDgradIdeal.τ) (Cert.DownDgradIdeal.main (F := Ideal))) ⟨m, fun _ => 0, g⟩ (fun r => (∀ c : Dev Cert.DownDgradIdeal.nD,
      r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
      ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ r.2.sem = fun _ => 0)

def quiescent_DownDgradReferenceIdeal [hDownDgradReferenceIdeal : Cert.DownDgradReferenceIdeal.Facts] : Prop :=
  ∀ (m : (ℓ : Loc Cert.DownDgradReferenceIdeal.nD Cert.DownDgradReferenceIdeal.τ Cert.DownDgradReferenceIdeal.sig) → Buf (Elt Ideal) ℓ) (g : Dev Cert.DownDgradReferenceIdeal.nD → PrngReg), Pre_DownDgradReferenceIdeal m →
    θ_run (Cert.DownDgradReferenceIdeal.defs (F := Ideal)) (onTc (τ := Cert.DownDgradReferenceIdeal.τ) (Cert.DownDgradReferenceIdeal.main (F := Ideal))) ⟨m, fun _ => 0, g⟩ (fun r => (∀ c : Dev Cert.DownDgradReferenceIdeal.nD,
      r.2.mem ((c.tc : Thread Cert.DownDgradReferenceIdeal.nD Cert.DownDgradReferenceIdeal.τ).loc Cert.DownDgradReferenceIdeal.main_arg0) = m ((c.tc : Thread Cert.DownDgradReferenceIdeal.nD Cert.DownDgradReferenceIdeal.τ).loc Cert.DownDgradReferenceIdeal.main_arg0)
      ∧ r.2.mem ((c.tc : Thread Cert.DownDgradReferenceIdeal.nD Cert.DownDgradReferenceIdeal.τ).loc Cert.DownDgradReferenceIdeal.main_arg1) = m ((c.tc : Thread Cert.DownDgradReferenceIdeal.nD Cert.DownDgradReferenceIdeal.τ).loc Cert.DownDgradReferenceIdeal.main_arg1))
      ∧ r.2.sem = fun _ => 0)

def quiescent_DownWgrad [hDownWgrad : Cert.DownWgrad.Facts] : Prop :=
  ∀ (m : (ℓ : Loc Cert.DownWgrad.nD Cert.DownWgrad.τ Cert.DownWgrad.sig) → Buf (Elt Bits) ℓ) (g : Dev Cert.DownWgrad.nD → PrngReg), Pre_DownWgrad m →
    θ_run (Cert.DownWgrad.defs (F := Bits)) (onTc (τ := Cert.DownWgrad.τ) (Cert.DownWgrad.main (F := Bits))) ⟨m, fun _ => 0, g⟩ (fun r => (∀ c : Dev Cert.DownWgrad.nD,
      r.2.mem ((c.tc : Thread Cert.DownWgrad.nD Cert.DownWgrad.τ).loc Cert.DownWgrad.main_arg0) = m ((c.tc : Thread Cert.DownWgrad.nD Cert.DownWgrad.τ).loc Cert.DownWgrad.main_arg0)
      ∧ r.2.mem ((c.tc : Thread Cert.DownWgrad.nD Cert.DownWgrad.τ).loc Cert.DownWgrad.main_arg1) = m ((c.tc : Thread Cert.DownWgrad.nD Cert.DownWgrad.τ).loc Cert.DownWgrad.main_arg1))
      ∧ r.2.sem = fun _ => 0)

def quiescent_DownWgradIdeal [hDownWgradIdeal : Cert.DownWgradIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg), Pre_DownWgradIdeal m →
    θ_run (Cert.DownWgradIdeal.defs (F := Ideal)) (onTc (τ := Cert.DownWgradIdeal.τ) (Cert.DownWgradIdeal.main (F := Ideal))) ⟨m, fun _ => 0, g⟩ (fun r => (∀ c : Dev Cert.DownWgradIdeal.nD,
      r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
      ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ r.2.sem = fun _ => 0)

def quiescent_DownWgradReferenceIdeal [hDownWgradReferenceIdeal : Cert.DownWgradReferenceIdeal.Facts] : Prop :=
  ∀ (m : (ℓ : Loc Cert.DownWgradReferenceIdeal.nD Cert.DownWgradReferenceIdeal.τ Cert.DownWgradReferenceIdeal.sig) → Buf (Elt Ideal) ℓ) (g : Dev Cert.DownWgradReferenceIdeal.nD → PrngReg), Pre_DownWgradReferenceIdeal m →
    θ_run (Cert.DownWgradReferenceIdeal.defs (F := Ideal)) (onTc (τ := Cert.DownWgradReferenceIdeal.τ) (Cert.DownWgradReferenceIdeal.main (F := Ideal))) ⟨m, fun _ => 0, g⟩ (fun r => (∀ c : Dev Cert.DownWgradReferenceIdeal.nD,
      r.2.mem ((c.tc : Thread Cert.DownWgradReferenceIdeal.nD Cert.DownWgradReferenceIdeal.τ).loc Cert.DownWgradReferenceIdeal.main_arg0) = m ((c.tc : Thread Cert.DownWgradReferenceIdeal.nD Cert.DownWgradReferenceIdeal.τ).loc Cert.DownWgradReferenceIdeal.main_arg0)
      ∧ r.2.mem ((c.tc : Thread Cert.DownWgradReferenceIdeal.nD Cert.DownWgradReferenceIdeal.τ).loc Cert.DownWgradReferenceIdeal.main_arg1) = m ((c.tc : Thread Cert.DownWgradReferenceIdeal.nD Cert.DownWgradReferenceIdeal.τ).loc Cert.DownWgradReferenceIdeal.main_arg1))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1))
      ∧ r.2.sem = fun _ => 0)

def quiescent_DownProj [hDownProj : Cert.DownProj.Facts] : Prop :=
  ∀ (m : (ℓ : Loc Cert.DownProj.nD Cert.DownProj.τ Cert.DownProj.sig) → Buf (Elt Bits) ℓ) (g : Dev Cert.DownProj.nD → PrngReg), Pre_DownProj m →
    θ_run (Cert.DownProj.defs (F := Bits)) (onTc (τ := Cert.DownProj.τ) (Cert.DownProj.main (F := Bits))) ⟨m, fun _ => 0, g⟩ (fun r => (∀ c : Dev Cert.DownProj.nD,
      r.2.mem ((c.tc : Thread Cert.DownProj.nD Cert.DownProj.τ).loc Cert.DownProj.main_arg0) = m ((c.tc : Thread Cert.DownProj.nD Cert.DownProj.τ).loc Cert.DownProj.main_arg0)
      ∧ r.2.mem ((c.tc : Thread Cert.DownProj.nD Cert.DownProj.τ).loc Cert.DownProj.main_arg1) = m ((c.tc : Thread Cert.DownProj.nD Cert.DownProj.τ).loc Cert.DownProj.main_arg1)
      ∧ r.2.mem ((c.tc : Thread Cert.DownProj.nD Cert.DownProj.τ).loc Cert.DownProj.main_arg2) = m ((c.tc : Thread Cert.DownProj.nD Cert.DownProj.τ).loc Cert.DownProj.main_arg2))
      ∧ r.2.sem = fun _ => 0)

def quiescent_DownProjIdeal [hDownProjIdeal : Cert.DownProjIdeal.Facts] : Prop :=
  ∀ (m : (ℓ : Loc Cert.DownProjIdeal.nD Cert.DownProjIdeal.τ Cert.DownProjIdeal.sig) → Buf (Elt Ideal) ℓ) (g : Dev Cert.DownProjIdeal.nD → PrngReg), Pre_DownProjIdeal m →
    θ_run (Cert.DownProjIdeal.defs (F := Ideal)) (onTc (τ := Cert.DownProjIdeal.τ) (Cert.DownProjIdeal.main (F := Ideal))) ⟨m, fun _ => 0, g⟩ (fun r => (∀ c : Dev Cert.DownProjIdeal.nD,
      r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
      ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
      ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ r.2.sem = fun _ => 0)

def quiescent_DownProjReferenceIdeal [hDownProjReferenceIdeal : Cert.DownProjReferenceIdeal.Facts] : Prop :=
  ∀ (m : (ℓ : Loc Cert.DownProjReferenceIdeal.nD Cert.DownProjReferenceIdeal.τ Cert.DownProjReferenceIdeal.sig) → Buf (Elt Ideal) ℓ) (g : Dev Cert.DownProjReferenceIdeal.nD → PrngReg), Pre_DownProjReferenceIdeal m →
    θ_run (Cert.DownProjReferenceIdeal.defs (F := Ideal)) (onTc (τ := Cert.DownProjReferenceIdeal.τ) (Cert.DownProjReferenceIdeal.main (F := Ideal))) ⟨m, fun _ => 0, g⟩ (fun r => (∀ c : Dev Cert.DownProjReferenceIdeal.nD,
      r.2.mem ((c.tc : Thread Cert.DownProjReferenceIdeal.nD Cert.DownProjReferenceIdeal.τ).loc Cert.DownProjReferenceIdeal.main_arg0) = m ((c.tc : Thread Cert.DownProjReferenceIdeal.nD Cert.DownProjReferenceIdeal.τ).loc Cert.DownProjReferenceIdeal.main_arg0)
      ∧ r.2.mem ((c.tc : Thread Cert.DownProjReferenceIdeal.nD Cert.DownProjReferenceIdeal.τ).loc Cert.DownProjReferenceIdeal.main_arg1) = m ((c.tc : Thread Cert.DownProjReferenceIdeal.nD Cert.DownProjReferenceIdeal.τ).loc Cert.DownProjReferenceIdeal.main_arg1)
      ∧ r.2.mem ((c.tc : Thread Cert.DownProjReferenceIdeal.nD Cert.DownProjReferenceIdeal.τ).loc Cert.DownProjReferenceIdeal.main_arg2) = m ((c.tc : Thread Cert.DownProjReferenceIdeal.nD Cert.DownProjReferenceIdeal.τ).loc Cert.DownProjReferenceIdeal.main_arg2))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcReferenceIdeal [hInXbcReferenceIdeal : Cert.InXbcReferenceIdeal.Facts] : Prop :=
  ∀ (m : (ℓ : Loc Cert.InXbcReferenceIdeal.nD Cert.InXbcReferenceIdeal.τ Cert.InXbcReferenceIdeal.sig) → Buf (Elt Ideal) ℓ) (g : Dev Cert.InXbcReferenceIdeal.nD → PrngReg), Pre_InXbcReferenceIdeal m →
    θ_run (Cert.InXbcReferenceIdeal.defs (F := Ideal)) (onTc (τ := Cert.InXbcReferenceIdeal.τ) (Cert.InXbcReferenceIdeal.main (F := Ideal))) ⟨m, fun _ => 0, g⟩ (fun r => (∀ c : Dev Cert.InXbcReferenceIdeal.nD,
      r.2.mem ((c.tc : Thread Cert.InXbcReferenceIdeal.nD Cert.InXbcReferenceIdeal.τ).loc Cert.InXbcReferenceIdeal.main_arg0) = m ((c.tc : Thread Cert.InXbcReferenceIdeal.nD Cert.InXbcReferenceIdeal.τ).loc Cert.InXbcReferenceIdeal.main_arg0)
      ∧ r.2.mem ((c.tc : Thread Cert.InXbcReferenceIdeal.nD Cert.InXbcReferenceIdeal.τ).loc Cert.InXbcReferenceIdeal.main_arg1) = m ((c.tc : Thread Cert.InXbcReferenceIdeal.nD Cert.InXbcReferenceIdeal.τ).loc Cert.InXbcReferenceIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZReferenceIdeal [hInZReferenceIdeal : Cert.InZReferenceIdeal.Facts] : Prop :=
  ∀ (m : (ℓ : Loc Cert.InZReferenceIdeal.nD Cert.InZReferenceIdeal.τ Cert.InZReferenceIdeal.sig) → Buf (Elt Ideal) ℓ) (g : Dev Cert.InZReferenceIdeal.nD → PrngReg), Pre_InZReferenceIdeal m →
    θ_run (Cert.InZReferenceIdeal.defs (F := Ideal)) (onTc (τ := Cert.InZReferenceIdeal.τ) (Cert.InZReferenceIdeal.main (F := Ideal))) ⟨m, fun _ => 0, g⟩ (fun r => (∀ c : Dev Cert.InZReferenceIdeal.nD,
      r.2.mem ((c.tc : Thread Cert.InZReferenceIdeal.nD Cert.InZReferenceIdeal.τ).loc Cert.InZReferenceIdeal.main_arg0) = m ((c.tc : Thread Cert.InZReferenceIdeal.nD Cert.InZReferenceIdeal.τ).loc Cert.InZReferenceIdeal.main_arg0)
      ∧ r.2.mem ((c.tc : Thread Cert.InZReferenceIdeal.nD Cert.InZReferenceIdeal.τ).loc Cert.InZReferenceIdeal.main_arg1) = m ((c.tc : Thread Cert.InZReferenceIdeal.nD Cert.InZReferenceIdeal.τ).loc Cert.InZReferenceIdeal.main_arg1))
      ∧ r.2.sem = fun _ => 0)

def quiescent_InUv [hInUv : Cert.InUv.Facts] : Prop :=
  ∀ (m : (ℓ : Loc Cert.InUv.nD Cert.InUv.τ Cert.InUv.sig) → Buf (Elt Bits) ℓ) (g : Dev Cert.InUv.nD → PrngReg), Pre_InUv m →
    θ_run (Cert.InUv.defs (F := Bits)) (onTc (τ := Cert.InUv.τ) (Cert.InUv.main (F := Bits))) ⟨m, fun _ => 0, g⟩ (fun r => (∀ c : Dev Cert.InUv.nD,
      r.2.mem ((c.tc : Thread Cert.InUv.nD Cert.InUv.τ).loc Cert.InUv.main_arg0) = m ((c.tc : Thread Cert.InUv.nD Cert.InUv.τ).loc Cert.InUv.main_arg0)
      ∧ r.2.mem ((c.tc : Thread Cert.InUv.nD Cert.InUv.τ).loc Cert.InUv.main_arg1) = m ((c.tc : Thread Cert.InUv.nD Cert.InUv.τ).loc Cert.InUv.main_arg1))
      ∧ r.2.sem = fun _ => 0)

def quiescent_InUvIdeal [hInUvIdeal : Cert.InUvIdeal.Facts] : Prop :=
  ∀ (m : (ℓ : Loc Cert.InUvIdeal.nD Cert.InUvIdeal.τ Cert.InUvIdeal.sig) → Buf (Elt Ideal) ℓ) (g : Dev Cert.InUvIdeal.nD → PrngReg), Pre_InUvIdeal m →
    θ_run (Cert.InUvIdeal.defs (F := Ideal)) (onTc (τ := Cert.InUvIdeal.τ) (Cert.InUvIdeal.main (F := Ideal))) ⟨m, fun _ => 0, g⟩ (fun r => (∀ c : Dev Cert.InUvIdeal.nD,
      r.2.mem ((c.tc : Thread Cert.InUvIdeal.nD Cert.InUvIdeal.τ).loc Cert.InUvIdeal.main_arg0) = m ((c.tc : Thread Cert.InUvIdeal.nD Cert.InUvIdeal.τ).loc Cert.InUvIdeal.main_arg0)
      ∧ r.2.mem ((c.tc : Thread Cert.InUvIdeal.nD Cert.InUvIdeal.τ).loc Cert.InUvIdeal.main_arg1) = m ((c.tc : Thread Cert.InUvIdeal.nD Cert.InUvIdeal.τ).loc Cert.InUvIdeal.main_arg1))
      ∧ r.2.sem = fun _ => 0)

def quiescent_InUvReferenceIdeal [hInUvReferenceIdeal : Cert.InUvReferenceIdeal.Facts] : Prop :=
  ∀ (m : (ℓ : Loc Cert.InUvReferenceIdeal.nD Cert.InUvReferenceIdeal.τ Cert.InUvReferenceIdeal.sig) → Buf (Elt Ideal) ℓ) (g : Dev Cert.InUvReferenceIdeal.nD → PrngReg), Pre_InUvReferenceIdeal m →
    θ_run (Cert.InUvReferenceIdeal.defs (F := Ideal)) (onTc (τ := Cert.InUvReferenceIdeal.τ) (Cert.InUvReferenceIdeal.main (F := Ideal))) ⟨m, fun _ => 0, g⟩ (fun r => (∀ c : Dev Cert.InUvReferenceIdeal.nD,
      r.2.mem ((c.tc : Thread Cert.InUvReferenceIdeal.nD Cert.InUvReferenceIdeal.τ).loc Cert.InUvReferenceIdeal.main_arg0) = m ((c.tc : Thread Cert.InUvReferenceIdeal.nD Cert.InUvReferenceIdeal.τ).loc Cert.InUvReferenceIdeal.main_arg0)
      ∧ r.2.mem ((c.tc : Thread Cert.InUvReferenceIdeal.nD Cert.InUvReferenceIdeal.τ).loc Cert.InUvReferenceIdeal.main_arg1) = m ((c.tc : Thread Cert.InUvReferenceIdeal.nD Cert.InUvReferenceIdeal.τ).loc Cert.InUvReferenceIdeal.main_arg1))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ r.2.sem = fun _ => 0)

def quiescent_BranchAReferenceIdeal [hBranchAReferenceIdeal : Cert.BranchAReferenceIdeal.Facts] : Prop :=
  ∀ (m : (ℓ : Loc Cert.BranchAReferenceIdeal.nD Cert.BranchAReferenceIdeal.τ Cert.BranchAReferenceIdeal.sig) → Buf (Elt Ideal) ℓ) (g : Dev Cert.BranchAReferenceIdeal.nD → PrngReg), Pre_BranchAReferenceIdeal m →
    θ_run (Cert.BranchAReferenceIdeal.defs (F := Ideal)) (onTc (τ := Cert.BranchAReferenceIdeal.τ) (Cert.BranchAReferenceIdeal.main (F := Ideal))) ⟨m, fun _ => 0, g⟩ (fun r => (∀ c : Dev Cert.BranchAReferenceIdeal.nD,
      r.2.mem ((c.tc : Thread Cert.BranchAReferenceIdeal.nD Cert.BranchAReferenceIdeal.τ).loc Cert.BranchAReferenceIdeal.main_arg0) = m ((c.tc : Thread Cert.BranchAReferenceIdeal.nD Cert.BranchAReferenceIdeal.τ).loc Cert.BranchAReferenceIdeal.main_arg0)
      ∧ r.2.mem ((c.tc : Thread Cert.BranchAReferenceIdeal.nD Cert.BranchAReferenceIdeal.τ).loc Cert.BranchAReferenceIdeal.main_arg1) = m ((c.tc : Thread Cert.BranchAReferenceIdeal.nD Cert.BranchAReferenceIdeal.τ).loc Cert.BranchAReferenceIdeal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBReferenceIdeal [hBranchBReferenceIdeal : Cert.BranchBReferenceIdeal.Facts] : Prop :=
  ∀ (m : (ℓ : Loc Cert.BranchBReferenceIdeal.nD Cert.BranchBReferenceIdeal.τ Cert.BranchBReferenceIdeal.sig) → Buf (Elt Ideal) ℓ) (g : Dev Cert.BranchBReferenceIdeal.nD → PrngReg), Pre_BranchBReferenceIdeal m →
    θ_run (Cert.BranchBReferenceIdeal.defs (F := Ideal)) (onTc (τ := Cert.BranchBReferenceIdeal.τ) (Cert.BranchBReferenceIdeal.main (F := Ideal))) ⟨m, fun _ => 0, g⟩ (fun r => (∀ c : Dev Cert.BranchBReferenceIdeal.nD,
      r.2.mem ((c.tc : Thread Cert.BranchBReferenceIdeal.nD Cert.BranchBReferenceIdeal.τ).loc Cert.BranchBReferenceIdeal.main_arg0) = m ((c.tc : Thread Cert.BranchBReferenceIdeal.nD Cert.BranchBReferenceIdeal.τ).loc Cert.BranchBReferenceIdeal.main_arg0)
      ∧ r.2.mem ((c.tc : Thread Cert.BranchBReferenceIdeal.nD Cert.BranchBReferenceIdeal.τ).loc Cert.BranchBReferenceIdeal.main_arg1) = m ((c.tc : Thread Cert.BranchBReferenceIdeal.nD Cert.BranchBReferenceIdeal.τ).loc Cert.BranchBReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_BranchADgrad [hBranchADgrad : Cert.BranchADgrad.Facts] : Prop :=
  ∀ (m : (ℓ : Loc Cert.BranchADgrad.nD Cert.BranchADgrad.τ Cert.BranchADgrad.sig) → Buf (Elt Bits) ℓ) (g : Dev Cert.BranchADgrad.nD → PrngReg), Pre_BranchADgrad m →
    θ_run (Cert.BranchADgrad.defs (F := Bits)) (onTc (τ := Cert.BranchADgrad.τ) (Cert.BranchADgrad.main (F := Bits))) ⟨m, fun _ => 0, g⟩ (fun r => (∀ c : Dev Cert.BranchADgrad.nD,
      r.2.mem ((c.tc : Thread Cert.BranchADgrad.nD Cert.BranchADgrad.τ).loc Cert.BranchADgrad.main_arg0) = m ((c.tc : Thread Cert.BranchADgrad.nD Cert.BranchADgrad.τ).loc Cert.BranchADgrad.main_arg0)
      ∧ r.2.mem ((c.tc : Thread Cert.BranchADgrad.nD Cert.BranchADgrad.τ).loc Cert.BranchADgrad.main_arg1) = m ((c.tc : Thread Cert.BranchADgrad.nD Cert.BranchADgrad.τ).loc Cert.BranchADgrad.main_arg1))
      ∧ r.2.sem = fun _ => 0)

def quiescent_BranchADgradIdeal [hBranchADgradIdeal : Cert.BranchADgradIdeal.Facts] : Prop :=
  ∀ (m : (ℓ : Loc Cert.BranchADgradIdeal.nD Cert.BranchADgradIdeal.τ Cert.BranchADgradIdeal.sig) → Buf (Elt Ideal) ℓ) (g : Dev Cert.BranchADgradIdeal.nD → PrngReg), Pre_BranchADgradIdeal m →
    θ_run (Cert.BranchADgradIdeal.defs (F := Ideal)) (onTc (τ := Cert.BranchADgradIdeal.τ) (Cert.BranchADgradIdeal.main (F := Ideal))) ⟨m, fun _ => 0, g⟩ (fun r => (∀ c : Dev Cert.BranchADgradIdeal.nD,
      r.2.mem ((c.tc : Thread Cert.BranchADgradIdeal.nD Cert.BranchADgradIdeal.τ).loc Cert.BranchADgradIdeal.main_arg0) = m ((c.tc : Thread Cert.BranchADgradIdeal.nD Cert.BranchADgradIdeal.τ).loc Cert.BranchADgradIdeal.main_arg0)
      ∧ r.2.mem ((c.tc : Thread Cert.BranchADgradIdeal.nD Cert.BranchADgradIdeal.τ).loc Cert.BranchADgradIdeal.main_arg1) = m ((c.tc : Thread Cert.BranchADgradIdeal.nD Cert.BranchADgradIdeal.τ).loc Cert.BranchADgradIdeal.main_arg1))
      ∧ r.2.sem = fun _ => 0)

def quiescent_BranchADgradReferenceIdeal [hBranchADgradReferenceIdeal : Cert.BranchADgradReferenceIdeal.Facts] : Prop :=
  ∀ (m : (ℓ : Loc Cert.BranchADgradReferenceIdeal.nD Cert.BranchADgradReferenceIdeal.τ Cert.BranchADgradReferenceIdeal.sig) → Buf (Elt Ideal) ℓ) (g : Dev Cert.BranchADgradReferenceIdeal.nD → PrngReg), Pre_BranchADgradReferenceIdeal m →
    θ_run (Cert.BranchADgradReferenceIdeal.defs (F := Ideal)) (onTc (τ := Cert.BranchADgradReferenceIdeal.τ) (Cert.BranchADgradReferenceIdeal.main (F := Ideal))) ⟨m, fun _ => 0, g⟩ (fun r => (∀ c : Dev Cert.BranchADgradReferenceIdeal.nD,
      r.2.mem ((c.tc : Thread Cert.BranchADgradReferenceIdeal.nD Cert.BranchADgradReferenceIdeal.τ).loc Cert.BranchADgradReferenceIdeal.main_arg0) = m ((c.tc : Thread Cert.BranchADgradReferenceIdeal.nD Cert.BranchADgradReferenceIdeal.τ).loc Cert.BranchADgradReferenceIdeal.main_arg0)
      ∧ r.2.mem ((c.tc : Thread Cert.BranchADgradReferenceIdeal.nD Cert.BranchADgradReferenceIdeal.τ).loc Cert.BranchADgradReferenceIdeal.main_arg1) = m ((c.tc : Thread Cert.BranchADgradReferenceIdeal.nD Cert.BranchADgradReferenceIdeal.τ).loc Cert.BranchADgradReferenceIdeal.main_arg1))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ r.2.sem = fun _ => 0)

def quiescent_OutDgradReferenceIdeal [hOutDgradReferenceIdeal : Cert.OutDgradReferenceIdeal.Facts] : Prop :=
  ∀ (m : (ℓ : Loc Cert.OutDgradReferenceIdeal.nD Cert.OutDgradReferenceIdeal.τ Cert.OutDgradReferenceIdeal.sig) → Buf (Elt Ideal) ℓ) (g : Dev Cert.OutDgradReferenceIdeal.nD → PrngReg), Pre_OutDgradReferenceIdeal m →
    θ_run (Cert.OutDgradReferenceIdeal.defs (F := Ideal)) (onTc (τ := Cert.OutDgradReferenceIdeal.τ) (Cert.OutDgradReferenceIdeal.main (F := Ideal))) ⟨m, fun _ => 0, g⟩ (fun r => (∀ c : Dev Cert.OutDgradReferenceIdeal.nD,
      r.2.mem ((c.tc : Thread Cert.OutDgradReferenceIdeal.nD Cert.OutDgradReferenceIdeal.τ).loc Cert.OutDgradReferenceIdeal.main_arg0) = m ((c.tc : Thread Cert.OutDgradReferenceIdeal.nD Cert.OutDgradReferenceIdeal.τ).loc Cert.OutDgradReferenceIdeal.main_arg0)
      ∧ r.2.mem ((c.tc : Thread Cert.OutDgradReferenceIdeal.nD Cert.OutDgradReferenceIdeal.τ).loc Cert.OutDgradReferenceIdeal.main_arg1) = m ((c.tc : Thread Cert.OutDgradReferenceIdeal.nD Cert.OutDgradReferenceIdeal.τ).loc Cert.OutDgradReferenceIdeal.main_arg1))
      ∧ r.2.sem = fun _ => 0)

def quiescent_InZWgrad [hInZWgrad : Cert.InZWgrad.Facts] : Prop :=
  ∀ (m : (ℓ : Loc Cert.InZWgrad.nD Cert.InZWgrad.τ Cert.InZWgrad.sig) → Buf (Elt Bits) ℓ) (g : Dev Cert.InZWgrad.nD → PrngReg), Pre_InZWgrad m →
    θ_run (Cert.InZWgrad.defs (F := Bits)) (onTc (τ := Cert.InZWgrad.τ) (Cert.InZWgrad.main (F := Bits))) ⟨m, fun _ => 0, g⟩ (fun r => (∀ c : Dev Cert.InZWgrad.nD,
      r.2.mem ((c.tc : Thread Cert.InZWgrad.nD Cert.InZWgrad.τ).loc Cert.InZWgrad.main_arg0) = m ((c.tc : Thread Cert.InZWgrad.nD Cert.InZWgrad.τ).loc Cert.InZWgrad.main_arg0)
      ∧ r.2.mem ((c.tc : Thread Cert.InZWgrad.nD Cert.InZWgrad.τ).loc Cert.InZWgrad.main_arg1) = m ((c.tc : Thread Cert.InZWgrad.nD Cert.InZWgrad.τ).loc Cert.InZWgrad.main_arg1))
      ∧ r.2.sem = fun _ => 0)

def quiescent_InZWgradIdeal [hInZWgradIdeal : Cert.InZWgradIdeal.Facts] : Prop :=
  ∀ (m : (ℓ : Loc Cert.InZWgradIdeal.nD Cert.InZWgradIdeal.τ Cert.InZWgradIdeal.sig) → Buf (Elt Ideal) ℓ) (g : Dev Cert.InZWgradIdeal.nD → PrngReg), Pre_InZWgradIdeal m →
    θ_run (Cert.InZWgradIdeal.defs (F := Ideal)) (onTc (τ := Cert.InZWgradIdeal.τ) (Cert.InZWgradIdeal.main (F := Ideal))) ⟨m, fun _ => 0, g⟩ (fun r => (∀ c : Dev Cert.InZWgradIdeal.nD,
      r.2.mem ((c.tc : Thread Cert.InZWgradIdeal.nD Cert.InZWgradIdeal.τ).loc Cert.InZWgradIdeal.main_arg0) = m ((c.tc : Thread Cert.InZWgradIdeal.nD Cert.InZWgradIdeal.τ).loc Cert.InZWgradIdeal.main_arg0)
      ∧ r.2.mem ((c.tc : Thread Cert.InZWgradIdeal.nD Cert.InZWgradIdeal.τ).loc Cert.InZWgradIdeal.main_arg1) = m ((c.tc : Thread Cert.InZWgradIdeal.nD Cert.InZWgradIdeal.τ).loc Cert.InZWgradIdeal.main_arg1))
      ∧ r.2.sem = fun _ => 0)

def quiescent_InZWgradReferenceIdeal [hInZWgradReferenceIdeal : Cert.InZWgradReferenceIdeal.Facts] : Prop :=
  ∀ (m : (ℓ : Loc Cert.InZWgradReferenceIdeal.nD Cert.InZWgradReferenceIdeal.τ Cert.InZWgradReferenceIdeal.sig) → Buf (Elt Ideal) ℓ) (g : Dev Cert.InZWgradReferenceIdeal.nD → PrngReg), Pre_InZWgradReferenceIdeal m →
    θ_run (Cert.InZWgradReferenceIdeal.defs (F := Ideal)) (onTc (τ := Cert.InZWgradReferenceIdeal.τ) (Cert.InZWgradReferenceIdeal.main (F := Ideal))) ⟨m, fun _ => 0, g⟩ (fun r => (∀ c : Dev Cert.InZWgradReferenceIdeal.nD,
      r.2.mem ((c.tc : Thread Cert.InZWgradReferenceIdeal.nD Cert.InZWgradReferenceIdeal.τ).loc Cert.InZWgradReferenceIdeal.main_arg0) = m ((c.tc : Thread Cert.InZWgradReferenceIdeal.nD Cert.InZWgradReferenceIdeal.τ).loc Cert.InZWgradReferenceIdeal.main_arg0)
      ∧ r.2.mem ((c.tc : Thread Cert.InZWgradReferenceIdeal.nD Cert.InZWgradReferenceIdeal.τ).loc Cert.InZWgradReferenceIdeal.main_arg1) = m ((c.tc : Thread Cert.InZWgradReferenceIdeal.nD Cert.InZWgradReferenceIdeal.τ).loc Cert.InZWgradReferenceIdeal.main_arg1))
      ∧ r.2.sem = fun _ => 0)

def quiescent_InXbcWgrad [hInXbcWgrad : Cert.InXbcWgrad.Facts] : Prop :=
  ∀ (m : (ℓ : Loc Cert.InXbcWgrad.nD Cert.InXbcWgrad.τ Cert.InXbcWgrad.sig) → Buf (Elt Bits) ℓ) (g : Dev Cert.InXbcWgrad.nD → PrngReg), Pre_InXbcWgrad m →
    θ_run (Cert.InXbcWgrad.defs (F := Bits)) (onTc (τ := Cert.InXbcWgrad.τ) (Cert.InXbcWgrad.main (F := Bits))) ⟨m, fun _ => 0, g⟩ (fun r => (∀ c : Dev Cert.InXbcWgrad.nD,
      r.2.mem ((c.tc : Thread Cert.InXbcWgrad.nD Cert.InXbcWgrad.τ).loc Cert.InXbcWgrad.main_arg0) = m ((c.tc : Thread Cert.InXbcWgrad.nD Cert.InXbcWgrad.τ).loc Cert.InXbcWgrad.main_arg0)
      ∧ r.2.mem ((c.tc : Thread Cert.InXbcWgrad.nD Cert.InXbcWgrad.τ).loc Cert.InXbcWgrad.main_arg1) = m ((c.tc : Thread Cert.InXbcWgrad.nD Cert.InXbcWgrad.τ).loc Cert.InXbcWgrad.main_arg1))
      ∧ r.2.sem = fun _ => 0)

def quiescent_InXbcWgradIdeal [hInXbcWgradIdeal : Cert.InXbcWgradIdeal.Facts] : Prop :=
  ∀ (m : (ℓ : Loc Cert.InXbcWgradIdeal.nD Cert.InXbcWgradIdeal.τ Cert.InXbcWgradIdeal.sig) → Buf (Elt Ideal) ℓ) (g : Dev Cert.InXbcWgradIdeal.nD → PrngReg), Pre_InXbcWgradIdeal m →
    θ_run (Cert.InXbcWgradIdeal.defs (F := Ideal)) (onTc (τ := Cert.InXbcWgradIdeal.τ) (Cert.InXbcWgradIdeal.main (F := Ideal))) ⟨m, fun _ => 0, g⟩ (fun r => (∀ c : Dev Cert.InXbcWgradIdeal.nD,
      r.2.mem ((c.tc : Thread Cert.InXbcWgradIdeal.nD Cert.InXbcWgradIdeal.τ).loc Cert.InXbcWgradIdeal.main_arg0) = m ((c.tc : Thread Cert.InXbcWgradIdeal.nD Cert.InXbcWgradIdeal.τ).loc Cert.InXbcWgradIdeal.main_arg0)
      ∧ r.2.mem ((c.tc : Thread Cert.InXbcWgradIdeal.nD Cert.InXbcWgradIdeal.τ).loc Cert.InXbcWgradIdeal.main_arg1) = m ((c.tc : Thread Cert.InXbcWgradIdeal.nD Cert.InXbcWgradIdeal.τ).loc Cert.InXbcWgradIdeal.main_arg1))
      ∧ r.2.sem = fun _ => 0)

def quiescent_InXbcWgradReferenceIdeal [hInXbcWgradReferenceIdeal : Cert.InXbcWgradReferenceIdeal.Facts] : Prop :=
  ∀ (m : (ℓ : Loc Cert.InXbcWgradReferenceIdeal.nD Cert.InXbcWgradReferenceIdeal.τ Cert.InXbcWgradReferenceIdeal.sig) → Buf (Elt Ideal) ℓ) (g : Dev Cert.InXbcWgradReferenceIdeal.nD → PrngReg), Pre_InXbcWgradReferenceIdeal m →
    θ_run (Cert.InXbcWgradReferenceIdeal.defs (F := Ideal)) (onTc (τ := Cert.InXbcWgradReferenceIdeal.τ) (Cert.InXbcWgradReferenceIdeal.main (F := Ideal))) ⟨m, fun _ => 0, g⟩ (fun r => (∀ c : Dev Cert.InXbcWgradReferenceIdeal.nD,
      r.2.mem ((c.tc : Thread Cert.InXbcWgradReferenceIdeal.nD Cert.InXbcWgradReferenceIdeal.τ).loc Cert.InXbcWgradReferenceIdeal.main_arg0) = m ((c.tc : Thread Cert.InXbcWgradReferenceIdeal.nD Cert.InXbcWgradReferenceIdeal.τ).loc Cert.InXbcWgradReferenceIdeal.main_arg0)
      ∧ r.2.mem ((c.tc : Thread Cert.InXbcWgradReferenceIdeal.nD Cert.InXbcWgradReferenceIdeal.τ).loc Cert.InXbcWgradReferenceIdeal.main_arg1) = m ((c.tc : Thread Cert.InXbcWgradReferenceIdeal.nD Cert.InXbcWgradReferenceIdeal.τ).loc Cert.InXbcWgradReferenceIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradReferenceIdeal [hOutWgradReferenceIdeal : Cert.OutWgradReferenceIdeal.Facts] : Prop :=
  ∀ (m : (ℓ : Loc Cert.OutWgradReferenceIdeal.nD Cert.OutWgradReferenceIdeal.τ Cert.OutWgradReferenceIdeal.sig) → Buf (Elt Ideal) ℓ) (g : Dev Cert.OutWgradReferenceIdeal.nD → PrngReg), Pre_OutWgradReferenceIdeal m →
    θ_run (Cert.OutWgradReferenceIdeal.defs (F := Ideal)) (onTc (τ := Cert.OutWgradReferenceIdeal.τ) (Cert.OutWgradReferenceIdeal.main (F := Ideal))) ⟨m, fun _ => 0, g⟩ (fun r => (∀ c : Dev Cert.OutWgradReferenceIdeal.nD,
      r.2.mem ((c.tc : Thread Cert.OutWgradReferenceIdeal.nD Cert.OutWgradReferenceIdeal.τ).loc Cert.OutWgradReferenceIdeal.main_arg0) = m ((c.tc : Thread Cert.OutWgradReferenceIdeal.nD Cert.OutWgradReferenceIdeal.τ).loc Cert.OutWgradReferenceIdeal.main_arg0)
      ∧ r.2.mem ((c.tc : Thread Cert.OutWgradReferenceIdeal.nD Cert.OutWgradReferenceIdeal.τ).loc Cert.OutWgradReferenceIdeal.main_arg1) = m ((c.tc : Thread Cert.OutWgradReferenceIdeal.nD Cert.OutWgradReferenceIdeal.τ).loc Cert.OutWgradReferenceIdeal.main_arg1))
      ∧ r.2.sem = fun _ => 0)

def quiescent_UpWgradA [hUpWgradA : Cert.UpWgradA.Facts] : Prop :=
  ∀ (m : (ℓ : Loc Cert.UpWgradA.nD Cert.UpWgradA.τ Cert.UpWgradA.sig) → Buf (Elt Bits) ℓ) (g : Dev Cert.UpWgradA.nD → PrngReg), Pre_UpWgradA m →
    θ_run (Cert.UpWgradA.defs (F := Bits)) (onTc (τ := Cert.UpWgradA.τ) (Cert.UpWgradA.main (F := Bits))) ⟨m, fun _ => 0, g⟩ (fun r => (∀ c : Dev Cert.UpWgradA.nD,
      r.2.mem ((c.tc : Thread Cert.UpWgradA.nD Cert.UpWgradA.τ).loc Cert.UpWgradA.main_arg0) = m ((c.tc : Thread Cert.UpWgradA.nD Cert.UpWgradA.τ).loc Cert.UpWgradA.main_arg0)
      ∧ r.2.mem ((c.tc : Thread Cert.UpWgradA.nD Cert.UpWgradA.τ).loc Cert.UpWgradA.main_arg1) = m ((c.tc : Thread Cert.UpWgradA.nD Cert.UpWgradA.τ).loc Cert.UpWgradA.main_arg1))
      ∧ r.2.sem = fun _ => 0)

def quiescent_UpWgradAIdeal [hUpWgradAIdeal : Cert.UpWgradAIdeal.Facts] : Prop :=
  ∀ (m : (ℓ : Loc Cert.UpWgradAIdeal.nD Cert.UpWgradAIdeal.τ Cert.UpWgradAIdeal.sig) → Buf (Elt Ideal) ℓ) (g : Dev Cert.UpWgradAIdeal.nD → PrngReg), Pre_UpWgradAIdeal m →
    θ_run (Cert.UpWgradAIdeal.defs (F := Ideal)) (onTc (τ := Cert.UpWgradAIdeal.τ) (Cert.UpWgradAIdeal.main (F := Ideal))) ⟨m, fun _ => 0, g⟩ (fun r => (∀ c : Dev Cert.UpWgradAIdeal.nD,
      r.2.mem ((c.tc : Thread Cert.UpWgradAIdeal.nD Cert.UpWgradAIdeal.τ).loc Cert.UpWgradAIdeal.main_arg0) = m ((c.tc : Thread Cert.UpWgradAIdeal.nD Cert.UpWgradAIdeal.τ).loc Cert.UpWgradAIdeal.main_arg0)
      ∧ r.2.mem ((c.tc : Thread Cert.UpWgradAIdeal.nD Cert.UpWgradAIdeal.τ).loc Cert.UpWgradAIdeal.main_arg1) = m ((c.tc : Thread Cert.UpWgradAIdeal.nD Cert.UpWgradAIdeal.τ).loc Cert.UpWgradAIdeal.main_arg1))
      ∧ r.2.sem = fun _ => 0)

def quiescent_UpWgradAReferenceIdeal [hUpWgradAReferenceIdeal : Cert.UpWgradAReferenceIdeal.Facts] : Prop :=
  ∀ (m : (ℓ : Loc Cert.UpWgradAReferenceIdeal.nD Cert.UpWgradAReferenceIdeal.τ Cert.UpWgradAReferenceIdeal.sig) → Buf (Elt Ideal) ℓ) (g : Dev Cert.UpWgradAReferenceIdeal.nD → PrngReg), Pre_UpWgradAReferenceIdeal m →
    θ_run (Cert.UpWgradAReferenceIdeal.defs (F := Ideal)) (onTc (τ := Cert.UpWgradAReferenceIdeal.τ) (Cert.UpWgradAReferenceIdeal.main (F := Ideal))) ⟨m, fun _ => 0, g⟩ (fun r => (∀ c : Dev Cert.UpWgradAReferenceIdeal.nD,
      r.2.mem ((c.tc : Thread Cert.UpWgradAReferenceIdeal.nD Cert.UpWgradAReferenceIdeal.τ).loc Cert.UpWgradAReferenceIdeal.main_arg0) = m ((c.tc : Thread Cert.UpWgradAReferenceIdeal.nD Cert.UpWgradAReferenceIdeal.τ).loc Cert.UpWgradAReferenceIdeal.main_arg0)
      ∧ r.2.mem ((c.tc : Thread Cert.UpWgradAReferenceIdeal.nD Cert.UpWgradAReferenceIdeal.τ).loc Cert.UpWgradAReferenceIdeal.main_arg1) = m ((c.tc : Thread Cert.UpWgradAReferenceIdeal.nD Cert.UpWgradAReferenceIdeal.τ).loc Cert.UpWgradAReferenceIdeal.main_arg1))
      ∧ r.2.sem = fun _ => 0)

def quiescent_UpWgradV [hUpWgradV : Cert.UpWgradV.Facts] : Prop :=
  ∀ (m : (ℓ : Loc Cert.UpWgradV.nD Cert.UpWgradV.τ Cert.UpWgradV.sig) → Buf (Elt Bits) ℓ) (g : Dev Cert.UpWgradV.nD → PrngReg), Pre_UpWgradV m →
    θ_run (Cert.UpWgradV.defs (F := Bits)) (onTc (τ := Cert.UpWgradV.τ) (Cert.UpWgradV.main (F := Bits))) ⟨m, fun _ => 0, g⟩ (fun r => (∀ c : Dev Cert.UpWgradV.nD,
      r.2.mem ((c.tc : Thread Cert.UpWgradV.nD Cert.UpWgradV.τ).loc Cert.UpWgradV.main_arg0) = m ((c.tc : Thread Cert.UpWgradV.nD Cert.UpWgradV.τ).loc Cert.UpWgradV.main_arg0)
      ∧ r.2.mem ((c.tc : Thread Cert.UpWgradV.nD Cert.UpWgradV.τ).loc Cert.UpWgradV.main_arg1) = m ((c.tc : Thread Cert.UpWgradV.nD Cert.UpWgradV.τ).loc Cert.UpWgradV.main_arg1)
      ∧ r.2.mem ((c.tc : Thread Cert.UpWgradV.nD Cert.UpWgradV.τ).loc Cert.UpWgradV.main_arg2) = m ((c.tc : Thread Cert.UpWgradV.nD Cert.UpWgradV.τ).loc Cert.UpWgradV.main_arg2))
      ∧ r.2.sem = fun _ => 0)

def quiescent_UpWgradVIdeal [hUpWgradVIdeal : Cert.UpWgradVIdeal.Facts] : Prop :=
  ∀ (m : (ℓ : Loc Cert.UpWgradVIdeal.nD Cert.UpWgradVIdeal.τ Cert.UpWgradVIdeal.sig) → Buf (Elt Ideal) ℓ) (g : Dev Cert.UpWgradVIdeal.nD → PrngReg), Pre_UpWgradVIdeal m →
    θ_run (Cert.UpWgradVIdeal.defs (F := Ideal)) (onTc (τ := Cert.UpWgradVIdeal.τ) (Cert.UpWgradVIdeal.main (F := Ideal))) ⟨m, fun _ => 0, g⟩ (fun r => (∀ c : Dev Cert.UpWgradVIdeal.nD,
      r.2.mem ((c.tc : Thread Cert.UpWgradVIdeal.nD Cert.UpWgradVIdeal.τ).loc Cert.UpWgradVIdeal.main_arg0) = m ((c.tc : Thread Cert.UpWgradVIdeal.nD Cert.UpWgradVIdeal.τ).loc Cert.UpWgradVIdeal.main_arg0)
      ∧ r.2.mem ((c.tc : Thread Cert.UpWgradVIdeal.nD Cert.UpWgradVIdeal.τ).loc Cert.UpWgradVIdeal.main_arg1) = m ((c.tc : Thread Cert.UpWgradVIdeal.nD Cert.UpWgradVIdeal.τ).loc Cert.UpWgradVIdeal.main_arg1)
      ∧ r.2.mem ((c.tc : Thread Cert.UpWgradVIdeal.nD Cert.UpWgradVIdeal.τ).loc Cert.UpWgradVIdeal.main_arg2) = m ((c.tc : Thread Cert.UpWgradVIdeal.nD Cert.UpWgradVIdeal.τ).loc Cert.UpWgradVIdeal.main_arg2))
      ∧ r.2.sem = fun _ => 0)

def quiescent_UpWgradVReferenceIdeal [hUpWgradVReferenceIdeal : Cert.UpWgradVReferenceIdeal.Facts] : Prop :=
  ∀ (m : (ℓ : Loc Cert.UpWgradVReferenceIdeal.nD Cert.UpWgradVReferenceIdeal.τ Cert.UpWgradVReferenceIdeal.sig) → Buf (Elt Ideal) ℓ) (g : Dev Cert.UpWgradVReferenceIdeal.nD → PrngReg), Pre_UpWgradVReferenceIdeal m →
    θ_run (Cert.UpWgradVReferenceIdeal.defs (F := Ideal)) (onTc (τ := Cert.UpWgradVReferenceIdeal.τ) (Cert.UpWgradVReferenceIdeal.main (F := Ideal))) ⟨m, fun _ => 0, g⟩ (fun r => (∀ c : Dev Cert.UpWgradVReferenceIdeal.nD,
      r.2.mem ((c.tc : Thread Cert.UpWgradVReferenceIdeal.nD Cert.UpWgradVReferenceIdeal.τ).loc Cert.UpWgradVReferenceIdeal.main_arg0) = m ((c.tc : Thread Cert.UpWgradVReferenceIdeal.nD Cert.UpWgradVReferenceIdeal.τ).loc Cert.UpWgradVReferenceIdeal.main_arg0)
      ∧ r.2.mem ((c.tc : Thread Cert.UpWgradVReferenceIdeal.nD Cert.UpWgradVReferenceIdeal.τ).loc Cert.UpWgradVReferenceIdeal.main_arg1) = m ((c.tc : Thread Cert.UpWgradVReferenceIdeal.nD Cert.UpWgradVReferenceIdeal.τ).loc Cert.UpWgradVReferenceIdeal.main_arg1)
      ∧ r.2.mem ((c.tc : Thread Cert.UpWgradVReferenceIdeal.nD Cert.UpWgradVReferenceIdeal.τ).loc Cert.UpWgradVReferenceIdeal.main_arg2) = m ((c.tc : Thread Cert.UpWgradVReferenceIdeal.nD Cert.UpWgradVReferenceIdeal.τ).loc Cert.UpWgradVReferenceIdeal.main_arg2))
      ∧ r.2.sem = fun _ => 0)

def quiescent_BranchAWgrad [hBranchAWgrad : Cert.BranchAWgrad.Facts] : Prop :=
  ∀ (m : (ℓ : Loc Cert.BranchAWgrad.nD Cert.BranchAWgrad.τ Cert.BranchAWgrad.sig) → Buf (Elt Bits) ℓ) (g : Dev Cert.BranchAWgrad.nD → PrngReg), Pre_BranchAWgrad m →
    θ_run (Cert.BranchAWgrad.defs (F := Bits)) (onTc (τ := Cert.BranchAWgrad.τ) (Cert.BranchAWgrad.main (F := Bits))) ⟨m, fun _ => 0, g⟩ (fun r => (∀ c : Dev Cert.BranchAWgrad.nD,
      r.2.mem ((c.tc : Thread Cert.BranchAWgrad.nD Cert.BranchAWgrad.τ).loc Cert.BranchAWgrad.main_arg0) = m ((c.tc : Thread Cert.BranchAWgrad.nD Cert.BranchAWgrad.τ).loc Cert.BranchAWgrad.main_arg0)
      ∧ r.2.mem ((c.tc : Thread Cert.BranchAWgrad.nD Cert.BranchAWgrad.τ).loc Cert.BranchAWgrad.main_arg1) = m ((c.tc : Thread Cert.BranchAWgrad.nD Cert.BranchAWgrad.τ).loc Cert.BranchAWgrad.main_arg1))
      ∧ r.2.sem = fun _ => 0)

def quiescent_BranchAWgradIdeal [hBranchAWgradIdeal : Cert.BranchAWgradIdeal.Facts] : Prop :=
  ∀ (m : (ℓ : Loc Cert.BranchAWgradIdeal.nD Cert.BranchAWgradIdeal.τ Cert.BranchAWgradIdeal.sig) → Buf (Elt Ideal) ℓ) (g : Dev Cert.BranchAWgradIdeal.nD → PrngReg), Pre_BranchAWgradIdeal m →
    θ_run (Cert.BranchAWgradIdeal.defs (F := Ideal)) (onTc (τ := Cert.BranchAWgradIdeal.τ) (Cert.BranchAWgradIdeal.main (F := Ideal))) ⟨m, fun _ => 0, g⟩ (fun r => (∀ c : Dev Cert.BranchAWgradIdeal.nD,
      r.2.mem ((c.tc : Thread Cert.BranchAWgradIdeal.nD Cert.BranchAWgradIdeal.τ).loc Cert.BranchAWgradIdeal.main_arg0) = m ((c.tc : Thread Cert.BranchAWgradIdeal.nD Cert.BranchAWgradIdeal.τ).loc Cert.BranchAWgradIdeal.main_arg0)
      ∧ r.2.mem ((c.tc : Thread Cert.BranchAWgradIdeal.nD Cert.BranchAWgradIdeal.τ).loc Cert.BranchAWgradIdeal.main_arg1) = m ((c.tc : Thread Cert.BranchAWgradIdeal.nD Cert.BranchAWgradIdeal.τ).loc Cert.BranchAWgradIdeal.main_arg1))
      ∧ r.2.sem = fun _ => 0)

def quiescent_BranchAWgradReferenceIdeal [hBranchAWgradReferenceIdeal : Cert.BranchAWgradReferenceIdeal.Facts] : Prop :=
  ∀ (m : (ℓ : Loc Cert.BranchAWgradReferenceIdeal.nD Cert.BranchAWgradReferenceIdeal.τ Cert.BranchAWgradReferenceIdeal.sig) → Buf (Elt Ideal) ℓ) (g : Dev Cert.BranchAWgradReferenceIdeal.nD → PrngReg), Pre_BranchAWgradReferenceIdeal m →
    θ_run (Cert.BranchAWgradReferenceIdeal.defs (F := Ideal)) (onTc (τ := Cert.BranchAWgradReferenceIdeal.τ) (Cert.BranchAWgradReferenceIdeal.main (F := Ideal))) ⟨m, fun _ => 0, g⟩ (fun r => (∀ c : Dev Cert.BranchAWgradReferenceIdeal.nD,
      r.2.mem ((c.tc : Thread Cert.BranchAWgradReferenceIdeal.nD Cert.BranchAWgradReferenceIdeal.τ).loc Cert.BranchAWgradReferenceIdeal.main_arg0) = m ((c.tc : Thread Cert.BranchAWgradReferenceIdeal.nD Cert.BranchAWgradReferenceIdeal.τ).loc Cert.BranchAWgradReferenceIdeal.main_arg0)
      ∧ r.2.mem ((c.tc : Thread Cert.BranchAWgradReferenceIdeal.nD Cert.BranchAWgradReferenceIdeal.τ).loc Cert.BranchAWgradReferenceIdeal.main_arg1) = m ((c.tc : Thread Cert.BranchAWgradReferenceIdeal.nD Cert.BranchAWgradReferenceIdeal.τ).loc Cert.BranchAWgradReferenceIdeal.main_arg1))
      ∧ r.2.sem = fun _ => 0)

def quiescent_BranchBWgrad [hBranchBWgrad : Cert.BranchBWgrad.Facts] : Prop :=
  ∀ (m : (ℓ : Loc Cert.BranchBWgrad.nD Cert.BranchBWgrad.τ Cert.BranchBWgrad.sig) → Buf (Elt Bits) ℓ) (g : Dev Cert.BranchBWgrad.nD → PrngReg), Pre_BranchBWgrad m →
    θ_run (Cert.BranchBWgrad.defs (F := Bits)) (onTc (τ := Cert.BranchBWgrad.τ) (Cert.BranchBWgrad.main (F := Bits))) ⟨m, fun _ => 0, g⟩ (fun r => (∀ c : Dev Cert.BranchBWgrad.nD,
      r.2.mem ((c.tc : Thread Cert.BranchBWgrad.nD Cert.BranchBWgrad.τ).loc Cert.BranchBWgrad.main_arg0) = m ((c.tc : Thread Cert.BranchBWgrad.nD Cert.BranchBWgrad.τ).loc Cert.BranchBWgrad.main_arg0)
      ∧ r.2.mem ((c.tc : Thread Cert.BranchBWgrad.nD Cert.BranchBWgrad.τ).loc Cert.BranchBWgrad.main_arg1) = m ((c.tc : Thread Cert.BranchBWgrad.nD Cert.BranchBWgrad.τ).loc Cert.BranchBWgrad.main_arg1)
      ∧ r.2.mem ((c.tc : Thread Cert.BranchBWgrad.nD Cert.BranchBWgrad.τ).loc Cert.BranchBWgrad.main_arg2) = m ((c.tc : Thread Cert.BranchBWgrad.nD Cert.BranchBWgrad.τ).loc Cert.BranchBWgrad.main_arg2))
      ∧ r.2.sem = fun _ => 0)

def quiescent_BranchBWgradIdeal [hBranchBWgradIdeal : Cert.BranchBWgradIdeal.Facts] : Prop :=
  ∀ (m : (ℓ : Loc Cert.BranchBWgradIdeal.nD Cert.BranchBWgradIdeal.τ Cert.BranchBWgradIdeal.sig) → Buf (Elt Ideal) ℓ) (g : Dev Cert.BranchBWgradIdeal.nD → PrngReg), Pre_BranchBWgradIdeal m →
    θ_run (Cert.BranchBWgradIdeal.defs (F := Ideal)) (onTc (τ := Cert.BranchBWgradIdeal.τ) (Cert.BranchBWgradIdeal.main (F := Ideal))) ⟨m, fun _ => 0, g⟩ (fun r => (∀ c : Dev Cert.BranchBWgradIdeal.nD,
      r.2.mem ((c.tc : Thread Cert.BranchBWgradIdeal.nD Cert.BranchBWgradIdeal.τ).loc Cert.BranchBWgradIdeal.main_arg0) = m ((c.tc : Thread Cert.BranchBWgradIdeal.nD Cert.BranchBWgradIdeal.τ).loc Cert.BranchBWgradIdeal.main_arg0)
      ∧ r.2.mem ((c.tc : Thread Cert.BranchBWgradIdeal.nD Cert.BranchBWgradIdeal.τ).loc Cert.BranchBWgradIdeal.main_arg1) = m ((c.tc : Thread Cert.BranchBWgradIdeal.nD Cert.BranchBWgradIdeal.τ).loc Cert.BranchBWgradIdeal.main_arg1)
      ∧ r.2.mem ((c.tc : Thread Cert.BranchBWgradIdeal.nD Cert.BranchBWgradIdeal.τ).loc Cert.BranchBWgradIdeal.main_arg2) = m ((c.tc : Thread Cert.BranchBWgradIdeal.nD Cert.BranchBWgradIdeal.τ).loc Cert.BranchBWgradIdeal.main_arg2))
      ∧ r.2.sem = fun _ => 0)

def quiescent_BranchBWgradReferenceIdeal [hBranchBWgradReferenceIdeal : Cert.BranchBWgradReferenceIdeal.Facts] : Prop :=
  ∀ (m : (ℓ : Loc Cert.BranchBWgradReferenceIdeal.nD Cert.BranchBWgradReferenceIdeal.τ Cert.BranchBWgradReferenceIdeal.sig) → Buf (Elt Ideal) ℓ) (g : Dev Cert.BranchBWgradReferenceIdeal.nD → PrngReg), Pre_BranchBWgradReferenceIdeal m →
    θ_run (Cert.BranchBWgradReferenceIdeal.defs (F := Ideal)) (onTc (τ := Cert.BranchBWgradReferenceIdeal.τ) (Cert.BranchBWgradReferenceIdeal.main (F := Ideal))) ⟨m, fun _ => 0, g⟩ (fun r => (∀ c : Dev Cert.BranchBWgradReferenceIdeal.nD,
      r.2.mem ((c.tc : Thread Cert.BranchBWgradReferenceIdeal.nD Cert.BranchBWgradReferenceIdeal.τ).loc Cert.BranchBWgradReferenceIdeal.main_arg0) = m ((c.tc : Thread Cert.BranchBWgradReferenceIdeal.nD Cert.BranchBWgradReferenceIdeal.τ).loc Cert.BranchBWgradReferenceIdeal.main_arg0)
      ∧ r.2.mem ((c.tc : Thread Cert.BranchBWgradReferenceIdeal.nD Cert.BranchBWgradReferenceIdeal.τ).loc Cert.BranchBWgradReferenceIdeal.main_arg1) = m ((c.tc : Thread Cert.BranchBWgradReferenceIdeal.nD Cert.BranchBWgradReferenceIdeal.τ).loc Cert.BranchBWgradReferenceIdeal.main_arg1)
      ∧ r.2.mem ((c.tc : Thread Cert.BranchBWgradReferenceIdeal.nD Cert.BranchBWgradReferenceIdeal.τ).loc Cert.BranchBWgradReferenceIdeal.main_arg2) = m ((c.tc : Thread Cert.BranchBWgradReferenceIdeal.nD Cert.BranchBWgradReferenceIdeal.τ).loc Cert.BranchBWgradReferenceIdeal.main_arg2))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtReferenceIdeal [hInDtReferenceIdeal : Cert.InDtReferenceIdeal.Facts] : Prop :=
  ∀ (m : (ℓ : Loc Cert.InDtReferenceIdeal.nD Cert.InDtReferenceIdeal.τ Cert.InDtReferenceIdeal.sig) → Buf (Elt Ideal) ℓ) (g : Dev Cert.InDtReferenceIdeal.nD → PrngReg), Pre_InDtReferenceIdeal m →
    θ_run (Cert.InDtReferenceIdeal.defs (F := Ideal)) (onTc (τ := Cert.InDtReferenceIdeal.τ) (Cert.InDtReferenceIdeal.main (F := Ideal))) ⟨m, fun _ => 0, g⟩ (fun r => (∀ c : Dev Cert.InDtReferenceIdeal.nD,
      r.2.mem ((c.tc : Thread Cert.InDtReferenceIdeal.nD Cert.InDtReferenceIdeal.τ).loc Cert.InDtReferenceIdeal.main_arg0) = m ((c.tc : Thread Cert.InDtReferenceIdeal.nD Cert.InDtReferenceIdeal.τ).loc Cert.InDtReferenceIdeal.main_arg0)
      ∧ r.2.mem ((c.tc : Thread Cert.InDtReferenceIdeal.nD Cert.InDtReferenceIdeal.τ).loc Cert.InDtReferenceIdeal.main_arg1) = m ((c.tc : Thread Cert.InDtReferenceIdeal.nD Cert.InDtReferenceIdeal.τ).loc Cert.InDtReferenceIdeal.main_arg1))
      ∧ r.2.sem = fun _ => 0)

def quiescent_InDtWgrad [hInDtWgrad : Cert.InDtWgrad.Facts] : Prop :=
  ∀ (m : (ℓ : Loc Cert.InDtWgrad.nD Cert.InDtWgrad.τ Cert.InDtWgrad.sig) → Buf (Elt Bits) ℓ) (g : Dev Cert.InDtWgrad.nD → PrngReg), Pre_InDtWgrad m →
    θ_run (Cert.InDtWgrad.defs (F := Bits)) (onTc (τ := Cert.InDtWgrad.τ) (Cert.InDtWgrad.main (F := Bits))) ⟨m, fun _ => 0, g⟩ (fun r => (∀ c : Dev Cert.InDtWgrad.nD,
      r.2.mem ((c.tc : Thread Cert.InDtWgrad.nD Cert.InDtWgrad.τ).loc Cert.InDtWgrad.main_arg0) = m ((c.tc : Thread Cert.InDtWgrad.nD Cert.InDtWgrad.τ).loc Cert.InDtWgrad.main_arg0)
      ∧ r.2.mem ((c.tc : Thread Cert.InDtWgrad.nD Cert.InDtWgrad.τ).loc Cert.InDtWgrad.main_arg1) = m ((c.tc : Thread Cert.InDtWgrad.nD Cert.InDtWgrad.τ).loc Cert.InDtWgrad.main_arg1))
      ∧ r.2.sem = fun _ => 0)

def quiescent_InDtWgradIdeal [hInDtWgradIdeal : Cert.InDtWgradIdeal.Facts] : Prop :=
  ∀ (m : (ℓ : Loc Cert.InDtWgradIdeal.nD Cert.InDtWgradIdeal.τ Cert.InDtWgradIdeal.sig) → Buf (Elt Ideal) ℓ) (g : Dev Cert.InDtWgradIdeal.nD → PrngReg), Pre_InDtWgradIdeal m →
    θ_run (Cert.InDtWgradIdeal.defs (F := Ideal)) (onTc (τ := Cert.InDtWgradIdeal.τ) (Cert.InDtWgradIdeal.main (F := Ideal))) ⟨m, fun _ => 0, g⟩ (fun r => (∀ c : Dev Cert.InDtWgradIdeal.nD,
      r.2.mem ((c.tc : Thread Cert.InDtWgradIdeal.nD Cert.InDtWgradIdeal.τ).loc Cert.InDtWgradIdeal.main_arg0) = m ((c.tc : Thread Cert.InDtWgradIdeal.nD Cert.InDtWgradIdeal.τ).loc Cert.InDtWgradIdeal.main_arg0)
      ∧ r.2.mem ((c.tc : Thread Cert.InDtWgradIdeal.nD Cert.InDtWgradIdeal.τ).loc Cert.InDtWgradIdeal.main_arg1) = m ((c.tc : Thread Cert.InDtWgradIdeal.nD Cert.InDtWgradIdeal.τ).loc Cert.InDtWgradIdeal.main_arg1))
      ∧ r.2.sem = fun _ => 0)

def quiescent_InDtWgradReferenceIdeal [hInDtWgradReferenceIdeal : Cert.InDtWgradReferenceIdeal.Facts] : Prop :=
  ∀ (m : (ℓ : Loc Cert.InDtWgradReferenceIdeal.nD Cert.InDtWgradReferenceIdeal.τ Cert.InDtWgradReferenceIdeal.sig) → Buf (Elt Ideal) ℓ) (g : Dev Cert.InDtWgradReferenceIdeal.nD → PrngReg), Pre_InDtWgradReferenceIdeal m →
    θ_run (Cert.InDtWgradReferenceIdeal.defs (F := Ideal)) (onTc (τ := Cert.InDtWgradReferenceIdeal.τ) (Cert.InDtWgradReferenceIdeal.main (F := Ideal))) ⟨m, fun _ => 0, g⟩ (fun r => (∀ c : Dev Cert.InDtWgradReferenceIdeal.nD,
      r.2.mem ((c.tc : Thread Cert.InDtWgradReferenceIdeal.nD Cert.InDtWgradReferenceIdeal.τ).loc Cert.InDtWgradReferenceIdeal.main_arg0) = m ((c.tc : Thread Cert.InDtWgradReferenceIdeal.nD Cert.InDtWgradReferenceIdeal.τ).loc Cert.InDtWgradReferenceIdeal.main_arg0)
      ∧ r.2.mem ((c.tc : Thread Cert.InDtWgradReferenceIdeal.nD Cert.InDtWgradReferenceIdeal.τ).loc Cert.InDtWgradReferenceIdeal.main_arg1) = m ((c.tc : Thread Cert.InDtWgradReferenceIdeal.nD Cert.InDtWgradReferenceIdeal.τ).loc Cert.InDtWgradReferenceIdeal.main_arg1))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdReferenceIdeal [hGateBwdReferenceIdeal : Cert.GateBwdReferenceIdeal.Facts] : Prop :=
  ∀ (m : (ℓ : Loc Cert.GateBwdReferenceIdeal.nD Cert.GateBwdReferenceIdeal.τ Cert.GateBwdReferenceIdeal.sig) → Buf (Elt Ideal) ℓ) (g : Dev Cert.GateBwdReferenceIdeal.nD → PrngReg), Pre_GateBwdReferenceIdeal m →
    θ_run (Cert.GateBwdReferenceIdeal.defs (F := Ideal)) (onTc (τ := Cert.GateBwdReferenceIdeal.τ) (Cert.GateBwdReferenceIdeal.main (F := Ideal))) ⟨m, fun _ => 0, g⟩ (fun r => (∀ c : Dev Cert.GateBwdReferenceIdeal.nD,
      r.2.mem ((c.tc : Thread Cert.GateBwdReferenceIdeal.nD Cert.GateBwdReferenceIdeal.τ).loc Cert.GateBwdReferenceIdeal.main_arg0) = m ((c.tc : Thread Cert.GateBwdReferenceIdeal.nD Cert.GateBwdReferenceIdeal.τ).loc Cert.GateBwdReferenceIdeal.main_arg0)
      ∧ r.2.mem ((c.tc : Thread Cert.GateBwdReferenceIdeal.nD Cert.GateBwdReferenceIdeal.τ).loc Cert.GateBwdReferenceIdeal.main_arg1) = m ((c.tc : Thread Cert.GateBwdReferenceIdeal.nD Cert.GateBwdReferenceIdeal.τ).loc Cert.GateBwdReferenceIdeal.main_arg1)
      ∧ r.2.mem ((c.tc : Thread Cert.GateBwdReferenceIdeal.nD Cert.GateBwdReferenceIdeal.τ).loc Cert.GateBwdReferenceIdeal.main_arg2) = m ((c.tc : Thread Cert.GateBwdReferenceIdeal.nD Cert.GateBwdReferenceIdeal.τ).loc Cert.GateBwdReferenceIdeal.main_arg2)
      ∧ r.2.mem ((c.tc : Thread Cert.GateBwdReferenceIdeal.nD Cert.GateBwdReferenceIdeal.τ).loc Cert.GateBwdReferenceIdeal.main_arg3) = m ((c.tc : Thread Cert.GateBwdReferenceIdeal.nD Cert.GateBwdReferenceIdeal.τ).loc Cert.GateBwdReferenceIdeal.main_arg3)
      ∧ r.2.mem ((c.tc : Thread Cert.GateBwdReferenceIdeal.nD Cert.GateBwdReferenceIdeal.τ).loc Cert.GateBwdReferenceIdeal.main_arg4) = m ((c.tc : Thread Cert.GateBwdReferenceIdeal.nD Cert.GateBwdReferenceIdeal.τ).loc Cert.GateBwdReferenceIdeal.main_arg4))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdReferenceIdeal [hRmsFwdReferenceIdeal : Cert.RmsFwdReferenceIdeal.Facts] : Prop :=
  ∀ (m : (ℓ : Loc Cert.RmsFwdReferenceIdeal.nD Cert.RmsFwdReferenceIdeal.τ Cert.RmsFwdReferenceIdeal.sig) → Buf (Elt Ideal) ℓ) (g : Dev Cert.RmsFwdReferenceIdeal.nD → PrngReg), Pre_RmsFwdReferenceIdeal m →
    θ_run (Cert.RmsFwdReferenceIdeal.defs (F := Ideal)) (onTc (τ := Cert.RmsFwdReferenceIdeal.τ) (Cert.RmsFwdReferenceIdeal.main (F := Ideal))) ⟨m, fun _ => 0, g⟩ (fun r => (∀ c : Dev Cert.RmsFwdReferenceIdeal.nD,
      r.2.mem ((c.tc : Thread Cert.RmsFwdReferenceIdeal.nD Cert.RmsFwdReferenceIdeal.τ).loc Cert.RmsFwdReferenceIdeal.main_arg0) = m ((c.tc : Thread Cert.RmsFwdReferenceIdeal.nD Cert.RmsFwdReferenceIdeal.τ).loc Cert.RmsFwdReferenceIdeal.main_arg0)
      ∧ r.2.mem ((c.tc : Thread Cert.RmsFwdReferenceIdeal.nD Cert.RmsFwdReferenceIdeal.τ).loc Cert.RmsFwdReferenceIdeal.main_arg1) = m ((c.tc : Thread Cert.RmsFwdReferenceIdeal.nD Cert.RmsFwdReferenceIdeal.τ).loc Cert.RmsFwdReferenceIdeal.main_arg1))
      ∧ r.2.sem = fun _ => 0)

def quiescent_AdamwDown [hAdamwDown : Cert.AdamwDown.Facts] : Prop :=
  ∀ (m : (ℓ : Loc Cert.AdamwDown.nD Cert.AdamwDown.τ Cert.AdamwDown.sig) → Buf (Elt Bits) ℓ) (g : Dev Cert.AdamwDown.nD → PrngReg), Pre_AdamwDown m →
    θ_run (Cert.AdamwDown.defs (F := Bits)) (onTc (τ := Cert.AdamwDown.τ) (Cert.AdamwDown.main (F := Bits))) ⟨m, fun _ => 0, g⟩ (fun r => (∀ c : Dev Cert.AdamwDown.nD,
      r.2.mem ((c.tc : Thread Cert.AdamwDown.nD Cert.AdamwDown.τ).loc Cert.AdamwDown.main_arg0) = m ((c.tc : Thread Cert.AdamwDown.nD Cert.AdamwDown.τ).loc Cert.AdamwDown.main_arg0)
      ∧ r.2.mem ((c.tc : Thread Cert.AdamwDown.nD Cert.AdamwDown.τ).loc Cert.AdamwDown.main_arg1) = m ((c.tc : Thread Cert.AdamwDown.nD Cert.AdamwDown.τ).loc Cert.AdamwDown.main_arg1)
      ∧ r.2.mem ((c.tc : Thread Cert.AdamwDown.nD Cert.AdamwDown.τ).loc Cert.AdamwDown.main_arg2) = m ((c.tc : Thread Cert.AdamwDown.nD Cert.AdamwDown.τ).loc Cert.AdamwDown.main_arg2)
      ∧ r.2.mem ((c.tc : Thread Cert.AdamwDown.nD Cert.AdamwDown.τ).loc Cert.AdamwDown.main_arg3) = m ((c.tc : Thread Cert.AdamwDown.nD Cert.AdamwDown.τ).loc Cert.AdamwDown.main_arg3)
      ∧ r.2.mem ((c.tc : Thread Cert.AdamwDown.nD Cert.AdamwDown.τ).loc Cert.AdamwDown.main_arg4) = m ((c.tc : Thread Cert.AdamwDown.nD Cert.AdamwDown.τ).loc Cert.AdamwDown.main_arg4))
      ∧ r.2.sem = fun _ => 0)

def quiescent_AdamwDownIdeal [hAdamwDownIdeal : Cert.AdamwDownIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg), Pre_AdamwDownIdeal m →
    θ_run (Cert.AdamwDownIdeal.defs (F := Ideal)) (onTc (τ := Cert.AdamwDownIdeal.τ) (Cert.AdamwDownIdeal.main (F := Ideal))) ⟨m, fun _ => 0, g⟩ (fun r => (∀ c : Dev Cert.AdamwDownIdeal.nD,
      r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
      ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
      ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
      ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
      ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ r.2.sem = fun _ => 0)

def quiescent_AdamwDownReferenceIdeal [hAdamwDownReferenceIdeal : Cert.AdamwDownReferenceIdeal.Facts] : Prop :=
  ∀ (m : (ℓ : Loc Cert.AdamwDownReferenceIdeal.nD Cert.AdamwDownReferenceIdeal.τ Cert.AdamwDownReferenceIdeal.sig) → Buf (Elt Ideal) ℓ) (g : Dev Cert.AdamwDownReferenceIdeal.nD → PrngReg), Pre_AdamwDownReferenceIdeal m →
    θ_run (Cert.AdamwDownReferenceIdeal.defs (F := Ideal)) (onTc (τ := Cert.AdamwDownReferenceIdeal.τ) (Cert.AdamwDownReferenceIdeal.main (F := Ideal))) ⟨m, fun _ => 0, g⟩ (fun r => (∀ c : Dev Cert.AdamwDownReferenceIdeal.nD,
      r.2.mem ((c.tc : Thread Cert.AdamwDownReferenceIdeal.nD Cert.AdamwDownReferenceIdeal.τ).loc Cert.AdamwDownReferenceIdeal.main_arg0) = m ((c.tc : Thread Cert.AdamwDownReferenceIdeal.nD Cert.AdamwDownReferenceIdeal.τ).loc Cert.AdamwDownReferenceIdeal.main_arg0)
      ∧ r.2.mem ((c.tc : Thread Cert.AdamwDownReferenceIdeal.nD Cert.AdamwDownReferenceIdeal.τ).loc Cert.AdamwDownReferenceIdeal.main_arg1) = m ((c.tc : Thread Cert.AdamwDownReferenceIdeal.nD Cert.AdamwDownReferenceIdeal.τ).loc Cert.AdamwDownReferenceIdeal.main_arg1)
      ∧ r.2.mem ((c.tc : Thread Cert.AdamwDownReferenceIdeal.nD Cert.AdamwDownReferenceIdeal.τ).loc Cert.AdamwDownReferenceIdeal.main_arg2) = m ((c.tc : Thread Cert.AdamwDownReferenceIdeal.nD Cert.AdamwDownReferenceIdeal.τ).loc Cert.AdamwDownReferenceIdeal.main_arg2)
      ∧ r.2.mem ((c.tc : Thread Cert.AdamwDownReferenceIdeal.nD Cert.AdamwDownReferenceIdeal.τ).loc Cert.AdamwDownReferenceIdeal.main_arg3) = m ((c.tc : Thread Cert.AdamwDownReferenceIdeal.nD Cert.AdamwDownReferenceIdeal.τ).loc Cert.AdamwDownReferenceIdeal.main_arg3)
      ∧ r.2.mem ((c.tc : Thread Cert.AdamwDownReferenceIdeal.nD Cert.AdamwDownReferenceIdeal.τ).loc Cert.AdamwDownReferenceIdeal.main_arg4) = m ((c.tc : Thread Cert.AdamwDownReferenceIdeal.nD Cert.AdamwDownReferenceIdeal.τ).loc Cert.AdamwDownReferenceIdeal.main_arg4))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ r.2.sem = fun _ => 0)

def quiescent_AdamwOutReferenceIdeal [hAdamwOutReferenceIdeal : Cert.AdamwOutReferenceIdeal.Facts] : Prop :=
  ∀ (m : (ℓ : Loc Cert.AdamwOutReferenceIdeal.nD Cert.AdamwOutReferenceIdeal.τ Cert.AdamwOutReferenceIdeal.sig) → Buf (Elt Ideal) ℓ) (g : Dev Cert.AdamwOutReferenceIdeal.nD → PrngReg), Pre_AdamwOutReferenceIdeal m →
    θ_run (Cert.AdamwOutReferenceIdeal.defs (F := Ideal)) (onTc (τ := Cert.AdamwOutReferenceIdeal.τ) (Cert.AdamwOutReferenceIdeal.main (F := Ideal))) ⟨m, fun _ => 0, g⟩ (fun r => (∀ c : Dev Cert.AdamwOutReferenceIdeal.nD,
      r.2.mem ((c.tc : Thread Cert.AdamwOutReferenceIdeal.nD Cert.AdamwOutReferenceIdeal.τ).loc Cert.AdamwOutReferenceIdeal.main_arg0) = m ((c.tc : Thread Cert.AdamwOutReferenceIdeal.nD Cert.AdamwOutReferenceIdeal.τ).loc Cert.AdamwOutReferenceIdeal.main_arg0)
      ∧ r.2.mem ((c.tc : Thread Cert.AdamwOutReferenceIdeal.nD Cert.AdamwOutReferenceIdeal.τ).loc Cert.AdamwOutReferenceIdeal.main_arg1) = m ((c.tc : Thread Cert.AdamwOutReferenceIdeal.nD Cert.AdamwOutReferenceIdeal.τ).loc Cert.AdamwOutReferenceIdeal.main_arg1)
      ∧ r.2.mem ((c.tc : Thread Cert.AdamwOutReferenceIdeal.nD Cert.AdamwOutReferenceIdeal.τ).loc Cert.AdamwOutReferenceIdeal.main_arg2) = m ((c.tc : Thread Cert.AdamwOutReferenceIdeal.nD Cert.AdamwOutReferenceIdeal.τ).loc Cert.AdamwOutReferenceIdeal.main_arg2)
      ∧ r.2.mem ((c.tc : Thread Cert.AdamwOutReferenceIdeal.nD Cert.AdamwOutReferenceIdeal.τ).loc Cert.AdamwOutReferenceIdeal.main_arg3) = m ((c.tc : Thread Cert.AdamwOutReferenceIdeal.nD Cert.AdamwOutReferenceIdeal.τ).loc Cert.AdamwOutReferenceIdeal.main_arg3)
      ∧ r.2.mem ((c.tc : Thread Cert.AdamwOutReferenceIdeal.nD Cert.AdamwOutReferenceIdeal.τ).loc Cert.AdamwOutReferenceIdeal.main_arg4) = m ((c.tc : Thread Cert.AdamwOutReferenceIdeal.nD Cert.AdamwOutReferenceIdeal.τ).loc Cert.AdamwOutReferenceIdeal.main_arg4))
      ∧ r.2.sem = fun _ => 0)

def quiescent_AdamwBranch [hAdamwBranch : Cert.AdamwBranch.Facts] : Prop :=
  ∀ (m : (ℓ : Loc Cert.AdamwBranch.nD Cert.AdamwBranch.τ Cert.AdamwBranch.sig) → Buf (Elt Bits) ℓ) (g : Dev Cert.AdamwBranch.nD → PrngReg), Pre_AdamwBranch m →
    θ_run (Cert.AdamwBranch.defs (F := Bits)) (onTc (τ := Cert.AdamwBranch.τ) (Cert.AdamwBranch.main (F := Bits))) ⟨m, fun _ => 0, g⟩ (fun r => (∀ c : Dev Cert.AdamwBranch.nD,
      r.2.mem ((c.tc : Thread Cert.AdamwBranch.nD Cert.AdamwBranch.τ).loc Cert.AdamwBranch.main_arg0) = m ((c.tc : Thread Cert.AdamwBranch.nD Cert.AdamwBranch.τ).loc Cert.AdamwBranch.main_arg0)
      ∧ r.2.mem ((c.tc : Thread Cert.AdamwBranch.nD Cert.AdamwBranch.τ).loc Cert.AdamwBranch.main_arg1) = m ((c.tc : Thread Cert.AdamwBranch.nD Cert.AdamwBranch.τ).loc Cert.AdamwBranch.main_arg1)
      ∧ r.2.mem ((c.tc : Thread Cert.AdamwBranch.nD Cert.AdamwBranch.τ).loc Cert.AdamwBranch.main_arg2) = m ((c.tc : Thread Cert.AdamwBranch.nD Cert.AdamwBranch.τ).loc Cert.AdamwBranch.main_arg2)
      ∧ r.2.mem ((c.tc : Thread Cert.AdamwBranch.nD Cert.AdamwBranch.τ).loc Cert.AdamwBranch.main_arg3) = m ((c.tc : Thread Cert.AdamwBranch.nD Cert.AdamwBranch.τ).loc Cert.AdamwBranch.main_arg3)
      ∧ r.2.mem ((c.tc : Thread Cert.AdamwBranch.nD Cert.AdamwBranch.τ).loc Cert.AdamwBranch.main_arg4) = m ((c.tc : Thread Cert.AdamwBranch.nD Cert.AdamwBranch.τ).loc Cert.AdamwBranch.main_arg4))
      ∧ r.2.sem = fun _ => 0)

def quiescent_AdamwBranchIdeal [hAdamwBranchIdeal : Cert.AdamwBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg), Pre_AdamwBranchIdeal m →
    θ_run (Cert.AdamwBranchIdeal.defs (F := Ideal)) (onTc (τ := Cert.AdamwBranchIdeal.τ) (Cert.AdamwBranchIdeal.main (F := Ideal))) ⟨m, fun _ => 0, g⟩ (fun r => (∀ c : Dev Cert.AdamwBranchIdeal.nD,
      r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
      ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
      ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
      ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3)
      ∧ r.2.mem ((c.tc : Thread Cert.AdamwBranchIdeal.nD Cert.AdamwBranchIdeal.τ).loc Cert.AdamwBranchIdeal.main_arg4) = m ((c.tc : Thread Cert.AdamwBranchIdeal.nD Cert.AdamwBranchIdeal.τ).loc Cert.AdamwBranchIdeal.main_arg4))
      ∧ r.2.sem = fun _ => 0)

def quiescent_AdamwBranchReferenceIdeal [hAdamwBranchReferenceIdeal : Cert.AdamwBranchReferenceIdeal.Facts] : Prop :=
  ∀ (m : (ℓ : Loc Cert.AdamwBranchReferenceIdeal.nD Cert.AdamwBranchReferenceIdeal.τ Cert.AdamwBranchReferenceIdeal.sig) → Buf (Elt Ideal) ℓ) (g : Dev Cert.AdamwBranchReferenceIdeal.nD → PrngReg), Pre_AdamwBranchReferenceIdeal m →
    θ_run (Cert.AdamwBranchReferenceIdeal.defs (F := Ideal)) (onTc (τ := Cert.AdamwBranchReferenceIdeal.τ) (Cert.AdamwBranchReferenceIdeal.main (F := Ideal))) ⟨m, fun _ => 0, g⟩ (fun r => (∀ c : Dev Cert.AdamwBranchReferenceIdeal.nD,
      r.2.mem ((c.tc : Thread Cert.AdamwBranchReferenceIdeal.nD Cert.AdamwBranchReferenceIdeal.τ).loc Cert.AdamwBranchReferenceIdeal.main_arg0) = m ((c.tc : Thread Cert.AdamwBranchReferenceIdeal.nD Cert.AdamwBranchReferenceIdeal.τ).loc Cert.AdamwBranchReferenceIdeal.main_arg0)
      ∧ r.2.mem ((c.tc : Thread Cert.AdamwBranchReferenceIdeal.nD Cert.AdamwBranchReferenceIdeal.τ).loc Cert.AdamwBranchReferenceIdeal.main_arg1) = m ((c.tc : Thread Cert.AdamwBranchReferenceIdeal.nD Cert.AdamwBranchReferenceIdeal.τ).loc Cert.AdamwBranchReferenceIdeal.main_arg1)
      ∧ r.2.mem ((c.tc : Thread Cert.AdamwBranchReferenceIdeal.nD Cert.AdamwBranchReferenceIdeal.τ).loc Cert.AdamwBranchReferenceIdeal.main_arg2) = m ((c.tc : Thread Cert.AdamwBranchReferenceIdeal.nD Cert.AdamwBranchReferenceIdeal.τ).loc Cert.AdamwBranchReferenceIdeal.main_arg2)
      ∧ r.2.mem ((c.tc : Thread Cert.AdamwBranchReferenceIdeal.nD Cert.AdamwBranchReferenceIdeal.τ).loc Cert.AdamwBranchReferenceIdeal.main_arg3) = m ((c.tc : Thread Cert.AdamwBranchReferenceIdeal.nD Cert.AdamwBranchReferenceIdeal.τ).loc Cert.AdamwBranchReferenceIdeal.main_arg3)
      ∧ r.2.mem ((c.tc : Thread Cert.AdamwBranchReferenceIdeal.nD Cert.AdamwBranchReferenceIdeal.τ).loc Cert.AdamwBranchReferenceIdeal.main_arg4) = m ((c.tc : Thread Cert.AdamwBranchReferenceIdeal.nD Cert.AdamwBranchReferenceIdeal.τ).loc Cert.AdamwBranchReferenceIdeal.main_arg4))
      ∧ r.2.sem = fun _ => 0)

def quiescent_AdamwUp [hAdamwUp : Cert.AdamwUp.Facts] : Prop :=
  ∀ (m : (ℓ : Loc Cert.AdamwUp.nD Cert.AdamwUp.τ Cert.AdamwUp.sig) → Buf (Elt Bits) ℓ) (g : Dev Cert.AdamwUp.nD → PrngReg), Pre_AdamwUp m →
    θ_run (Cert.AdamwUp.defs (F := Bits)) (onTc (τ := Cert.AdamwUp.τ) (Cert.AdamwUp.main (F := Bits))) ⟨m, fun _ => 0, g⟩ (fun r => (∀ c : Dev Cert.AdamwUp.nD,
      r.2.mem ((c.tc : Thread Cert.AdamwUp.nD Cert.AdamwUp.τ).loc Cert.AdamwUp.main_arg0) = m ((c.tc : Thread Cert.AdamwUp.nD Cert.AdamwUp.τ).loc Cert.AdamwUp.main_arg0)
      ∧ r.2.mem ((c.tc : Thread Cert.AdamwUp.nD Cert.AdamwUp.τ).loc Cert.AdamwUp.main_arg1) = m ((c.tc : Thread Cert.AdamwUp.nD Cert.AdamwUp.τ).loc Cert.AdamwUp.main_arg1)
      ∧ r.2.mem ((c.tc : Thread Cert.AdamwUp.nD Cert.AdamwUp.τ).loc Cert.AdamwUp.main_arg2) = m ((c.tc : Thread Cert.AdamwUp.nD Cert.AdamwUp.τ).loc Cert.AdamwUp.main_arg2)
      ∧ r.2.mem ((c.tc : Thread Cert.AdamwUp.nD Cert.AdamwUp.τ).loc Cert.AdamwUp.main_arg3) = m ((c.tc : Thread Cert.AdamwUp.nD Cert.AdamwUp.τ).loc Cert.AdamwUp.main_arg3)
      ∧ r.2.mem ((c.tc : Thread Cert.AdamwUp.nD Cert.AdamwUp.τ).loc Cert.AdamwUp.main_arg4) = m ((c.tc : Thread Cert.AdamwUp.nD Cert.AdamwUp.τ).loc Cert.AdamwUp.main_arg4))
      ∧ r.2.sem = fun _ => 0)

def quiescent_AdamwUpIdeal [hAdamwUpIdeal : Cert.AdamwUpIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg), Pre_AdamwUpIdeal m →
    θ_run (Cert.AdamwUpIdeal.defs (F := Ideal)) (onTc (τ := Cert.AdamwUpIdeal.τ) (Cert.AdamwUpIdeal.main (F := Ideal))) ⟨m, fun _ => 0, g⟩ (fun r => (∀ c : Dev Cert.AdamwUpIdeal.nD,
      r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
      ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
      ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
      ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
      ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4))
      ∧ r.2.sem = fun _ => 0)

def quiescent_AdamwUpReferenceIdeal [hAdamwUpReferenceIdeal : Cert.AdamwUpReferenceIdeal.Facts] : Prop :=
  ∀ (m : (ℓ : Loc Cert.AdamwUpReferenceIdeal.nD Cert.AdamwUpReferenceIdeal.τ Cert.AdamwUpReferenceIdeal.sig) → Buf (Elt Ideal) ℓ) (g : Dev Cert.AdamwUpReferenceIdeal.nD → PrngReg), Pre_AdamwUpReferenceIdeal m →
    θ_run (Cert.AdamwUpReferenceIdeal.defs (F := Ideal)) (onTc (τ := Cert.AdamwUpReferenceIdeal.τ) (Cert.AdamwUpReferenceIdeal.main (F := Ideal))) ⟨m, fun _ => 0, g⟩ (fun r => (∀ c : Dev Cert.AdamwUpReferenceIdeal.nD,
      r.2.mem ((c.tc : Thread Cert.AdamwUpReferenceIdeal.nD Cert.AdamwUpReferenceIdeal.τ).loc Cert.AdamwUpReferenceIdeal.main_arg0) = m ((c.tc : Thread Cert.AdamwUpReferenceIdeal.nD Cert.AdamwUpReferenceIdeal.τ).loc Cert.AdamwUpReferenceIdeal.main_arg0)
      ∧ r.2.mem ((c.tc : Thread Cert.AdamwUpReferenceIdeal.nD Cert.AdamwUpReferenceIdeal.τ).loc Cert.AdamwUpReferenceIdeal.main_arg1) = m ((c.tc : Thread Cert.AdamwUpReferenceIdeal.nD Cert.AdamwUpReferenceIdeal.τ).loc Cert.AdamwUpReferenceIdeal.main_arg1)
      ∧ r.2.mem ((c.tc : Thread Cert.AdamwUpReferenceIdeal.nD Cert.AdamwUpReferenceIdeal.τ).loc Cert.AdamwUpReferenceIdeal.main_arg2) = m ((c.tc : Thread Cert.AdamwUpReferenceIdeal.nD Cert.AdamwUpReferenceIdeal.τ).loc Cert.AdamwUpReferenceIdeal.main_arg2)
      ∧ r.2.mem ((c.tc : Thread Cert.AdamwUpReferenceIdeal.nD Cert.AdamwUpReferenceIdeal.τ).loc Cert.AdamwUpReferenceIdeal.main_arg3) = m ((c.tc : Thread Cert.AdamwUpReferenceIdeal.nD Cert.AdamwUpReferenceIdeal.τ).loc Cert.AdamwUpReferenceIdeal.main_arg3)
      ∧ r.2.mem ((c.tc : Thread Cert.AdamwUpReferenceIdeal.nD Cert.AdamwUpReferenceIdeal.τ).loc Cert.AdamwUpReferenceIdeal.main_arg4) = m ((c.tc : Thread Cert.AdamwUpReferenceIdeal.nD Cert.AdamwUpReferenceIdeal.τ).loc Cert.AdamwUpReferenceIdeal.main_arg4))
      ∧ r.2.sem = fun _ => 0)

def preserves_Kernel_KernelIdeal : Prop :=
  IdealRules.named_const.Statement Cert.KernelIdeal.κ "gelu_c" .f32 0x3D372713#32 ((8943 / 200000 : ℝ) : EReal)
  ∧ IdealRules.named_const.Statement Cert.KernelIdeal.κ "gelu_c3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_v13_4) = v4 c
          ∧ r.2.mem ((c.tc : Thread Cert.KernelIdeal.nD Cert.KernelIdeal.τ).loc Cert.KernelIdeal.main_v13_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v143) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InDgrad_InDgradIdeal : Prop :=
  True

def algebraic_InDgradIdeal_InDgradReferenceIdeal [hInDgradIdeal : Cert.InDgradIdeal.Facts] [hInDgradReferenceIdeal : Cert.InDgradReferenceIdeal.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.InDgradReferenceIdeal.nD Cert.InDgradReferenceIdeal.τ Cert.InDgradReferenceIdeal.sig) → Buf (Elt Ideal) ℓ) (g' : Dev Cert.InDgradReferenceIdeal.nD → PrngReg), Pre_InDgradIdeal m →
    (∀ c : Dev Cert.InDgradIdeal.nD,
      m' ((c.tc : Thread Cert.InDgradReferenceIdeal.nD Cert.InDgradReferenceIdeal.τ).loc Cert.InDgradReferenceIdeal.main_arg0) = m ((c.tc : Thread Cert.InDgradIdeal.nD Cert.InDgradIdeal.τ).loc Cert.InDgradIdeal.main_arg0)
      ∧ m' ((c.tc : Thread Cert.InDgradReferenceIdeal.nD Cert.InDgradReferenceIdeal.τ).loc Cert.InDgradReferenceIdeal.main_arg1) = m ((c.tc : Thread Cert.InDgradIdeal.nD Cert.InDgradIdeal.τ).loc Cert.InDgradIdeal.main_arg1)
      ∧ m' ((c.tc : Thread Cert.InDgradReferenceIdeal.nD Cert.InDgradReferenceIdeal.τ).loc Cert.InDgradReferenceIdeal.main_arg2) = m ((c.tc : Thread Cert.InDgradIdeal.nD Cert.InDgradIdeal.τ).loc Cert.InDgradIdeal.main_arg2)
      ∧ m' ((c.tc : Thread Cert.InDgradReferenceIdeal.nD Cert.InDgradReferenceIdeal.τ).loc Cert.InDgradReferenceIdeal.main_arg3) = m ((c.tc : Thread Cert.InDgradIdeal.nD Cert.InDgradIdeal.τ).loc Cert.InDgradIdeal.main_arg3)
      ∧ m' ((c.tc : Thread Cert.InDgradReferenceIdeal.nD Cert.InDgradReferenceIdeal.τ).loc Cert.InDgradReferenceIdeal.main_arg4) = m ((c.tc : Thread Cert.InDgradIdeal.nD Cert.InDgradIdeal.τ).loc Cert.InDgradIdeal.main_arg4)
      ∧ m' ((c.tc : Thread Cert.InDgradReferenceIdeal.nD Cert.InDgradReferenceIdeal.τ).loc Cert.InDgradReferenceIdeal.main_arg5) = m ((c.tc : Thread Cert.InDgradIdeal.nD Cert.InDgradIdeal.τ).loc Cert.InDgradIdeal.main_arg5)
      ∧ m' ((c.tc : Thread Cert.InDgradReferenceIdeal.nD Cert.InDgradReferenceIdeal.τ).loc Cert.InDgradReferenceIdeal.main_arg6) = m ((c.tc : Thread Cert.InDgradIdeal.nD Cert.InDgradIdeal.τ).loc Cert.InDgradIdeal.main_arg6)) →
    ∃ (v0 : (c : Dev Cert.InDgradIdeal.nD) → Buf (Elt Ideal) ((c.tc : Thread Cert.InDgradIdeal.nD Cert.InDgradIdeal.τ).loc Cert.InDgradIdeal.main_v8)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v8) = v0 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
          ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
          ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
          ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4)
          ∧ r.2.mem ((c.tc : Thread Cert.InDgradIdeal.nD Cert.InDgradIdeal.τ).loc Cert.InDgradIdeal.main_arg5) = m ((c.tc : Thread Cert.InDgradIdeal.nD Cert.InDgradIdeal.τ).loc Cert.InDgradIdeal.main_arg5)
          ∧ r.2.mem ((c.tc : Thread Cert.InDgradIdeal.nD Cert.InDgradIdeal.τ).loc Cert.InDgradIdeal.main_arg6) = m ((c.tc : Thread Cert.InDgradIdeal.nD Cert.InDgradIdeal.τ).loc Cert.InDgradIdeal.main_arg6))
      ∧ θ_run (Cert.InDgradReferenceIdeal.defs (F := Ideal)) (onTc (τ := Cert.InDgradReferenceIdeal.τ) (Cert.InDgradReferenceIdeal.main (F := Ideal))) ⟨m', fun _ => 0, g'⟩ (fun r => ∀ c : Dev Cert.InDgradReferenceIdeal.nD,
          r.2.mem ((c.tc : Thread Cert.InDgradReferenceIdeal.nD Cert.InDgradReferenceIdeal.τ).loc Cert.InDgradReferenceIdeal.main_v7) = v0 c
          ∧ r.2.mem ((c.tc : Thread Cert.InDgradReferenceIdeal.nD Cert.InDgradReferenceIdeal.τ).loc Cert.InDgradReferenceIdeal.main_arg0) = m' ((c.tc : Thread Cert.InDgradReferenceIdeal.nD Cert.InDgradReferenceIdeal.τ).loc Cert.InDgradReferenceIdeal.main_arg0)
          ∧ r.2.mem ((c.tc : Thread Cert.InDgradReferenceIdeal.nD Cert.InDgradReferenceIdeal.τ).loc Cert.InDgradReferenceIdeal.main_arg1) = m' ((c.tc : Thread Cert.InDgradReferenceIdeal.nD Cert.InDgradReferenceIdeal.τ).loc Cert.InDgradReferenceIdeal.main_arg1)
          ∧ r.2.mem ((c.tc : Thread Cert.InDgradReferenceIdeal.nD Cert.InDgradReferenceIdeal.τ).loc Cert.InDgradReferenceIdeal.main_arg2) = m' ((c.tc : Thread Cert.InDgradReferenceIdeal.nD Cert.InDgradReferenceIdeal.τ).loc Cert.InDgradReferenceIdeal.main_arg2)
          ∧ r.2.mem ((c.tc : Thread Cert.InDgradReferenceIdeal.nD Cert.InDgradReferenceIdeal.τ).loc Cert.InDgradReferenceIdeal.main_arg3) = m' ((c.tc : Thread Cert.InDgradReferenceIdeal.nD Cert.InDgradReferenceIdeal.τ).loc Cert.InDgradReferenceIdeal.main_arg3)
          ∧ r.2.mem ((c.tc : Thread Cert.InDgradReferenceIdeal.nD Cert.InDgradReferenceIdeal.τ).loc Cert.InDgradReferenceIdeal.main_arg4) = m' ((c.tc : Thread Cert.InDgradReferenceIdeal.nD Cert.InDgradReferenceIdeal.τ).loc Cert.InDgradReferenceIdeal.main_arg4)
          ∧ r.2.mem ((c.tc : Thread Cert.InDgradReferenceIdeal.nD Cert.InDgradReferenceIdeal.τ).loc Cert.InDgradReferenceIdeal.main_arg5) = m' ((c.tc : Thread Cert.InDgradReferenceIdeal.nD Cert.InDgradReferenceIdeal.τ).loc Cert.InDgradReferenceIdeal.main_arg5)
          ∧ r.2.mem ((c.tc : Thread Cert.InDgradReferenceIdeal.nD Cert.InDgradReferenceIdeal.τ).loc Cert.InDgradReferenceIdeal.main_arg6) = m' ((c.tc : Thread Cert.InDgradReferenceIdeal.nD Cert.InDgradReferenceIdeal.τ).loc Cert.InDgradReferenceIdeal.main_arg6))

def preserves_UpDgrad_UpDgradIdeal : Prop :=
  True

def algebraic_UpDgradIdeal_UpDgradReferenceIdeal [hUpDgradIdeal : Cert.UpDgradIdeal.Facts] [hUpDgradReferenceIdeal : Cert.UpDgradReferenceIdeal.Facts] : Prop :=
  ∀ (m : (ℓ : Loc Cert.UpDgradIdeal.nD Cert.UpDgradIdeal.τ Cert.UpDgradIdeal.sig) → Buf (Elt Ideal) ℓ) (g : Dev Cert.UpDgradIdeal.nD → PrngReg)
    (m' : (ℓ : Loc Cert.UpDgradReferenceIdeal.nD Cert.UpDgradReferenceIdeal.τ Cert.UpDgradReferenceIdeal.sig) → Buf (Elt Ideal) ℓ) (g' : Dev Cert.UpDgradReferenceIdeal.nD → PrngReg), Pre_UpDgradIdeal m →
    (∀ c : Dev Cert.UpDgradIdeal.nD,
      m' ((c.tc : Thread Cert.UpDgradReferenceIdeal.nD Cert.UpDgradReferenceIdeal.τ).loc Cert.UpDgradReferenceIdeal.main_arg0) = m ((c.tc : Thread Cert.UpDgradIdeal.nD Cert.UpDgradIdeal.τ).loc Cert.UpDgradIdeal.main_arg0)
      ∧ m' ((c.tc : Thread Cert.UpDgradReferenceIdeal.nD Cert.UpDgradReferenceIdeal.τ).loc Cert.UpDgradReferenceIdeal.main_arg1) = m ((c.tc : Thread Cert.UpDgradIdeal.nD Cert.UpDgradIdeal.τ).loc Cert.UpDgradIdeal.main_arg1)
      ∧ m' ((c.tc : Thread Cert.UpDgradReferenceIdeal.nD Cert.UpDgradReferenceIdeal.τ).loc Cert.UpDgradReferenceIdeal.main_arg2) = m ((c.tc : Thread Cert.UpDgradIdeal.nD Cert.UpDgradIdeal.τ).loc Cert.UpDgradIdeal.main_arg2)) →
    ∃ (v0 : (c : Dev Cert.UpDgradIdeal.nD) → Buf (Elt Ideal) ((c.tc : Thread Cert.UpDgradIdeal.nD Cert.UpDgradIdeal.τ).loc Cert.UpDgradIdeal.main_v2)),
      θ_run (Cert.UpDgradIdeal.defs (F := Ideal)) (onTc (τ := Cert.UpDgradIdeal.τ) (Cert.UpDgradIdeal.main (F := Ideal))) ⟨m, fun _ => 0, g⟩ (fun r => ∀ c : Dev Cert.UpDgradIdeal.nD,
          r.2.mem ((c.tc : Thread Cert.UpDgradIdeal.nD Cert.UpDgradIdeal.τ).loc Cert.UpDgradIdeal.main_v2) = v0 c
          ∧ r.2.mem ((c.tc : Thread Cert.UpDgradIdeal.nD Cert.UpDgradIdeal.τ).loc Cert.UpDgradIdeal.main_arg0) = m ((c.tc : Thread Cert.UpDgradIdeal.nD Cert.UpDgradIdeal.τ).loc Cert.UpDgradIdeal.main_arg0)
          ∧ r.2.mem ((c.tc : Thread Cert.UpDgradIdeal.nD Cert.UpDgradIdeal.τ).loc Cert.UpDgradIdeal.main_arg1) = m ((c.tc : Thread Cert.UpDgradIdeal.nD Cert.UpDgradIdeal.τ).loc Cert.UpDgradIdeal.main_arg1)
          ∧ r.2.mem ((c.tc : Thread Cert.UpDgradIdeal.nD Cert.UpDgradIdeal.τ).loc Cert.UpDgradIdeal.main_arg2) = m ((c.tc : Thread Cert.UpDgradIdeal.nD Cert.UpDgradIdeal.τ).loc Cert.UpDgradIdeal.main_arg2))
      ∧ θ_run (Cert.UpDgradReferenceIdeal.defs (F := Ideal)) (onTc (τ := Cert.UpDgradReferenceIdeal.τ) (Cert.UpDgradReferenceIdeal.main (F := Ideal))) ⟨m', fun _ => 0, g'⟩ (fun r => ∀ c : Dev Cert.UpDgradReferenceIdeal.nD,
          r.2.mem ((c.tc : Thread Cert.UpDgradReferenceIdeal.nD Cert.UpDgradReferenceIdeal.τ).loc Cert.UpDgradReferenceIdeal.main_v6) = v0 c
          ∧ r.2.mem ((c.tc : Thread Cert.UpDgradReferenceIdeal.nD Cert.UpDgradReferenceIdeal.τ).loc Cert.UpDgradReferenceIdeal.main_arg0) = m' ((c.tc : Thread Cert.UpDgradReferenceIdeal.nD Cert.UpDgradReferenceIdeal.τ).loc Cert.UpDgradReferenceIdeal.main_arg0)
          ∧ r.2.mem ((c.tc : Thread Cert.UpDgradReferenceIdeal.nD Cert.UpDgradReferenceIdeal.τ).loc Cert.UpDgradReferenceIdeal.main_arg1) = m' ((c.tc : Thread Cert.UpDgradReferenceIdeal.nD Cert.UpDgradReferenceIdeal.τ).loc Cert.UpDgradReferenceIdeal.main_arg1)
          ∧ r.2.mem ((c.tc : Thread Cert.UpDgradReferenceIdeal.nD Cert.UpDgradReferenceIdeal.τ).loc Cert.UpDgradReferenceIdeal.main_arg2) = m' ((c.tc : Thread Cert.UpDgradReferenceIdeal.nD Cert.UpDgradReferenceIdeal.τ).loc Cert.UpDgradReferenceIdeal.main_arg2))

def preserves_DownDgrad_DownDgradIdeal : Prop :=
  True

def algebraic_DownDgradIdeal_DownDgradReferenceIdeal [hDownDgradIdeal : Cert.DownDgradIdeal.Facts] [hDownDgradReferenceIdeal : Cert.DownDgradReferenceIdeal.Facts] : Prop :=
  ∀ (m : (ℓ : Loc Cert.DownDgradIdeal.nD Cert.DownDgradIdeal.τ Cert.DownDgradIdeal.sig) → Buf (Elt Ideal) ℓ) (g : Dev Cert.DownDgradIdeal.nD → PrngReg)
    (m' : (ℓ : Loc Cert.DownDgradReferenceIdeal.nD Cert.DownDgradReferenceIdeal.τ Cert.DownDgradReferenceIdeal.sig) → Buf (Elt Ideal) ℓ) (g' : Dev Cert.DownDgradReferenceIdeal.nD → PrngReg), Pre_DownDgradIdeal m →
    (∀ c : Dev Cert.DownDgradIdeal.nD,
      m' ((c.tc : Thread Cert.DownDgradReferenceIdeal.nD Cert.DownDgradReferenceIdeal.τ).loc Cert.DownDgradReferenceIdeal.main_arg0) = m ((c.tc : Thread Cert.DownDgradIdeal.nD Cert.DownDgradIdeal.τ).loc Cert.DownDgradIdeal.main_arg0)
      ∧ m' ((c.tc : Thread Cert.DownDgradReferenceIdeal.nD Cert.DownDgradReferenceIdeal.τ).loc Cert.DownDgradReferenceIdeal.main_arg1) = m ((c.tc : Thread Cert.DownDgradIdeal.nD Cert.DownDgradIdeal.τ).loc Cert.DownDgradIdeal.main_arg1)) →
    ∃ (v0 : (c : Dev Cert.DownDgradIdeal.nD) → Buf (Elt Ideal) ((c.tc : Thread Cert.DownDgradIdeal.nD Cert.DownDgradIdeal.τ).loc Cert.DownDgradIdeal.main_v0)),
      θ_run (Cert.DownDgradIdeal.defs (F := Ideal)) (onTc (τ := Cert.DownDgradIdeal.τ) (Cert.DownDgradIdeal.main (F := Ideal))) ⟨m, fun _ => 0, g⟩ (fun r => ∀ c : Dev Cert.DownDgradIdeal.nD,
          r.2.mem ((c.tc : Thread Cert.DownDgradIdeal.nD Cert.DownDgradIdeal.τ).loc Cert.DownDgradIdeal.main_v0) = v0 c
          ∧ r.2.mem ((c.tc : Thread Cert.DownDgradIdeal.nD Cert.DownDgradIdeal.τ).loc Cert.DownDgradIdeal.main_arg0) = m ((c.tc : Thread Cert.DownDgradIdeal.nD Cert.DownDgradIdeal.τ).loc Cert.DownDgradIdeal.main_arg0)
          ∧ r.2.mem ((c.tc : Thread Cert.DownDgradIdeal.nD Cert.DownDgradIdeal.τ).loc Cert.DownDgradIdeal.main_arg1) = m ((c.tc : Thread Cert.DownDgradIdeal.nD Cert.DownDgradIdeal.τ).loc Cert.DownDgradIdeal.main_arg1))
      ∧ θ_run (Cert.DownDgradReferenceIdeal.defs (F := Ideal)) (onTc (τ := Cert.DownDgradReferenceIdeal.τ) (Cert.DownDgradReferenceIdeal.main (F := Ideal))) ⟨m', fun _ => 0, g'⟩ (fun r => ∀ c : Dev Cert.DownDgradReferenceIdeal.nD,
          r.2.mem ((c.tc : Thread Cert.DownDgradReferenceIdeal.nD Cert.DownDgradReferenceIdeal.τ).loc Cert.DownDgradReferenceIdeal.main_v4) = v0 c
          ∧ r.2.mem ((c.tc : Thread Cert.DownDgradReferenceIdeal.nD Cert.DownDgradReferenceIdeal.τ).loc Cert.DownDgradReferenceIdeal.main_arg0) = m' ((c.tc : Thread Cert.DownDgradReferenceIdeal.nD Cert.DownDgradReferenceIdeal.τ).loc Cert.DownDgradReferenceIdeal.main_arg0)
          ∧ r.2.mem ((c.tc : Thread Cert.DownDgradReferenceIdeal.nD Cert.DownDgradReferenceIdeal.τ).loc Cert.DownDgradReferenceIdeal.main_arg1) = m' ((c.tc : Thread Cert.DownDgradReferenceIdeal.nD Cert.DownDgradReferenceIdeal.τ).loc Cert.DownDgradReferenceIdeal.main_arg1))

def preserves_DownWgrad_DownWgradIdeal : Prop :=
  True

def algebraic_DownWgradIdeal_DownWgradReferenceIdeal [hDownWgradIdeal : Cert.DownWgradIdeal.Facts] [hDownWgradReferenceIdeal : Cert.DownWgradReferenceIdeal.Facts] : Prop :=
  ∀ (m : (ℓ : Loc Cert.DownWgradIdeal.nD Cert.DownWgradIdeal.τ Cert.DownWgradIdeal.sig) → Buf (Elt Ideal) ℓ) (g : Dev Cert.DownWgradIdeal.nD → PrngReg)
    (m' : (ℓ : Loc Cert.DownWgradReferenceIdeal.nD Cert.DownWgradReferenceIdeal.τ Cert.DownWgradReferenceIdeal.sig) → Buf (Elt Ideal) ℓ) (g' : Dev Cert.DownWgradReferenceIdeal.nD → PrngReg), Pre_DownWgradIdeal m →
    (∀ c : Dev Cert.DownWgradIdeal.nD,
      m' ((c.tc : Thread Cert.DownWgradReferenceIdeal.nD Cert.DownWgradReferenceIdeal.τ).loc Cert.DownWgradReferenceIdeal.main_arg0) = m ((c.tc : Thread Cert.DownWgradIdeal.nD Cert.DownWgradIdeal.τ).loc Cert.DownWgradIdeal.main_arg0)
      ∧ m' ((c.tc : Thread Cert.DownWgradReferenceIdeal.nD Cert.DownWgradReferenceIdeal.τ).loc Cert.DownWgradReferenceIdeal.main_arg1) = m ((c.tc : Thread Cert.DownWgradIdeal.nD Cert.DownWgradIdeal.τ).loc Cert.DownWgradIdeal.main_arg1)) →
    ∃ (v0 : (c : Dev Cert.DownWgradIdeal.nD) → Buf (Elt Ideal) ((c.tc : Thread Cert.DownWgradIdeal.nD Cert.DownWgradIdeal.τ).loc Cert.DownWgradIdeal.main_v0)),
      θ_run (Cert.DownWgradIdeal.defs (F := Ideal)) (onTc (τ := Cert.DownWgradIdeal.τ) (Cert.DownWgradIdeal.main (F := Ideal))) ⟨m, fun _ => 0, g⟩ (fun r => ∀ c : Dev Cert.DownWgradIdeal.nD,
          r.2.mem ((c.tc : Thread Cert.DownWgradIdeal.nD Cert.DownWgradIdeal.τ).loc Cert.DownWgradIdeal.main_v0) = v0 c
          ∧ r.2.mem ((c.tc : Thread Cert.DownWgradIdeal.nD Cert.DownWgradIdeal.τ).loc Cert.DownWgradIdeal.main_arg0) = m ((c.tc : Thread Cert.DownWgradIdeal.nD Cert.DownWgradIdeal.τ).loc Cert.DownWgradIdeal.main_arg0)
          ∧ r.2.mem ((c.tc : Thread Cert.DownWgradIdeal.nD Cert.DownWgradIdeal.τ).loc Cert.DownWgradIdeal.main_arg1) = m ((c.tc : Thread Cert.DownWgradIdeal.nD Cert.DownWgradIdeal.τ).loc Cert.DownWgradIdeal.main_arg1))
      ∧ θ_run (Cert.DownWgradReferenceIdeal.defs (F := Ideal)) (onTc (τ := Cert.DownWgradReferenceIdeal.τ) (Cert.DownWgradReferenceIdeal.main (F := Ideal))) ⟨m', fun _ => 0, g'⟩ (fun r => ∀ c : Dev Cert.DownWgradReferenceIdeal.nD,
          r.2.mem ((c.tc : Thread Cert.DownWgradReferenceIdeal.nD Cert.DownWgradReferenceIdeal.τ).loc Cert.DownWgradReferenceIdeal.main_v6) = v0 c
          ∧ r.2.mem ((c.tc : Thread Cert.DownWgradReferenceIdeal.nD Cert.DownWgradReferenceIdeal.τ).loc Cert.DownWgradReferenceIdeal.main_arg0) = m' ((c.tc : Thread Cert.DownWgradReferenceIdeal.nD Cert.DownWgradReferenceIdeal.τ).loc Cert.DownWgradReferenceIdeal.main_arg0)
          ∧ r.2.mem ((c.tc : Thread Cert.DownWgradReferenceIdeal.nD Cert.DownWgradReferenceIdeal.τ).loc Cert.DownWgradReferenceIdeal.main_arg1) = m' ((c.tc : Thread Cert.DownWgradReferenceIdeal.nD Cert.DownWgradReferenceIdeal.τ).loc Cert.DownWgradReferenceIdeal.main_arg1))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)) →
    ∃ (v0 : (c : Dev Cert.UpProjIdeal.nD) → Buf (Elt Ideal) ((c.tc : Thread Cert.UpProjIdeal.nD Cert.UpProjIdeal.τ).loc Cert.UpProjIdeal.main_v2)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v2) = v0 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v3) = v0 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1))

def preserves_DownProj_DownProjIdeal : Prop :=
  True

def algebraic_DownProjIdeal_DownProjReferenceIdeal [hDownProjIdeal : Cert.DownProjIdeal.Facts] [hDownProjReferenceIdeal : Cert.DownProjReferenceIdeal.Facts] : Prop :=
  ∀ (m : (ℓ : Loc Cert.DownProjIdeal.nD Cert.DownProjIdeal.τ Cert.DownProjIdeal.sig) → Buf (Elt Ideal) ℓ) (g : Dev Cert.DownProjIdeal.nD → PrngReg)
    (m' : (ℓ : Loc Cert.DownProjReferenceIdeal.nD Cert.DownProjReferenceIdeal.τ Cert.DownProjReferenceIdeal.sig) → Buf (Elt Ideal) ℓ) (g' : Dev Cert.DownProjReferenceIdeal.nD → PrngReg), Pre_DownProjIdeal m →
    (∀ c : Dev Cert.DownProjIdeal.nD,
      m' ((c.tc : Thread Cert.DownProjReferenceIdeal.nD Cert.DownProjReferenceIdeal.τ).loc Cert.DownProjReferenceIdeal.main_arg0) = m ((c.tc : Thread Cert.DownProjIdeal.nD Cert.DownProjIdeal.τ).loc Cert.DownProjIdeal.main_arg0)
      ∧ m' ((c.tc : Thread Cert.DownProjReferenceIdeal.nD Cert.DownProjReferenceIdeal.τ).loc Cert.DownProjReferenceIdeal.main_arg1) = m ((c.tc : Thread Cert.DownProjIdeal.nD Cert.DownProjIdeal.τ).loc Cert.DownProjIdeal.main_arg1)
      ∧ m' ((c.tc : Thread Cert.DownProjReferenceIdeal.nD Cert.DownProjReferenceIdeal.τ).loc Cert.DownProjReferenceIdeal.main_arg2) = m ((c.tc : Thread Cert.DownProjIdeal.nD Cert.DownProjIdeal.τ).loc Cert.DownProjIdeal.main_arg2)) →
    ∃ (v0 : (c : Dev Cert.DownProjIdeal.nD) → Buf (Elt Ideal) ((c.tc : Thread Cert.DownProjIdeal.nD Cert.DownProjIdeal.τ).loc Cert.DownProjIdeal.main_v0)),
      θ_run (Cert.DownProjIdeal.defs (F := Ideal)) (onTc (τ := Cert.DownProjIdeal.τ) (Cert.DownProjIdeal.main (F := Ideal))) ⟨m, fun _ => 0, g⟩ (fun r => ∀ c : Dev Cert.DownProjIdeal.nD,
          r.2.mem ((c.tc : Thread Cert.DownProjIdeal.nD Cert.DownProjIdeal.τ).loc Cert.DownProjIdeal.main_v0) = v0 c
          ∧ r.2.mem ((c.tc : Thread Cert.DownProjIdeal.nD Cert.DownProjIdeal.τ).loc Cert.DownProjIdeal.main_arg0) = m ((c.tc : Thread Cert.DownProjIdeal.nD Cert.DownProjIdeal.τ).loc Cert.DownProjIdeal.main_arg0)
          ∧ r.2.mem ((c.tc : Thread Cert.DownProjIdeal.nD Cert.DownProjIdeal.τ).loc Cert.DownProjIdeal.main_arg1) = m ((c.tc : Thread Cert.DownProjIdeal.nD Cert.DownProjIdeal.τ).loc Cert.DownProjIdeal.main_arg1)
          ∧ r.2.mem ((c.tc : Thread Cert.DownProjIdeal.nD Cert.DownProjIdeal.τ).loc Cert.DownProjIdeal.main_arg2) = m ((c.tc : Thread Cert.DownProjIdeal.nD Cert.DownProjIdeal.τ).loc Cert.DownProjIdeal.main_arg2))
      ∧ θ_run (Cert.DownProjReferenceIdeal.defs (F := Ideal)) (onTc (τ := Cert.DownProjReferenceIdeal.τ) (Cert.DownProjReferenceIdeal.main (F := Ideal))) ⟨m', fun _ => 0, g'⟩ (fun r => ∀ c : Dev Cert.DownProjReferenceIdeal.nD,
          r.2.mem ((c.tc : Thread Cert.DownProjReferenceIdeal.nD Cert.DownProjReferenceIdeal.τ).loc Cert.DownProjReferenceIdeal.main_v3) = v0 c
          ∧ r.2.mem ((c.tc : Thread Cert.DownProjReferenceIdeal.nD Cert.DownProjReferenceIdeal.τ).loc Cert.DownProjReferenceIdeal.main_arg0) = m' ((c.tc : Thread Cert.DownProjReferenceIdeal.nD Cert.DownProjReferenceIdeal.τ).loc Cert.DownProjReferenceIdeal.main_arg0)
          ∧ r.2.mem ((c.tc : Thread Cert.DownProjReferenceIdeal.nD Cert.DownProjReferenceIdeal.τ).loc Cert.DownProjReferenceIdeal.main_arg1) = m' ((c.tc : Thread Cert.DownProjReferenceIdeal.nD Cert.DownProjReferenceIdeal.τ).loc Cert.DownProjReferenceIdeal.main_arg1)
          ∧ r.2.mem ((c.tc : Thread Cert.DownProjReferenceIdeal.nD Cert.DownProjReferenceIdeal.τ).loc Cert.DownProjReferenceIdeal.main_arg2) = m' ((c.tc : Thread Cert.DownProjReferenceIdeal.nD Cert.DownProjReferenceIdeal.τ).loc Cert.DownProjReferenceIdeal.main_arg2))

def preserves_InXbc_InXbcIdeal : Prop :=
  True

def algebraic_InXbcIdeal_InXbcReferenceIdeal [hInXbcIdeal : Cert.InXbcIdeal.Facts] [hInXbcReferenceIdeal : Cert.InXbcReferenceIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcReferenceIdeal.nD Cert.InXbcReferenceIdeal.τ Cert.InXbcReferenceIdeal.sig) → Buf (Elt Ideal) ℓ) (g' : Dev Cert.InXbcReferenceIdeal.nD → PrngReg), Pre_InXbcIdeal m →
    (∀ c : Dev Cert.InXbcIdeal.nD,
      m' ((c.tc : Thread Cert.InXbcReferenceIdeal.nD Cert.InXbcReferenceIdeal.τ).loc Cert.InXbcReferenceIdeal.main_arg0) = m ((c.tc : Thread Cert.InXbcIdeal.nD Cert.InXbcIdeal.τ).loc Cert.InXbcIdeal.main_arg0)
      ∧ m' ((c.tc : Thread Cert.InXbcReferenceIdeal.nD Cert.InXbcReferenceIdeal.τ).loc Cert.InXbcReferenceIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcReferenceIdeal.defs (F := Ideal)) (onTc (τ := Cert.InXbcReferenceIdeal.τ) (Cert.InXbcReferenceIdeal.main (F := Ideal))) ⟨m', fun _ => 0, g'⟩ (fun r => ∀ c : Dev Cert.InXbcReferenceIdeal.nD,
          r.2.mem ((c.tc : Thread Cert.InXbcReferenceIdeal.nD Cert.InXbcReferenceIdeal.τ).loc Cert.InXbcReferenceIdeal.main_v2) = v0 c
          ∧ r.2.mem ((c.tc : Thread Cert.InXbcReferenceIdeal.nD Cert.InXbcReferenceIdeal.τ).loc Cert.InXbcReferenceIdeal.main_arg0) = m' ((c.tc : Thread Cert.InXbcReferenceIdeal.nD Cert.InXbcReferenceIdeal.τ).loc Cert.InXbcReferenceIdeal.main_arg0)
          ∧ r.2.mem ((c.tc : Thread Cert.InXbcReferenceIdeal.nD Cert.InXbcReferenceIdeal.τ).loc Cert.InXbcReferenceIdeal.main_arg1) = m' ((c.tc : Thread Cert.InXbcReferenceIdeal.nD Cert.InXbcReferenceIdeal.τ).loc Cert.InXbcReferenceIdeal.main_arg1))

def preserves_InZ_InZIdeal : Prop :=
  True

def algebraic_InZIdeal_InZReferenceIdeal [hInZIdeal : Cert.InZIdeal.Facts] [hInZReferenceIdeal : Cert.InZReferenceIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZReferenceIdeal.nD Cert.InZReferenceIdeal.τ Cert.InZReferenceIdeal.sig) → Buf (Elt Ideal) ℓ) (g' : Dev Cert.InZReferenceIdeal.nD → PrngReg), Pre_InZIdeal m →
    (∀ c : Dev Cert.InZIdeal.nD,
      m' ((c.tc : Thread Cert.InZReferenceIdeal.nD Cert.InZReferenceIdeal.τ).loc Cert.InZReferenceIdeal.main_arg0) = m ((c.tc : Thread Cert.InZIdeal.nD Cert.InZIdeal.τ).loc Cert.InZIdeal.main_arg0)
      ∧ m' ((c.tc : Thread Cert.InZReferenceIdeal.nD Cert.InZReferenceIdeal.τ).loc Cert.InZReferenceIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZReferenceIdeal.defs (F := Ideal)) (onTc (τ := Cert.InZReferenceIdeal.τ) (Cert.InZReferenceIdeal.main (F := Ideal))) ⟨m', fun _ => 0, g'⟩ (fun r => ∀ c : Dev Cert.InZReferenceIdeal.nD,
          r.2.mem ((c.tc : Thread Cert.InZReferenceIdeal.nD Cert.InZReferenceIdeal.τ).loc Cert.InZReferenceIdeal.main_v2) = v0 c
          ∧ r.2.mem ((c.tc : Thread Cert.InZReferenceIdeal.nD Cert.InZReferenceIdeal.τ).loc Cert.InZReferenceIdeal.main_arg0) = m' ((c.tc : Thread Cert.InZReferenceIdeal.nD Cert.InZReferenceIdeal.τ).loc Cert.InZReferenceIdeal.main_arg0)
          ∧ r.2.mem ((c.tc : Thread Cert.InZReferenceIdeal.nD Cert.InZReferenceIdeal.τ).loc Cert.InZReferenceIdeal.main_arg1) = m' ((c.tc : Thread Cert.InZReferenceIdeal.nD Cert.InZReferenceIdeal.τ).loc Cert.InZReferenceIdeal.main_arg1))

def preserves_InUv_InUvIdeal : Prop :=
  True

def algebraic_InUvIdeal_InUvReferenceIdeal [hInUvIdeal : Cert.InUvIdeal.Facts] [hInUvReferenceIdeal : Cert.InUvReferenceIdeal.Facts] : Prop :=
  ∀ (m : (ℓ : Loc Cert.InUvIdeal.nD Cert.InUvIdeal.τ Cert.InUvIdeal.sig) → Buf (Elt Ideal) ℓ) (g : Dev Cert.InUvIdeal.nD → PrngReg)
    (m' : (ℓ : Loc Cert.InUvReferenceIdeal.nD Cert.InUvReferenceIdeal.τ Cert.InUvReferenceIdeal.sig) → Buf (Elt Ideal) ℓ) (g' : Dev Cert.InUvReferenceIdeal.nD → PrngReg), Pre_InUvIdeal m →
    (∀ c : Dev Cert.InUvIdeal.nD,
      m' ((c.tc : Thread Cert.InUvReferenceIdeal.nD Cert.InUvReferenceIdeal.τ).loc Cert.InUvReferenceIdeal.main_arg0) = m ((c.tc : Thread Cert.InUvIdeal.nD Cert.InUvIdeal.τ).loc Cert.InUvIdeal.main_arg0)
      ∧ m' ((c.tc : Thread Cert.InUvReferenceIdeal.nD Cert.InUvReferenceIdeal.τ).loc Cert.InUvReferenceIdeal.main_arg1) = m ((c.tc : Thread Cert.InUvIdeal.nD Cert.InUvIdeal.τ).loc Cert.InUvIdeal.main_arg1)) →
    ∃ (v0 : (c : Dev Cert.InUvIdeal.nD) → Buf (Elt Ideal) ((c.tc : Thread Cert.InUvIdeal.nD Cert.InUvIdeal.τ).loc Cert.InUvIdeal.main_v0)),
      θ_run (Cert.InUvIdeal.defs (F := Ideal)) (onTc (τ := Cert.InUvIdeal.τ) (Cert.InUvIdeal.main (F := Ideal))) ⟨m, fun _ => 0, g⟩ (fun r => ∀ c : Dev Cert.InUvIdeal.nD,
          r.2.mem ((c.tc : Thread Cert.InUvIdeal.nD Cert.InUvIdeal.τ).loc Cert.InUvIdeal.main_v0) = v0 c
          ∧ r.2.mem ((c.tc : Thread Cert.InUvIdeal.nD Cert.InUvIdeal.τ).loc Cert.InUvIdeal.main_arg0) = m ((c.tc : Thread Cert.InUvIdeal.nD Cert.InUvIdeal.τ).loc Cert.InUvIdeal.main_arg0)
          ∧ r.2.mem ((c.tc : Thread Cert.InUvIdeal.nD Cert.InUvIdeal.τ).loc Cert.InUvIdeal.main_arg1) = m ((c.tc : Thread Cert.InUvIdeal.nD Cert.InUvIdeal.τ).loc Cert.InUvIdeal.main_arg1))
      ∧ θ_run (Cert.InUvReferenceIdeal.defs (F := Ideal)) (onTc (τ := Cert.InUvReferenceIdeal.τ) (Cert.InUvReferenceIdeal.main (F := Ideal))) ⟨m', fun _ => 0, g'⟩ (fun r => ∀ c : Dev Cert.InUvReferenceIdeal.nD,
          r.2.mem ((c.tc : Thread Cert.InUvReferenceIdeal.nD Cert.InUvReferenceIdeal.τ).loc Cert.InUvReferenceIdeal.main_v3) = v0 c
          ∧ r.2.mem ((c.tc : Thread Cert.InUvReferenceIdeal.nD Cert.InUvReferenceIdeal.τ).loc Cert.InUvReferenceIdeal.main_arg0) = m' ((c.tc : Thread Cert.InUvReferenceIdeal.nD Cert.InUvReferenceIdeal.τ).loc Cert.InUvReferenceIdeal.main_arg0)
          ∧ r.2.mem ((c.tc : Thread Cert.InUvReferenceIdeal.nD Cert.InUvReferenceIdeal.τ).loc Cert.InUvReferenceIdeal.main_arg1) = m' ((c.tc : Thread Cert.InUvReferenceIdeal.nD Cert.InUvReferenceIdeal.τ).loc Cert.InUvReferenceIdeal.main_arg1))

def preserves_BranchA_BranchAIdeal : Prop :=
  True

def algebraic_BranchAIdeal_BranchAReferenceIdeal [hBranchAIdeal : Cert.BranchAIdeal.Facts] [hBranchAReferenceIdeal : Cert.BranchAReferenceIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchAReferenceIdeal.nD Cert.BranchAReferenceIdeal.τ Cert.BranchAReferenceIdeal.sig) → Buf (Elt Ideal) ℓ) (g' : Dev Cert.BranchAReferenceIdeal.nD → PrngReg), Pre_BranchAIdeal m →
    (∀ c : Dev Cert.BranchAIdeal.nD,
      m' ((c.tc : Thread Cert.BranchAReferenceIdeal.nD Cert.BranchAReferenceIdeal.τ).loc Cert.BranchAReferenceIdeal.main_arg0) = m ((c.tc : Thread Cert.BranchAIdeal.nD Cert.BranchAIdeal.τ).loc Cert.BranchAIdeal.main_arg0)
      ∧ m' ((c.tc : Thread Cert.BranchAReferenceIdeal.nD Cert.BranchAReferenceIdeal.τ).loc Cert.BranchAReferenceIdeal.main_arg1) = m ((c.tc : Thread Cert.BranchAIdeal.nD Cert.BranchAIdeal.τ).loc Cert.BranchAIdeal.main_arg1)) →
    ∃ (v0 : (c : Dev Cert.BranchAIdeal.nD) → Buf (Elt Ideal) ((c.tc : Thread Cert.BranchAIdeal.nD Cert.BranchAIdeal.τ).loc Cert.BranchAIdeal.main_v0)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v0) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ θ_run (Cert.BranchAReferenceIdeal.defs (F := Ideal)) (onTc (τ := Cert.BranchAReferenceIdeal.τ) (Cert.BranchAReferenceIdeal.main (F := Ideal))) ⟨m', fun _ => 0, g'⟩ (fun r => ∀ c : Dev Cert.BranchAReferenceIdeal.nD,
          r.2.mem ((c.tc : Thread Cert.BranchAReferenceIdeal.nD Cert.BranchAReferenceIdeal.τ).loc Cert.BranchAReferenceIdeal.main_v3) = v0 c
          ∧ r.2.mem ((c.tc : Thread Cert.BranchAReferenceIdeal.nD Cert.BranchAReferenceIdeal.τ).loc Cert.BranchAReferenceIdeal.main_arg0) = m' ((c.tc : Thread Cert.BranchAReferenceIdeal.nD Cert.BranchAReferenceIdeal.τ).loc Cert.BranchAReferenceIdeal.main_arg0)
          ∧ r.2.mem ((c.tc : Thread Cert.BranchAReferenceIdeal.nD Cert.BranchAReferenceIdeal.τ).loc Cert.BranchAReferenceIdeal.main_arg1) = m' ((c.tc : Thread Cert.BranchAReferenceIdeal.nD Cert.BranchAReferenceIdeal.τ).loc Cert.BranchAReferenceIdeal.main_arg1))

def preserves_BranchB_BranchBIdeal : Prop :=
  True

def algebraic_BranchBIdeal_BranchBReferenceIdeal [hBranchBIdeal : Cert.BranchBIdeal.Facts] [hBranchBReferenceIdeal : Cert.BranchBReferenceIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBReferenceIdeal.nD Cert.BranchBReferenceIdeal.τ Cert.BranchBReferenceIdeal.sig) → Buf (Elt Ideal) ℓ) (g' : Dev Cert.BranchBReferenceIdeal.nD → PrngReg), Pre_BranchBIdeal m →
    (∀ c : Dev Cert.BranchBIdeal.nD,
      m' ((c.tc : Thread Cert.BranchBReferenceIdeal.nD Cert.BranchBReferenceIdeal.τ).loc Cert.BranchBReferenceIdeal.main_arg0) = m ((c.tc : Thread Cert.BranchBIdeal.nD Cert.BranchBIdeal.τ).loc Cert.BranchBIdeal.main_arg0)
      ∧ m' ((c.tc : Thread Cert.BranchBReferenceIdeal.nD Cert.BranchBReferenceIdeal.τ).loc Cert.BranchBReferenceIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v0)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v0) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBReferenceIdeal.defs (F := Ideal)) (onTc (τ := Cert.BranchBReferenceIdeal.τ) (Cert.BranchBReferenceIdeal.main (F := Ideal))) ⟨m', fun _ => 0, g'⟩ (fun r => ∀ c : Dev Cert.BranchBReferenceIdeal.nD,
          r.2.mem ((c.tc : Thread Cert.BranchBReferenceIdeal.nD Cert.BranchBReferenceIdeal.τ).loc Cert.BranchBReferenceIdeal.main_v3) = v0 c
          ∧ r.2.mem ((c.tc : Thread Cert.BranchBReferenceIdeal.nD Cert.BranchBReferenceIdeal.τ).loc Cert.BranchBReferenceIdeal.main_arg0) = m' ((c.tc : Thread Cert.BranchBReferenceIdeal.nD Cert.BranchBReferenceIdeal.τ).loc Cert.BranchBReferenceIdeal.main_arg0)
          ∧ r.2.mem ((c.tc : Thread Cert.BranchBReferenceIdeal.nD Cert.BranchBReferenceIdeal.τ).loc Cert.BranchBReferenceIdeal.main_arg1) = m' ((c.tc : Thread Cert.BranchBReferenceIdeal.nD Cert.BranchBReferenceIdeal.τ).loc Cert.BranchBReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v3) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_BranchADgrad_BranchADgradIdeal : Prop :=
  True

def algebraic_BranchADgradIdeal_BranchADgradReferenceIdeal [hBranchADgradIdeal : Cert.BranchADgradIdeal.Facts] [hBranchADgradReferenceIdeal : Cert.BranchADgradReferenceIdeal.Facts] : Prop :=
  ∀ (m : (ℓ : Loc Cert.BranchADgradIdeal.nD Cert.BranchADgradIdeal.τ Cert.BranchADgradIdeal.sig) → Buf (Elt Ideal) ℓ) (g : Dev Cert.BranchADgradIdeal.nD → PrngReg)
    (m' : (ℓ : Loc Cert.BranchADgradReferenceIdeal.nD Cert.BranchADgradReferenceIdeal.τ Cert.BranchADgradReferenceIdeal.sig) → Buf (Elt Ideal) ℓ) (g' : Dev Cert.BranchADgradReferenceIdeal.nD → PrngReg), Pre_BranchADgradIdeal m →
    (∀ c : Dev Cert.BranchADgradIdeal.nD,
      m' ((c.tc : Thread Cert.BranchADgradReferenceIdeal.nD Cert.BranchADgradReferenceIdeal.τ).loc Cert.BranchADgradReferenceIdeal.main_arg0) = m ((c.tc : Thread Cert.BranchADgradIdeal.nD Cert.BranchADgradIdeal.τ).loc Cert.BranchADgradIdeal.main_arg0)
      ∧ m' ((c.tc : Thread Cert.BranchADgradReferenceIdeal.nD Cert.BranchADgradReferenceIdeal.τ).loc Cert.BranchADgradReferenceIdeal.main_arg1) = m ((c.tc : Thread Cert.BranchADgradIdeal.nD Cert.BranchADgradIdeal.τ).loc Cert.BranchADgradIdeal.main_arg1)) →
    ∃ (v0 : (c : Dev Cert.BranchADgradIdeal.nD) → Buf (Elt Ideal) ((c.tc : Thread Cert.BranchADgradIdeal.nD Cert.BranchADgradIdeal.τ).loc Cert.BranchADgradIdeal.main_v0)),
      θ_run (Cert.BranchADgradIdeal.defs (F := Ideal)) (onTc (τ := Cert.BranchADgradIdeal.τ) (Cert.BranchADgradIdeal.main (F := Ideal))) ⟨m, fun _ => 0, g⟩ (fun r => ∀ c : Dev Cert.BranchADgradIdeal.nD,
          r.2.mem ((c.tc : Thread Cert.BranchADgradIdeal.nD Cert.BranchADgradIdeal.τ).loc Cert.BranchADgradIdeal.main_v0) = v0 c
          ∧ r.2.mem ((c.tc : Thread Cert.BranchADgradIdeal.nD Cert.BranchADgradIdeal.τ).loc Cert.BranchADgradIdeal.main_arg0) = m ((c.tc : Thread Cert.BranchADgradIdeal.nD Cert.BranchADgradIdeal.τ).loc Cert.BranchADgradIdeal.main_arg0)
          ∧ r.2.mem ((c.tc : Thread Cert.BranchADgradIdeal.nD Cert.BranchADgradIdeal.τ).loc Cert.BranchADgradIdeal.main_arg1) = m ((c.tc : Thread Cert.BranchADgradIdeal.nD Cert.BranchADgradIdeal.τ).loc Cert.BranchADgradIdeal.main_arg1))
      ∧ θ_run (Cert.BranchADgradReferenceIdeal.defs (F := Ideal)) (onTc (τ := Cert.BranchADgradReferenceIdeal.τ) (Cert.BranchADgradReferenceIdeal.main (F := Ideal))) ⟨m', fun _ => 0, g'⟩ (fun r => ∀ c : Dev Cert.BranchADgradReferenceIdeal.nD,
          r.2.mem ((c.tc : Thread Cert.BranchADgradReferenceIdeal.nD Cert.BranchADgradReferenceIdeal.τ).loc Cert.BranchADgradReferenceIdeal.main_v4) = v0 c
          ∧ r.2.mem ((c.tc : Thread Cert.BranchADgradReferenceIdeal.nD Cert.BranchADgradReferenceIdeal.τ).loc Cert.BranchADgradReferenceIdeal.main_arg0) = m' ((c.tc : Thread Cert.BranchADgradReferenceIdeal.nD Cert.BranchADgradReferenceIdeal.τ).loc Cert.BranchADgradReferenceIdeal.main_arg0)
          ∧ r.2.mem ((c.tc : Thread Cert.BranchADgradReferenceIdeal.nD Cert.BranchADgradReferenceIdeal.τ).loc Cert.BranchADgradReferenceIdeal.main_arg1) = m' ((c.tc : Thread Cert.BranchADgradReferenceIdeal.nD Cert.BranchADgradReferenceIdeal.τ).loc Cert.BranchADgradReferenceIdeal.main_arg1))

def preserves_OutDgrad_OutDgradIdeal : Prop :=
  True

def algebraic_OutDgradIdeal_OutDgradReferenceIdeal [hOutDgradIdeal : Cert.OutDgradIdeal.Facts] [hOutDgradReferenceIdeal : Cert.OutDgradReferenceIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradReferenceIdeal.nD Cert.OutDgradReferenceIdeal.τ Cert.OutDgradReferenceIdeal.sig) → Buf (Elt Ideal) ℓ) (g' : Dev Cert.OutDgradReferenceIdeal.nD → PrngReg), Pre_OutDgradIdeal m →
    (∀ c : Dev Cert.OutDgradIdeal.nD,
      m' ((c.tc : Thread Cert.OutDgradReferenceIdeal.nD Cert.OutDgradReferenceIdeal.τ).loc Cert.OutDgradReferenceIdeal.main_arg0) = m ((c.tc : Thread Cert.OutDgradIdeal.nD Cert.OutDgradIdeal.τ).loc Cert.OutDgradIdeal.main_arg0)
      ∧ m' ((c.tc : Thread Cert.OutDgradReferenceIdeal.nD Cert.OutDgradReferenceIdeal.τ).loc Cert.OutDgradReferenceIdeal.main_arg1) = m ((c.tc : Thread Cert.OutDgradIdeal.nD Cert.OutDgradIdeal.τ).loc Cert.OutDgradIdeal.main_arg1)) →
    ∃ (v0 : (c : Dev Cert.OutDgradIdeal.nD) → Buf (Elt Ideal) ((c.tc : Thread Cert.OutDgradIdeal.nD Cert.OutDgradIdeal.τ).loc Cert.OutDgradIdeal.main_v0)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v0) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1))
      ∧ θ_run (Cert.OutDgradReferenceIdeal.defs (F := Ideal)) (onTc (τ := Cert.OutDgradReferenceIdeal.τ) (Cert.OutDgradReferenceIdeal.main (F := Ideal))) ⟨m', fun _ => 0, g'⟩ (fun r => ∀ c : Dev Cert.OutDgradReferenceIdeal.nD,
          r.2.mem ((c.tc : Thread Cert.OutDgradReferenceIdeal.nD Cert.OutDgradReferenceIdeal.τ).loc Cert.OutDgradReferenceIdeal.main_v5) = v0 c
          ∧ r.2.mem ((c.tc : Thread Cert.OutDgradReferenceIdeal.nD Cert.OutDgradReferenceIdeal.τ).loc Cert.OutDgradReferenceIdeal.main_arg0) = m' ((c.tc : Thread Cert.OutDgradReferenceIdeal.nD Cert.OutDgradReferenceIdeal.τ).loc Cert.OutDgradReferenceIdeal.main_arg0)
          ∧ r.2.mem ((c.tc : Thread Cert.OutDgradReferenceIdeal.nD Cert.OutDgradReferenceIdeal.τ).loc Cert.OutDgradReferenceIdeal.main_arg1) = m' ((c.tc : Thread Cert.OutDgradReferenceIdeal.nD Cert.OutDgradReferenceIdeal.τ).loc Cert.OutDgradReferenceIdeal.main_arg1))

def preserves_InZWgrad_InZWgradIdeal : Prop :=
  True

def algebraic_InZWgradIdeal_InZWgradReferenceIdeal [hInZWgradIdeal : Cert.InZWgradIdeal.Facts] [hInZWgradReferenceIdeal : Cert.InZWgradReferenceIdeal.Facts] : Prop :=
  ∀ (m : (ℓ : Loc Cert.InZWgradIdeal.nD Cert.InZWgradIdeal.τ Cert.InZWgradIdeal.sig) → Buf (Elt Ideal) ℓ) (g : Dev Cert.InZWgradIdeal.nD → PrngReg)
    (m' : (ℓ : Loc Cert.InZWgradReferenceIdeal.nD Cert.InZWgradReferenceIdeal.τ Cert.InZWgradReferenceIdeal.sig) → Buf (Elt Ideal) ℓ) (g' : Dev Cert.InZWgradReferenceIdeal.nD → PrngReg), Pre_InZWgradIdeal m →
    (∀ c : Dev Cert.InZWgradIdeal.nD,
      m' ((c.tc : Thread Cert.InZWgradReferenceIdeal.nD Cert.InZWgradReferenceIdeal.τ).loc Cert.InZWgradReferenceIdeal.main_arg0) = m ((c.tc : Thread Cert.InZWgradIdeal.nD Cert.InZWgradIdeal.τ).loc Cert.InZWgradIdeal.main_arg0)
      ∧ m' ((c.tc : Thread Cert.InZWgradReferenceIdeal.nD Cert.InZWgradReferenceIdeal.τ).loc Cert.InZWgradReferenceIdeal.main_arg1) = m ((c.tc : Thread Cert.InZWgradIdeal.nD Cert.InZWgradIdeal.τ).loc Cert.InZWgradIdeal.main_arg1)) →
    ∃ (v0 : (c : Dev Cert.InZWgradIdeal.nD) → Buf (Elt Ideal) ((c.tc : Thread Cert.InZWgradIdeal.nD Cert.InZWgradIdeal.τ).loc Cert.InZWgradIdeal.main_v0)),
      θ_run (Cert.InZWgradIdeal.defs (F := Ideal)) (onTc (τ := Cert.InZWgradIdeal.τ) (Cert.InZWgradIdeal.main (F := Ideal))) ⟨m, fun _ => 0, g⟩ (fun r => ∀ c : Dev Cert.InZWgradIdeal.nD,
          r.2.mem ((c.tc : Thread Cert.InZWgradIdeal.nD Cert.InZWgradIdeal.τ).loc Cert.InZWgradIdeal.main_v0) = v0 c
          ∧ r.2.mem ((c.tc : Thread Cert.InZWgradIdeal.nD Cert.InZWgradIdeal.τ).loc Cert.InZWgradIdeal.main_arg0) = m ((c.tc : Thread Cert.InZWgradIdeal.nD Cert.InZWgradIdeal.τ).loc Cert.InZWgradIdeal.main_arg0)
          ∧ r.2.mem ((c.tc : Thread Cert.InZWgradIdeal.nD Cert.InZWgradIdeal.τ).loc Cert.InZWgradIdeal.main_arg1) = m ((c.tc : Thread Cert.InZWgradIdeal.nD Cert.InZWgradIdeal.τ).loc Cert.InZWgradIdeal.main_arg1))
      ∧ θ_run (Cert.InZWgradReferenceIdeal.defs (F := Ideal)) (onTc (τ := Cert.InZWgradReferenceIdeal.τ) (Cert.InZWgradReferenceIdeal.main (F := Ideal))) ⟨m', fun _ => 0, g'⟩ (fun r => ∀ c : Dev Cert.InZWgradReferenceIdeal.nD,
          r.2.mem ((c.tc : Thread Cert.InZWgradReferenceIdeal.nD Cert.InZWgradReferenceIdeal.τ).loc Cert.InZWgradReferenceIdeal.main_v6) = v0 c
          ∧ r.2.mem ((c.tc : Thread Cert.InZWgradReferenceIdeal.nD Cert.InZWgradReferenceIdeal.τ).loc Cert.InZWgradReferenceIdeal.main_arg0) = m' ((c.tc : Thread Cert.InZWgradReferenceIdeal.nD Cert.InZWgradReferenceIdeal.τ).loc Cert.InZWgradReferenceIdeal.main_arg0)
          ∧ r.2.mem ((c.tc : Thread Cert.InZWgradReferenceIdeal.nD Cert.InZWgradReferenceIdeal.τ).loc Cert.InZWgradReferenceIdeal.main_arg1) = m' ((c.tc : Thread Cert.InZWgradReferenceIdeal.nD Cert.InZWgradReferenceIdeal.τ).loc Cert.InZWgradReferenceIdeal.main_arg1))

def preserves_InXbcWgrad_InXbcWgradIdeal : Prop :=
  True

def algebraic_InXbcWgradIdeal_InXbcWgradReferenceIdeal [hInXbcWgradIdeal : Cert.InXbcWgradIdeal.Facts] [hInXbcWgradReferenceIdeal : Cert.InXbcWgradReferenceIdeal.Facts] : Prop :=
  ∀ (m : (ℓ : Loc Cert.InXbcWgradIdeal.nD Cert.InXbcWgradIdeal.τ Cert.InXbcWgradIdeal.sig) → Buf (Elt Ideal) ℓ) (g : Dev Cert.InXbcWgradIdeal.nD → PrngReg)
    (m' : (ℓ : Loc Cert.InXbcWgradReferenceIdeal.nD Cert.InXbcWgradReferenceIdeal.τ Cert.InXbcWgradReferenceIdeal.sig) → Buf (Elt Ideal) ℓ) (g' : Dev Cert.InXbcWgradReferenceIdeal.nD → PrngReg), Pre_InXbcWgradIdeal m →
    (∀ c : Dev Cert.InXbcWgradIdeal.nD,
      m' ((c.tc : Thread Cert.InXbcWgradReferenceIdeal.nD Cert.InXbcWgradReferenceIdeal.τ).loc Cert.InXbcWgradReferenceIdeal.main_arg0) = m ((c.tc : Thread Cert.InXbcWgradIdeal.nD Cert.InXbcWgradIdeal.τ).loc Cert.InXbcWgradIdeal.main_arg0)
      ∧ m' ((c.tc : Thread Cert.InXbcWgradReferenceIdeal.nD Cert.InXbcWgradReferenceIdeal.τ).loc Cert.InXbcWgradReferenceIdeal.main_arg1) = m ((c.tc : Thread Cert.InXbcWgradIdeal.nD Cert.InXbcWgradIdeal.τ).loc Cert.InXbcWgradIdeal.main_arg1)) →
    ∃ (v0 : (c : Dev Cert.InXbcWgradIdeal.nD) → Buf (Elt Ideal) ((c.tc : Thread Cert.InXbcWgradIdeal.nD Cert.InXbcWgradIdeal.τ).loc Cert.InXbcWgradIdeal.main_v0)),
      θ_run (Cert.InXbcWgradIdeal.defs (F := Ideal)) (onTc (τ := Cert.InXbcWgradIdeal.τ) (Cert.InXbcWgradIdeal.main (F := Ideal))) ⟨m, fun _ => 0, g⟩ (fun r => ∀ c : Dev Cert.InXbcWgradIdeal.nD,
          r.2.mem ((c.tc : Thread Cert.InXbcWgradIdeal.nD Cert.InXbcWgradIdeal.τ).loc Cert.InXbcWgradIdeal.main_v0) = v0 c
          ∧ r.2.mem ((c.tc : Thread Cert.InXbcWgradIdeal.nD Cert.InXbcWgradIdeal.τ).loc Cert.InXbcWgradIdeal.main_arg0) = m ((c.tc : Thread Cert.InXbcWgradIdeal.nD Cert.InXbcWgradIdeal.τ).loc Cert.InXbcWgradIdeal.main_arg0)
          ∧ r.2.mem ((c.tc : Thread Cert.InXbcWgradIdeal.nD Cert.InXbcWgradIdeal.τ).loc Cert.InXbcWgradIdeal.main_arg1) = m ((c.tc : Thread Cert.InXbcWgradIdeal.nD Cert.InXbcWgradIdeal.τ).loc Cert.InXbcWgradIdeal.main_arg1))
      ∧ θ_run (Cert.InXbcWgradReferenceIdeal.defs (F := Ideal)) (onTc (τ := Cert.InXbcWgradReferenceIdeal.τ) (Cert.InXbcWgradReferenceIdeal.main (F := Ideal))) ⟨m', fun _ => 0, g'⟩ (fun r => ∀ c : Dev Cert.InXbcWgradReferenceIdeal.nD,
          r.2.mem ((c.tc : Thread Cert.InXbcWgradReferenceIdeal.nD Cert.InXbcWgradReferenceIdeal.τ).loc Cert.InXbcWgradReferenceIdeal.main_v6) = v0 c
          ∧ r.2.mem ((c.tc : Thread Cert.InXbcWgradReferenceIdeal.nD Cert.InXbcWgradReferenceIdeal.τ).loc Cert.InXbcWgradReferenceIdeal.main_arg0) = m' ((c.tc : Thread Cert.InXbcWgradReferenceIdeal.nD Cert.InXbcWgradReferenceIdeal.τ).loc Cert.InXbcWgradReferenceIdeal.main_arg0)
          ∧ r.2.mem ((c.tc : Thread Cert.InXbcWgradReferenceIdeal.nD Cert.InXbcWgradReferenceIdeal.τ).loc Cert.InXbcWgradReferenceIdeal.main_arg1) = m' ((c.tc : Thread Cert.InXbcWgradReferenceIdeal.nD Cert.InXbcWgradReferenceIdeal.τ).loc Cert.InXbcWgradReferenceIdeal.main_arg1))

def preserves_OutWgrad_OutWgradIdeal : Prop :=
  True

def algebraic_OutWgradIdeal_OutWgradReferenceIdeal [hOutWgradIdeal : Cert.OutWgradIdeal.Facts] [hOutWgradReferenceIdeal : Cert.OutWgradReferenceIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradReferenceIdeal.nD Cert.OutWgradReferenceIdeal.τ Cert.OutWgradReferenceIdeal.sig) → Buf (Elt Ideal) ℓ) (g' : Dev Cert.OutWgradReferenceIdeal.nD → PrngReg), Pre_OutWgradIdeal m →
    (∀ c : Dev Cert.OutWgradIdeal.nD,
      m' ((c.tc : Thread Cert.OutWgradReferenceIdeal.nD Cert.OutWgradReferenceIdeal.τ).loc Cert.OutWgradReferenceIdeal.main_arg0) = m ((c.tc : Thread Cert.OutWgradIdeal.nD Cert.OutWgradIdeal.τ).loc Cert.OutWgradIdeal.main_arg0)
      ∧ m' ((c.tc : Thread Cert.OutWgradReferenceIdeal.nD Cert.OutWgradReferenceIdeal.τ).loc Cert.OutWgradReferenceIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradReferenceIdeal.defs (F := Ideal)) (onTc (τ := Cert.OutWgradReferenceIdeal.τ) (Cert.OutWgradReferenceIdeal.main (F := Ideal))) ⟨m', fun _ => 0, g'⟩ (fun r => ∀ c : Dev Cert.OutWgradReferenceIdeal.nD,
          r.2.mem ((c.tc : Thread Cert.OutWgradReferenceIdeal.nD Cert.OutWgradReferenceIdeal.τ).loc Cert.OutWgradReferenceIdeal.main_v6) = v0 c
          ∧ r.2.mem ((c.tc : Thread Cert.OutWgradReferenceIdeal.nD Cert.OutWgradReferenceIdeal.τ).loc Cert.OutWgradReferenceIdeal.main_arg0) = m' ((c.tc : Thread Cert.OutWgradReferenceIdeal.nD Cert.OutWgradReferenceIdeal.τ).loc Cert.OutWgradReferenceIdeal.main_arg0)
          ∧ r.2.mem ((c.tc : Thread Cert.OutWgradReferenceIdeal.nD Cert.OutWgradReferenceIdeal.τ).loc Cert.OutWgradReferenceIdeal.main_arg1) = m' ((c.tc : Thread Cert.OutWgradReferenceIdeal.nD Cert.OutWgradReferenceIdeal.τ).loc Cert.OutWgradReferenceIdeal.main_arg1))

def preserves_UpWgradA_UpWgradAIdeal : Prop :=
  True

def algebraic_UpWgradAIdeal_UpWgradAReferenceIdeal_on_up_a_written [hUpWgradAIdeal : Cert.UpWgradAIdeal.Facts] [hUpWgradAReferenceIdeal : Cert.UpWgradAReferenceIdeal.Facts] [hOn_up_a_written : Cert.On_up_a_written.Facts] : Prop :=
  ∀ (m : (ℓ : Loc Cert.UpWgradAIdeal.nD Cert.UpWgradAIdeal.τ Cert.UpWgradAIdeal.sig) → Buf (Elt Ideal) ℓ) (g : Dev Cert.UpWgradAIdeal.nD → PrngReg)
    (m' : (ℓ : Loc Cert.UpWgradAReferenceIdeal.nD Cert.UpWgradAReferenceIdeal.τ Cert.UpWgradAReferenceIdeal.sig) → Buf (Elt Ideal) ℓ) (g' : Dev Cert.UpWgradAReferenceIdeal.nD → PrngReg), Pre_UpWgradAIdeal m →
    (∀ c : Dev Cert.UpWgradAIdeal.nD,
      m' ((c.tc : Thread Cert.UpWgradAReferenceIdeal.nD Cert.UpWgradAReferenceIdeal.τ).loc Cert.UpWgradAReferenceIdeal.main_arg0) = m ((c.tc : Thread Cert.UpWgradAIdeal.nD Cert.UpWgradAIdeal.τ).loc Cert.UpWgradAIdeal.main_arg0)
      ∧ m' ((c.tc : Thread Cert.UpWgradAReferenceIdeal.nD Cert.UpWgradAReferenceIdeal.τ).loc Cert.UpWgradAReferenceIdeal.main_arg1) = m ((c.tc : Thread Cert.UpWgradAIdeal.nD Cert.UpWgradAIdeal.τ).loc Cert.UpWgradAIdeal.main_arg1)) →
    ∃ (v0 : (c : Dev Cert.UpWgradAIdeal.nD) → Buf (Elt Ideal) ((c.tc : Thread Cert.UpWgradAIdeal.nD Cert.UpWgradAIdeal.τ).loc Cert.UpWgradAIdeal.main_v0)),
      θ_run (Cert.UpWgradAIdeal.defs (F := Ideal)) (onTc (τ := Cert.UpWgradAIdeal.τ) (Cert.UpWgradAIdeal.main (F := Ideal))) ⟨m, fun _ => 0, g⟩ (fun r => ∀ c : Dev Cert.UpWgradAIdeal.nD,
          (∀ i : (⟨3, ![4, 1024, 1408]⟩ : Shape).Idx, (Cert.On_up_a_written.fn (F := Ideal) (m ((c.tc : Thread Cert.UpWgradAIdeal.nD Cert.UpWgradAIdeal.τ).loc Cert.UpWgradAIdeal.main_arg0)) (m ((c.tc : Thread Cert.UpWgradAIdeal.nD Cert.UpWgradAIdeal.τ).loc Cert.UpWgradAIdeal.main_arg1))) i = 1#1 → r.2.mem ((c.tc : Thread Cert.UpWgradAIdeal.nD Cert.UpWgradAIdeal.τ).loc Cert.UpWgradAIdeal.main_v0) i = v0 c i)
          ∧ r.2.mem ((c.tc : Thread Cert.UpWgradAIdeal.nD Cert.UpWgradAIdeal.τ).loc Cert.UpWgradAIdeal.main_arg0) = m ((c.tc : Thread Cert.UpWgradAIdeal.nD Cert.UpWgradAIdeal.τ).loc Cert.UpWgradAIdeal.main_arg0)
          ∧ r.2.mem ((c.tc : Thread Cert.UpWgradAIdeal.nD Cert.UpWgradAIdeal.τ).loc Cert.UpWgradAIdeal.main_arg1) = m ((c.tc : Thread Cert.UpWgradAIdeal.nD Cert.UpWgradAIdeal.τ).loc Cert.UpWgradAIdeal.main_arg1))
      ∧ θ_run (Cert.UpWgradAReferenceIdeal.defs (F := Ideal)) (onTc (τ := Cert.UpWgradAReferenceIdeal.τ) (Cert.UpWgradAReferenceIdeal.main (F := Ideal))) ⟨m', fun _ => 0, g'⟩ (fun r => ∀ c : Dev Cert.UpWgradAReferenceIdeal.nD,
          (∀ i : (⟨3, ![4, 1024, 1408]⟩ : Shape).Idx, (Cert.On_up_a_written.fn (F := Ideal) (m ((c.tc : Thread Cert.UpWgradAIdeal.nD Cert.UpWgradAIdeal.τ).loc Cert.UpWgradAIdeal.main_arg0)) (m ((c.tc : Thread Cert.UpWgradAIdeal.nD Cert.UpWgradAIdeal.τ).loc Cert.UpWgradAIdeal.main_arg1))) i = 1#1 → r.2.mem ((c.tc : Thread Cert.UpWgradAReferenceIdeal.nD Cert.UpWgradAReferenceIdeal.τ).loc Cert.UpWgradAReferenceIdeal.main_v10) i = v0 c i)
          ∧ r.2.mem ((c.tc : Thread Cert.UpWgradAReferenceIdeal.nD Cert.UpWgradAReferenceIdeal.τ).loc Cert.UpWgradAReferenceIdeal.main_arg0) = m' ((c.tc : Thread Cert.UpWgradAReferenceIdeal.nD Cert.UpWgradAReferenceIdeal.τ).loc Cert.UpWgradAReferenceIdeal.main_arg0)
          ∧ r.2.mem ((c.tc : Thread Cert.UpWgradAReferenceIdeal.nD Cert.UpWgradAReferenceIdeal.τ).loc Cert.UpWgradAReferenceIdeal.main_arg1) = m' ((c.tc : Thread Cert.UpWgradAReferenceIdeal.nD Cert.UpWgradAReferenceIdeal.τ).loc Cert.UpWgradAReferenceIdeal.main_arg1))

def preserves_UpWgradV_UpWgradVIdeal : Prop :=
  True

def algebraic_UpWgradVIdeal_UpWgradVReferenceIdeal [hUpWgradVIdeal : Cert.UpWgradVIdeal.Facts] [hUpWgradVReferenceIdeal : Cert.UpWgradVReferenceIdeal.Facts] : Prop :=
  ∀ (m : (ℓ : Loc Cert.UpWgradVIdeal.nD Cert.UpWgradVIdeal.τ Cert.UpWgradVIdeal.sig) → Buf (Elt Ideal) ℓ) (g : Dev Cert.UpWgradVIdeal.nD → PrngReg)
    (m' : (ℓ : Loc Cert.UpWgradVReferenceIdeal.nD Cert.UpWgradVReferenceIdeal.τ Cert.UpWgradVReferenceIdeal.sig) → Buf (Elt Ideal) ℓ) (g' : Dev Cert.UpWgradVReferenceIdeal.nD → PrngReg), Pre_UpWgradVIdeal m →
    (∀ c : Dev Cert.UpWgradVIdeal.nD,
      m' ((c.tc : Thread Cert.UpWgradVReferenceIdeal.nD Cert.UpWgradVReferenceIdeal.τ).loc Cert.UpWgradVReferenceIdeal.main_arg0) = m ((c.tc : Thread Cert.UpWgradVIdeal.nD Cert.UpWgradVIdeal.τ).loc Cert.UpWgradVIdeal.main_arg0)
      ∧ m' ((c.tc : Thread Cert.UpWgradVReferenceIdeal.nD Cert.UpWgradVReferenceIdeal.τ).loc Cert.UpWgradVReferenceIdeal.main_arg1) = m ((c.tc : Thread Cert.UpWgradVIdeal.nD Cert.UpWgradVIdeal.τ).loc Cert.UpWgradVIdeal.main_arg1)
      ∧ m' ((c.tc : Thread Cert.UpWgradVReferenceIdeal.nD Cert.UpWgradVReferenceIdeal.τ).loc Cert.UpWgradVReferenceIdeal.main_arg2) = m ((c.tc : Thread Cert.UpWgradVIdeal.nD Cert.UpWgradVIdeal.τ).loc Cert.UpWgradVIdeal.main_arg2)) →
    ∃ (v0 : (c : Dev Cert.UpWgradVIdeal.nD) → Buf (Elt Ideal) ((c.tc : Thread Cert.UpWgradVIdeal.nD Cert.UpWgradVIdeal.τ).loc Cert.UpWgradVIdeal.main_v0)),
      θ_run (Cert.UpWgradVIdeal.defs (F := Ideal)) (onTc (τ := Cert.UpWgradVIdeal.τ) (Cert.UpWgradVIdeal.main (F := Ideal))) ⟨m, fun _ => 0, g⟩ (fun r => ∀ c : Dev Cert.UpWgradVIdeal.nD,
          r.2.mem ((c.tc : Thread Cert.UpWgradVIdeal.nD Cert.UpWgradVIdeal.τ).loc Cert.UpWgradVIdeal.main_v0) = v0 c
          ∧ r.2.mem ((c.tc : Thread Cert.UpWgradVIdeal.nD Cert.UpWgradVIdeal.τ).loc Cert.UpWgradVIdeal.main_arg0) = m ((c.tc : Thread Cert.UpWgradVIdeal.nD Cert.UpWgradVIdeal.τ).loc Cert.UpWgradVIdeal.main_arg0)
          ∧ r.2.mem ((c.tc : Thread Cert.UpWgradVIdeal.nD Cert.UpWgradVIdeal.τ).loc Cert.UpWgradVIdeal.main_arg1) = m ((c.tc : Thread Cert.UpWgradVIdeal.nD Cert.UpWgradVIdeal.τ).loc Cert.UpWgradVIdeal.main_arg1)
          ∧ r.2.mem ((c.tc : Thread Cert.UpWgradVIdeal.nD Cert.UpWgradVIdeal.τ).loc Cert.UpWgradVIdeal.main_arg2) = m ((c.tc : Thread Cert.UpWgradVIdeal.nD Cert.UpWgradVIdeal.τ).loc Cert.UpWgradVIdeal.main_arg2))
      ∧ θ_run (Cert.UpWgradVReferenceIdeal.defs (F := Ideal)) (onTc (τ := Cert.UpWgradVReferenceIdeal.τ) (Cert.UpWgradVReferenceIdeal.main (F := Ideal))) ⟨m', fun _ => 0, g'⟩ (fun r => ∀ c : Dev Cert.UpWgradVReferenceIdeal.nD,
          r.2.mem ((c.tc : Thread Cert.UpWgradVReferenceIdeal.nD Cert.UpWgradVReferenceIdeal.τ).loc Cert.UpWgradVReferenceIdeal.main_v10) = v0 c
          ∧ r.2.mem ((c.tc : Thread Cert.UpWgradVReferenceIdeal.nD Cert.UpWgradVReferenceIdeal.τ).loc Cert.UpWgradVReferenceIdeal.main_arg0) = m' ((c.tc : Thread Cert.UpWgradVReferenceIdeal.nD Cert.UpWgradVReferenceIdeal.τ).loc Cert.UpWgradVReferenceIdeal.main_arg0)
          ∧ r.2.mem ((c.tc : Thread Cert.UpWgradVReferenceIdeal.nD Cert.UpWgradVReferenceIdeal.τ).loc Cert.UpWgradVReferenceIdeal.main_arg1) = m' ((c.tc : Thread Cert.UpWgradVReferenceIdeal.nD Cert.UpWgradVReferenceIdeal.τ).loc Cert.UpWgradVReferenceIdeal.main_arg1)
          ∧ r.2.mem ((c.tc : Thread Cert.UpWgradVReferenceIdeal.nD Cert.UpWgradVReferenceIdeal.τ).loc Cert.UpWgradVReferenceIdeal.main_arg2) = m' ((c.tc : Thread Cert.UpWgradVReferenceIdeal.nD Cert.UpWgradVReferenceIdeal.τ).loc Cert.UpWgradVReferenceIdeal.main_arg2))

def preserves_BranchAWgrad_BranchAWgradIdeal : Prop :=
  True

def algebraic_BranchAWgradIdeal_BranchAWgradReferenceIdeal_on_branch_a_written [hBranchAWgradIdeal : Cert.BranchAWgradIdeal.Facts] [hBranchAWgradReferenceIdeal : Cert.BranchAWgradReferenceIdeal.Facts] [hOn_branch_a_written : Cert.On_branch_a_written.Facts] : Prop :=
  ∀ (m : (ℓ : Loc Cert.BranchAWgradIdeal.nD Cert.BranchAWgradIdeal.τ Cert.BranchAWgradIdeal.sig) → Buf (Elt Ideal) ℓ) (g : Dev Cert.BranchAWgradIdeal.nD → PrngReg)
    (m' : (ℓ : Loc Cert.BranchAWgradReferenceIdeal.nD Cert.BranchAWgradReferenceIdeal.τ Cert.BranchAWgradReferenceIdeal.sig) → Buf (Elt Ideal) ℓ) (g' : Dev Cert.BranchAWgradReferenceIdeal.nD → PrngReg), Pre_BranchAWgradIdeal m →
    (∀ c : Dev Cert.BranchAWgradIdeal.nD,
      m' ((c.tc : Thread Cert.BranchAWgradReferenceIdeal.nD Cert.BranchAWgradReferenceIdeal.τ).loc Cert.BranchAWgradReferenceIdeal.main_arg0) = m ((c.tc : Thread Cert.BranchAWgradIdeal.nD Cert.BranchAWgradIdeal.τ).loc Cert.BranchAWgradIdeal.main_arg0)
      ∧ m' ((c.tc : Thread Cert.BranchAWgradReferenceIdeal.nD Cert.BranchAWgradReferenceIdeal.τ).loc Cert.BranchAWgradReferenceIdeal.main_arg1) = m ((c.tc : Thread Cert.BranchAWgradIdeal.nD Cert.BranchAWgradIdeal.τ).loc Cert.BranchAWgradIdeal.main_arg1)) →
    ∃ (v0 : (c : Dev Cert.BranchAWgradIdeal.nD) → Buf (Elt Ideal) ((c.tc : Thread Cert.BranchAWgradIdeal.nD Cert.BranchAWgradIdeal.τ).loc Cert.BranchAWgradIdeal.main_v0)),
      θ_run (Cert.BranchAWgradIdeal.defs (F := Ideal)) (onTc (τ := Cert.BranchAWgradIdeal.τ) (Cert.BranchAWgradIdeal.main (F := Ideal))) ⟨m, fun _ => 0, g⟩ (fun r => ∀ c : Dev Cert.BranchAWgradIdeal.nD,
          (∀ i : (⟨2, ![3072, 1024]⟩ : Shape).Idx, (Cert.On_branch_a_written.fn (F := Ideal) (m ((c.tc : Thread Cert.BranchAWgradIdeal.nD Cert.BranchAWgradIdeal.τ).loc Cert.BranchAWgradIdeal.main_arg0)) (m ((c.tc : Thread Cert.BranchAWgradIdeal.nD Cert.BranchAWgradIdeal.τ).loc Cert.BranchAWgradIdeal.main_arg1))) i = 1#1 → r.2.mem ((c.tc : Thread Cert.BranchAWgradIdeal.nD Cert.BranchAWgradIdeal.τ).loc Cert.BranchAWgradIdeal.main_v0) i = v0 c i)
          ∧ r.2.mem ((c.tc : Thread Cert.BranchAWgradIdeal.nD Cert.BranchAWgradIdeal.τ).loc Cert.BranchAWgradIdeal.main_arg0) = m ((c.tc : Thread Cert.BranchAWgradIdeal.nD Cert.BranchAWgradIdeal.τ).loc Cert.BranchAWgradIdeal.main_arg0)
          ∧ r.2.mem ((c.tc : Thread Cert.BranchAWgradIdeal.nD Cert.BranchAWgradIdeal.τ).loc Cert.BranchAWgradIdeal.main_arg1) = m ((c.tc : Thread Cert.BranchAWgradIdeal.nD Cert.BranchAWgradIdeal.τ).loc Cert.BranchAWgradIdeal.main_arg1))
      ∧ θ_run (Cert.BranchAWgradReferenceIdeal.defs (F := Ideal)) (onTc (τ := Cert.BranchAWgradReferenceIdeal.τ) (Cert.BranchAWgradReferenceIdeal.main (F := Ideal))) ⟨m', fun _ => 0, g'⟩ (fun r => ∀ c : Dev Cert.BranchAWgradReferenceIdeal.nD,
          (∀ i : (⟨2, ![3072, 1024]⟩ : Shape).Idx, (Cert.On_branch_a_written.fn (F := Ideal) (m ((c.tc : Thread Cert.BranchAWgradIdeal.nD Cert.BranchAWgradIdeal.τ).loc Cert.BranchAWgradIdeal.main_arg0)) (m ((c.tc : Thread Cert.BranchAWgradIdeal.nD Cert.BranchAWgradIdeal.τ).loc Cert.BranchAWgradIdeal.main_arg1))) i = 1#1 → r.2.mem ((c.tc : Thread Cert.BranchAWgradReferenceIdeal.nD Cert.BranchAWgradReferenceIdeal.τ).loc Cert.BranchAWgradReferenceIdeal.main_v8) i = v0 c i)
          ∧ r.2.mem ((c.tc : Thread Cert.BranchAWgradReferenceIdeal.nD Cert.BranchAWgradReferenceIdeal.τ).loc Cert.BranchAWgradReferenceIdeal.main_arg0) = m' ((c.tc : Thread Cert.BranchAWgradReferenceIdeal.nD Cert.BranchAWgradReferenceIdeal.τ).loc Cert.BranchAWgradReferenceIdeal.main_arg0)
          ∧ r.2.mem ((c.tc : Thread Cert.BranchAWgradReferenceIdeal.nD Cert.BranchAWgradReferenceIdeal.τ).loc Cert.BranchAWgradReferenceIdeal.main_arg1) = m' ((c.tc : Thread Cert.BranchAWgradReferenceIdeal.nD Cert.BranchAWgradReferenceIdeal.τ).loc Cert.BranchAWgradReferenceIdeal.main_arg1))

def preserves_BranchBWgrad_BranchBWgradIdeal : Prop :=
  True

def algebraic_BranchBWgradIdeal_BranchBWgradReferenceIdeal [hBranchBWgradIdeal : Cert.BranchBWgradIdeal.Facts] [hBranchBWgradReferenceIdeal : Cert.BranchBWgradReferenceIdeal.Facts] : Prop :=
  ∀ (m : (ℓ : Loc Cert.BranchBWgradIdeal.nD Cert.BranchBWgradIdeal.τ Cert.BranchBWgradIdeal.sig) → Buf (Elt Ideal) ℓ) (g : Dev Cert.BranchBWgradIdeal.nD → PrngReg)
    (m' : (ℓ : Loc Cert.BranchBWgradReferenceIdeal.nD Cert.BranchBWgradReferenceIdeal.τ Cert.BranchBWgradReferenceIdeal.sig) → Buf (Elt Ideal) ℓ) (g' : Dev Cert.BranchBWgradReferenceIdeal.nD → PrngReg), Pre_BranchBWgradIdeal m →
    (∀ c : Dev Cert.BranchBWgradIdeal.nD,
      m' ((c.tc : Thread Cert.BranchBWgradReferenceIdeal.nD Cert.BranchBWgradReferenceIdeal.τ).loc Cert.BranchBWgradReferenceIdeal.main_arg0) = m ((c.tc : Thread Cert.BranchBWgradIdeal.nD Cert.BranchBWgradIdeal.τ).loc Cert.BranchBWgradIdeal.main_arg0)
      ∧ m' ((c.tc : Thread Cert.BranchBWgradReferenceIdeal.nD Cert.BranchBWgradReferenceIdeal.τ).loc Cert.BranchBWgradReferenceIdeal.main_arg1) = m ((c.tc : Thread Cert.BranchBWgradIdeal.nD Cert.BranchBWgradIdeal.τ).loc Cert.BranchBWgradIdeal.main_arg1)
      ∧ m' ((c.tc : Thread Cert.BranchBWgradReferenceIdeal.nD Cert.BranchBWgradReferenceIdeal.τ).loc Cert.BranchBWgradReferenceIdeal.main_arg2) = m ((c.tc : Thread Cert.BranchBWgradIdeal.nD Cert.BranchBWgradIdeal.τ).loc Cert.BranchBWgradIdeal.main_arg2)) →
    ∃ (v0 : (c : Dev Cert.BranchBWgradIdeal.nD) → Buf (Elt Ideal) ((c.tc : Thread Cert.BranchBWgradIdeal.nD Cert.BranchBWgradIdeal.τ).loc Cert.BranchBWgradIdeal.main_v0)),
      θ_run (Cert.BranchBWgradIdeal.defs (F := Ideal)) (onTc (τ := Cert.BranchBWgradIdeal.τ) (Cert.BranchBWgradIdeal.main (F := Ideal))) ⟨m, fun _ => 0, g⟩ (fun r => ∀ c : Dev Cert.BranchBWgradIdeal.nD,
          r.2.mem ((c.tc : Thread Cert.BranchBWgradIdeal.nD Cert.BranchBWgradIdeal.τ).loc Cert.BranchBWgradIdeal.main_v0) = v0 c
          ∧ r.2.mem ((c.tc : Thread Cert.BranchBWgradIdeal.nD Cert.BranchBWgradIdeal.τ).loc Cert.BranchBWgradIdeal.main_arg0) = m ((c.tc : Thread Cert.BranchBWgradIdeal.nD Cert.BranchBWgradIdeal.τ).loc Cert.BranchBWgradIdeal.main_arg0)
          ∧ r.2.mem ((c.tc : Thread Cert.BranchBWgradIdeal.nD Cert.BranchBWgradIdeal.τ).loc Cert.BranchBWgradIdeal.main_arg1) = m ((c.tc : Thread Cert.BranchBWgradIdeal.nD Cert.BranchBWgradIdeal.τ).loc Cert.BranchBWgradIdeal.main_arg1)
          ∧ r.2.mem ((c.tc : Thread Cert.BranchBWgradIdeal.nD Cert.BranchBWgradIdeal.τ).loc Cert.BranchBWgradIdeal.main_arg2) = m ((c.tc : Thread Cert.BranchBWgradIdeal.nD Cert.BranchBWgradIdeal.τ).loc Cert.BranchBWgradIdeal.main_arg2))
      ∧ θ_run (Cert.BranchBWgradReferenceIdeal.defs (F := Ideal)) (onTc (τ := Cert.BranchBWgradReferenceIdeal.τ) (Cert.BranchBWgradReferenceIdeal.main (F := Ideal))) ⟨m', fun _ => 0, g'⟩ (fun r => ∀ c : Dev Cert.BranchBWgradReferenceIdeal.nD,
          r.2.mem ((c.tc : Thread Cert.BranchBWgradReferenceIdeal.nD Cert.BranchBWgradReferenceIdeal.τ).loc Cert.BranchBWgradReferenceIdeal.main_v8) = v0 c
          ∧ r.2.mem ((c.tc : Thread Cert.BranchBWgradReferenceIdeal.nD Cert.BranchBWgradReferenceIdeal.τ).loc Cert.BranchBWgradReferenceIdeal.main_arg0) = m' ((c.tc : Thread Cert.BranchBWgradReferenceIdeal.nD Cert.BranchBWgradReferenceIdeal.τ).loc Cert.BranchBWgradReferenceIdeal.main_arg0)
          ∧ r.2.mem ((c.tc : Thread Cert.BranchBWgradReferenceIdeal.nD Cert.BranchBWgradReferenceIdeal.τ).loc Cert.BranchBWgradReferenceIdeal.main_arg1) = m' ((c.tc : Thread Cert.BranchBWgradReferenceIdeal.nD Cert.BranchBWgradReferenceIdeal.τ).loc Cert.BranchBWgradReferenceIdeal.main_arg1)
          ∧ r.2.mem ((c.tc : Thread Cert.BranchBWgradReferenceIdeal.nD Cert.BranchBWgradReferenceIdeal.τ).loc Cert.BranchBWgradReferenceIdeal.main_arg2) = m' ((c.tc : Thread Cert.BranchBWgradReferenceIdeal.nD Cert.BranchBWgradReferenceIdeal.τ).loc Cert.BranchBWgradReferenceIdeal.main_arg2))

def preserves_InDt_InDtIdeal : Prop :=
  True

def algebraic_InDtIdeal_InDtReferenceIdeal [hInDtIdeal : Cert.InDtIdeal.Facts] [hInDtReferenceIdeal : Cert.InDtReferenceIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtReferenceIdeal.nD Cert.InDtReferenceIdeal.τ Cert.InDtReferenceIdeal.sig) → Buf (Elt Ideal) ℓ) (g' : Dev Cert.InDtReferenceIdeal.nD → PrngReg), Pre_InDtIdeal m →
    (∀ c : Dev Cert.InDtIdeal.nD,
      m' ((c.tc : Thread Cert.InDtReferenceIdeal.nD Cert.InDtReferenceIdeal.τ).loc Cert.InDtReferenceIdeal.main_arg0) = m ((c.tc : Thread Cert.InDtIdeal.nD Cert.InDtIdeal.τ).loc Cert.InDtIdeal.main_arg0)
      ∧ m' ((c.tc : Thread Cert.InDtReferenceIdeal.nD Cert.InDtReferenceIdeal.τ).loc Cert.InDtReferenceIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v0)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v0) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtReferenceIdeal.defs (F := Ideal)) (onTc (τ := Cert.InDtReferenceIdeal.τ) (Cert.InDtReferenceIdeal.main (F := Ideal))) ⟨m', fun _ => 0, g'⟩ (fun r => ∀ c : Dev Cert.InDtReferenceIdeal.nD,
          r.2.mem ((c.tc : Thread Cert.InDtReferenceIdeal.nD Cert.InDtReferenceIdeal.τ).loc Cert.InDtReferenceIdeal.main_v2) = v0 c
          ∧ r.2.mem ((c.tc : Thread Cert.InDtReferenceIdeal.nD Cert.InDtReferenceIdeal.τ).loc Cert.InDtReferenceIdeal.main_arg0) = m' ((c.tc : Thread Cert.InDtReferenceIdeal.nD Cert.InDtReferenceIdeal.τ).loc Cert.InDtReferenceIdeal.main_arg0)
          ∧ r.2.mem ((c.tc : Thread Cert.InDtReferenceIdeal.nD Cert.InDtReferenceIdeal.τ).loc Cert.InDtReferenceIdeal.main_arg1) = m' ((c.tc : Thread Cert.InDtReferenceIdeal.nD Cert.InDtReferenceIdeal.τ).loc Cert.InDtReferenceIdeal.main_arg1))

def preserves_InDtWgrad_InDtWgradIdeal : Prop :=
  True

def algebraic_InDtWgradIdeal_InDtWgradReferenceIdeal [hInDtWgradIdeal : Cert.InDtWgradIdeal.Facts] [hInDtWgradReferenceIdeal : Cert.InDtWgradReferenceIdeal.Facts] : Prop :=
  ∀ (m : (ℓ : Loc Cert.InDtWgradIdeal.nD Cert.InDtWgradIdeal.τ Cert.InDtWgradIdeal.sig) → Buf (Elt Ideal) ℓ) (g : Dev Cert.InDtWgradIdeal.nD → PrngReg)
    (m' : (ℓ : Loc Cert.InDtWgradReferenceIdeal.nD Cert.InDtWgradReferenceIdeal.τ Cert.InDtWgradReferenceIdeal.sig) → Buf (Elt Ideal) ℓ) (g' : Dev Cert.InDtWgradReferenceIdeal.nD → PrngReg), Pre_InDtWgradIdeal m →
    (∀ c : Dev Cert.InDtWgradIdeal.nD,
      m' ((c.tc : Thread Cert.InDtWgradReferenceIdeal.nD Cert.InDtWgradReferenceIdeal.τ).loc Cert.InDtWgradReferenceIdeal.main_arg0) = m ((c.tc : Thread Cert.InDtWgradIdeal.nD Cert.InDtWgradIdeal.τ).loc Cert.InDtWgradIdeal.main_arg0)
      ∧ m' ((c.tc : Thread Cert.InDtWgradReferenceIdeal.nD Cert.InDtWgradReferenceIdeal.τ).loc Cert.InDtWgradReferenceIdeal.main_arg1) = m ((c.tc : Thread Cert.InDtWgradIdeal.nD Cert.InDtWgradIdeal.τ).loc Cert.InDtWgradIdeal.main_arg1)) →
    ∃ (v0 : (c : Dev Cert.InDtWgradIdeal.nD) → Buf (Elt Ideal) ((c.tc : Thread Cert.InDtWgradIdeal.nD Cert.InDtWgradIdeal.τ).loc Cert.InDtWgradIdeal.main_v0)),
      θ_run (Cert.InDtWgradIdeal.defs (F := Ideal)) (onTc (τ := Cert.InDtWgradIdeal.τ) (Cert.InDtWgradIdeal.main (F := Ideal))) ⟨m, fun _ => 0, g⟩ (fun r => ∀ c : Dev Cert.InDtWgradIdeal.nD,
          r.2.mem ((c.tc : Thread Cert.InDtWgradIdeal.nD Cert.InDtWgradIdeal.τ).loc Cert.InDtWgradIdeal.main_v0) = v0 c
          ∧ r.2.mem ((c.tc : Thread Cert.InDtWgradIdeal.nD Cert.InDtWgradIdeal.τ).loc Cert.InDtWgradIdeal.main_arg0) = m ((c.tc : Thread Cert.InDtWgradIdeal.nD Cert.InDtWgradIdeal.τ).loc Cert.InDtWgradIdeal.main_arg0)
          ∧ r.2.mem ((c.tc : Thread Cert.InDtWgradIdeal.nD Cert.InDtWgradIdeal.τ).loc Cert.InDtWgradIdeal.main_arg1) = m ((c.tc : Thread Cert.InDtWgradIdeal.nD Cert.InDtWgradIdeal.τ).loc Cert.InDtWgradIdeal.main_arg1))
      ∧ θ_run (Cert.InDtWgradReferenceIdeal.defs (F := Ideal)) (onTc (τ := Cert.InDtWgradReferenceIdeal.τ) (Cert.InDtWgradReferenceIdeal.main (F := Ideal))) ⟨m', fun _ => 0, g'⟩ (fun r => ∀ c : Dev Cert.InDtWgradReferenceIdeal.nD,
          r.2.mem ((c.tc : Thread Cert.InDtWgradReferenceIdeal.nD Cert.InDtWgradReferenceIdeal.τ).loc Cert.InDtWgradReferenceIdeal.main_v6) = v0 c
          ∧ r.2.mem ((c.tc : Thread Cert.InDtWgradReferenceIdeal.nD Cert.InDtWgradReferenceIdeal.τ).loc Cert.InDtWgradReferenceIdeal.main_arg0) = m' ((c.tc : Thread Cert.InDtWgradReferenceIdeal.nD Cert.InDtWgradReferenceIdeal.τ).loc Cert.InDtWgradReferenceIdeal.main_arg0)
          ∧ r.2.mem ((c.tc : Thread Cert.InDtWgradReferenceIdeal.nD Cert.InDtWgradReferenceIdeal.τ).loc Cert.InDtWgradReferenceIdeal.main_arg1) = m' ((c.tc : Thread Cert.InDtWgradReferenceIdeal.nD Cert.InDtWgradReferenceIdeal.τ).loc Cert.InDtWgradReferenceIdeal.main_arg1))

def preserves_GateBwd_GateBwdIdeal : Prop :=
  True

def algebraic_GateBwdIdeal_GateBwdReferenceIdeal [hGateBwdIdeal : Cert.GateBwdIdeal.Facts] [hGateBwdReferenceIdeal : Cert.GateBwdReferenceIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdReferenceIdeal.nD Cert.GateBwdReferenceIdeal.τ Cert.GateBwdReferenceIdeal.sig) → Buf (Elt Ideal) ℓ) (g' : Dev Cert.GateBwdReferenceIdeal.nD → PrngReg), Pre_GateBwdIdeal m →
    (∀ c : Dev Cert.GateBwdIdeal.nD,
      m' ((c.tc : Thread Cert.GateBwdReferenceIdeal.nD Cert.GateBwdReferenceIdeal.τ).loc Cert.GateBwdReferenceIdeal.main_arg0) = m ((c.tc : Thread Cert.GateBwdIdeal.nD Cert.GateBwdIdeal.τ).loc Cert.GateBwdIdeal.main_arg0)
      ∧ m' ((c.tc : Thread Cert.GateBwdReferenceIdeal.nD Cert.GateBwdReferenceIdeal.τ).loc Cert.GateBwdReferenceIdeal.main_arg1) = m ((c.tc : Thread Cert.GateBwdIdeal.nD Cert.GateBwdIdeal.τ).loc Cert.GateBwdIdeal.main_arg1)
      ∧ m' ((c.tc : Thread Cert.GateBwdReferenceIdeal.nD Cert.GateBwdReferenceIdeal.τ).loc Cert.GateBwdReferenceIdeal.main_arg2) = m ((c.tc : Thread Cert.GateBwdIdeal.nD Cert.GateBwdIdeal.τ).loc Cert.GateBwdIdeal.main_arg2)
      ∧ m' ((c.tc : Thread Cert.GateBwdReferenceIdeal.nD Cert.GateBwdReferenceIdeal.τ).loc Cert.GateBwdReferenceIdeal.main_arg3) = m ((c.tc : Thread Cert.GateBwdIdeal.nD Cert.GateBwdIdeal.τ).loc Cert.GateBwdIdeal.main_arg3)
      ∧ m' ((c.tc : Thread Cert.GateBwdReferenceIdeal.nD Cert.GateBwdReferenceIdeal.τ).loc Cert.GateBwdReferenceIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)) (v3 : (c : Dev Cert.GateBwdIdeal.nD) → Buf (Elt Ideal) ((c.tc : Thread Cert.GateBwdIdeal.nD Cert.GateBwdIdeal.τ).loc Cert.GateBwdIdeal.main_v0_3)) (v4 : (c : Dev Cert.GateBwdIdeal.nD) → Buf (Elt Ideal) ((c.tc : Thread Cert.GateBwdIdeal.nD Cert.GateBwdIdeal.τ).loc Cert.GateBwdIdeal.main_v0_4)) (v5 : (c : Dev Cert.GateBwdIdeal.nD) → Buf (Elt Ideal) ((c.tc : Thread Cert.GateBwdIdeal.nD Cert.GateBwdIdeal.τ).loc Cert.GateBwdIdeal.main_v0_5)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_v0_3) = v3 c
          ∧ r.2.mem ((c.tc : Thread Cert.GateBwdIdeal.nD Cert.GateBwdIdeal.τ).loc Cert.GateBwdIdeal.main_v0_4) = v4 c
          ∧ r.2.mem ((c.tc : Thread Cert.GateBwdIdeal.nD Cert.GateBwdIdeal.τ).loc Cert.GateBwdIdeal.main_v0_5) = v5 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateBwdReferenceIdeal.defs (F := Ideal)) (onTc (τ := Cert.GateBwdReferenceIdeal.τ) (Cert.GateBwdReferenceIdeal.main (F := Ideal))) ⟨m', fun _ => 0, g'⟩ (fun r => ∀ c : Dev Cert.GateBwdReferenceIdeal.nD,
          r.2.mem ((c.tc : Thread Cert.GateBwdReferenceIdeal.nD Cert.GateBwdReferenceIdeal.τ).loc Cert.GateBwdReferenceIdeal.main_v33) = v0 c
          ∧ r.2.mem ((c.tc : Thread Cert.GateBwdReferenceIdeal.nD Cert.GateBwdReferenceIdeal.τ).loc Cert.GateBwdReferenceIdeal.main_v34) = v1 c
          ∧ r.2.mem ((c.tc : Thread Cert.GateBwdReferenceIdeal.nD Cert.GateBwdReferenceIdeal.τ).loc Cert.GateBwdReferenceIdeal.main_v29) = v2 c
          ∧ r.2.mem ((c.tc : Thread Cert.GateBwdReferenceIdeal.nD Cert.GateBwdReferenceIdeal.τ).loc Cert.GateBwdReferenceIdeal.main_v30) = v3 c
          ∧ r.2.mem ((c.tc : Thread Cert.GateBwdReferenceIdeal.nD Cert.GateBwdReferenceIdeal.τ).loc Cert.GateBwdReferenceIdeal.main_v31) = v4 c
          ∧ r.2.mem ((c.tc : Thread Cert.GateBwdReferenceIdeal.nD Cert.GateBwdReferenceIdeal.τ).loc Cert.GateBwdReferenceIdeal.main_v32) = v5 c
          ∧ r.2.mem ((c.tc : Thread Cert.GateBwdReferenceIdeal.nD Cert.GateBwdReferenceIdeal.τ).loc Cert.GateBwdReferenceIdeal.main_arg0) = m' ((c.tc : Thread Cert.GateBwdReferenceIdeal.nD Cert.GateBwdReferenceIdeal.τ).loc Cert.GateBwdReferenceIdeal.main_arg0)
          ∧ r.2.mem ((c.tc : Thread Cert.GateBwdReferenceIdeal.nD Cert.GateBwdReferenceIdeal.τ).loc Cert.GateBwdReferenceIdeal.main_arg1) = m' ((c.tc : Thread Cert.GateBwdReferenceIdeal.nD Cert.GateBwdReferenceIdeal.τ).loc Cert.GateBwdReferenceIdeal.main_arg1)
          ∧ r.2.mem ((c.tc : Thread Cert.GateBwdReferenceIdeal.nD Cert.GateBwdReferenceIdeal.τ).loc Cert.GateBwdReferenceIdeal.main_arg2) = m' ((c.tc : Thread Cert.GateBwdReferenceIdeal.nD Cert.GateBwdReferenceIdeal.τ).loc Cert.GateBwdReferenceIdeal.main_arg2)
          ∧ r.2.mem ((c.tc : Thread Cert.GateBwdReferenceIdeal.nD Cert.GateBwdReferenceIdeal.τ).loc Cert.GateBwdReferenceIdeal.main_arg3) = m' ((c.tc : Thread Cert.GateBwdReferenceIdeal.nD Cert.GateBwdReferenceIdeal.τ).loc Cert.GateBwdReferenceIdeal.main_arg3)
          ∧ r.2.mem ((c.tc : Thread Cert.GateBwdReferenceIdeal.nD Cert.GateBwdReferenceIdeal.τ).loc Cert.GateBwdReferenceIdeal.main_arg4) = m' ((c.tc : Thread Cert.GateBwdReferenceIdeal.nD Cert.GateBwdReferenceIdeal.τ).loc Cert.GateBwdReferenceIdeal.main_arg4))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)
      ∧ m' ((c.tc : Thread Cert.GateFwdReferenceIdeal.nD Cert.GateFwdReferenceIdeal.τ).loc Cert.GateFwdReferenceIdeal.main_arg2) = m ((c.tc : Thread Cert.GateFwdIdeal.nD Cert.GateFwdIdeal.τ).loc Cert.GateFwdIdeal.main_arg2)
      ∧ m' ((c.tc : Thread Cert.GateFwdReferenceIdeal.nD Cert.GateFwdReferenceIdeal.τ).loc Cert.GateFwdReferenceIdeal.main_arg3) = m ((c.tc : Thread Cert.GateFwdIdeal.nD Cert.GateFwdIdeal.τ).loc Cert.GateFwdIdeal.main_arg3)) →
    ∃ (v0 : (c : Dev Cert.GateFwdIdeal.nD) → Buf (Elt Ideal) ((c.tc : Thread Cert.GateFwdIdeal.nD Cert.GateFwdIdeal.τ).loc Cert.GateFwdIdeal.main_v0)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v0) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v16) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2)
          ∧ r.2.mem ((c.tc : Thread Cert.GateFwdReferenceIdeal.nD Cert.GateFwdReferenceIdeal.τ).loc Cert.GateFwdReferenceIdeal.main_arg3) = m' ((c.tc : Thread Cert.GateFwdReferenceIdeal.nD Cert.GateFwdReferenceIdeal.τ).loc Cert.GateFwdReferenceIdeal.main_arg3))

def preserves_RmsFwd_RmsFwdIdeal : Prop :=
  True

def algebraic_RmsFwdIdeal_RmsFwdReferenceIdeal [hRmsFwdIdeal : Cert.RmsFwdIdeal.Facts] [hRmsFwdReferenceIdeal : Cert.RmsFwdReferenceIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdReferenceIdeal.nD Cert.RmsFwdReferenceIdeal.τ Cert.RmsFwdReferenceIdeal.sig) → Buf (Elt Ideal) ℓ) (g' : Dev Cert.RmsFwdReferenceIdeal.nD → PrngReg), Pre_RmsFwdIdeal m →
    (∀ c : Dev Cert.RmsFwdIdeal.nD,
      m' ((c.tc : Thread Cert.RmsFwdReferenceIdeal.nD Cert.RmsFwdReferenceIdeal.τ).loc Cert.RmsFwdReferenceIdeal.main_arg0) = m ((c.tc : Thread Cert.RmsFwdIdeal.nD Cert.RmsFwdIdeal.τ).loc Cert.RmsFwdIdeal.main_arg0)
      ∧ m' ((c.tc : Thread Cert.RmsFwdReferenceIdeal.nD Cert.RmsFwdReferenceIdeal.τ).loc Cert.RmsFwdReferenceIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdReferenceIdeal.defs (F := Ideal)) (onTc (τ := Cert.RmsFwdReferenceIdeal.τ) (Cert.RmsFwdReferenceIdeal.main (F := Ideal))) ⟨m', fun _ => 0, g'⟩ (fun r => ∀ c : Dev Cert.RmsFwdReferenceIdeal.nD,
          r.2.mem ((c.tc : Thread Cert.RmsFwdReferenceIdeal.nD Cert.RmsFwdReferenceIdeal.τ).loc Cert.RmsFwdReferenceIdeal.main_v12) = v0 c
          ∧ r.2.mem ((c.tc : Thread Cert.RmsFwdReferenceIdeal.nD Cert.RmsFwdReferenceIdeal.τ).loc Cert.RmsFwdReferenceIdeal.main_arg0) = m' ((c.tc : Thread Cert.RmsFwdReferenceIdeal.nD Cert.RmsFwdReferenceIdeal.τ).loc Cert.RmsFwdReferenceIdeal.main_arg0)
          ∧ r.2.mem ((c.tc : Thread Cert.RmsFwdReferenceIdeal.nD Cert.RmsFwdReferenceIdeal.τ).loc Cert.RmsFwdReferenceIdeal.main_arg1) = m' ((c.tc : Thread Cert.RmsFwdReferenceIdeal.nD Cert.RmsFwdReferenceIdeal.τ).loc Cert.RmsFwdReferenceIdeal.main_arg1))

def preserves_AdamwDown_AdamwDownIdeal : Prop :=
  True

def algebraic_AdamwDownIdeal_AdamwDownReferenceIdeal [hAdamwDownIdeal : Cert.AdamwDownIdeal.Facts] [hAdamwDownReferenceIdeal : Cert.AdamwDownReferenceIdeal.Facts] : Prop :=
  ∀ (m : (ℓ : Loc Cert.AdamwDownIdeal.nD Cert.AdamwDownIdeal.τ Cert.AdamwDownIdeal.sig) → Buf (Elt Ideal) ℓ) (g : Dev Cert.AdamwDownIdeal.nD → PrngReg)
    (m' : (ℓ : Loc Cert.AdamwDownReferenceIdeal.nD Cert.AdamwDownReferenceIdeal.τ Cert.AdamwDownReferenceIdeal.sig) → Buf (Elt Ideal) ℓ) (g' : Dev Cert.AdamwDownReferenceIdeal.nD → PrngReg), Pre_AdamwDownIdeal m →
    (∀ c : Dev Cert.AdamwDownIdeal.nD,
      m' ((c.tc : Thread Cert.AdamwDownReferenceIdeal.nD Cert.AdamwDownReferenceIdeal.τ).loc Cert.AdamwDownReferenceIdeal.main_arg0) = m ((c.tc : Thread Cert.AdamwDownIdeal.nD Cert.AdamwDownIdeal.τ).loc Cert.AdamwDownIdeal.main_arg0)
      ∧ m' ((c.tc : Thread Cert.AdamwDownReferenceIdeal.nD Cert.AdamwDownReferenceIdeal.τ).loc Cert.AdamwDownReferenceIdeal.main_arg1) = m ((c.tc : Thread Cert.AdamwDownIdeal.nD Cert.AdamwDownIdeal.τ).loc Cert.AdamwDownIdeal.main_arg1)
      ∧ m' ((c.tc : Thread Cert.AdamwDownReferenceIdeal.nD Cert.AdamwDownReferenceIdeal.τ).loc Cert.AdamwDownReferenceIdeal.main_arg2) = m ((c.tc : Thread Cert.AdamwDownIdeal.nD Cert.AdamwDownIdeal.τ).loc Cert.AdamwDownIdeal.main_arg2)
      ∧ m' ((c.tc : Thread Cert.AdamwDownReferenceIdeal.nD Cert.AdamwDownReferenceIdeal.τ).loc Cert.AdamwDownReferenceIdeal.main_arg3) = m ((c.tc : Thread Cert.AdamwDownIdeal.nD Cert.AdamwDownIdeal.τ).loc Cert.AdamwDownIdeal.main_arg3)
      ∧ m' ((c.tc : Thread Cert.AdamwDownReferenceIdeal.nD Cert.AdamwDownReferenceIdeal.τ).loc Cert.AdamwDownReferenceIdeal.main_arg4) = m ((c.tc : Thread Cert.AdamwDownIdeal.nD Cert.AdamwDownIdeal.τ).loc Cert.AdamwDownIdeal.main_arg4)) →
    ∃ (v0 : (c : Dev Cert.AdamwDownIdeal.nD) → Buf (Elt Ideal) ((c.tc : Thread Cert.AdamwDownIdeal.nD Cert.AdamwDownIdeal.τ).loc Cert.AdamwDownIdeal.main_v0_0)) (v1 : (c : Dev Cert.AdamwDownIdeal.nD) → Buf (Elt Ideal) ((c.tc : Thread Cert.AdamwDownIdeal.nD Cert.AdamwDownIdeal.τ).loc Cert.AdamwDownIdeal.main_v0_1)) (v2 : (c : Dev Cert.AdamwDownIdeal.nD) → Buf (Elt Ideal) ((c.tc : Thread Cert.AdamwDownIdeal.nD Cert.AdamwDownIdeal.τ).loc Cert.AdamwDownIdeal.main_v0_2)) (v3 : (c : Dev Cert.AdamwDownIdeal.nD) → Buf (Elt Ideal) ((c.tc : Thread Cert.AdamwDownIdeal.nD Cert.AdamwDownIdeal.τ).loc Cert.AdamwDownIdeal.main_v0_3)),
      θ_run (Cert.AdamwDownIdeal.defs (F := Ideal)) (onTc (τ := Cert.AdamwDownIdeal.τ) (Cert.AdamwDownIdeal.main (F := Ideal))) ⟨m, fun _ => 0, g⟩ (fun r => ∀ c : Dev Cert.AdamwDownIdeal.nD,
          r.2.mem ((c.tc : Thread Cert.AdamwDownIdeal.nD Cert.AdamwDownIdeal.τ).loc Cert.AdamwDownIdeal.main_v0_0) = v0 c
          ∧ r.2.mem ((c.tc : Thread Cert.AdamwDownIdeal.nD Cert.AdamwDownIdeal.τ).loc Cert.AdamwDownIdeal.main_v0_1) = v1 c
          ∧ r.2.mem ((c.tc : Thread Cert.AdamwDownIdeal.nD Cert.AdamwDownIdeal.τ).loc Cert.AdamwDownIdeal.main_v0_2) = v2 c
          ∧ r.2.mem ((c.tc : Thread Cert.AdamwDownIdeal.nD Cert.AdamwDownIdeal.τ).loc Cert.AdamwDownIdeal.main_v0_3) = v3 c
          ∧ r.2.mem ((c.tc : Thread Cert.AdamwDownIdeal.nD Cert.AdamwDownIdeal.τ).loc Cert.AdamwDownIdeal.main_arg0) = m ((c.tc : Thread Cert.AdamwDownIdeal.nD Cert.AdamwDownIdeal.τ).loc Cert.AdamwDownIdeal.main_arg0)
          ∧ r.2.mem ((c.tc : Thread Cert.AdamwDownIdeal.nD Cert.AdamwDownIdeal.τ).loc Cert.AdamwDownIdeal.main_arg1) = m ((c.tc : Thread Cert.AdamwDownIdeal.nD Cert.AdamwDownIdeal.τ).loc Cert.AdamwDownIdeal.main_arg1)
          ∧ r.2.mem ((c.tc : Thread Cert.AdamwDownIdeal.nD Cert.AdamwDownIdeal.τ).loc Cert.AdamwDownIdeal.main_arg2) = m ((c.tc : Thread Cert.AdamwDownIdeal.nD Cert.AdamwDownIdeal.τ).loc Cert.AdamwDownIdeal.main_arg2)
          ∧ r.2.mem ((c.tc : Thread Cert.AdamwDownIdeal.nD Cert.AdamwDownIdeal.τ).loc Cert.AdamwDownIdeal.main_arg3) = m ((c.tc : Thread Cert.AdamwDownIdeal.nD Cert.AdamwDownIdeal.τ).loc Cert.AdamwDownIdeal.main_arg3)
          ∧ r.2.mem ((c.tc : Thread Cert.AdamwDownIdeal.nD Cert.AdamwDownIdeal.τ).loc Cert.AdamwDownIdeal.main_arg4) = m ((c.tc : Thread Cert.AdamwDownIdeal.nD Cert.AdamwDownIdeal.τ).loc Cert.AdamwDownIdeal.main_arg4))
      ∧ θ_run (Cert.AdamwDownReferenceIdeal.defs (F := Ideal)) (onTc (τ := Cert.AdamwDownReferenceIdeal.τ) (Cert.AdamwDownReferenceIdeal.main (F := Ideal))) ⟨m', fun _ => 0, g'⟩ (fun r => ∀ c : Dev Cert.AdamwDownReferenceIdeal.nD,
          r.2.mem ((c.tc : Thread Cert.AdamwDownReferenceIdeal.nD Cert.AdamwDownReferenceIdeal.τ).loc Cert.AdamwDownReferenceIdeal.main_v0) = v0 c
          ∧ r.2.mem ((c.tc : Thread Cert.AdamwDownReferenceIdeal.nD Cert.AdamwDownReferenceIdeal.τ).loc Cert.AdamwDownReferenceIdeal.main_v24) = v1 c
          ∧ r.2.mem ((c.tc : Thread Cert.AdamwDownReferenceIdeal.nD Cert.AdamwDownReferenceIdeal.τ).loc Cert.AdamwDownReferenceIdeal.main_v5) = v2 c
          ∧ r.2.mem ((c.tc : Thread Cert.AdamwDownReferenceIdeal.nD Cert.AdamwDownReferenceIdeal.τ).loc Cert.AdamwDownReferenceIdeal.main_v11) = v3 c
          ∧ r.2.mem ((c.tc : Thread Cert.AdamwDownReferenceIdeal.nD Cert.AdamwDownReferenceIdeal.τ).loc Cert.AdamwDownReferenceIdeal.main_arg0) = m' ((c.tc : Thread Cert.AdamwDownReferenceIdeal.nD Cert.AdamwDownReferenceIdeal.τ).loc Cert.AdamwDownReferenceIdeal.main_arg0)
          ∧ r.2.mem ((c.tc : Thread Cert.AdamwDownReferenceIdeal.nD Cert.AdamwDownReferenceIdeal.τ).loc Cert.AdamwDownReferenceIdeal.main_arg1) = m' ((c.tc : Thread Cert.AdamwDownReferenceIdeal.nD Cert.AdamwDownReferenceIdeal.τ).loc Cert.AdamwDownReferenceIdeal.main_arg1)
          ∧ r.2.mem ((c.tc : Thread Cert.AdamwDownReferenceIdeal.nD Cert.AdamwDownReferenceIdeal.τ).loc Cert.AdamwDownReferenceIdeal.main_arg2) = m' ((c.tc : Thread Cert.AdamwDownReferenceIdeal.nD Cert.AdamwDownReferenceIdeal.τ).loc Cert.AdamwDownReferenceIdeal.main_arg2)
          ∧ r.2.mem ((c.tc : Thread Cert.AdamwDownReferenceIdeal.nD Cert.AdamwDownReferenceIdeal.τ).loc Cert.AdamwDownReferenceIdeal.main_arg3) = m' ((c.tc : Thread Cert.AdamwDownReferenceIdeal.nD Cert.AdamwDownReferenceIdeal.τ).loc Cert.AdamwDownReferenceIdeal.main_arg3)
          ∧ r.2.mem ((c.tc : Thread Cert.AdamwDownReferenceIdeal.nD Cert.AdamwDownReferenceIdeal.τ).loc Cert.AdamwDownReferenceIdeal.main_arg4) = m' ((c.tc : Thread Cert.AdamwDownReferenceIdeal.nD Cert.AdamwDownReferenceIdeal.τ).loc Cert.AdamwDownReferenceIdeal.main_arg4))

def preserves_AdamwOut_AdamwOutIdeal : Prop :=
  True

def algebraic_AdamwOutIdeal_AdamwOutReferenceIdeal [hAdamwOutIdeal : Cert.AdamwOutIdeal.Facts] [hAdamwOutReferenceIdeal : Cert.AdamwOutReferenceIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutReferenceIdeal.nD Cert.AdamwOutReferenceIdeal.τ Cert.AdamwOutReferenceIdeal.sig) → Buf (Elt Ideal) ℓ) (g' : Dev Cert.AdamwOutReferenceIdeal.nD → PrngReg), Pre_AdamwOutIdeal m →
    (∀ c : Dev Cert.AdamwOutIdeal.nD,
      m' ((c.tc : Thread Cert.AdamwOutReferenceIdeal.nD Cert.AdamwOutReferenceIdeal.τ).loc Cert.AdamwOutReferenceIdeal.main_arg0) = m ((c.tc : Thread Cert.AdamwOutIdeal.nD Cert.AdamwOutIdeal.τ).loc Cert.AdamwOutIdeal.main_arg0)
      ∧ m' ((c.tc : Thread Cert.AdamwOutReferenceIdeal.nD Cert.AdamwOutReferenceIdeal.τ).loc Cert.AdamwOutReferenceIdeal.main_arg1) = m ((c.tc : Thread Cert.AdamwOutIdeal.nD Cert.AdamwOutIdeal.τ).loc Cert.AdamwOutIdeal.main_arg1)
      ∧ m' ((c.tc : Thread Cert.AdamwOutReferenceIdeal.nD Cert.AdamwOutReferenceIdeal.τ).loc Cert.AdamwOutReferenceIdeal.main_arg2) = m ((c.tc : Thread Cert.AdamwOutIdeal.nD Cert.AdamwOutIdeal.τ).loc Cert.AdamwOutIdeal.main_arg2)
      ∧ m' ((c.tc : Thread Cert.AdamwOutReferenceIdeal.nD Cert.AdamwOutReferenceIdeal.τ).loc Cert.AdamwOutReferenceIdeal.main_arg3) = m ((c.tc : Thread Cert.AdamwOutIdeal.nD Cert.AdamwOutIdeal.τ).loc Cert.AdamwOutIdeal.main_arg3)
      ∧ m' ((c.tc : Thread Cert.AdamwOutReferenceIdeal.nD Cert.AdamwOutReferenceIdeal.τ).loc Cert.AdamwOutReferenceIdeal.main_arg4) = m ((c.tc : Thread Cert.AdamwOutIdeal.nD Cert.AdamwOutIdeal.τ).loc Cert.AdamwOutIdeal.main_arg4)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)) (v3 : (c : Dev Cert.AdamwOutIdeal.nD) → Buf (Elt Ideal) ((c.tc : Thread Cert.AdamwOutIdeal.nD Cert.AdamwOutIdeal.τ).loc Cert.AdamwOutIdeal.main_v0_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_v0_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ θ_run (Cert.AdamwOutReferenceIdeal.defs (F := Ideal)) (onTc (τ := Cert.AdamwOutReferenceIdeal.τ) (Cert.AdamwOutReferenceIdeal.main (F := Ideal))) ⟨m', fun _ => 0, g'⟩ (fun r => ∀ c : Dev Cert.AdamwOutReferenceIdeal.nD,
          r.2.mem ((c.tc : Thread Cert.AdamwOutReferenceIdeal.nD Cert.AdamwOutReferenceIdeal.τ).loc Cert.AdamwOutReferenceIdeal.main_v0) = v0 c
          ∧ r.2.mem ((c.tc : Thread Cert.AdamwOutReferenceIdeal.nD Cert.AdamwOutReferenceIdeal.τ).loc Cert.AdamwOutReferenceIdeal.main_v24) = v1 c
          ∧ r.2.mem ((c.tc : Thread Cert.AdamwOutReferenceIdeal.nD Cert.AdamwOutReferenceIdeal.τ).loc Cert.AdamwOutReferenceIdeal.main_v5) = v2 c
          ∧ r.2.mem ((c.tc : Thread Cert.AdamwOutReferenceIdeal.nD Cert.AdamwOutReferenceIdeal.τ).loc Cert.AdamwOutReferenceIdeal.main_v11) = v3 c
          ∧ r.2.mem ((c.tc : Thread Cert.AdamwOutReferenceIdeal.nD Cert.AdamwOutReferenceIdeal.τ).loc Cert.AdamwOutReferenceIdeal.main_arg0) = m' ((c.tc : Thread Cert.AdamwOutReferenceIdeal.nD Cert.AdamwOutReferenceIdeal.τ).loc Cert.AdamwOutReferenceIdeal.main_arg0)
          ∧ r.2.mem ((c.tc : Thread Cert.AdamwOutReferenceIdeal.nD Cert.AdamwOutReferenceIdeal.τ).loc Cert.AdamwOutReferenceIdeal.main_arg1) = m' ((c.tc : Thread Cert.AdamwOutReferenceIdeal.nD Cert.AdamwOutReferenceIdeal.τ).loc Cert.AdamwOutReferenceIdeal.main_arg1)
          ∧ r.2.mem ((c.tc : Thread Cert.AdamwOutReferenceIdeal.nD Cert.AdamwOutReferenceIdeal.τ).loc Cert.AdamwOutReferenceIdeal.main_arg2) = m' ((c.tc : Thread Cert.AdamwOutReferenceIdeal.nD Cert.AdamwOutReferenceIdeal.τ).loc Cert.AdamwOutReferenceIdeal.main_arg2)
          ∧ r.2.mem ((c.tc : Thread Cert.AdamwOutReferenceIdeal.nD Cert.AdamwOutReferenceIdeal.τ).loc Cert.AdamwOutReferenceIdeal.main_arg3) = m' ((c.tc : Thread Cert.AdamwOutReferenceIdeal.nD Cert.AdamwOutReferenceIdeal.τ).loc Cert.AdamwOutReferenceIdeal.main_arg3)
          ∧ r.2.mem ((c.tc : Thread Cert.AdamwOutReferenceIdeal.nD Cert.AdamwOutReferenceIdeal.τ).loc Cert.AdamwOutReferenceIdeal.main_arg4) = m' ((c.tc : Thread Cert.AdamwOutReferenceIdeal.nD Cert.AdamwOutReferenceIdeal.τ).loc Cert.AdamwOutReferenceIdeal.main_arg4))

def preserves_AdamwBranch_AdamwBranchIdeal : Prop :=
  True

def algebraic_AdamwBranchIdeal_AdamwBranchReferenceIdeal [hAdamwBranchIdeal : Cert.AdamwBranchIdeal.Facts] [hAdamwBranchReferenceIdeal : Cert.AdamwBranchReferenceIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg)
    (m' : (ℓ : Loc Cert.AdamwBranchReferenceIdeal.nD Cert.AdamwBranchReferenceIdeal.τ Cert.AdamwBranchReferenceIdeal.sig) → Buf (Elt Ideal) ℓ) (g' : Dev Cert.AdamwBranchReferenceIdeal.nD → PrngReg), Pre_AdamwBranchIdeal m →
    (∀ c : Dev Cert.AdamwBranchIdeal.nD,
      m' ((c.tc : Thread Cert.AdamwBranchReferenceIdeal.nD Cert.AdamwBranchReferenceIdeal.τ).loc Cert.AdamwBranchReferenceIdeal.main_arg0) = m ((c.tc : Thread Cert.AdamwBranchIdeal.nD Cert.AdamwBranchIdeal.τ).loc Cert.AdamwBranchIdeal.main_arg0)
      ∧ m' ((c.tc : Thread Cert.AdamwBranchReferenceIdeal.nD Cert.AdamwBranchReferenceIdeal.τ).loc Cert.AdamwBranchReferenceIdeal.main_arg1) = m ((c.tc : Thread Cert.AdamwBranchIdeal.nD Cert.AdamwBranchIdeal.τ).loc Cert.AdamwBranchIdeal.main_arg1)
      ∧ m' ((c.tc : Thread Cert.AdamwBranchReferenceIdeal.nD Cert.AdamwBranchReferenceIdeal.τ).loc Cert.AdamwBranchReferenceIdeal.main_arg2) = m ((c.tc : Thread Cert.AdamwBranchIdeal.nD Cert.AdamwBranchIdeal.τ).loc Cert.AdamwBranchIdeal.main_arg2)
      ∧ m' ((c.tc : Thread Cert.AdamwBranchReferenceIdeal.nD Cert.AdamwBranchReferenceIdeal.τ).loc Cert.AdamwBranchReferenceIdeal.main_arg3) = m ((c.tc : Thread Cert.AdamwBranchIdeal.nD Cert.AdamwBranchIdeal.τ).loc Cert.AdamwBranchIdeal.main_arg3)
      ∧ m' ((c.tc : Thread Cert.AdamwBranchReferenceIdeal.nD Cert.AdamwBranchReferenceIdeal.τ).loc Cert.AdamwBranchReferenceIdeal.main_arg4) = m ((c.tc : Thread Cert.AdamwBranchIdeal.nD Cert.AdamwBranchIdeal.τ).loc Cert.AdamwBranchIdeal.main_arg4)) →
    ∃ (v0 : (c : Dev Cert.AdamwBranchIdeal.nD) → Buf (Elt Ideal) ((c.tc : Thread Cert.AdamwBranchIdeal.nD Cert.AdamwBranchIdeal.τ).loc Cert.AdamwBranchIdeal.main_v0_0)) (v1 : (c : Dev Cert.AdamwBranchIdeal.nD) → Buf (Elt Ideal) ((c.tc : Thread Cert.AdamwBranchIdeal.nD Cert.AdamwBranchIdeal.τ).loc Cert.AdamwBranchIdeal.main_v0_1)) (v2 : (c : Dev Cert.AdamwBranchIdeal.nD) → Buf (Elt Ideal) ((c.tc : Thread Cert.AdamwBranchIdeal.nD Cert.AdamwBranchIdeal.τ).loc Cert.AdamwBranchIdeal.main_v0_2)) (v3 : (c : Dev Cert.AdamwBranchIdeal.nD) → Buf (Elt Ideal) ((c.tc : Thread Cert.AdamwBranchIdeal.nD Cert.AdamwBranchIdeal.τ).loc Cert.AdamwBranchIdeal.main_v0_3)),
      θ_run (Cert.AdamwBranchIdeal.defs (F := Ideal)) (onTc (τ := Cert.AdamwBranchIdeal.τ) (Cert.AdamwBranchIdeal.main (F := Ideal))) ⟨m, fun _ => 0, g⟩ (fun r => ∀ c : Dev Cert.AdamwBranchIdeal.nD,
          r.2.mem ((c.tc : Thread Cert.AdamwBranchIdeal.nD Cert.AdamwBranchIdeal.τ).loc Cert.AdamwBranchIdeal.main_v0_0) = v0 c
          ∧ r.2.mem ((c.tc : Thread Cert.AdamwBranchIdeal.nD Cert.AdamwBranchIdeal.τ).loc Cert.AdamwBranchIdeal.main_v0_1) = v1 c
          ∧ r.2.mem ((c.tc : Thread Cert.AdamwBranchIdeal.nD Cert.AdamwBranchIdeal.τ).loc Cert.AdamwBranchIdeal.main_v0_2) = v2 c
          ∧ r.2.mem ((c.tc : Thread Cert.AdamwBranchIdeal.nD Cert.AdamwBranchIdeal.τ).loc Cert.AdamwBranchIdeal.main_v0_3) = v3 c
          ∧ r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
          ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
          ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
          ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3)
          ∧ r.2.mem ((c.tc : Thread Cert.AdamwBranchIdeal.nD Cert.AdamwBranchIdeal.τ).loc Cert.AdamwBranchIdeal.main_arg4) = m ((c.tc : Thread Cert.AdamwBranchIdeal.nD Cert.AdamwBranchIdeal.τ).loc Cert.AdamwBranchIdeal.main_arg4))
      ∧ θ_run (Cert.AdamwBranchReferenceIdeal.defs (F := Ideal)) (onTc (τ := Cert.AdamwBranchReferenceIdeal.τ) (Cert.AdamwBranchReferenceIdeal.main (F := Ideal))) ⟨m', fun _ => 0, g'⟩ (fun r => ∀ c : Dev Cert.AdamwBranchReferenceIdeal.nD,
          r.2.mem ((c.tc : Thread Cert.AdamwBranchReferenceIdeal.nD Cert.AdamwBranchReferenceIdeal.τ).loc Cert.AdamwBranchReferenceIdeal.main_v0) = v0 c
          ∧ r.2.mem ((c.tc : Thread Cert.AdamwBranchReferenceIdeal.nD Cert.AdamwBranchReferenceIdeal.τ).loc Cert.AdamwBranchReferenceIdeal.main_v24) = v1 c
          ∧ r.2.mem ((c.tc : Thread Cert.AdamwBranchReferenceIdeal.nD Cert.AdamwBranchReferenceIdeal.τ).loc Cert.AdamwBranchReferenceIdeal.main_v5) = v2 c
          ∧ r.2.mem ((c.tc : Thread Cert.AdamwBranchReferenceIdeal.nD Cert.AdamwBranchReferenceIdeal.τ).loc Cert.AdamwBranchReferenceIdeal.main_v11) = v3 c
          ∧ r.2.mem ((c.tc : Thread Cert.AdamwBranchReferenceIdeal.nD Cert.AdamwBranchReferenceIdeal.τ).loc Cert.AdamwBranchReferenceIdeal.main_arg0) = m' ((c.tc : Thread Cert.AdamwBranchReferenceIdeal.nD Cert.AdamwBranchReferenceIdeal.τ).loc Cert.AdamwBranchReferenceIdeal.main_arg0)
          ∧ r.2.mem ((c.tc : Thread Cert.AdamwBranchReferenceIdeal.nD Cert.AdamwBranchReferenceIdeal.τ).loc Cert.AdamwBranchReferenceIdeal.main_arg1) = m' ((c.tc : Thread Cert.AdamwBranchReferenceIdeal.nD Cert.AdamwBranchReferenceIdeal.τ).loc Cert.AdamwBranchReferenceIdeal.main_arg1)
          ∧ r.2.mem ((c.tc : Thread Cert.AdamwBranchReferenceIdeal.nD Cert.AdamwBranchReferenceIdeal.τ).loc Cert.AdamwBranchReferenceIdeal.main_arg2) = m' ((c.tc : Thread Cert.AdamwBranchReferenceIdeal.nD Cert.AdamwBranchReferenceIdeal.τ).loc Cert.AdamwBranchReferenceIdeal.main_arg2)
          ∧ r.2.mem ((c.tc : Thread Cert.AdamwBranchReferenceIdeal.nD Cert.AdamwBranchReferenceIdeal.τ).loc Cert.AdamwBranchReferenceIdeal.main_arg3) = m' ((c.tc : Thread Cert.AdamwBranchReferenceIdeal.nD Cert.AdamwBranchReferenceIdeal.τ).loc Cert.AdamwBranchReferenceIdeal.main_arg3)
          ∧ r.2.mem ((c.tc : Thread Cert.AdamwBranchReferenceIdeal.nD Cert.AdamwBranchReferenceIdeal.τ).loc Cert.AdamwBranchReferenceIdeal.main_arg4) = m' ((c.tc : Thread Cert.AdamwBranchReferenceIdeal.nD Cert.AdamwBranchReferenceIdeal.τ).loc Cert.AdamwBranchReferenceIdeal.main_arg4))

def preserves_AdamwUp_AdamwUpIdeal : Prop :=
  True

def algebraic_AdamwUpIdeal_AdamwUpReferenceIdeal [hAdamwUpIdeal : Cert.AdamwUpIdeal.Facts] [hAdamwUpReferenceIdeal : Cert.AdamwUpReferenceIdeal.Facts] : Prop :=
  ∀ (m : (ℓ : Loc Cert.AdamwUpIdeal.nD Cert.AdamwUpIdeal.τ Cert.AdamwUpIdeal.sig) → Buf (Elt Ideal) ℓ) (g : Dev Cert.AdamwUpIdeal.nD → PrngReg)
    (m' : (ℓ : Loc Cert.AdamwUpReferenceIdeal.nD Cert.AdamwUpReferenceIdeal.τ Cert.AdamwUpReferenceIdeal.sig) → Buf (Elt Ideal) ℓ) (g' : Dev Cert.AdamwUpReferenceIdeal.nD → PrngReg), Pre_AdamwUpIdeal m →
    (∀ c : Dev Cert.AdamwUpIdeal.nD,
      m' ((c.tc : Thread Cert.AdamwUpReferenceIdeal.nD Cert.AdamwUpReferenceIdeal.τ).loc Cert.AdamwUpReferenceIdeal.main_arg0) = m ((c.tc : Thread Cert.AdamwUpIdeal.nD Cert.AdamwUpIdeal.τ).loc Cert.AdamwUpIdeal.main_arg0)
      ∧ m' ((c.tc : Thread Cert.AdamwUpReferenceIdeal.nD Cert.AdamwUpReferenceIdeal.τ).loc Cert.AdamwUpReferenceIdeal.main_arg1) = m ((c.tc : Thread Cert.AdamwUpIdeal.nD Cert.AdamwUpIdeal.τ).loc Cert.AdamwUpIdeal.main_arg1)
      ∧ m' ((c.tc : Thread Cert.AdamwUpReferenceIdeal.nD Cert.AdamwUpReferenceIdeal.τ).loc Cert.AdamwUpReferenceIdeal.main_arg2) = m ((c.tc : Thread Cert.AdamwUpIdeal.nD Cert.AdamwUpIdeal.τ).loc Cert.AdamwUpIdeal.main_arg2)
      ∧ m' ((c.tc : Thread Cert.AdamwUpReferenceIdeal.nD Cert.AdamwUpReferenceIdeal.τ).loc Cert.AdamwUpReferenceIdeal.main_arg3) = m ((c.tc : Thread Cert.AdamwUpIdeal.nD Cert.AdamwUpIdeal.τ).loc Cert.AdamwUpIdeal.main_arg3)
      ∧ m' ((c.tc : Thread Cert.AdamwUpReferenceIdeal.nD Cert.AdamwUpReferenceIdeal.τ).loc Cert.AdamwUpReferenceIdeal.main_arg4) = m ((c.tc : Thread Cert.AdamwUpIdeal.nD Cert.AdamwUpIdeal.τ).loc Cert.AdamwUpIdeal.main_arg4)) →
    ∃ (v0 : (c : Dev Cert.AdamwUpIdeal.nD) → Buf (Elt Ideal) ((c.tc : Thread Cert.AdamwUpIdeal.nD Cert.AdamwUpIdeal.τ).loc Cert.AdamwUpIdeal.main_v0_0)) (v1 : (c : Dev Cert.AdamwUpIdeal.nD) → Buf (Elt Ideal) ((c.tc : Thread Cert.AdamwUpIdeal.nD Cert.AdamwUpIdeal.τ).loc Cert.AdamwUpIdeal.main_v0_1)) (v2 : (c : Dev Cert.AdamwUpIdeal.nD) → Buf (Elt Ideal) ((c.tc : Thread Cert.AdamwUpIdeal.nD Cert.AdamwUpIdeal.τ).loc Cert.AdamwUpIdeal.main_v0_2)) (v3 : (c : Dev Cert.AdamwUpIdeal.nD) → Buf (Elt Ideal) ((c.tc : Thread Cert.AdamwUpIdeal.nD Cert.AdamwUpIdeal.τ).loc Cert.AdamwUpIdeal.main_v0_3)),
      θ_run (Cert.AdamwUpIdeal.defs (F := Ideal)) (onTc (τ := Cert.AdamwUpIdeal.τ) (Cert.AdamwUpIdeal.main (F := Ideal))) ⟨m, fun _ => 0, g⟩ (fun r => ∀ c : Dev Cert.AdamwUpIdeal.nD,
          r.2.mem ((c.tc : Thread Cert.AdamwUpIdeal.nD Cert.AdamwUpIdeal.τ).loc Cert.AdamwUpIdeal.main_v0_0) = v0 c
          ∧ r.2.mem ((c.tc : Thread Cert.AdamwUpIdeal.nD Cert.AdamwUpIdeal.τ).loc Cert.AdamwUpIdeal.main_v0_1) = v1 c
          ∧ r.2.mem ((c.tc : Thread Cert.AdamwUpIdeal.nD Cert.AdamwUpIdeal.τ).loc Cert.AdamwUpIdeal.main_v0_2) = v2 c
          ∧ r.2.mem ((c.tc : Thread Cert.AdamwUpIdeal.nD Cert.AdamwUpIdeal.τ).loc Cert.AdamwUpIdeal.main_v0_3) = v3 c
          ∧ r.2.mem ((c.tc : Thread Cert.AdamwUpIdeal.nD Cert.AdamwUpIdeal.τ).loc Cert.AdamwUpIdeal.main_arg0) = m ((c.tc : Thread Cert.AdamwUpIdeal.nD Cert.AdamwUpIdeal.τ).loc Cert.AdamwUpIdeal.main_arg0)
          ∧ r.2.mem ((c.tc : Thread Cert.AdamwUpIdeal.nD Cert.AdamwUpIdeal.τ).loc Cert.AdamwUpIdeal.main_arg1) = m ((c.tc : Thread Cert.AdamwUpIdeal.nD Cert.AdamwUpIdeal.τ).loc Cert.AdamwUpIdeal.main_arg1)
          ∧ r.2.mem ((c.tc : Thread Cert.AdamwUpIdeal.nD Cert.AdamwUpIdeal.τ).loc Cert.AdamwUpIdeal.main_arg2) = m ((c.tc : Thread Cert.AdamwUpIdeal.nD Cert.AdamwUpIdeal.τ).loc Cert.AdamwUpIdeal.main_arg2)
          ∧ r.2.mem ((c.tc : Thread Cert.AdamwUpIdeal.nD Cert.AdamwUpIdeal.τ).loc Cert.AdamwUpIdeal.main_arg3) = m ((c.tc : Thread Cert.AdamwUpIdeal.nD Cert.AdamwUpIdeal.τ).loc Cert.AdamwUpIdeal.main_arg3)
          ∧ r.2.mem ((c.tc : Thread Cert.AdamwUpIdeal.nD Cert.AdamwUpIdeal.τ).loc Cert.AdamwUpIdeal.main_arg4) = m ((c.tc : Thread Cert.AdamwUpIdeal.nD Cert.AdamwUpIdeal.τ).loc Cert.AdamwUpIdeal.main_arg4))
      ∧ θ_run (Cert.AdamwUpReferenceIdeal.defs (F := Ideal)) (onTc (τ := Cert.AdamwUpReferenceIdeal.τ) (Cert.AdamwUpReferenceIdeal.main (F := Ideal))) ⟨m', fun _ => 0, g'⟩ (fun r => ∀ c : Dev Cert.AdamwUpReferenceIdeal.nD,
          r.2.mem ((c.tc : Thread Cert.AdamwUpReferenceIdeal.nD Cert.AdamwUpReferenceIdeal.τ).loc Cert.AdamwUpReferenceIdeal.main_v0) = v0 c
          ∧ r.2.mem ((c.tc : Thread Cert.AdamwUpReferenceIdeal.nD Cert.AdamwUpReferenceIdeal.τ).loc Cert.AdamwUpReferenceIdeal.main_v24) = v1 c
          ∧ r.2.mem ((c.tc : Thread Cert.AdamwUpReferenceIdeal.nD Cert.AdamwUpReferenceIdeal.τ).loc Cert.AdamwUpReferenceIdeal.main_v5) = v2 c
          ∧ r.2.mem ((c.tc : Thread Cert.AdamwUpReferenceIdeal.nD Cert.AdamwUpReferenceIdeal.τ).loc Cert.AdamwUpReferenceIdeal.main_v11) = v3 c
          ∧ r.2.mem ((c.tc : Thread Cert.AdamwUpReferenceIdeal.nD Cert.AdamwUpReferenceIdeal.τ).loc Cert.AdamwUpReferenceIdeal.main_arg0) = m' ((c.tc : Thread Cert.AdamwUpReferenceIdeal.nD Cert.AdamwUpReferenceIdeal.τ).loc Cert.AdamwUpReferenceIdeal.main_arg0)
          ∧ r.2.mem ((c.tc : Thread Cert.AdamwUpReferenceIdeal.nD Cert.AdamwUpReferenceIdeal.τ).loc Cert.AdamwUpReferenceIdeal.main_arg1) = m' ((c.tc : Thread Cert.AdamwUpReferenceIdeal.nD Cert.AdamwUpReferenceIdeal.τ).loc Cert.AdamwUpReferenceIdeal.main_arg1)
          ∧ r.2.mem ((c.tc : Thread Cert.AdamwUpReferenceIdeal.nD Cert.AdamwUpReferenceIdeal.τ).loc Cert.AdamwUpReferenceIdeal.main_arg2) = m' ((c.tc : Thread Cert.AdamwUpReferenceIdeal.nD Cert.AdamwUpReferenceIdeal.τ).loc Cert.AdamwUpReferenceIdeal.main_arg2)
          ∧ r.2.mem ((c.tc : Thread Cert.AdamwUpReferenceIdeal.nD Cert.AdamwUpReferenceIdeal.τ).loc Cert.AdamwUpReferenceIdeal.main_arg3) = m' ((c.tc : Thread Cert.AdamwUpReferenceIdeal.nD Cert.AdamwUpReferenceIdeal.τ).loc Cert.AdamwUpReferenceIdeal.main_arg3)
          ∧ r.2.mem ((c.tc : Thread Cert.AdamwUpReferenceIdeal.nD Cert.AdamwUpReferenceIdeal.τ).loc Cert.AdamwUpReferenceIdeal.main_arg4) = m' ((c.tc : Thread Cert.AdamwUpReferenceIdeal.nD Cert.AdamwUpReferenceIdeal.τ).loc Cert.AdamwUpReferenceIdeal.main_arg4))

def Claim : Prop :=
  ∃ (hKernel : Cert.Kernel.Facts) (hKernelIdeal : Cert.KernelIdeal.Facts) (hReferenceIdeal : Cert.ReferenceIdeal.Facts) (hInDgrad : Cert.InDgrad.Facts) (hInDgradIdeal : Cert.InDgradIdeal.Facts) (hInDgradReferenceIdeal : Cert.InDgradReferenceIdeal.Facts) (hUpDgrad : Cert.UpDgrad.Facts) (hUpDgradIdeal : Cert.UpDgradIdeal.Facts) (hUpDgradReferenceIdeal : Cert.UpDgradReferenceIdeal.Facts) (hDownDgrad : Cert.DownDgrad.Facts) (hDownDgradIdeal : Cert.DownDgradIdeal.Facts) (hDownDgradReferenceIdeal : Cert.DownDgradReferenceIdeal.Facts) (hDownWgrad : Cert.DownWgrad.Facts) (hDownWgradIdeal : Cert.DownWgradIdeal.Facts) (hDownWgradReferenceIdeal : Cert.DownWgradReferenceIdeal.Facts) (hUpProj : Cert.UpProj.Facts) (hUpProjIdeal : Cert.UpProjIdeal.Facts) (hUpProjReferenceIdeal : Cert.UpProjReferenceIdeal.Facts) (hDownProj : Cert.DownProj.Facts) (hDownProjIdeal : Cert.DownProjIdeal.Facts) (hDownProjReferenceIdeal : Cert.DownProjReferenceIdeal.Facts) (hInXbc : Cert.InXbc.Facts) (hInXbcIdeal : Cert.InXbcIdeal.Facts) (hInXbcReferenceIdeal : Cert.InXbcReferenceIdeal.Facts) (hInZ : Cert.InZ.Facts) (hInZIdeal : Cert.InZIdeal.Facts) (hInZReferenceIdeal : Cert.InZReferenceIdeal.Facts) (hInUv : Cert.InUv.Facts) (hInUvIdeal : Cert.InUvIdeal.Facts) (hInUvReferenceIdeal : Cert.InUvReferenceIdeal.Facts) (hBranchA : Cert.BranchA.Facts) (hBranchAIdeal : Cert.BranchAIdeal.Facts) (hBranchAReferenceIdeal : Cert.BranchAReferenceIdeal.Facts) (hBranchB : Cert.BranchB.Facts) (hBranchBIdeal : Cert.BranchBIdeal.Facts) (hBranchBReferenceIdeal : Cert.BranchBReferenceIdeal.Facts) (hOutProj : Cert.OutProj.Facts) (hOutProjIdeal : Cert.OutProjIdeal.Facts) (hOutProjReferenceIdeal : Cert.OutProjReferenceIdeal.Facts) (hBranchADgrad : Cert.BranchADgrad.Facts) (hBranchADgradIdeal : Cert.BranchADgradIdeal.Facts) (hBranchADgradReferenceIdeal : Cert.BranchADgradReferenceIdeal.Facts) (hOutDgrad : Cert.OutDgrad.Facts) (hOutDgradIdeal : Cert.OutDgradIdeal.Facts) (hOutDgradReferenceIdeal : Cert.OutDgradReferenceIdeal.Facts) (hInZWgrad : Cert.InZWgrad.Facts) (hInZWgradIdeal : Cert.InZWgradIdeal.Facts) (hInZWgradReferenceIdeal : Cert.InZWgradReferenceIdeal.Facts) (hInXbcWgrad : Cert.InXbcWgrad.Facts) (hInXbcWgradIdeal : Cert.InXbcWgradIdeal.Facts) (hInXbcWgradReferenceIdeal : Cert.InXbcWgradReferenceIdeal.Facts) (hOutWgrad : Cert.OutWgrad.Facts) (hOutWgradIdeal : Cert.OutWgradIdeal.Facts) (hOutWgradReferenceIdeal : Cert.OutWgradReferenceIdeal.Facts) (hUpWgradA : Cert.UpWgradA.Facts) (hUpWgradAIdeal : Cert.UpWgradAIdeal.Facts) (hUpWgradAReferenceIdeal : Cert.UpWgradAReferenceIdeal.Facts) (hUpWgradV : Cert.UpWgradV.Facts) (hUpWgradVIdeal : Cert.UpWgradVIdeal.Facts) (hUpWgradVReferenceIdeal : Cert.UpWgradVReferenceIdeal.Facts) (hBranchAWgrad : Cert.BranchAWgrad.Facts) (hBranchAWgradIdeal : Cert.BranchAWgradIdeal.Facts) (hBranchAWgradReferenceIdeal : Cert.BranchAWgradReferenceIdeal.Facts) (hBranchBWgrad : Cert.BranchBWgrad.Facts) (hBranchBWgradIdeal : Cert.BranchBWgradIdeal.Facts) (hBranchBWgradReferenceIdeal : Cert.BranchBWgradReferenceIdeal.Facts) (hInDt : Cert.InDt.Facts) (hInDtIdeal : Cert.InDtIdeal.Facts) (hInDtReferenceIdeal : Cert.InDtReferenceIdeal.Facts) (hInDtWgrad : Cert.InDtWgrad.Facts) (hInDtWgradIdeal : Cert.InDtWgradIdeal.Facts) (hInDtWgradReferenceIdeal : Cert.InDtWgradReferenceIdeal.Facts) (hGateBwd : Cert.GateBwd.Facts) (hGateBwdIdeal : Cert.GateBwdIdeal.Facts) (hGateBwdReferenceIdeal : Cert.GateBwdReferenceIdeal.Facts) (hGateFwd : Cert.GateFwd.Facts) (hGateFwdIdeal : Cert.GateFwdIdeal.Facts) (hGateFwdReferenceIdeal : Cert.GateFwdReferenceIdeal.Facts) (hRmsFwd : Cert.RmsFwd.Facts) (hRmsFwdIdeal : Cert.RmsFwdIdeal.Facts) (hRmsFwdReferenceIdeal : Cert.RmsFwdReferenceIdeal.Facts) (hAdamwDown : Cert.AdamwDown.Facts) (hAdamwDownIdeal : Cert.AdamwDownIdeal.Facts) (hAdamwDownReferenceIdeal : Cert.AdamwDownReferenceIdeal.Facts) (hAdamwOut : Cert.AdamwOut.Facts) (hAdamwOutIdeal : Cert.AdamwOutIdeal.Facts) (hAdamwOutReferenceIdeal : Cert.AdamwOutReferenceIdeal.Facts) (hAdamwBranch : Cert.AdamwBranch.Facts) (hAdamwBranchIdeal : Cert.AdamwBranchIdeal.Facts) (hAdamwBranchReferenceIdeal : Cert.AdamwBranchReferenceIdeal.Facts) (hAdamwUp : Cert.AdamwUp.Facts) (hAdamwUpIdeal : Cert.AdamwUpIdeal.Facts) (hAdamwUpReferenceIdeal : Cert.AdamwUpReferenceIdeal.Facts) (hPre_finite : Cert.Pre_finite.Facts) (hOn_up_a_written : Cert.On_up_a_written.Facts) (hOn_branch_a_written : Cert.On_branch_a_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InDgrad (hInDgrad := hInDgrad)
    ∧ quiescent_InDgradIdeal (hInDgradIdeal := hInDgradIdeal)
    ∧ quiescent_InDgradReferenceIdeal (hInDgradReferenceIdeal := hInDgradReferenceIdeal)
    ∧ quiescent_UpDgrad (hUpDgrad := hUpDgrad)
    ∧ quiescent_UpDgradIdeal (hUpDgradIdeal := hUpDgradIdeal)
    ∧ quiescent_UpDgradReferenceIdeal (hUpDgradReferenceIdeal := hUpDgradReferenceIdeal)
    ∧ quiescent_DownDgrad (hDownDgrad := hDownDgrad)
    ∧ quiescent_DownDgradIdeal (hDownDgradIdeal := hDownDgradIdeal)
    ∧ quiescent_DownDgradReferenceIdeal (hDownDgradReferenceIdeal := hDownDgradReferenceIdeal)
    ∧ quiescent_DownWgrad (hDownWgrad := hDownWgrad)
    ∧ quiescent_DownWgradIdeal (hDownWgradIdeal := hDownWgradIdeal)
    ∧ quiescent_DownWgradReferenceIdeal (hDownWgradReferenceIdeal := hDownWgradReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_DownProj (hDownProj := hDownProj)
    ∧ quiescent_DownProjIdeal (hDownProjIdeal := hDownProjIdeal)
    ∧ quiescent_DownProjReferenceIdeal (hDownProjReferenceIdeal := hDownProjReferenceIdeal)
    ∧ quiescent_InXbc (hInXbc := hInXbc)
    ∧ quiescent_InXbcIdeal (hInXbcIdeal := hInXbcIdeal)
    ∧ quiescent_InXbcReferenceIdeal (hInXbcReferenceIdeal := hInXbcReferenceIdeal)
    ∧ quiescent_InZ (hInZ := hInZ)
    ∧ quiescent_InZIdeal (hInZIdeal := hInZIdeal)
    ∧ quiescent_InZReferenceIdeal (hInZReferenceIdeal := hInZReferenceIdeal)
    ∧ quiescent_InUv (hInUv := hInUv)
    ∧ quiescent_InUvIdeal (hInUvIdeal := hInUvIdeal)
    ∧ quiescent_InUvReferenceIdeal (hInUvReferenceIdeal := hInUvReferenceIdeal)
    ∧ quiescent_BranchA (hBranchA := hBranchA)
    ∧ quiescent_BranchAIdeal (hBranchAIdeal := hBranchAIdeal)
    ∧ quiescent_BranchAReferenceIdeal (hBranchAReferenceIdeal := hBranchAReferenceIdeal)
    ∧ quiescent_BranchB (hBranchB := hBranchB)
    ∧ quiescent_BranchBIdeal (hBranchBIdeal := hBranchBIdeal)
    ∧ quiescent_BranchBReferenceIdeal (hBranchBReferenceIdeal := hBranchBReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_BranchADgrad (hBranchADgrad := hBranchADgrad)
    ∧ quiescent_BranchADgradIdeal (hBranchADgradIdeal := hBranchADgradIdeal)
    ∧ quiescent_BranchADgradReferenceIdeal (hBranchADgradReferenceIdeal := hBranchADgradReferenceIdeal)
    ∧ quiescent_OutDgrad (hOutDgrad := hOutDgrad)
    ∧ quiescent_OutDgradIdeal (hOutDgradIdeal := hOutDgradIdeal)
    ∧ quiescent_OutDgradReferenceIdeal (hOutDgradReferenceIdeal := hOutDgradReferenceIdeal)
    ∧ quiescent_InZWgrad (hInZWgrad := hInZWgrad)
    ∧ quiescent_InZWgradIdeal (hInZWgradIdeal := hInZWgradIdeal)
    ∧ quiescent_InZWgradReferenceIdeal (hInZWgradReferenceIdeal := hInZWgradReferenceIdeal)
    ∧ quiescent_InXbcWgrad (hInXbcWgrad := hInXbcWgrad)
    ∧ quiescent_InXbcWgradIdeal (hInXbcWgradIdeal := hInXbcWgradIdeal)
    ∧ quiescent_InXbcWgradReferenceIdeal (hInXbcWgradReferenceIdeal := hInXbcWgradReferenceIdeal)
    ∧ quiescent_OutWgrad (hOutWgrad := hOutWgrad)
    ∧ quiescent_OutWgradIdeal (hOutWgradIdeal := hOutWgradIdeal)
    ∧ quiescent_OutWgradReferenceIdeal (hOutWgradReferenceIdeal := hOutWgradReferenceIdeal)
    ∧ quiescent_UpWgradA (hUpWgradA := hUpWgradA)
    ∧ quiescent_UpWgradAIdeal (hUpWgradAIdeal := hUpWgradAIdeal)
    ∧ quiescent_UpWgradAReferenceIdeal (hUpWgradAReferenceIdeal := hUpWgradAReferenceIdeal)
    ∧ quiescent_UpWgradV (hUpWgradV := hUpWgradV)
    ∧ quiescent_UpWgradVIdeal (hUpWgradVIdeal := hUpWgradVIdeal)
    ∧ quiescent_UpWgradVReferenceIdeal (hUpWgradVReferenceIdeal := hUpWgradVReferenceIdeal)
    ∧ quiescent_BranchAWgrad (hBranchAWgrad := hBranchAWgrad)
    ∧ quiescent_BranchAWgradIdeal (hBranchAWgradIdeal := hBranchAWgradIdeal)
    ∧ quiescent_BranchAWgradReferenceIdeal (hBranchAWgradReferenceIdeal := hBranchAWgradReferenceIdeal)
    ∧ quiescent_BranchBWgrad (hBranchBWgrad := hBranchBWgrad)
    ∧ quiescent_BranchBWgradIdeal (hBranchBWgradIdeal := hBranchBWgradIdeal)
    ∧ quiescent_BranchBWgradReferenceIdeal (hBranchBWgradReferenceIdeal := hBranchBWgradReferenceIdeal)
    ∧ quiescent_InDt (hInDt := hInDt)
    ∧ quiescent_InDtIdeal (hInDtIdeal := hInDtIdeal)
    ∧ quiescent_InDtReferenceIdeal (hInDtReferenceIdeal := hInDtReferenceIdeal)
    ∧ quiescent_InDtWgrad (hInDtWgrad := hInDtWgrad)
    ∧ quiescent_InDtWgradIdeal (hInDtWgradIdeal := hInDtWgradIdeal)
    ∧ quiescent_InDtWgradReferenceIdeal (hInDtWgradReferenceIdeal := hInDtWgradReferenceIdeal)
    ∧ quiescent_GateBwd (hGateBwd := hGateBwd)
    ∧ quiescent_GateBwdIdeal (hGateBwdIdeal := hGateBwdIdeal)
    ∧ quiescent_GateBwdReferenceIdeal (hGateBwdReferenceIdeal := hGateBwdReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_RmsFwd (hRmsFwd := hRmsFwd)
    ∧ quiescent_RmsFwdIdeal (hRmsFwdIdeal := hRmsFwdIdeal)
    ∧ quiescent_RmsFwdReferenceIdeal (hRmsFwdReferenceIdeal := hRmsFwdReferenceIdeal)
    ∧ quiescent_AdamwDown (hAdamwDown := hAdamwDown)
    ∧ quiescent_AdamwDownIdeal (hAdamwDownIdeal := hAdamwDownIdeal)
    ∧ quiescent_AdamwDownReferenceIdeal (hAdamwDownReferenceIdeal := hAdamwDownReferenceIdeal)
    ∧ quiescent_AdamwOut (hAdamwOut := hAdamwOut)
    ∧ quiescent_AdamwOutIdeal (hAdamwOutIdeal := hAdamwOutIdeal)
    ∧ quiescent_AdamwOutReferenceIdeal (hAdamwOutReferenceIdeal := hAdamwOutReferenceIdeal)
    ∧ quiescent_AdamwBranch (hAdamwBranch := hAdamwBranch)
    ∧ quiescent_AdamwBranchIdeal (hAdamwBranchIdeal := hAdamwBranchIdeal)
    ∧ quiescent_AdamwBranchReferenceIdeal (hAdamwBranchReferenceIdeal := hAdamwBranchReferenceIdeal)
    ∧ quiescent_AdamwUp (hAdamwUp := hAdamwUp)
    ∧ quiescent_AdamwUpIdeal (hAdamwUpIdeal := hAdamwUpIdeal)
    ∧ quiescent_AdamwUpReferenceIdeal (hAdamwUpReferenceIdeal := hAdamwUpReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InDgrad_InDgradIdeal
    ∧ algebraic_InDgradIdeal_InDgradReferenceIdeal (hInDgradIdeal := hInDgradIdeal) (hInDgradReferenceIdeal := hInDgradReferenceIdeal)
    ∧ preserves_UpDgrad_UpDgradIdeal
    ∧ algebraic_UpDgradIdeal_UpDgradReferenceIdeal (hUpDgradIdeal := hUpDgradIdeal) (hUpDgradReferenceIdeal := hUpDgradReferenceIdeal)
    ∧ preserves_DownDgrad_DownDgradIdeal
    ∧ algebraic_DownDgradIdeal_DownDgradReferenceIdeal (hDownDgradIdeal := hDownDgradIdeal) (hDownDgradReferenceIdeal := hDownDgradReferenceIdeal)
    ∧ preserves_DownWgrad_DownWgradIdeal
    ∧ algebraic_DownWgradIdeal_DownWgradReferenceIdeal (hDownWgradIdeal := hDownWgradIdeal) (hDownWgradReferenceIdeal := hDownWgradReferenceIdeal)
    ∧ preserves_UpProj_UpProjIdeal
    ∧ algebraic_UpProjIdeal_UpProjReferenceIdeal (hUpProjIdeal := hUpProjIdeal) (hUpProjReferenceIdeal := hUpProjReferenceIdeal)
    ∧ preserves_DownProj_DownProjIdeal
    ∧ algebraic_DownProjIdeal_DownProjReferenceIdeal (hDownProjIdeal := hDownProjIdeal) (hDownProjReferenceIdeal := hDownProjReferenceIdeal)
    ∧ preserves_InXbc_InXbcIdeal
    ∧ algebraic_InXbcIdeal_InXbcReferenceIdeal (hInXbcIdeal := hInXbcIdeal) (hInXbcReferenceIdeal := hInXbcReferenceIdeal)
    ∧ preserves_InZ_InZIdeal
    ∧ algebraic_InZIdeal_InZReferenceIdeal (hInZIdeal := hInZIdeal) (hInZReferenceIdeal := hInZReferenceIdeal)
    ∧ preserves_InUv_InUvIdeal
    ∧ algebraic_InUvIdeal_InUvReferenceIdeal (hInUvIdeal := hInUvIdeal) (hInUvReferenceIdeal := hInUvReferenceIdeal)
    ∧ preserves_BranchA_BranchAIdeal
    ∧ algebraic_BranchAIdeal_BranchAReferenceIdeal (hBranchAIdeal := hBranchAIdeal) (hBranchAReferenceIdeal := hBranchAReferenceIdeal)
    ∧ preserves_BranchB_BranchBIdeal
    ∧ algebraic_BranchBIdeal_BranchBReferenceIdeal (hBranchBIdeal := hBranchBIdeal) (hBranchBReferenceIdeal := hBranchBReferenceIdeal)
    ∧ preserves_OutProj_OutProjIdeal
    ∧ algebraic_OutProjIdeal_OutProjReferenceIdeal (hOutProjIdeal := hOutProjIdeal) (hOutProjReferenceIdeal := hOutProjReferenceIdeal)
    ∧ preserves_BranchADgrad_BranchADgradIdeal
    ∧ algebraic_BranchADgradIdeal_BranchADgradReferenceIdeal (hBranchADgradIdeal := hBranchADgradIdeal) (hBranchADgradReferenceIdeal := hBranchADgradReferenceIdeal)
    ∧ preserves_OutDgrad_OutDgradIdeal
    ∧ algebraic_OutDgradIdeal_OutDgradReferenceIdeal (hOutDgradIdeal := hOutDgradIdeal) (hOutDgradReferenceIdeal := hOutDgradReferenceIdeal)
    ∧ preserves_InZWgrad_InZWgradIdeal
    ∧ algebraic_InZWgradIdeal_InZWgradReferenceIdeal (hInZWgradIdeal := hInZWgradIdeal) (hInZWgradReferenceIdeal := hInZWgradReferenceIdeal)
    ∧ preserves_InXbcWgrad_InXbcWgradIdeal
    ∧ algebraic_InXbcWgradIdeal_InXbcWgradReferenceIdeal (hInXbcWgradIdeal := hInXbcWgradIdeal) (hInXbcWgradReferenceIdeal := hInXbcWgradReferenceIdeal)
    ∧ preserves_OutWgrad_OutWgradIdeal
    ∧ algebraic_OutWgradIdeal_OutWgradReferenceIdeal (hOutWgradIdeal := hOutWgradIdeal) (hOutWgradReferenceIdeal := hOutWgradReferenceIdeal)
    ∧ preserves_UpWgradA_UpWgradAIdeal
    ∧ algebraic_UpWgradAIdeal_UpWgradAReferenceIdeal_on_up_a_written (hUpWgradAIdeal := hUpWgradAIdeal) (hUpWgradAReferenceIdeal := hUpWgradAReferenceIdeal) (hOn_up_a_written := hOn_up_a_written)
    ∧ preserves_UpWgradV_UpWgradVIdeal
    ∧ algebraic_UpWgradVIdeal_UpWgradVReferenceIdeal (hUpWgradVIdeal := hUpWgradVIdeal) (hUpWgradVReferenceIdeal := hUpWgradVReferenceIdeal)
    ∧ preserves_BranchAWgrad_BranchAWgradIdeal
    ∧ algebraic_BranchAWgradIdeal_BranchAWgradReferenceIdeal_on_branch_a_written (hBranchAWgradIdeal := hBranchAWgradIdeal) (hBranchAWgradReferenceIdeal := hBranchAWgradReferenceIdeal) (hOn_branch_a_written := hOn_branch_a_written)
    ∧ preserves_BranchBWgrad_BranchBWgradIdeal
    ∧ algebraic_BranchBWgradIdeal_BranchBWgradReferenceIdeal (hBranchBWgradIdeal := hBranchBWgradIdeal) (hBranchBWgradReferenceIdeal := hBranchBWgradReferenceIdeal)
    ∧ preserves_InDt_InDtIdeal
    ∧ algebraic_InDtIdeal_InDtReferenceIdeal (hInDtIdeal := hInDtIdeal) (hInDtReferenceIdeal := hInDtReferenceIdeal)
    ∧ preserves_InDtWgrad_InDtWgradIdeal
    ∧ algebraic_InDtWgradIdeal_InDtWgradReferenceIdeal (hInDtWgradIdeal := hInDtWgradIdeal) (hInDtWgradReferenceIdeal := hInDtWgradReferenceIdeal)
    ∧ preserves_GateBwd_GateBwdIdeal
    ∧ algebraic_GateBwdIdeal_GateBwdReferenceIdeal (hGateBwdIdeal := hGateBwdIdeal) (hGateBwdReferenceIdeal := hGateBwdReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_RmsFwd_RmsFwdIdeal
    ∧ algebraic_RmsFwdIdeal_RmsFwdReferenceIdeal (hRmsFwdIdeal := hRmsFwdIdeal) (hRmsFwdReferenceIdeal := hRmsFwdReferenceIdeal)
    ∧ preserves_AdamwDown_AdamwDownIdeal
    ∧ algebraic_AdamwDownIdeal_AdamwDownReferenceIdeal (hAdamwDownIdeal := hAdamwDownIdeal) (hAdamwDownReferenceIdeal := hAdamwDownReferenceIdeal)
    ∧ preserves_AdamwOut_AdamwOutIdeal
    ∧ algebraic_AdamwOutIdeal_AdamwOutReferenceIdeal (hAdamwOutIdeal := hAdamwOutIdeal) (hAdamwOutReferenceIdeal := hAdamwOutReferenceIdeal)
    ∧ preserves_AdamwBranch_AdamwBranchIdeal
    ∧ algebraic_AdamwBranchIdeal_AdamwBranchReferenceIdeal (hAdamwBranchIdeal := hAdamwBranchIdeal) (hAdamwBranchReferenceIdeal := hAdamwBranchReferenceIdeal)
    ∧ preserves_AdamwUp_AdamwUpIdeal
    ∧ algebraic_AdamwUpIdeal_AdamwUpReferenceIdeal (hAdamwUpIdeal := hAdamwUpIdeal) (hAdamwUpReferenceIdeal := hAdamwUpReferenceIdeal)
-- ==== On_branch_a_written.lean ====
abbrev S4096x2048 : Shape := ⟨2, ![4096, 2048]⟩
abbrev S4096x1024 : Shape := ⟨2, ![4096, 1024]⟩
abbrev S3072x1024 : Shape := ⟨2, ![3072, 1024]⟩
abbrev S_ : Shape := ⟨0, ![]⟩

class Facts : Prop where
  bcast_S_S3072x1024 : S_.BroadcastsInDim S3072x1024 (![] : Fin 0 → Fin S3072x1024.rank)

variable [Facts]

def fn {F : FTy → Type} [FloatOps F] (main_arg0 : FVec F S4096x2048 .bf16) (main_arg1 : FVec F S4096x1024 .bf16) : IVec S3072x1024 1 :=
  let main_v0 : IVec S3072x1024 32 := iotaInDim S3072x1024 32 0
  let main_c : IVec S_ 32 := constantI S_ 32 2048#32
  let main_v1 : IVec S3072x1024 32 := broadcastInDim S3072x1024 ![] bcast_S_S3072x1024 main_c
  let main_v2 : IVec S3072x1024 1 := cmpi .slt main_v0 main_v1
  main_v2
-- ==== On_up_a_written.lean ====
abbrev S4096x1024 : Shape := ⟨2, ![4096, 1024]⟩
abbrev S4096x2816 : Shape := ⟨2, ![4096, 2816]⟩
abbrev S4x1024x1408 : Shape := ⟨3, ![4, 1024, 1408]⟩
abbrev S_ : Shape := ⟨0, ![]⟩

class Facts : Prop where
  bcast_S_S4x1024x1408 : S_.BroadcastsInDim S4x1024x1408 (![] : Fin 0 → Fin S4x1024x1408.rank)

variable [Facts]

def fn {F : FTy → Type} [FloatOps F] (main_arg0 : FVec F S4096x1024 .bf16) (main_arg1 : FVec F S4096x2816 .bf16) : IVec S4x1024x1408 1 :=
  let main_v0 : IVec S4x1024x1408 32 := iotaInDim S4x1024x1408 32 0
  let main_c : IVec S_ 32 := constantI S_ 32 2#32
  let main_v1 : IVec S4x1024x1408 32 := broadcastInDim S4x1024x1408 ![] bcast_S_S4x1024x1408 main_c
  let main_v2 : IVec S4x1024x1408 1 := cmpi .slt main_v0 main_v1
  main_v2
-- ==== Pre_finite.lean ====
abbrev S4096x2048 : Shape := ⟨2, ![4096, 2048]⟩
abbrev S4096x1024 : Shape := ⟨2, ![4096, 1024]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S1x2048 : S_.BroadcastsInDim S1x2048 (![] : Fin 0 → Fin S1x2048.rank)
  bcast_S_S1x1024 : S_.BroadcastsInDim S1x1024 (![] : Fin 0 → Fin S1x1024.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn_part1 {F : FTy → Type} [FloatOps F] (main_arg6 : FVec F S1x8x128 .f32) (main_v2 : IVec S4096x2048 1) (main_v5 : IVec S4096x1024 1) (main_v8 : IVec S1x2048 1) (main_v11 : IVec S1x1024 1) (main_v14 : IVec S1x1024 1) (main_v17 : IVec S1x8x128x128 1) : IVec S4096x2048 1 × IVec S4096x1024 1 × IVec S1x2048 1 × IVec S1x1024 1 × IVec S1x1024 1 × IVec S1x8x128x128 1 × IVec S1x8x128 1 :=
  let main_v18 : FVec F S1x8x128 .f32 := Host.absf main_arg6
  let main_cst_5 : FVec F S_ .f32 := constant S_ .f32 0x7F800000#32
  let main_v19 : FVec F S1x8x128 .f32 := broadcastInDim S1x8x128 ![] bcast_S_S1x8x128 main_cst_5
  let main_v20 : IVec S1x8x128 1 := cmpf .olt main_v18 main_v19
  (main_v2, main_v5, main_v8, main_v11, main_v14, main_v17, main_v20)

def fn {F : FTy → Type} [FloatOps F] (main_arg0 : FVec F S4096x2048 .bf16) (main_arg1 : FVec F S4096x1024 .bf16) (main_arg2 : FVec F S1x2048 .f32) (main_arg3 : FVec F S1x1024 .f32) (main_arg4 : FVec F S1x1024 .f32) (main_arg5 : FVec F S1x8x128x128 .f32) (main_arg6 : FVec F S1x8x128 .f32) : IVec S4096x2048 1 × IVec S4096x1024 1 × IVec S1x2048 1 × IVec S1x1024 1 × IVec S1x1024 1 × IVec S1x8x128x128 1 × IVec S1x8x128 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x8x128x128 .f32 := Host.absf main_arg5
  let main_cst_4 : FVec F S_ .f32 := constant S_ .f32 0x7F800000#32
  let main_v16 : FVec F S1x8x128x128 .f32 := broadcastInDim S1x8x128x128 ![] bcast_S_S1x8x128x128 main_cst_4
  let main_v17 : IVec S1x8x128x128 1 := cmpf .olt main_v15 main_v16
  fn_part1 (F := F) main_arg6 main_v2 main_v5 main_v8 main_v11 main_v14 main_v17
-- ==== Kernel.lean ====
abbrev S4096x2048 : Shape := ⟨2, ![4096, 2048]⟩
abbrev S4096x1024 : Shape := ⟨2, ![4096, 1024]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1024 : Shape := ⟨1, ![1024]⟩
abbrev S1024x1 : Shape := ⟨2, ![1024, 1]⟩
abbrev S_ : Shape := ⟨0, ![]⟩
abbrev S128 : Shape := ⟨1, ![128]⟩
abbrev S1x128 : Shape := ⟨2, ![1, 128]⟩
abbrev S1024x128 : Shape := ⟨2, ![1024, 128]⟩
abbrev S8x128 : Shape := ⟨2, ![8, 128]⟩
abbrev S128x8 : Shape := ⟨2, ![128, 8]⟩
abbrev S128x128 : Shape := ⟨2, ![128, 128]⟩
abbrev S8x128x128 : Shape := ⟨3, ![8, 128, 128]⟩
abbrev S128x2048 : Shape := ⟨2, ![128, 2048]⟩
abbrev S128x1024 : Shape := ⟨2, ![128, 1024]⟩
abbrev S128x1 : Shape := ⟨2, ![128, 1]⟩
abbrev S1x128x128 : Shape := ⟨3, ![1, 128, 128]⟩
abbrev S2048 : Shape := ⟨1, ![2048]⟩

abbrev nBuf : Space → Nat
  | .hbm => 45
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S1x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1024, .i32⟩
  | .hbm, ⟨8, _⟩ => ⟨S1024x1, .i32⟩
  | .hbm, ⟨9, _⟩ => ⟨S_, .i32⟩
  | .hbm, ⟨10, _⟩ => ⟨S_, .i32⟩
  | .hbm, ⟨11, _⟩ => ⟨S1024x1, .i32⟩
  | .hbm, ⟨12, _⟩ => ⟨S1024x1, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1024x1, .i32⟩
  | .hbm, ⟨18, _⟩ => ⟨S1024x1, .i32⟩
  | .hbm, ⟨19, _⟩ => ⟨S_, .i32⟩
  | .hbm, ⟨20, _⟩ => ⟨S1024x1, .i32⟩
  | .hbm, ⟨21, _⟩ => ⟨S1024x1, .i1⟩
  | .hbm, ⟨22, _⟩ => ⟨S1024x1, .i1⟩
  | .hbm, ⟨23, _⟩ => ⟨S_, .i32⟩
  | .hbm, ⟨24, _⟩ => ⟨S1024x1, .i32⟩
  | .hbm, ⟨25, _⟩ => ⟨S1024x1, .i32⟩
  | .hbm, ⟨26, _⟩ => ⟨S1024x1, .i32⟩
  | .hbm, ⟨27, _⟩ => ⟨S128, .i32⟩
  | .hbm, ⟨28, _⟩ => ⟨S1x128, .i32⟩
  | .hbm, ⟨29, _⟩ => ⟨S1024x128, .i32⟩
  | .hbm, ⟨30, _⟩ => ⟨S1024x128, .i32⟩
  | .hbm, ⟨31, _⟩ => ⟨S1024x128, .i1⟩
  | .hbm, ⟨32, _⟩ => ⟨S1024x128, .bf16⟩
  | .hbm, ⟨33, _⟩ => ⟨S8x128, .f32⟩
  | .hbm, ⟨34, _⟩ => ⟨S128x8, .f32⟩
  | .hbm, ⟨35, _⟩ => ⟨S_, .i32⟩
  | .hbm, ⟨36, _⟩ => ⟨S_, .f32⟩
  | .hbm, ⟨37, _⟩ => ⟨S128x128, .f32⟩
  | .hbm, ⟨38, _⟩ => ⟨S8x128x128, .f32⟩
  | .hbm, ⟨39, _⟩ => ⟨S4096x2048, .bf16⟩
  | .hbm, ⟨40, _⟩ => ⟨S8x128x128, .f32⟩
  | .hbm, ⟨41, _⟩ => ⟨S128x128, .f32⟩
  | .hbm, ⟨42, _⟩ => ⟨S1x1024, .f32⟩
  | .hbm, ⟨43, _⟩ => ⟨S1x1024, .f32⟩
  | .hbm, ⟨44, _⟩ => ⟨S1x2048, .f32⟩
  | .local _ .vmem, ⟨0, _⟩ => ⟨S128x2048, .bf16⟩
  | .local _ .vmem, ⟨1, _⟩ => ⟨S128x2048, .bf16⟩
  | .local _ .vmem, ⟨2, _⟩ => ⟨S128x1024, .bf16⟩
  | .local _ .vmem, ⟨3, _⟩ => ⟨S128x1024, .bf16⟩
  | .local _ .vmem, ⟨4, _⟩ => ⟨S1x2048, .f32⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S128x128, .f32⟩
  | .local _ .vmem, ⟨9, _⟩ => ⟨S1024x128, .bf16⟩
  | .local _ .vmem, ⟨10, _⟩ => ⟨S128x2048, .bf16⟩
  | .local _ .vmem, ⟨11, _⟩ => ⟨S128x2048, .bf16⟩
  | .local _ .vmem, ⟨12, _⟩ => ⟨S8x128x128, .f32⟩
  | .local _ .vmem, ⟨13, _⟩ => ⟨S128x128, .f32⟩
  | .local _ .vmem, ⟨14, _⟩ => ⟨S1x1024, .f32⟩
  | .local _ .vmem, ⟨15, _⟩ => ⟨S1x1024, .f32⟩
  | .local _ .vmem, ⟨16, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call1_v0 : Ref sig .tc := ⟨.hbm, 36, rfl⟩
abbrev main_v11 : Ref sig .tc := ⟨.hbm, 37, rfl⟩
abbrev main_v12 : Ref sig .tc := ⟨.hbm, 38, rfl⟩
abbrev main_v13_0 : Ref sig .tc := ⟨.hbm, 39, rfl⟩
abbrev main_v13_1 : Ref sig .tc := ⟨.hbm, 40, rfl⟩
abbrev main_v13_2 : Ref sig .tc := ⟨.hbm, 41, rfl⟩
abbrev main_v13_3 : Ref sig .tc := ⟨.hbm, 42, rfl⟩
abbrev main_v13_4 : Ref sig .tc := ⟨.hbm, 43, rfl⟩
abbrev main_v13_5 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "gelu_c" => some ((8943 / 200000 : ℝ) : EReal)
  | "gelu_c3" => some ((26829 / 200000 : ℝ) : EReal)
  | _ => none
-- ==== ReferenceIdeal.lean ====
abbrev S4096x2048 : Shape := ⟨2, ![4096, 2048]⟩
abbrev S4096x1024 : Shape := ⟨2, ![4096, 1024]⟩
abbrev S1x2048 : Shape := ⟨2, ![1, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4096x2048 : Shape := ⟨3, ![1, 4096, 2048]⟩
abbrev S2048 : Shape := ⟨1, ![2048]⟩
abbrev S1x1x2048 : Shape := ⟨3, ![1, 1, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x4096x1024 : Shape := ⟨3, ![1, 4096, 1024]⟩
abbrev S1x4096 : Shape := ⟨2, ![1, 4096]⟩
abbrev S1x4096x1 : Shape := ⟨3, ![1, 4096, 1]⟩
abbrev S1x1x1024 : Shape := ⟨3, ![1, 1, 1024]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S4096 : Shape := ⟨1, ![4096]⟩

abbrev nBuf : Space → Nat
  | .hbm => 205
  | .vmem => 0
  | .smem => 0
  | _ => 0

abbrev hbmTy0_0 (i : Nat) : BufTy := match i % 128 with
  | 0 => ⟨S4096x2048, .bf16⟩
  | 1 => ⟨S4096x1024, .bf16⟩
  | 2 => ⟨S1x2048, .f32⟩
  | 3 => ⟨S1x1024, .f32⟩
  | 4 => ⟨S1x1024, .f32⟩
  | 5 => ⟨S1x8x128x128, .f32⟩
  | 6 => ⟨S1x8x128, .f32⟩
  | 7 => ⟨S4096x2048, .f32⟩
  | 8 => ⟨S1x4096x2048, .f32⟩
  | 9 => ⟨S2048, .f32⟩
  | 10 => ⟨S1x1x2048, .f32⟩
  | 11 => ⟨S1x4096x2048, .f32⟩
  | 12 => ⟨S1x4096x2048, .f32⟩
  | 13 => ⟨S1024, .f32⟩
  | 14 => ⟨S1024, .f32⟩
  | 15 => ⟨S8x128x128, .f32⟩
  | 16 => ⟨S8x128, .f32⟩
  | 17 => ⟨S_, .f32⟩
  | 18 => ⟨S_, .f32⟩
  | 19 => ⟨S_, .f32⟩
  | 20 => ⟨S1x4096x2048, .f32⟩
  | 21 => ⟨S1x4096x2048, .f32⟩
  | 22 => ⟨S1x4096x2048, .f32⟩
  | 23 => ⟨S_, .f32⟩
  | 24 => ⟨S1x4096x2048, .f32⟩
  | 25 => ⟨S1x4096x2048, .f32⟩
  | 26 => ⟨S1x4096x2048, .f32⟩
  | 27 => ⟨S1x4096x2048, .f32⟩
  | 28 => ⟨S1x4096x2048, .f32⟩
  | 29 => ⟨S_, .f32⟩
  | 30 => ⟨S1x4096x2048, .f32⟩
  | 31 => ⟨S1x4096x2048, .f32⟩
  | 32 => ⟨S1x4096x2048, .f32⟩
  | 33 => ⟨S_, .f32⟩
  | 34 => ⟨S1x4096x2048, .f32⟩
  | 35 => ⟨S1x4096x2048, .f32⟩
  | 36 => ⟨S_, .f32⟩
  | 37 => ⟨S1x4096x2048, .f32⟩
  | 38 => ⟨S1x4096x2048, .f32⟩
  | 39 => ⟨S1x4096x2048, .f32⟩
  | 40 => ⟨S_, .f32⟩
  | 41 => ⟨S1x4096x2048, .f32⟩
  | 42 => ⟨S1x4096x2048, .f32⟩
  | 43 => ⟨S_, .f32⟩
  | 44 => ⟨S1x4096x2048, .f32⟩
  | 45 => ⟨S1x4096x2048, .f32⟩
  | 46 => ⟨S1x4096x2048, .f32⟩
  | 47 => ⟨S1x4096x1024, .f32⟩
  | 48 => ⟨S1x4096x1024, .f32⟩
  | 49 => ⟨S_, .f32⟩
  | 50 => ⟨S1x4096, .f32⟩
  | 51 => ⟨S1x4096x1, .f32⟩
  | 52 => ⟨S_, .f32⟩
  | 53 => ⟨S1x4096x1, .f32⟩
  | 54 => ⟨S1x4096x1, .f32⟩
  | 55 => ⟨S1x4096x1024, .f32⟩
  | 56 => ⟨S1x4096x1024, .f32⟩
  | 57 => ⟨S1x4096x1024, .f32⟩
  | 58 => ⟨S_, .f32⟩
  | 59 => ⟨S1x4096x1024, .f32⟩
  | 60 => ⟨S1x4096x1024, .f32⟩
  | 61 => ⟨S_, .f32⟩
  | 62 => ⟨S1x4096, .f32⟩
  | 63 => ⟨S1x4096x1, .f32⟩
  | 64 => ⟨S_, .f32⟩
  | 65 => ⟨S1x4096x1, .f32⟩
  | 66 => ⟨S1x4096x1, .f32⟩
  | 67 => ⟨S1x4096x1024, .f32⟩
  | 68 => ⟨S1x4096x1024, .f32⟩
  | 69 => ⟨S_, .f32⟩
  | 70 => ⟨S1x4096x1, .f32⟩
  | 71 => ⟨S1x4096x1, .f32⟩
  | 72 => ⟨S1x4096x1, .f32⟩
  | 73 => ⟨S1x4096x1, .f32⟩
  | 74 => ⟨S_, .f32⟩
  | 75 => ⟨S1x4096x1, .f32⟩
  | 76 => ⟨S1x4096x1, .f32⟩
  | 77 => ⟨S1x4096x1024, .f32⟩
  | 78 => ⟨S1x4096x1024, .f32⟩
  | 79 => ⟨S1x1x1024, .f32⟩
  | 80 => ⟨S1x4096x1024, .f32⟩
  | 81 => ⟨S1x4096x1024, .f32⟩
  | 82 => ⟨S1x1x1024, .f32⟩
  | 83 => ⟨S1x4096x1024, .f32⟩
  | 84 => ⟨S1x4096x1024, .f32⟩
  | 85 => ⟨S1x32x128x8x128, .f32⟩
  | 86 => ⟨S_, .f32⟩
  | 87 => ⟨S128x128, .f32⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .f32⟩
  | 95 => ⟨S128x128, .f32⟩
  | 96 => ⟨S128x128, .f32⟩
  | 97 => ⟨S1x128x128, .f32⟩
  | 98 => ⟨S8x128x128, .f32⟩
  | 99 => ⟨S8x128x128, .f32⟩
  | 100 => ⟨S8x1x32x128x128, .f32⟩
  | 101 => ⟨S1x32x128x8x128, .f32⟩
  | 102 => ⟨S128x8, .f32⟩
  | 103 => ⟨S1x1x128x8x1, .f32⟩
  | 104 => ⟨S1x32x128x8x128, .f32⟩
  | 105 => ⟨S1x32x128x8x128, .f32⟩
  | 106 => ⟨S1x4096x1024, .f32⟩
  | 107 => ⟨S1x4096x1024, .f32⟩
  | 108 => ⟨S4096x1024, .f32⟩
  | 109 => ⟨S1x4096x1024, .f32⟩
  | 110 => ⟨S1x4096x1024, .f32⟩
  | 111 => ⟨S1x4096x1024, .f32⟩
  | 112 => ⟨S1x32x128x8x128, .f32⟩
  | 113 => ⟨S_, .f32⟩
  | 114 => ⟨S1x128x8, .f32⟩
  | 115 => ⟨S1x1x128x8x1, .f32⟩
  | 116 => ⟨S_, .f32⟩
  | 117 => ⟨S128x8, .f32⟩
  | 118 => ⟨S8x128, .f32⟩
  | 119 => ⟨S8x1x32x128x128, .f32⟩
  | 120 => ⟨S8x128x128, .f32⟩
  | 121 => ⟨S8x1x32x128x128, .f32⟩
  | 122 => ⟨S1x32x128x8x128, .f32⟩
  | 123 => ⟨S8x128x128, .f32⟩
  | 124 => ⟨S8x128x128, .f32⟩
  | 125 => ⟨S1x4096x1024, .f32⟩
  | 126 => ⟨S_, .f32⟩
  | 127 => ⟨S1x1024, .f32⟩
  | _ => ⟨S4096x2048, .bf16⟩

abbrev hbmTy0_1 (i : Nat) : BufTy := match i % 128 with
  | 0 => ⟨S1x1x1024, .f32⟩
  | 1 => ⟨S_, .f32⟩
  | 2 => ⟨S1024, .f32⟩
  | 3 => ⟨S1x4096x1024, .f32⟩
  | 4 => ⟨S_, .f32⟩
  | 5 => ⟨S1x1024, .f32⟩
  | 6 => ⟨S1x1x1024, .f32⟩
  | 7 => ⟨S1x4096x1024, .f32⟩
  | 8 => ⟨S1x4096x1024, .f32⟩
  | 9 => ⟨S_, .f32⟩
  | 10 => ⟨S1024, .f32⟩
  | 11 => ⟨S1x4096x1024, .f32⟩
  | 12 => ⟨S_, .f32⟩
  | 13 => ⟨S1x4096, .f32⟩
  | 14 => ⟨S1x4096x1, .f32⟩
  | 15 => ⟨S1x4096x1024, .f32⟩
  | 16 => ⟨S1x4096x1024, .f32⟩
  | 17 => ⟨S1x4096x1, .f32⟩
  | 18 => ⟨S1x4096x1024, .f32⟩
  | 19 => ⟨S_, .f32⟩
  | 20 => ⟨S1x4096, .f32⟩
  | 21 => ⟨S1x4096x1, .f32⟩
  | 22 => ⟨S_, .f32⟩
  | 23 => ⟨S1x4096x1, .f32⟩
  | 24 => ⟨S1x4096x1, .f32⟩
  | 25 => ⟨S_, .f32⟩
  | 26 => ⟨S4096, .f32⟩
  | 27 => ⟨S1x4096, .f32⟩
  | 28 => ⟨S1x4096x1024, .f32⟩
  | 29 => ⟨S1x4096x1024, .f32⟩
  | 30 => ⟨S1x4096x1024, .f32⟩
  | 31 => ⟨S_, .f32⟩
  | 32 => ⟨S1x4096, .f32⟩
  | 33 => ⟨S1x4096x1, .f32⟩
  | 34 => ⟨S1x4096x1024, .f32⟩
  | 35 => ⟨S1x4096x1, .f32⟩
  | 36 => ⟨S_, .f32⟩
  | 37 => ⟨S1x4096x1, .f32⟩
  | 38 => ⟨S1x4096x1, .f32⟩
  | 39 => ⟨S_, .f32⟩
  | 40 => ⟨S4096, .f32⟩
  | 41 => ⟨S1x4096, .f32⟩
  | 42 => ⟨S1x4096x1024, .f32⟩
  | 43 => ⟨S1x4096x1024, .f32⟩
  | 44 => ⟨S1x4096x2048, .f32⟩
  | 45 => ⟨S1x4096x2048, .f32⟩
  | 46 => ⟨S1x4096x2048, .f32⟩
  | 47 => ⟨S_, .f32⟩
  | 48 => ⟨S1x4096x2048, .f32⟩
  | 49 => ⟨S1x4096x2048, .f32⟩
  | 50 => ⟨S1x4096x2048, .f32⟩
  | 51 => ⟨S_, .f32⟩
  | 52 => ⟨S1x4096x2048, .f32⟩
  | 53 => ⟨S1x4096x2048, .f32⟩
  | 54 => ⟨S1x4096x2048, .f32⟩
  | 55 => ⟨S1x4096x2048, .f32⟩
  | 56 => ⟨S1x4096x2048, .f32⟩
  | 57 => ⟨S1x4096x2048, .f32⟩
  | 58 => ⟨S1x4096x2048, .f32⟩
  | 59 => ⟨S1x8x128, .f32⟩
  | 60 => ⟨S1x8x128x128, .f32⟩
  | 61 => ⟨S1x1024, .f32⟩
  | 62 => ⟨S1x1024, .f32⟩
  | 63 => ⟨S_, .f32⟩
  | 64 => ⟨S1x2048, .f32⟩
  | 65 => ⟨S1x1x2048, .f32⟩
  | 66 => ⟨S_, .f32⟩
  | 67 => ⟨S2048, .f32⟩
  | 68 => ⟨S1x2048, .f32⟩
  | 69 => ⟨S4096x2048, .f32⟩
  | 70 => ⟨S4096x2048, .bf16⟩
  | 71 => ⟨S8x128x128, .f32⟩
  | 72 => ⟨S8x128, .f32⟩
  | 73 => ⟨S128x8, .f32⟩
  | 74 => ⟨S_, .i32⟩
  | 75 => ⟨S_, .f32⟩
  | 76 => ⟨S128x128, .f32⟩
  | _ => ⟨S4096x2048, .bf16⟩

abbrev hbmTy (i : Nat) : BufTy := match i / 128 with
  | 0 => hbmTy0_0 i
  | 1 => hbmTy0_1 i
  | _ => ⟨S4096x2048, .bf16⟩

abbrev bufTy : (tb : Table) → Fin (tcTables nBuf tb) → BufTy
  | .hbm, ⟨i, _⟩ => hbmTy i
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_cst : Ref sig .tc := ⟨.hbm, 94, rfl⟩
abbrev main_call0_v5 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_17 : Ref sig .tc := ⟨.hbm, 126, rfl⟩
abbrev main_v93 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_20 : Ref sig .tc := ⟨.hbm, 137, rfl⟩
abbrev main_v101 : Ref sig .tc := ⟨.hbm, 138, rfl⟩
abbrev main_v102 : Ref sig .tc := ⟨.hbm, 139, rfl⟩
abbrev main_cst_21 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_22 : Ref sig .tc := ⟨.hbm, 147, rfl⟩
abbrev main_v109 : Ref sig .tc := ⟨.hbm, 148, rfl⟩
abbrev main_v110 : Ref sig .tc := ⟨.hbm, 149, rfl⟩
abbrev main_cst_23 : Ref sig .tc := ⟨.hbm, 150, rfl⟩
abbrev main_v111 : Ref sig .tc := ⟨.hbm, 151, rfl⟩
abbrev main_v112 : Ref sig .tc := ⟨.hbm, 152, rfl⟩
abbrev main_cst_24 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_25 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_26 : Ref sig .tc := ⟨.hbm, 164, rfl⟩
abbrev main_v122 : Ref sig .tc := ⟨.hbm, 165, rfl⟩
abbrev main_v123 : Ref sig .tc := ⟨.hbm, 166, rfl⟩
abbrev main_cst_27 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_28 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_29 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_30 : Ref sig .tc := ⟨.hbm, 191, rfl⟩
abbrev main_v145 : Ref sig .tc := ⟨.hbm, 192, rfl⟩
abbrev main_v146 : Ref sig .tc := ⟨.hbm, 193, rfl⟩
abbrev main_cst_31 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_c : Ref sig .tc := ⟨.hbm, 202, rfl⟩
abbrev main_call1_v0 : Ref sig .tc := ⟨.hbm, 203, rfl⟩
abbrev main_v154 : Ref sig .tc := ⟨.hbm, 204, rfl⟩

abbrev nD : Nat := 1
abbrev τ : Topo := Topo.v7x

variable {F : FTy → Type} [FloatOps F]
-- ==== InDgrad.lean ====
abbrev S4096x2048 : Shape := ⟨2, ![4096, 2048]⟩
abbrev S4096x3072 : Shape := ⟨2, ![4096, 3072]⟩
abbrev S4096x128 : Shape := ⟨2, ![4096, 128]⟩
abbrev S4096x1024 : Shape := ⟨2, ![4096, 1024]⟩
abbrev S1024x9248 : Shape := ⟨2, ![1024, 9248]⟩
abbrev S1024x2048 : Shape := ⟨2, ![1024, 2048]⟩
abbrev S1024x3072 : Shape := ⟨2, ![1024, 3072]⟩
abbrev S1024x32 : Shape := ⟨2, ![1024, 32]⟩
abbrev S1024x1024 : Shape := ⟨2, ![1024, 1024]⟩
abbrev S_ : Shape := ⟨0, ![]⟩
abbrev S1024x128 : Shape := ⟨2, ![1024, 128]⟩
abbrev S512x2048 : Shape := ⟨2, ![512, 2048]⟩
abbrev S512x3072 : Shape := ⟨2, ![512, 3072]⟩
abbrev S512x128 : Shape := ⟨2, ![512, 128]⟩
abbrev S512x1024 : Shape := ⟨2, ![512, 1024]⟩
abbrev S512x512 : Shape := ⟨2, ![512, 512]⟩

abbrev nBuf : Space → Nat
  | .hbm => 18
  | .vmem => 26
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x128, .bf16⟩
  | .hbm, ⟨3, _⟩ => ⟨S4096x2048, .bf16⟩
  | .hbm, ⟨4, _⟩ => ⟨S4096x1024, .bf16⟩
  | .hbm, ⟨5, _⟩ => ⟨S4096x1024, .bf16⟩
  | .hbm, ⟨6, _⟩ => ⟨S1024x9248, .bf16⟩
  | .hbm, ⟨7, _⟩ => ⟨S1024x2048, .bf16⟩
  | .hbm, ⟨8, _⟩ => ⟨S1024x3072, .bf16⟩
  | .hbm, ⟨9, _⟩ => ⟨S1024x32, .bf16⟩
  | .hbm, ⟨10, _⟩ => ⟨S1024x2048, .bf16⟩
  | .hbm, ⟨11, _⟩ => ⟨S1024x2048, .bf16⟩
  | .hbm, ⟨12, _⟩ => ⟨S1024x1024, .bf16⟩
  | .hbm, ⟨13, _⟩ => ⟨S1024x1024, .bf16⟩
  | .hbm, ⟨14, _⟩ => ⟨S_, .i32⟩
  | .hbm, ⟨15, _⟩ => ⟨S_, .bf16⟩
  | .hbm, ⟨16, _⟩ => ⟨S1024x128, .bf16⟩
  | .hbm, ⟨17, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x3072, .bf16⟩
  | .local _ .vmem, ⟨5, _⟩ => ⟨S512x3072, .bf16⟩
  | .local _ .vmem, ⟨6, _⟩ => ⟨S512x3072, .bf16⟩
  | .local _ .vmem, ⟨7, _⟩ => ⟨S512x3072, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x512, .bf16⟩
  | .local _ .vmem, ⟨25, _⟩ => ⟨S512x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InDgradReferenceIdeal.lean ====
abbrev S4096x2048 : Shape := ⟨2, ![4096, 2048]⟩
abbrev S4096x3072 : Shape := ⟨2, ![4096, 3072]⟩
abbrev S4096x128 : Shape := ⟨2, ![4096, 128]⟩
abbrev S4096x1024 : Shape := ⟨2, ![4096, 1024]⟩
abbrev S1024x9248 : Shape := ⟨2, ![1024, 9248]⟩
abbrev S4096x32 : Shape := ⟨2, ![4096, 32]⟩
abbrev S4096x9248 : Shape := ⟨2, ![4096, 9248]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S4096x128, .bf16⟩
  | .hbm, ⟨3, _⟩ => ⟨S4096x2048, .bf16⟩
  | .hbm, ⟨4, _⟩ => ⟨S4096x1024, .bf16⟩
  | .hbm, ⟨5, _⟩ => ⟨S4096x1024, .bf16⟩
  | .hbm, ⟨6, _⟩ => ⟨S1024x9248, .bf16⟩
  | .hbm, ⟨7, _⟩ => ⟨S4096x32, .bf16⟩
  | .hbm, ⟨8, _⟩ => ⟨S4096x9248, .bf16⟩
  | .hbm, ⟨9, _⟩ => ⟨S4096x9248, .f32⟩
  | .hbm, ⟨10, _⟩ => ⟨S1024x9248, .f32⟩
  | .hbm, ⟨11, _⟩ => ⟨S_, .f32⟩
  | .hbm, ⟨12, _⟩ => ⟨S4096x1024, .f32⟩
  | .hbm, ⟨13, _⟩ => ⟨S4096x9248, .f32⟩
  | .hbm, ⟨14, _⟩ => ⟨S4096x1024, .f32⟩
  | .hbm, ⟨15, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== UpDgrad.lean ====
abbrev S4096x2816 : Shape := ⟨2, ![4096, 2816]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S1024x1408 : Shape := ⟨2, ![1024, 1408]⟩
abbrev S1x512x1408 : Shape := ⟨3, ![1, 512, 1408]⟩
abbrev S1024x512 : Shape := ⟨2, ![1024, 512]⟩
abbrev S512x1408 : Shape := ⟨2, ![512, 1408]⟩

abbrev nBuf : Space → Nat
  | .hbm => 6
  | .vmem => 18
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1x512x1408, .bf16⟩
  | .local _ .vmem, ⟨11, _⟩ => ⟨S1x512x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1x512x1408, .bf16⟩
  | .local _ .vmem, ⟨15, _⟩ => ⟨S1x512x1408, .bf16⟩
  | .local _ .vmem, ⟨16, _⟩ => ⟨S1024x512, .bf16⟩
  | .local _ .vmem, ⟨17, _⟩ => ⟨S1024x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UpDgradReferenceIdeal.lean ====
abbrev S4096x2816 : Shape := ⟨2, ![4096, 2816]⟩
abbrev S1024x5632 : Shape := ⟨2, ![1024, 5632]⟩
abbrev S4096x5632 : Shape := ⟨2, ![4096, 5632]⟩
abbrev S_ : Shape := ⟨0, ![]⟩
abbrev S4096x1024 : Shape := ⟨2, ![4096, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x5632, .bf16⟩
  | .hbm, ⟨4, _⟩ => ⟨S4096x5632, .f32⟩
  | .hbm, ⟨5, _⟩ => ⟨S1024x5632, .f32⟩
  | .hbm, ⟨6, _⟩ => ⟨S_, .f32⟩
  | .hbm, ⟨7, _⟩ => ⟨S4096x1024, .f32⟩
  | .hbm, ⟨8, _⟩ => ⟨S4096x5632, .f32⟩
  | .hbm, ⟨9, _⟩ => ⟨S4096x1024, .f32⟩
  | .hbm, ⟨10, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== DownDgrad.lean ====
abbrev S4096x1024 : Shape := ⟨2, ![4096, 1024]⟩
abbrev S2816x1024 : Shape := ⟨2, ![2816, 1024]⟩
abbrev S4096x2816 : Shape := ⟨2, ![4096, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .f32⟩
  | .local _ .vmem, ⟨5, _⟩ => ⟨S2048x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDgradReferenceIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownWgrad.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWgradReferenceIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpProj.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S2048x1024 : Shape := ⟨2, ![2048, 1024]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x4x1408, .bf16⟩
  | .hbm, ⟨3, _⟩ => ⟨S4x1024x1408, .bf16⟩
  | .hbm, ⟨4, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2048x1408, .bf16⟩
  | .local _ .vmem, ⟨5, _⟩ => ⟨S2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpProjReferenceIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownProj.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownProjReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InXbc.lean ====
abbrev S4096x1024 : Shape := ⟨2, ![4096, 1024]⟩
abbrev S1024x3072 : Shape := ⟨2, ![1024, 3072]⟩
abbrev S4096x3072 : Shape := ⟨2, ![4096, 3072]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .f32⟩
  | .local _ .vmem, ⟨5, _⟩ => ⟨S2048x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InXbcReferenceIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InZ.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InZReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InUv.lean ====
abbrev S4096x1024 : Shape := ⟨2, ![4096, 1024]⟩
abbrev S1024x2048 : Shape := ⟨2, ![1024, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InUvReferenceIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchA.lean ====
abbrev S4096x2048 : Shape := ⟨2, ![4096, 2048]⟩
abbrev S2048x1024 : Shape := ⟨2, ![2048, 1024]⟩
abbrev S4096x1024 : Shape := ⟨2, ![4096, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchAReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchB.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchBReferenceIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== BranchADgrad.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== BranchADgradReferenceIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDgrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDgradReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InZWgrad.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZWgradReferenceIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S_, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InXbcWgrad.lean ====
abbrev S4096x1024 : Shape := ⟨2, ![4096, 1024]⟩
abbrev S4096x3072 : Shape := ⟨2, ![4096, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcWgradReferenceIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S_, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWgrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWgradReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpWgradA.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradAReferenceIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩
abbrev S4x1024x1408 : Shape := ⟨3, ![4, 1024, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S_, .f32⟩
  | .hbm, ⟨4, _⟩ => ⟨S1024x2816, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S1024x2x1408, .bf16⟩
  | .hbm, ⟨11, _⟩ => ⟨S2x1024x1408, .bf16⟩
  | .hbm, ⟨12, _⟩ => ⟨S_, .bf16⟩
  | .hbm, ⟨13, _⟩ => ⟨S2x1024x1408, .bf16⟩
  | .hbm, ⟨14, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpWgradV.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWgradVReferenceIdeal.lean ====
abbrev S4096x1024 : Shape := ⟨2, ![4096, 1024]⟩
abbrev S4096x2816 : Shape := ⟨2, ![4096, 2816]⟩
abbrev S4x1024x1408 : Shape := ⟨3, ![4, 1024, 1408]⟩
abbrev S2x1024x1408 : Shape := ⟨3, ![2, 1024, 1408]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S2x1024x1408, .bf16⟩
  | .hbm, ⟨4, _⟩ => ⟨S4096x1024, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S1024x2816, .f32⟩
  | .hbm, ⟨11, _⟩ => ⟨S1024x2816, .bf16⟩
  | .hbm, ⟨12, _⟩ => ⟨S1024x2x1408, .bf16⟩
  | .hbm, ⟨13, _⟩ => ⟨S2x1024x1408, .bf16⟩
  | .hbm, ⟨14, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== BranchAWgrad.lean ====
abbrev S4096x2048 : Shape := ⟨2, ![4096, 2048]⟩
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchAWgradReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩
abbrev S1024x1024 : Shape := ⟨2, ![1024, 1024]⟩
abbrev S3072x1024 : Shape := ⟨2, ![3072, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | .hbm, ⟨10, _⟩ => ⟨S_, .bf16⟩
  | .hbm, ⟨11, _⟩ => ⟨S1024x1024, .bf16⟩
  | .hbm, ⟨12, _⟩ => ⟨S3072x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== BranchBWgrad.lean ====
abbrev S4096x1024 : Shape := ⟨2, ![4096, 1024]⟩
abbrev S3072x1024 : Shape := ⟨2, ![3072, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S3072x1024, .bf16⟩
  | .hbm, ⟨3, _⟩ => ⟨S3072x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg0 c2_i32
  let c0_i32 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchBWgradReferenceIdeal.lean ====
abbrev S4096x1024 : Shape := ⟨2, ![4096, 1024]⟩
abbrev S3072x1024 : Shape := ⟨2, ![3072, 1024]⟩
abbrev S2048x1024 : Shape := ⟨2, ![2048, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S3072x1024, .bf16⟩
  | .hbm, ⟨3, _⟩ => ⟨S2048x1024, .bf16⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S3072x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InDt.lean ====
abbrev S4096x1024 : Shape := ⟨2, ![4096, 1024]⟩
abbrev S1024x128 : Shape := ⟨2, ![1024, 128]⟩
abbrev S4096x128 : Shape := ⟨2, ![4096, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S2048x1024, .bf16⟩
  | .local _ .vmem, ⟨1, _⟩ => ⟨S2048x1024, .bf16⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtReferenceIdeal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDtWgrad.lean ====
abbrev S4096x1024 : Shape := ⟨2, ![4096, 1024]⟩
abbrev S4096x128 : Shape := ⟨2, ![4096, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InDtWgradReferenceIdeal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S4096x1024, .f32⟩
  | .hbm, ⟨3, _⟩ => ⟨S_, .f32⟩
  | .hbm, ⟨4, _⟩ => ⟨S1024x128, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | .hbm, ⟨9, _⟩ => ⟨S1024x128, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GateBwd.lean ====
abbrev S4096x2048 : Shape := ⟨2, ![4096, 2048]⟩
abbrev S1x2048 : Shape := ⟨2, ![1, 2048]⟩
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S1x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== GateBwdReferenceIdeal.lean ====
abbrev S4096x2048 : Shape := ⟨2, ![4096, 2048]⟩
abbrev S1x2048 : Shape := ⟨2, ![1, 2048]⟩
abbrev S4096x1024 : Shape := ⟨2, ![4096, 1024]⟩
abbrev S_ : Shape := ⟨0, ![]⟩
abbrev S2048 : Shape := ⟨1, ![2048]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .bf16⟩
  | .hbm, ⟨38, _⟩ => ⟨S4096x1024, .bf16⟩
  | .hbm, ⟨39, _⟩ => ⟨S4096x1024, .bf16⟩
  | .hbm, ⟨40, _⟩ => ⟨S1x1024, .f32⟩
  | .hbm, ⟨41, _⟩ => ⟨S1x1024, .f32⟩
  | .hbm, ⟨42, _⟩ => ⟨S4096x1024, .bf16⟩
  | .hbm, ⟨43, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== GateFwd.lean ====
abbrev S4096x2048 : Shape := ⟨2, ![4096, 2048]⟩
abbrev S1x2048 : Shape := ⟨2, ![1, 2048]⟩
abbrev S4096x1024 : Shape := ⟨2, ![4096, 1024]⟩
abbrev S512x1024 : Shape := ⟨2, ![512, 1024]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .hbm, ⟨2, _⟩ => ⟨S4096x1024, .bf16⟩
  | .hbm, ⟨3, _⟩ => ⟨S4096x1024, .bf16⟩
  | .hbm, ⟨4, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateFwdReferenceIdeal.lean ====
abbrev S4096x2048 : Shape := ⟨2, ![4096, 2048]⟩
abbrev S1x2048 : Shape := ⟨2, ![1, 2048]⟩
abbrev S4096x1024 : Shape := ⟨2, ![4096, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048, .f32⟩
  | .hbm, ⟨2, _⟩ => ⟨S4096x1024, .bf16⟩
  | .hbm, ⟨3, _⟩ => ⟨S4096x1024, .bf16⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== RmsFwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== AdamwDown.lean ====
abbrev S704x1024 : Shape := ⟨2, ![704, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwDownReferenceIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamwOutReferenceIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwBranch.lean ====
abbrev S768x1024 : Shape := ⟨2, ![768, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwBranchReferenceIdeal.lean ====
abbrev S768x1024 : Shape := ⟨2, ![768, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S_, .f32⟩
  | .hbm, ⟨7, _⟩ => ⟨S768x1024, .f32⟩
  | .hbm, ⟨8, _⟩ => ⟨S768x1024, .f32⟩
  | .hbm, ⟨9, _⟩ => ⟨S_, .f32⟩
  | .hbm, ⟨10, _⟩ => ⟨S768x1024, .f32⟩
  | .hbm, ⟨11, _⟩ => ⟨S768x1024, .f32⟩
  | .hbm, ⟨12, _⟩ => ⟨S768x1024, .f32⟩
  | .hbm, ⟨13, _⟩ => ⟨S_, .f32⟩
  | .hbm, ⟨14, _⟩ => ⟨S768x1024, .f32⟩
  | .hbm, ⟨15, _⟩ => ⟨S768x1024, .f32⟩
  | .hbm, ⟨16, _⟩ => ⟨S768x1024, .f32⟩
  | .hbm, ⟨17, _⟩ => ⟨S_, .f32⟩
  | .hbm, ⟨18, _⟩ => ⟨S768x1024, .f32⟩
  | .hbm, ⟨19, _⟩ => ⟨S768x1024, .f32⟩
  | .hbm, ⟨20, _⟩ => ⟨S768x1024, .f32⟩
  | .hbm, ⟨21, _⟩ => ⟨S_, .f32⟩
  | .hbm, ⟨22, _⟩ => ⟨S768x1024, .f32⟩
  | .hbm, ⟨23, _⟩ => ⟨S768x1024, .f32⟩
  | .hbm, ⟨24, _⟩ => ⟨S_, .f32⟩
  | .hbm, ⟨25, _⟩ => ⟨S768x1024, .f32⟩
  | .hbm, ⟨26, _⟩ => ⟨S768x1024, .f32⟩
  | .hbm, ⟨27, _⟩ => ⟨S768x1024, .f32⟩
  | .hbm, ⟨28, _⟩ => ⟨S_, .f32⟩
  | .hbm, ⟨29, _⟩ => ⟨S768x1024, .f32⟩
  | .hbm, ⟨30, _⟩ => ⟨S768x1024, .f32⟩
  | .hbm, ⟨31, _⟩ => ⟨S768x1024, .f32⟩
  | .hbm, ⟨32, _⟩ => ⟨S_, .f32⟩
  | .hbm, ⟨33, _⟩ => ⟨S768x1024, .f32⟩
  | .hbm, ⟨34, _⟩ => ⟨S768x1024, .f32⟩
  | .hbm, ⟨35, _⟩ => ⟨S768x1024, .f32⟩
  | .hbm, ⟨36, _⟩ => ⟨S_, .f32⟩
  | .hbm, ⟨37, _⟩ => ⟨S768x1024, .f32⟩
  | .hbm, ⟨38, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwUp.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamwUpReferenceIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Spec.lean ====
module

public import Idealize.ShloMosaic.Lib.Pointwise

@[expose] public section

/-!
The gradient of the chunked spatial gating unit over the real numbers, for one chunk of 128
tokens. Every index is a natural number: `i`, `t`, `s` count tokens of the chunk, `c` counts the
1024 channels of a branch, `j` the 2048 channels of both, and `g` the eight channel groups.
-/

noncomputable section

namespace Sgu

open Finset

/-- The arguments of one chunk as functions of the real numbers: the pre-activation `x`, the
cotangent `y`, the bias `ub`, the norm's weight and bias `lw`, `lb`, the spatial weight `W` and
the spatial bias `bs`. -/
structure In where
  x : ℕ → ℕ → ℝ
  y : ℕ → ℕ → ℝ
  ub : ℕ → ℝ
  lw : ℕ → ℝ
  lb : ℕ → ℝ
  W : ℕ → ℕ → ℕ → ℝ
  bs : ℕ → ℕ → ℝ

/-- The cubic coefficient of the tanh form of GELU, 0.044715. -/
def gc : ℝ := 8943 / 200000
/-- The outer coefficient of the tanh form of GELU, the float nearest to `√(2/π)`. -/
def gs : ℝ := 6693141 / 8388608
/-- The norm's `ε`, the float nearest to `10⁻⁵`. -/
def eps : ℝ := 2748779 / 274877906944

theorem eps_pos : 0 < eps := by norm_num [eps]

/-- The hyperbolic tangent inside GELU. -/
def th (t : ℝ) : ℝ := Real.tanh (gs * (t + gc * t * t * t))
/-- GELU in its tanh form. -/
def gelu (t : ℝ) : ℝ := 1 / 2 * t * (1 + th t)
/-- The derivative of `gelu`. -/
def gg (t : ℝ) : ℝ :=
  1 / 2 * (1 + th t) + 1 / 2 * t * (1 - th t * th t) * (gs * (1 + 26829 / 200000 * t * t))

namespace In

variable (a : In)

/-- The pre-activation with its bias. -/
def z (i j : ℕ) : ℝ := a.x i j + a.ub j
/-- The gate branch. -/
def u (i c : ℕ) : ℝ := gelu (a.z i c)
/-- The value branch. -/
def v (i c : ℕ) : ℝ := gelu (a.z i (1024 + c))
/-- The mean of a token's value branch. -/
def mu (i : ℕ) : ℝ := (∑ c ∈ range 1024, a.v i c) / 1024
/-- The centred value branch. -/
def vc (i c : ℕ) : ℝ := a.v i c - a.mu i
/-- The variance of a token's value branch. -/
def var (i : ℕ) : ℝ := (∑ c ∈ range 1024, a.vc i c * a.vc i c) / 1024
/-- The reciprocal standard deviation. -/
def rs (i : ℕ) : ℝ := (√(a.var i + eps))⁻¹
/-- The normalised value branch. -/
def vh (i c : ℕ) : ℝ := a.vc i c * a.rs i
/-- The norm's output. -/
def vn (i c : ℕ) : ℝ := a.vh i c * a.lw c + a.lb c
/-- The causal spatial weight. -/
def wm (g t s : ℕ) : ℝ := if s ≤ t then a.W g t s else 0
/-- The spatially mixed value branch. -/
def mixed (t c : ℕ) : ℝ := ∑ s ∈ range 128, a.wm (c / 128) t s * a.vn s c + a.bs (c / 128) t
/-- The cotangent of the gate branch. -/
def du (t c : ℕ) : ℝ := a.y t c * a.mixed t c
/-- The cotangent of the mixed branch. -/
def dm (t c : ℕ) : ℝ := a.y t c * a.u t c
/-- The chunk's part of the spatial weight's gradient. -/
def dw (g t s : ℕ) : ℝ :=
  if s ≤ t then ∑ d ∈ range 128, a.dm t (128 * g + d) * a.vn s (128 * g + d) else 0
/-- The cotangent of the norm's output. -/
def dvn (s c : ℕ) : ℝ := ∑ t ∈ range 128, a.wm (c / 128) t s * a.dm t c
/-- The chunk's part of the spatial bias's gradient. -/
def dbt (t g : ℕ) : ℝ := ∑ c ∈ range 1024, a.dm t c * (if c / 128 = g then 1 else 0)
/-- The chunk's part of the gradient of the norm's weight. -/
def dlw (c : ℕ) : ℝ := ∑ i ∈ range 128, a.dvn i c * a.vh i c
/-- The chunk's part of the gradient of the norm's bias. -/
def dlb (c : ℕ) : ℝ := ∑ i ∈ range 128, a.dvn i c
/-- The cotangent of the normalised value branch. -/
def dh (i c : ℕ) : ℝ := a.dvn i c * a.lw c
/-- The cotangent of the value branch. -/
def dv (i c : ℕ) : ℝ :=
  a.rs i * (a.dh i c - (∑ k ∈ range 1024, a.dh i k) / 1024
    - a.vh i c * ((∑ k ∈ range 1024, a.dh i k * a.vh i k) / 1024))
/-- The cotangent of the pre-activation. -/
def dz (i j : ℕ) : ℝ := (if j < 1024 then a.du i j else a.dv i (j - 1024)) * gg (a.z i j)
/-- The chunk's part of the gradient of the pre-activation's bias. -/
def duvb (j : ℕ) : ℝ := ∑ i ∈ range 128, a.dz i j

/-- The arguments of chunk `p`. -/
def blk (p : ℕ) : In :=
  { a with x := fun i j => a.x (128 * p + i) j, y := fun i j => a.y (128 * p + i) j }

theorem var_nonneg (i : ℕ) : 0 ≤ a.var i :=
  div_nonneg (sum_nonneg fun _ _ => mul_self_nonneg _) (by norm_num)

theorem var_eps_pos (i : ℕ) : 0 < a.var i + eps :=
  add_pos_of_nonneg_of_pos (a.var_nonneg i) eps_pos

end In

/-- A finite sum of real numbers, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s h ih => rw [sum_insert h, sum_insert h, EReal.coe_add, ih]

/-- A sum over `Fin n` of real numbers given by their positions. -/
theorem coe_sum_fin (n : ℕ) (f : ℕ → ℝ) :
    ∑ i : Fin n, ((f i.val : ℝ) : EReal) = ((∑ i ∈ range n, f i : ℝ) : EReal) := by
  rw [coe_sum, ← Fin.sum_univ_eq_sum_range (fun i => ((f i : ℝ) : EReal)) n]

end Sgu
end
-- ==== Proof.Block.lean ====
module

public import proofs.«01_k».proof.Proof.Spec
public import proofs.«01_k».proof.Proof.Gen.KernelIdeal.Skeleton
public import Idealize.ShloMosaic.Lib.IdealHost
public import Idealize.ShloMosaic.Lib.WordCmp

@[expose] public section

/-!
What the kernel's body computes on one chunk, operation group by operation group, over the
extended reals: on arguments that are real numbers each group is the formula of `Sgu.In`.
-/

noncomputable section

namespace Sgu

open Idealize.ShloMosaic Finset
open Cert.KernelIdeal Cert.KernelIdeal.Gen

/-- A matrix of extended reals holds the real numbers `f`. -/
abbrev Is2 {n k : ℕ} (v : (⟨2, ![n, k]⟩ : Shape).Idx → EReal) (f : ℕ → ℕ → ℝ) : Prop :=
  ∀ (i : Fin n) (j : Fin k), v (ix2 i j) = ((f i.val j.val : ℝ) : EReal)

/-- A stack of matrices of extended reals holds the real numbers `f`. -/
abbrev Is3 {l n k : ℕ} (v : (⟨3, ![l, n, k]⟩ : Shape).Idx → EReal) (f : ℕ → ℕ → ℕ → ℝ) : Prop :=
  ∀ (q : Fin l) (i : Fin n) (j : Fin k), v (ix3 q i j) = ((f q.val i.val j.val : ℝ) : EReal)

theorem le8 : 8 ≤ 128 := by decide

/-- The causal mask of a chunk. -/
abbrev IsTril (v : (⟨2, ![128, 128]⟩ : Shape).Idx → BitVec 1) : Prop :=
  ∀ i j : Fin 128, v (ix2 i j) = BitVec.ofBool (decide (j.val ≤ i.val))

/-! ## Constants and single operations -/

theorem c_half : Ideal.ofBits .f32 0x3F000000#32 = ((1 / 2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_n : Ideal.ofBits .f32 0x44800000#32 = ((1024 : ℝ) : EReal) := by
  simp [Ideal.ofBits, Ideal.ieee, -EReal.coe_mul]; norm_num
theorem c_gs : Ideal.ofBits .f32 0x3F4C422A#32 = ((gs : ℝ) : EReal) := by
  simp [Ideal.ofBits, Ideal.ieee, gs, -EReal.coe_mul]; norm_num
theorem c_eps : Ideal.ofBits .f32 0x3727C5AC#32 = ((eps : ℝ) : EReal) := by
  simp [Ideal.ofBits, Ideal.ieee, eps, -EReal.coe_mul]; norm_num
theorem c_gc : (Named.named κ "gelu_c" 0x3D372713#32 : Ideal .f32) = ((gc : ℝ) : EReal) := by
  simp [Named.named, κ, gc]
theorem c_gc3 : (Named.named κ "gelu_c3" 0x3E095D4F#32 : Ideal .f32) =
    ((26829 / 200000 : ℝ) : EReal) := by
  simp [Named.named, κ]

/-- Division by 1024. -/
theorem div_n (x : ℝ) : Ideal.div (x : EReal) ((1024 : ℝ) : EReal) = ((x / 1024 : ℝ) : EReal) := by
  rw [Ideal.div_coe (by norm_num)]; norm_cast; ring_nf

/-- The reciprocal root of a positive real number. -/
theorem rsqrt_pos {x : ℝ} (h : 0 < x) : Ideal.rsqrt (x : EReal) = (((√x)⁻¹ : ℝ) : EReal) := by
  rw [Ideal.rsqrt_coe, if_neg (not_lt.2 h.le), if_neg h.ne']

/-- A selection by a decided condition. -/
theorem sel (p : Prop) [Decidable p] (x y : EReal) :
    Scalar.select (BitVec.ofBool (decide p)) x y = if p then x else y := by
  unfold Scalar.select; by_cases h : p <;> simp [h]

/-- A choice between a real number and zero. -/
theorem ite_coe (p : Prop) [Decidable p] (x : ℝ) :
    (if p then (x : EReal) else 0) = ((if p then x else 0 : ℝ) : EReal) := by
  split_ifs <;> simp

theorem one_add (x : ℝ) : 1 + (x : EReal) = ((1 + x : ℝ) : EReal) := by norm_cast
theorem one_sub (x : ℝ) : 1 - (x : EReal) = ((1 - x : ℝ) : EReal) := by norm_cast

variable (a : In)

/-- The causal mask the body makes from two index vectors. -/
theorem pay7 : IsTril k0_pay7 := by
  intro i j
  pointwise [k0_pay7]
  rw [Idealize.ShloMosaic.WordCmp.cmpi_sge_ofNat (by simp; omega) (by simp; omega)]

/-! ## The norm -/

section norm

variable {v6 : Vec Ideal S128x2048 .bf16} {v8 : Vec Ideal S1x2048 .f32}
  (h6 : Is2 v6 a.x) (h8 : Is2 v8 fun _ j => a.ub j)

include h6 h8

theorem pay8 : Is2 (k0_pay8 (F := Ideal) v6 v8) a.z := by
  intro i j
  pointwise [k0_pay8]
  simp only [h6 _ _, h8 _ _, ← EReal.coe_add]
  rfl

theorem pay9 : Is2 (k0_pay9 (F := Ideal) v6 v8) fun i j => gelu (a.z i j) := by
  intro i j
  pointwise [k0_pay9]
  simp only [pay8 a h6 h8 _ _, c_half, c_one, c_gs, c_gc, ← EReal.coe_add, ← EReal.coe_mul, Ideal.tanh_coe]
  rfl

theorem pay10 : Is2 (k0_pay10 (F := Ideal) v6 v8) a.u := by
  intro i j
  pointwise [k0_pay10]
  simp only [pay9 a h6 h8 _ _]
  rfl

theorem pay11 : Is2 (k0_pay11 (F := Ideal) v6 v8) a.vc := by
  intro i j
  pointwise [k0_pay11]
  simp only [pay9 a h6 h8 _ _, c_n, ← EReal.coe_add, ← coe_sum, ← EReal.coe_sub, div_n]
  simp only [In.vc, In.mu, sum_range, In.v]

theorem pay12 : Is2 (k0_pay12 (F := Ideal) v6 v8) fun i _ => a.rs i := by
  intro i j
  pointwise [k0_pay12]
  simp only [pay11 a h6 h8 _ _, c_n, c_eps, ← EReal.coe_add, ← EReal.coe_mul, ← coe_sum, div_n]
  have h := a.var_eps_pos i.val
  simp only [In.var, sum_range] at h
  simp only [rsqrt_pos h, In.rs, In.var, sum_range]

theorem pay13 : Is2 (k0_pay13 (F := Ideal) v6 v8) a.vh := by
  intro i j
  pointwise [k0_pay13]
  simp only [pay11 a h6 h8 _ _, pay12 a h6 h8 _ _, ← EReal.coe_mul]
  rfl

end norm

theorem pay14 {v41 : FVec Ideal S128x1024 .f32} {v42 v45 : Vec Ideal S1x1024 .f32}
    (h41 : Is2 v41 a.vh) (h42 : Is2 v42 fun _ j => a.lw j) (h45 : Is2 v45 fun _ j => a.lb j) :
    Is2 (k0_pay14 (F := Ideal) v41 v42 v45) a.vn := by
  intro i j
  pointwise [k0_pay14]
  simp only [h41 _ _, h42 _ _, h45 _ _, ← EReal.coe_add, ← EReal.coe_mul]
  rfl

theorem pay15 {v49 : Vec Ideal S128x128 .f32} {f : ℕ → ℕ → ℝ} (h : Is2 v49 f) :
    Is2 (k0_pay15 (F := Ideal) v49) f := by
  intro i j
  pointwise [k0_pay15]
  exact h _ _

theorem pay16 {v51 : Vec Ideal S128x1024 .bf16} {f : ℕ → ℕ → ℝ} (h : Is2 v51 f) :
    Is2 (k0_pay16 (F := Ideal) v51) f := by
  intro i j
  pointwise [k0_pay16]
  exact h _ _

/-! ## The mixing, per channel group -/

/-- The masked product with the group's weight, as a sum over the chunk. -/
theorem du_real (g t c : ℕ) (h : c / 128 = g) :
    a.y t c * (∑ s : Fin 128, (if s.val ≤ t then a.W g t s * a.vn s c else 0) + a.bs g t) =
      a.du t c := by
  subst h
  simp only [In.du, In.mixed, In.wm, sum_range, ite_mul, zero_mul]

/-- The masked transposed product with the group's weight. -/
theorem dvn_real (g s c : ℕ) (h : c / 128 = g) :
    (∑ t : Fin 128, if s ≤ t.val then a.W g t s * (a.y t c * a.u t c) else 0) = a.dvn s c := by
  subst h
  simp only [In.dvn, In.dm, In.wm, sum_range, ite_mul, zero_mul]

/-- The masked product of cotangent and norm over the group's channels. -/
theorem dw_real (g t s : ℕ) :
    (if s ≤ t then ∑ d : Fin 128, a.y t (128 * g + d) * a.u t (128 * g + d) * a.vn s (128 * g + d)
      else 0) = a.dw g t s := by
  simp only [In.dw, In.dm, sum_range]

section mix

variable {v5 : IVec S128x128 1} {v24 v41 v52 : FVec Ideal S128x1024 .f32}
  {v48 : FVec Ideal S128x1024 .bf16} {v50 : FVec Ideal S128x128 .f32}
  (h5 : IsTril v5) (h24 : Is2 v24 a.u) (h48 : Is2 v48 a.vn)
  (h50 : ∀ (i : Fin 128) (g : Fin 8), v50 (ix2 i (g.castLE le8)) = ((a.bs g.val i.val : ℝ) : EReal))
  (h52 : Is2 v52 a.y)

section first

variable {v42 v45 : Vec Ideal S1x1024 .f32} {v49 : Vec Ideal S128x128 .f32} {v51 : Vec Ideal S128x1024 .bf16}
  (h41 : Is2 v41 a.vh) (h42 : Is2 v42 fun _ j => a.lw j) (h45 : Is2 v45 fun _ j => a.lb j)
  (h49 : ∀ (i : Fin 128) (g : Fin 8), v49 (ix2 i (g.castLE le8)) = ((a.bs g.val i.val : ℝ) : EReal))
  (h51 : Is2 v51 a.y)

include h5 h41 h42 h45 h49 h51 in
theorem du0 {w : Vec Ideal S1x128x128 .f32} (hw : Is3 w fun _ t s => a.W 0 t s) :
    Is2 (k0_pay18 v5 v41 v42 v45 v49 v51 w) fun t d => a.du t d := by
  intro i j
  have hb : v49 (ix2 i 0) = ((a.bs 0 i.val : ℝ) : EReal) := h49 i 0
  have h48 := pay14 a h41 h42 h45
  pointwise [k0_pay18, k0_pay17, k0_pay16, k0_pay15]
  simp only [h5 _ _, h48 _ _, h51 _ _, hw _ _ _, hb]
  simp only [sel, ite_coe, zero_add, ← EReal.coe_add, ← EReal.coe_mul, ← coe_sum]
  rw [← du_real a 0 i.val j.val (by omega)]

include h24 h51 in
theorem dm0 : Is2 (k0_pay19 v24 v51) fun t d => a.dm t d := by
  intro i j
  pointwise [k0_pay19, k0_pay16]
  simp only [h24 _ _, h51 _ _, ← EReal.coe_mul]
  rfl

include h5 h24 h41 h42 h45 h51 in
theorem dw0 {w : Vec Ideal S1x128x128 .f32} {f : ℕ → ℕ → ℝ} (hw : Is3 w fun _ t s => f t s) :
    Is3 (k0_pay21 v5 v24 v41 v42 v45 v51 w) fun _ t s => f t s + a.dw 0 t s := by
  intro q i j
  obtain rfl : q = 0 := Subsingleton.elim _ _
  have h48 := pay14 a h41 h42 h45
  pointwise [k0_pay21, k0_pay20, k0_pay19, k0_pay16]
  simp only [h5 _ _, h24 _ _, h48 _ _, h51 _ _, hw _ _ _]
  simp only [sel, ite_coe, zero_add, ← EReal.coe_add, ← EReal.coe_mul, ← coe_sum]
  rw [← dw_real]
  simp only [mul_zero, zero_add]

include h5 h24 h51 in
theorem dvn0 {w : Vec Ideal S1x128x128 .f32} (hw : Is3 w fun _ t s => a.W 0 t s) :
    Is2 (k0_pay22 v5 v24 v51 w) fun s d => a.dvn s d := by
  intro i j
  pointwise [k0_pay22, k0_pay20, k0_pay19, k0_pay17, k0_pay16]
  simp only [h5 _ _, h24 _ _, h51 _ _, hw _ _ _]
  simp only [sel, ite_coe, zero_add, ← EReal.coe_add, ← EReal.coe_mul, ← coe_sum]
  rw [← dvn_real a 0 i.val j.val (by omega)]

end first

include h5 h48 h50 h52 in
theorem du1 {w : Vec Ideal S1x128x128 .f32} (hw : Is3 w fun _ t s => a.W 1 t s) :
    Is2 (k0_pay24 v5 v48 v50 v52 w) fun t d => a.du t (128 + d) := by
  intro i j
  have hb : v50 (ix2 i 1) = ((a.bs 1 i.val : ℝ) : EReal) := h50 i 1
  pointwise [k0_pay24, k0_pay23]
  simp only [h5 _ _, h48 _ _, h52 _ _, hw _ _ _, hb]
  simp only [sel, ite_coe, zero_add, ← EReal.coe_add, ← EReal.coe_mul, ← coe_sum]
  rw [← du_real a 1 i.val (128 + j.val) (by omega)]

include h24 h52 in
theorem dm1 : Is2 (k0_pay25 v24 v52) fun t d => a.dm t (128 + d) := by
  intro i j
  pointwise [k0_pay25]
  simp only [h24 _ _, h52 _ _, ← EReal.coe_mul]
  rfl

include h5 h24 h48 h52 in
theorem dw1 {w : Vec Ideal S1x128x128 .f32} {f : ℕ → ℕ → ℝ} (hw : Is3 w fun _ t s => f t s) :
    Is3 (k0_pay27 v5 v24 v48 v52 w) fun _ t s => f t s + a.dw 1 t s := by
  intro q i j
  obtain rfl : q = 0 := Subsingleton.elim _ _
  pointwise [k0_pay27, k0_pay26, k0_pay25]
  simp only [h5 _ _, h24 _ _, h48 _ _, h52 _ _, hw _ _ _]
  simp only [sel, ite_coe, zero_add, ← EReal.coe_add, ← EReal.coe_mul, ← coe_sum]
  rw [← dw_real]

include h5 h24 h52 in
theorem dvn1 {w : Vec Ideal S1x128x128 .f32} (hw : Is3 w fun _ t s => a.W 1 t s) :
    Is2 (k0_pay28 v5 v24 v52 w) fun s d => a.dvn s (128 + d) := by
  intro i j
  pointwise [k0_pay28, k0_pay26, k0_pay25, k0_pay23]
  simp only [h5 _ _, h24 _ _, h52 _ _, hw _ _ _]
  simp only [sel, ite_coe, zero_add, ← EReal.coe_add, ← EReal.coe_mul, ← coe_sum]
  rw [← dvn_real a 1 i.val (128 + j.val) (by omega)]

include h5 h48 h50 h52 in
theorem du2 {w : Vec Ideal S1x128x128 .f32} (hw : Is3 w fun _ t s => a.W 2 t s) :
    Is2 (k0_pay30 v5 v48 v50 v52 w) fun t d => a.du t (256 + d) := by
  intro i j
  have hb : v50 (ix2 i 2) = ((a.bs 2 i.val : ℝ) : EReal) := h50 i 2
  pointwise [k0_pay30, k0_pay29]
  simp only [h5 _ _, h48 _ _, h52 _ _, hw _ _ _, hb]
  simp only [sel, ite_coe, zero_add, ← EReal.coe_add, ← EReal.coe_mul, ← coe_sum]
  rw [← du_real a 2 i.val (256 + j.val) (by omega)]

include h24 h52 in
theorem dm2 : Is2 (k0_pay32 v24 (k0_pay31 v52)) fun t d => a.dm t (256 + d) := by
  intro i j
  pointwise [k0_pay32, k0_pay31]
  simp only [h24 _ _, h52 _ _, ← EReal.coe_mul]
  rfl

include h5 h24 h48 h52 in
theorem dw2 {w : Vec Ideal S1x128x128 .f32} {f : ℕ → ℕ → ℝ} (hw : Is3 w fun _ t s => f t s) :
    Is3 (k0_pay34 v5 v24 v48 (k0_pay31 v52) w) fun _ t s => f t s + a.dw 2 t s := by
  intro q i j
  obtain rfl : q = 0 := Subsingleton.elim _ _
  pointwise [k0_pay34, k0_pay33, k0_pay32, k0_pay31]
  simp only [h5 _ _, h24 _ _, h48 _ _, h52 _ _, hw _ _ _]
  simp only [sel, ite_coe, zero_add, ← EReal.coe_add, ← EReal.coe_mul, ← coe_sum]
  rw [← dw_real]

include h5 h24 h52 in
theorem dvn2 {w : Vec Ideal S1x128x128 .f32} (hw : Is3 w fun _ t s => a.W 2 t s) :
    Is2 (k0_pay35 v24 (k0_pay29 v5 w) (k0_pay31 v52)) fun s d => a.dvn s (256 + d) := by
  intro i j
  pointwise [k0_pay35, k0_pay33, k0_pay32, k0_pay31, k0_pay29]
  simp only [h5 _ _, h24 _ _, h52 _ _, hw _ _ _]
  simp only [sel, ite_coe, zero_add, ← EReal.coe_add, ← EReal.coe_mul, ← coe_sum]
  rw [← dvn_real a 2 i.val (256 + j.val) (by omega)]

include h5 h48 h50 h52 in
theorem du3 {w : Vec Ideal S1x128x128 .f32} (hw : Is3 w fun _ t s => a.W 3 t s) :
    Is2 (k0_pay37 v5 v48 v50 v52 w) fun t d => a.du t (384 + d) := by
  intro i j
  have hb : v50 (ix2 i 3) = ((a.bs 3 i.val : ℝ) : EReal) := h50 i 3
  pointwise [k0_pay37, k0_pay36]
  simp only [h5 _ _, h48 _ _, h52 _ _, hw _ _ _, hb]
  simp only [sel, ite_coe, zero_add, ← EReal.coe_add, ← EReal.coe_mul, ← coe_sum]
  rw [← du_real a 3 i.val (384 + j.val) (by omega)]

include h24 h52 in
theorem dm3 : Is2 (k0_pay38 v24 v52) fun t d => a.dm t (384 + d) := by
  intro i j
  pointwise [k0_pay38]
  simp only [h24 _ _, h52 _ _, ← EReal.coe_mul]
  rfl

include h5 h24 h48 h52 in
theorem dw3 {w : Vec Ideal S1x128x128 .f32} {f : ℕ → ℕ → ℝ} (hw : Is3 w fun _ t s => f t s) :
    Is3 (k0_pay41 (k0_pay40 v5 v24 v48 v52 w)) fun _ t s => f t s + a.dw 3 t s := by
  intro q i j
  obtain rfl : q = 0 := Subsingleton.elim _ _
  pointwise [k0_pay41, k0_pay40, k0_pay39, k0_pay38]
  simp only [h5 _ _, h24 _ _, h48 _ _, h52 _ _, hw _ _ _]
  simp only [sel, ite_coe, zero_add, ← EReal.coe_add, ← EReal.coe_mul, ← coe_sum]
  rw [← dw_real]

include h5 h24 h52 in
theorem dvn3 {w : Vec Ideal S1x128x128 .f32} (hw : Is3 w fun _ t s => a.W 3 t s) :
    Is2 (k0_pay42 (k0_pay36 v5 w) (k0_pay39 v24 v52)) fun s d => a.dvn s (384 + d) := by
  intro i j
  pointwise [k0_pay42, k0_pay39, k0_pay38, k0_pay36]
  simp only [h5 _ _, h24 _ _, h52 _ _, hw _ _ _]
  simp only [sel, ite_coe, zero_add, ← EReal.coe_add, ← EReal.coe_mul, ← coe_sum]
  rw [← dvn_real a 3 i.val (384 + j.val) (by omega)]

include h5 h48 h50 h52 in
theorem du4 {w : Vec Ideal S1x128x128 .f32} (hw : Is3 w fun _ t s => a.W 4 t s) :
    Is2 (k0_pay44 v5 v48 v50 v52 w) fun t d => a.du t (512 + d) := by
  intro i j
  have hb : v50 (ix2 i 4) = ((a.bs 4 i.val : ℝ) : EReal) := h50 i 4
  pointwise [k0_pay44, k0_pay43]
  simp only [h5 _ _, h48 _ _, h52 _ _, hw _ _ _, hb]
  simp only [sel, ite_coe, zero_add, ← EReal.coe_add, ← EReal.coe_mul, ← coe_sum]
  rw [← du_real a 4 i.val (512 + j.val) (by omega)]

include h24 h52 in
theorem dm4 : Is2 (k0_pay45 v24 v52) fun t d => a.dm t (512 + d) := by
  intro i j
  pointwise [k0_pay45]
  simp only [h24 _ _, h52 _ _, ← EReal.coe_mul]
  rfl

include h5 h24 h48 h52 in
theorem dw4 {w : Vec Ideal S1x128x128 .f32} {f : ℕ → ℕ → ℝ} (hw : Is3 w fun _ t s => f t s) :
    Is3 (k0_pay47 v5 v24 v48 v52 w) fun _ t s => f t s + a.dw 4 t s := by
  intro q i j
  obtain rfl : q = 0 := Subsingleton.elim _ _
  pointwise [k0_pay47, k0_pay46, k0_pay45]
  simp only [h5 _ _, h24 _ _, h48 _ _, h52 _ _, hw _ _ _]
  simp only [sel, ite_coe, zero_add, ← EReal.coe_add, ← EReal.coe_mul, ← coe_sum]
  rw [← dw_real]

include h5 h24 h52 in
theorem dvn4 {w : Vec Ideal S1x128x128 .f32} (hw : Is3 w fun _ t s => a.W 4 t s) :
    Is2 (k0_pay48 v5 v24 v52 w) fun s d => a.dvn s (512 + d) := by
  intro i j
  pointwise [k0_pay48, k0_pay46, k0_pay45, k0_pay43]
  simp only [h5 _ _, h24 _ _, h52 _ _, hw _ _ _]
  simp only [sel, ite_coe, zero_add, ← EReal.coe_add, ← EReal.coe_mul, ← coe_sum]
  rw [← dvn_real a 4 i.val (512 + j.val) (by omega)]

include h5 h48 h50 h52 in
theorem du5 {w : Vec Ideal S1x128x128 .f32} (hw : Is3 w fun _ t s => a.W 5 t s) :
    Is2 (k0_pay51 v50 v52 (k0_pay50 v5 v48 w)) fun t d => a.du t (640 + d) := by
  intro i j
  have hb : v50 (ix2 i 5) = ((a.bs 5 i.val : ℝ) : EReal) := h50 i 5
  pointwise [k0_pay51, k0_pay50, k0_pay49]
  simp only [h5 _ _, h48 _ _, h52 _ _, hw _ _ _, hb]
  simp only [sel, ite_coe, zero_add, ← EReal.coe_add, ← EReal.coe_mul, ← coe_sum]
  rw [← du_real a 5 i.val (640 + j.val) (by omega)]

include h24 h52 in
theorem dm5 : Is2 (k0_pay52 v24 v52) fun t d => a.dm t (640 + d) := by
  intro i j
  pointwise [k0_pay52]
  simp only [h24 _ _, h52 _ _, ← EReal.coe_mul]
  rfl

include h5 h24 h48 h52 in
theorem dw5 {w : Vec Ideal S1x128x128 .f32} {f : ℕ → ℕ → ℝ} (hw : Is3 w fun _ t s => f t s) :
    Is3 (k0_pay54 v5 v24 v48 v52 w) fun _ t s => f t s + a.dw 5 t s := by
  intro q i j
  obtain rfl : q = 0 := Subsingleton.elim _ _
  pointwise [k0_pay54, k0_pay53, k0_pay52]
  simp only [h5 _ _, h24 _ _, h48 _ _, h52 _ _, hw _ _ _]
  simp only [sel, ite_coe, zero_add, ← EReal.coe_add, ← EReal.coe_mul, ← coe_sum]
  rw [← dw_real]

include h5 h24 h52 in
theorem dvn5 {w : Vec Ideal S1x128x128 .f32} (hw : Is3 w fun _ t s => a.W 5 t s) :
    Is2 (k0_pay55 v24 v52 (k0_pay49 v5 w)) fun s d => a.dvn s (640 + d) := by
  intro i j
  pointwise [k0_pay55, k0_pay53, k0_pay52, k0_pay49]
  simp only [h5 _ _, h24 _ _, h52 _ _, hw _ _ _]
  simp only [sel, ite_coe, zero_add, ← EReal.coe_add, ← EReal.coe_mul, ← coe_sum]
  rw [← dvn_real a 5 i.val (640 + j.val) (by omega)]

include h5 h48 h50 h52 in
theorem du6 {w : Vec Ideal S1x128x128 .f32} (hw : Is3 w fun _ t s => a.W 6 t s) :
    Is2 (k0_pay57 v5 v48 v50 v52 w) fun t d => a.du t (768 + d) := by
  intro i j
  have hb : v50 (ix2 i 6) = ((a.bs 6 i.val : ℝ) : EReal) := h50 i 6
  pointwise [k0_pay57, k0_pay56]
  simp only [h5 _ _, h48 _ _, h52 _ _, hw _ _ _, hb]
  simp only [sel, ite_coe, zero_add, ← EReal.coe_add, ← EReal.coe_mul, ← coe_sum]
  rw [← du_real a 6 i.val (768 + j.val) (by omega)]

include h24 h52 in
theorem dm6 : Is2 (k0_pay58 v24 v52) fun t d => a.dm t (768 + d) := by
  intro i j
  pointwise [k0_pay58]
  simp only [h24 _ _, h52 _ _, ← EReal.coe_mul]
  rfl

include h5 h24 h48 h52 in
theorem dw6 {w : Vec Ideal S1x128x128 .f32} {f : ℕ → ℕ → ℝ} (hw : Is3 w fun _ t s => f t s) :
    Is3 (k0_pay62 v5 (k0_pay60 w) (k0_pay61 v24 v48 v52) (Scalar.ofBits .f32 0x00000000#32)) fun _ t s => f t s + a.dw 6 t s := by
  intro q i j
  obtain rfl : q = 0 := Subsingleton.elim _ _
  pointwise [k0_pay62, k0_pay61, k0_pay60, k0_pay59, k0_pay58]
  simp only [h5 _ _, h24 _ _, h48 _ _, h52 _ _, hw _ _ _]
  simp only [sel, ite_coe, zero_add, ← EReal.coe_add, ← EReal.coe_mul, ← coe_sum]
  rw [← dw_real]

include h5 h24 h52 in
theorem dvn6 {w : Vec Ideal S1x128x128 .f32} (hw : Is3 w fun _ t s => a.W 6 t s) :
    Is2 (k0_pay63 (k0_pay56 v5 w) (k0_pay59 v24 v52)) fun s d => a.dvn s (768 + d) := by
  intro i j
  pointwise [k0_pay63, k0_pay59, k0_pay58, k0_pay56]
  simp only [h5 _ _, h24 _ _, h52 _ _, hw _ _ _]
  simp only [sel, ite_coe, zero_add, ← EReal.coe_add, ← EReal.coe_mul, ← coe_sum]
  rw [← dvn_real a 6 i.val (768 + j.val) (by omega)]

include h5 h48 h50 h52 in
theorem du7 {w : Vec Ideal S1x128x128 .f32} (hw : Is3 w fun _ t s => a.W 7 t s) :
    Is2 (k0_pay65 v5 v48 v50 v52 w) fun t d => a.du t (896 + d) := by
  intro i j
  have hb : v50 (ix2 i 7) = ((a.bs 7 i.val : ℝ) : EReal) := h50 i 7
  pointwise [k0_pay65, k0_pay64]
  simp only [h5 _ _, h48 _ _, h52 _ _, hw _ _ _, hb]
  simp only [sel, ite_coe, zero_add, ← EReal.coe_add, ← EReal.coe_mul, ← coe_sum]
  rw [← du_real a 7 i.val (896 + j.val) (by omega)]

include h24 h52 in
theorem dm7 : Is2 (k0_pay66 v24 v52) fun t d => a.dm t (896 + d) := by
  intro i j
  pointwise [k0_pay66]
  simp only [h24 _ _, h52 _ _, ← EReal.coe_mul]
  rfl

include h5 h24 h48 h52 in
theorem dw7 {w : Vec Ideal S1x128x128 .f32} {f : ℕ → ℕ → ℝ} (hw : Is3 w fun _ t s => f t s) :
    Is3 (k0_pay68 v5 v24 v48 v52 w) fun _ t s => f t s + a.dw 7 t s := by
  intro q i j
  obtain rfl : q = 0 := Subsingleton.elim _ _
  pointwise [k0_pay68, k0_pay67, k0_pay66]
  simp only [h5 _ _, h24 _ _, h48 _ _, h52 _ _, hw _ _ _]
  simp only [sel, ite_coe, zero_add, ← EReal.coe_add, ← EReal.coe_mul, ← coe_sum]
  rw [← dw_real]

include h5 h24 h52 in
theorem dvn7 {w : Vec Ideal S1x128x128 .f32} (hw : Is3 w fun _ t s => a.W 7 t s) :
    Is2 (k0_pay69 v5 v24 v52 w) fun s d => a.dvn s (896 + d) := by
  intro i j
  pointwise [k0_pay69, k0_pay67, k0_pay66, k0_pay64]
  simp only [h5 _ _, h24 _ _, h52 _ _, hw _ _ _]
  simp only [sel, ite_coe, zero_add, ← EReal.coe_add, ← EReal.coe_mul, ← coe_sum]
  rw [← dvn_real a 7 i.val (896 + j.val) (by omega)]

end mix

/-! ## The row and column sums -/

section sums

variable {v24 v41 v52 : FVec Ideal S128x1024 .f32} {v67 v94 v121 v148 v175 v202 v229 : FVec Ideal S128x128 .f32}
  (h24 : Is2 v24 a.u) (h52 : Is2 v52 a.y) (h41 : Is2 v41 a.vh)
  (h67 : Is2 v67 fun t d => a.dm t (d))
  (h94 : Is2 v94 fun t d => a.dm t (128 + d))
  (h121 : Is2 v121 fun t d => a.dm t (256 + d))
  (h148 : Is2 v148 fun t d => a.dm t (384 + d))
  (h175 : Is2 v175 fun t d => a.dm t (512 + d))
  (h202 : Is2 v202 fun t d => a.dm t (640 + d))
  (h229 : Is2 v229 fun t d => a.dm t (768 + d))

include h24 h52 h67 h94 h121 h148 h175 h202 h229 in
theorem pay70 : Is2 (k0_pay70 v24 v52 v67 v94 v121 v148 v175 v202 v229) a.dm := by
  intro i j
  have h := dm7 a h24 h52
  pointwise [k0_pay70]
  simp only [h67 _ _, h94 _ _, h121 _ _, h148 _ _, h175 _ _, h202 _ _, h229 _ _, h _ _]
  split_ifs <;> congr 2 <;> omega

variable {v79 v106 v133 v160 v187 v214 v241 v268 : FVec Ideal S128x128 .f32}
  (h79 : Is2 v79 fun t d => a.dvn t (d))
  (h106 : Is2 v106 fun t d => a.dvn t (128 + d))
  (h133 : Is2 v133 fun t d => a.dvn t (256 + d))
  (h160 : Is2 v160 fun t d => a.dvn t (384 + d))
  (h187 : Is2 v187 fun t d => a.dvn t (512 + d))
  (h214 : Is2 v214 fun t d => a.dvn t (640 + d))
  (h241 : Is2 v241 fun t d => a.dvn t (768 + d))
  (h268 : Is2 v268 fun t d => a.dvn t (896 + d))

include h79 h106 h133 h160 h187 h214 h241 h268

theorem pay74 : Is2 (k0_pay74 v79 v106 v133 v160 v187 v214 v241 v268) a.dvn := by
  intro i j
  pointwise [k0_pay74]
  simp only [h79 _ _, h106 _ _, h133 _ _, h160 _ _, h187 _ _, h214 _ _, h241 _ _, h268 _ _]
  split_ifs <;> congr 2 <;> omega

include h41 in
theorem pay75 {v289 : Vec Ideal S1x1024 .f32} {f : ℕ → ℝ} (h289 : Is2 v289 fun _ j => f j) :
    Is2 (k0_pay75 v41 v79 v106 v133 v160 v187 v214 v241 v268 v289) fun _ j => f j + a.dlw j := by
  intro i j
  have h := pay74 a h79 h106 h133 h160 h187 h214 h241 h268
  pointwise [k0_pay75]
  obtain rfl : i = 0 := Subsingleton.elim _ _
  simp only [h _ _, h41 _ _, h289 _ _, ← EReal.coe_mul, ← coe_sum, ← EReal.coe_add, In.dlw, sum_range]

theorem pay76 {v296 : Vec Ideal S1x1024 .f32} {f : ℕ → ℝ} (h296 : Is2 v296 fun _ j => f j) :
    Is2 (k0_pay76 v79 v106 v133 v160 v187 v214 v241 v268 v296) fun _ j => f j + a.dlb j := by
  intro i j
  have h := pay74 a h79 h106 h133 h160 h187 h214 h241 h268
  pointwise [k0_pay76]
  obtain rfl : i = 0 := Subsingleton.elim _ _
  simp only [h _ _, h296 _ _, ← EReal.coe_mul, ← coe_sum, ← EReal.coe_add, In.dlb, sum_range]

variable {v302 : Vec Ideal S1x1024 .f32} (h302 : Is2 v302 fun _ j => a.lw j)

include h302

theorem pay77 : Is2 (k0_pay77 v79 v106 v133 v160 v187 v214 v241 v268 v302) a.dh := by
  intro i j
  have h := pay74 a h79 h106 h133 h160 h187 h214 h241 h268
  pointwise [k0_pay77]
  simp only [h _ _, h302 _ _, ← EReal.coe_mul]
  rfl

theorem pay78 : Is2 (k0_pay78 v79 v106 v133 v160 v187 v214 v241 v268 v302)
    fun i _ => (∑ k ∈ range 1024, a.dh i k) / 1024 := by
  intro i j
  have h := pay77 a h79 h106 h133 h160 h187 h214 h241 h268 h302
  pointwise [k0_pay78]
  simp only [h _ _, c_n, ← coe_sum, div_n, sum_range]

end sums

/-- The spatial bias's gradient: the product with the group indicator, its left factor split in
three parts of which the last two are zero over the reals. -/
theorem pay73 {v269 : FVec Ideal S128x1024 .f32} {v271 : Vec Ideal S128x128 .f32}
    {v279 : Vec Ideal S1024x128 .bf16} {f : ℕ → ℕ → ℝ} (h269 : Is2 v269 a.dm) (h271 : Is2 v271 f)
    (h279 : Is2 v279 fun c g => if c / 128 = g then 1 else 0) :
    Is2 (k0_pay73 v269 (k0_pay71 v271) (truncf .bf16 v269 bitsLt_bf16_f32) v279)
      fun t g => f t g + a.dbt t g := by
  intro i j
  pointwise [k0_pay73, k0_pay71]
  simp only [h269 _ _, h271 _ _, h279 _ _, ← EReal.coe_mul, ← EReal.coe_sub, ← coe_sum, ← EReal.coe_add,
    sub_self, zero_mul, sum_const_zero, add_zero, In.dbt, sum_range]

/-- The layer norm's backward formula with its second row sum over the positions of the row. -/
theorem dv_real (i c : ℕ) :
    a.rs i * (a.dh i c - (∑ k ∈ range 1024, a.dh i k) / 1024
      - a.vh i c * ((∑ k : Fin 1024, a.dh i k * a.vh i k) / 1024)) = a.dv i c := by
  simp only [In.dv, sum_range]

section dz

variable {v10 : FVec Ideal S128x2048 .f32} {v39 : FVec Ideal S128x1 .f32}
  {v41 v304 : FVec Ideal S128x1024 .f32} {v308 : FVec Ideal S128x1 .f32}
  {v64 v91 v118 v145 v172 v199 v226 v253 : FVec Ideal S128x128 .f32}
  (h10 : Is2 v10 a.z) (h39 : Is2 v39 fun i _ => a.rs i) (h41 : Is2 v41 a.vh)
  (h64 : Is2 v64 fun t d => a.du t (d))
  (h91 : Is2 v91 fun t d => a.du t (128 + d))
  (h118 : Is2 v118 fun t d => a.du t (256 + d))
  (h145 : Is2 v145 fun t d => a.du t (384 + d))
  (h172 : Is2 v172 fun t d => a.du t (512 + d))
  (h199 : Is2 v199 fun t d => a.du t (640 + d))
  (h226 : Is2 v226 fun t d => a.du t (768 + d))
  (h253 : Is2 v253 fun t d => a.du t (896 + d))
  (h304 : Is2 v304 a.dh) (h308 : Is2 v308 fun i _ => (∑ k ∈ range 1024, a.dh i k) / 1024)

include h10 h39 h41 h64 h91 h118 h145 h172 h199 h226 h253 h304 h308

set_option maxHeartbeats 2000000 in
theorem pay79 : Is2 (k0_pay79 v10 v39 v41 v64 v91 v118 v145 v172 v199 v226 v253 v304 v308) a.dz := by
  intro i j
  pointwise [k0_pay79]
  beta_reduce
  simp only [h10 _ _, h39 _ _, h41 _ _, h64 _ _, h91 _ _, h118 _ _, h145 _ _, h172 _ _, h199 _ _, h226 _ _, h253 _ _, h304 _ _, h308 _ _, c_n, c_half, c_one, c_gs, c_gc, c_gc3,
    one_add, one_sub, ← EReal.coe_mul, ← coe_sum, ← EReal.coe_sub, ← EReal.coe_add, div_n, Ideal.tanh_coe]
  refine Eq.trans ?_ (EReal.coe_mul _ _).symm
  refine congrArg₂ (· * ·) ?_ rfl
  by_cases hj : j.val < 1024
  · rw [if_pos hj]
    split_ifs <;> first
      | (exfalso; omega)
      | (refine congrArg (fun p => ((a.du i.val p : ℝ) : EReal)) ?_; omega)
  · rw [if_neg hj]
    split_ifs <;> first
      | (exfalso; omega)
      | (rw [dv_real]; refine congrArg (fun p => ((a.dv i.val p : ℝ) : EReal)) ?_; omega)

theorem pay80 {v350 : Vec Ideal S1x2048 .f32} {f : ℕ → ℝ} (h350 : Is2 v350 fun _ j => f j) :
    Is2 (k0_pay80 v10 v39 v41 v64 v91 v118 v145 v172 v199 v226 v253 v304 v308 v350) fun _ j => f j + a.duvb j := by
  intro i j
  have h := pay79 a h10 h39 h41 h64 h91 h118 h145 h172 h199 h226 h253 h304 h308
  pointwise [k0_pay80]
  obtain rfl : i = 0 := Subsingleton.elim _ _
  simp only [h _ _, h350 _ _, ← coe_sum, ← EReal.coe_add, In.duvb, sum_range]

end dz

/-! ## The zeros stored at the first chunk, and the last cast -/

theorem pay1 {v : FVec Ideal S128x2048 .f32} {f : ℕ → ℕ → ℝ} (h : Is2 v f) : Is2 (k0_pay1 v) f := by
  intro i j
  pointwise [k0_pay1]
  exact h _ _

theorem pay2 : Is3 (k0_pay2 (F := Ideal)) fun _ _ _ => 0 := by
  intro q i j
  pointwise [k0_pay2]
  exact EReal.coe_zero.symm
theorem pay3 : Is2 (k0_pay3 (F := Ideal)) fun _ _ => 0 := by
  intro i j
  pointwise [k0_pay3]
  exact EReal.coe_zero.symm
theorem pay4 : Is2 (k0_pay4 (F := Ideal)) fun _ _ => 0 := by
  intro i j
  pointwise [k0_pay4]
  exact EReal.coe_zero.symm
theorem pay5 : Is2 (k0_pay5 (F := Ideal)) fun _ _ => 0 := by
  intro i j
  pointwise [k0_pay5]
  exact EReal.coe_zero.symm
theorem pay6 : Is2 (k0_pay6 (F := Ideal)) fun _ _ => 0 := by
  intro i j
  pointwise [k0_pay6]
  exact EReal.coe_zero.symm

end Sgu
end
-- ==== Proof.Points.lean ====
module

public import proofs.«01_k».proof.Proof.Block
public import proofs.«01_k».proof.Proof.Gen.KernelIdeal.Value
public import Idealize.ShloMosaic.Lib.Pipeline.ReadBack

@[expose] public section

/-!
What one grid point of the kernel leaves in its six result buffers, over the extended reals: the
chunk's formulas of `Sgu.In`, the five accumulated results added to what the buffers held (at a
later point) or to zero (at the first point).
-/

noncomputable section

namespace Sgu

open Idealize.ShloMosaic Idealize.ShloMosaic.TcCoe Idealize.SL.Sem Finset
open Cert.KernelIdeal Cert.KernelIdeal.Gen

theorem hz2 : (![0, 0] : Fin 2 → Nat) = fun _ => 0 := funext fun a => by fin_cases a <;> rfl

/-- A point's eight input blocks hold the arguments of the chunk `a`. -/
structure PtArgs (a : In) (x0 : Vec Ideal S128x2048 .bf16) (x1 : Vec Ideal S128x1024 .bf16)
    (x2 : Vec Ideal S1x2048 .f32) (x3 : Vec Ideal S1x1024 .f32) (x4 : Vec Ideal S1x1024 .f32)
    (x5 : Vec Ideal S8x128x128 .f32) (x6 : Vec Ideal S128x128 .f32)
    (x7 : Vec Ideal S1024x128 .bf16) : Prop where
  h0 : Is2 x0 a.x
  h1 : Is2 x1 a.y
  h2 : Is2 x2 fun _ j => a.ub j
  h3 : Is2 x3 fun _ j => a.lw j
  h4 : Is2 x4 fun _ j => a.lb j
  h5 : Is3 x5 a.W
  h6 : ∀ (i : Fin 128) (g : Fin 8), x6 (ix2 i (g.castLE le8)) = ((a.bs g.val i.val : ℝ) : EReal)
  h7 : Is2 x7 fun c g => if c / 128 = g then 1 else 0

/-- One matrix of a stack, loaded alone. -/
theorem ld3 {X : S8x128x128.Idx → EReal} {f : ℕ → ℕ → ℕ → ℝ} (h : Is3 X f) (g : ℕ)
    (inb : ∀ d, (![g, 0, 0] : Fin 3 → ℕ) d + (![1, 128, 128] : Fin 3 → ℕ) d ≤ S8x128x128.size d) :
    Is3 (l := 1) (n := 128) (k := 128) (View.ld (Val := Elt Ideal) (e' := .f32) X (Rect.unit (s := S8x128x128) ![g, 0, 0] ![1, 128, 128] inb))
      fun _ t s => f g t s := by
  intro q i j
  have hg : g < 8 := by have := inb 0; simp at this; omega
  have e : (Rect.unit (s := S8x128x128) ![g, 0, 0] ![1, 128, 128] inb).idx (ix3 q i j) = ix3 ⟨g, hg⟩ i j := by
    funext d
    apply Fin.ext
    have hq : q.val = 0 := by omega
    match d with
    | ⟨0, _⟩ => show g + 1 * q.val = g; omega
    | ⟨1, _⟩ => show 0 + 1 * i.val = i.val; omega
    | ⟨2, _⟩ => show 0 + 1 * j.val = j.val; omega
  show X _ = _
  rw [e]
  exact h _ _ _

/-- The stack of matrices with the values `f`. -/
def stackOf (f : ℕ → ℕ → ℕ → ℝ) : Vec Ideal S8x128x128 .f32 :=
  fun y => ((f (y 0).val (y 1).val (y 2).val : ℝ) : EReal)

/-- A matrix stored into a stack holds the stack's values there. -/
theorem st3 {w : S1x128x128.Idx → EReal} {f : ℕ → ℕ → ℕ → ℝ} (g : ℕ) (h : Is3 w fun _ t s => f g t s)
    (inb : ∀ d, (![g, 0, 0] : Fin 3 → ℕ) d + (![1, 128, 128] : Fin 3 → ℕ) d ≤ S8x128x128.size d)
    (x : S1x128x128.Idx) :
    w x = stackOf f
      ((Rect.unit (s := S8x128x128) ![g, 0, 0] ![1, 128, 128] inb).emb x) := by
  rw [ValueIdx.eq_ix3 x]
  refine (h (x 0) (x 1) (x 2)).trans ?_
  have h0 : (x 0).val < 1 := (x 0).isLt
  show ((f g (x 1).val (x 2).val : ℝ) : EReal) =
    ((f (g + 1 * (x 0).val) (0 + 1 * (x 1).val) (0 + 1 * (x 2).val) : ℝ) : EReal)
  rw [show g + 1 * (x 0).val = g by omega, show 0 + 1 * (x 1).val = (x 1).val by omega,
    show 0 + 1 * (x 2).val = (x 2).val by omega]

/-- Eight matrices, each stored in its place of a stack. -/
def stackPieces (w0 w1 w2 w3 w4 w5 w6 w7 : Vec Ideal S1x128x128 .f32) : List (View.Piece (Elt Ideal) S8x128x128 .f32) :=
  [⟨Rect.unit (s := S8x128x128) ![7, 0, 0] S1x128x128.size inb_S8x128x128_S1x128x128_7_0_0, w7⟩,
    ⟨Rect.unit (s := S8x128x128) ![6, 0, 0] S1x128x128.size inb_S8x128x128_S1x128x128_6_0_0, w6⟩,
    ⟨Rect.unit (s := S8x128x128) ![5, 0, 0] S1x128x128.size inb_S8x128x128_S1x128x128_5_0_0, w5⟩,
    ⟨Rect.unit (s := S8x128x128) ![4, 0, 0] S1x128x128.size inb_S8x128x128_S1x128x128_4_0_0, w4⟩,
    ⟨Rect.unit (s := S8x128x128) ![3, 0, 0] S1x128x128.size inb_S8x128x128_S1x128x128_3_0_0, w3⟩,
    ⟨Rect.unit (s := S8x128x128) ![2, 0, 0] S1x128x128.size inb_S8x128x128_S1x128x128_2_0_0, w2⟩,
    ⟨Rect.unit (s := S8x128x128) ![1, 0, 0] S1x128x128.size inb_S8x128x128_S1x128x128_1_0_0, w1⟩,
    ⟨Rect.unit (s := S8x128x128) ![0, 0, 0] S1x128x128.size inb_S8x128x128_S1x128x128_0_0_0, w0⟩]

/-- Eight matrices stored over anything leave the stack of their values. -/
theorem stack_over {w0 w1 w2 w3 w4 w5 w6 w7 : Vec Ideal S1x128x128 .f32} {L' : List (View.Piece (Elt Ideal) S8x128x128 .f32)}
    {f : ℕ → ℕ → ℕ → ℝ} (h7 : Is3 w7 fun _ t s => f 7 t s) (h6 : Is3 w6 fun _ t s => f 6 t s)
    (h5 : Is3 w5 fun _ t s => f 5 t s) (h4 : Is3 w4 fun _ t s => f 4 t s) (h3 : Is3 w3 fun _ t s => f 3 t s)
    (h2 : Is3 w2 fun _ t s => f 2 t s) (h1 : Is3 w1 fun _ t s => f 1 t s) (h0 : Is3 w0 fun _ t s => f 0 t s)
    (L : List (View.Piece (Elt Ideal) S8x128x128 .f32)) (hL : L = stackPieces w0 w1 w2 w3 w4 w5 w6 w7 ++ L')
    (y : S8x128x128.Idx) : View.canon L y = stackOf f y := by
  subst hL
  have hc : ∃ p ∈ stackPieces w0 w1 w2 w3 w4 w5 w6 w7, y ∈ p.1.set :=
    View.cover_of_tiledL (s := S8x128x128) _ S1x128x128.size (by sl_kernel_rfl) y
  refine View.canon_append_of_piecesOf (stackOf f) L' (stackPieces w0 w1 w2 w3 w4 w5 w6 w7) ?_ y hc
  exact ⟨st3 7 h7 inb_S8x128x128_S1x128x128_7_0_0, st3 6 h6 inb_S8x128x128_S1x128x128_6_0_0, st3 5 h5 inb_S8x128x128_S1x128x128_5_0_0, st3 4 h4 inb_S8x128x128_S1x128x128_4_0_0, st3 3 h3 inb_S8x128x128_S1x128x128_3_0_0, st3 2 h2 inb_S8x128x128_S1x128x128_2_0_0, st3 1 h1 inb_S8x128x128_S1x128x128_1_0_0, st3 0 h0 inb_S8x128x128_S1x128x128_0_0_0, trivial⟩

/-- A buffer that agrees with the values at every position. -/
theorem is3_of {X : S8x128x128.Idx → EReal} {f : ℕ → ℕ → ℕ → ℝ}
    (h : ∀ y, X y = stackOf f y) : Is3 X f :=
  fun q i j => h (ix3 q i j)

variable (a : In)

section payloads

variable {x0 : Vec Ideal S128x2048 .bf16} {x1 : Vec Ideal S128x1024 .bf16}
  {x2 : Vec Ideal S1x2048 .f32} {x3 : Vec Ideal S1x1024 .f32} {x4 : Vec Ideal S1x1024 .f32}
  {x5 : Vec Ideal S8x128x128 .f32} {x6 : Vec Ideal S128x128 .f32} {x7 : Vec Ideal S1024x128 .bf16}

theorem PtArgs.z {a : In} (h : PtArgs a x0 x1 x2 x3 x4 x5 x6 x7) : Is2 (k0_pay8 x0 x2) a.z := pay8 a h.h0 h.h2
theorem PtArgs.u {a : In} (h : PtArgs a x0 x1 x2 x3 x4 x5 x6 x7) : Is2 (k0_pay10 x0 x2) a.u := pay10 a h.h0 h.h2
theorem PtArgs.rs {a : In} (h : PtArgs a x0 x1 x2 x3 x4 x5 x6 x7) : Is2 (k0_pay12 x0 x2) fun i _ => a.rs i := pay12 a h.h0 h.h2
theorem PtArgs.vh {a : In} (h : PtArgs a x0 x1 x2 x3 x4 x5 x6 x7) : Is2 (k0_pay13 x0 x2) a.vh := pay13 a h.h0 h.h2
theorem PtArgs.vn {a : In} (h : PtArgs a x0 x1 x2 x3 x4 x5 x6 x7) : Is2 (k0_pay14 (k0_pay13 x0 x2) x3 x4) a.vn :=
  pay14 a h.vh h.h3 h.h4
theorem PtArgs.dy {a : In} (h : PtArgs a x0 x1 x2 x3 x4 x5 x6 x7) : Is2 (k0_pay16 x1) a.y := pay16 h.h1
theorem PtArgs.bs {a : In} (h : PtArgs a x0 x1 x2 x3 x4 x5 x6 x7) :
    ∀ (i : Fin 128) (g : Fin 8), k0_pay15 x6 (ix2 i (g.castLE le8)) = ((a.bs g.val i.val : ℝ) : EReal) :=
  fun i g => by
    rw [← h.h6 i g]
    pointwise [k0_pay15]
theorem PtArgs.w {a : In} (h : PtArgs a x0 x1 x2 x3 x4 x5 x6 x7) (g : ℕ)
    (inb : ∀ d, (![g, 0, 0] : Fin 3 → ℕ) d + (![1, 128, 128] : Fin 3 → ℕ) d ≤ S8x128x128.size d) :
    Is3 (l := 1) (n := 128) (k := 128) (View.ld (Val := Elt Ideal) (e' := .f32) x5 (Rect.unit (s := S8x128x128) ![g, 0, 0] ![1, 128, 128] inb))
      fun _ t s => a.W g t s := ld3 h.h5 g inb

end payloads

/-- A later point: the chunk's rows of the cotangent of the pre-activation. -/
theorem outB_8 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : ¬cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16) (xo9 : Vec Ideal S8x128x128 .f32) (xo10 : Vec Ideal S128x128 .f32) (xo11 : Vec Ideal S1x1024 .f32) (xo12 : Vec Ideal S1x1024 .f32) (xo13 : Vec Ideal S1x2048 .f32)
    (h : PtArgs a x0 x1 x2 x3 x4 x5 x6 x7) :
    Is2 (out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13) (a.dz) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13)]
  unfold kernelRun0_B
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay1 (pay79 a h.z h.rs h.vh (du0 a pay7 h.vh h.h3 h.h4 h.h6 h.h1 (h.w 0 _)) (du1 a pay7 h.vn h.bs h.dy (h.w 1 _)) (du2 a pay7 h.vn h.bs h.dy (h.w 2 _)) (du3 a pay7 h.vn h.bs h.dy (h.w 3 _)) (du4 a pay7 h.vn h.bs h.dy (h.w 4 _)) (du5 a pay7 h.vn h.bs h.dy (h.w 5 _)) (du6 a pay7 h.vn h.bs h.dy (h.w 6 _)) (du7 a pay7 h.vn h.bs h.dy (h.w 7 _)) (pay77 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3) (pay78 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3))

/-- A later point: the spatial weight's gradient. -/
theorem outB_9 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : ¬cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16) (xo9 : Vec Ideal S8x128x128 .f32) (xo10 : Vec Ideal S128x128 .f32) (xo11 : Vec Ideal S1x1024 .f32) (xo12 : Vec Ideal S1x1024 .f32) (xo13 : Vec Ideal S1x2048 .f32)
    (h : PtArgs a x0 x1 x2 x3 x4 x5 x6 x7)
    {f : ℕ → ℕ → ℕ → ℝ} (hf : Is3 xo9 f) :
    Is3 (out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13) (fun g t s => f g t s + a.dw g t s) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13)]
  refine is3_of fun y => ?_
  unfold kernelRun0_B
  dsimp only
  refine stack_over (f := fun g t s => f g t s + a.dw g t s) (L' := []) ?_ ?_ ?_ ?_ ?_ ?_ ?_ ?_ _ rfl y
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw7 a pay7 h.u h.vn h.dy (ld3 hf 7 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw6 a pay7 h.u h.vn h.dy (ld3 hf 6 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw5 a pay7 h.u h.vn h.dy (ld3 hf 5 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw4 a pay7 h.u h.vn h.dy (ld3 hf 4 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw3 a pay7 h.u h.vn h.dy (ld3 hf 3 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw2 a pay7 h.u h.vn h.dy (ld3 hf 2 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw1 a pay7 h.u h.vn h.dy (ld3 hf 1 _)
  · sl_unfold_words
    simp only [View.readAt_eq_ld, harg1.read_unread, harg2.read_unread, harg3.read_unread, harg4.read_unread,
      harg5.read_unread, harg6.read_unread, harg7.read_unread, harg8.read_unread, harg10.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw0 a pay7 h.u h.vh h.h3 h.h4 h.h1 (ld3 hf 0 _)
/-- A later point: the spatial bias's gradient. -/
theorem outB_10 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : ¬cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16) (xo9 : Vec Ideal S8x128x128 .f32) (xo10 : Vec Ideal S128x128 .f32) (xo11 : Vec Ideal S1x1024 .f32) (xo12 : Vec Ideal S1x1024 .f32) (xo13 : Vec Ideal S1x2048 .f32)
    (h : PtArgs a x0 x1 x2 x3 x4 x5 x6 x7)
    {f : ℕ → ℕ → ℝ} (hf : Is2 xo10 f) :
    Is2 (out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13) (fun t g => f t g + a.dbt t g) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13)]
  unfold kernelRun0_B
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg11.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay73 a (pay70 a h.u h.dy (dm0 a h.u h.h1) (dm1 a h.u h.dy) (dm2 a h.u h.dy) (dm3 a h.u h.dy) (dm4 a h.u h.dy) (dm5 a h.u h.dy) (dm6 a h.u h.dy)) hf h.h7

/-- A later point: the gradient of the norm's weight. -/
theorem outB_11 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : ¬cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16) (xo9 : Vec Ideal S8x128x128 .f32) (xo10 : Vec Ideal S128x128 .f32) (xo11 : Vec Ideal S1x1024 .f32) (xo12 : Vec Ideal S1x1024 .f32) (xo13 : Vec Ideal S1x2048 .f32)
    (h : PtArgs a x0 x1 x2 x3 x4 x5 x6 x7)
    {f : ℕ → ℝ} (hf : Is2 xo11 fun _ j => f j) :
    Is2 (out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13) (fun _ j => f j + a.dlw j) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13)]
  unfold kernelRun0_B
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg12.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay75 a h.vh (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) hf

/-- A later point: the gradient of the norm's bias. -/
theorem outB_12 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : ¬cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16) (xo9 : Vec Ideal S8x128x128 .f32) (xo10 : Vec Ideal S128x128 .f32) (xo11 : Vec Ideal S1x1024 .f32) (xo12 : Vec Ideal S1x1024 .f32) (xo13 : Vec Ideal S1x2048 .f32)
    (h : PtArgs a x0 x1 x2 x3 x4 x5 x6 x7)
    {f : ℕ → ℝ} (hf : Is2 xo12 fun _ j => f j) :
    Is2 (out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13) (fun _ j => f j + a.dlb j) := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13)]
  unfold kernelRun0_B
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg13.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay76 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) hf

/-- A later point: the gradient of the pre-activation's bias. -/
theorem outB_13 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : ¬cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16) (xo9 : Vec Ideal S8x128x128 .f32) (xo10 : Vec Ideal S128x128 .f32) (xo11 : Vec Ideal S1x1024 .f32) (xo12 : Vec Ideal S1x1024 .f32) (xo13 : Vec Ideal S1x2048 .f32)
    (h : PtArgs a x0 x1 x2 x3 x4 x5 x6 x7)
    {f : ℕ → ℝ} (hf : Is2 xo13 fun _ j => f j) :
    Is2 (out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13) (fun _ j => f j + a.duvb j) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xo9 xo10 xo11 xo12 xo13)]
  unfold kernelRun0_B
  dsimp only
  sl_unfold_words
  rw [View.canon_unit_zero hz2]
  simp only [View.readAt_eq_ld, harg1.read_unread, harg2.read_unread, harg3.read_unread, harg4.read_unread,
    harg5.read_unread, harg6.read_unread, harg7.read_unread, harg8.read_unread, harg14.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay80 a h.z h.rs h.vh (du0 a pay7 h.vh h.h3 h.h4 h.h6 h.h1 (h.w 0 _)) (du1 a pay7 h.vn h.bs h.dy (h.w 1 _)) (du2 a pay7 h.vn h.bs h.dy (h.w 2 _)) (du3 a pay7 h.vn h.bs h.dy (h.w 3 _)) (du4 a pay7 h.vn h.bs h.dy (h.w 4 _)) (du5 a pay7 h.vn h.bs h.dy (h.w 5 _)) (du6 a pay7 h.vn h.bs h.dy (h.w 6 _)) (du7 a pay7 h.vn h.bs h.dy (h.w 7 _)) (pay77 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3) (pay78 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3) hf

/-- The first point: the chunk's rows of the cotangent of the pre-activation. -/
theorem outA_8 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16)
    (h : PtArgs a x0 x1 x2 x3 x4 x5 x6 x7) :
    Is2 (out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (a.dz) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_unit_zero (S := S128x2048) hz2]
  simp only [View.readAt_eq_ld, harg1.read_unread, harg2.read_unread, harg3.read_unread, harg4.read_unread,
    harg5.read_unread, harg6.read_unread, harg7.read_unread, harg8.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay1 (pay79 a h.z h.rs h.vh (du0 a pay7 h.vh h.h3 h.h4 h.h6 h.h1 (h.w 0 _)) (du1 a pay7 h.vn h.bs h.dy (h.w 1 _)) (du2 a pay7 h.vn h.bs h.dy (h.w 2 _)) (du3 a pay7 h.vn h.bs h.dy (h.w 3 _)) (du4 a pay7 h.vn h.bs h.dy (h.w 4 _)) (du5 a pay7 h.vn h.bs h.dy (h.w 5 _)) (du6 a pay7 h.vn h.bs h.dy (h.w 6 _)) (du7 a pay7 h.vn h.bs h.dy (h.w 7 _)) (pay77 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3) (pay78 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3))

/-- The first point: the spatial weight's gradient. -/
theorem outA_9 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16)
    (h : PtArgs a x0 x1 x2 x3 x4 x5 x6 x7) :
    Is3 (out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (fun g t s => 0 + a.dw g t s) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  refine is3_of fun y => ?_
  unfold kernelRun0_A
  dsimp only
  refine stack_over (f := fun g t s => 0 + a.dw g t s) (L' := [_]) ?_ ?_ ?_ ?_ ?_ ?_ ?_ ?_ _ rfl y
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw7 a pay7 h.u h.vn h.dy (ld3 pay2 7 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw6 a pay7 h.u h.vn h.dy (ld3 pay2 6 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw5 a pay7 h.u h.vn h.dy (ld3 pay2 5 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw4 a pay7 h.u h.vn h.dy (ld3 pay2 4 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw3 a pay7 h.u h.vn h.dy (ld3 pay2 3 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw2 a pay7 h.u h.vn h.dy (ld3 pay2 2 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw1 a pay7 h.u h.vn h.dy (ld3 pay2 1 _)
  · sl_unfold_words
    simp (decide := true) only [↓View.readCov_skip, ↓View.readCov_fill]
    simp only [View.readAt_eq_ld, harg1.read_unread, harg2.read_unread, harg3.read_unread, harg4.read_unread,
      harg5.read_unread, harg6.read_unread, harg7.read_unread, harg8.read_unread,
      View.ld_unit_zero (S := S128x2048) hz2, View.ld_unit_zero (S := S128x1024) hz2,
      View.ld_unit_zero (S := S1x2048) hz2, View.ld_unit_zero (S := S1x1024) hz2,
      View.ld_unit_zero (S := S128x128) hz2, View.ld_unit_zero (S := S1024x128) hz2]
    exact dw0 a pay7 h.u h.vh h.h3 h.h4 h.h1 (ld3 pay2 0 _)
/-- The first point: the spatial bias's gradient. -/
theorem outA_10 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16)
    (h : PtArgs a x0 x1 x2 x3 x4 x5 x6 x7) :
    Is2 (out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (fun t g => 0 + a.dbt t g) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S128x128) hz2, View.readCov_unit_zero (S := S128x128) _ hz2]
  simp only [View.readAt_eq_ld, harg1.read_unread, harg2.read_unread, harg3.read_unread, harg4.read_unread,
    harg5.read_unread, harg6.read_unread, harg7.read_unread, harg8.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay73 a (pay70 a h.u h.dy (dm0 a h.u h.h1) (dm1 a h.u h.dy) (dm2 a h.u h.dy) (dm3 a h.u h.dy) (dm4 a h.u h.dy) (dm5 a h.u h.dy) (dm6 a h.u h.dy)) pay3 h.h7

/-- The first point: the gradient of the norm's weight. -/
theorem outA_11 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16)
    (h : PtArgs a x0 x1 x2 x3 x4 x5 x6 x7) :
    Is2 (out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (fun _ j => 0 + a.dlw j) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread,
    harg5.read_unread, harg6.read_unread, harg7.read_unread, harg8.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay75 a h.vh (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) pay4

/-- The first point: the gradient of the norm's bias. -/
theorem outA_12 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16)
    (h : PtArgs a x0 x1 x2 x3 x4 x5 x6 x7) :
    Is2 (out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (fun _ j => 0 + a.dlb j) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x1024) hz2, View.readCov_unit_zero (S := S1x1024) _ hz2]
  simp only [View.readAt_eq_ld, harg1.read_unread, harg2.read_unread, harg3.read_unread, harg4.read_unread,
    harg5.read_unread, harg6.read_unread, harg7.read_unread, harg8.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay76 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) pay5

/-- The first point: the gradient of the pre-activation's bias. -/
theorem outA_13 (c : Dev nD) (i : grid0.Coords) (arg1 : Memref sig .tc .vmem S128x2048 .bf16) (harg1 : arg1.IsWhole) (arg2 : Memref sig .tc .vmem S128x1024 .bf16) (harg2 : arg2.IsWhole) (arg3 : Memref sig .tc .vmem S1x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S1024x128 .bf16) (harg8 : arg8.IsWhole) (arg9 : Memref sig .tc .vmem S128x2048 .bf16) (harg9 : arg9.IsWhole) (arg10 : Memref sig .tc .vmem S8x128x128 .f32) (harg10 : arg10.IsWhole) (arg11 : Memref sig .tc .vmem S128x128 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x2048 .f32) (harg14 : arg14.IsWhole) (hc0 : cond0_0 i)
    (x0 : Vec Ideal S128x2048 .bf16) (x1 : Vec Ideal S128x1024 .bf16) (x2 : Vec Ideal S1x2048 .f32) (x3 : Vec Ideal S1x1024 .f32) (x4 : Vec Ideal S1x1024 .f32) (x5 : Vec Ideal S8x128x128 .f32) (x6 : Vec Ideal S128x128 .f32) (x7 : Vec Ideal S1024x128 .bf16)
    (h : PtArgs a x0 x1 x2 x3 x4 x5 x6 x7) :
    Is2 (out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7) (fun _ j => 0 + a.duvb j) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)]
  unfold kernelRun0_A
  dsimp only
  sl_unfold_words
  rw [View.canon_cons_unit_zero (S := S1x2048) hz2, View.readCov_unit_zero (S := S1x2048) _ hz2]
  simp only [View.readAt_eq_ld, harg1.read_unread, harg2.read_unread, harg3.read_unread, harg4.read_unread,
    harg5.read_unread, harg6.read_unread, harg7.read_unread, harg8.read_unread,
    View.ld_unit_zero (S := S128x2048) hz2, View.ld_unit_zero (S := S128x1024) hz2,
    View.ld_unit_zero (S := S1x2048) hz2, View.ld_unit_zero (S := S1x1024) hz2,
    View.ld_unit_zero (S := S128x128) hz2, View.ld_unit_zero (S := S1024x128) hz2]
  exact pay80 a h.z h.rs h.vh (du0 a pay7 h.vh h.h3 h.h4 h.h6 h.h1 (h.w 0 _)) (du1 a pay7 h.vn h.bs h.dy (h.w 1 _)) (du2 a pay7 h.vn h.bs h.dy (h.w 2 _)) (du3 a pay7 h.vn h.bs h.dy (h.w 3 _)) (du4 a pay7 h.vn h.bs h.dy (h.w 4 _)) (du5 a pay7 h.vn h.bs h.dy (h.w 5 _)) (du6 a pay7 h.vn h.bs h.dy (h.w 6 _)) (du7 a pay7 h.vn h.bs h.dy (h.w 7 _)) (pay77 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3) (pay78 a (dvn0 a pay7 h.u h.h1 (h.w 0 _)) (dvn1 a pay7 h.u h.dy (h.w 1 _)) (dvn2 a pay7 h.u h.dy (h.w 2 _)) (dvn3 a pay7 h.u h.dy (h.w 3 _)) (dvn4 a pay7 h.u h.dy (h.w 4 _)) (dvn5 a pay7 h.u h.dy (h.w 5 _)) (dvn6 a pay7 h.u h.dy (h.w 6 _)) (dvn7 a pay7 h.u h.dy (h.w 7 _)) h.h3) pay6

end Sgu
end
-- ==== Proof.Arrays.lean ====
module

public import proofs.«01_k».proof.Proof.Points
public import Idealize.ShloMosaic.Lib.Pipeline.ValueKit
public import Idealize.ShloMosaic.Lib.Claim
public import Idealize.ShloMosaic.Lib.KernelVsHost

@[expose] public section

/-!
From the kernel's arguments to its six result arrays, over the extended reals: what each window
stages at a grid point, the sums that the five accumulated results run through, and the arrays
that the call ends with.
-/

noncomputable section

namespace Sgu

open Idealize.ShloMosaic Idealize.ShloMosaic.TcCoe Idealize.SL.Sem Finset
open Cert.KernelIdeal Cert.KernelIdeal.Gen

/-- A stack of stacks of matrices of extended reals holds the real numbers `f`. -/
abbrev Is4 {k l n p : ℕ} (v : (⟨4, ![k, l, n, p]⟩ : Shape).Idx → EReal) (f : ℕ → ℕ → ℕ → ℝ) : Prop :=
  ∀ (o : Fin k) (q : Fin l) (i : Fin n) (j : Fin p), v (ix4 o q i j) = ((f q.val i.val j.val : ℝ) : EReal)

/-- The seven arguments of the call hold the real numbers of `A`. -/
structure Args (A : In) (x0 : Vec Ideal S4096x2048 .bf16) (x1 : Vec Ideal S4096x1024 .bf16)
    (x2 : Vec Ideal S1x2048 .f32) (x3 : Vec Ideal S1x1024 .f32) (x4 : Vec Ideal S1x1024 .f32)
    (x5 : Vec Ideal S1x8x128x128 .f32) (x6 : Vec Ideal S1x8x128 .f32) : Prop where
  h0 : Is2 x0 A.x
  h1 : Is2 x1 A.y
  h2 : Is2 x2 fun _ j => A.ub j
  h3 : Is2 x3 fun _ j => A.lw j
  h4 : Is2 x4 fun _ j => A.lb j
  h5 : Is4 x5 A.W
  h6 : Is3 x6 fun _ g i => A.bs g i

variable (m : (ℓ : Loc nD τ sig) → Buf (Elt Ideal) ℓ) (c : Dev nD) {A : In}

/-- The kernel's arguments hold the real numbers of `A`. -/
abbrev KArgs (A : In) : Prop :=
  Args A (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

theorem idx : ∀ t : Fin cfg0.N, win0_0.index t = ![t.val, 0] ∧ win0_1.index t = ![t.val, 0] ∧
    win0_2.index t = ![0, 0] ∧ win0_3.index t = ![0, 0] ∧ win0_4.index t = ![0, 0] ∧
    win0_5.index t = ![0, 0, 0] ∧ win0_6.index t = ![0, 0] ∧ win0_7.index t = ![0, 0] ∧
    win0_8.index t = ![t.val, 0] :=
  (by decide +kernel : ∀ t : Fin grid0.N, win0_0.index t = ![t.val, 0] ∧ win0_1.index t = ![t.val, 0] ∧
    win0_2.index t = ![0, 0] ∧ win0_3.index t = ![0, 0] ∧ win0_4.index t = ![0, 0] ∧
    win0_5.index t = ![0, 0, 0] ∧ win0_6.index t = ![0, 0] ∧ win0_7.index t = ![0, 0] ∧
    win0_8.index t = ![t.val, 0])

theorem in0 (h : KArgs m c A) (t : Fin cfg0.N) : Is2 (n := 128) (k := 2048) (iblk m c 0 t) (A.blk t.val).x := by
  intro i j
  have hN : t.val < 32 := t.isLt
  have e : iblk m c 0 t (ix2 i j) = m ((c : Thread nD τ).loc main_arg0) (ix2 ⟨128 * t.val + i.val, by omega⟩ j) := by
    blk_ext [iblk, V_main_arg0, (idx t).1]
  exact e.trans (h.h0 _ _)

theorem in1 (h : KArgs m c A) (t : Fin cfg0.N) : Is2 (n := 128) (k := 1024) (iblk m c 1 t) (A.blk t.val).y := by
  intro i j
  have hN : t.val < 32 := t.isLt
  have e : iblk m c 1 t (ix2 i j) = m ((c : Thread nD τ).loc main_arg1) (ix2 ⟨128 * t.val + i.val, by omega⟩ j) := by
    blk_ext [iblk, V_main_arg1, (idx t).2.1]
  exact e.trans (h.h1 _ _)

theorem in2 (h : KArgs m c A) (t : Fin cfg0.N) : Is2 (n := 1) (k := 2048) (iblk m c 2 t) (fun _ j => A.ub j) := by
  intro i j
  have e : iblk m c 2 t (ix2 i j) = m ((c : Thread nD τ).loc main_arg2) (ix2 i j) := by
    blk_ext [iblk, V_main_arg2, (idx t).2.2.1]
  exact e.trans (h.h2 _ _)

theorem in3 (h : KArgs m c A) (t : Fin cfg0.N) : Is2 (n := 1) (k := 1024) (iblk m c 3 t) (fun _ j => A.lw j) := by
  intro i j
  have e : iblk m c 3 t (ix2 i j) = m ((c : Thread nD τ).loc main_arg3) (ix2 i j) := by
    blk_ext [iblk, V_main_arg3, (idx t).2.2.2.1]
  exact e.trans (h.h3 _ _)

theorem in4 (h : KArgs m c A) (t : Fin cfg0.N) : Is2 (n := 1) (k := 1024) (iblk m c 4 t) (fun _ j => A.lb j) := by
  intro i j
  have e : iblk m c 4 t (ix2 i j) = m ((c : Thread nD τ).loc main_arg4) (ix2 i j) := by
    blk_ext [iblk, V_main_arg4, (idx t).2.2.2.2.1]
  exact e.trans (h.h4 _ _)

/-- The spatial weight as the call finds it: the argument without its leading axis. -/
theorem V_w : V m c main_v12 = shapeCast S8x128x128 (m ((c : Thread nD τ).loc main_arg5)) shapeCasts_S1x8x128x128_S8x128x128 := by
  simp only [V, hostOps0, hostOps0_1, hostOps0_2, hostOps0_3, hostOps0_4, List.flatten_cons, List.flatten_nil,
    List.append_nil, List.cons_append, List.nil_append]
  after_results
  rfl

/-- The spatial bias as the call finds it: transposed, and filled up to 128 columns. -/
theorem V_b : V m c main_v11 = pad S128x128 ![0, 0] ![0, 120] ![0, 0]
    (transpose S128x8 [1, 0] (shapeCast S8x128 (m ((c : Thread nD τ).loc main_arg6)) shapeCasts_S1x8x128_S8x128)
      transposes_S8x128_S128x8_1_0 : Vec Ideal S128x8 .f32)
    (sitofp (F := Ideal) .f32 (constantI S_ 32 0#32) : Vec Ideal S_ .f32) pads_S128x8_S128x128_000_01200 h_S_ := by
  simp only [V, hostOps0, hostOps0_1, hostOps0_2, hostOps0_3, hostOps0_4, List.flatten_cons, List.flatten_nil,
    List.append_nil, List.cons_append, List.nil_append]
  after_results
  rfl

/-- The host's rounding-down division by 128, word by word. -/
abbrev fdiv (x : IVec S1024x1 32) : IVec S1024x1 32 :=
  select (andi (cmpi .ne (signi x) (broadcastInDim S1024x1 ![] bcast_S_S1024x1 (signi (constantI S_ 32 128#32))))
      (cmpi .ne (Host.remsi x (broadcastInDim S1024x1 ![] bcast_S_S1024x1 (constantI S_ 32 128#32)))
        (broadcastInDim S1024x1 ![] bcast_S_S1024x1 (constantI S_ 32 0#32))))
    (subi (Host.divsi x (broadcastInDim S1024x1 ![] bcast_S_S1024x1 (constantI S_ 32 128#32)))
      (broadcastInDim S1024x1 ![] bcast_S_S1024x1 (constantI S_ 32 1#32)))
    (Host.divsi x (broadcastInDim S1024x1 ![] bcast_S_S1024x1 (constantI S_ 32 128#32)))

/-- The groups' indicator as the call finds it. -/
theorem V_g : V m c main_v8 = (uitofp (F := Ideal) .bf16 (cmpi .eq
    (broadcastInDim S1024x128 ![0, 1] bcast_S1024x1_S1024x128_0_1
      (fdiv (broadcastInDim S1024x1 ![0] bcast_S1024_S1024x1_0 (iotaInDim S1024 32 0))))
    (broadcastInDim S1024x128 ![0, 1] bcast_S1x128_S1024x128_0_1
      (broadcastInDim S1x128 ![1] bcast_S128_S1x128_1 (iotaInDim S128 32 0)))) : Vec Ideal S1024x128 .bf16) := by
  simp only [V, hostOps0, hostOps0_1, hostOps0_2, hostOps0_3, hostOps0_4, List.flatten_cons, List.flatten_nil,
    List.append_nil, List.cons_append, List.nil_append]
  after_results
  rfl

theorem cast_w (x : Vec Ideal S1x8x128x128 .f32) (q : Fin 8) (i j : Fin 128) :
    shapeCast S8x128x128 x shapeCasts_S1x8x128x128_S8x128x128 (ix3 q i j) = x (ix4 0 q i j) := by
  refine shapeCast_apply x _ (ix3 q i j) (ix4 0 q i j) ?_
  rewrite [Shape.rowMajor_val_four, Shape.rowMajor_val_three]
  show ((0 * 8 + q.val) * 128 + i.val) * 128 + j.val = (q.val * 128 + i.val) * 128 + j.val
  omega

theorem in5 (h : KArgs m c A) (t : Fin cfg0.N) : Is3 (l := 8) (n := 128) (k := 128) (iblk m c 5 t) A.W := by
  intro q i j
  have e : iblk m c 5 t (ix3 q i j) = V m c main_v12 (ix3 q i j) := by
    blk_ext [iblk, (idx t).2.2.2.2.2.1]
  rw [e, V_w, cast_w]
  exact h.h5 _ _ _ _

theorem pad_b (y : Vec Ideal S128x8 .f32) (z : Vec Ideal S_ .f32) (i : Fin 128) (g : Fin 8) :
    pad S128x128 ![0, 0] ![0, 120] ![0, 0] y z pads_S128x8_S128x128_000_01200 h_S_ (ix2 i (g.castLE le8)) = y (ix2 i g) := by
  refine pad_apply_of_inside _ _ _ y z _ _ _ (ix2 i g) fun a => ?_
  fin_cases a
  · show i.val = 0 + i.val * (0 + 1)
    omega
  · show g.val = 0 + g.val * (0 + 1)
    omega

theorem tr_b (y : Vec Ideal S8x128 .f32) (i : Fin 128) (g : Fin 8) :
    transpose S128x8 [1, 0] y transposes_S8x128_S128x8_1_0 (ix2 i g) = y (ix2 g i) := by
  pointwise

theorem cast_b (x : Vec Ideal S1x8x128 .f32) (g : Fin 8) (i : Fin 128) :
    shapeCast S8x128 x shapeCasts_S1x8x128_S8x128 (ix2 g i) = x (ix3 0 g i) := by
  refine shapeCast_apply x _ (ix2 g i) (ix3 0 g i) ?_
  rewrite [Shape.rowMajor_val_three, Shape.rowMajor_val_two]
  show (0 * 8 + g.val) * 128 + i.val = g.val * 128 + i.val
  omega

theorem in6 (h : KArgs m c A) (t : Fin cfg0.N) (i : Fin 128) (g : Fin 8) :
    iblk m c 6 t (ix2 i (g.castLE le8)) = ((A.bs g.val i.val : ℝ) : EReal) := by
  have e : iblk m c 6 t (ix2 i (g.castLE le8)) = V m c main_v11 (ix2 i (g.castLE le8)) := by
    blk_ext [iblk, (idx t).2.2.2.2.2.2.1]
  rw [e, V_b, pad_b, tr_b, cast_b]
  exact h.h6 _ _ _

theorem fdiv_word (i : Fin 1024) :
    fdiv (broadcastInDim S1024x1 ![0] bcast_S1024_S1024x1_0 (iotaInDim S1024 32 0)) (ix2 i 0) = BitVec.ofNat 32 (i.val / 128) := by
  pointwise
  revert i
  decide +kernel

theorem in7 (t : Fin cfg0.N) : Is2 (n := 1024) (k := 128) (iblk m c 7 t) (fun c g => if c / 128 = g then 1 else 0) := by
  intro i j
  have e : iblk m c 7 t (ix2 i j) = V m c main_v8 (ix2 i j) := by
    blk_ext [iblk, (idx t).2.2.2.2.2.2.2.1]
  have hw := fdiv_word i
  rw [e, V_g]
  generalize fdiv _ = w at hw ⊢
  pointwise
  rw [hw, WordCmp.cmpi_eq_ofNat (by omega) (by omega)]
  by_cases hg : i.val / 128 = j.val
  · rw [decide_eq_true hg, if_pos hg]
    show ((((BitVec.ofBool true).toNat : ℕ) : ℝ) : EReal) = _
    simp
  · rw [decide_eq_false hg, if_neg hg]
    show ((((BitVec.ofBool false).toNat : ℕ) : ℝ) : EReal) = _
    simp

/-- Every point's input blocks hold its chunk's arguments. -/
theorem ptArgs (h : KArgs m c A) (t : Fin cfg0.N) : PtArgs (A.blk t.val) (iblk m c 0 t) (iblk m c 1 t)
    (iblk m c 2 t) (iblk m c 3 t) (iblk m c 4 t) (iblk m c 5 t) (iblk m c 6 t) (iblk m c 7 t) where
  h0 := in0 m c h t
  h1 := in1 m c h t
  h2 := in2 m c h t
  h3 := in3 m c h t
  h4 := in4 m c h t
  h5 := in5 m c h t
  h6 := in6 m c h t
  h7 := in7 m c t

end Sgu

end
-- ==== Proof.RefForward.lean ====
module

public import proofs.«01_k».proof.Proof.Arrays
public import proofs.«01_k».proof.Proof.Gen.ReferenceIdeal.Read

@[expose] public section

/-!
The reference's forward pass over the extended reals, one operation at a time: on arguments that are
real numbers each stage is a formula of `Sgu.In`.
-/

noncomputable section

namespace Sgu

open Idealize.ShloMosaic Finset
open Cert.ReferenceIdeal Cert.ReferenceIdeal.Read

/-! ## Real operations inside the extended reals -/

theorem c_num : Ideal.ofBits .f32 0x472EAB00#32 = ((44715 : ℝ) : EReal) := by
  simp [Ideal.ofBits, Ideal.ieee, -EReal.coe_mul]; norm_num
theorem c_den : Ideal.ofBits .f32 0x49742400#32 = ((1000000 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_zero : Ideal.ofBits .f32 0x00000000#32 = ((0 : ℝ) : EReal) := by
  simp [Ideal.ofBits, Ideal.ieee, -EReal.coe_mul]

/-- Division by a real number other than zero. -/
theorem div_ne (x : ℝ) {y : ℝ} (hy : y ≠ 0) : Ideal.div (x : EReal) (y : EReal) = ((x / y : ℝ) : EReal) := by
  rw [Ideal.div_coe hy]; norm_cast; ring

/-- A matrix at any index. -/
theorem at2 {n k : ℕ} {v : (⟨2, ![n, k]⟩ : Shape).Idx → EReal} {f : ℕ → ℕ → ℝ} (hv : Is2 v f)
    (y : (⟨2, ![n, k]⟩ : Shape).Idx) : v y = ((f (y 0).val (y 1).val : ℝ) : EReal) :=
  (congrArg v (eq_ix2 y)).trans (hv _ _)

/-- A stack of matrices at any index. -/
theorem at3 {l n k : ℕ} {v : (⟨3, ![l, n, k]⟩ : Shape).Idx → EReal} {f : ℕ → ℕ → ℕ → ℝ} (hv : Is3 v f)
    (y : (⟨3, ![l, n, k]⟩ : Shape).Idx) : v y = ((f (y 0).val (y 1).val (y 2).val : ℝ) : EReal) :=
  (congrArg v (eq_ix3 y)).trans (hv _ _ _)

/-- A stack of stacks of matrices at any index. -/
theorem at4 {o l n k : ℕ} {v : (⟨4, ![o, l, n, k]⟩ : Shape).Idx → EReal} {f : ℕ → ℕ → ℕ → ℝ} (hv : Is4 v f)
    (y : (⟨4, ![o, l, n, k]⟩ : Shape).Idx) : v y = ((f (y 1).val (y 2).val (y 3).val : ℝ) : EReal) :=
  (congrArg v (eq_ix4 y)).trans (hv _ _ _ _)

/-- A sum from zero of real numbers given by their positions. -/
theorem sum_zero_fin (n : ℕ) (f : ℕ → ℝ) (g : Fin n → EReal) (hg : ∀ k, g k = ((f k.val : ℝ) : EReal)) :
    ((0 : ℝ) : EReal) + ∑ k, g k = ((∑ k ∈ range n, f k : ℝ) : EReal) := by
  rw [EReal.coe_zero, zero_add, ← coe_sum_fin]
  exact sum_congr rfl fun k _ => hg k

/-- A sum of products of real numbers given by their positions. -/
theorem dot_fin (n : ℕ) (f f' : ℕ → ℝ) (g g' : Fin n → EReal) (hg : ∀ k, g k = ((f k.val : ℝ) : EReal))
    (hg' : ∀ k, g' k = ((f' k.val : ℝ) : EReal)) :
    ∑ k, g k * g' k = ((∑ k ∈ range n, f k * f' k : ℝ) : EReal) := by
  rw [← coe_sum_fin]
  exact sum_congr rfl fun k _ => by rw [hg, hg']; exact (EReal.coe_mul _ _).symm

theorem cong2 (f : ℕ → ℕ → ℝ) {a a' b b' : ℕ} (ha : a = a') (hb : b = b') : f a b = f a' b' := by rw [ha, hb]

theorem cong3 (f : ℕ → ℕ → ℕ → ℝ) {a a' b b' c c' : ℕ} (ha : a = a') (hb : b = b') (hc : c = c') :
    f a b c = f a' b' c' := by rw [ha, hb, hc]

/-! ## The stages of the forward pass -/

variable {A : In} {x0 : Vec Ideal S4096x2048 .bf16} {x1 : Vec Ideal S4096x1024 .bf16} {x2 : Vec Ideal S1x2048 .f32}
  {x3 x4 : Vec Ideal S1x1024 .f32} {x5 : Vec Ideal S1x8x128x128 .f32} {x6 : Vec Ideal S1x8x128 .f32}
  (h : Args A x0 x1 x2 x3 x4 x5 x6)

include h in
/-- The pre-activation. -/
theorem s_v0 (y : S4096x2048.Idx) : val_main_v0 (F := Ideal) x0 y =
    ((A.x (y 0).val (y 1).val : ℝ) : EReal) := by
  exact at2 h.h0 y

include h in
/-- A layout operation at an index. -/
theorem s_v1 (y : S1x4096x2048.Idx) : val_main_v1 (F := Ideal) x0 y =
    ((A.x (y 1).val (y 2).val : ℝ) : EReal) := by
  exact (val_main_v1_apply _ y).trans (s_v0 h _)

include h in
/-- A row of parameters. -/
theorem s_v2 (y : S2048.Idx) : val_main_v2 (F := Ideal) x2 y =
    ((A.ub (y 0).val : ℝ) : EReal) := by
  have b0 : (y 0).val < 2048 := (y 0).isLt
  refine (val_main_v2_apply _ y).trans ((at2 h.h2 _).trans (congrArg Real.toEReal ?_))
  show A.ub ((y 0).val % 2048) = _
  rw [Nat.mod_eq_of_lt b0]

include h in
/-- A layout operation at an index. -/
theorem s_v3 (y : S1x1x2048.Idx) : val_main_v3 (F := Ideal) x2 y =
    ((A.ub (y 2).val : ℝ) : EReal) := by
  exact (val_main_v3_apply _ y).trans (s_v2 h _)

include h in
/-- A layout operation at an index. -/
theorem s_v4 (y : S1x4096x2048.Idx) : val_main_v4 (F := Ideal) x2 y =
    ((A.ub (y 2).val : ℝ) : EReal) := by
  exact (val_main_v4_apply _ y).trans (s_v3 h _)

include h in
/-- One operation at an index. -/
theorem s_v5 (y : S1x4096x2048.Idx) : val_main_v5 (F := Ideal) x0 x2 y =
    ((A.z (y 1).val (y 2).val : ℝ) : EReal) := by
  rw [val_main_v5_apply, s_v1 h, s_v4 h]
  refine Eq.trans ((EReal.coe_add _ _).symm) (congrArg Real.toEReal ?_)
  rfl

include h in
/-- A row of parameters. -/
theorem s_v6 (y : S1024.Idx) : val_main_v6 (F := Ideal) x3 y =
    ((A.lw (y 0).val : ℝ) : EReal) := by
  have b0 : (y 0).val < 1024 := (y 0).isLt
  refine (val_main_v6_apply _ y).trans ((at2 h.h3 _).trans (congrArg Real.toEReal ?_))
  show A.lw ((y 0).val % 1024) = _
  rw [Nat.mod_eq_of_lt b0]

include h in
/-- A row of parameters. -/
theorem s_v7 (y : S1024.Idx) : val_main_v7 (F := Ideal) x4 y =
    ((A.lb (y 0).val : ℝ) : EReal) := by
  have b0 : (y 0).val < 1024 := (y 0).isLt
  refine (val_main_v7_apply _ y).trans ((at2 h.h4 _).trans (congrArg Real.toEReal ?_))
  show A.lb ((y 0).val % 1024) = _
  rw [Nat.mod_eq_of_lt b0]

include h in
/-- The spatial weight. -/
theorem s_v8 (y : S8x128x128.Idx) : val_main_v8 (F := Ideal) x5 y =
    ((A.W (y 0).val (y 1).val (y 2).val : ℝ) : EReal) := by
  have b0 : (y 0).val < 8 := (y 0).isLt
  have b1 : (y 1).val < 128 := (y 1).isLt
  have b2 : (y 2).val < 128 := (y 2).isLt
  refine (val_main_v8_apply _ y).trans ((at4 h.h5 _).trans (congrArg Real.toEReal ?_))
  show A.W ((((y 0).val * 128 + (y 1).val) * 128 + (y 2).val) / 16384 % 8) ((((y 0).val * 128 + (y 1).val) * 128 + (y 2).val) / 128 % 128) ((((y 0).val * 128 + (y 1).val) * 128 + (y 2).val) % 128) = _
  exact cong3 A.W (by omega) (by omega) (by omega)

include h in
/-- The spatial bias. -/
theorem s_v9 (y : S8x128.Idx) : val_main_v9 (F := Ideal) x6 y =
    ((A.bs (y 0).val (y 1).val : ℝ) : EReal) := by
  have b0 : (y 0).val < 8 := (y 0).isLt
  have b1 : (y 1).val < 128 := (y 1).isLt
  refine (val_main_v9_apply _ y).trans ((at3 h.h6 _).trans (congrArg Real.toEReal ?_))
  show A.bs (((y 0).val * 128 + (y 1).val) / 128 % 8) (((y 0).val * 128 + (y 1).val) % 128) = _
  exact cong2 A.bs (by omega) (by omega)

/-- A constant. -/
theorem s_cst (y : S_.Idx) : val_main_cst (F := Ideal) y =
    ((44715 : ℝ) : EReal) := by
  exact (val_main_cst_apply y).trans c_num

/-- A constant. -/
theorem s_cst_0 (y : S_.Idx) : val_main_cst_0 (F := Ideal) y =
    ((1000000 : ℝ) : EReal) := by
  exact (val_main_cst_0_apply y).trans c_den

/-- The cubic coefficient of GELU. -/
theorem s_v10 (y : S_.Idx) : val_main_v10 (F := Ideal) y =
    ((gc : ℝ) : EReal) := by
  rw [val_main_v10_apply, s_cst, s_cst_0]
  refine (div_ne _ (by norm_num)).trans (congrArg Real.toEReal ?_)
  norm_num [gc]

include h in
/-- One operation at an index. -/
theorem s_v11 (y : S1x4096x2048.Idx) : val_main_v11 (F := Ideal) x0 x2 y =
    (((A.z (y 1).val (y 2).val) * (A.z (y 1).val (y 2).val) : ℝ) : EReal) := by
  rw [val_main_v11_apply, s_v5 h]
  exact (EReal.coe_mul _ _).symm

include h in
/-- One operation at an index. -/
theorem s_v12 (y : S1x4096x2048.Idx) : val_main_v12 (F := Ideal) x0 x2 y =
    ((((A.z (y 1).val (y 2).val) * (A.z (y 1).val (y 2).val)) * (A.z (y 1).val (y 2).val) : ℝ) : EReal) := by
  rw [val_main_v12_apply, s_v11 h, s_v5 h]
  exact (EReal.coe_mul _ _).symm

include h in
/-- One operation at an index. -/
theorem s_v13 (y : S1x4096x2048.Idx) : val_main_v13 (F := Ideal) x0 x2 y =
    (((A.z (y 1).val (y 2).val) * (A.z (y 1).val (y 2).val) : ℝ) : EReal) := by
  rw [val_main_v13_apply, s_v5 h]
  exact (EReal.coe_mul _ _).symm

/-- A constant. -/
theorem s_cst_1 (y : S_.Idx) : val_main_cst_1 (F := Ideal) y =
    ((3 : ℝ) : EReal) := by
  exact (val_main_cst_1_apply y).trans c_three

/-- A layout operation at an index. -/
theorem s_v14 (y : S1x4096x2048.Idx) : val_main_v14 (F := Ideal) y =
    ((3 : ℝ) : EReal) := by
  exact (val_main_v14_apply  y).trans (s_cst_1 _)

include h in
/-- One operation at an index. -/
theorem s_v15 (y : S1x4096x2048.Idx) : val_main_v15 (F := Ideal) x0 x2 y =
    (((3) * ((A.z (y 1).val (y 2).val) * (A.z (y 1).val (y 2).val)) : ℝ) : EReal) := by
  rw [val_main_v15_apply, s_v14, s_v13 h]
  exact (EReal.coe_mul _ _).symm

/-- A layout operation at an index. -/
theorem s_v16 (y : S1x4096x2048.Idx) : val_main_v16 (F := Ideal) y =
    ((gc : ℝ) : EReal) := by
  exact (val_main_v16_apply  y).trans (s_v10 _)

include h in
/-- One operation at an index. -/
theorem s_v17 (y : S1x4096x2048.Idx) : val_main_v17 (F := Ideal) x0 x2 y =
    (((gc) * (((A.z (y 1).val (y 2).val) * (A.z (y 1).val (y 2).val)) * (A.z (y 1).val (y 2).val)) : ℝ) : EReal) := by
  rw [val_main_v17_apply, s_v16, s_v12 h]
  exact (EReal.coe_mul _ _).symm

include h in
/-- One operation at an index. -/
theorem s_v18 (y : S1x4096x2048.Idx) : val_main_v18 (F := Ideal) x0 x2 y =
    (((A.z (y 1).val (y 2).val) + ((gc) * (((A.z (y 1).val (y 2).val) * (A.z (y 1).val (y 2).val)) * (A.z (y 1).val (y 2).val))) : ℝ) : EReal) := by
  rw [val_main_v18_apply, s_v5 h, s_v17 h]
  exact (EReal.coe_add _ _).symm

/-- A constant. -/
theorem s_cst_2 (y : S_.Idx) : val_main_cst_2 (F := Ideal) y =
    ((gs : ℝ) : EReal) := by
  exact (val_main_cst_2_apply y).trans c_gs

/-- A layout operation at an index. -/
theorem s_v19 (y : S1x4096x2048.Idx) : val_main_v19 (F := Ideal) y =
    ((gs : ℝ) : EReal) := by
  exact (val_main_v19_apply  y).trans (s_cst_2 _)

include h in
/-- One operation at an index. -/
theorem s_v20 (y : S1x4096x2048.Idx) : val_main_v20 (F := Ideal) x0 x2 y =
    (((gs) * ((A.z (y 1).val (y 2).val) + ((gc) * (((A.z (y 1).val (y 2).val) * (A.z (y 1).val (y 2).val)) * (A.z (y 1).val (y 2).val)))) : ℝ) : EReal) := by
  rw [val_main_v20_apply, s_v19, s_v18 h]
  exact (EReal.coe_mul _ _).symm

include h in
/-- The hyperbolic tangent of GELU. -/
theorem s_v21 (y : S1x4096x2048.Idx) : val_main_v21 (F := Ideal) x0 x2 y =
    ((th (A.z (y 1).val (y 2).val) : ℝ) : EReal) := by
  rw [val_main_v21_apply, s_v20 h]
  refine Eq.trans (Ideal.tanh_coe _) (congrArg Real.toEReal ?_)
  simp only [th]; ring_nf

/-- A constant. -/
theorem s_cst_3 (y : S_.Idx) : val_main_cst_3 (F := Ideal) y =
    ((1 : ℝ) : EReal) := by
  exact (val_main_cst_3_apply y).trans c_one

/-- A layout operation at an index. -/
theorem s_v22 (y : S1x4096x2048.Idx) : val_main_v22 (F := Ideal) y =
    ((1 : ℝ) : EReal) := by
  exact (val_main_v22_apply  y).trans (s_cst_3 _)

include h in
/-- One operation at an index. -/
theorem s_v23 (y : S1x4096x2048.Idx) : val_main_v23 (F := Ideal) x0 x2 y =
    (((1) + (th (A.z (y 1).val (y 2).val)) : ℝ) : EReal) := by
  rw [val_main_v23_apply, s_v22, s_v21 h]
  exact (EReal.coe_add _ _).symm

/-- A constant. -/
theorem s_cst_4 (y : S_.Idx) : val_main_cst_4 (F := Ideal) y =
    ((1 : ℝ) : EReal) := by
  exact (val_main_cst_4_apply y).trans c_one

/-- A layout operation at an index. -/
theorem s_v24 (y : S1x4096x2048.Idx) : val_main_v24 (F := Ideal) y =
    ((1 : ℝ) : EReal) := by
  exact (val_main_v24_apply  y).trans (s_cst_4 _)

include h in
/-- One operation at an index. -/
theorem s_v25 (y : S1x4096x2048.Idx) : val_main_v25 (F := Ideal) x0 x2 y =
    (((1) - (th (A.z (y 1).val (y 2).val)) : ℝ) : EReal) := by
  rw [val_main_v25_apply, s_v24, s_v21 h]
  exact (EReal.coe_sub _ _).symm

include h in
/-- One operation at an index. -/
theorem s_v26 (y : S1x4096x2048.Idx) : val_main_v26 (F := Ideal) x0 x2 y =
    ((((1) + (th (A.z (y 1).val (y 2).val))) * ((1) - (th (A.z (y 1).val (y 2).val))) : ℝ) : EReal) := by
  rw [val_main_v26_apply, s_v23 h, s_v25 h]
  exact (EReal.coe_mul _ _).symm

/-- A constant. -/
theorem s_cst_5 (y : S_.Idx) : val_main_cst_5 (F := Ideal) y =
    ((1 : ℝ) : EReal) := by
  exact (val_main_cst_5_apply y).trans c_one

/-- A layout operation at an index. -/
theorem s_v27 (y : S1x4096x2048.Idx) : val_main_v27 (F := Ideal) y =
    ((1 : ℝ) : EReal) := by
  exact (val_main_v27_apply  y).trans (s_cst_5 _)

include h in
/-- One operation at an index. -/
theorem s_v28 (y : S1x4096x2048.Idx) : val_main_v28 (F := Ideal) x0 x2 y =
    (((1) + (th (A.z (y 1).val (y 2).val)) : ℝ) : EReal) := by
  rw [val_main_v28_apply, s_v27, s_v21 h]
  exact (EReal.coe_add _ _).symm

/-- A constant. -/
theorem s_cst_6 (y : S_.Idx) : val_main_cst_6 (F := Ideal) y =
    ((1 / 2 : ℝ) : EReal) := by
  exact (val_main_cst_6_apply y).trans c_half

/-- A layout operation at an index. -/
theorem s_v29 (y : S1x4096x2048.Idx) : val_main_v29 (F := Ideal) y =
    ((1 / 2 : ℝ) : EReal) := by
  exact (val_main_v29_apply  y).trans (s_cst_6 _)

include h in
/-- One operation at an index. -/
theorem s_v30 (y : S1x4096x2048.Idx) : val_main_v30 (F := Ideal) x0 x2 y =
    (((1 / 2) * ((1) + (th (A.z (y 1).val (y 2).val))) : ℝ) : EReal) := by
  rw [val_main_v30_apply, s_v29, s_v28 h]
  exact (EReal.coe_mul _ _).symm

include h in
/-- GELU. -/
theorem s_v31 (y : S1x4096x2048.Idx) : val_main_v31 (F := Ideal) x0 x2 y =
    ((gelu (A.z (y 1).val (y 2).val) : ℝ) : EReal) := by
  rw [val_main_v31_apply, s_v5 h, s_v30 h]
  refine Eq.trans ((EReal.coe_mul _ _).symm) (congrArg Real.toEReal ?_)
  simp only [gelu]; ring

include h in
/-- The gate branch. -/
theorem s_v32 (y : S1x4096x1024.Idx) : val_main_v32 (F := Ideal) x0 x2 y =
    ((A.u (y 1).val (y 2).val : ℝ) : EReal) := by
  have b0 : (y 0).val < 1 := (y 0).isLt
  have b1 : (y 1).val < 4096 := (y 1).isLt
  have b2 : (y 2).val < 1024 := (y 2).isLt
  rw [val_main_v32_apply, s_v31 h]
  refine congrArg Real.toEReal ?_
  show gelu (A.z (y 1).val (y 2).val) = _
  rfl

include h in
/-- The value branch. -/
theorem s_v33 (y : S1x4096x1024.Idx) : val_main_v33 (F := Ideal) x0 x2 y =
    ((A.v (y 1).val (y 2).val : ℝ) : EReal) := by
  have b0 : (y 0).val < 1 := (y 0).isLt
  have b1 : (y 1).val < 4096 := (y 1).isLt
  have b2 : (y 2).val < 1024 := (y 2).isLt
  rw [val_main_v33_apply, s_v31 h]
  refine congrArg Real.toEReal ?_
  show gelu (A.z (y 1).val (1024 + (y 2).val)) = _
  rfl

/-- A constant. -/
theorem s_cst_7 (y : S_.Idx) : val_main_cst_7 (F := Ideal) y =
    ((0 : ℝ) : EReal) := by
  exact (val_main_cst_7_apply y).trans c_zero

include h in
/-- A sum along one axis. -/
theorem s_v34 (y : S1x4096.Idx) : val_main_v34 (F := Ideal) x0 x2 y =
    ((∑ k ∈ range 1024, (A.v (y 1).val k) : ℝ) : EReal) := by
  rw [val_main_v34_apply, s_cst_7]
  exact sum_zero_fin 1024 (fun k => A.v (y 1).val k) _ fun k => s_v33 h _

include h in
/-- A layout operation at an index. -/
theorem s_v35 (y : S1x4096x1.Idx) : val_main_v35 (F := Ideal) x0 x2 y =
    ((∑ k ∈ range 1024, (A.v (y 1).val k) : ℝ) : EReal) := by
  exact (val_main_v35_apply _ _ y).trans (s_v34 h _)

/-- A constant. -/
theorem s_cst_8 (y : S_.Idx) : val_main_cst_8 (F := Ideal) y =
    ((1024 : ℝ) : EReal) := by
  exact (val_main_cst_8_apply y).trans c_n

/-- A layout operation at an index. -/
theorem s_v36 (y : S1x4096x1.Idx) : val_main_v36 (F := Ideal) y =
    ((1024 : ℝ) : EReal) := by
  exact (val_main_v36_apply  y).trans (s_cst_8 _)

include h in
/-- The mean. -/
theorem s_v37 (y : S1x4096x1.Idx) : val_main_v37 (F := Ideal) x0 x2 y =
    ((A.mu (y 1).val : ℝ) : EReal) := by
  rw [val_main_v37_apply, s_v35 h, s_v36]
  refine Eq.trans (div_n _) (congrArg Real.toEReal ?_)
  rfl

include h in
/-- A layout operation at an index. -/
theorem s_v38 (y : S1x4096x1024.Idx) : val_main_v38 (F := Ideal) x0 x2 y =
    ((A.mu (y 1).val : ℝ) : EReal) := by
  exact (val_main_v38_apply _ _ y).trans (s_v37 h _)

include h in
/-- One operation at an index. -/
theorem s_v39 (y : S1x4096x1024.Idx) : val_main_v39 (F := Ideal) x0 x2 y =
    ((A.vc (y 1).val (y 2).val : ℝ) : EReal) := by
  rw [val_main_v39_apply, s_v33 h, s_v38 h]
  refine Eq.trans ((EReal.coe_sub _ _).symm) (congrArg Real.toEReal ?_)
  rfl

include h in
/-- One operation at an index. -/
theorem s_v40 (y : S1x4096x1024.Idx) : val_main_v40 (F := Ideal) x0 x2 y =
    (((A.vc (y 1).val (y 2).val) * (A.vc (y 1).val (y 2).val) : ℝ) : EReal) := by
  rw [val_main_v40_apply, s_v39 h]
  exact (EReal.coe_mul _ _).symm

/-- A constant. -/
theorem s_cst_9 (y : S_.Idx) : val_main_cst_9 (F := Ideal) y =
    ((2 : ℝ) : EReal) := by
  exact (val_main_cst_9_apply y).trans c_two

/-- A layout operation at an index. -/
theorem s_v41 (y : S1x4096x1024.Idx) : val_main_v41 (F := Ideal) y =
    ((2 : ℝ) : EReal) := by
  exact (val_main_v41_apply  y).trans (s_cst_9 _)

include h in
/-- One operation at an index. -/
theorem s_v42 (y : S1x4096x1024.Idx) : val_main_v42 (F := Ideal) x0 x2 y =
    (((2) * (A.vc (y 1).val (y 2).val) : ℝ) : EReal) := by
  rw [val_main_v42_apply, s_v41, s_v39 h]
  exact (EReal.coe_mul _ _).symm

/-- A constant. -/
theorem s_cst_10 (y : S_.Idx) : val_main_cst_10 (F := Ideal) y =
    ((0 : ℝ) : EReal) := by
  exact (val_main_cst_10_apply y).trans c_zero

include h in
/-- A sum along one axis. -/
theorem s_v43 (y : S1x4096.Idx) : val_main_v43 (F := Ideal) x0 x2 y =
    ((∑ k ∈ range 1024, ((A.vc (y 1).val k) * (A.vc (y 1).val k)) : ℝ) : EReal) := by
  rw [val_main_v43_apply, s_cst_10]
  exact sum_zero_fin 1024 (fun k => (A.vc (y 1).val k) * (A.vc (y 1).val k)) _ fun k => s_v40 h _

include h in
/-- A layout operation at an index. -/
theorem s_v44 (y : S1x4096x1.Idx) : val_main_v44 (F := Ideal) x0 x2 y =
    ((∑ k ∈ range 1024, ((A.vc (y 1).val k) * (A.vc (y 1).val k)) : ℝ) : EReal) := by
  exact (val_main_v44_apply _ _ y).trans (s_v43 h _)

/-- A constant. -/
theorem s_cst_11 (y : S_.Idx) : val_main_cst_11 (F := Ideal) y =
    ((1024 : ℝ) : EReal) := by
  exact (val_main_cst_11_apply y).trans c_n

/-- A layout operation at an index. -/
theorem s_v45 (y : S1x4096x1.Idx) : val_main_v45 (F := Ideal) y =
    ((1024 : ℝ) : EReal) := by
  exact (val_main_v45_apply  y).trans (s_cst_11 _)

include h in
/-- The variance. -/
theorem s_v46 (y : S1x4096x1.Idx) : val_main_v46 (F := Ideal) x0 x2 y =
    ((A.var (y 1).val : ℝ) : EReal) := by
  rw [val_main_v46_apply, s_v44 h, s_v45]
  refine Eq.trans (div_n _) (congrArg Real.toEReal ?_)
  rfl

include h in
/-- A layout operation at an index. -/
theorem s_v47 (y : S1x4096x1024.Idx) : val_main_v47 (F := Ideal) x0 x2 y =
    ((A.mu (y 1).val : ℝ) : EReal) := by
  exact (val_main_v47_apply _ _ y).trans (s_v37 h _)

include h in
/-- The centred value branch. -/
theorem s_v48 (y : S1x4096x1024.Idx) : val_main_v48 (F := Ideal) x0 x2 y =
    ((A.vc (y 1).val (y 2).val : ℝ) : EReal) := by
  rw [val_main_v48_apply, s_v33 h, s_v47 h]
  refine Eq.trans ((EReal.coe_sub _ _).symm) (congrArg Real.toEReal ?_)
  rfl

/-- A constant. -/
theorem s_cst_12 (y : S_.Idx) : val_main_cst_12 (F := Ideal) y =
    ((eps : ℝ) : EReal) := by
  exact (val_main_cst_12_apply y).trans c_eps

/-- A layout operation at an index. -/
theorem s_v49 (y : S1x4096x1.Idx) : val_main_v49 (F := Ideal) y =
    ((eps : ℝ) : EReal) := by
  exact (val_main_v49_apply  y).trans (s_cst_12 _)

include h in
/-- One operation at an index. -/
theorem s_v50 (y : S1x4096x1.Idx) : val_main_v50 (F := Ideal) x0 x2 y =
    (((A.var (y 1).val) + (eps) : ℝ) : EReal) := by
  rw [val_main_v50_apply, s_v46 h, s_v49]
  exact (EReal.coe_add _ _).symm

include h in
/-- The reciprocal standard deviation. -/
theorem s_v51 (y : S1x4096x1.Idx) : val_main_v51 (F := Ideal) x0 x2 y =
    ((A.rs (y 1).val : ℝ) : EReal) := by
  rw [val_main_v51_apply, s_v50 h]
  exact rsqrt_pos (A.var_eps_pos _)

include h in
/-- The reciprocal standard deviation over the variance. -/
theorem s_v52 (y : S1x4096x1.Idx) : val_main_v52 (F := Ideal) x0 x2 y =
    ((A.rs (y 1).val / (A.var (y 1).val + eps) : ℝ) : EReal) := by
  rw [val_main_v52_apply, s_v51 h, s_v50 h]
  exact div_ne _ (A.var_eps_pos _).ne'

/-- A constant. -/
theorem s_cst_13 (y : S_.Idx) : val_main_cst_13 (F := Ideal) y =
    ((-(1 / 2) : ℝ) : EReal) := by
  exact (val_main_cst_13_apply y).trans c_neg_half

/-- A layout operation at an index. -/
theorem s_v53 (y : S1x4096x1.Idx) : val_main_v53 (F := Ideal) y =
    ((-(1 / 2) : ℝ) : EReal) := by
  exact (val_main_v53_apply  y).trans (s_cst_13 _)

include h in
/-- One operation at an index. -/
theorem s_v54 (y : S1x4096x1.Idx) : val_main_v54 (F := Ideal) x0 x2 y =
    (((-(1 / 2)) * (A.rs (y 1).val / (A.var (y 1).val + eps)) : ℝ) : EReal) := by
  rw [val_main_v54_apply, s_v53, s_v52 h]
  exact (EReal.coe_mul _ _).symm

include h in
/-- A layout operation at an index. -/
theorem s_v55 (y : S1x4096x1024.Idx) : val_main_v55 (F := Ideal) x0 x2 y =
    ((A.rs (y 1).val : ℝ) : EReal) := by
  exact (val_main_v55_apply _ _ y).trans (s_v51 h _)

include h in
/-- The normalised value branch. -/
theorem s_v56 (y : S1x4096x1024.Idx) : val_main_v56 (F := Ideal) x0 x2 y =
    ((A.vh (y 1).val (y 2).val : ℝ) : EReal) := by
  rw [val_main_v56_apply, s_v48 h, s_v55 h]
  refine Eq.trans ((EReal.coe_mul _ _).symm) (congrArg Real.toEReal ?_)
  rfl

include h in
/-- A layout operation at an index. -/
theorem s_v57 (y : S1x1x1024.Idx) : val_main_v57 (F := Ideal) x3 y =
    ((A.lw (y 2).val : ℝ) : EReal) := by
  exact (val_main_v57_apply _ y).trans (s_v6 h _)

include h in
/-- A layout operation at an index. -/
theorem s_v58 (y : S1x4096x1024.Idx) : val_main_v58 (F := Ideal) x3 y =
    ((A.lw (y 2).val : ℝ) : EReal) := by
  exact (val_main_v58_apply _ y).trans (s_v57 h _)

include h in
/-- One operation at an index. -/
theorem s_v59 (y : S1x4096x1024.Idx) : val_main_v59 (F := Ideal) x0 x2 x3 y =
    (((A.vh (y 1).val (y 2).val) * (A.lw (y 2).val) : ℝ) : EReal) := by
  rw [val_main_v59_apply, s_v56 h, s_v58 h]
  exact (EReal.coe_mul _ _).symm

include h in
/-- A layout operation at an index. -/
theorem s_v60 (y : S1x1x1024.Idx) : val_main_v60 (F := Ideal) x4 y =
    ((A.lb (y 2).val : ℝ) : EReal) := by
  exact (val_main_v60_apply _ y).trans (s_v7 h _)

include h in
/-- A layout operation at an index. -/
theorem s_v61 (y : S1x4096x1024.Idx) : val_main_v61 (F := Ideal) x4 y =
    ((A.lb (y 2).val : ℝ) : EReal) := by
  exact (val_main_v61_apply _ y).trans (s_v60 h _)

include h in
/-- The norm's output. -/
theorem s_v62 (y : S1x4096x1024.Idx) : val_main_v62 (F := Ideal) x0 x2 x3 x4 y =
    ((A.vn (y 1).val (y 2).val : ℝ) : EReal) := by
  rw [val_main_v62_apply, s_v59 h, s_v61 h]
  refine Eq.trans ((EReal.coe_add _ _).symm) (congrArg Real.toEReal ?_)
  rfl

end Sgu
end
-- ==== Proof.RefSums.lean ====
module

public import proofs.«01_k».proof.Proof.RefForward

@[expose] public section

/-!
Sums over several axes in the reference, and the sums over rows and channels that the chunks share.
-/

noncomputable section

namespace Sgu

open Idealize.ShloMosaic Finset
open Cert.ReferenceIdeal Cert.ReferenceIdeal.Read

/-! ## Sums over several axes -/

/-- A sum from zero over pairs of positions. -/
theorem sum_zero_pair (n m : ℕ) (f : ℕ → ℕ → ℝ) (g : Fin n × Fin m → EReal)
    (hg : ∀ k, g k = ((f k.1.val k.2.val : ℝ) : EReal)) :
    ((0 : ℝ) : EReal) + ∑ k, g k = ((∑ p ∈ range n, ∑ d ∈ range m, f p d : ℝ) : EReal) := by
  rw [EReal.coe_zero, zero_add, Fintype.sum_prod_type, ← coe_sum_fin]
  refine sum_congr rfl fun p _ => ?_
  rw [← coe_sum_fin]
  exact sum_congr rfl fun d _ => hg _

/-- The sum over the chunks and a group's channels. -/
theorem reduce_pd (h : S1x32x128x8x128.ReducesTo [1, 4] S1x128x8) (v : S1x32x128x8x128.Idx → EReal) (init : EReal) (j : S1x128x8.Idx) :
    Ideal.hostReduceAdd h v init j = init + ∑ k : Fin 32 × Fin 128, v (ix5 (j 0) k.1 (j 1) (j 2) k.2) := by
  refine congrArg (init + ·) (@sum_filter_eq_sum_of_fiber _ _ _ _ (Classical.decEq _) _ _ (fun i => h.drop i = j) _ (fun k : Fin 32 × Fin 128 => ix5 (j 0) k.1 (j 1) (j 2) k.2)
    (fun _ _ e => Prod.ext (congrFun e 1) (congrFun e 4)) (fun i => ⟨fun e => ⟨(i 1, i 4), ?_⟩, ?_⟩) v)
  · funext a; apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
  · rintro ⟨k, rfl⟩
    funext b; apply Fin.ext
    match b with
    | ⟨0, _⟩ => rfl
    | ⟨1, _⟩ => rfl
    | ⟨2, _⟩ => rfl

/-- The sum over two axes of one element. -/
theorem reduce_first (h : S1x1x1024.ReducesTo [0, 1] S1024) (v : S1x1x1024.Idx → EReal) (init : EReal) (j : S1024.Idx) :
    Ideal.hostReduceAdd h v init j = init + ∑ k : Fin 1 × Fin 1, v (ix3 k.1 k.2 (j 0)) := by
  refine congrArg (init + ·) (@sum_filter_eq_sum_of_fiber _ _ _ _ (Classical.decEq _) _ _ (fun i => h.drop i = j) _ (fun k : Fin 1 × Fin 1 => ix3 k.1 k.2 (j 0))
    (fun _ _ e => Prod.ext (congrFun e 0) (congrFun e 1)) (fun i => ⟨fun e => ⟨(i 0, i 1), ?_⟩, ?_⟩) v)
  · funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b; apply Fin.ext
    match b with
    | ⟨0, _⟩ => rfl

/-- The sum over two axes of one element. -/
theorem reduce_first2 (h : S1x1x2048.ReducesTo [0, 1] S2048) (v : S1x1x2048.Idx → EReal) (init : EReal) (j : S2048.Idx) :
    Ideal.hostReduceAdd h v init j = init + ∑ k : Fin 1 × Fin 1, v (ix3 k.1 k.2 (j 0)) := by
  refine congrArg (init + ·) (@sum_filter_eq_sum_of_fiber _ _ _ _ (Classical.decEq _) _ _ (fun i => h.drop i = j) _ (fun k : Fin 1 × Fin 1 => ix3 k.1 k.2 (j 0))
    (fun _ _ e => Prod.ext (congrFun e 0) (congrFun e 1)) (fun i => ⟨fun e => ⟨(i 0, i 1), ?_⟩, ?_⟩) v)
  · funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b; apply Fin.ext
    match b with
    | ⟨0, _⟩ => rfl

/-- The sum over two axes of one element. -/
theorem reduce_ends (h : S1x4096x1.ReducesTo [0, 2] S4096) (v : S1x4096x1.Idx → EReal) (init : EReal) (j : S4096.Idx) :
    Ideal.hostReduceAdd h v init j = init + ∑ k : Fin 1 × Fin 1, v (ix3 k.1 (j 0) k.2) := by
  refine congrArg (init + ·) (@sum_filter_eq_sum_of_fiber _ _ _ _ (Classical.decEq _) _ _ (fun i => h.drop i = j) _ (fun k : Fin 1 × Fin 1 => ix3 k.1 (j 0) k.2)
    (fun _ _ e => Prod.ext (congrFun e 0) (congrFun e 2)) (fun i => ⟨fun e => ⟨(i 0, i 2), ?_⟩, ?_⟩) v)
  · funext a; apply Fin.ext
    match a with
    | ⟨0, _⟩ => rfl
    | ⟨1, _⟩ => exact (congrArg Fin.val (congrFun e ⟨0, by decide⟩)).symm
    | ⟨2, _⟩ => rfl
  · rintro ⟨k, rfl⟩
    funext b; apply Fin.ext
    match b with
    | ⟨0, _⟩ => rfl

/-- The sum over three axes of one element. -/
theorem reduce_units (h : S1x1x128x8x1.ReducesTo [0, 1, 4] S128x8) (v : S1x1x128x8x1.Idx → EReal) (init : EReal)
    (j : S128x8.Idx) :
    Ideal.hostReduceAdd h v init j = init + ∑ k : Fin 1 × Fin 1 × Fin 1, v (ix5 k.1 k.2.1 (j 0) (j 1) k.2.2) := by
  refine congrArg (init + ·) (@sum_filter_eq_sum_of_fiber _ _ _ _ (Classical.decEq _) _ _ (fun i => h.drop i = j) _
    (fun k : Fin 1 × Fin 1 × Fin 1 => ix5 k.1 k.2.1 (j 0) (j 1) k.2.2)
    (fun _ _ e => Prod.ext (congrFun e 0) (Prod.ext (congrFun e 1) (congrFun e 4)))
    (fun i => ⟨fun e => ⟨(i 0, i 1, i 4), ?_⟩, ?_⟩) v)
  · funext a; apply Fin.ext
    match a with
    | ⟨0, _⟩ => rfl
    | ⟨1, _⟩ => rfl
    | ⟨2, _⟩ => exact (congrArg Fin.val (congrFun e ⟨0, by decide⟩)).symm
    | ⟨3, _⟩ => exact (congrArg Fin.val (congrFun e ⟨1, by decide⟩)).symm
    | ⟨4, _⟩ => rfl
  · rintro ⟨k, rfl⟩
    funext b; apply Fin.ext
    match b with
    | ⟨0, _⟩ => rfl
    | ⟨1, _⟩ => rfl

/-! ## The contraction over chunks and channels -/

/-- The dimension numbers of the spatial weight's gradient. -/
abbrev dgw := dot_S8x1x32x128x128_S1x32x128x8x128_S8x128x128_123_014_4_2_0_3

/-- A contraction index from a chunk and a channel. -/
def cidx (k : Fin 32 × Fin 128) : dgw.contr.Idx := fun a => match a with
  | ⟨0, _⟩ => ⟨0, Nat.one_pos⟩
  | ⟨1, _⟩ => ⟨k.1.val, k.1.isLt⟩
  | ⟨2, _⟩ => ⟨k.2.val, k.2.isLt⟩

theorem cidx_bij : Function.Bijective cidx := by
  constructor
  · intro k l e
    exact Prod.ext (Fin.ext (congrArg Fin.val (congrFun e ⟨1, by decide⟩)))
      (Fin.ext (congrArg Fin.val (congrFun e ⟨2, by decide⟩)))
  · intro q
    refine ⟨(⟨(q ⟨1, by decide⟩).val, (q ⟨1, by decide⟩).isLt⟩, ⟨(q ⟨2, by decide⟩).val, (q ⟨2, by decide⟩).isLt⟩), ?_⟩
    funext a
    apply Fin.ext
    match a with
    | ⟨0, h0⟩ => exact (Nat.lt_one_iff.1 (q ⟨0, h0⟩).isLt).symm
    | ⟨1, _⟩ => rfl
    | ⟨2, _⟩ => rfl

theorem dgw_lhs (i : S8x128x128.Idx) (k : Fin 32 × Fin 128) :
    dgw.lhsIdx i (cidx k) = ix5 (i 0) 0 k.1 k.2 (i 1) := by
  funext a
  apply Fin.ext
  match a with
  | ⟨0, _⟩ => rfl
  | ⟨1, _⟩ => rfl
  | ⟨2, _⟩ => rfl
  | ⟨3, _⟩ => rfl
  | ⟨4, _⟩ => rfl

theorem dgw_rhs (i : S8x128x128.Idx) (k : Fin 32 × Fin 128) :
    dgw.rhsIdx i (cidx k) = ix5 0 k.1 (i 2) (i 0) k.2 := by
  funext a
  apply Fin.ext
  match a with
  | ⟨0, _⟩ => rfl
  | ⟨1, _⟩ => rfl
  | ⟨2, _⟩ => rfl
  | ⟨3, _⟩ => rfl
  | ⟨4, _⟩ => rfl

/-- The contraction is the sum over chunks and channels. -/
theorem dot_pd (l : FVec Ideal S8x1x32x128x128 .f32) (r : FVec Ideal S1x32x128x8x128 .f32) (i : S8x128x128.Idx) :
    Host.dotGeneral dgw none l r i =
      ∑ k : Fin 32 × Fin 128, l (ix5 (i 0) 0 k.1 k.2 (i 1)) * r (ix5 0 k.1 (i 2) (i 0) k.2) := by
  simp only [Host.dotGeneral]
  rw [Ideal.dotGeneral_apply]
  refine (Fintype.sum_bijective cidx cidx_bij _ _ fun k => ?_).symm
  rw [dgw_lhs, dgw_rhs]
  rfl

/-! ## Real sums -/

/-- A sum over all rows, chunk by chunk. -/
theorem sum_chunks (f : ℕ → ℝ) (n : ℕ) :
    ∑ i ∈ range (128 * n), f i = ∑ p ∈ range n, ∑ i ∈ range 128, f (128 * p + i) := by
  induction n with
  | zero => simp
  | succ n ih => rw [Nat.mul_succ, sum_range_add, ih, sum_range_succ _ n]

theorem sum_rows (f : ℕ → ℝ) : ∑ i ∈ range 4096, f i = ∑ p ∈ range 32, ∑ i ∈ range 128, f (128 * p + i) :=
  sum_chunks f 32

/-- The sum of a group's channels, out of the sum over all channels. -/
theorem In.dbt_eq (a : In) (t : ℕ) {g : ℕ} (hg : g < 8) : a.dbt t g = ∑ d ∈ range 128, a.dm t (128 * g + d) := by
  unfold In.dbt
  rw [show (1024 : ℕ) = 128 * 8 from rfl, sum_chunks]
  rw [sum_eq_single_of_mem g (mem_range.2 hg)]
  · refine sum_congr rfl fun d hd => ?_
    rw [if_pos (by have := mem_range.1 hd; omega), mul_one]
  · intro q _ hq
    refine sum_eq_zero fun d hd => ?_
    rw [if_neg (by have := mem_range.1 hd; omega), mul_zero]

/-- No channel is in a group past the eighth. -/
theorem In.dbt_zero (a : In) (t : ℕ) {g : ℕ} (hg : 8 ≤ g) : a.dbt t g = 0 := by
  unfold In.dbt
  refine sum_eq_zero fun c hc => ?_
  rw [if_neg (by have := mem_range.1 hc; omega), mul_zero]

namespace In

variable (A : In)

/-- The mixed branch at a row of the whole batch. -/
def M (i c : ℕ) : ℝ := (A.blk (i / 128)).mixed (i % 128) c
/-- The cotangent of the norm's output at a row of the whole batch. -/
def D (i c : ℕ) : ℝ := (A.blk (i / 128)).dvn (i % 128) c

theorem M_at (p : ℕ) {t : ℕ} (ht : t < 128) (c : ℕ) : A.M (128 * p + t) c = (A.blk p).mixed t c := by
  unfold M; rw [show (128 * p + t) / 128 = p by omega, show (128 * p + t) % 128 = t by omega]

theorem D_at (p : ℕ) {t : ℕ} (ht : t < 128) (c : ℕ) : A.D (128 * p + t) c = (A.blk p).dvn t c := by
  unfold D; rw [show (128 * p + t) / 128 = p by omega, show (128 * p + t) % 128 = t by omega]

end In

end Sgu
end
-- ==== Proof.RefMix.lean ====
module

public import proofs.«01_k».proof.Proof.RefSums

@[expose] public section

/-!
The reference from the norm's output to the gradients of the spatial weight and bias and of the norm's
parameters, one operation at a time.
-/

noncomputable section

namespace Sgu

open Idealize.ShloMosaic Finset
open Cert.ReferenceIdeal Cert.ReferenceIdeal.Read

variable {A : In} {x0 : Vec Ideal S4096x2048 .bf16} {x1 : Vec Ideal S4096x1024 .bf16} {x2 : Vec Ideal S1x2048 .f32}
  {x3 x4 : Vec Ideal S1x1024 .f32} {x5 : Vec Ideal S1x8x128x128 .f32} {x6 : Vec Ideal S1x8x128 .f32}
  (h : Args A x0 x1 x2 x3 x4 x5 x6)

include h in
/-- Rows and channels, split into chunks and groups. -/
theorem s_v63 (y : S1x32x128x8x128.Idx) : val_main_v63 (F := Ideal) x0 x2 x3 x4 y =
    ((A.vn (128 * (y 1).val + (y 2).val) (128 * (y 3).val + (y 4).val) : ℝ) : EReal) := by
  have b0 : (y 0).val < 1 := (y 0).isLt
  have b1 : (y 1).val < 32 := (y 1).isLt
  have b2 : (y 2).val < 128 := (y 2).isLt
  have b3 : (y 3).val < 8 := (y 3).isLt
  have b4 : (y 4).val < 128 := (y 4).isLt
  rw [val_main_v63_apply, s_v62 h]
  refine congrArg Real.toEReal ?_
  show A.vn ((((((y 0).val * 32 + (y 1).val) * 128 + (y 2).val) * 8 + (y 3).val) * 128 + (y 4).val) / 1024 % 4096) ((((((y 0).val * 32 + (y 1).val) * 128 + (y 2).val) * 8 + (y 3).val) * 128 + (y 4).val) % 1024) = _
  exact cong2 A.vn (by omega) (by omega)

/-- A constant. -/
theorem s_cst_14 (y : S_.Idx) : val_main_cst_14 (F := Ideal) y =
    ((1 : ℝ) : EReal) := by
  exact (val_main_cst_14_apply y).trans c_one

/-- A layout operation at an index. -/
theorem s_v64 (y : S128x128.Idx) : val_main_v64 (F := Ideal) y =
    ((1 : ℝ) : EReal) := by
  exact (val_main_v64_apply  y).trans (s_cst_14 _)

/-- A constant. -/
theorem s_call0_cst (y : S_.Idx) : val_main_call0_cst (F := Ideal) y =
    ((0 : ℝ) : EReal) := by
  exact (val_main_call0_cst_apply y).trans c_zero

/-- A layout operation at an index. -/
theorem s_call0_v5 (y : S128x128.Idx) : val_main_call0_v5 (F := Ideal) y =
    ((0 : ℝ) : EReal) := by
  exact (val_main_call0_v5_apply  y).trans (s_call0_cst _)

/-- The causal mask. -/
theorem s_v65 (y : S128x128.Idx) : val_main_v65 (F := Ideal) y =
    ((if (y 1).val ≤ (y 0).val then 1 else 0 : ℝ) : EReal) := by
  have b0 : (y 0).val < 128 := (y 0).isLt
  have b1 : (y 1).val < 128 := (y 1).isLt
  have e : val_main_call0_v4 (F := Ideal) y = BitVec.ofBool (decide ((y 1).val ≤ (y 0).val)) := by
    rw [val_main_call0_v4_apply, val_main_call0_v2_apply, val_main_call0_v0_apply, val_main_call0_v1_apply,
      val_main_call0_c_apply, val_main_call0_v3_apply]
    have e0 : IntOp.addi (BitVec.ofNat 32 (y 0).val) 0#32 = BitVec.ofNat 32 (y 0).val := BitVec.add_zero _
    rw [e0, Idealize.ShloMosaic.WordCmp.cmpi_sge_ofNat (by simp; omega) (by simp; omega)]
  rw [val_main_v65_apply, s_v64, s_call0_v5, e, sel]
  by_cases hp : (y 1).val ≤ (y 0).val
  · rw [if_pos hp, if_pos hp]
  · rw [if_neg hp, if_neg hp]

/-- A layout operation at an index. -/
theorem s_v66 (y : S1x128x128.Idx) : val_main_v66 (F := Ideal) y =
    ((if (y 2).val ≤ (y 1).val then 1 else 0 : ℝ) : EReal) := by
  exact (val_main_v66_apply  y).trans (s_v65 _)

/-- A layout operation at an index. -/
theorem s_v67 (y : S8x128x128.Idx) : val_main_v67 (F := Ideal) y =
    ((if (y 2).val ≤ (y 1).val then 1 else 0 : ℝ) : EReal) := by
  exact (val_main_v67_apply  y).trans (s_v66 _)

include h in
/-- The causal spatial weight. -/
theorem s_v68 (y : S8x128x128.Idx) : val_main_v68 (F := Ideal) x5 y =
    ((A.wm (y 0).val (y 1).val (y 2).val : ℝ) : EReal) := by
  rw [val_main_v68_apply, s_v8 h, s_v67]
  refine Eq.trans ((EReal.coe_mul _ _).symm) (congrArg Real.toEReal ?_)
  simp only [In.wm, mul_ite, mul_one, mul_zero]

include h in
/-- A product. -/
theorem s_v69 (y : S8x1x32x128x128.Idx) : val_main_v69 (F := Ideal) x0 x2 x3 x4 x5 y =
    ((∑ k ∈ range 128, (A.vn (128 * (y 2).val + k) (128 * (y 0).val + (y 3).val)) * (A.wm (y 0).val (y 4).val k) : ℝ) : EReal) := by
  rw [val_main_v69_apply]
  exact (dot_fin 128 (fun k => A.vn (128 * (y 2).val + k) (128 * (y 0).val + (y 3).val)) (fun k => A.wm (y 0).val (y 4).val k) _ _ (fun k => s_v63 h _) fun k => s_v68 h _)

include h in
/-- A layout operation at an index. -/
theorem s_v70 (y : S1x32x128x8x128.Idx) : val_main_v70 (F := Ideal) x0 x2 x3 x4 x5 y =
    ((∑ k ∈ range 128, (A.vn (128 * (y 1).val + k) (128 * (y 3).val + (y 4).val)) * (A.wm (y 3).val (y 2).val k) : ℝ) : EReal) := by
  exact (val_main_v70_apply _ _ _ _ _ y).trans (s_v69 h _)

include h in
/-- A layout operation at an index. -/
theorem s_v71 (y : S128x8.Idx) : val_main_v71 (F := Ideal) x6 y =
    ((A.bs (y 1).val (y 0).val : ℝ) : EReal) := by
  exact (val_main_v71_apply _ y).trans (s_v9 h _)

include h in
/-- A layout operation at an index. -/
theorem s_v72 (y : S1x1x128x8x1.Idx) : val_main_v72 (F := Ideal) x6 y =
    ((A.bs (y 3).val (y 2).val : ℝ) : EReal) := by
  exact (val_main_v72_apply _ y).trans (s_v71 h _)

include h in
/-- A layout operation at an index. -/
theorem s_v73 (y : S1x32x128x8x128.Idx) : val_main_v73 (F := Ideal) x6 y =
    ((A.bs (y 3).val (y 2).val : ℝ) : EReal) := by
  exact (val_main_v73_apply _ y).trans (s_v72 h _)

include h in
/-- The mixed branch. -/
theorem s_v74 (y : S1x32x128x8x128.Idx) : val_main_v74 (F := Ideal) x0 x2 x3 x4 x5 x6 y =
    ((A.M (128 * (y 1).val + (y 2).val) (128 * (y 3).val + (y 4).val) : ℝ) : EReal) := by
  rw [val_main_v74_apply, s_v70 h, s_v73 h]
  refine Eq.trans ((EReal.coe_add _ _).symm) (congrArg Real.toEReal ?_)
  have b2 : (y 2).val < 128 := (y 2).isLt
  have b4 : (y 4).val < 128 := (y 4).isLt
  rw [A.M_at _ b2, In.mixed, (show (128 * (y 3).val + (y 4).val) / 128 = (y 3).val by omega)]
  exact congrArg (· + A.bs (y 3).val (y 2).val) (sum_congr rfl fun k _ => mul_comm _ _)

include h in
/-- A layout operation at an index. -/
theorem s_v75 (y : S1x4096x1024.Idx) : val_main_v75 (F := Ideal) x0 x2 x3 x4 x5 x6 y =
    ((A.M (y 1).val (y 2).val : ℝ) : EReal) := by
  have b0 : (y 0).val < 1 := (y 0).isLt
  have b1 : (y 1).val < 4096 := (y 1).isLt
  have b2 : (y 2).val < 1024 := (y 2).isLt
  rw [val_main_v75_apply, s_v74 h]
  refine congrArg Real.toEReal ?_
  show A.M (128 * ((((y 0).val * 4096 + (y 1).val) * 1024 + (y 2).val) / 131072 % 32) + ((((y 0).val * 4096 + (y 1).val) * 1024 + (y 2).val) / 1024 % 128)) (128 * ((((y 0).val * 4096 + (y 1).val) * 1024 + (y 2).val) / 128 % 8) + ((((y 0).val * 4096 + (y 1).val) * 1024 + (y 2).val) % 128)) = _
  exact cong2 A.M (by omega) (by omega)

include h in
/-- The cotangent. -/
theorem s_v77 (y : S4096x1024.Idx) : val_main_v77 (F := Ideal) x1 y =
    ((A.y (y 0).val (y 1).val : ℝ) : EReal) := by
  exact at2 h.h1 y

include h in
/-- A layout operation at an index. -/
theorem s_v78 (y : S1x4096x1024.Idx) : val_main_v78 (F := Ideal) x1 y =
    ((A.y (y 1).val (y 2).val : ℝ) : EReal) := by
  exact (val_main_v78_apply _ y).trans (s_v77 h _)

include h in
/-- The cotangent of the mixed branch. -/
theorem s_v79 (y : S1x4096x1024.Idx) : val_main_v79 (F := Ideal) x0 x1 x2 y =
    ((A.dm (y 1).val (y 2).val : ℝ) : EReal) := by
  rw [val_main_v79_apply, s_v32 h, s_v78 h]
  refine Eq.trans ((EReal.coe_mul _ _).symm) (congrArg Real.toEReal ?_)
  exact mul_comm _ _

include h in
/-- One operation at an index. -/
theorem s_v80 (y : S1x4096x1024.Idx) : val_main_v80 (F := Ideal) x0 x1 x2 x3 x4 x5 x6 y =
    (((A.y (y 1).val (y 2).val) * (A.M (y 1).val (y 2).val) : ℝ) : EReal) := by
  rw [val_main_v80_apply, s_v78 h, s_v75 h]
  exact (EReal.coe_mul _ _).symm

include h in
/-- Rows and channels, split into chunks and groups. -/
theorem s_v81 (y : S1x32x128x8x128.Idx) : val_main_v81 (F := Ideal) x0 x1 x2 y =
    ((A.dm (128 * (y 1).val + (y 2).val) (128 * (y 3).val + (y 4).val) : ℝ) : EReal) := by
  have b0 : (y 0).val < 1 := (y 0).isLt
  have b1 : (y 1).val < 32 := (y 1).isLt
  have b2 : (y 2).val < 128 := (y 2).isLt
  have b3 : (y 3).val < 8 := (y 3).isLt
  have b4 : (y 4).val < 128 := (y 4).isLt
  rw [val_main_v81_apply, s_v79 h]
  refine congrArg Real.toEReal ?_
  show A.dm ((((((y 0).val * 32 + (y 1).val) * 128 + (y 2).val) * 8 + (y 3).val) * 128 + (y 4).val) / 1024 % 4096) ((((((y 0).val * 32 + (y 1).val) * 128 + (y 2).val) * 8 + (y 3).val) * 128 + (y 4).val) % 1024) = _
  exact cong2 A.dm (by omega) (by omega)

/-- A constant. -/
theorem s_cst_15 (y : S_.Idx) : val_main_cst_15 (F := Ideal) y =
    ((0 : ℝ) : EReal) := by
  exact (val_main_cst_15_apply y).trans c_zero

/-- A constant. -/
theorem s_cst_16 (y : S_.Idx) : val_main_cst_16 (F := Ideal) y =
    ((0 : ℝ) : EReal) := by
  exact (val_main_cst_16_apply y).trans c_zero

include h in
/-- The sum over the chunks and a group's channels. -/
theorem s_v82 (y : S1x128x8.Idx) : val_main_v82 (F := Ideal) x0 x1 x2 y =
    ((∑ p ∈ range 32, ∑ d ∈ range 128, A.dm (128 * p + (y 1).val) (128 * (y 2).val + d) : ℝ) : EReal) := by
  unfold val_main_v82
  simp only [Host.reduceAdd, Ideal.hostReduceAdd_def]
  rw [reduce_pd, s_cst_15]
  exact sum_zero_pair 32 128 (fun p d => A.dm (128 * p + (y 1).val) (128 * (y 2).val + d)) _ fun k => s_v81 h _

include h in
/-- A layout operation at an index. -/
theorem s_v83 (y : S1x1x128x8x1.Idx) : val_main_v83 (F := Ideal) x0 x1 x2 y =
    ((∑ p ∈ range 32, ∑ d ∈ range 128, A.dm (128 * p + (y 2).val) (128 * (y 3).val + d) : ℝ) : EReal) := by
  have b0 : (y 0).val < 1 := (y 0).isLt
  have b1 : (y 1).val < 1 := (y 1).isLt
  have b2 : (y 2).val < 128 := (y 2).isLt
  have b3 : (y 3).val < 8 := (y 3).isLt
  have b4 : (y 4).val < 1 := (y 4).isLt
  rw [val_main_v83_apply, s_v82 h]
  refine congrArg Real.toEReal ?_
  show ∑ p ∈ range 32, ∑ d ∈ range 128, A.dm (128 * p + ((((((y 0).val * 1 + (y 1).val) * 128 + (y 2).val) * 8 + (y 3).val) * 1 + (y 4).val) / 8 % 128)) (128 * ((((((y 0).val * 1 + (y 1).val) * 128 + (y 2).val) * 8 + (y 3).val) * 1 + (y 4).val) % 8) + d) = _
  exact cong2 (fun t g => ∑ p ∈ range 32, ∑ d ∈ range 128, A.dm (128 * p + t) (128 * g + d)) (by omega) (by omega)

include h in
/-- The spatial bias's gradient. -/
theorem s_v84 (y : S128x8.Idx) : val_main_v84 (F := Ideal) x0 x1 x2 y =
    ((∑ p ∈ range 32, (A.blk p).dbt (y 0).val (y 1).val : ℝ) : EReal) := by
  have b1 : (y 1).val < 8 := (y 1).isLt
  unfold val_main_v84
  simp only [Host.reduceAdd, Ideal.hostReduceAdd_def]
  rw [reduce_units, s_cst_16, EReal.coe_zero, zero_add, Fintype.sum_subsingleton _ (0, 0, 0)]
  refine (s_v83 h _).trans (congrArg Real.toEReal (sum_congr rfl fun p _ => ?_))
  exact ((A.blk p).dbt_eq (y 0).val b1).symm

include h in
/-- A layout operation at an index. -/
theorem s_v85 (y : S8x128.Idx) : val_main_v85 (F := Ideal) x0 x1 x2 y =
    ((∑ p ∈ range 32, (A.blk p).dbt (y 1).val (y 0).val : ℝ) : EReal) := by
  exact (val_main_v85_apply _ _ _ y).trans (s_v84 h _)

include h in
/-- A layout operation at an index. -/
theorem s_v86 (y : S8x1x32x128x128.Idx) : val_main_v86 (F := Ideal) x0 x1 x2 y =
    ((A.dm (128 * (y 2).val + (y 4).val) (128 * (y 0).val + (y 3).val) : ℝ) : EReal) := by
  exact (val_main_v86_apply _ _ _ y).trans (s_v81 h _)

include h in
/-- The product of the cotangent and the norm's output, over chunks and channels. -/
theorem s_v87 (y : S8x128x128.Idx) : val_main_v87 (F := Ideal) x0 x1 x2 x3 x4 y =
    ((∑ p ∈ range 32, ∑ d ∈ range 128, A.dm (128 * p + (y 1).val) (128 * (y 0).val + d) * A.vn (128 * p + (y 2).val) (128 * (y 0).val + d) : ℝ) : EReal) := by
  unfold val_main_v87
  rw [dot_pd, ← zero_add (∑ k, _), ← EReal.coe_zero]
  refine sum_zero_pair 32 128 (fun p d => A.dm (128 * p + (y 1).val) (128 * (y 0).val + d) * A.vn (128 * p + (y 2).val) (128 * (y 0).val + d)) _ fun k => ?_
  rw [s_v86 h, s_v63 h]
  exact (EReal.coe_mul _ _).symm

include h in
/-- The cotangent of the norm's output. -/
theorem s_v88 (y : S8x1x32x128x128.Idx) : val_main_v88 (F := Ideal) x0 x1 x2 x5 y =
    ((A.D (128 * (y 2).val + (y 4).val) (128 * (y 0).val + (y 3).val) : ℝ) : EReal) := by
  have b0 : (y 0).val < 8 := (y 0).isLt
  have b1 : (y 1).val < 1 := (y 1).isLt
  have b2 : (y 2).val < 32 := (y 2).isLt
  have b3 : (y 3).val < 128 := (y 3).isLt
  have b4 : (y 4).val < 128 := (y 4).isLt
  rw [val_main_v88_apply]
  refine Eq.trans (dot_fin 128 (fun k => A.dm (128 * (y 2).val + k) (128 * (y 0).val + (y 3).val)) (fun k => A.wm (y 0).val k (y 4).val) _ _ (fun k => s_v86 h _) fun k => s_v68 h _) (congrArg Real.toEReal ?_)
  rw [A.D_at _ b4, In.dvn, show (128 * (y 0).val + (y 3).val) / 128 = (y 0).val by omega]
  exact sum_congr rfl fun k _ => mul_comm _ _

include h in
/-- A layout operation at an index. -/
theorem s_v89 (y : S1x32x128x8x128.Idx) : val_main_v89 (F := Ideal) x0 x1 x2 x5 y =
    ((A.D (128 * (y 1).val + (y 2).val) (128 * (y 3).val + (y 4).val) : ℝ) : EReal) := by
  exact (val_main_v89_apply _ _ _ _ y).trans (s_v88 h _)

/-- A layout operation at an index. -/
theorem s_v90 (y : S8x128x128.Idx) : val_main_v90 (F := Ideal) y =
    ((if (y 2).val ≤ (y 1).val then 1 else 0 : ℝ) : EReal) := by
  exact (val_main_v90_apply  y).trans (s_v66 _)

include h in
/-- The spatial weight's gradient. -/
theorem s_v91 (y : S8x128x128.Idx) : val_main_v91 (F := Ideal) x0 x1 x2 x3 x4 y =
    ((∑ p ∈ range 32, (A.blk p).dw (y 0).val (y 1).val (y 2).val : ℝ) : EReal) := by
  rw [val_main_v91_apply, s_v87 h, s_v90]
  refine Eq.trans ((EReal.coe_mul _ _).symm) (congrArg Real.toEReal ?_)
  by_cases hp : (y 2).val ≤ (y 1).val
  · rw [if_pos hp, mul_one]
    exact sum_congr rfl fun p _ => (if_pos hp).symm
  · rw [if_neg hp, mul_zero]
    exact (sum_eq_zero fun p _ => if_neg hp).symm

include h in
/-- A layout operation at an index. -/
theorem s_v92 (y : S1x4096x1024.Idx) : val_main_v92 (F := Ideal) x0 x1 x2 x5 y =
    ((A.D (y 1).val (y 2).val : ℝ) : EReal) := by
  have b0 : (y 0).val < 1 := (y 0).isLt
  have b1 : (y 1).val < 4096 := (y 1).isLt
  have b2 : (y 2).val < 1024 := (y 2).isLt
  rw [val_main_v92_apply, s_v89 h]
  refine congrArg Real.toEReal ?_
  show A.D (128 * ((((y 0).val * 4096 + (y 1).val) * 1024 + (y 2).val) / 131072 % 32) + ((((y 0).val * 4096 + (y 1).val) * 1024 + (y 2).val) / 1024 % 128)) (128 * ((((y 0).val * 4096 + (y 1).val) * 1024 + (y 2).val) / 128 % 8) + ((((y 0).val * 4096 + (y 1).val) * 1024 + (y 2).val) % 128)) = _
  exact cong2 A.D (by omega) (by omega)

/-- A constant. -/
theorem s_cst_17 (y : S_.Idx) : val_main_cst_17 (F := Ideal) y =
    ((0 : ℝ) : EReal) := by
  exact (val_main_cst_17_apply y).trans c_zero

include h in
/-- A sum along one axis. -/
theorem s_v93 (y : S1x1024.Idx) : val_main_v93 (F := Ideal) x0 x1 x2 x5 y =
    ((∑ k ∈ range 4096, (A.D k (y 1).val) : ℝ) : EReal) := by
  rw [val_main_v93_apply, s_cst_17]
  exact sum_zero_fin 4096 (fun k => A.D k (y 1).val) _ fun k => s_v92 h _

include h in
/-- A layout operation at an index. -/
theorem s_v94 (y : S1x1x1024.Idx) : val_main_v94 (F := Ideal) x0 x1 x2 x5 y =
    ((∑ k ∈ range 4096, A.D k (y 2).val : ℝ) : EReal) := by
  have b0 : (y 0).val < 1 := (y 0).isLt
  have b1 : (y 1).val < 1 := (y 1).isLt
  have b2 : (y 2).val < 1024 := (y 2).isLt
  rw [val_main_v94_apply, s_v93 h]
  refine congrArg Real.toEReal ?_
  show ∑ k ∈ range 4096, (A.D k ((((y 0).val * 1 + (y 1).val) * 1024 + (y 2).val) % 1024)) = _
  exact congrArg (fun c => ∑ k ∈ range 4096, A.D k c) (by omega)

/-- A constant. -/
theorem s_cst_18 (y : S_.Idx) : val_main_cst_18 (F := Ideal) y =
    ((0 : ℝ) : EReal) := by
  exact (val_main_cst_18_apply y).trans c_zero

include h in
/-- The gradient of the norm's bias. -/
theorem s_v95 (y : S1024.Idx) : val_main_v95 (F := Ideal) x0 x1 x2 x5 y =
    ((∑ p ∈ range 32, (A.blk p).dlb (y 0).val : ℝ) : EReal) := by
  unfold val_main_v95
  simp only [Host.reduceAdd, Ideal.hostReduceAdd_def]
  rw [reduce_first, s_cst_18, EReal.coe_zero, zero_add, Fintype.sum_subsingleton _ (0, 0)]
  refine (s_v94 h _).trans (congrArg Real.toEReal ?_)
  refine (sum_rows _).trans (sum_congr rfl fun p _ => sum_congr rfl fun i hi => ?_)
  have hi' := mem_range.1 hi
  exact A.D_at p hi' _

include h in
/-- One operation at an index. -/
theorem s_v96 (y : S1x4096x1024.Idx) : val_main_v96 (F := Ideal) x0 x1 x2 x5 y =
    (((A.vh (y 1).val (y 2).val) * (A.D (y 1).val (y 2).val) : ℝ) : EReal) := by
  rw [val_main_v96_apply, s_v56 h, s_v92 h]
  exact (EReal.coe_mul _ _).symm

/-- A constant. -/
theorem s_cst_19 (y : S_.Idx) : val_main_cst_19 (F := Ideal) y =
    ((0 : ℝ) : EReal) := by
  exact (val_main_cst_19_apply y).trans c_zero

include h in
/-- A sum along one axis. -/
theorem s_v97 (y : S1x1024.Idx) : val_main_v97 (F := Ideal) x0 x1 x2 x5 y =
    ((∑ k ∈ range 4096, ((A.vh k (y 1).val) * (A.D k (y 1).val)) : ℝ) : EReal) := by
  rw [val_main_v97_apply, s_cst_19]
  exact sum_zero_fin 4096 (fun k => (A.vh k (y 1).val) * (A.D k (y 1).val)) _ fun k => s_v96 h _

include h in
/-- A layout operation at an index. -/
theorem s_v98 (y : S1x1x1024.Idx) : val_main_v98 (F := Ideal) x0 x1 x2 x5 y =
    ((∑ k ∈ range 4096, A.vh k (y 2).val * A.D k (y 2).val : ℝ) : EReal) := by
  have b0 : (y 0).val < 1 := (y 0).isLt
  have b1 : (y 1).val < 1 := (y 1).isLt
  have b2 : (y 2).val < 1024 := (y 2).isLt
  rw [val_main_v98_apply, s_v97 h]
  refine congrArg Real.toEReal ?_
  show ∑ k ∈ range 4096, ((A.vh k ((((y 0).val * 1 + (y 1).val) * 1024 + (y 2).val) % 1024)) * (A.D k ((((y 0).val * 1 + (y 1).val) * 1024 + (y 2).val) % 1024))) = _
  exact congrArg (fun c => ∑ k ∈ range 4096, A.vh k c * A.D k c) (by omega)

/-- A constant. -/
theorem s_cst_20 (y : S_.Idx) : val_main_cst_20 (F := Ideal) y =
    ((0 : ℝ) : EReal) := by
  exact (val_main_cst_20_apply y).trans c_zero

include h in
/-- The gradient of the norm's weight. -/
theorem s_v101 (y : S1024.Idx) : val_main_v101 (F := Ideal) x0 x1 x2 x5 y =
    ((∑ p ∈ range 32, (A.blk p).dlw (y 0).val : ℝ) : EReal) := by
  unfold val_main_v101
  simp only [Host.reduceAdd, Ideal.hostReduceAdd_def]
  rw [reduce_first, s_cst_20, EReal.coe_zero, zero_add, Fintype.sum_subsingleton _ (0, 0)]
  refine (s_v98 h _).trans (congrArg Real.toEReal ?_)
  refine (sum_rows _).trans (sum_congr rfl fun p _ => sum_congr rfl fun i hi => ?_)
  have hi' := mem_range.1 hi
  rw [A.D_at p hi' _, mul_comm]
  rfl

end Sgu
end
-- ==== Proof.Outs.lean ====
module

public import proofs.«01_k».proof.Proof.Arrays

@[expose] public section

/-!
The sums that the five accumulated results run through, and the arrays that the call ends with.
-/

noncomputable section

namespace Sgu

open Idealize.ShloMosaic Idealize.ShloMosaic.TcCoe Idealize.SL.Sem Finset
open Cert.KernelIdeal Cert.KernelIdeal.Gen

variable (m : (ℓ : Loc nD τ sig) → Buf (Elt Ideal) ℓ) (c : Dev nD) {A : In}

/-! ## The accumulated results -/

/-- What the six result buffers hold after point `n`: that chunk's rows of the first result, and the
sums of the other five over the chunks so far. -/
structure Outs (A : In) (n : ℕ) (o : Vec Ideal S128x2048 .bf16 × Vec Ideal S8x128x128 .f32 × Vec Ideal S128x128 .f32 ×
    Vec Ideal S1x1024 .f32 × Vec Ideal S1x1024 .f32 × Vec Ideal S1x2048 .f32) : Prop where
  o8 : Is2 o.1 (A.blk n).dz
  o9 : Is3 o.2.1 fun g t s => ∑ p ∈ range (n + 1), (A.blk p).dw g t s
  o10 : Is2 o.2.2.1 fun t g => ∑ p ∈ range (n + 1), (A.blk p).dbt t g
  o11 : Is2 o.2.2.2.1 fun _ j => ∑ p ∈ range (n + 1), (A.blk p).dlw j
  o12 : Is2 o.2.2.2.2.1 fun _ j => ∑ p ∈ range (n + 1), (A.blk p).dlb j
  o13 : Is2 o.2.2.2.2.2 fun _ j => ∑ p ∈ range (n + 1), (A.blk p).duvb j

/-- A sum of one term. -/
theorem sum_one (f : ℕ → ℝ) : 0 + f 0 = ∑ p ∈ range (0 + 1), f p := by
  rw [sum_range_succ, sum_range_zero]

theorem Is2.congr {n k : ℕ} {x : (⟨2, ![n, k]⟩ : Shape).Idx → EReal} {f g : ℕ → ℕ → ℝ} (hx : Is2 x f)
    (e : ∀ i j, f i j = g i j) : Is2 x g := fun i j => (hx i j).trans (congrArg Real.toEReal (e _ _))

theorem Is3.congr {l n k : ℕ} {x : (⟨3, ![l, n, k]⟩ : Shape).Idx → EReal} {f g : ℕ → ℕ → ℕ → ℝ} (hx : Is3 x f)
    (e : ∀ q i j, f q i j = g q i j) : Is3 x g := fun q i j => (hx q i j).trans (congrArg Real.toEReal (e _ _ _))

/-- The buffers after the first point. -/
theorem outs_first (h : KArgs m c A) (hn : 0 < cfg0.N) : Outs A 0 (outsAt0 m c 0 hn) := by
  have hp := ptArgs m c h ⟨0, hn⟩
  rw [outsAt0_A m c ⟨0, hn⟩ rfl]
  constructor <;> dsimp only
  · exact outA_8 _ _ _ _ _ _ _ _ _ _ _ _ _ _ _ _ _ _ _ _ _ _ _ _ _ _ _ _ _ _ _ _ _ _ _ _ _ _ _ _ hp
  · exact Is3.congr (outA_9 _ _ _ _ _ _ _ _ _ _ _ _ _ _ _ _ _ _ _ _ _ _ _ _ _ _ _ _ _ _ _ _ _ _ _ _ _ _ _ _ hp) fun _ _ _ => sum_one fun p => (A.blk p).dw _ _ _
  · exact Is2.congr (outA_10 _ _ _ _ _ _ _ _ _ _ _ _ _ _ _ _ _ _ _ _ _ _ _ _ _ _ _ _ _ _ _ _ _ _ _ _ _ _ _ _ hp) fun _ _ => sum_one fun p => (A.blk p).dbt _ _
  · exact Is2.congr (outA_11 _ _ _ _ _ _ _ _ _ _ _ _ _ _ _ _ _ _ _ _ _ _ _ _ _ _ _ _ _ _ _ _ _ _ _ _ _ _ _ _ hp) fun _ _ => sum_one fun p => (A.blk p).dlw _
  · exact Is2.congr (outA_12 _ _ _ _ _ _ _ _ _ _ _ _ _ _ _ _ _ _ _ _ _ _ _ _ _ _ _ _ _ _ _ _ _ _ _ _ _ _ _ _ hp) fun _ _ => sum_one fun p => (A.blk p).dlb _
  · exact Is2.congr (outA_13 _ _ _ _ _ _ _ _ _ _ _ _ _ _ _ _ _ _ _ _ _ _ _ _ _ _ _ _ _ _ _ _ _ _ _ _ _ _ _ _ hp) fun _ _ => sum_one fun p => (A.blk p).duvb _

/-- The buffers after a later point. -/
theorem outs_next (h : KArgs m c A) (n : ℕ) (hn : n + 1 < cfg0.N) (ih : Outs A n (outsAt0 m c n (Nat.lt_of_succ_lt hn))) :
    Outs A (n + 1) (outsAt0 m c (n + 1) hn) := by
  have hN : cfg0.N = 32 := N_0
  have hB : ¬(⟨n + 1, hn⟩ : Fin cfg0.N).val % 32 = 0 := by dsimp only; omega
  have hp := ptArgs m c h ⟨n + 1, hn⟩
  rw [outsAt0_B m c ⟨n + 1, hn⟩ hB]
  constructor <;> dsimp only
  · exact outB_8 _ _ _ _ _ _ _ _ _ _ _ _ _ _ _ _ _ _ _ _ _ _ _ _ _ _ _ _ _ _ _ _ _ _ _ _ _ _ _ _ _ _ _ _ _ hp
  · exact Is3.congr (outB_9 _ _ _ _ _ _ _ _ _ _ _ _ _ _ _ _ _ _ _ _ _ _ _ _ _ _ _ _ _ _ _ _ _ _ _ _ _ _ _ _ _ _ _ _ _ hp ih.o9) fun _ _ _ => (sum_range_succ (fun p => (A.blk p).dw _ _ _) (n + 1)).symm
  · exact Is2.congr (outB_10 _ _ _ _ _ _ _ _ _ _ _ _ _ _ _ _ _ _ _ _ _ _ _ _ _ _ _ _ _ _ _ _ _ _ _ _ _ _ _ _ _ _ _ _ _ hp ih.o10) fun _ _ => (sum_range_succ (fun p => (A.blk p).dbt _ _) (n + 1)).symm
  · exact Is2.congr (outB_11 _ _ _ _ _ _ _ _ _ _ _ _ _ _ _ _ _ _ _ _ _ _ _ _ _ _ _ _ _ _ _ _ _ _ _ _ _ _ _ _ _ _ _ _ _ hp ih.o11) fun _ _ => (sum_range_succ (fun p => (A.blk p).dlw _) (n + 1)).symm
  · exact Is2.congr (outB_12 _ _ _ _ _ _ _ _ _ _ _ _ _ _ _ _ _ _ _ _ _ _ _ _ _ _ _ _ _ _ _ _ _ _ _ _ _ _ _ _ _ _ _ _ _ hp ih.o12) fun _ _ => (sum_range_succ (fun p => (A.blk p).dlb _) (n + 1)).symm
  · exact Is2.congr (outB_13 _ _ _ _ _ _ _ _ _ _ _ _ _ _ _ _ _ _ _ _ _ _ _ _ _ _ _ _ _ _ _ _ _ _ _ _ _ _ _ _ _ _ _ _ _ hp ih.o13) fun _ _ => (sum_range_succ (fun p => (A.blk p).duvb _) (n + 1)).symm

/-- The buffers after every point. -/
theorem outs (h : KArgs m c A) : ∀ (n : ℕ) (hn : n < cfg0.N), Outs A n (outsAt0 m c n hn)
  | 0, hn => outs_first m c h hn
  | n + 1, hn => outs_next m c h n hn (outs h n (Nat.lt_of_succ_lt hn))

/-- The gradient of the pre-activation, row by row: row `i` lies in chunk `i / 128`. -/
def dzAll (A : In) (i j : ℕ) : ℝ := (A.blk (i / 128)).dz (i % 128) j

theorem idx8 : ∀ t : Fin cfg0.N, win0_8.index t 0 = t.val ∧ win0_8.index t 1 = 0 := by
  decide +kernel

theorem arr8 (h : KArgs m c A) : (dats m 0 c).arrAt 8 cfg0.N =
    (fun j => ((dzAll A (j 0).val (j 1).val : ℝ) : EReal) : Vec Ideal S4096x2048 .bf16) := by
  refine (dats m 0 c).arrAt_eq_of_covers 8 _ (by decide +kernel) fun t hf y => ?_
  blk_simp
  have hN : t.val < 32 := t.isLt
  have h0 : (y 0).val < 128 := (y 0).isLt
  have e0 : win0_8.index t 0 = t.val := (idx8 t).1
  have e1 : win0_8.index t 1 = 0 := (idx8 t).2
  rw [after0_8, e0, e1, Nat.zero_mul, Nat.zero_add]
  have e := (outs m c h t.val t.isLt).o8 (y 0) (y 1)
  refine Eq.trans (congrArg _ (eq_ix2 y)) (e.trans ?_)
  unfold dzAll
  rw [show (t.val * 128 + (y 0).val) / 128 = t.val by omega, show (t.val * 128 + (y 0).val) % 128 = (y 0).val by omega]

/-- The only point that writes back one of the sums is the last. -/
theorem last_of {t : Fin cfg0.N} (h : t.val % 32 = 31) : t.val + 1 = 32 := by
  have hN : t.val < 32 := t.isLt
  omega

theorem idx9 : ∀ t : Fin cfg0.N, win0_9.index t 0 = 0 ∧ win0_9.index t 1 = 0 ∧ win0_9.index t 2 = 0 := by
  decide +kernel

theorem arr9 (h : KArgs m c A) : (dats m 0 c).arrAt 9 cfg0.N =
    (fun j => ((∑ p ∈ range 32, (A.blk p).dw (j 0).val (j 1).val (j 2).val : ℝ) : EReal) : Vec Ideal S8x128x128 .f32) := by
  refine (dats m 0 c).arrAt_eq_of_covers 9 _ (by decide +kernel) fun t hf y => ?_
  have hl := last_of ((flush0_9 t).mp hf)
  blk_simp
  rw [after0_9]
  have e := (outs m c h t.val t.isLt).o9 (y 0) (y 1) (y 2)
  rw [hl] at e
  refine Eq.trans (congrArg _ (eq_ix3 y)) (e.trans ?_)
  rw [(idx9 t).1, (idx9 t).2.1, (idx9 t).2.2]
  simp only [Nat.zero_mul, Nat.zero_add]

theorem idx10 : ∀ t : Fin cfg0.N, win0_10.index t 0 = 0 ∧ win0_10.index t 1 = 0 := by
  decide +kernel

theorem arr10 (h : KArgs m c A) : (dats m 0 c).arrAt 10 cfg0.N =
    (fun j => ((∑ p ∈ range 32, (A.blk p).dbt (j 0).val (j 1).val : ℝ) : EReal) : Vec Ideal S128x128 .f32) := by
  refine (dats m 0 c).arrAt_eq_of_covers 10 _ (by decide +kernel) fun t hf y => ?_
  have hl := last_of ((flush0_10 t).mp hf)
  blk_simp
  rw [after0_10]
  have e := (outs m c h t.val t.isLt).o10 (y 0) (y 1)
  rw [hl] at e
  refine Eq.trans (congrArg _ (eq_ix2 y)) (e.trans ?_)
  rw [(idx10 t).1, (idx10 t).2]
  simp only [Nat.zero_mul, Nat.zero_add]

theorem idx11 : ∀ t : Fin cfg0.N, win0_11.index t 1 = 0 := by
  decide +kernel

theorem arr11 (h : KArgs m c A) : (dats m 0 c).arrAt 11 cfg0.N =
    (fun j => ((∑ p ∈ range 32, (A.blk p).dlw (j 1).val : ℝ) : EReal) : Vec Ideal S1x1024 .f32) := by
  refine (dats m 0 c).arrAt_eq_of_covers 11 _ (by decide +kernel) fun t hf y => ?_
  have hl := last_of ((flush0_11 t).mp hf)
  blk_simp
  rw [after0_11]
  have e := (outs m c h t.val t.isLt).o11 (y 0) (y 1)
  rw [hl] at e
  refine Eq.trans (congrArg _ (eq_ix2 y)) (e.trans ?_)
  rw [idx11 t]
  simp only [Nat.zero_mul, Nat.zero_add]

theorem idx12 : ∀ t : Fin cfg0.N, win0_12.index t 1 = 0 := by
  decide +kernel

theorem arr12 (h : KArgs m c A) : (dats m 0 c).arrAt 12 cfg0.N =
    (fun j => ((∑ p ∈ range 32, (A.blk p).dlb (j 1).val : ℝ) : EReal) : Vec Ideal S1x1024 .f32) := by
  refine (dats m 0 c).arrAt_eq_of_covers 12 _ (by decide +kernel) fun t hf y => ?_
  have hl := last_of ((flush0_12 t).mp hf)
  blk_simp
  rw [after0_12]
  have e := (outs m c h t.val t.isLt).o12 (y 0) (y 1)
  rw [hl] at e
  refine Eq.trans (congrArg _ (eq_ix2 y)) (e.trans ?_)
  rw [idx12 t]
  simp only [Nat.zero_mul, Nat.zero_add]

theorem idx13 : ∀ t : Fin cfg0.N, win0_13.index t 1 = 0 := by
  decide +kernel

theorem arr13 (h : KArgs m c A) : (dats m 0 c).arrAt 13 cfg0.N =
    (fun j => ((∑ p ∈ range 32, (A.blk p).duvb (j 1).val : ℝ) : EReal) : Vec Ideal S1x2048 .f32) := by
  refine (dats m 0 c).arrAt_eq_of_covers 13 _ (by decide +kernel) fun t hf y => ?_
  have hl := last_of ((flush0_13 t).mp hf)
  blk_simp
  rw [after0_13]
  have e := (outs m c h t.val t.isLt).o13 (y 0) (y 1)
  rw [hl] at e
  refine Eq.trans (congrArg _ (eq_ix2 y)) (e.trans ?_)
  rw [idx13 t]
  simp only [Nat.zero_mul, Nat.zero_add]

end Sgu
end
-- ==== Proof.RefBack.lean ====
module

public import proofs.«01_k».proof.Proof.RefMix
public import proofs.«01_k».proof.Proof.Outs

@[expose] public section

/-!
The reference from the norm's cotangent to its six results, one operation at a time.
-/

noncomputable section

namespace Sgu

open Idealize.ShloMosaic Finset
open Cert.ReferenceIdeal Cert.ReferenceIdeal.Read

namespace In

variable (A : In)

/-- The cotangent of the normalised value branch at a row of the whole batch. -/
def G (i c : ℕ) : ℝ := A.D i c * A.lw c
/-- A row's sum of the centred value branch times that cotangent. -/
def s2 (i : ℕ) : ℝ := ∑ c ∈ range 1024, A.vc i c * A.G i c
/-- The cotangent of a row's variance, over the number of channels. -/
def w (i : ℕ) : ℝ := A.s2 i * (-(1 / 2) * (A.rs i / (A.var i + eps))) / 1024
/-- The cotangent of a row's mean, over the number of channels. -/
def k (i : ℕ) : ℝ :=
  (∑ c ∈ range 1024, -(A.G i c * A.rs i) + ∑ c ∈ range 1024, -(A.w i * (2 * A.vc i c))) / 1024
/-- The cotangent of the value branch at a row of the whole batch. -/
def V (i c : ℕ) : ℝ := (A.blk (i / 128)).dv (i % 128) c
/-- The cotangent of GELU's result at a row of the whole batch. -/
def Q (i j : ℕ) : ℝ := if j < 1024 then A.y i j * A.M i j else A.V i (j - 1024)

theorem sum_vc (i : ℕ) : ∑ c ∈ range 1024, A.vc i c = 0 := by
  simp only [vc, sum_sub_distrib, sum_const, card_range, nsmul_eq_mul, mu]
  push_cast
  ring

theorem rs_cube (i : ℕ) : A.rs i / (A.var i + eps) = A.rs i * A.rs i * A.rs i := by
  have h := A.var_eps_pos i
  have e : A.rs i * A.rs i = (A.var i + eps)⁻¹ := by
    unfold rs
    rw [← mul_inv, Real.mul_self_sqrt h.le]
  rw [e, div_eq_mul_inv, mul_comm]

/-- The two parts of the value branch's cotangent, through the variance and through the mean, add to
the formula of one chunk. -/
theorem V_eq (i c : ℕ) : A.G i c * A.rs i + A.w i * (2 * A.vc i c) + A.k i = A.V i c := by
  have e : A.V i c = A.rs i * (A.G i c - (∑ k ∈ range 1024, A.G i k) / 1024
      - A.vh i c * ((∑ k ∈ range 1024, A.G i k * A.vh i k) / 1024)) := by
    unfold V dv
    have r : 128 * (i / 128) + i % 128 = i := Nat.div_add_mod i 128
    have e1 : (A.blk (i / 128)).rs (i % 128) = A.rs i := congrArg A.rs r
    have e2 : ∀ c, (A.blk (i / 128)).vh (i % 128) c = A.vh i c := fun c => congrArg (A.vh · c) r
    have e3 : ∀ c, (A.blk (i / 128)).dh (i % 128) c = A.G i c := fun c => rfl
    simp only [e1, e2, e3]
  have e1 : ∑ c ∈ range 1024, A.G i c * A.vh i c = A.s2 i * A.rs i := by
    rw [s2, sum_mul]
    exact sum_congr rfl fun c _ => by unfold vh; ring
  have e2 : ∑ c ∈ range 1024, -(A.G i c * A.rs i) = -((∑ c ∈ range 1024, A.G i c) * A.rs i) := by
    rw [sum_neg_distrib, sum_mul]
  have e3 : ∑ c ∈ range 1024, -(A.w i * (2 * A.vc i c)) = 0 := by
    rw [sum_neg_distrib, ← mul_sum, ← mul_sum, sum_vc]
    ring
  rw [e, e1, k, e2, e3, w, rs_cube, vh]
  ring

/-- The cotangent of the pre-activation at a row of the whole batch. -/
theorem Z_eq (i j : ℕ) : A.Q i j * gg (A.z i j) = dzAll A i j := by
  unfold dzAll dz Q
  have r : 128 * (i / 128) + i % 128 = i := Nat.div_add_mod i 128
  have e1 : (A.blk (i / 128)).z (i % 128) j = A.z i j := congrArg (A.z · j) r
  have e2 : (A.blk (i / 128)).y (i % 128) j = A.y i j := congrArg (A.y · j) r
  have e3 : (A.blk (i / 128)).du (i % 128) j = A.y i j * A.M i j := congrArg (· * A.M i j) e2
  rw [e1, e3]
  rfl

end In

variable {A : In} {x0 : Vec Ideal S4096x2048 .bf16} {x1 : Vec Ideal S4096x1024 .bf16} {x2 : Vec Ideal S1x2048 .f32}
  {x3 x4 : Vec Ideal S1x1024 .f32} {x5 : Vec Ideal S1x8x128x128 .f32} {x6 : Vec Ideal S1x8x128 .f32}
  (h : Args A x0 x1 x2 x3 x4 x5 x6)

include h in
/-- A layout operation at an index. -/
theorem s_v99 (y : S1x4096x1024.Idx) : val_main_v99 (F := Ideal) x3 y =
    ((A.lw (y 2).val : ℝ) : EReal) := by
  exact (val_main_v99_apply _ y).trans (s_v57 h _)

include h in
/-- One operation at an index. -/
theorem s_v100 (y : S1x4096x1024.Idx) : val_main_v100 (F := Ideal) x0 x1 x2 x3 x5 y =
    ((A.G (y 1).val (y 2).val : ℝ) : EReal) := by
  rw [val_main_v100_apply, s_v92 h, s_v99 h]
  refine Eq.trans ((EReal.coe_mul _ _).symm) (congrArg Real.toEReal ?_)
  rfl

include h in
/-- One operation at an index. -/
theorem s_v102 (y : S1x4096x1024.Idx) : val_main_v102 (F := Ideal) x0 x1 x2 x3 x5 y =
    (((A.vc (y 1).val (y 2).val) * (A.G (y 1).val (y 2).val) : ℝ) : EReal) := by
  rw [val_main_v102_apply, s_v48 h, s_v100 h]
  exact (EReal.coe_mul _ _).symm

/-- A constant. -/
theorem s_cst_21 (y : S_.Idx) : val_main_cst_21 (F := Ideal) y =
    ((0 : ℝ) : EReal) := by
  exact (val_main_cst_21_apply y).trans c_zero

include h in
/-- A sum along one axis. -/
theorem s_v103 (y : S1x4096.Idx) : val_main_v103 (F := Ideal) x0 x1 x2 x3 x5 y =
    ((A.s2 (y 1).val : ℝ) : EReal) := by
  rw [val_main_v103_apply, s_cst_21]
  refine (sum_zero_fin 1024 (fun k => (A.vc (y 1).val k) * (A.G (y 1).val k)) _ fun k => s_v102 h _).trans (congrArg Real.toEReal ?_)
  rfl

include h in
/-- A layout operation at an index. -/
theorem s_v104 (y : S1x4096x1.Idx) : val_main_v104 (F := Ideal) x0 x1 x2 x3 x5 y =
    ((A.s2 (y 1).val : ℝ) : EReal) := by
  have b0 : (y 0).val < 1 := (y 0).isLt
  have b1 : (y 1).val < 4096 := (y 1).isLt
  have b2 : (y 2).val < 1 := (y 2).isLt
  rw [val_main_v104_apply, s_v103 h]
  refine congrArg Real.toEReal ?_
  show A.s2 ((((y 0).val * 4096 + (y 1).val) * 1 + (y 2).val) % 4096) = _
  exact congrArg A.s2 (by omega)

include h in
/-- A layout operation at an index. -/
theorem s_v105 (y : S1x4096x1024.Idx) : val_main_v105 (F := Ideal) x0 x2 y =
    ((A.rs (y 1).val : ℝ) : EReal) := by
  exact (val_main_v105_apply _ _ y).trans (s_v51 h _)

include h in
/-- One operation at an index. -/
theorem s_v106 (y : S1x4096x1024.Idx) : val_main_v106 (F := Ideal) x0 x1 x2 x3 x5 y =
    (((A.G (y 1).val (y 2).val) * (A.rs (y 1).val) : ℝ) : EReal) := by
  rw [val_main_v106_apply, s_v100 h, s_v105 h]
  exact (EReal.coe_mul _ _).symm

include h in
/-- One operation at an index. -/
theorem s_v107 (y : S1x4096x1.Idx) : val_main_v107 (F := Ideal) x0 x1 x2 x3 x5 y =
    (((A.s2 (y 1).val) * ((-(1 / 2)) * (A.rs (y 1).val / (A.var (y 1).val + eps))) : ℝ) : EReal) := by
  rw [val_main_v107_apply, s_v104 h, s_v54 h]
  exact (EReal.coe_mul _ _).symm

include h in
/-- One operation at an index. -/
theorem s_v108 (y : S1x4096x1024.Idx) : val_main_v108 (F := Ideal) x0 x1 x2 x3 x5 y =
    ((-((A.G (y 1).val (y 2).val) * (A.rs (y 1).val)) : ℝ) : EReal) := by
  rw [val_main_v108_apply, s_v106 h]
  exact (EReal.coe_neg _).symm

/-- A constant. -/
theorem s_cst_22 (y : S_.Idx) : val_main_cst_22 (F := Ideal) y =
    ((0 : ℝ) : EReal) := by
  exact (val_main_cst_22_apply y).trans c_zero

include h in
/-- A sum along one axis. -/
theorem s_v109 (y : S1x4096.Idx) : val_main_v109 (F := Ideal) x0 x1 x2 x3 x5 y =
    ((∑ k ∈ range 1024, (-((A.G (y 1).val k) * (A.rs (y 1).val))) : ℝ) : EReal) := by
  rw [val_main_v109_apply, s_cst_22]
  exact sum_zero_fin 1024 (fun k => -((A.G (y 1).val k) * (A.rs (y 1).val))) _ fun k => s_v108 h _

include h in
/-- A layout operation at an index. -/
theorem s_v110 (y : S1x4096x1.Idx) : val_main_v110 (F := Ideal) x0 x1 x2 x3 x5 y =
    ((∑ c ∈ range 1024, -(A.G (y 1).val c * A.rs (y 1).val) : ℝ) : EReal) := by
  have b0 : (y 0).val < 1 := (y 0).isLt
  have b1 : (y 1).val < 4096 := (y 1).isLt
  have b2 : (y 2).val < 1 := (y 2).isLt
  rw [val_main_v110_apply, s_v109 h]
  refine congrArg Real.toEReal ?_
  show ∑ k ∈ range 1024, (-((A.G ((((y 0).val * 4096 + (y 1).val) * 1 + (y 2).val) % 4096) k) * (A.rs ((((y 0).val * 4096 + (y 1).val) * 1 + (y 2).val) % 4096)))) = _
  exact congrArg (fun i => ∑ c ∈ range 1024, -(A.G i c * A.rs i)) (by omega)

/-- A constant. -/
theorem s_cst_23 (y : S_.Idx) : val_main_cst_23 (F := Ideal) y =
    ((1024 : ℝ) : EReal) := by
  exact (val_main_cst_23_apply y).trans c_n

/-- A layout operation at an index. -/
theorem s_v111 (y : S1x4096x1.Idx) : val_main_v111 (F := Ideal) y =
    ((1024 : ℝ) : EReal) := by
  exact (val_main_v111_apply  y).trans (s_cst_23 _)

include h in
/-- The cotangent of the variance, over the number of channels. -/
theorem s_v112 (y : S1x4096x1.Idx) : val_main_v112 (F := Ideal) x0 x1 x2 x3 x5 y =
    ((A.w (y 1).val : ℝ) : EReal) := by
  rw [val_main_v112_apply, s_v107 h, s_v111]
  refine Eq.trans (div_n _) (congrArg Real.toEReal ?_)
  rfl

/-- A constant. -/
theorem s_cst_24 (y : S_.Idx) : val_main_cst_24 (F := Ideal) y =
    ((0 : ℝ) : EReal) := by
  exact (val_main_cst_24_apply y).trans c_zero

include h in
/-- A sum over axes of one element. -/
theorem s_v113 (y : S4096.Idx) : val_main_v113 (F := Ideal) x0 x1 x2 x3 x5 y =
    ((A.w (y 0).val : ℝ) : EReal) := by
  unfold val_main_v113
  simp only [Host.reduceAdd, Ideal.hostReduceAdd_def]
  rw [reduce_ends, s_cst_24, EReal.coe_zero, zero_add, Fintype.sum_subsingleton _ (0, 0)]
  refine (s_v112 h _).trans (congrArg Real.toEReal ?_)
  rfl

include h in
/-- A layout operation at an index. -/
theorem s_v114 (y : S1x4096.Idx) : val_main_v114 (F := Ideal) x0 x1 x2 x3 x5 y =
    ((A.w (y 1).val : ℝ) : EReal) := by
  exact (val_main_v114_apply _ _ _ _ _ y).trans (s_v113 h _)

include h in
/-- A layout operation at an index. -/
theorem s_v115 (y : S1x4096x1024.Idx) : val_main_v115 (F := Ideal) x0 x1 x2 x3 x5 y =
    ((A.w (y 1).val : ℝ) : EReal) := by
  exact (val_main_v115_apply _ _ _ _ _ y).trans (s_v114 h _)

include h in
/-- One operation at an index. -/
theorem s_v116 (y : S1x4096x1024.Idx) : val_main_v116 (F := Ideal) x0 x1 x2 x3 x5 y =
    (((A.w (y 1).val) * ((2) * (A.vc (y 1).val (y 2).val)) : ℝ) : EReal) := by
  rw [val_main_v116_apply, s_v115 h, s_v42 h]
  exact (EReal.coe_mul _ _).symm

include h in
/-- One operation at an index. -/
theorem s_v117 (y : S1x4096x1024.Idx) : val_main_v117 (F := Ideal) x0 x1 x2 x3 x5 y =
    ((-((A.w (y 1).val) * ((2) * (A.vc (y 1).val (y 2).val))) : ℝ) : EReal) := by
  rw [val_main_v117_apply, s_v116 h]
  exact (EReal.coe_neg _).symm

/-- A constant. -/
theorem s_cst_25 (y : S_.Idx) : val_main_cst_25 (F := Ideal) y =
    ((0 : ℝ) : EReal) := by
  exact (val_main_cst_25_apply y).trans c_zero

include h in
/-- A sum along one axis. -/
theorem s_v118 (y : S1x4096.Idx) : val_main_v118 (F := Ideal) x0 x1 x2 x3 x5 y =
    ((∑ k ∈ range 1024, (-((A.w (y 1).val) * ((2) * (A.vc (y 1).val k)))) : ℝ) : EReal) := by
  rw [val_main_v118_apply, s_cst_25]
  exact sum_zero_fin 1024 (fun k => -((A.w (y 1).val) * ((2) * (A.vc (y 1).val k)))) _ fun k => s_v117 h _

include h in
/-- A layout operation at an index. -/
theorem s_v119 (y : S1x4096x1.Idx) : val_main_v119 (F := Ideal) x0 x1 x2 x3 x5 y =
    ((∑ c ∈ range 1024, -(A.w (y 1).val * (2 * A.vc (y 1).val c)) : ℝ) : EReal) := by
  have b0 : (y 0).val < 1 := (y 0).isLt
  have b1 : (y 1).val < 4096 := (y 1).isLt
  have b2 : (y 2).val < 1 := (y 2).isLt
  rw [val_main_v119_apply, s_v118 h]
  refine congrArg Real.toEReal ?_
  show ∑ k ∈ range 1024, (-((A.w ((((y 0).val * 4096 + (y 1).val) * 1 + (y 2).val) % 4096)) * ((2) * (A.vc ((((y 0).val * 4096 + (y 1).val) * 1 + (y 2).val) % 4096) k)))) = _
  exact congrArg (fun i => ∑ c ∈ range 1024, -(A.w i * (2 * A.vc i c))) (by omega)

include h in
/-- One operation at an index. -/
theorem s_v120 (y : S1x4096x1024.Idx) : val_main_v120 (F := Ideal) x0 x1 x2 x3 x5 y =
    ((((A.G (y 1).val (y 2).val) * (A.rs (y 1).val)) + ((A.w (y 1).val) * ((2) * (A.vc (y 1).val (y 2).val))) : ℝ) : EReal) := by
  rw [val_main_v120_apply, s_v106 h, s_v116 h]
  exact (EReal.coe_add _ _).symm

include h in
/-- One operation at an index. -/
theorem s_v121 (y : S1x4096x1.Idx) : val_main_v121 (F := Ideal) x0 x1 x2 x3 x5 y =
    (((∑ c ∈ range 1024, -(A.G (y 1).val c * A.rs (y 1).val)) + (∑ c ∈ range 1024, -(A.w (y 1).val * (2 * A.vc (y 1).val c))) : ℝ) : EReal) := by
  rw [val_main_v121_apply, s_v110 h, s_v119 h]
  exact (EReal.coe_add _ _).symm

/-- A constant. -/
theorem s_cst_26 (y : S_.Idx) : val_main_cst_26 (F := Ideal) y =
    ((1024 : ℝ) : EReal) := by
  exact (val_main_cst_26_apply y).trans c_n

/-- A layout operation at an index. -/
theorem s_v122 (y : S1x4096x1.Idx) : val_main_v122 (F := Ideal) y =
    ((1024 : ℝ) : EReal) := by
  exact (val_main_v122_apply  y).trans (s_cst_26 _)

include h in
/-- The cotangent of the mean, over the number of channels. -/
theorem s_v123 (y : S1x4096x1.Idx) : val_main_v123 (F := Ideal) x0 x1 x2 x3 x5 y =
    ((A.k (y 1).val : ℝ) : EReal) := by
  rw [val_main_v123_apply, s_v121 h, s_v122]
  refine Eq.trans (div_n _) (congrArg Real.toEReal ?_)
  rfl

/-- A constant. -/
theorem s_cst_27 (y : S_.Idx) : val_main_cst_27 (F := Ideal) y =
    ((0 : ℝ) : EReal) := by
  exact (val_main_cst_27_apply y).trans c_zero

include h in
/-- A sum over axes of one element. -/
theorem s_v124 (y : S4096.Idx) : val_main_v124 (F := Ideal) x0 x1 x2 x3 x5 y =
    ((A.k (y 0).val : ℝ) : EReal) := by
  unfold val_main_v124
  simp only [Host.reduceAdd, Ideal.hostReduceAdd_def]
  rw [reduce_ends, s_cst_27, EReal.coe_zero, zero_add, Fintype.sum_subsingleton _ (0, 0)]
  refine (s_v123 h _).trans (congrArg Real.toEReal ?_)
  rfl

include h in
/-- A layout operation at an index. -/
theorem s_v125 (y : S1x4096.Idx) : val_main_v125 (F := Ideal) x0 x1 x2 x3 x5 y =
    ((A.k (y 1).val : ℝ) : EReal) := by
  exact (val_main_v125_apply _ _ _ _ _ y).trans (s_v124 h _)

include h in
/-- A layout operation at an index. -/
theorem s_v126 (y : S1x4096x1024.Idx) : val_main_v126 (F := Ideal) x0 x1 x2 x3 x5 y =
    ((A.k (y 1).val : ℝ) : EReal) := by
  exact (val_main_v126_apply _ _ _ _ _ y).trans (s_v125 h _)

include h in
/-- The cotangent of the value branch. -/
theorem s_v127 (y : S1x4096x1024.Idx) : val_main_v127 (F := Ideal) x0 x1 x2 x3 x5 y =
    ((A.V (y 1).val (y 2).val : ℝ) : EReal) := by
  rw [val_main_v127_apply, s_v120 h, s_v126 h]
  refine Eq.trans ((EReal.coe_add _ _).symm) (congrArg Real.toEReal ?_)
  exact A.V_eq _ _

include h in
/-- The cotangent of GELU's result. -/
theorem s_v128 (y : S1x4096x2048.Idx) : val_main_v128 (F := Ideal) x0 x1 x2 x3 x4 x5 x6 y =
    ((A.Q (y 1).val (y 2).val : ℝ) : EReal) := by
  have b2 : (y 2).val < 2048 := (y 2).isLt
  unfold val_main_v128
  by_cases hp : (y 2).val < 1024
  · refine (concatenate_pair_apply_left (s₁ := S1x4096x1024) (s₂ := S1x4096x1024) 2 _ _ _ y rfl (ix3 (y 0) (y 1) ⟨(y 2).val, hp⟩) fun b => ?_).trans
      ((s_v80 h _).trans (congrArg Real.toEReal ?_))
    · match b with
      | ⟨0, _⟩ => rfl
      | ⟨1, _⟩ => rfl
      | ⟨2, _⟩ => rfl
    · exact (if_pos hp).symm
  · refine (concatenate_pair_apply_right (s₁ := S1x4096x1024) (s₂ := S1x4096x1024) 2 _ _ _ y rfl rfl (ix3 (y 0) (y 1) ⟨(y 2).val - 1024, by omega⟩)
      (fun b hb => ?_) ?_).trans ((s_v127 h _).trans (congrArg Real.toEReal ?_))
    · match b with
      | ⟨0, _⟩ => rfl
      | ⟨1, _⟩ => rfl
      | ⟨2, _⟩ => exact absurd rfl hb
    · show (y 2).val - 1024 + 1024 = (y 2).val
      omega
    · exact (if_neg hp).symm

include h in
/-- One operation at an index. -/
theorem s_v129 (y : S1x4096x2048.Idx) : val_main_v129 (F := Ideal) x0 x1 x2 x3 x4 x5 x6 y =
    (((A.z (y 1).val (y 2).val) * (A.Q (y 1).val (y 2).val) : ℝ) : EReal) := by
  rw [val_main_v129_apply, s_v5 h, s_v128 h]
  exact (EReal.coe_mul _ _).symm

include h in
/-- One operation at an index. -/
theorem s_v130 (y : S1x4096x2048.Idx) : val_main_v130 (F := Ideal) x0 x1 x2 x3 x4 x5 x6 y =
    (((A.Q (y 1).val (y 2).val) * ((1 / 2) * ((1) + (th (A.z (y 1).val (y 2).val)))) : ℝ) : EReal) := by
  rw [val_main_v130_apply, s_v128 h, s_v30 h]
  exact (EReal.coe_mul _ _).symm

/-- A constant. -/
theorem s_cst_28 (y : S_.Idx) : val_main_cst_28 (F := Ideal) y =
    ((1 / 2 : ℝ) : EReal) := by
  exact (val_main_cst_28_apply y).trans c_half

/-- A layout operation at an index. -/
theorem s_v131 (y : S1x4096x2048.Idx) : val_main_v131 (F := Ideal) y =
    ((1 / 2 : ℝ) : EReal) := by
  exact (val_main_v131_apply  y).trans (s_cst_28 _)

include h in
/-- One operation at an index. -/
theorem s_v132 (y : S1x4096x2048.Idx) : val_main_v132 (F := Ideal) x0 x1 x2 x3 x4 x5 x6 y =
    (((1 / 2) * ((A.z (y 1).val (y 2).val) * (A.Q (y 1).val (y 2).val)) : ℝ) : EReal) := by
  rw [val_main_v132_apply, s_v131, s_v129 h]
  exact (EReal.coe_mul _ _).symm

include h in
/-- One operation at an index. -/
theorem s_v133 (y : S1x4096x2048.Idx) : val_main_v133 (F := Ideal) x0 x1 x2 x3 x4 x5 x6 y =
    ((((1 / 2) * ((A.z (y 1).val (y 2).val) * (A.Q (y 1).val (y 2).val))) * (((1) + (th (A.z (y 1).val (y 2).val))) * ((1) - (th (A.z (y 1).val (y 2).val)))) : ℝ) : EReal) := by
  rw [val_main_v133_apply, s_v132 h, s_v26 h]
  exact (EReal.coe_mul _ _).symm

/-- A constant. -/
theorem s_cst_29 (y : S_.Idx) : val_main_cst_29 (F := Ideal) y =
    ((gs : ℝ) : EReal) := by
  exact (val_main_cst_29_apply y).trans c_gs

/-- A layout operation at an index. -/
theorem s_v134 (y : S1x4096x2048.Idx) : val_main_v134 (F := Ideal) y =
    ((gs : ℝ) : EReal) := by
  exact (val_main_v134_apply  y).trans (s_cst_29 _)

include h in
/-- One operation at an index. -/
theorem s_v135 (y : S1x4096x2048.Idx) : val_main_v135 (F := Ideal) x0 x1 x2 x3 x4 x5 x6 y =
    (((gs) * (((1 / 2) * ((A.z (y 1).val (y 2).val) * (A.Q (y 1).val (y 2).val))) * (((1) + (th (A.z (y 1).val (y 2).val))) * ((1) - (th (A.z (y 1).val (y 2).val))))) : ℝ) : EReal) := by
  rw [val_main_v135_apply, s_v134, s_v133 h]
  exact (EReal.coe_mul _ _).symm

include h in
/-- One operation at an index. -/
theorem s_v136 (y : S1x4096x2048.Idx) : val_main_v136 (F := Ideal) x0 x1 x2 x3 x4 x5 x6 y =
    ((((A.Q (y 1).val (y 2).val) * ((1 / 2) * ((1) + (th (A.z (y 1).val (y 2).val))))) + ((gs) * (((1 / 2) * ((A.z (y 1).val (y 2).val) * (A.Q (y 1).val (y 2).val))) * (((1) + (th (A.z (y 1).val (y 2).val))) * ((1) - (th (A.z (y 1).val (y 2).val)))))) : ℝ) : EReal) := by
  rw [val_main_v136_apply, s_v130 h, s_v135 h]
  exact (EReal.coe_add _ _).symm

/-- A layout operation at an index. -/
theorem s_v137 (y : S1x4096x2048.Idx) : val_main_v137 (F := Ideal) y =
    ((gc : ℝ) : EReal) := by
  exact (val_main_v137_apply  y).trans (s_v10 _)

include h in
/-- One operation at an index. -/
theorem s_v138 (y : S1x4096x2048.Idx) : val_main_v138 (F := Ideal) x0 x1 x2 x3 x4 x5 x6 y =
    (((gc) * ((gs) * (((1 / 2) * ((A.z (y 1).val (y 2).val) * (A.Q (y 1).val (y 2).val))) * (((1) + (th (A.z (y 1).val (y 2).val))) * ((1) - (th (A.z (y 1).val (y 2).val)))))) : ℝ) : EReal) := by
  rw [val_main_v138_apply, s_v137, s_v135 h]
  exact (EReal.coe_mul _ _).symm

include h in
/-- One operation at an index. -/
theorem s_v139 (y : S1x4096x2048.Idx) : val_main_v139 (F := Ideal) x0 x1 x2 x3 x4 x5 x6 y =
    ((((gc) * ((gs) * (((1 / 2) * ((A.z (y 1).val (y 2).val) * (A.Q (y 1).val (y 2).val))) * (((1) + (th (A.z (y 1).val (y 2).val))) * ((1) - (th (A.z (y 1).val (y 2).val))))))) * ((3) * ((A.z (y 1).val (y 2).val) * (A.z (y 1).val (y 2).val))) : ℝ) : EReal) := by
  rw [val_main_v139_apply, s_v138 h, s_v15 h]
  exact (EReal.coe_mul _ _).symm

include h in
/-- The cotangent of the pre-activation. -/
theorem s_v140 (y : S1x4096x2048.Idx) : val_main_v140 (F := Ideal) x0 x1 x2 x3 x4 x5 x6 y =
    ((dzAll A (y 1).val (y 2).val : ℝ) : EReal) := by
  rw [val_main_v140_apply, s_v136 h, s_v139 h]
  refine Eq.trans ((EReal.coe_add _ _).symm) (congrArg Real.toEReal ?_)
  rw [← A.Z_eq]
  unfold gg gc
  ring

include h in
/-- A layout operation at an index. -/
theorem s_v141 (y : S1x8x128.Idx) : val_main_v141 (F := Ideal) x0 x1 x2 y =
    ((∑ p ∈ range 32, (A.blk p).dbt (y 2).val (y 1).val : ℝ) : EReal) := by
  exact (val_main_v141_apply _ _ _ y).trans (s_v85 h _)

include h in
/-- A layout operation at an index. -/
theorem s_v142 (y : S1x8x128x128.Idx) : val_main_v142 (F := Ideal) x0 x1 x2 x3 x4 y =
    ((∑ p ∈ range 32, (A.blk p).dw (y 1).val (y 2).val (y 3).val : ℝ) : EReal) := by
  exact (val_main_v142_apply _ _ _ _ _ y).trans (s_v91 h _)

include h in
/-- A layout operation at an index. -/
theorem s_v143 (y : S1x1024.Idx) : val_main_v143 (F := Ideal) x0 x1 x2 x5 y =
    ((∑ p ∈ range 32, (A.blk p).dlb (y 1).val : ℝ) : EReal) := by
  exact (val_main_v143_apply _ _ _ _ y).trans (s_v95 h _)

include h in
/-- A layout operation at an index. -/
theorem s_v144 (y : S1x1024.Idx) : val_main_v144 (F := Ideal) x0 x1 x2 x5 y =
    ((∑ p ∈ range 32, (A.blk p).dlw (y 1).val : ℝ) : EReal) := by
  exact (val_main_v144_apply _ _ _ _ y).trans (s_v101 h _)

/-- A constant. -/
theorem s_cst_30 (y : S_.Idx) : val_main_cst_30 (F := Ideal) y =
    ((0 : ℝ) : EReal) := by
  exact (val_main_cst_30_apply y).trans c_zero

include h in
/-- A sum along one axis. -/
theorem s_v145 (y : S1x2048.Idx) : val_main_v145 (F := Ideal) x0 x1 x2 x3 x4 x5 x6 y =
    ((∑ k ∈ range 4096, (dzAll A k (y 1).val) : ℝ) : EReal) := by
  rw [val_main_v145_apply, s_cst_30]
  exact sum_zero_fin 4096 (fun k => dzAll A k (y 1).val) _ fun k => s_v140 h _

include h in
/-- A layout operation at an index. -/
theorem s_v146 (y : S1x1x2048.Idx) : val_main_v146 (F := Ideal) x0 x1 x2 x3 x4 x5 x6 y =
    ((∑ k ∈ range 4096, dzAll A k (y 2).val : ℝ) : EReal) := by
  have b0 : (y 0).val < 1 := (y 0).isLt
  have b1 : (y 1).val < 1 := (y 1).isLt
  have b2 : (y 2).val < 2048 := (y 2).isLt
  rw [val_main_v146_apply, s_v145 h]
  refine congrArg Real.toEReal ?_
  show ∑ k ∈ range 4096, (dzAll A k ((((y 0).val * 1 + (y 1).val) * 2048 + (y 2).val) % 2048)) = _
  exact congrArg (fun c => ∑ k ∈ range 4096, dzAll A k c) (by omega)

/-- A constant. -/
theorem s_cst_31 (y : S_.Idx) : val_main_cst_31 (F := Ideal) y =
    ((0 : ℝ) : EReal) := by
  exact (val_main_cst_31_apply y).trans c_zero

include h in
/-- The gradient of the pre-activation's bias. -/
theorem s_v147 (y : S2048.Idx) : val_main_v147 (F := Ideal) x0 x1 x2 x3 x4 x5 x6 y =
    ((∑ p ∈ range 32, (A.blk p).duvb (y 0).val : ℝ) : EReal) := by
  unfold val_main_v147
  simp only [Host.reduceAdd, Ideal.hostReduceAdd_def]
  rw [reduce_first2, s_cst_31, EReal.coe_zero, zero_add, Fintype.sum_subsingleton _ (0, 0)]
  refine (s_v146 h _).trans (congrArg Real.toEReal ?_)
  refine (sum_rows _).trans (sum_congr rfl fun p _ => sum_congr rfl fun i hi => ?_)
  have hi' := mem_range.1 hi
  unfold dzAll
  rw [show (128 * p + i) / 128 = p by omega, show (128 * p + i) % 128 = i by omega]
  rfl

include h in
/-- A layout operation at an index. -/
theorem s_v148 (y : S1x2048.Idx) : val_main_v148 (F := Ideal) x0 x1 x2 x3 x4 x5 x6 y =
    ((∑ p ∈ range 32, (A.blk p).duvb (y 1).val : ℝ) : EReal) := by
  exact (val_main_v148_apply _ _ _ _ _ _ _ y).trans (s_v147 h _)

include h in
/-- A layout operation at an index. -/
theorem s_v149 (y : S4096x2048.Idx) : val_main_v149 (F := Ideal) x0 x1 x2 x3 x4 x5 x6 y =
    ((dzAll A (y 0).val (y 1).val : ℝ) : EReal) := by
  have b0 : (y 0).val < 4096 := (y 0).isLt
  have b1 : (y 1).val < 2048 := (y 1).isLt
  rw [val_main_v149_apply, s_v140 h]
  refine congrArg Real.toEReal ?_
  show dzAll A (((y 0).val * 2048 + (y 1).val) / 2048 % 4096) (((y 0).val * 2048 + (y 1).val) % 2048) = _
  exact cong2 (dzAll A) (by omega) (by omega)

include h in
/-- The first result: the cotangent of the pre-activation. -/
theorem s_v150 (y : S4096x2048.Idx) : val_main_v150 (F := Ideal) x0 x1 x2 x3 x4 x5 x6 y =
    ((dzAll A (y 0).val (y 1).val : ℝ) : EReal) := by
  exact s_v149 h y

include h in
/-- The second result: the spatial weight's gradient. -/
theorem s_v151 (y : S8x128x128.Idx) : val_main_v151 (F := Ideal) x0 x1 x2 x3 x4 y =
    ((∑ p ∈ range 32, (A.blk p).dw (y 0).val (y 1).val (y 2).val : ℝ) : EReal) := by
  have b0 : (y 0).val < 8 := (y 0).isLt
  have b1 : (y 1).val < 128 := (y 1).isLt
  have b2 : (y 2).val < 128 := (y 2).isLt
  rw [val_main_v151_apply, s_v142 h]
  refine congrArg Real.toEReal ?_
  show ∑ p ∈ range 32, (A.blk p).dw ((((y 0).val * 128 + (y 1).val) * 128 + (y 2).val) / 16384 % 8) ((((y 0).val * 128 + (y 1).val) * 128 + (y 2).val) / 128 % 128) ((((y 0).val * 128 + (y 1).val) * 128 + (y 2).val) % 128) = _
  exact cong3 (fun g t s => ∑ p ∈ range 32, (A.blk p).dw g t s) (by omega) (by omega) (by omega)

include h in
/-- A layout operation at an index. -/
theorem s_v152 (y : S8x128.Idx) : val_main_v152 (F := Ideal) x0 x1 x2 y =
    ((∑ p ∈ range 32, (A.blk p).dbt (y 1).val (y 0).val : ℝ) : EReal) := by
  have b0 : (y 0).val < 8 := (y 0).isLt
  have b1 : (y 1).val < 128 := (y 1).isLt
  rw [val_main_v152_apply, s_v141 h]
  refine congrArg Real.toEReal ?_
  show ∑ p ∈ range 32, (A.blk p).dbt (((y 0).val * 128 + (y 1).val) % 128) (((y 0).val * 128 + (y 1).val) / 128 % 8) = _
  exact cong2 (fun t g => ∑ p ∈ range 32, (A.blk p).dbt t g) (by omega) (by omega)

include h in
/-- A layout operation at an index. -/
theorem s_v153 (y : S128x8.Idx) : val_main_v153 (F := Ideal) x0 x1 x2 y =
    ((∑ p ∈ range 32, (A.blk p).dbt (y 0).val (y 1).val : ℝ) : EReal) := by
  exact (val_main_v153_apply _ _ _ y).trans (s_v152 h _)

include h in
/-- The third result: the spatial bias's gradient, with zeros past the eighth group. -/
theorem s_v154 (y : S128x128.Idx) : val_main_v154 (F := Ideal) x0 x1 x2 y =
    ((∑ p ∈ range 32, (A.blk p).dbt (y 0).val (y 1).val : ℝ) : EReal) := by
  have b0 : (y 0).val < 128 := (y 0).isLt
  have b1 : (y 1).val < 128 := (y 1).isLt
  unfold val_main_v154
  by_cases hp : (y 1).val < 8
  · refine (pad_apply_of_inside _ _ _ _ _ _ _ y (ix2 (y 0) ⟨(y 1).val, hp⟩) fun a => ?_).trans (s_v153 h _)
    match a with
    | ⟨0, _⟩ => show (y 0).val = 0 + (y 0).val * (0 + 1); omega
    | ⟨1, _⟩ => show (y 1).val = 0 + (y 1).val * (0 + 1); omega
  · refine (pad_apply_of_not_inside _ _ _ _ _ _ _ y ⟨1, by decide⟩ ?_).trans ?_
    · show ¬(0 ≤ (y 1).val ∧ ((y 1).val - 0) % (0 + 1) = 0 ∧ ((y 1).val - 0) / (0 + 1) < 8)
      omega
    · rw [val_main_call1_v0_apply, val_main_c_apply]
      refine Eq.trans (b := ((0 : ℝ) : EReal)) ?_ (congrArg Real.toEReal
        (sum_eq_zero fun p _ => (A.blk p).dbt_zero (y 0).val (not_lt.1 hp)).symm)
      show ((((0#32 : BitVec 32).toInt : ℤ) : ℝ) : EReal) = _
      simp

end Sgu
end
-- ==== Proof.Finite.lean ====
module

public import proofs.«01_k».proof.Defs
public import proofs.«01_k».proof.Proof.Arrays

@[expose] public section

/-!
What the precondition gives: every element of every argument array is a real number, so that the
seven arguments hold the real numbers of one `In`.
-/

noncomputable section

namespace Sgu

open Idealize.ShloMosaic Idealize.ShloMosaic.TcCoe Idealize.SL.Sem
open Cert.KernelIdeal Cert.KernelIdeal.Gen

/-- The shape facts of the precondition: a scalar is broadcast along every axis of each argument. -/
theorem preFacts : Cert.Pre_finite.Facts where
  bcast_S_S4096x2048 := by decide
  bcast_S_S4096x1024 := by decide
  bcast_S_S1x2048 := by decide
  bcast_S_S1x1024 := by decide
  bcast_S_S1x8x128x128 := by decide
  bcast_S_S1x8x128 := by decide

/-- An extended real whose absolute value is below `+∞` is a real number. -/
theorem real_of_lt {x : EReal} (h : BitVec.ofBool (decide (max x (-x) < ⊤)) = 1#1) :
    x = ((x.toReal : ℝ) : EReal) := by
  have hd : max x (-x) < ⊤ := by
    by_contra hn
    simp [hn] at h
  rw [max_lt_iff] at hd
  refine (EReal.coe_toReal hd.1.ne fun hb => ?_).symm
  rw [hb] at hd
  simp at hd

theorem inf16 : Ideal.ofBits .bf16 0x7F80#16 = ⊤ := by simp [Ideal.ofBits, Ideal.ieee]
theorem inf32 : Ideal.ofBits .f32 0x7F800000#32 = ⊤ := by simp [Ideal.ofBits, Ideal.ieee]

/-- A bf16 array that passes the test of finiteness holds real numbers. -/
theorem real16 {s : Shape} (v : FVec Ideal s .bf16)
    (hb : (⟨0, ![]⟩ : Shape).BroadcastsInDim s (![] : Fin 0 → Fin s.rank))
    (h : cmpf .olt (Host.absf v) (broadcastInDim s ![] hb (constant ⟨0, ![]⟩ .bf16 0x7F80#16)) = fun _ => 1#1)
    (i : s.Idx) : v i = (((v i : EReal).toReal : ℝ) : EReal) := by
  refine real_of_lt ?_
  have e : BitVec.ofBool (decide (max (v i : EReal) (-(v i : EReal)) < Ideal.ofBits .bf16 0x7F80#16)) = 1#1 :=
    congrFun h i
  rwa [inf16] at e

/-- An f32 array that passes the test of finiteness holds real numbers. -/
theorem real32 {s : Shape} (v : FVec Ideal s .f32)
    (hb : (⟨0, ![]⟩ : Shape).BroadcastsInDim s (![] : Fin 0 → Fin s.rank))
    (h : cmpf .olt (Host.absf v) (broadcastInDim s ![] hb (constant ⟨0, ![]⟩ .f32 0x7F800000#32)) = fun _ => 1#1)
    (i : s.Idx) : v i = (((v i : EReal).toReal : ℝ) : EReal) := by
  refine real_of_lt ?_
  have e : BitVec.ofBool (decide (max (v i : EReal) (-(v i : EReal)) < Ideal.ofBits .f32 0x7F800000#32)) = 1#1 :=
    congrFun h i
  rwa [inf32] at e

/-- The real numbers of a matrix, zero outside it. -/
def re2 {n k : ℕ} (v : (⟨2, ![n, k]⟩ : Shape).Idx → EReal) (i j : ℕ) : ℝ :=
  if h : i < n ∧ j < k then (v (ix2 ⟨i, h.1⟩ ⟨j, h.2⟩)).toReal else 0

/-- The real numbers of a stack of matrices, zero outside it. -/
def re3 {l n k : ℕ} (v : (⟨3, ![l, n, k]⟩ : Shape).Idx → EReal) (q i j : ℕ) : ℝ :=
  if h : q < l ∧ i < n ∧ j < k then (v (ix3 ⟨q, h.1⟩ ⟨i, h.2.1⟩ ⟨j, h.2.2⟩)).toReal else 0

/-- The real numbers of the only entry of a stack of stacks of matrices, zero outside it. -/
def re4 {l n k : ℕ} (v : (⟨4, ![1, l, n, k]⟩ : Shape).Idx → EReal) (q i j : ℕ) : ℝ :=
  if h : q < l ∧ i < n ∧ j < k then (v (ix4 0 ⟨q, h.1⟩ ⟨i, h.2.1⟩ ⟨j, h.2.2⟩)).toReal else 0

theorem is2_re {n k : ℕ} (v : (⟨2, ![n, k]⟩ : Shape).Idx → EReal)
    (h : ∀ i, v i = ((v i).toReal : EReal)) : Is2 v (re2 v) := by
  intro i j
  rw [re2, dif_pos ⟨i.isLt, j.isLt⟩]
  exact h _

theorem row_re {k : ℕ} (v : (⟨2, ![1, k]⟩ : Shape).Idx → EReal)
    (h : ∀ i, v i = ((v i).toReal : EReal)) : Is2 v (fun _ j => re2 v 0 j) := by
  intro i j
  obtain rfl : i = 0 := Subsingleton.elim _ _
  exact is2_re v h 0 j

theorem is3_re {n k : ℕ} (v : (⟨3, ![1, n, k]⟩ : Shape).Idx → EReal)
    (h : ∀ i, v i = ((v i).toReal : EReal)) : Is3 v (fun _ g i => re3 v 0 g i) := by
  intro o i j
  obtain rfl : o = 0 := Subsingleton.elim _ _
  dsimp only
  rw [re3, dif_pos ⟨Nat.one_pos, i.isLt, j.isLt⟩]
  exact h _

theorem is4_re {l n k : ℕ} (v : (⟨4, ![1, l, n, k]⟩ : Shape).Idx → EReal)
    (h : ∀ i, v i = ((v i).toReal : EReal)) : Is4 v (re4 v) := by
  intro o q i j
  obtain rfl : o = 0 := Subsingleton.elim _ _
  rw [re4, dif_pos ⟨q.isLt, i.isLt, j.isLt⟩]
  exact h _

attribute [local instance] preFacts

/-- Under the precondition the kernel's arguments hold real numbers. -/
theorem exists_args (m : (ℓ : Loc nD τ sig) → Buf (Elt Ideal) ℓ) (h : Cert.Pre_KernelIdeal_finite m)
    (c : Dev nD) : ∃ A : In, KArgs m c A := by
  obtain ⟨h0, h1, h2, h3, h4, h5, h6⟩ := h c
  exact ⟨⟨re2 (m ((c : Thread nD τ).loc main_arg0)), re2 (m ((c : Thread nD τ).loc main_arg1)),
      re2 (m ((c : Thread nD τ).loc main_arg2)) 0, re2 (m ((c : Thread nD τ).loc main_arg3)) 0,
      re2 (m ((c : Thread nD τ).loc main_arg4)) 0, re4 (m ((c : Thread nD τ).loc main_arg5)),
      re3 (m ((c : Thread nD τ).loc main_arg6)) 0⟩,
    is2_re _ (real16 _ _ h0), is2_re _ (real16 _ _ h1), row_re _ (real32 _ _ h2), row_re _ (real32 _ _ h3),
    row_re _ (real32 _ _ h4), is4_re _ (real32 _ _ h5), is3_re _ (real32 _ _ h6)⟩

end Sgu

end
-- ==== Proof.Claims.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.RefBack
public import proofs.«01_k».proof.Proof.Finite
public import Idealize.ShloMosaic.Lib.Quiescent

@[expose] public section

/-!
The claims of the gating unit's gradient: the frames of the three programs, the two named
constants, and the equality of the six results over the extended reals.
-/

noncomputable section

namespace Sgu

open Idealize.ShloMosaic Idealize.ShloMosaic.TcCoe Idealize.SL.Sem Finset

attribute [local instance] preFacts

/-- The kernel as it runs terminates, keeps its arguments and ends with every counter at zero. -/
theorem frame_p : Cert.quiescent_Kernel := fun m ρ _ => Cert.Kernel.Gen.frame m ρ

/-- So does the kernel over the extended reals, -/
theorem frame_pi : Cert.quiescent_KernelIdeal := fun m ρ _ => Cert.KernelIdeal.Gen.frame m ρ

/-- and the same holds of finite arguments in particular. -/
theorem frame_pi_finite : Cert.quiescent_KernelIdeal_pre_finite := fun m ρ _ => Cert.KernelIdeal.Gen.frame m ρ

/-- The reference over the extended reals terminates and keeps its arguments, -/
theorem frame_ri : Cert.quiescent_ReferenceIdeal := fun m ρ _ =>
  (θ_run Cert.ReferenceIdeal.defs _ _).mono
    (fun r h => ⟨fun c => (h c).2.2.2.2.2.2, sem_eq_zero_of_no_sems (by decide) r.2⟩)
    (Cert.ReferenceIdeal.Value.run (F := Ideal) m ρ)

/-- and the same holds of finite arguments in particular. -/
theorem frame_ri_finite : Cert.quiescent_ReferenceIdeal_pre_finite := fun m ρ _ => frame_ri m ρ trivial

/-- The two named constants round to the floats that the kernel uses. -/
theorem preserves : Cert.preserves_Kernel_KernelIdeal :=
  ⟨IdealRules.named_const.statement Cert.KernelIdeal.κ "gelu_c" .f32 0x3D372713#32 _ rfl,
   IdealRules.named_const.statement Cert.KernelIdeal.κ "gelu_c3" .f32 0x3E095D4F#32 _ rfl⟩

section Values

open Cert.KernelIdeal Cert.KernelIdeal.Gen Cert.ReferenceIdeal.Read

variable (m : (ℓ : Loc nD τ sig) → Buf (Elt Ideal) ℓ) (c : Dev nD) {A : In} (h : KArgs m c A)
include h

theorem eq8 : val_main_v150 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = (dats m 0 c).arrAt 8 cfg0.N :=
  (funext fun y => s_v150 h y).trans (arr8 m c h).symm

theorem eq9 : val_main_v151 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    = (dats m 0 c).arrAt 9 cfg0.N :=
  (funext fun y => s_v151 h y).trans (arr9 m c h).symm

theorem eq10 : val_main_v154 (F := Ideal) (m ((c : Thread nD τ).loc main_arg0)) (m ((c : Thread nD τ).loc main_arg1))
    (m ((c : Thread nD τ).loc main_arg2)) = (dats m 0 c).arrAt 10 cfg0.N :=
  (funext fun y => s_v154 h y).trans (arr10 m c h).symm

theorem eq11 : val_main_v144 (F := Ideal) (m ((c : Thread nD τ).loc main_arg0)) (m ((c : Thread nD τ).loc main_arg1))
    (m ((c : Thread nD τ).loc main_arg2)) (m ((c : Thread nD τ).loc main_arg5)) = (dats m 0 c).arrAt 11 cfg0.N :=
  (funext fun y => s_v144 h y).trans (arr11 m c h).symm

theorem eq12 : val_main_v143 (F := Ideal) (m ((c : Thread nD τ).loc main_arg0)) (m ((c : Thread nD τ).loc main_arg1))
    (m ((c : Thread nD τ).loc main_arg2)) (m ((c : Thread nD τ).loc main_arg5)) = (dats m 0 c).arrAt 12 cfg0.N :=
  (funext fun y => s_v143 h y).trans (arr12 m c h).symm

theorem eq13 : val_main_v148 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) = (dats m 0 c).arrAt 13 cfg0.N :=
  (funext fun y => s_v148 h y).trans (arr13 m c h).symm

end Values

/-- On finite arguments the kernel and the reference end with the same six arrays: each stage of the
reference and each array of the kernel is one and the same function of the arguments' real numbers. -/
theorem algebraic : Cert.algebraic_KernelIdeal_ReferenceIdeal_pre_finite := by
  intro m ρ m' ρ' hpre hagree
  refine ⟨_, _, _, _, _, _, Cert.KernelIdeal.Value.run_blocks (F := Ideal) m ρ, ?_⟩
  refine (θ_run Cert.ReferenceIdeal.defs _ _).mono (fun r hr c => ?_)
    (Cert.ReferenceIdeal.Value.run (F := Ideal) m' ρ')
  obtain ⟨A, hA⟩ := exists_args m hpre c
  obtain ⟨a0, a1, a2, a3, a4, a5, a6⟩ := hagree c
  obtain ⟨r0, r1, r2, r3, r4, r5, rest⟩ := hr c
  refine ⟨?_, ?_, ?_, ?_, ?_, ?_, rest⟩
  · refine (r0.trans (Cert.ReferenceIdeal.Read.val_main_v150_eq _)).trans ?_
    rw [StableHlo.launchContents_devRef, StableHlo.launchContents_devRef, StableHlo.launchContents_devRef,
      StableHlo.launchContents_devRef, StableHlo.launchContents_devRef, StableHlo.launchContents_devRef,
      StableHlo.launchContents_devRef, a0, a1, a2, a3, a4, a5, a6]
    exact eq8 m c hA
  · refine (r1.trans (Cert.ReferenceIdeal.Read.val_main_v151_eq _)).trans ?_
    rw [StableHlo.launchContents_devRef, StableHlo.launchContents_devRef, StableHlo.launchContents_devRef,
      StableHlo.launchContents_devRef, StableHlo.launchContents_devRef, a0, a1, a2, a3, a4]
    exact eq9 m c hA
  · refine (r2.trans (Cert.ReferenceIdeal.Read.val_main_v154_eq _)).trans ?_
    rw [StableHlo.launchContents_devRef, StableHlo.launchContents_devRef, StableHlo.launchContents_devRef, a0, a1, a2]
    exact eq10 m c hA
  · refine (r3.trans (Cert.ReferenceIdeal.Read.val_main_v144_eq _)).trans ?_
    rw [StableHlo.launchContents_devRef, StableHlo.launchContents_devRef, StableHlo.launchContents_devRef,
      StableHlo.launchContents_devRef, a0, a1, a2, a5]
    exact eq11 m c hA
  · refine (r4.trans (Cert.ReferenceIdeal.Read.val_main_v143_eq _)).trans ?_
    rw [StableHlo.launchContents_devRef, StableHlo.launchContents_devRef, StableHlo.launchContents_devRef,
      StableHlo.launchContents_devRef, a0, a1, a2, a5]
    exact eq12 m c hA
  · refine (r5.trans (Cert.ReferenceIdeal.Read.val_main_v148_eq _)).trans ?_
    rw [StableHlo.launchContents_devRef, StableHlo.launchContents_devRef, StableHlo.launchContents_devRef,
      StableHlo.launchContents_devRef, StableHlo.launchContents_devRef, StableHlo.launchContents_devRef,
      StableHlo.launchContents_devRef, a0, a1, a2, a3, a4, a5, a6]
    exact eq13 m c hA

end Sgu

end
-- ==== Proof.Products.lean ====
module

public import Idealize.ShloMosaic.Lib.Pipeline.ValueKit
public import Idealize.ShloMosaic.Lib.Claim
public import Idealize.ShloMosaic.Lib.KernelVsHost
public import Idealize.ShloMosaic.Lib.Pipeline.ReadBack
public import Idealize.ShloMosaic.Lib.Quiescent

@[expose] public section

/-!
Products of matrices of extended reals, entry by entry: blocks of a matrix, blocks of a product,
and sums cut into consecutive pieces.
-/

noncomputable section

namespace Products

open Idealize.ShloMosaic Finset

theorem zero2 : (![0, 0] : Fin 2 → Nat) = fun _ => 0 := funext fun a => by fin_cases a <;> rfl

theorem zero3 : (![0, 0, 0] : Fin 3 → Nat) = fun _ => 0 := funext fun a => by fin_cases a <;> rfl

/-- A matrix of extended reals. -/
abbrev Mat (n p : ℕ) : Type := (⟨2, ![n, p]⟩ : Shape).Idx → EReal

/-- Two indices of a matrix with the same numbers are one. -/
theorem idx_eq {n p : ℕ} {i : Fin n} {j : Fin p} {e : (⟨2, ![n, p]⟩ : Shape).Idx} (h0 : (e 0).val = i.val)
    (h1 : (e 1).val = j.val) : ix2 i j = e := by
  rw [eq_ix2 e]
  exact congrArg₂ ix2 (Fin.ext h0.symm) (Fin.ext h1.symm)

/-- `x` is the part of `X` that begins at row `a` and column `b`. -/
abbrev Block {N P n p : ℕ} (X : Mat N P) (x : Mat n p) (a b : ℕ) : Prop :=
  ∀ (i : Fin n) (j : Fin p) (hi : a + i.val < N) (hj : b + j.val < P),
    x (ix2 i j) = X (ix2 ⟨a + i.val, hi⟩ ⟨b + j.val, hj⟩)

/-- An entry of a part is an entry of the matrix. -/
theorem block_read {N P n p : ℕ} {X : Mat N P} {x : Mat n p} {r s : ℕ} (hx : Block X x r s) (i : Fin n) (j : Fin p)
    {e : (⟨2, ![N, P]⟩ : Shape).Idx} (h0 : (e 0).val = r + i.val) (h1 : (e 1).val = s + j.val) : x (ix2 i j) = X e := by
  have a0 : (e 0).val < N := (e 0).isLt
  have a1 : (e 1).val < P := (e 1).isLt
  exact (hx i j (by omega) (by omega)).trans (congrArg X (idx_eq h0 h1))

/-- The product of two matrices. -/
def nn {n p l : ℕ} (x : Mat n l) (w : Mat l p) : Mat n p := fun j => ∑ k : Fin l, x (ix2 (j 0) k) * w (ix2 k (j 1))

/-- The product of a matrix with the transpose of another. -/
def nt {n p l : ℕ} (x : Mat n l) (w : Mat p l) : Mat n p := fun j => ∑ k : Fin l, x (ix2 (j 0) k) * w (ix2 (j 1) k)

/-- The product of the transpose of a matrix with another. -/
def tn {n p l : ℕ} (x : Mat l n) (w : Mat l p) : Mat n p := fun j => ∑ k : Fin l, x (ix2 k (j 0)) * w (ix2 k (j 1))

/-- A sum cut into its first `p` terms and the `q` others. -/
theorem split {n : ℕ} (p q : ℕ) (h : n = p + q) (f : Fin n → EReal) :
    ∑ k, f k = ∑ a : Fin p, f ⟨a.val, by omega⟩ + ∑ b : Fin q, f ⟨p + b.val, by omega⟩ := by
  subst h
  exact Fin.sum_univ_add f

/-- Rows of one matrix by columns of another make a block of their product. -/
theorem nn_block {N P L n p : ℕ} {X : Mat N L} {W : Mat L P} {x : Mat n L} {w : Mat L p} {r s : ℕ} (hx : Block X x r 0)
    (hw : Block W w 0 s) (i : Fin n) (j : Fin p) {e : (⟨2, ![N, P]⟩ : Shape).Idx} (h0 : (e 0).val = r + i.val)
    (h1 : (e 1).val = s + j.val) : nn x w (ix2 i j) = nn X W e := by
  have a0 : (e 0).val < N := (e 0).isLt
  have a1 : (e 1).val < P := (e 1).isLt
  refine sum_congr rfl fun k _ => congrArg₂ (fun a b : EReal => a * b) ((hx i k (by omega) (by omega)).trans (congrArg X ?_))
    ((hw k j (by omega) (by omega)).trans (congrArg W ?_))
  · exact idx_eq h0 (by show k.val = 0 + k.val; omega)
  · exact idx_eq (by show k.val = 0 + k.val; omega) h1

/-- The part of `nt X W` that `l` columns of `X`, from column `u`, and as many of `W`, from column
`v`, contribute. -/
def seg {N P L M : ℕ} (X : Mat N L) (W : Mat P M) (l u v : ℕ) (hu : u + l ≤ L) (hv : v + l ≤ M) : Mat N P := fun e =>
  ∑ k : Fin l, X (ix2 (e 0) ⟨u + k.val, by omega⟩) * W (ix2 (e 1) ⟨v + k.val, by omega⟩)

/-- Rows of parts of two matrices make a block of one such contribution. -/
theorem nt_seg {N P L M l n p : ℕ} {X : Mat N L} {W : Mat P M} {x : Mat n l} {w : Mat p l} {r s u v : ℕ}
    (hx : Block X x r u) (hw : Block W w s v) (hu : u + l ≤ L) (hv : v + l ≤ M) (i : Fin n) (j : Fin p)
    {e : (⟨2, ![N, P]⟩ : Shape).Idx} (h0 : (e 0).val = r + i.val) (h1 : (e 1).val = s + j.val) :
    nt x w (ix2 i j) = seg X W l u v hu hv e := by
  have a0 : (e 0).val < N := (e 0).isLt
  have a1 : (e 1).val < P := (e 1).isLt
  refine sum_congr rfl fun k _ => congrArg₂ (fun a b : EReal => a * b) ((hx i k (by omega) (by omega)).trans (congrArg X ?_))
    ((hw j k (by omega) (by omega)).trans (congrArg W ?_))
  · exact congrArg₂ ix2 (Fin.ext h0.symm) rfl
  · exact congrArg₂ ix2 (Fin.ext h1.symm) rfl

/-- Rows of one matrix by rows of another make a block of the product with the transpose. -/
theorem nt_block {N P L n p : ℕ} {X : Mat N L} {W : Mat P L} {x : Mat n L} {w : Mat p L} {r s : ℕ} (hx : Block X x r 0)
    (hw : Block W w s 0) (i : Fin n) (j : Fin p) {e : (⟨2, ![N, P]⟩ : Shape).Idx} (h0 : (e 0).val = r + i.val)
    (h1 : (e 1).val = s + j.val) : nt x w (ix2 i j) = nt X W e := by
  refine (nt_seg hx hw (by omega) (by omega) i j h0 h1).trans (sum_congr rfl fun k _ => ?_)
  exact congrArg₂ (fun a b : Fin L => X (ix2 (e 0) a) * W (ix2 (e 1) b)) (Fin.ext (Nat.zero_add _)) (Fin.ext (Nat.zero_add _))

/-- Columns of one matrix by columns of another, first over the upper half of the rows and then over
the lower, make a block of the transpose's product. -/
theorem tn_halves {N P L l n p : ℕ} (hl : L = l + l) {X : Mat L N} {W : Mat L P} {x x' : Mat l n} {w w' : Mat l p} {r s : ℕ}
    (hx : Block X x 0 r) (hx' : Block X x' l r) (hw : Block W w 0 s) (hw' : Block W w' l s) (i : Fin n) (j : Fin p)
    {e : (⟨2, ![N, P]⟩ : Shape).Idx} (h0 : (e 0).val = r + i.val) (h1 : (e 1).val = s + j.val) :
    tn x w (ix2 i j) + tn x' w' (ix2 i j) = tn X W e := by
  have a0 : (e 0).val < N := (e 0).isLt
  have a1 : (e 1).val < P := (e 1).isLt
  refine Eq.trans ?_ (split l l hl _).symm
  refine congrArg₂ (fun a b : EReal => a + b) (sum_congr rfl fun k _ => ?_) (sum_congr rfl fun k _ => ?_)
  · refine congrArg₂ (fun a b : EReal => a * b) ((hx k i (by omega) (by omega)).trans (congrArg X ?_))
      ((hw k j (by omega) (by omega)).trans (congrArg W ?_))
    · exact idx_eq (by show k.val = 0 + k.val; omega) h0
    · exact idx_eq (by show k.val = 0 + k.val; omega) h1
  · refine congrArg₂ (fun a b : EReal => a * b) ((hx' k i (by omega) (by omega)).trans (congrArg X ?_))
      ((hw' k j (by omega) (by omega)).trans (congrArg W ?_))
    · exact idx_eq rfl h0
    · exact idx_eq rfl h1

/-- The same where only the first `l` columns of `w` come from `W` and its other columns are zero. -/
theorem nt_padded {N P L M l q n p : ℕ} {X : Mat N L} {W : Mat P M} {x : Mat n q} {w : Mat p q} {r s u v : ℕ} (c : ℕ)
    (hq : q = l + c) (hx : Block X x r u)
    (hw : ∀ (i : Fin p) (j : Fin q) (_ : j.val < l) (hi : s + i.val < P) (hj : v + j.val < M),
      w (ix2 i j) = W (ix2 ⟨s + i.val, hi⟩ ⟨v + j.val, hj⟩))
    (hz : ∀ (i : Fin p) (j : Fin q), l ≤ j.val → w (ix2 i j) = 0)
    (hu : u + l ≤ L) (hv : v + l ≤ M) (i : Fin n) (j : Fin p)
    {e : (⟨2, ![N, P]⟩ : Shape).Idx} (h0 : (e 0).val = r + i.val) (h1 : (e 1).val = s + j.val) :
    nt x w (ix2 i j) = seg X W l u v hu hv e := by
  have a0 : (e 0).val < N := (e 0).isLt
  have a1 : (e 1).val < P := (e 1).isLt
  refine (split l c hq _).trans ?_
  refine Eq.trans (congrArg₂ (fun a b : EReal => a + b) (sum_congr rfl fun k _ => ?_) (sum_eq_zero fun k _ => ?_)) (add_zero _)
  · refine congrArg₂ (fun a b : EReal => a * b) ((hx i _ (by omega) (by show u + k.val < L; omega)).trans (congrArg X ?_))
      ((hw j _ k.isLt (by omega) (by show v + k.val < M; omega)).trans (congrArg W ?_))
    · exact congrArg₂ ix2 (Fin.ext h0.symm) rfl
    · exact congrArg₂ ix2 (Fin.ext h1.symm) rfl
  · exact (congrArg (fun b : EReal => x (ix2 i _) * b) (hz j _ (Nat.le_add_right l k.val))).trans (mul_zero _)

/-- The columns of a matrix from column `o`. -/
theorem columns {n M l o : ℕ} (x : Mat n M) (h : (⟨2, ![n, M]⟩ : Shape).Slices ![0, o] ⟨2, ![n, l]⟩) (i : Fin n) (k : Fin l)
    (hk : o + k.val < M) : extractStridedSlice ⟨2, ![n, l]⟩ ![0, o] x h (ix2 i k) = x (ix2 i ⟨o + k.val, hk⟩) :=
  extractStridedSlice_apply _ x h _ _ fun a => by
    fin_cases a
    · exact (Nat.zero_add _).symm
    · rfl

/-- A stack of one matrix, as that matrix. -/
abbrev flat {n p : ℕ} (x : (⟨3, ![1, n, p]⟩ : Shape).Idx → EReal) : Mat n p := fun e => x (ix3 0 (e 0) (e 1))

/-- The columns of a matrix cut into a stack of `q` matrices: matrix `b` holds the columns from `p * b`. -/
theorem stack {n q p M : ℕ} (hM : M = q * p) (x : Mat n M) (hc : (⟨2, ![n, M]⟩ : Shape).ShapeCasts ⟨3, ![n, q, p]⟩)
    (ht : (⟨3, ![n, q, p]⟩ : Shape).Transposes [1, 0, 2] ⟨3, ![q, n, p]⟩) (b : Fin q) (i : Fin n) (k : Fin p) {j : Fin M}
    (hj : j.val = p * b.val + k.val) :
    transpose ⟨3, ![q, n, p]⟩ [1, 0, 2] (shapeCast ⟨3, ![n, q, p]⟩ x hc) ht (ix3 b i k) = x (ix2 i j) := by
  rw [transpose_apply _ _ ht (ix3 b i k) (ix3 i b k) (fun a => by fin_cases a <;> rfl)]
  refine shapeCast_apply x hc (ix3 i b k) (ix2 i j) ?_
  rewrite [Shape.rowMajor_val_three, Shape.rowMajor_val_two]
  show i.val * M + j.val = (i.val * q + b.val) * p + k.val
  rw [hj, hM]
  ring

/-- Matrices side by side, read in the one that begins at column `o`. -/
theorem beside {N M l : ℕ} (xs : List ((s : Shape) × (s.Idx → EReal)))
    (h : Shape.Concatenates (xs.map (·.1)) ⟨2, ![N, M]⟩ 1) (n : ℕ) (hn : n < xs.length) (x : Mat N l)
    (hx : xs[n] = ⟨⟨2, ![N, l]⟩, x⟩) (o : ℕ)
    (ho : (((xs.take n).map (·.1)).map fun s => if h : s.rank = 2 then s.size ((1 : Fin 2).cast h.symm) else 0).sum = o)
    (i : Fin N) (k : Fin M) (j : Fin l) (hk : k.val = o + j.val) :
    concatenate ⟨2, ![N, M]⟩ 1 xs h (ix2 i k) = x (ix2 i j) := by
  refine concatenate_apply_piece 1 xs h (ix2 i k) n hn _ x hx rfl o ho (ix2 i j) (fun b hb => ?_) hk.symm
  fin_cases b
  · rfl
  · exact absurd rfl hb

/-- Stacks of matrices, one stack after another, read in the stack that begins at matrix `o`. -/
theorem above {Q q n p : ℕ} (xs : List ((s : Shape) × (s.Idx → EReal)))
    (h : Shape.Concatenates (xs.map (·.1)) ⟨3, ![Q, n, p]⟩ 0) (b : ℕ) (hb : b < xs.length)
    (x : (⟨3, ![q, n, p]⟩ : Shape).Idx → EReal) (hx : xs[b] = ⟨⟨3, ![q, n, p]⟩, x⟩) (o : ℕ)
    (ho : (((xs.take b).map (·.1)).map fun s => if h : s.rank = 3 then s.size ((0 : Fin 3).cast h.symm) else 0).sum = o)
    (r : Fin Q) (i : Fin n) (k : Fin p) (a : Fin q) (ha : r.val = o + a.val) :
    concatenate ⟨3, ![Q, n, p]⟩ 0 xs h (ix3 r i k) = x (ix3 a i k) := by
  refine concatenate_apply_piece 0 xs h (ix3 r i k) b hb _ x hx rfl o ho (ix3 a i k) (fun d hd => ?_) ha.symm
  fin_cases d
  · exact absurd rfl hd
  · rfl
  · rfl

/-- Matrices one below another, read in the one that begins at row `o`. -/
theorem below {N n p : ℕ} (xs : List ((s : Shape) × (s.Idx → EReal)))
    (h : Shape.Concatenates (xs.map (·.1)) ⟨2, ![N, p]⟩ 0) (b : ℕ) (hb : b < xs.length) (x : Mat n p)
    (hx : xs[b] = ⟨⟨2, ![n, p]⟩, x⟩) (o : ℕ)
    (ho : (((xs.take b).map (·.1)).map fun s => if h : s.rank = 2 then s.size ((0 : Fin 2).cast h.symm) else 0).sum = o)
    (i : Fin N) (k : Fin p) (a : Fin n) (ha : i.val = o + a.val) :
    concatenate ⟨2, ![N, p]⟩ 0 xs h (ix2 i k) = x (ix2 a k) := by
  refine concatenate_apply_piece 0 xs h (ix2 i k) b hb _ x hx rfl o ho (ix2 a k) (fun d hd => ?_) ha.symm
  fin_cases d
  · exact absurd rfl hd
  · rfl

/-- The columns of a matrix as a stack of matrices of `p` columns, which begins at number `o` of a
longer stack. -/
def sheets {n M : ℕ} [NeZero M] (q p o : ℕ) (x : Mat n M) : (⟨3, ![q, n, p]⟩ : Shape).Idx → EReal := fun e =>
  x (ix2 (e 1) (Fin.ofNat M (p * ((e 0).val - o) + (e 2).val)))

/-- One entry of that stack. -/
theorem sheets_apply {n M q p o : ℕ} [NeZero M] (x : Mat n M) (e : (⟨3, ![q, n, p]⟩ : Shape).Idx) (j : Fin M)
    (hj : p * ((e 0).val - o) + (e 2).val = j.val) : sheets q p o x e = x (ix2 (e 1) j) :=
  congrArg (fun a => x (ix2 (e 1) a)) (Fin.ext (by rw [Fin.val_ofNat, hj]; exact Nat.mod_eq_of_lt j.isLt))

/-- The rows of a matrix, which begin at row `o` of a taller one. -/
def rows {n p : ℕ} [NeZero n] (N o : ℕ) (x : Mat n p) : Mat N p := fun e => x (ix2 (Fin.ofNat n ((e 0).val - o)) (e 1))

/-- One entry of those rows. -/
theorem rows_apply {n p N o : ℕ} [NeZero n] (x : Mat n p) (e : (⟨2, ![N, p]⟩ : Shape).Idx) (i : Fin n)
    (hi : (e 0).val - o = i.val) : rows N o x e = x (ix2 i (e 1)) :=
  congrArg (fun a => x (ix2 a (e 1))) (Fin.ext (by rw [Fin.val_ofNat, hi]; exact Nat.mod_eq_of_lt i.isLt))

end Products

end
-- ==== Proof.InDgrad.lean ====
module

public import proofs.«01_k».proof.Defs
public import proofs.«01_k».proof.Proof.Products
public import proofs.«01_k».proof.Proof.Gen.InDgrad.Frame
public import proofs.«01_k».proof.Proof.Gen.InDgradIdeal.Value
public import proofs.«01_k».proof.Proof.Gen.InDgradReferenceIdeal.Run
public import proofs.«01_k».proof.Proof.Gen.InDgradReferenceIdeal.Read

@[expose] public section

/-!
The gradient of the input projection's input: the kernel adds six products, of the six gradients with
the columns of the weight that made them, and the reference makes one product of the gradients side by
side.
-/

noncomputable section

namespace InDgrad

open Idealize.ShloMosaic Idealize.ShloMosaic.TcCoe Idealize.SL.Sem Finset
open Cert.InDgradIdeal Cert.InDgradIdeal.Gen

variable (m : (ℓ : Loc nD τ sig) → Buf (Elt Ideal) ℓ) (c : Dev nD)

/-- The six products of one grid point, entry by entry. -/
theorem pay (x0 w0 : Vec Ideal S512x2048 .bf16) (x1 w1 : Vec Ideal S512x3072 .bf16) (x2 w2 : Vec Ideal S512x128 .bf16)
    (x3 w3 : Vec Ideal S512x2048 .bf16) (x4 w4 x5 w5 : Vec Ideal S512x1024 .bf16) (i j : Fin 512) :
    k0_pay1 (k0_pay2 x0 w0 x1 w1 x2 w2 x3 w3 x4 w4) (k0_pay3 x5 w5) (ix2 i j) = Products.nt x0 w0 (ix2 i j) +
      Products.nt x1 w1 (ix2 i j) + Products.nt x2 w2 (ix2 i j) + Products.nt x3 w3 (ix2 i j) +
      Products.nt x4 w4 (ix2 i j) + Products.nt x5 w5 (ix2 i j) := by
  pointwise [k0_pay1, k0_pay2, k0_pay3]
  rfl

/-- The blocks of point `t`: row block `t / 2` of the gradients, row block `t % 2` of the weights. -/
theorem idx : ∀ t : Fin cfg0.N, (win0_0.index t = ![t.val / 2, 0] ∧ win0_1.index t = ![t.val % 2, 0]) ∧
    (win0_2.index t = ![t.val / 2, 0] ∧ win0_3.index t = ![t.val % 2, 0]) ∧
    (win0_4.index t = ![t.val / 2, 0] ∧ win0_5.index t = ![t.val % 2, 0]) ∧
    (win0_6.index t = ![t.val / 2, 0] ∧ win0_7.index t = ![t.val % 2, 0]) ∧
    (win0_8.index t = ![t.val / 2, 0] ∧ win0_9.index t = ![t.val % 2, 0]) ∧
    (win0_10.index t = ![t.val / 2, 0] ∧ win0_11.index t = ![t.val % 2, 0]) ∧
    win0_12.index t = ![t.val / 2, t.val % 2] :=
  (by decide +kernel : ∀ t : Fin grid0.N, (win0_0.index t = ![t.val / 2, 0] ∧ win0_1.index t = ![t.val % 2, 0]) ∧
    (win0_2.index t = ![t.val / 2, 0] ∧ win0_3.index t = ![t.val % 2, 0]) ∧
    (win0_4.index t = ![t.val / 2, 0] ∧ win0_5.index t = ![t.val % 2, 0]) ∧
    (win0_6.index t = ![t.val / 2, 0] ∧ win0_7.index t = ![t.val % 2, 0]) ∧
    (win0_8.index t = ![t.val / 2, 0] ∧ win0_9.index t = ![t.val % 2, 0]) ∧
    (win0_10.index t = ![t.val / 2, 0] ∧ win0_11.index t = ![t.val % 2, 0]) ∧
    win0_12.index t = ![t.val / 2, t.val % 2])

/-! The weight's columns as the call finds them. -/

theorem V_v0 : V m c main_v0 = extractStridedSlice S1024x2048 ![0, 0] (m ((c : Thread nD τ).loc main_arg6))
    slices_S1024x9248_S1024x2048_0_0 := by
  simp only [V, hostOps0, hostOps0_1, List.flatten_cons, List.flatten_nil, List.append_nil, List.cons_append, List.nil_append]
  after_results

theorem V_v1 : V m c main_v1 = extractStridedSlice S1024x3072 ![0, 2048] (m ((c : Thread nD τ).loc main_arg6))
    slices_S1024x9248_S1024x3072_0_2048 := by
  simp only [V, hostOps0, hostOps0_1, List.flatten_cons, List.flatten_nil, List.append_nil, List.cons_append, List.nil_append]
  after_results

theorem V_v3 : V m c main_v3 = extractStridedSlice S1024x2048 ![0, 5152] (m ((c : Thread nD τ).loc main_arg6))
    slices_S1024x9248_S1024x2048_0_5152 := by
  simp only [V, hostOps0, hostOps0_1, List.flatten_cons, List.flatten_nil, List.append_nil, List.cons_append, List.nil_append]
  after_results

theorem V_v5 : V m c main_v5 = extractStridedSlice S1024x1024 ![0, 7200] (m ((c : Thread nD τ).loc main_arg6))
    slices_S1024x9248_S1024x1024_0_7200 := by
  simp only [V, hostOps0, hostOps0_1, List.flatten_cons, List.flatten_nil, List.append_nil, List.cons_append, List.nil_append]
  after_results

theorem V_v6 : V m c main_v6 = extractStridedSlice S1024x1024 ![0, 8224] (m ((c : Thread nD τ).loc main_arg6))
    slices_S1024x9248_S1024x1024_0_8224 := by
  simp only [V, hostOps0, hostOps0_1, List.flatten_cons, List.flatten_nil, List.append_nil, List.cons_append, List.nil_append]
  after_results

theorem V_v7 : V m c main_v7 = pad S1024x128 ![0, 0] ![0, 96] ![0, 0]
    (extractStridedSlice S1024x32 ![0, 5120] (m ((c : Thread nD τ).loc main_arg6)) slices_S1024x9248_S1024x32_0_5120 :
      Vec Ideal S1024x32 .bf16)
    (sitofp (F := Ideal) .bf16 (constantI S_ 32 0#32) : Vec Ideal S_ .bf16) pads_S1024x32_S1024x128_000_0960 h_S_ := by
  simp only [V, hostOps0, hostOps0_1, List.flatten_cons, List.flatten_nil, List.append_nil, List.cons_append, List.nil_append]
  after_results
  rfl

theorem v7_inside (i : Fin 1024) (k : Fin 128) (hk : k.val < 32) :
    V m c main_v7 (ix2 i k) = m ((c : Thread nD τ).loc main_arg6) (ix2 i ⟨5120 + k.val, by omega⟩) := by
  rw [V_v7]
  refine (pad_apply_of_inside _ _ _ _ _ _ _ _ (ix2 i (⟨k.val, hk⟩ : Fin 32)) fun a => ?_).trans (Products.columns _ _ i ⟨k.val, hk⟩ _)
  fin_cases a
  · show i.val = 0 + i.val * (0 + 1)
    omega
  · show k.val = 0 + k.val * (0 + 1)
    omega

theorem v7_outside (i : Fin 1024) (k : Fin 128) (hk : 32 ≤ k.val) : V m c main_v7 (ix2 i k) = (0 : EReal) := by
  rw [V_v7]
  refine (pad_apply_of_not_inside _ _ _ _ _ _ _ _ (1 : Fin 2) fun h => ?_).trans ?_
  · have h2 : (k.val - 0) / (0 + 1) < 32 := h.2.2
    omega
  · show ((((0#32 : BitVec 32).toInt : ℝ)) : EReal) = 0
    simp

theorem in0 (t : Fin cfg0.N) : Products.Block (N := 4096) (P := 2048) (n := 512) (p := 2048)
    (m ((c : Thread nD τ).loc main_arg0)) (iblk m c 0 t) (512 * (t.val / 2)) 0 := fun i k hi hk => by
  blk_ext [iblk, V_main_arg0, (idx t).1.1]

theorem in1 (t : Fin cfg0.N) : Products.Block (N := 1024) (P := 9248) (n := 512) (p := 2048)
    (m ((c : Thread nD τ).loc main_arg6)) (iblk m c 1 t) (512 * (t.val % 2)) 0 := fun i k hi hk => by
  have e : iblk m c 1 t (ix2 i k) = V m c main_v0 (ix2 ⟨512 * (t.val % 2) + i.val, hi⟩ k) := by
    blk_ext [iblk, (idx t).1.2]
  rw [e, V_v0]
  exact Products.columns _ _ _ k hk

theorem in2 (t : Fin cfg0.N) : Products.Block (N := 4096) (P := 3072) (n := 512) (p := 3072)
    (m ((c : Thread nD τ).loc main_arg1)) (iblk m c 2 t) (512 * (t.val / 2)) 0 := fun i k hi hk => by
  blk_ext [iblk, V_main_arg1, (idx t).2.1.1]

theorem in3 (t : Fin cfg0.N) : Products.Block (N := 1024) (P := 9248) (n := 512) (p := 3072)
    (m ((c : Thread nD τ).loc main_arg6)) (iblk m c 3 t) (512 * (t.val % 2)) 2048 := fun i k hi hk => by
  have e : iblk m c 3 t (ix2 i k) = V m c main_v1 (ix2 ⟨512 * (t.val % 2) + i.val, hi⟩ k) := by
    blk_ext [iblk, (idx t).2.1.2]
  rw [e, V_v1]
  exact Products.columns _ _ _ k hk

theorem in4 (t : Fin cfg0.N) : Products.Block (N := 4096) (P := 128) (n := 512) (p := 128)
    (m ((c : Thread nD τ).loc main_arg2)) (iblk m c 4 t) (512 * (t.val / 2)) 0 := fun i k hi hk => by
  blk_ext [iblk, V_main_arg2, (idx t).2.2.1.1]

theorem in5 (t : Fin cfg0.N) (i : Fin 512) (k : Fin 128) (hi : 512 * (t.val % 2) + i.val < 1024) :
    iblk m c 5 t (ix2 i k) = V m c main_v7 (ix2 ⟨512 * (t.val % 2) + i.val, hi⟩ k) := by
  blk_ext [iblk, (idx t).2.2.1.2]

theorem in6 (t : Fin cfg0.N) : Products.Block (N := 4096) (P := 2048) (n := 512) (p := 2048)
    (m ((c : Thread nD τ).loc main_arg3)) (iblk m c 6 t) (512 * (t.val / 2)) 0 := fun i k hi hk => by
  blk_ext [iblk, V_main_arg3, (idx t).2.2.2.1.1]

theorem in7 (t : Fin cfg0.N) : Products.Block (N := 1024) (P := 9248) (n := 512) (p := 2048)
    (m ((c : Thread nD τ).loc main_arg6)) (iblk m c 7 t) (512 * (t.val % 2)) 5152 := fun i k hi hk => by
  have e : iblk m c 7 t (ix2 i k) = V m c main_v3 (ix2 ⟨512 * (t.val % 2) + i.val, hi⟩ k) := by
    blk_ext [iblk, (idx t).2.2.2.1.2]
  rw [e, V_v3]
  exact Products.columns _ _ _ k hk

theorem in8 (t : Fin cfg0.N) : Products.Block (N := 4096) (P := 1024) (n := 512) (p := 1024)
    (m ((c : Thread nD τ).loc main_arg4)) (iblk m c 8 t) (512 * (t.val / 2)) 0 := fun i k hi hk => by
  blk_ext [iblk, V_main_arg4, (idx t).2.2.2.2.1.1]

theorem in9 (t : Fin cfg0.N) : Products.Block (N := 1024) (P := 9248) (n := 512) (p := 1024)
    (m ((c : Thread nD τ).loc main_arg6)) (iblk m c 9 t) (512 * (t.val % 2)) 7200 := fun i k hi hk => by
  have e : iblk m c 9 t (ix2 i k) = V m c main_v5 (ix2 ⟨512 * (t.val % 2) + i.val, hi⟩ k) := by
    blk_ext [iblk, (idx t).2.2.2.2.1.2]
  rw [e, V_v5]
  exact Products.columns _ _ _ k hk

theorem in10 (t : Fin cfg0.N) : Products.Block (N := 4096) (P := 1024) (n := 512) (p := 1024)
    (m ((c : Thread nD τ).loc main_arg5)) (iblk m c 10 t) (512 * (t.val / 2)) 0 := fun i k hi hk => by
  blk_ext [iblk, V_main_arg5, (idx t).2.2.2.2.2.1.1]

theorem in11 (t : Fin cfg0.N) : Products.Block (N := 1024) (P := 9248) (n := 512) (p := 1024)
    (m ((c : Thread nD τ).loc main_arg6)) (iblk m c 11 t) (512 * (t.val % 2)) 8224 := fun i k hi hk => by
  have e : iblk m c 11 t (ix2 i k) = V m c main_v6 (ix2 ⟨512 * (t.val % 2) + i.val, hi⟩ k) := by
    blk_ext [iblk, (idx t).2.2.2.2.2.1.2]
  rw [e, V_v6]
  exact Products.columns _ _ _ k hk

/-- The result, as the six contributions that the kernel adds. -/
def spec (x0 : Products.Mat 4096 2048) (x1 : Products.Mat 4096 3072) (x2 : Products.Mat 4096 128) (x3 : Products.Mat 4096 2048)
    (x4 x5 : Products.Mat 4096 1024) (w : Products.Mat 1024 9248) : Products.Mat 4096 1024 := fun e =>
  Products.seg x0 w 2048 0 0 (by omega) (by omega) e + Products.seg x1 w 3072 0 2048 (by omega) (by omega) e +
    Products.seg x2 w 32 0 5120 (by omega) (by omega) e + Products.seg x3 w 2048 0 5152 (by omega) (by omega) e +
    Products.seg x4 w 1024 0 7200 (by omega) (by omega) e + Products.seg x5 w 1024 0 8224 (by omega) (by omega) e

/-- The array that the call ends with. -/
theorem arr : (dats m 0 c).arrAt 12 cfg0.N = (spec (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) :
    Vec Ideal S4096x1024 .bf16) := by
  refine (dats m 0 c).arrAt_eq_of_covers 12 _ (by decide +kernel) fun t hf y => ?_
  have e0 : ((win0_12.blk t).view.emb y 0).val = win0_12.index t 0 * 512 + 1 * (y 0).val := rfl
  have e1 : ((win0_12.blk t).view.emb y 1).val = win0_12.index t 1 * 512 + 1 * (y 1).val := rfl
  rw [(idx t).2.2.2.2.2.2] at e0 e1
  have f0 := e0.trans (show _ = 512 * (t.val / 2) + (y 0).val by simp [Nat.mul_comm])
  have f1 := e1.trans (show _ = 512 * (t.val % 2) + (y 1).val by simp [Nat.mul_comm])
  blk_simp
  rw [after0_12]
  unfold out0_12
  rw [View.canon_unit_zero (S := S512x512) Products.zero2]
  simp only [View.ld_unit_zero (S := S512x2048) Products.zero2, View.ld_unit_zero (S := S512x3072) Products.zero2,
    View.ld_unit_zero (S := S512x128) Products.zero2, View.ld_unit_zero (S := S512x1024) Products.zero2]
  refine (congrArg _ (eq_ix2 y)).trans ((pay _ _ _ _ _ _ _ _ _ _ _ _ (y 0) (y 1)).trans ?_)
  exact congrArg₂ (fun a b : EReal => a + b) (congrArg₂ (fun a b : EReal => a + b) (congrArg₂ (fun a b : EReal => a + b)
    (congrArg₂ (fun a b : EReal => a + b) (congrArg₂ (fun a b : EReal => a + b)
      (Products.nt_seg (in0 m c t) (in1 m c t) _ _ _ _ f0 f1) (Products.nt_seg (in2 m c t) (in3 m c t) _ _ _ _ f0 f1))
      (Products.nt_padded 96 rfl (in4 m c t)
        (fun i k hk hi _ => (in5 m c t i k hi).trans (v7_inside m c _ k hk))
        (fun i k hk => (in5 m c t i k (by omega)).trans (v7_outside m c _ k hk)) _ _ _ _ f0 f1))
      (Products.nt_seg (in6 m c t) (in7 m c t) _ _ _ _ f0 f1))
      (Products.nt_seg (in8 m c t) (in9 m c t) _ _ _ _ f0 f1)) (Products.nt_seg (in10 m c t) (in11 m c t) _ _ _ _ f0 f1)

/-! ## The claims -/

/-- The kernel as it runs terminates, keeps its arguments and ends with every counter at zero. -/
theorem frame_p : Cert.quiescent_InDgrad := fun m ρ _ => Cert.InDgrad.Gen.frame m ρ

/-- So does the kernel over the extended reals. -/
theorem frame_pi : Cert.quiescent_InDgradIdeal := fun m ρ _ => Cert.InDgradIdeal.Gen.frame m ρ

/-- The reference over the extended reals terminates and keeps its arguments. -/
theorem frame_ri : Cert.quiescent_InDgradReferenceIdeal := fun m ρ _ =>
  (θ_run Cert.InDgradReferenceIdeal.defs _ _).mono
    (fun r h => ⟨fun c => (h c).2, sem_eq_zero_of_no_sems (by decide) r.2⟩)
    (Cert.InDgradReferenceIdeal.Value.run (F := Ideal) m ρ)

/-- Nothing of the kernel is rewritten. -/
theorem preserves : Cert.preserves_InDgrad_InDgradIdeal := trivial

section reference

variable (x0 : Vec Ideal S4096x2048 .bf16) (x1 : Vec Ideal S4096x3072 .bf16) (x2 : Vec Ideal S4096x128 .bf16)
  (x3 : Vec Ideal S4096x2048 .bf16) (x4 x5 : Vec Ideal S4096x1024 .bf16) (w : Vec Ideal S1024x9248 .bf16) (i : Fin 4096) (k : Fin 9248)

/-! The gradients side by side, read in each of the six. -/

theorem side0 (j : Fin 2048) (h : k.val = 0 + j.val) :
    Cert.InDgradReferenceIdeal.Read.val_main_v1 (F := Ideal) x0 x1 x2 x3 x4 x5 (ix2 i k) = x0 (ix2 i ⟨0 + j.val, by omega⟩) := by
  unfold Cert.InDgradReferenceIdeal.Read.val_main_v1
  exact (Products.beside _ _ 0 (by simp) x0 rfl 0 rfl i k j h).trans (congrArg (fun a => x0 (ix2 i a)) (Fin.ext (Nat.zero_add _).symm))

theorem side1 (j : Fin 3072) (h : k.val = 2048 + j.val) :
    Cert.InDgradReferenceIdeal.Read.val_main_v1 (F := Ideal) x0 x1 x2 x3 x4 x5 (ix2 i k) = x1 (ix2 i ⟨0 + j.val, by omega⟩) := by
  unfold Cert.InDgradReferenceIdeal.Read.val_main_v1
  exact (Products.beside _ _ 1 (by simp) x1 rfl 2048 rfl i k j h).trans (congrArg (fun a => x1 (ix2 i a)) (Fin.ext (Nat.zero_add _).symm))

theorem side2 (j : Fin 32) (h : k.val = 5120 + j.val) :
    Cert.InDgradReferenceIdeal.Read.val_main_v1 (F := Ideal) x0 x1 x2 x3 x4 x5 (ix2 i k) = x2 (ix2 i ⟨0 + j.val, by omega⟩) := by
  unfold Cert.InDgradReferenceIdeal.Read.val_main_v1
  exact (Products.beside _ _ 2 (by simp) (Cert.InDgradReferenceIdeal.Read.val_main_v0 (F := Ideal) x2) rfl 5120 rfl i k j h).trans (Products.columns (o := 0) x2 _ i j (by omega))

theorem side3 (j : Fin 2048) (h : k.val = 5152 + j.val) :
    Cert.InDgradReferenceIdeal.Read.val_main_v1 (F := Ideal) x0 x1 x2 x3 x4 x5 (ix2 i k) = x3 (ix2 i ⟨0 + j.val, by omega⟩) := by
  unfold Cert.InDgradReferenceIdeal.Read.val_main_v1
  exact (Products.beside _ _ 3 (by simp) x3 rfl 5152 rfl i k j h).trans (congrArg (fun a => x3 (ix2 i a)) (Fin.ext (Nat.zero_add _).symm))

theorem side4 (j : Fin 1024) (h : k.val = 7200 + j.val) :
    Cert.InDgradReferenceIdeal.Read.val_main_v1 (F := Ideal) x0 x1 x2 x3 x4 x5 (ix2 i k) = x4 (ix2 i ⟨0 + j.val, by omega⟩) := by
  unfold Cert.InDgradReferenceIdeal.Read.val_main_v1
  exact (Products.beside _ _ 4 (by simp) x4 rfl 7200 rfl i k j h).trans (congrArg (fun a => x4 (ix2 i a)) (Fin.ext (Nat.zero_add _).symm))

theorem side5 (j : Fin 1024) (h : k.val = 8224 + j.val) :
    Cert.InDgradReferenceIdeal.Read.val_main_v1 (F := Ideal) x0 x1 x2 x3 x4 x5 (ix2 i k) = x5 (ix2 i ⟨0 + j.val, by omega⟩) := by
  unfold Cert.InDgradReferenceIdeal.Read.val_main_v1
  exact (Products.beside _ _ 5 (by simp) x5 rfl 8224 (by show 2048 + (3072 + (32 + (2048 + (1024 + 0)))) = 8224; omega) i k j h).trans (congrArg (fun a => x5 (ix2 i a)) (Fin.ext (Nat.zero_add _).symm))

/-- The reference's product, entry by entry, is the six contributions. -/
theorem ref : Cert.InDgradReferenceIdeal.Read.val_main_v7 (F := Ideal) x0 x1 x2 x3 x4 x5 w = spec x0 x1 x2 x3 x4 x5 w := by
  funext e
  refine (Cert.InDgradReferenceIdeal.Read.val_main_v6_apply x0 x1 x2 x3 x4 x5 w e).trans ?_
  rw [Products.split 8224 1024 rfl, Products.split 7200 1024 rfl, Products.split 5152 2048 rfl, Products.split 5120 32 rfl,
    Products.split 2048 3072 rfl]
  refine congrArg₂ (fun a b : EReal => a + b) (congrArg₂ (fun a b : EReal => a + b) (congrArg₂ (fun a b : EReal => a + b)
    (congrArg₂ (fun a b : EReal => a + b) (congrArg₂ (fun a b : EReal => a + b)
      (sum_congr rfl fun k _ => ?_) (sum_congr rfl fun k _ => ?_)) (sum_congr rfl fun k _ => ?_))
      (sum_congr rfl fun k _ => ?_)) (sum_congr rfl fun k _ => ?_)) (sum_congr rfl fun k _ => ?_)
  · exact congrArg₂ (fun a b : EReal => a * b) ((congrArg _ (eq_ix2 _)).trans (side0 x0 x1 x2 x3 x4 x5 _ _ k (Nat.zero_add _).symm))
      (congrArg w (Products.idx_eq rfl (Nat.zero_add _).symm).symm)
  · exact congrArg₂ (fun a b : EReal => a * b) ((congrArg _ (eq_ix2 _)).trans (side1 x0 x1 x2 x3 x4 x5 _ _ k rfl))
      (congrArg w (Products.idx_eq rfl rfl).symm)
  · exact congrArg₂ (fun a b : EReal => a * b) ((congrArg _ (eq_ix2 _)).trans (side2 x0 x1 x2 x3 x4 x5 _ _ k rfl))
      (congrArg w (Products.idx_eq rfl rfl).symm)
  · exact congrArg₂ (fun a b : EReal => a * b) ((congrArg _ (eq_ix2 _)).trans (side3 x0 x1 x2 x3 x4 x5 _ _ k rfl))
      (congrArg w (Products.idx_eq rfl rfl).symm)
  · exact congrArg₂ (fun a b : EReal => a * b) ((congrArg _ (eq_ix2 _)).trans (side4 x0 x1 x2 x3 x4 x5 _ _ k rfl))
      (congrArg w (Products.idx_eq rfl rfl).symm)
  · exact congrArg₂ (fun a b : EReal => a * b) ((congrArg _ (eq_ix2 _)).trans (side5 x0 x1 x2 x3 x4 x5 _ _ k rfl))
      (congrArg w (Products.idx_eq rfl rfl).symm)

end reference

/-- On equal arguments, the kernel and the reference end with the same result. -/
theorem algebraic : Cert.algebraic_InDgradIdeal_InDgradReferenceIdeal := by
  intro m ρ m' ρ' _ hagree
  refine ⟨_, Cert.InDgradIdeal.Value.run_blocks (F := Ideal) m ρ, ?_⟩
  refine (θ_run Cert.InDgradReferenceIdeal.defs _ _).mono (fun r hr c => ?_)
    (Cert.InDgradReferenceIdeal.Value.run (F := Ideal) m' ρ')
  obtain ⟨a0, a1, a2, a3, a4, a5, a6⟩ := hagree c
  refine ⟨(hr c).1.trans ((Cert.InDgradReferenceIdeal.Read.val_main_v7_eq _ _ _ _ _ _ _).trans ?_), (hr c).2⟩
  rw [a0, a1, a2, a3, a4, a5, a6]
  exact (ref _ _ _ _ _ _ _).trans (arr m c).symm

end InDgrad

end
-- ==== Proof.UpDgrad.lean ====
module

public import proofs.«01_k».proof.Defs
public import proofs.«01_k».proof.Proof.Products
public import proofs.«01_k».proof.Proof.Gen.UpDgrad.Frame
public import proofs.«01_k».proof.Proof.Gen.UpDgradIdeal.Value
public import proofs.«01_k».proof.Proof.Gen.UpDgradReferenceIdeal.Run
public import proofs.«01_k».proof.Proof.Gen.UpDgradReferenceIdeal.Read

@[expose] public section

/-!
The gradient of the up projection's input: the kernel adds four products, of halves of its first two
arguments with quarters of the weight, and the reference makes one product of the two arguments side
by side.
-/

noncomputable section

namespace UpDgrad

open Idealize.ShloMosaic Idealize.ShloMosaic.TcCoe Idealize.SL.Sem Finset
open Cert.UpDgradIdeal Cert.UpDgradIdeal.Gen

variable (m : (ℓ : Loc nD τ sig) → Buf (Elt Ideal) ℓ) (c : Dev nD)

/-- The four products of one grid point, entry by entry. -/
theorem pay (x0 : Vec Ideal S1024x1408 .bf16) (w0 : Vec Ideal S1x512x1408 .bf16) (x1 : Vec Ideal S1024x1408 .bf16)
    (w1 : Vec Ideal S1x512x1408 .bf16) (x2 : Vec Ideal S1024x1408 .bf16) (w2 : Vec Ideal S1x512x1408 .bf16)
    (x3 : Vec Ideal S1024x1408 .bf16) (w3 : Vec Ideal S1x512x1408 .bf16) (i : Fin 1024) (j : Fin 512) :
    k0_pay1 x0 w0 x1 w1 x2 w2 x3 w3 (ix2 i j) = Products.nt x0 (Products.flat w0) (ix2 i j) +
      Products.nt x1 (Products.flat w1) (ix2 i j) + Products.nt x2 (Products.flat w2) (ix2 i j) +
      Products.nt x3 (Products.flat w3) (ix2 i j) := by
  pointwise [k0_pay1]
  rfl

/-- The blocks of point `t`: row block `t / 2` of the gradients, row block `t % 2` of the weight. -/
theorem idx : ∀ t : Fin cfg0.N, (win0_0.index t = ![t.val / 2, 0] ∧ win0_1.index t = ![0, t.val % 2, 0]) ∧
    (win0_2.index t = ![t.val / 2, 1] ∧ win0_3.index t = ![1, t.val % 2, 0]) ∧
    (win0_4.index t = ![t.val / 2, 0] ∧ win0_5.index t = ![2, t.val % 2, 0]) ∧
    (win0_6.index t = ![t.val / 2, 1] ∧ win0_7.index t = ![3, t.val % 2, 0]) ∧ win0_8.index t = ![t.val / 2, t.val % 2] :=
  (by decide +kernel : ∀ t : Fin grid0.N, (win0_0.index t = ![t.val / 2, 0] ∧ win0_1.index t = ![0, t.val % 2, 0]) ∧
    (win0_2.index t = ![t.val / 2, 1] ∧ win0_3.index t = ![1, t.val % 2, 0]) ∧
    (win0_4.index t = ![t.val / 2, 0] ∧ win0_5.index t = ![2, t.val % 2, 0]) ∧
    (win0_6.index t = ![t.val / 2, 1] ∧ win0_7.index t = ![3, t.val % 2, 0]) ∧ win0_8.index t = ![t.val / 2, t.val % 2])

/-- The weight as the call finds it: its columns cut into a stack of four. -/
theorem V_w : V m c main_v1 = transpose S4x1024x1408 [1, 0, 2]
    (shapeCast S1024x4x1408 (m ((c : Thread nD τ).loc main_arg2)) shapeCasts_S1024x5632_S1024x4x1408)
    transposes_S1024x4x1408_S4x1024x1408_1_0_2 := by
  simp only [V, hostOps0]
  after_results
  rfl

theorem weight (q : Fin 4) (i : Fin 1024) (k : Fin 1408) {j : Fin 5632} (hj : j.val = 1408 * q.val + k.val) :
    V m c main_v1 (ix3 q i k) = m ((c : Thread nD τ).loc main_arg2) (ix2 i j) := by
  rw [V_w]
  exact Products.stack rfl _ _ _ q i k hj

theorem in0 (t : Fin cfg0.N) : Products.Block (N := 4096) (P := 2816) (n := 1024) (p := 1408)
    (m ((c : Thread nD τ).loc main_arg0)) (iblk m c 0 t) (1024 * (t.val / 2)) 0 := fun i k hi hk => by
  blk_ext [iblk, V_main_arg0, (idx t).1.1]

theorem in1 (t : Fin cfg0.N) : Products.Block (N := 1024) (P := 5632) (n := 512) (p := 1408)
    (m ((c : Thread nD τ).loc main_arg2)) (Products.flat (iblk m c 1 t)) (512 * (t.val % 2)) 0 := fun i k hi hk => by
  refine Eq.trans ?_ (weight m c 0 ⟨_, hi⟩ k (by rfl))
  show iblk m c 1 t (ix3 0 i k) = _
  blk_ext [iblk, (idx t).1.2]

theorem in2 (t : Fin cfg0.N) : Products.Block (N := 4096) (P := 2816) (n := 1024) (p := 1408)
    (m ((c : Thread nD τ).loc main_arg0)) (iblk m c 2 t) (1024 * (t.val / 2)) 1408 := fun i k hi hk => by
  blk_ext [iblk, V_main_arg0, (idx t).2.1.1]

theorem in3 (t : Fin cfg0.N) : Products.Block (N := 1024) (P := 5632) (n := 512) (p := 1408)
    (m ((c : Thread nD τ).loc main_arg2)) (Products.flat (iblk m c 3 t)) (512 * (t.val % 2)) 1408 := fun i k hi hk => by
  refine Eq.trans ?_ (weight m c 1 ⟨_, hi⟩ k (by rfl))
  show iblk m c 3 t (ix3 0 i k) = _
  blk_ext [iblk, (idx t).2.1.2]

theorem in4 (t : Fin cfg0.N) : Products.Block (N := 4096) (P := 2816) (n := 1024) (p := 1408)
    (m ((c : Thread nD τ).loc main_arg1)) (iblk m c 4 t) (1024 * (t.val / 2)) 0 := fun i k hi hk => by
  blk_ext [iblk, V_main_arg1, (idx t).2.2.1.1]

theorem in5 (t : Fin cfg0.N) : Products.Block (N := 1024) (P := 5632) (n := 512) (p := 1408)
    (m ((c : Thread nD τ).loc main_arg2)) (Products.flat (iblk m c 5 t)) (512 * (t.val % 2)) 2816 := fun i k hi hk => by
  refine Eq.trans ?_ (weight m c 2 ⟨_, hi⟩ k (by rfl))
  show iblk m c 5 t (ix3 0 i k) = _
  blk_ext [iblk, (idx t).2.2.1.2]

theorem in6 (t : Fin cfg0.N) : Products.Block (N := 4096) (P := 2816) (n := 1024) (p := 1408)
    (m ((c : Thread nD τ).loc main_arg1)) (iblk m c 6 t) (1024 * (t.val / 2)) 1408 := fun i k hi hk => by
  blk_ext [iblk, V_main_arg1, (idx t).2.2.2.1.1]

theorem in7 (t : Fin cfg0.N) : Products.Block (N := 1024) (P := 5632) (n := 512) (p := 1408)
    (m ((c : Thread nD τ).loc main_arg2)) (Products.flat (iblk m c 7 t)) (512 * (t.val % 2)) 4224 := fun i k hi hk => by
  refine Eq.trans ?_ (weight m c 3 ⟨_, hi⟩ k (by rfl))
  show iblk m c 7 t (ix3 0 i k) = _
  blk_ext [iblk, (idx t).2.2.2.1.2]

/-- The result, as the four contributions that the kernel adds. -/
def spec (x y : Products.Mat 4096 2816) (w : Products.Mat 1024 5632) : Products.Mat 4096 1024 := fun e =>
  Products.seg x w 1408 0 0 (by omega) (by omega) e + Products.seg x w 1408 1408 1408 (by omega) (by omega) e +
    Products.seg y w 1408 0 2816 (by omega) (by omega) e + Products.seg y w 1408 1408 4224 (by omega) (by omega) e

/-- The array that the call ends with. -/
theorem arr : (dats m 0 c).arrAt 8 cfg0.N = (spec (m ((c : Thread nD τ).loc main_arg0))
    (m ((c : Thread nD τ).loc main_arg1)) (m ((c : Thread nD τ).loc main_arg2)) : Vec Ideal S4096x1024 .bf16) := by
  refine (dats m 0 c).arrAt_eq_of_covers 8 _ (by decide +kernel) fun t hf y => ?_
  have e0 : ((win0_8.blk t).view.emb y 0).val = win0_8.index t 0 * 1024 + 1 * (y 0).val := rfl
  have e1 : ((win0_8.blk t).view.emb y 1).val = win0_8.index t 1 * 512 + 1 * (y 1).val := rfl
  rw [(idx t).2.2.2.2] at e0 e1
  have f0 := e0.trans (show _ = 1024 * (t.val / 2) + (y 0).val by simp [Nat.mul_comm])
  have f1 := e1.trans (show _ = 512 * (t.val % 2) + (y 1).val by simp [Nat.mul_comm])
  blk_simp
  rw [after0_8]
  unfold out0_8
  rw [View.canon_unit_zero (S := S1024x512) Products.zero2]
  simp only [View.ld_unit_zero (S := S1024x1408) Products.zero2, View.ld_unit_zero (S := S1x512x1408) Products.zero3]
  refine (congrArg _ (eq_ix2 y)).trans ((pay _ _ _ _ _ _ _ _ (y 0) (y 1)).trans ?_)
  exact congrArg₂ (fun a b : EReal => a + b) (congrArg₂ (fun a b : EReal => a + b) (congrArg₂ (fun a b : EReal => a + b)
    (Products.nt_seg (in0 m c t) (in1 m c t) _ _ _ _ f0 f1) (Products.nt_seg (in2 m c t) (in3 m c t) _ _ _ _ f0 f1))
    (Products.nt_seg (in4 m c t) (in5 m c t) _ _ _ _ f0 f1)) (Products.nt_seg (in6 m c t) (in7 m c t) _ _ _ _ f0 f1)

/-! ## The claims -/

/-- The kernel as it runs terminates, keeps its arguments and ends with every counter at zero. -/
theorem frame_p : Cert.quiescent_UpDgrad := fun m ρ _ => Cert.UpDgrad.Gen.frame m ρ

/-- So does the kernel over the extended reals. -/
theorem frame_pi : Cert.quiescent_UpDgradIdeal := fun m ρ _ => Cert.UpDgradIdeal.Gen.frame m ρ

/-- The reference over the extended reals terminates and keeps its arguments. -/
theorem frame_ri : Cert.quiescent_UpDgradReferenceIdeal := fun m ρ _ =>
  (θ_run Cert.UpDgradReferenceIdeal.defs _ _).mono
    (fun r h => ⟨fun c => (h c).2, sem_eq_zero_of_no_sems (by decide) r.2⟩)
    (Cert.UpDgradReferenceIdeal.Value.run (F := Ideal) m ρ)

/-- Nothing of the kernel is rewritten. -/
theorem preserves : Cert.preserves_UpDgrad_UpDgradIdeal := trivial

theorem left (x y : Vec Ideal S4096x2816 .bf16) (i : Fin 4096) (k : Fin 5632) (j : Fin 2816) (h : k.val = j.val) :
    Cert.UpDgradReferenceIdeal.Read.val_main_v0 (F := Ideal) x y (ix2 i k) = x (ix2 i j) := by
  unfold Cert.UpDgradReferenceIdeal.Read.val_main_v0
  exact Products.beside _ _ 0 (by simp) x rfl 0 rfl i k j (h.trans (Nat.zero_add _).symm)

theorem right (x y : Vec Ideal S4096x2816 .bf16) (i : Fin 4096) (k : Fin 5632) (j : Fin 2816) (h : k.val = 2816 + j.val) :
    Cert.UpDgradReferenceIdeal.Read.val_main_v0 (F := Ideal) x y (ix2 i k) = y (ix2 i j) := by
  unfold Cert.UpDgradReferenceIdeal.Read.val_main_v0
  exact Products.beside _ _ 1 (by simp) y rfl 2816 rfl i k j h

/-- The reference's product, entry by entry, is the four contributions. -/
theorem ref (x y : Vec Ideal S4096x2816 .bf16) (w : Vec Ideal S1024x5632 .bf16) :
    Cert.UpDgradReferenceIdeal.Read.val_main_v6 (F := Ideal) x y w = spec x y w := by
  funext e
  refine (Cert.UpDgradReferenceIdeal.Read.val_main_v5_apply x y w e).trans ?_
  rw [Products.split 4224 1408 rfl, Products.split 2816 1408 rfl, Products.split 1408 1408 rfl]
  refine congrArg₂ (fun a b : EReal => a + b) (congrArg₂ (fun a b : EReal => a + b) (congrArg₂ (fun a b : EReal => a + b)
    (sum_congr rfl fun k _ => ?_) (sum_congr rfl fun k _ => ?_)) (sum_congr rfl fun k _ => ?_)) (sum_congr rfl fun k _ => ?_)
  · refine congrArg₂ (fun a b : EReal => a * b) ((congrArg _ (eq_ix2 _)).trans (left x y _ _ _ ?_)) (congrArg w ?_)
    · exact (Nat.zero_add _).symm
    · exact (Products.idx_eq rfl (Nat.zero_add _).symm).symm
  · refine congrArg₂ (fun a b : EReal => a * b) ((congrArg _ (eq_ix2 _)).trans (left x y _ _ _ ?_)) (congrArg w ?_)
    · rfl
    · exact (Products.idx_eq rfl rfl).symm
  · refine congrArg₂ (fun a b : EReal => a * b) ((congrArg _ (eq_ix2 _)).trans (right x y _ _ _ ?_)) (congrArg w ?_)
    · exact congrArg (2816 + ·) (Nat.zero_add _).symm
    · exact (Products.idx_eq rfl rfl).symm
  · refine congrArg₂ (fun a b : EReal => a * b) ((congrArg _ (eq_ix2 _)).trans (right x y _ _ _ ?_)) (congrArg w ?_)
    · exact Nat.add_assoc 2816 1408 k.val
    · exact (Products.idx_eq rfl rfl).symm

/-- On equal arguments, the kernel and the reference end with the same result. -/
theorem algebraic : Cert.algebraic_UpDgradIdeal_UpDgradReferenceIdeal := by
  intro m ρ m' ρ' _ hagree
  refine ⟨_, Cert.UpDgradIdeal.Value.run_blocks (F := Ideal) m ρ, ?_⟩
  refine (θ_run Cert.UpDgradReferenceIdeal.defs _ _).mono (fun r hr c => ?_)
    (Cert.UpDgradReferenceIdeal.Value.run (F := Ideal) m' ρ')
  obtain ⟨a0, a1, a2⟩ := hagree c
  refine ⟨(hr c).1.trans ((Cert.UpDgradReferenceIdeal.Read.val_main_v6_eq _ _ _).trans ?_), (hr c).2⟩
  rw [a0, a1, a2]
  exact (ref _ _ _).trans (arr m c).symm

end UpDgrad

end
-- ==== Proof.DownDgrad.lean ====
module

public import proofs.«01_k».proof.Defs
public import proofs.«01_k».proof.Proof.Products
public import proofs.«01_k».proof.Proof.Gen.DownDgrad.Frame
public import proofs.«01_k».proof.Proof.Gen.DownDgradIdeal.Value
public import proofs.«01_k».proof.Proof.Gen.DownDgradReferenceIdeal.Run
public import proofs.«01_k».proof.Proof.Gen.DownDgradReferenceIdeal.Read

@[expose] public section

/-!
The gradient of the down projection's input: the kernel's blocks are blocks of one product of its
two arguments, which is the reference's product.
-/

noncomputable section

namespace DownDgrad

open Idealize.ShloMosaic Idealize.ShloMosaic.TcCoe Idealize.SL.Sem Finset
open Cert.DownDgradIdeal Cert.DownDgradIdeal.Gen

variable (m : (ℓ : Loc nD τ sig) → Buf (Elt Ideal) ℓ) (c : Dev nD)

/-- The block product of one grid point, entry by entry. -/
theorem pay (x : Vec Ideal S2048x1024 .bf16) (w : Vec Ideal S1408x1024 .bf16) (i : Fin 2048) (j : Fin 1408) :
    k0_pay1 x w (ix2 i j) = Products.nt x w (ix2 i j) := by
  pointwise [k0_pay1]
  rfl

/-- The blocks of point `t`: row block `t / 2` of the gradient, row block `t % 2` of the weight. -/
theorem idx : ∀ t : Fin cfg0.N, win0_0.index t = ![t.val / 2, 0] ∧ win0_1.index t = ![t.val % 2, 0] ∧
    win0_2.index t = ![t.val / 2, t.val % 2] :=
  (by decide +kernel : ∀ t : Fin grid0.N, win0_0.index t = ![t.val / 2, 0] ∧ win0_1.index t = ![t.val % 2, 0] ∧
    win0_2.index t = ![t.val / 2, t.val % 2])

theorem in0 (t : Fin cfg0.N) : Products.Block (N := 4096) (P := 1024) (n := 2048) (p := 1024)
    (m ((c : Thread nD τ).loc main_arg0)) (iblk m c 0 t) (2048 * (t.val / 2)) 0 := fun i k hi hk => by
  blk_ext [iblk, V_main_arg0, (idx t).1]

theorem in1 (t : Fin cfg0.N) : Products.Block (N := 2816) (P := 1024) (n := 1408) (p := 1024)
    (m ((c : Thread nD τ).loc main_arg1)) (iblk m c 1 t) (1408 * (t.val % 2)) 0 := fun j k hj hk => by
  blk_ext [iblk, V_main_arg1, (idx t).2.1]

/-- The array that the call ends with. -/
theorem arr : (dats m 0 c).arrAt 2 cfg0.N = (Products.nt (n := 4096) (p := 2816) (l := 1024)
    (m ((c : Thread nD τ).loc main_arg0)) (m ((c : Thread nD τ).loc main_arg1)) : Vec Ideal S4096x2816 .f32) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1408 + 1 * (y 1).val := rfl
  rw [(idx t).2.2] at e0 e1
  blk_simp
  rw [after0_2]
  unfold out0_2
  rw [View.canon_unit_zero (S := S2048x1408) Products.zero2, View.ld_unit_zero (S := S2048x1024) Products.zero2,
    View.ld_unit_zero (S := S1408x1024) Products.zero2]
  refine (congrArg _ (eq_ix2 y)).trans ((pay _ _ (y 0) (y 1)).trans (Products.nt_block (in0 m c t) (in1 m c t) _ _ ?_ ?_))
  · exact e0.trans (by simp [Nat.mul_comm])
  · exact e1.trans (by simp [Nat.mul_comm])

/-! ## The claims -/

/-- The kernel as it runs terminates, keeps its arguments and ends with every counter at zero. -/
theorem frame_p : Cert.quiescent_DownDgrad := fun m ρ _ => Cert.DownDgrad.Gen.frame m ρ

/-- So does the kernel over the extended reals. -/
theorem frame_pi : Cert.quiescent_DownDgradIdeal := fun m ρ _ => Cert.DownDgradIdeal.Gen.frame m ρ

/-- The reference over the extended reals terminates and keeps its arguments. -/
theorem frame_ri : Cert.quiescent_DownDgradReferenceIdeal := fun m ρ _ =>
  (θ_run Cert.DownDgradReferenceIdeal.defs _ _).mono
    (fun r h => ⟨fun c => (h c).2, sem_eq_zero_of_no_sems (by decide) r.2⟩)
    (Cert.DownDgradReferenceIdeal.Value.run (F := Ideal) m ρ)

/-- Nothing of the kernel is rewritten. -/
theorem preserves : Cert.preserves_DownDgrad_DownDgradIdeal := trivial

/-- The reference's product, entry by entry. -/
theorem ref (x : Vec Ideal S4096x1024 .bf16) (w : Vec Ideal S2816x1024 .bf16) :
    Cert.DownDgradReferenceIdeal.Read.val_main_v4 (F := Ideal) x w = Products.nt (n := 4096) (p := 2816) (l := 1024) x w := by
  funext i
  rw [Cert.DownDgradReferenceIdeal.Read.val_main_v4_apply]
  refine sum_congr rfl fun k _ => ?_
  rw [Cert.DownDgradReferenceIdeal.Read.val_main_v3_apply, Cert.DownDgradReferenceIdeal.Read.val_main_v0_apply]
  exact congrArg₂ (fun a b => x a * w b) (eq_ix2 _) (eq_ix2 _)

/-- On equal arguments, the kernel and the reference end with the same result. -/
theorem algebraic : Cert.algebraic_DownDgradIdeal_DownDgradReferenceIdeal := by
  intro m ρ m' ρ' _ hagree
  refine ⟨_, Cert.DownDgradIdeal.Value.run_blocks (F := Ideal) m ρ, ?_⟩
  refine (θ_run Cert.DownDgradReferenceIdeal.defs _ _).mono (fun r hr c => ?_)
    (Cert.DownDgradReferenceIdeal.Value.run (F := Ideal) m' ρ')
  obtain ⟨a0, a1⟩ := hagree c
  refine ⟨(hr c).1.trans ((Cert.DownDgradReferenceIdeal.Read.val_main_v4_eq _ _).trans ?_), (hr c).2⟩
  rw [a0, a1]
  exact (ref _ _).trans (arr m c).symm

end DownDgrad

end
-- ==== Proof.DownWgrad.lean ====
module

public import proofs.«01_k».proof.Defs
public import proofs.«01_k».proof.Proof.Products
public import proofs.«01_k».proof.Proof.Gen.DownWgrad.Frame
public import proofs.«01_k».proof.Proof.Gen.DownWgradIdeal.Value
public import proofs.«01_k».proof.Proof.Gen.DownWgradReferenceIdeal.Run
public import proofs.«01_k».proof.Proof.Gen.DownWgradReferenceIdeal.Read

@[expose] public section

/-!
The gradient of the down projection's weight: a block of it is summed over two halves of the rows,
which makes the reference's product.
-/

noncomputable section

namespace DownWgrad

open Idealize.ShloMosaic Idealize.ShloMosaic.TcCoe Idealize.SL.Sem Finset
open Cert.DownWgradIdeal Cert.DownWgradIdeal.Gen

variable (m : (ℓ : Loc nD τ sig) → Buf (Elt Ideal) ℓ) (c : Dev nD)

/-- One half's product added to a block, entry by entry. -/
theorem pay (a : Vec Ideal S1408x1024 .f32) (x : Vec Ideal S2048x1408 .bf16) (w : Vec Ideal S2048x1024 .bf16)
    (i : Fin 1408) (j : Fin 1024) : k0_pay2 a x w (ix2 i j) = a (ix2 i j) + Products.tn x w (ix2 i j) := by
  pointwise [k0_pay2]
  rfl

section points

variable (i : grid0.Coords)
  (arg3 : Memref sig .tc .vmem S2048x1408 .bf16) (harg3 : arg3.IsWhole) (arg4 : Memref sig .tc .vmem S2048x1024 .bf16) (harg4 : arg4.IsWhole)
  (arg5 : Memref sig .tc .vmem S1408x1024 .bf16) (harg5 : arg5.IsWhole) (arg6 : Memref sig .tc .vmem S1408x1024 .f32) (harg6 : arg6.IsWhole)
  (x : Vec Ideal S2048x1408 .bf16) (w : Vec Ideal S2048x1024 .bf16)

/-- What the first half leaves in the accumulator. -/
theorem first (h0 : cond0_0 i) (h1 : ¬cond0_1 i) (p : Fin 1408) (q : Fin 1024) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1408x1024) Products.zero2, View.readCov_unit_zero (S := S1408x1024) _ Products.zero2]
  simp only [View.readAt_eq_ld, harg3.read_unread, harg4.read_unread,
    View.ld_unit_zero (S := S2048x1408) Products.zero2, View.ld_unit_zero (S := S2048x1024) Products.zero2]
  rw [pay]
  pointwise [k0_pay1]

/-- What the second half, over the accumulator, leaves in the result's block. -/
theorem last (h0 : ¬cond0_0 i) (h1 : cond0_1 i) (a : Vec Ideal S1408x1024 .f32) (p : Fin 1408) (q : Fin 1024) :
    out0_B_2 c i arg3 harg3 arg4 harg4 arg5 harg5 arg6 harg6 h0 h1 x w a (ix2 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1408x1024) Products.zero2]
  simp only [View.readCov_unit_zero (S := S1408x1024) _ Products.zero2, View.readAt_eq_ld, harg3.read_unread, harg4.read_unread, harg6.read_unread,
    View.ld_unit_zero (S := S2048x1408) Products.zero2, View.ld_unit_zero (S := S2048x1024) Products.zero2,
    View.ld_unit_zero (S := S1408x1024) Products.zero2]
  pointwise [k0_pay3]
  exact pay _ _ _ _ _

end points

/-- The blocks of point `t`: half `t % 2` of the rows, columns `t / 2` of the activations, all
columns of the gradient. -/
theorem idx : ∀ t : Fin cfg0.N, win0_0.index t = ![t.val % 2, t.val / 2] ∧ win0_1.index t = ![t.val % 2, 0] ∧
    win0_2.index t = ![t.val / 2, 0] :=
  (by decide +kernel : ∀ t : Fin grid0.N, win0_0.index t = ![t.val % 2, t.val / 2] ∧ win0_1.index t = ![t.val % 2, 0] ∧
    win0_2.index t = ![t.val / 2, 0])

theorem in0 (t : Fin cfg0.N) : Products.Block (N := 4096) (P := 2816) (n := 2048) (p := 1408)
    (m ((c : Thread nD τ).loc main_arg0)) (iblk m c 0 t) (2048 * (t.val % 2)) (1408 * (t.val / 2)) := fun k i hk hi => by
  blk_ext [iblk, V_main_arg0, (idx t).1]

theorem in1 (t : Fin cfg0.N) : Products.Block (N := 4096) (P := 1024) (n := 2048) (p := 1024)
    (m ((c : Thread nD τ).loc main_arg1)) (iblk m c 1 t) (2048 * (t.val % 2)) 0 := fun k j hk hj => by
  blk_ext [iblk, V_main_arg1, (idx t).2.1]

/-- The block of the result that an odd point writes back. -/
theorem out (t : Fin cfg0.N) (ht : t.val % 2 = 1) (p : Fin 1408) (q : Fin 1024) {e : S2816x1024.Idx}
    (h0 : (e 0).val = 1408 * (t.val / 2) + p.val) (h1 : (e 1).val = 0 + q.val) :
    (outsAt0 m c t.val t.isLt).1 (ix2 p q) = Products.tn (n := 2816) (p := 1024) (l := 4096)
      (m ((c : Thread nD τ).loc main_arg0)) (m ((c : Thread nD τ).loc main_arg1)) e := by
  have hN : t.val < 4 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm, hd] at x0
  rw [hm] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The array that the call ends with. -/
theorem arr : (dats m 0 c).arrAt 2 cfg0.N = (Products.tn (n := 2816) (p := 1024) (l := 4096)
    (m ((c : Thread nD τ).loc main_arg0)) (m ((c : Thread nD τ).loc main_arg1)) : Vec Ideal S2816x1024 .bf16) := by
  refine (dats m 0 c).arrAt_eq_of_covers 2 _ (by decide +kernel) fun t hf y => ?_
  have e0 : ((win0_2.blk t).view.emb y 0).val = win0_2.index t 0 * 1408 + 1 * (y 0).val := rfl
  have e1 : ((win0_2.blk t).view.emb y 1).val = win0_2.index t 1 * 1024 + 1 * (y 1).val := rfl
  rw [(idx t).2.2] at e0 e1
  blk_simp
  rw [after0_2]
  refine (congrArg _ (eq_ix2 y)).trans (out m c t ((flush0_2 t).mp hf) (y 0) (y 1) ?_ ?_)
  · exact e0.trans (by simp [Nat.mul_comm])
  · exact e1.trans (by simp)

/-! ## The claims -/

/-- The kernel as it runs terminates, keeps its arguments and ends with every counter at zero. -/
theorem frame_p : Cert.quiescent_DownWgrad := fun m ρ _ => Cert.DownWgrad.Gen.frame m ρ

/-- So does the kernel over the extended reals. -/
theorem frame_pi : Cert.quiescent_DownWgradIdeal := fun m ρ _ => Cert.DownWgradIdeal.Gen.frame m ρ

/-- The reference over the extended reals terminates and keeps its arguments. -/
theorem frame_ri : Cert.quiescent_DownWgradReferenceIdeal := fun m ρ _ =>
  (θ_run Cert.DownWgradReferenceIdeal.defs _ _).mono
    (fun r h => ⟨fun c => (h c).2, sem_eq_zero_of_no_sems (by decide) r.2⟩)
    (Cert.DownWgradReferenceIdeal.Value.run (F := Ideal) m ρ)

/-- Nothing of the kernel is rewritten. -/
theorem preserves : Cert.preserves_DownWgrad_DownWgradIdeal := trivial

/-- The reference's product, entry by entry. -/
theorem ref (x : Vec Ideal S4096x2816 .bf16) (w : Vec Ideal S4096x1024 .bf16) :
    Cert.DownWgradReferenceIdeal.Read.val_main_v6 (F := Ideal) x w = Products.tn (n := 2816) (p := 1024) (l := 4096) x w := by
  funext i
  rw [Cert.DownWgradReferenceIdeal.Read.val_main_v6_apply, Cert.DownWgradReferenceIdeal.Read.val_main_v5_apply]
  refine (Cert.DownWgradReferenceIdeal.Read.val_main_v4_apply x w _).trans (sum_congr rfl fun k _ => (mul_comm _ _).trans ?_)
  rw [Cert.DownWgradReferenceIdeal.Read.val_main_v3_apply, Cert.DownWgradReferenceIdeal.Read.val_main_v0_apply]
  exact congrArg₂ (fun a b => x a * w b) (eq_ix2 _) (eq_ix2 _)

/-- On equal arguments, the kernel and the reference end with the same result. -/
theorem algebraic : Cert.algebraic_DownWgradIdeal_DownWgradReferenceIdeal := by
  intro m ρ m' ρ' _ hagree
  refine ⟨_, Cert.DownWgradIdeal.Value.run_blocks (F := Ideal) m ρ, ?_⟩
  refine (θ_run Cert.DownWgradReferenceIdeal.defs _ _).mono (fun r hr c => ?_)
    (Cert.DownWgradReferenceIdeal.Value.run (F := Ideal) m' ρ')
  obtain ⟨a0, a1⟩ := hagree c
  refine ⟨(hr c).1.trans ((Cert.DownWgradReferenceIdeal.Read.val_main_v6_eq _ _).trans ?_), (hr c).2⟩
  rw [a0, a1]
  exact (ref _ _).trans (arr m c).symm

end DownWgrad

end
-- ==== Proof.UpProj.lean ====
module

public import proofs.«01_k».proof.Defs
public import proofs.«01_k».proof.Proof.Products
public import proofs.«01_k».proof.Proof.Gen.UpProj.Frame
public import proofs.«01_k».proof.Proof.Gen.UpProjIdeal.Value
public import proofs.«01_k».proof.Proof.Gen.UpProjReferenceIdeal.Run
public import proofs.«01_k».proof.Proof.Gen.UpProjReferenceIdeal.Read

@[expose] public section

/-!
The up projection: the kernel's blocks are blocks of one product of its two arguments, the second of
which it is given as a stack of four matrices; the reference makes the product.
-/

noncomputable section

namespace UpProj

open Idealize.ShloMosaic Idealize.ShloMosaic.TcCoe Idealize.SL.Sem
open Cert.UpProjIdeal Cert.UpProjIdeal.Gen

variable (m : (ℓ : Loc nD τ sig) → Buf (Elt Ideal) ℓ) (c : Dev nD)

/-- The block product of one grid point, entry by entry. -/
theorem pay (x : Vec Ideal S2048x1024 .bf16) (w : Vec Ideal S1x1024x1408 .bf16) (i : Fin 2048) (j : Fin 1408) :
    k0_pay1 x w (ix2 i j) = Products.nn x (Products.flat w) (ix2 i j) := by
  pointwise [k0_pay1]
  rfl

/-- The blocks of point `t`: row block `t / 4` of the input, matrix `t % 4` of the stack. -/
theorem idx : ∀ t : Fin cfg0.N, win0_0.index t = ![t.val / 4, 0] ∧ win0_1.index t = ![t.val % 4, 0, 0] ∧
    win0_2.index t = ![t.val / 4, t.val % 4] :=
  (by decide +kernel : ∀ t : Fin grid0.N, win0_0.index t = ![t.val / 4, 0] ∧ win0_1.index t = ![t.val % 4, 0, 0] ∧
    win0_2.index t = ![t.val / 4, t.val % 4])

/-- The weight as the call finds it: its columns cut into a stack of four. -/
theorem V_w : V m c main_v1 = transpose S4x1024x1408 [1, 0, 2]
    (shapeCast S1024x4x1408 (m ((c : Thread nD τ).loc main_arg1)) shapeCasts_S1024x5632_S1024x4x1408)
    transposes_S1024x4x1408_S4x1024x1408_1_0_2 := by
  simp only [V, hostOps0]
  after_results
  rfl

theorem weight (q : Fin 4) (i : Fin 1024) (k : Fin 1408) {j : Fin 5632} (hj : j.val = 1408 * q.val + k.val) :
    V m c main_v1 (ix3 q i k) = m ((c : Thread nD τ).loc main_arg1) (ix2 i j) := by
  rw [V_w]
  exact Products.stack rfl _ _ _ q i k hj

theorem in0 (t : Fin cfg0.N) : Products.Block (N := 4096) (P := 1024) (n := 2048) (p := 1024)
    (m ((c : Thread nD τ).loc main_arg0)) (iblk m c 0 t) (2048 * (t.val / 4)) 0 := fun i k hi hk => by
  blk_ext [iblk, V_main_arg0, (idx t).1]

theorem in1 (t : Fin cfg0.N) : Products.Block (N := 1024) (P := 5632) (n := 1024) (p := 1408)
    (m ((c : Thread nD τ).loc main_arg1)) (Products.flat (iblk m c 1 t)) 0 (1408 * (t.val % 4)) := fun k j hk hj => by
  have h4 : t.val % 4 < 4 := Nat.mod_lt _ (by decide)
  refine Eq.trans ?_ (weight m c ⟨_, h4⟩ ⟨_, hk⟩ j rfl)
  show iblk m c 1 t (ix3 0 k j) = _
  blk_ext [iblk, (idx t).2.1]

/-- The array that the call ends with. -/
theorem arr : (dats m 0 c).arrAt 2 cfg0.N = (Products.nn (n := 4096) (p := 5632) (l := 1024)
    (m ((c : Thread nD τ).loc main_arg0)) (m ((c : Thread nD τ).loc main_arg1)) : Vec Ideal S4096x5632 .bf16) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1408 + 1 * (y 1).val := rfl
  rw [(idx t).2.2] at e0 e1
  blk_simp
  rw [after0_2]
  unfold out0_2
  rw [View.canon_unit_zero (S := S2048x1408) Products.zero2, View.ld_unit_zero (S := S2048x1024) Products.zero2,
    View.ld_unit_zero (S := S1x1024x1408) Products.zero3]
  refine (congrArg _ (eq_ix2 y)).trans ((pay _ _ (y 0) (y 1)).trans (Products.nn_block (in0 m c t) (in1 m c t) _ _ ?_ ?_))
  · exact e0.trans (by simp [Nat.mul_comm])
  · exact e1.trans (by simp [Nat.mul_comm])

/-! ## The claims -/

/-- The kernel as it runs terminates, keeps its arguments and ends with every counter at zero. -/
theorem frame_p : Cert.quiescent_UpProj := fun m ρ _ => Cert.UpProj.Gen.frame m ρ

/-- So does the kernel over the extended reals. -/
theorem frame_pi : Cert.quiescent_UpProjIdeal := fun m ρ _ => Cert.UpProjIdeal.Gen.frame m ρ

/-- The reference over the extended reals terminates and keeps its arguments. -/
theorem frame_ri : Cert.quiescent_UpProjReferenceIdeal := fun m ρ _ =>
  (θ_run Cert.UpProjReferenceIdeal.defs _ _).mono
    (fun r h => ⟨fun c => (h c).2, sem_eq_zero_of_no_sems (by decide) r.2⟩)
    (Cert.UpProjReferenceIdeal.Value.run (F := Ideal) m ρ)

/-- Nothing of the kernel is rewritten. -/
theorem preserves : Cert.preserves_UpProj_UpProjIdeal := trivial

/-- The reference's product, entry by entry. -/
theorem ref (x : Vec Ideal S4096x1024 .bf16) (w : Vec Ideal S1024x5632 .bf16) :
    Cert.UpProjReferenceIdeal.Read.val_main_v3 (F := Ideal) x w = Products.nn (n := 4096) (p := 5632) (l := 1024) x w :=
  funext fun i => (Cert.UpProjReferenceIdeal.Read.val_main_v3_apply x w i).trans ((Cert.UpProjReferenceIdeal.Read.val_main_v2_apply x w i).trans
    (Finset.sum_congr rfl fun k _ => congrArg₂ (fun a b => x a * w b) (eq_ix2 _) (eq_ix2 _)))

/-- On equal arguments, the kernel and the reference end with the same result. -/
theorem algebraic : Cert.algebraic_UpProjIdeal_UpProjReferenceIdeal := by
  intro m ρ m' ρ' _ hagree
  refine ⟨_, Cert.UpProjIdeal.Value.run_blocks (F := Ideal) m ρ, ?_⟩
  refine (θ_run Cert.UpProjReferenceIdeal.defs _ _).mono (fun r hr c => ?_)
    (Cert.UpProjReferenceIdeal.Value.run (F := Ideal) m' ρ')
  obtain ⟨a0, a1⟩ := hagree c
  refine ⟨(hr c).1.trans ((Cert.UpProjReferenceIdeal.Read.val_main_v3_eq _ _).trans ?_), (hr c).2⟩
  rw [a0, a1]
  exact (ref _ _).trans (arr m c).symm

end UpProj

end
-- ==== Proof.DownProj.lean ====
module

public import proofs.«01_k».proof.Defs
public import proofs.«01_k».proof.Proof.Products
public import proofs.«01_k».proof.Proof.Gen.DownProj.Frame
public import proofs.«01_k».proof.Proof.Gen.DownProjIdeal.Value
public import proofs.«01_k».proof.Proof.Gen.DownProjReferenceIdeal.Run
public import proofs.«01_k».proof.Proof.Gen.DownProjReferenceIdeal.Read

@[expose] public section

/-!
The down projection: the kernel's blocks are blocks of one product of its first two arguments plus
the third, which is what the reference computes.
-/

noncomputable section

namespace DownProj

open Idealize.ShloMosaic Idealize.ShloMosaic.TcCoe Idealize.SL.Sem
open Cert.DownProjIdeal Cert.DownProjIdeal.Gen

variable (m : (ℓ : Loc nD τ sig) → Buf (Elt Ideal) ℓ) (c : Dev nD)

/-- The block product of one grid point and the added block, entry by entry. -/
theorem pay (x : Vec Ideal S1024x2816 .bf16) (w : Vec Ideal S2816x1024 .bf16) (h : Vec Ideal S1024x1024 .f32) (i : Fin 1024)
    (j : Fin 1024) : k0_pay1 x w h (ix2 i j) = Products.nn x w (ix2 i j) + h (ix2 i j) := by
  pointwise [k0_pay1]
  rfl

/-- The blocks of point `t`: row block `t` of the input and of the added argument, the whole
weight. -/
theorem idx : ∀ t : Fin cfg0.N, win0_0.index t = ![t.val, 0] ∧ win0_1.index t = ![0, 0] ∧
    win0_2.index t = ![t.val, 0] ∧ win0_3.index t = ![t.val, 0] :=
  (by decide +kernel : ∀ t : Fin grid0.N, win0_0.index t = ![t.val, 0] ∧ win0_1.index t = ![0, 0] ∧
    win0_2.index t = ![t.val, 0] ∧ win0_3.index t = ![t.val, 0])

theorem in0 (t : Fin cfg0.N) : Products.Block (N := 4096) (P := 2816) (n := 1024) (p := 2816)
    (m ((c : Thread nD τ).loc main_arg0)) (iblk m c 0 t) (1024 * t.val) 0 := fun i k hi hk => by
  blk_ext [iblk, V_main_arg0, (idx t).1]

theorem in1 (t : Fin cfg0.N) : Products.Block (N := 2816) (P := 1024) (n := 2816) (p := 1024)
    (m ((c : Thread nD τ).loc main_arg1)) (iblk m c 1 t) 0 0 := fun k j hk hj => by
  blk_ext [iblk, V_main_arg1, (idx t).2.1]

theorem in2 (t : Fin cfg0.N) : Products.Block (N := 4096) (P := 1024) (n := 1024) (p := 1024)
    (m ((c : Thread nD τ).loc main_arg2)) (iblk m c 2 t) (1024 * t.val) 0 := fun i j hi hj => by
  blk_ext [iblk, V_main_arg2, (idx t).2.2.1]

/-- The result: the product plus the added argument. -/
def spec (x : Products.Mat 4096 2816) (w : Products.Mat 2816 1024) (h : Products.Mat 4096 1024) : Products.Mat 4096 1024 :=
  fun e => Products.nn x w e + h e

/-- The array that the call ends with. -/
theorem arr : (dats m 0 c).arrAt 3 cfg0.N = (spec (m ((c : Thread nD τ).loc main_arg0))
    (m ((c : Thread nD τ).loc main_arg1)) (m ((c : Thread nD τ).loc main_arg2)) : Vec Ideal S4096x1024 .f32) := by
  refine (dats m 0 c).arrAt_eq_of_covers 3 _ (by decide +kernel) fun t hf y => ?_
  have e0 : ((win0_3.blk t).view.emb y 0).val = win0_3.index t 0 * 1024 + 1 * (y 0).val := rfl
  have e1 : ((win0_3.blk t).view.emb y 1).val = win0_3.index t 1 * 1024 + 1 * (y 1).val := rfl
  rw [(idx t).2.2.2] at e0 e1
  blk_simp
  rw [after0_3]
  unfold out0_3
  rw [View.canon_unit_zero (S := S1024x1024) Products.zero2, View.ld_unit_zero (S := S1024x2816) Products.zero2,
    View.ld_unit_zero (S := S2816x1024) Products.zero2, View.ld_unit_zero (S := S1024x1024) Products.zero2]
  have f0 := e0.trans (show _ = 1024 * t.val + (y 0).val by simp [Nat.mul_comm])
  have f1 := e1.trans (show _ = 0 + (y 1).val by simp)
  refine (congrArg _ (eq_ix2 y)).trans ((pay _ _ _ (y 0) (y 1)).trans ?_)
  exact congrArg₂ (fun a b : EReal => a + b) (Products.nn_block (in0 m c t) (in1 m c t) _ _ f0 f1)
    (Products.block_read (in2 m c t) _ _ f0 f1)

/-! ## The claims -/

/-- The kernel as it runs terminates, keeps its arguments and ends with every counter at zero. -/
theorem frame_p : Cert.quiescent_DownProj := fun m ρ _ => Cert.DownProj.Gen.frame m ρ

/-- So does the kernel over the extended reals. -/
theorem frame_pi : Cert.quiescent_DownProjIdeal := fun m ρ _ => Cert.DownProjIdeal.Gen.frame m ρ

/-- The reference over the extended reals terminates and keeps its arguments. -/
theorem frame_ri : Cert.quiescent_DownProjReferenceIdeal := fun m ρ _ =>
  (θ_run Cert.DownProjReferenceIdeal.defs _ _).mono
    (fun r h => ⟨fun c => (h c).2, sem_eq_zero_of_no_sems (by decide) r.2⟩)
    (Cert.DownProjReferenceIdeal.Value.run (F := Ideal) m ρ)

/-- Nothing of the kernel is rewritten. -/
theorem preserves : Cert.preserves_DownProj_DownProjIdeal := trivial

/-- The reference's sum, entry by entry. -/
theorem ref (x : Vec Ideal S4096x2816 .bf16) (w : Vec Ideal S2816x1024 .bf16) (h : Vec Ideal S4096x1024 .f32) :
    Cert.DownProjReferenceIdeal.Read.val_main_v3 (F := Ideal) x w h = spec x w h := by
  funext i
  refine (Cert.DownProjReferenceIdeal.Read.val_main_v3_apply x w h i).trans ((add_comm _ _).trans (congrArg (· + h i) ?_))
  exact (Cert.DownProjReferenceIdeal.Read.val_main_v2_apply x w i).trans
    (Finset.sum_congr rfl fun k _ => congrArg₂ (fun a b => x a * w b) (eq_ix2 _) (eq_ix2 _))

/-- On equal arguments, the kernel and the reference end with the same result. -/
theorem algebraic : Cert.algebraic_DownProjIdeal_DownProjReferenceIdeal := by
  intro m ρ m' ρ' _ hagree
  refine ⟨_, Cert.DownProjIdeal.Value.run_blocks (F := Ideal) m ρ, ?_⟩
  refine (θ_run Cert.DownProjReferenceIdeal.defs _ _).mono (fun r hr c => ?_)
    (Cert.DownProjReferenceIdeal.Value.run (F := Ideal) m' ρ')
  obtain ⟨a0, a1, a2⟩ := hagree c
  refine ⟨(hr c).1.trans ((Cert.DownProjReferenceIdeal.Read.val_main_v3_eq _ _ _).trans ?_), (hr c).2⟩
  rw [a0, a1, a2]
  exact (ref _ _ _).trans (arr m c).symm

end DownProj

end
-- ==== Proof.InXbc.lean ====
module

public import proofs.«01_k».proof.Defs
public import proofs.«01_k».proof.Proof.Products
public import proofs.«01_k».proof.Proof.Gen.InXbc.Frame
public import proofs.«01_k».proof.Proof.Gen.InXbcIdeal.Value
public import proofs.«01_k».proof.Proof.Gen.InXbcReferenceIdeal.Run
public import proofs.«01_k».proof.Proof.Gen.InXbcReferenceIdeal.Read

@[expose] public section

/-!
The input projection that feeds the convolution: the kernel's blocks are blocks of one product of
its two arguments, which is the reference's product.
-/

noncomputable section

namespace InXbc

open Idealize.ShloMosaic Idealize.ShloMosaic.TcCoe Idealize.SL.Sem
open Cert.InXbcIdeal Cert.InXbcIdeal.Gen

variable (m : (ℓ : Loc nD τ sig) → Buf (Elt Ideal) ℓ) (c : Dev nD)

/-- The block product of one grid point, entry by entry. -/
theorem pay (x : Vec Ideal S2048x1024 .bf16) (w : Vec Ideal S1024x1536 .bf16) (i : Fin 2048) (j : Fin 1536) :
    k0_pay1 x w (ix2 i j) = Products.nn x w (ix2 i j) := by
  pointwise [k0_pay1]
  rfl

/-- The blocks of point `t`: row block `t / 2` of the input, column block `t % 2` of the weight. -/
theorem idx : ∀ t : Fin cfg0.N, win0_0.index t = ![t.val / 2, 0] ∧ win0_1.index t = ![0, t.val % 2] ∧
    win0_2.index t = ![t.val / 2, t.val % 2] :=
  (by decide +kernel : ∀ t : Fin grid0.N, win0_0.index t = ![t.val / 2, 0] ∧ win0_1.index t = ![0, t.val % 2] ∧
    win0_2.index t = ![t.val / 2, t.val % 2])

theorem in0 (t : Fin cfg0.N) : Products.Block (N := 4096) (P := 1024) (n := 2048) (p := 1024)
    (m ((c : Thread nD τ).loc main_arg0)) (iblk m c 0 t) (2048 * (t.val / 2)) 0 := fun i k hi hk => by
  blk_ext [iblk, V_main_arg0, (idx t).1]

theorem in1 (t : Fin cfg0.N) : Products.Block (N := 1024) (P := 3072) (n := 1024) (p := 1536)
    (m ((c : Thread nD τ).loc main_arg1)) (iblk m c 1 t) 0 (1536 * (t.val % 2)) := fun k j hk hj => by
  blk_ext [iblk, V_main_arg1, (idx t).2.1]

/-- The array that the call ends with. -/
theorem arr : (dats m 0 c).arrAt 2 cfg0.N = (Products.nn (n := 4096) (p := 3072) (l := 1024)
    (m ((c : Thread nD τ).loc main_arg0)) (m ((c : Thread nD τ).loc main_arg1)) : Vec Ideal S4096x3072 .f32) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1536 + 1 * (y 1).val := rfl
  rw [(idx t).2.2] at e0 e1
  blk_simp
  rw [after0_2]
  unfold out0_2
  rw [View.canon_unit_zero (S := S2048x1536) Products.zero2, View.ld_unit_zero (S := S2048x1024) Products.zero2,
    View.ld_unit_zero (S := S1024x1536) Products.zero2]
  refine (congrArg _ (eq_ix2 y)).trans ((pay _ _ (y 0) (y 1)).trans (Products.nn_block (in0 m c t) (in1 m c t) _ _ ?_ ?_))
  · exact e0.trans (by simp [Nat.mul_comm])
  · exact e1.trans (by simp [Nat.mul_comm])

/-! ## The claims -/

/-- The kernel as it runs terminates, keeps its arguments and ends with every counter at zero. -/
theorem frame_p : Cert.quiescent_InXbc := fun m ρ _ => Cert.InXbc.Gen.frame m ρ

/-- So does the kernel over the extended reals. -/
theorem frame_pi : Cert.quiescent_InXbcIdeal := fun m ρ _ => Cert.InXbcIdeal.Gen.frame m ρ

/-- The reference over the extended reals terminates and keeps its arguments. -/
theorem frame_ri : Cert.quiescent_InXbcReferenceIdeal := fun m ρ _ =>
  (θ_run Cert.InXbcReferenceIdeal.defs _ _).mono
    (fun r h => ⟨fun c => (h c).2, sem_eq_zero_of_no_sems (by decide) r.2⟩)
    (Cert.InXbcReferenceIdeal.Value.run (F := Ideal) m ρ)

/-- Nothing of the kernel is rewritten. -/
theorem preserves : Cert.preserves_InXbc_InXbcIdeal := trivial

/-- The reference's product, entry by entry. -/
theorem ref (x : Vec Ideal S4096x1024 .bf16) (w : Vec Ideal S1024x3072 .bf16) :
    Cert.InXbcReferenceIdeal.Read.val_main_v2 (F := Ideal) x w = Products.nn (n := 4096) (p := 3072) (l := 1024) x w :=
  funext fun i => (Cert.InXbcReferenceIdeal.Read.val_main_v2_apply x w i).trans
    (Finset.sum_congr rfl fun k _ => congrArg₂ (fun a b => x a * w b) (eq_ix2 _) (eq_ix2 _))

/-- On equal arguments, the kernel and the reference end with the same result. -/
theorem algebraic : Cert.algebraic_InXbcIdeal_InXbcReferenceIdeal := by
  intro m ρ m' ρ' _ hagree
  refine ⟨_, Cert.InXbcIdeal.Value.run_blocks (F := Ideal) m ρ, ?_⟩
  refine (θ_run Cert.InXbcReferenceIdeal.defs _ _).mono (fun r hr c => ?_)
    (Cert.InXbcReferenceIdeal.Value.run (F := Ideal) m' ρ')
  obtain ⟨a0, a1⟩ := hagree c
  refine ⟨(hr c).1.trans ((Cert.InXbcReferenceIdeal.Read.val_main_v2_eq _ _).trans ?_), (hr c).2⟩
  rw [a0, a1]
  exact (ref _ _).trans (arr m c).symm

end InXbc

end
-- ==== Proof.InZ.lean ====
module

public import proofs.«01_k».proof.Defs
public import proofs.«01_k».proof.Proof.Products
public import proofs.«01_k».proof.Proof.Gen.InZ.Frame
public import proofs.«01_k».proof.Proof.Gen.InZIdeal.Value
public import proofs.«01_k».proof.Proof.Gen.InZReferenceIdeal.Run
public import proofs.«01_k».proof.Proof.Gen.InZReferenceIdeal.Read

@[expose] public section

/-!
The input projection that gates the scan: the kernel's blocks are blocks of one product of its two
arguments, which is the reference's product.
-/

noncomputable section

namespace InZ

open Idealize.ShloMosaic Idealize.ShloMosaic.TcCoe Idealize.SL.Sem
open Cert.InZIdeal Cert.InZIdeal.Gen

variable (m : (ℓ : Loc nD τ sig) → Buf (Elt Ideal) ℓ) (c : Dev nD)

/-- The block product of one grid point, entry by entry. -/
theorem pay (x : Vec Ideal S2048x1024 .bf16) (w : Vec Ideal S1024x1024 .bf16) (i : Fin 2048) (j : Fin 1024) :
    k0_pay1 x w (ix2 i j) = Products.nn x w (ix2 i j) := by
  pointwise [k0_pay1]
  rfl

/-- The blocks of point `t`: row block `t / 2` of the input, column block `t % 2` of the weight. -/
theorem idx : ∀ t : Fin cfg0.N, win0_0.index t = ![t.val / 2, 0] ∧ win0_1.index t = ![0, t.val % 2] ∧
    win0_2.index t = ![t.val / 2, t.val % 2] :=
  (by decide +kernel : ∀ t : Fin grid0.N, win0_0.index t = ![t.val / 2, 0] ∧ win0_1.index t = ![0, t.val % 2] ∧
    win0_2.index t = ![t.val / 2, t.val % 2])

theorem in0 (t : Fin cfg0.N) : Products.Block (N := 4096) (P := 1024) (n := 2048) (p := 1024)
    (m ((c : Thread nD τ).loc main_arg0)) (iblk m c 0 t) (2048 * (t.val / 2)) 0 := fun i k hi hk => by
  blk_ext [iblk, V_main_arg0, (idx t).1]

theorem in1 (t : Fin cfg0.N) : Products.Block (N := 1024) (P := 2048) (n := 1024) (p := 1024)
    (m ((c : Thread nD τ).loc main_arg1)) (iblk m c 1 t) 0 (1024 * (t.val % 2)) := fun k j hk hj => by
  blk_ext [iblk, V_main_arg1, (idx t).2.1]

/-- The array that the call ends with. -/
theorem arr : (dats m 0 c).arrAt 2 cfg0.N = (Products.nn (n := 4096) (p := 2048) (l := 1024)
    (m ((c : Thread nD τ).loc main_arg0)) (m ((c : Thread nD τ).loc main_arg1)) : Vec Ideal S4096x2048 .f32) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S2048x1024) Products.zero2, View.ld_unit_zero (S := S2048x1024) Products.zero2,
    View.ld_unit_zero (S := S1024x1024) Products.zero2]
  refine (congrArg _ (eq_ix2 y)).trans ((pay _ _ (y 0) (y 1)).trans (Products.nn_block (in0 m c t) (in1 m c t) _ _ ?_ ?_))
  · exact e0.trans (by simp [Nat.mul_comm])
  · exact e1.trans (by simp [Nat.mul_comm])

/-! ## The claims -/

/-- The kernel as it runs terminates, keeps its arguments and ends with every counter at zero. -/
theorem frame_p : Cert.quiescent_InZ := fun m ρ _ => Cert.InZ.Gen.frame m ρ

/-- So does the kernel over the extended reals. -/
theorem frame_pi : Cert.quiescent_InZIdeal := fun m ρ _ => Cert.InZIdeal.Gen.frame m ρ

/-- The reference over the extended reals terminates and keeps its arguments. -/
theorem frame_ri : Cert.quiescent_InZReferenceIdeal := fun m ρ _ =>
  (θ_run Cert.InZReferenceIdeal.defs _ _).mono
    (fun r h => ⟨fun c => (h c).2, sem_eq_zero_of_no_sems (by decide) r.2⟩)
    (Cert.InZReferenceIdeal.Value.run (F := Ideal) m ρ)

/-- Nothing of the kernel is rewritten. -/
theorem preserves : Cert.preserves_InZ_InZIdeal := trivial

/-- The reference's product, entry by entry. -/
theorem ref (x : Vec Ideal S4096x1024 .bf16) (w : Vec Ideal S1024x2048 .bf16) :
    Cert.InZReferenceIdeal.Read.val_main_v2 (F := Ideal) x w = Products.nn (n := 4096) (p := 2048) (l := 1024) x w :=
  funext fun i => (Cert.InZReferenceIdeal.Read.val_main_v2_apply x w i).trans
    (Finset.sum_congr rfl fun k _ => congrArg₂ (fun a b => x a * w b) (eq_ix2 _) (eq_ix2 _))

/-- On equal arguments, the kernel and the reference end with the same result. -/
theorem algebraic : Cert.algebraic_InZIdeal_InZReferenceIdeal := by
  intro m ρ m' ρ' _ hagree
  refine ⟨_, Cert.InZIdeal.Value.run_blocks (F := Ideal) m ρ, ?_⟩
  refine (θ_run Cert.InZReferenceIdeal.defs _ _).mono (fun r hr c => ?_)
    (Cert.InZReferenceIdeal.Value.run (F := Ideal) m' ρ')
  obtain ⟨a0, a1⟩ := hagree c
  refine ⟨(hr c).1.trans ((Cert.InZReferenceIdeal.Read.val_main_v2_eq _ _).trans ?_), (hr c).2⟩
  rw [a0, a1]
  exact (ref _ _).trans (arr m c).symm

end InZ

end
-- ==== Proof.InUv.lean ====
module

public import proofs.«01_k».proof.Defs
public import proofs.«01_k».proof.Proof.Products
public import proofs.«01_k».proof.Proof.Gen.InUv.Frame
public import proofs.«01_k».proof.Proof.Gen.InUvIdeal.Value
public import proofs.«01_k».proof.Proof.Gen.InUvReferenceIdeal.Run
public import proofs.«01_k».proof.Proof.Gen.InUvReferenceIdeal.Read

@[expose] public section

/-!
The input projections of the two gates and of the linear branch: the kernel's blocks are blocks of
one product of its two arguments, which is the reference's product.
-/

noncomputable section

namespace InUv

open Idealize.ShloMosaic Idealize.ShloMosaic.TcCoe Idealize.SL.Sem
open Cert.InUvIdeal Cert.InUvIdeal.Gen

variable (m : (ℓ : Loc nD τ sig) → Buf (Elt Ideal) ℓ) (c : Dev nD)

/-- The block product of one grid point, entry by entry. -/
theorem pay (x : Vec Ideal S2048x1024 .bf16) (w : Vec Ideal S1024x1024 .bf16) (i : Fin 2048) (j : Fin 1024) :
    k0_pay1 x w (ix2 i j) = Products.nn x w (ix2 i j) := by
  pointwise [k0_pay1]
  rfl

/-- The blocks of point `t`: row block `t / 2` of the input, column block `t % 2` of the weight. -/
theorem idx : ∀ t : Fin cfg0.N, win0_0.index t = ![t.val / 2, 0] ∧ win0_1.index t = ![0, t.val % 2] ∧
    win0_2.index t = ![t.val / 2, t.val % 2] :=
  (by decide +kernel : ∀ t : Fin grid0.N, win0_0.index t = ![t.val / 2, 0] ∧ win0_1.index t = ![0, t.val % 2] ∧
    win0_2.index t = ![t.val / 2, t.val % 2])

theorem in0 (t : Fin cfg0.N) : Products.Block (N := 4096) (P := 1024) (n := 2048) (p := 1024)
    (m ((c : Thread nD τ).loc main_arg0)) (iblk m c 0 t) (2048 * (t.val / 2)) 0 := fun i k hi hk => by
  blk_ext [iblk, V_main_arg0, (idx t).1]

theorem in1 (t : Fin cfg0.N) : Products.Block (N := 1024) (P := 2048) (n := 1024) (p := 1024)
    (m ((c : Thread nD τ).loc main_arg1)) (iblk m c 1 t) 0 (1024 * (t.val % 2)) := fun k j hk hj => by
  blk_ext [iblk, V_main_arg1, (idx t).2.1]

/-- The array that the call ends with. -/
theorem arr : (dats m 0 c).arrAt 2 cfg0.N = (Products.nn (n := 4096) (p := 2048) (l := 1024)
    (m ((c : Thread nD τ).loc main_arg0)) (m ((c : Thread nD τ).loc main_arg1)) : Vec Ideal S4096x2048 .bf16) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S2048x1024) Products.zero2, View.ld_unit_zero (S := S2048x1024) Products.zero2,
    View.ld_unit_zero (S := S1024x1024) Products.zero2]
  refine (congrArg _ (eq_ix2 y)).trans ((pay _ _ (y 0) (y 1)).trans (Products.nn_block (in0 m c t) (in1 m c t) _ _ ?_ ?_))
  · exact e0.trans (by simp [Nat.mul_comm])
  · exact e1.trans (by simp [Nat.mul_comm])

/-! ## The claims -/

/-- The kernel as it runs terminates, keeps its arguments and ends with every counter at zero. -/
theorem frame_p : Cert.quiescent_InUv := fun m ρ _ => Cert.InUv.Gen.frame m ρ

/-- So does the kernel over the extended reals. -/
theorem frame_pi : Cert.quiescent_InUvIdeal := fun m ρ _ => Cert.InUvIdeal.Gen.frame m ρ

/-- The reference over the extended reals terminates and keeps its arguments. -/
theorem frame_ri : Cert.quiescent_InUvReferenceIdeal := fun m ρ _ =>
  (θ_run Cert.InUvReferenceIdeal.defs _ _).mono
    (fun r h => ⟨fun c => (h c).2, sem_eq_zero_of_no_sems (by decide) r.2⟩)
    (Cert.InUvReferenceIdeal.Value.run (F := Ideal) m ρ)

/-- Nothing of the kernel is rewritten. -/
theorem preserves : Cert.preserves_InUv_InUvIdeal := trivial

/-- The reference's product, entry by entry. -/
theorem ref (x : Vec Ideal S4096x1024 .bf16) (w : Vec Ideal S1024x2048 .bf16) :
    Cert.InUvReferenceIdeal.Read.val_main_v3 (F := Ideal) x w = Products.nn (n := 4096) (p := 2048) (l := 1024) x w :=
  funext fun i => (Cert.InUvReferenceIdeal.Read.val_main_v3_apply x w i).trans ((Cert.InUvReferenceIdeal.Read.val_main_v2_apply x w i).trans
    (Finset.sum_congr rfl fun k _ => congrArg₂ (fun a b => x a * w b) (eq_ix2 _) (eq_ix2 _)))

/-- On equal arguments, the kernel and the reference end with the same result. -/
theorem algebraic : Cert.algebraic_InUvIdeal_InUvReferenceIdeal := by
  intro m ρ m' ρ' _ hagree
  refine ⟨_, Cert.InUvIdeal.Value.run_blocks (F := Ideal) m ρ, ?_⟩
  refine (θ_run Cert.InUvReferenceIdeal.defs _ _).mono (fun r hr c => ?_)
    (Cert.InUvReferenceIdeal.Value.run (F := Ideal) m' ρ')
  obtain ⟨a0, a1⟩ := hagree c
  refine ⟨(hr c).1.trans ((Cert.InUvReferenceIdeal.Read.val_main_v3_eq _ _).trans ?_), (hr c).2⟩
  rw [a0, a1]
  exact (ref _ _).trans (arr m c).symm

end InUv

end
-- ==== Proof.BranchA.lean ====
module

public import proofs.«01_k».proof.Defs
public import proofs.«01_k».proof.Proof.Products
public import proofs.«01_k».proof.Proof.Gen.BranchA.Frame
public import proofs.«01_k».proof.Proof.Gen.BranchAIdeal.Value
public import proofs.«01_k».proof.Proof.Gen.BranchAReferenceIdeal.Run
public import proofs.«01_k».proof.Proof.Gen.BranchAReferenceIdeal.Read

@[expose] public section

/-!
The first branch's projection: the kernel's blocks are blocks of one product of its two arguments,
which is the reference's product.
-/

noncomputable section

namespace BranchA

open Idealize.ShloMosaic Idealize.ShloMosaic.TcCoe Idealize.SL.Sem
open Cert.BranchAIdeal Cert.BranchAIdeal.Gen

variable (m : (ℓ : Loc nD τ sig) → Buf (Elt Ideal) ℓ) (c : Dev nD)

/-- The block product of one grid point, entry by entry. -/
theorem pay (x : Vec Ideal S2048x2048 .bf16) (w : Vec Ideal S2048x1024 .bf16) (i : Fin 2048) (j : Fin 1024) :
    k0_pay1 x w (ix2 i j) = Products.nn x w (ix2 i j) := by
  pointwise [k0_pay1]
  rfl

/-- The blocks of point `t`: row block `t` of the input, the whole weight. -/
theorem idx : ∀ t : Fin cfg0.N, win0_0.index t = ![t.val, 0] ∧ win0_1.index t = ![0, 0] ∧
    win0_2.index t = ![t.val, 0] :=
  (by decide +kernel : ∀ t : Fin grid0.N, win0_0.index t = ![t.val, 0] ∧ win0_1.index t = ![0, 0] ∧
    win0_2.index t = ![t.val, 0])

theorem in0 (t : Fin cfg0.N) : Products.Block (N := 4096) (P := 2048) (n := 2048) (p := 2048)
    (m ((c : Thread nD τ).loc main_arg0)) (iblk m c 0 t) (2048 * t.val) 0 := fun i k hi hk => by
  blk_ext [iblk, V_main_arg0, (idx t).1]

theorem in1 (t : Fin cfg0.N) : Products.Block (N := 2048) (P := 1024) (n := 2048) (p := 1024)
    (m ((c : Thread nD τ).loc main_arg1)) (iblk m c 1 t) 0 0 := fun k j hk hj => by
  blk_ext [iblk, V_main_arg1, (idx t).2.1]

/-- The array that the call ends with. -/
theorem arr : (dats m 0 c).arrAt 2 cfg0.N = (Products.nn (n := 4096) (p := 1024) (l := 2048)
    (m ((c : Thread nD τ).loc main_arg0)) (m ((c : Thread nD τ).loc main_arg1)) : Vec Ideal S4096x1024 .bf16) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S2048x1024) Products.zero2, View.ld_unit_zero (S := S2048x2048) Products.zero2,
    View.ld_unit_zero (S := S2048x1024) Products.zero2]
  refine (congrArg _ (eq_ix2 y)).trans ((pay _ _ (y 0) (y 1)).trans (Products.nn_block (in0 m c t) (in1 m c t) _ _ ?_ ?_))
  · exact e0.trans (by simp [Nat.mul_comm])
  · exact e1.trans (by simp)

/-! ## The claims -/

/-- The kernel as it runs terminates, keeps its arguments and ends with every counter at zero. -/
theorem frame_p : Cert.quiescent_BranchA := fun m ρ _ => Cert.BranchA.Gen.frame m ρ

/-- So does the kernel over the extended reals. -/
theorem frame_pi : Cert.quiescent_BranchAIdeal := fun m ρ _ => Cert.BranchAIdeal.Gen.frame m ρ

/-- The reference over the extended reals terminates and keeps its arguments. -/
theorem frame_ri : Cert.quiescent_BranchAReferenceIdeal := fun m ρ _ =>
  (θ_run Cert.BranchAReferenceIdeal.defs _ _).mono
    (fun r h => ⟨fun c => (h c).2, sem_eq_zero_of_no_sems (by decide) r.2⟩)
    (Cert.BranchAReferenceIdeal.Value.run (F := Ideal) m ρ)

/-- Nothing of the kernel is rewritten. -/
theorem preserves : Cert.preserves_BranchA_BranchAIdeal := trivial

/-- The reference's product, entry by entry. -/
theorem ref (x : Vec Ideal S4096x2048 .bf16) (w : Vec Ideal S2048x1024 .bf16) :
    Cert.BranchAReferenceIdeal.Read.val_main_v3 (F := Ideal) x w = Products.nn (n := 4096) (p := 1024) (l := 2048) x w :=
  funext fun i => (Cert.BranchAReferenceIdeal.Read.val_main_v3_apply x w i).trans ((Cert.BranchAReferenceIdeal.Read.val_main_v2_apply x w i).trans
    (Finset.sum_congr rfl fun k _ => congrArg₂ (fun a b => x a * w b) (eq_ix2 _) (eq_ix2 _)))

/-- On equal arguments, the kernel and the reference end with the same result. -/
theorem algebraic : Cert.algebraic_BranchAIdeal_BranchAReferenceIdeal := by
  intro m ρ m' ρ' _ hagree
  refine ⟨_, Cert.BranchAIdeal.Value.run_blocks (F := Ideal) m ρ, ?_⟩
  refine (θ_run Cert.BranchAReferenceIdeal.defs _ _).mono (fun r hr c => ?_)
    (Cert.BranchAReferenceIdeal.Value.run (F := Ideal) m' ρ')
  obtain ⟨a0, a1⟩ := hagree c
  refine ⟨(hr c).1.trans ((Cert.BranchAReferenceIdeal.Read.val_main_v3_eq _ _).trans ?_), (hr c).2⟩
  rw [a0, a1]
  exact (ref _ _).trans (arr m c).symm

end BranchA

end
-- ==== Proof.BranchB.lean ====
module

public import proofs.«01_k».proof.Defs
public import proofs.«01_k».proof.Proof.Products
public import proofs.«01_k».proof.Proof.Gen.BranchB.Frame
public import proofs.«01_k».proof.Proof.Gen.BranchBIdeal.Value
public import proofs.«01_k».proof.Proof.Gen.BranchBReferenceIdeal.Run
public import proofs.«01_k».proof.Proof.Gen.BranchBReferenceIdeal.Read

@[expose] public section

/-!
The second branch's projection: the kernel's blocks are blocks of one product of its two arguments,
which is the reference's product.
-/

noncomputable section

namespace BranchB

open Idealize.ShloMosaic Idealize.ShloMosaic.TcCoe Idealize.SL.Sem
open Cert.BranchBIdeal Cert.BranchBIdeal.Gen

variable (m : (ℓ : Loc nD τ sig) → Buf (Elt Ideal) ℓ) (c : Dev nD)

/-- The block product of one grid point, entry by entry. -/
theorem pay (x : Vec Ideal S2048x1024 .bf16) (w : Vec Ideal S1024x1024 .bf16) (i : Fin 2048) (j : Fin 1024) :
    k0_pay1 x w (ix2 i j) = Products.nn x w (ix2 i j) := by
  pointwise [k0_pay1]
  rfl

/-- The blocks of point `t`: row block `t` of the input, the whole weight. -/
theorem idx : ∀ t : Fin cfg0.N, win0_0.index t = ![t.val, 0] ∧ win0_1.index t = ![0, 0] ∧
    win0_2.index t = ![t.val, 0] :=
  (by decide +kernel : ∀ t : Fin grid0.N, win0_0.index t = ![t.val, 0] ∧ win0_1.index t = ![0, 0] ∧
    win0_2.index t = ![t.val, 0])

theorem in0 (t : Fin cfg0.N) : Products.Block (N := 4096) (P := 1024) (n := 2048) (p := 1024)
    (m ((c : Thread nD τ).loc main_arg0)) (iblk m c 0 t) (2048 * t.val) 0 := fun i k hi hk => by
  blk_ext [iblk, V_main_arg0, (idx t).1]

theorem in1 (t : Fin cfg0.N) : Products.Block (N := 1024) (P := 1024) (n := 1024) (p := 1024)
    (m ((c : Thread nD τ).loc main_arg1)) (iblk m c 1 t) 0 0 := fun k j hk hj => by
  blk_ext [iblk, V_main_arg1, (idx t).2.1]

/-- The array that the call ends with. -/
theorem arr : (dats m 0 c).arrAt 2 cfg0.N = (Products.nn (n := 4096) (p := 1024) (l := 1024)
    (m ((c : Thread nD τ).loc main_arg0)) (m ((c : Thread nD τ).loc main_arg1)) : Vec Ideal S4096x1024 .bf16) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S2048x1024) Products.zero2, View.ld_unit_zero (S := S2048x1024) Products.zero2,
    View.ld_unit_zero (S := S1024x1024) Products.zero2]
  refine (congrArg _ (eq_ix2 y)).trans ((pay _ _ (y 0) (y 1)).trans (Products.nn_block (in0 m c t) (in1 m c t) _ _ ?_ ?_))
  · exact e0.trans (by simp [Nat.mul_comm])
  · exact e1.trans (by simp)

/-! ## The claims -/

/-- The kernel as it runs terminates, keeps its arguments and ends with every counter at zero. -/
theorem frame_p : Cert.quiescent_BranchB := fun m ρ _ => Cert.BranchB.Gen.frame m ρ

/-- So does the kernel over the extended reals. -/
theorem frame_pi : Cert.quiescent_BranchBIdeal := fun m ρ _ => Cert.BranchBIdeal.Gen.frame m ρ

/-- The reference over the extended reals terminates and keeps its arguments. -/
theorem frame_ri : Cert.quiescent_BranchBReferenceIdeal := fun m ρ _ =>
  (θ_run Cert.BranchBReferenceIdeal.defs _ _).mono
    (fun r h => ⟨fun c => (h c).2, sem_eq_zero_of_no_sems (by decide) r.2⟩)
    (Cert.BranchBReferenceIdeal.Value.run (F := Ideal) m ρ)

/-- Nothing of the kernel is rewritten. -/
theorem preserves : Cert.preserves_BranchB_BranchBIdeal := trivial

/-- The reference's product, entry by entry. -/
theorem ref (x : Vec Ideal S4096x1024 .bf16) (w : Vec Ideal S1024x1024 .bf16) :
    Cert.BranchBReferenceIdeal.Read.val_main_v3 (F := Ideal) x w = Products.nn (n := 4096) (p := 1024) (l := 1024) x w :=
  funext fun i => (Cert.BranchBReferenceIdeal.Read.val_main_v3_apply x w i).trans ((Cert.BranchBReferenceIdeal.Read.val_main_v2_apply x w i).trans
    (Finset.sum_congr rfl fun k _ => congrArg₂ (fun a b => x a * w b) (eq_ix2 _) (eq_ix2 _)))

/-- On equal arguments, the kernel and the reference end with the same result. -/
theorem algebraic : Cert.algebraic_BranchBIdeal_BranchBReferenceIdeal := by
  intro m ρ m' ρ' _ hagree
  refine ⟨_, Cert.BranchBIdeal.Value.run_blocks (F := Ideal) m ρ, ?_⟩
  refine (θ_run Cert.BranchBReferenceIdeal.defs _ _).mono (fun r hr c => ?_)
    (Cert.BranchBReferenceIdeal.Value.run (F := Ideal) m' ρ')
  obtain ⟨a0, a1⟩ := hagree c
  refine ⟨(hr c).1.trans ((Cert.BranchBReferenceIdeal.Read.val_main_v3_eq _ _).trans ?_), (hr c).2⟩
  rw [a0, a1]
  exact (ref _ _).trans (arr m c).symm

end BranchB

end
-- ==== Proof.OutProj.lean ====
module

public import proofs.«01_k».proof.Defs
public import proofs.«01_k».proof.Proof.Products
public import proofs.«01_k».proof.Proof.Gen.OutProj.Frame
public import proofs.«01_k».proof.Proof.Gen.OutProjIdeal.Value
public import proofs.«01_k».proof.Proof.Gen.OutProjReferenceIdeal.Run
public import proofs.«01_k».proof.Proof.Gen.OutProjReferenceIdeal.Read

@[expose] public section

/-!
The output projection: the kernel's blocks are blocks of one product of its first two arguments plus
the third, which is what the reference computes.
-/

noncomputable section

namespace OutProj

open Idealize.ShloMosaic Idealize.ShloMosaic.TcCoe Idealize.SL.Sem
open Cert.OutProjIdeal Cert.OutProjIdeal.Gen

variable (m : (ℓ : Loc nD τ sig) → Buf (Elt Ideal) ℓ) (c : Dev nD)

/-- The block product of one grid point and the added block, entry by entry. -/
theorem pay (x : Vec Ideal S2048x1024 .bf16) (w : Vec Ideal S1024x512 .bf16) (h : Vec Ideal S2048x512 .f32) (i : Fin 2048)
    (j : Fin 512) : k0_pay1 x w h (ix2 i j) = Products.nn x w (ix2 i j) + h (ix2 i j) := by
  pointwise [k0_pay1]
  rfl

/-- The blocks of point `t`: row block `t / 2` of the input, column block `t % 2` of the
weight, one block of the added argument. -/
theorem idx : ∀ t : Fin cfg0.N, win0_0.index t = ![t.val / 2, 0] ∧ win0_1.index t = ![0, t.val % 2] ∧
    win0_2.index t = ![t.val / 2, t.val % 2] ∧ win0_3.index t = ![t.val / 2, t.val % 2] :=
  (by decide +kernel : ∀ t : Fin grid0.N, win0_0.index t = ![t.val / 2, 0] ∧ win0_1.index t = ![0, t.val % 2] ∧
    win0_2.index t = ![t.val / 2, t.val % 2] ∧ win0_3.index t = ![t.val / 2, t.val % 2])

theorem in0 (t : Fin cfg0.N) : Products.Block (N := 4096) (P := 1024) (n := 2048) (p := 1024)
    (m ((c : Thread nD τ).loc main_arg0)) (iblk m c 0 t) (2048 * (t.val / 2)) 0 := fun i k hi hk => by
  blk_ext [iblk, V_main_arg0, (idx t).1]

theorem in1 (t : Fin cfg0.N) : Products.Block (N := 1024) (P := 1024) (n := 1024) (p := 512)
    (m ((c : Thread nD τ).loc main_arg1)) (iblk m c 1 t) 0 (512 * (t.val % 2)) := fun k j hk hj => by
  blk_ext [iblk, V_main_arg1, (idx t).2.1]

theorem in2 (t : Fin cfg0.N) : Products.Block (N := 4096) (P := 1024) (n := 2048) (p := 512)
    (m ((c : Thread nD τ).loc main_arg2)) (iblk m c 2 t) (2048 * (t.val / 2)) (512 * (t.val % 2)) := fun i j hi hj => by
  blk_ext [iblk, V_main_arg2, (idx t).2.2.1]

/-- The result: the product plus the added argument. -/
def spec (x : Products.Mat 4096 1024) (w : Products.Mat 1024 1024) (h : Products.Mat 4096 1024) : Products.Mat 4096 1024 :=
  fun e => Products.nn x w e + h e

/-- The array that the call ends with. -/
theorem arr : (dats m 0 c).arrAt 3 cfg0.N = (spec (m ((c : Thread nD τ).loc main_arg0))
    (m ((c : Thread nD τ).loc main_arg1)) (m ((c : Thread nD τ).loc main_arg2)) : Vec Ideal S4096x1024 .f32) := by
  refine (dats m 0 c).arrAt_eq_of_covers 3 _ (by decide +kernel) fun t hf y => ?_
  have e0 : ((win0_3.blk t).view.emb y 0).val = win0_3.index t 0 * 2048 + 1 * (y 0).val := rfl
  have e1 : ((win0_3.blk t).view.emb y 1).val = win0_3.index t 1 * 512 + 1 * (y 1).val := rfl
  rw [(idx t).2.2.2] at e0 e1
  blk_simp
  rw [after0_3]
  unfold out0_3
  rw [View.canon_unit_zero (S := S2048x512) Products.zero2, View.ld_unit_zero (S := S2048x1024) Products.zero2,
    View.ld_unit_zero (S := S1024x512) Products.zero2, View.ld_unit_zero (S := S2048x512) Products.zero2]
  have f0 := e0.trans (show _ = 2048 * (t.val / 2) + (y 0).val by simp [Nat.mul_comm])
  have f1 := e1.trans (show _ = 512 * (t.val % 2) + (y 1).val by simp [Nat.mul_comm])
  refine (congrArg _ (eq_ix2 y)).trans ((pay _ _ _ (y 0) (y 1)).trans ?_)
  exact congrArg₂ (fun a b : EReal => a + b) (Products.nn_block (in0 m c t) (in1 m c t) _ _ f0 f1)
    (Products.block_read (in2 m c t) _ _ f0 f1)

/-! ## The claims -/

/-- The kernel as it runs terminates, keeps its arguments and ends with every counter at zero. -/
theorem frame_p : Cert.quiescent_OutProj := fun m ρ _ => Cert.OutProj.Gen.frame m ρ

/-- So does the kernel over the extended reals. -/
theorem frame_pi : Cert.quiescent_OutProjIdeal := fun m ρ _ => Cert.OutProjIdeal.Gen.frame m ρ

/-- The reference over the extended reals terminates and keeps its arguments. -/
theorem frame_ri : Cert.quiescent_OutProjReferenceIdeal := fun m ρ _ =>
  (θ_run Cert.OutProjReferenceIdeal.defs _ _).mono
    (fun r h => ⟨fun c => (h c).2, sem_eq_zero_of_no_sems (by decide) r.2⟩)
    (Cert.OutProjReferenceIdeal.Value.run (F := Ideal) m ρ)

/-- Nothing of the kernel is rewritten. -/
theorem preserves : Cert.preserves_OutProj_OutProjIdeal := trivial

/-- The reference's sum, entry by entry. -/
theorem ref (x : Vec Ideal S4096x1024 .bf16) (w : Vec Ideal S1024x1024 .bf16) (h : Vec Ideal S4096x1024 .f32) :
    Cert.OutProjReferenceIdeal.Read.val_main_v3 (F := Ideal) x w h = spec x w h := by
  funext i
  refine (Cert.OutProjReferenceIdeal.Read.val_main_v3_apply x w h i).trans ((add_comm _ _).trans (congrArg (· + h i) ?_))
  exact (Cert.OutProjReferenceIdeal.Read.val_main_v2_apply x w i).trans
    (Finset.sum_congr rfl fun k _ => congrArg₂ (fun a b => x a * w b) (eq_ix2 _) (eq_ix2 _))

/-- On equal arguments, the kernel and the reference end with the same result. -/
theorem algebraic : Cert.algebraic_OutProjIdeal_OutProjReferenceIdeal := by
  intro m ρ m' ρ' _ hagree
  refine ⟨_, Cert.OutProjIdeal.Value.run_blocks (F := Ideal) m ρ, ?_⟩
  refine (θ_run Cert.OutProjReferenceIdeal.defs _ _).mono (fun r hr c => ?_)
    (Cert.OutProjReferenceIdeal.Value.run (F := Ideal) m' ρ')
  obtain ⟨a0, a1, a2⟩ := hagree c
  refine ⟨(hr c).1.trans ((Cert.OutProjReferenceIdeal.Read.val_main_v3_eq _ _ _).trans ?_), (hr c).2⟩
  rw [a0, a1, a2]
  exact (ref _ _ _).trans (arr m c).symm

end OutProj

end
-- ==== Proof.BranchADgrad.lean ====
module

public import proofs.«01_k».proof.Defs
public import proofs.«01_k».proof.Proof.Products
public import proofs.«01_k».proof.Proof.Gen.BranchADgrad.Frame
public import proofs.«01_k».proof.Proof.Gen.BranchADgradIdeal.Value
public import proofs.«01_k».proof.Proof.Gen.BranchADgradReferenceIdeal.Run
public import proofs.«01_k».proof.Proof.Gen.BranchADgradReferenceIdeal.Read

@[expose] public section

/-!
The gradient of the first branch's input: the kernel's blocks are blocks of one product of its two
arguments, which is the reference's product.
-/

noncomputable section

namespace BranchADgrad

open Idealize.ShloMosaic Idealize.ShloMosaic.TcCoe Idealize.SL.Sem Finset
open Cert.BranchADgradIdeal Cert.BranchADgradIdeal.Gen

variable (m : (ℓ : Loc nD τ sig) → Buf (Elt Ideal) ℓ) (c : Dev nD)

/-- The block product of one grid point, entry by entry. -/
theorem pay (x : Vec Ideal S2048x1024 .bf16) (w : Vec Ideal S1024x1024 .bf16) (i : Fin 2048) (j : Fin 1024) :
    k0_pay1 x w (ix2 i j) = Products.nt x w (ix2 i j) := by
  pointwise [k0_pay1]
  rfl

/-- The blocks of point `t`: row block `t / 2` of the gradient, row block `t % 2` of the weight. -/
theorem idx : ∀ t : Fin cfg0.N, win0_0.index t = ![t.val / 2, 0] ∧ win0_1.index t = ![t.val % 2, 0] ∧
    win0_2.index t = ![t.val / 2, t.val % 2] :=
  (by decide +kernel : ∀ t : Fin grid0.N, win0_0.index t = ![t.val / 2, 0] ∧ win0_1.index t = ![t.val % 2, 0] ∧
    win0_2.index t = ![t.val / 2, t.val % 2])

theorem in0 (t : Fin cfg0.N) : Products.Block (N := 4096) (P := 1024) (n := 2048) (p := 1024)
    (m ((c : Thread nD τ).loc main_arg0)) (iblk m c 0 t) (2048 * (t.val / 2)) 0 := fun i k hi hk => by
  blk_ext [iblk, V_main_arg0, (idx t).1]

theorem in1 (t : Fin cfg0.N) : Products.Block (N := 2048) (P := 1024) (n := 1024) (p := 1024)
    (m ((c : Thread nD τ).loc main_arg1)) (iblk m c 1 t) (1024 * (t.val % 2)) 0 := fun j k hj hk => by
  blk_ext [iblk, V_main_arg1, (idx t).2.1]

/-- The array that the call ends with. -/
theorem arr : (dats m 0 c).arrAt 2 cfg0.N = (Products.nt (n := 4096) (p := 2048) (l := 1024)
    (m ((c : Thread nD τ).loc main_arg0)) (m ((c : Thread nD τ).loc main_arg1)) : Vec Ideal S4096x2048 .f32) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S2048x1024) Products.zero2, View.ld_unit_zero (S := S2048x1024) Products.zero2,
    View.ld_unit_zero (S := S1024x1024) Products.zero2]
  refine (congrArg _ (eq_ix2 y)).trans ((pay _ _ (y 0) (y 1)).trans (Products.nt_block (in0 m c t) (in1 m c t) _ _ ?_ ?_))
  · exact e0.trans (by simp [Nat.mul_comm])
  · exact e1.trans (by simp [Nat.mul_comm])

/-! ## The claims -/

/-- The kernel as it runs terminates, keeps its arguments and ends with every counter at zero. -/
theorem frame_p : Cert.quiescent_BranchADgrad := fun m ρ _ => Cert.BranchADgrad.Gen.frame m ρ

/-- So does the kernel over the extended reals. -/
theorem frame_pi : Cert.quiescent_BranchADgradIdeal := fun m ρ _ => Cert.BranchADgradIdeal.Gen.frame m ρ

/-- The reference over the extended reals terminates and keeps its arguments. -/
theorem frame_ri : Cert.quiescent_BranchADgradReferenceIdeal := fun m ρ _ =>
  (θ_run Cert.BranchADgradReferenceIdeal.defs _ _).mono
    (fun r h => ⟨fun c => (h c).2, sem_eq_zero_of_no_sems (by decide) r.2⟩)
    (Cert.BranchADgradReferenceIdeal.Value.run (F := Ideal) m ρ)

/-- Nothing of the kernel is rewritten. -/
theorem preserves : Cert.preserves_BranchADgrad_BranchADgradIdeal := trivial

/-- The reference's product, entry by entry. -/
theorem ref (x : Vec Ideal S4096x1024 .bf16) (w : Vec Ideal S2048x1024 .bf16) :
    Cert.BranchADgradReferenceIdeal.Read.val_main_v4 (F := Ideal) x w = Products.nt (n := 4096) (p := 2048) (l := 1024) x w := by
  funext i
  rw [Cert.BranchADgradReferenceIdeal.Read.val_main_v4_apply]
  refine sum_congr rfl fun k _ => ?_
  rw [Cert.BranchADgradReferenceIdeal.Read.val_main_v3_apply, Cert.BranchADgradReferenceIdeal.Read.val_main_v0_apply]
  exact congrArg₂ (fun a b => x a * w b) (eq_ix2 _) (eq_ix2 _)

/-- On equal arguments, the kernel and the reference end with the same result. -/
theorem algebraic : Cert.algebraic_BranchADgradIdeal_BranchADgradReferenceIdeal := by
  intro m ρ m' ρ' _ hagree
  refine ⟨_, Cert.BranchADgradIdeal.Value.run_blocks (F := Ideal) m ρ, ?_⟩
  refine (θ_run Cert.BranchADgradReferenceIdeal.defs _ _).mono (fun r hr c => ?_)
    (Cert.BranchADgradReferenceIdeal.Value.run (F := Ideal) m' ρ')
  obtain ⟨a0, a1⟩ := hagree c
  refine ⟨(hr c).1.trans ((Cert.BranchADgradReferenceIdeal.Read.val_main_v4_eq _ _).trans ?_), (hr c).2⟩
  rw [a0, a1]
  exact (ref _ _).trans (arr m c).symm

end BranchADgrad

end
-- ==== Proof.OutDgrad.lean ====
module

public import proofs.«01_k».proof.Defs
public import proofs.«01_k».proof.Proof.Products
public import proofs.«01_k».proof.Proof.Gen.OutDgrad.Frame
public import proofs.«01_k».proof.Proof.Gen.OutDgradIdeal.Value
public import proofs.«01_k».proof.Proof.Gen.OutDgradReferenceIdeal.Run
public import proofs.«01_k».proof.Proof.Gen.OutDgradReferenceIdeal.Read

@[expose] public section

/-!
The gradient of the output projection's input, and of the second branch's: the kernel's blocks are
blocks of one product of its two arguments, which is the reference's product.
-/

noncomputable section

namespace OutDgrad

open Idealize.ShloMosaic Idealize.ShloMosaic.TcCoe Idealize.SL.Sem Finset
open Cert.OutDgradIdeal Cert.OutDgradIdeal.Gen

variable (m : (ℓ : Loc nD τ sig) → Buf (Elt Ideal) ℓ) (c : Dev nD)

/-- The block product of one grid point, entry by entry. -/
theorem pay (x : Vec Ideal S2048x1024 .bf16) (w : Vec Ideal S1024x1024 .bf16) (i : Fin 2048) (j : Fin 1024) :
    k0_pay1 x w (ix2 i j) = Products.nt x w (ix2 i j) := by
  pointwise [k0_pay1]
  rfl

/-- The blocks of point `t`: row block `t` of the gradient, the whole weight. -/
theorem idx : ∀ t : Fin cfg0.N, win0_0.index t = ![t.val, 0] ∧ win0_1.index t = ![0, 0] ∧
    win0_2.index t = ![t.val, 0] :=
  (by decide +kernel : ∀ t : Fin grid0.N, win0_0.index t = ![t.val, 0] ∧ win0_1.index t = ![0, 0] ∧
    win0_2.index t = ![t.val, 0])

theorem in0 (t : Fin cfg0.N) : Products.Block (N := 4096) (P := 1024) (n := 2048) (p := 1024)
    (m ((c : Thread nD τ).loc main_arg0)) (iblk m c 0 t) (2048 * t.val) 0 := fun i k hi hk => by
  blk_ext [iblk, V_main_arg0, (idx t).1]

theorem in1 (t : Fin cfg0.N) : Products.Block (N := 1024) (P := 1024) (n := 1024) (p := 1024)
    (m ((c : Thread nD τ).loc main_arg1)) (iblk m c 1 t) 0 0 := fun j k hj hk => by
  blk_ext [iblk, V_main_arg1, (idx t).2.1]

/-- The array that the call ends with. -/
theorem arr : (dats m 0 c).arrAt 2 cfg0.N = (Products.nt (n := 4096) (p := 1024) (l := 1024)
    (m ((c : Thread nD τ).loc main_arg0)) (m ((c : Thread nD τ).loc main_arg1)) : Vec Ideal S4096x1024 .bf16) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S2048x1024) Products.zero2, View.ld_unit_zero (S := S2048x1024) Products.zero2,
    View.ld_unit_zero (S := S1024x1024) Products.zero2]
  refine (congrArg _ (eq_ix2 y)).trans ((pay _ _ (y 0) (y 1)).trans (Products.nt_block (in0 m c t) (in1 m c t) _ _ ?_ ?_))
  · exact e0.trans (by simp [Nat.mul_comm])
  · exact e1.trans (by simp)

/-! ## The claims -/

/-- The kernel as it runs terminates, keeps its arguments and ends with every counter at zero. -/
theorem frame_p : Cert.quiescent_OutDgrad := fun m ρ _ => Cert.OutDgrad.Gen.frame m ρ

/-- So does the kernel over the extended reals. -/
theorem frame_pi : Cert.quiescent_OutDgradIdeal := fun m ρ _ => Cert.OutDgradIdeal.Gen.frame m ρ

/-- The reference over the extended reals terminates and keeps its arguments. -/
theorem frame_ri : Cert.quiescent_OutDgradReferenceIdeal := fun m ρ _ =>
  (θ_run Cert.OutDgradReferenceIdeal.defs _ _).mono
    (fun r h => ⟨fun c => (h c).2, sem_eq_zero_of_no_sems (by decide) r.2⟩)
    (Cert.OutDgradReferenceIdeal.Value.run (F := Ideal) m ρ)

/-- Nothing of the kernel is rewritten. -/
theorem preserves : Cert.preserves_OutDgrad_OutDgradIdeal := trivial

/-- The reference's product, entry by entry. -/
theorem ref (x : Vec Ideal S4096x1024 .bf16) (w : Vec Ideal S1024x1024 .bf16) :
    Cert.OutDgradReferenceIdeal.Read.val_main_v5 (F := Ideal) x w = Products.nt (n := 4096) (p := 1024) (l := 1024) x w := by
  funext i
  refine (Cert.OutDgradReferenceIdeal.Read.val_main_v5_apply x w i).trans
    ((Cert.OutDgradReferenceIdeal.Read.val_main_v4_apply x w i).trans ?_)
  refine sum_congr rfl fun k _ => ?_
  rw [Cert.OutDgradReferenceIdeal.Read.val_main_v3_apply, Cert.OutDgradReferenceIdeal.Read.val_main_v0_apply]
  exact congrArg₂ (fun a b => x a * w b) (eq_ix2 _) (eq_ix2 _)

/-- On equal arguments, the kernel and the reference end with the same result. -/
theorem algebraic : Cert.algebraic_OutDgradIdeal_OutDgradReferenceIdeal := by
  intro m ρ m' ρ' _ hagree
  refine ⟨_, Cert.OutDgradIdeal.Value.run_blocks (F := Ideal) m ρ, ?_⟩
  refine (θ_run Cert.OutDgradReferenceIdeal.defs _ _).mono (fun r hr c => ?_)
    (Cert.OutDgradReferenceIdeal.Value.run (F := Ideal) m' ρ')
  obtain ⟨a0, a1⟩ := hagree c
  refine ⟨(hr c).1.trans ((Cert.OutDgradReferenceIdeal.Read.val_main_v5_eq _ _).trans ?_), (hr c).2⟩
  rw [a0, a1]
  exact (ref _ _).trans (arr m c).symm

end OutDgrad

end
-- ==== Proof.InZWgrad.lean ====
module

public import proofs.«01_k».proof.Defs
public import proofs.«01_k».proof.Proof.Products
public import proofs.«01_k».proof.Proof.Gen.InZWgrad.Frame
public import proofs.«01_k».proof.Proof.Gen.InZWgradIdeal.Value
public import proofs.«01_k».proof.Proof.Gen.InZWgradReferenceIdeal.Run
public import proofs.«01_k».proof.Proof.Gen.InZWgradReferenceIdeal.Read

@[expose] public section

/-!
The gradient of an input projection's weight, 2048 columns wide: a block of it is summed over two
halves of the rows, which makes the reference's product.
-/

noncomputable section

namespace InZWgrad

open Idealize.ShloMosaic Idealize.ShloMosaic.TcCoe Idealize.SL.Sem Finset
open Cert.InZWgradIdeal Cert.InZWgradIdeal.Gen

variable (m : (ℓ : Loc nD τ sig) → Buf (Elt Ideal) ℓ) (c : Dev nD)

/-- One half's product added to a block, entry by entry. -/
theorem pay (a : Vec Ideal S1024x1024 .f32) (x : Vec Ideal S2048x1024 .bf16) (w : Vec Ideal S2048x1024 .bf16)
    (i : Fin 1024) (j : Fin 1024) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x : Vec Ideal S2048x1024 .bf16) (w : Vec Ideal S2048x1024 .bf16)

/-- What the first half leaves in the accumulator. -/
theorem first (h0 : cond0_0 i) (h1 : ¬cond0_1 i) (p : Fin 1024) (q : Fin 1024) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1024x1024) Products.zero2, View.readCov_unit_zero (S := S1024x1024) _ Products.zero2]
  simp only [View.readAt_eq_ld, harg3.read_unread, harg4.read_unread,
    View.ld_unit_zero (S := S2048x1024) Products.zero2, View.ld_unit_zero (S := S2048x1024) Products.zero2]
  rw [pay]
  pointwise [k0_pay1]

/-- What the second half, over the accumulator, leaves in the result's block. -/
theorem last (h0 : ¬cond0_0 i) (h1 : cond0_1 i) (a : Vec Ideal S1024x1024 .f32) (p : Fin 1024) (q : Fin 1024) :
    out0_B_2 c i arg3 harg3 arg4 harg4 arg5 harg5 arg6 harg6 h0 h1 x w a (ix2 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1024x1024) Products.zero2]
  simp only [View.readCov_unit_zero (S := S1024x1024) _ Products.zero2, View.readAt_eq_ld, harg3.read_unread, harg4.read_unread, harg6.read_unread,
    View.ld_unit_zero (S := S2048x1024) Products.zero2, View.ld_unit_zero (S := S2048x1024) Products.zero2,
    View.ld_unit_zero (S := S1024x1024) Products.zero2]
  pointwise [k0_pay3]
  exact pay _ _ _ _ _

end points

/-- The blocks of point `t`: half `t % 2` of the rows, all columns of the activations, column
block `t / 2` of the gradient. -/
theorem idx : ∀ t : Fin cfg0.N, win0_0.index t = ![t.val % 2, 0] ∧ win0_1.index t = ![t.val % 2, t.val / 2] ∧
    win0_2.index t = ![0, t.val / 2] :=
  (by decide +kernel : ∀ t : Fin grid0.N, win0_0.index t = ![t.val % 2, 0] ∧ win0_1.index t = ![t.val % 2, t.val / 2] ∧
    win0_2.index t = ![0, t.val / 2])

theorem in0 (t : Fin cfg0.N) : Products.Block (N := 4096) (P := 1024) (n := 2048) (p := 1024)
    (m ((c : Thread nD τ).loc main_arg0)) (iblk m c 0 t) (2048 * (t.val % 2)) 0 := fun k i hk hi => by
  blk_ext [iblk, V_main_arg0, (idx t).1]

theorem in1 (t : Fin cfg0.N) : Products.Block (N := 4096) (P := 2048) (n := 2048) (p := 1024)
    (m ((c : Thread nD τ).loc main_arg1)) (iblk m c 1 t) (2048 * (t.val % 2)) (1024 * (t.val / 2)) := fun k j hk hj => by
  blk_ext [iblk, V_main_arg1, (idx t).2.1]

/-- The block of the result that an odd point writes back. -/
theorem out (t : Fin cfg0.N) (ht : t.val % 2 = 1) (p : Fin 1024) (q : Fin 1024) {e : S1024x2048.Idx}
    (h0 : (e 0).val = 0 + p.val) (h1 : (e 1).val = 1024 * (t.val / 2) + q.val) :
    (outsAt0 m c t.val t.isLt).1 (ix2 p q) = Products.tn (n := 1024) (p := 2048) (l := 4096)
      (m ((c : Thread nD τ).loc main_arg0)) (m ((c : Thread nD τ).loc main_arg1)) e := by
  have hN : t.val < 4 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm] at x0
  rw [hm, hd] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The array that the call ends with. -/
theorem arr : (dats m 0 c).arrAt 2 cfg0.N = (Products.tn (n := 1024) (p := 2048) (l := 4096)
    (m ((c : Thread nD τ).loc main_arg0)) (m ((c : Thread nD τ).loc main_arg1)) : Vec Ideal S1024x2048 .bf16) := by
  refine (dats m 0 c).arrAt_eq_of_covers 2 _ (by decide +kernel) fun t hf y => ?_
  have e0 : ((win0_2.blk t).view.emb y 0).val = win0_2.index t 0 * 1024 + 1 * (y 0).val := rfl
  have e1 : ((win0_2.blk t).view.emb y 1).val = win0_2.index t 1 * 1024 + 1 * (y 1).val := rfl
  rw [(idx t).2.2] at e0 e1
  blk_simp
  rw [after0_2]
  refine (congrArg _ (eq_ix2 y)).trans (out m c t ((flush0_2 t).mp hf) (y 0) (y 1) ?_ ?_)
  · exact e0.trans (by simp)
  · exact e1.trans (by simp [Nat.mul_comm])

/-! ## The claims -/

/-- The kernel as it runs terminates, keeps its arguments and ends with every counter at zero. -/
theorem frame_p : Cert.quiescent_InZWgrad := fun m ρ _ => Cert.InZWgrad.Gen.frame m ρ

/-- So does the kernel over the extended reals. -/
theorem frame_pi : Cert.quiescent_InZWgradIdeal := fun m ρ _ => Cert.InZWgradIdeal.Gen.frame m ρ

/-- The reference over the extended reals terminates and keeps its arguments. -/
theorem frame_ri : Cert.quiescent_InZWgradReferenceIdeal := fun m ρ _ =>
  (θ_run Cert.InZWgradReferenceIdeal.defs _ _).mono
    (fun r h => ⟨fun c => (h c).2, sem_eq_zero_of_no_sems (by decide) r.2⟩)
    (Cert.InZWgradReferenceIdeal.Value.run (F := Ideal) m ρ)

/-- Nothing of the kernel is rewritten. -/
theorem preserves : Cert.preserves_InZWgrad_InZWgradIdeal := trivial

/-- The reference's product, entry by entry. -/
theorem ref (x : Vec Ideal S4096x1024 .bf16) (w : Vec Ideal S4096x2048 .bf16) :
    Cert.InZWgradReferenceIdeal.Read.val_main_v6 (F := Ideal) x w = Products.tn (n := 1024) (p := 2048) (l := 4096) x w := by
  funext i
  rw [Cert.InZWgradReferenceIdeal.Read.val_main_v6_apply, Cert.InZWgradReferenceIdeal.Read.val_main_v5_apply]
  refine (Cert.InZWgradReferenceIdeal.Read.val_main_v4_apply x w _).trans (sum_congr rfl fun k _ => (mul_comm _ _).trans ?_)
  rw [Cert.InZWgradReferenceIdeal.Read.val_main_v3_apply, Cert.InZWgradReferenceIdeal.Read.val_main_v0_apply]
  exact congrArg₂ (fun a b => x a * w b) (eq_ix2 _) (eq_ix2 _)

/-- On equal arguments, the kernel and the reference end with the same result. -/
theorem algebraic : Cert.algebraic_InZWgradIdeal_InZWgradReferenceIdeal := by
  intro m ρ m' ρ' _ hagree
  refine ⟨_, Cert.InZWgradIdeal.Value.run_blocks (F := Ideal) m ρ, ?_⟩
  refine (θ_run Cert.InZWgradReferenceIdeal.defs _ _).mono (fun r hr c => ?_)
    (Cert.InZWgradReferenceIdeal.Value.run (F := Ideal) m' ρ')
  obtain ⟨a0, a1⟩ := hagree c
  refine ⟨(hr c).1.trans ((Cert.InZWgradReferenceIdeal.Read.val_main_v6_eq _ _).trans ?_), (hr c).2⟩
  rw [a0, a1]
  exact (ref _ _).trans (arr m c).symm

end InZWgrad

end
-- ==== Proof.InXbcWgrad.lean ====
module

public import proofs.«01_k».proof.Defs
public import proofs.«01_k».proof.Proof.Products
public import proofs.«01_k».proof.Proof.Gen.InXbcWgrad.Frame
public import proofs.«01_k».proof.Proof.Gen.InXbcWgradIdeal.Value
public import proofs.«01_k».proof.Proof.Gen.InXbcWgradReferenceIdeal.Run
public import proofs.«01_k».proof.Proof.Gen.InXbcWgradReferenceIdeal.Read

@[expose] public section

/-!
The gradient of an input projection's weight, 3072 columns wide: a block of it is summed over two
halves of the rows, which makes the reference's product.
-/

noncomputable section

namespace InXbcWgrad

open Idealize.ShloMosaic Idealize.ShloMosaic.TcCoe Idealize.SL.Sem Finset
open Cert.InXbcWgradIdeal Cert.InXbcWgradIdeal.Gen

variable (m : (ℓ : Loc nD τ sig) → Buf (Elt Ideal) ℓ) (c : Dev nD)

/-- One half's product added to a block, entry by entry. -/
theorem pay (a : Vec Ideal S1024x1024 .f32) (x : Vec Ideal S2048x1024 .bf16) (w : Vec Ideal S2048x1024 .bf16)
    (i : Fin 1024) (j : Fin 1024) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x : Vec Ideal S2048x1024 .bf16) (w : Vec Ideal S2048x1024 .bf16)

/-- What the first half leaves in the accumulator. -/
theorem first (h0 : cond0_0 i) (h1 : ¬cond0_1 i) (p : Fin 1024) (q : Fin 1024) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1024x1024) Products.zero2, View.readCov_unit_zero (S := S1024x1024) _ Products.zero2]
  simp only [View.readAt_eq_ld, harg3.read_unread, harg4.read_unread,
    View.ld_unit_zero (S := S2048x1024) Products.zero2, View.ld_unit_zero (S := S2048x1024) Products.zero2]
  rw [pay]
  pointwise [k0_pay1]

/-- What the second half, over the accumulator, leaves in the result's block. -/
theorem last (h0 : ¬cond0_0 i) (h1 : cond0_1 i) (a : Vec Ideal S1024x1024 .f32) (p : Fin 1024) (q : Fin 1024) :
    out0_B_2 c i arg3 harg3 arg4 harg4 arg5 harg5 arg6 harg6 h0 h1 x w a (ix2 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1024x1024) Products.zero2]
  simp only [View.readCov_unit_zero (S := S1024x1024) _ Products.zero2, View.readAt_eq_ld, harg3.read_unread, harg4.read_unread, harg6.read_unread,
    View.ld_unit_zero (S := S2048x1024) Products.zero2, View.ld_unit_zero (S := S2048x1024) Products.zero2,
    View.ld_unit_zero (S := S1024x1024) Products.zero2]
  pointwise [k0_pay3]
  exact pay _ _ _ _ _

end points

/-- The blocks of point `t`: half `t % 2` of the rows, all columns of the activations, column
block `t / 2` of the gradient. -/
theorem idx : ∀ t : Fin cfg0.N, win0_0.index t = ![t.val % 2, 0] ∧ win0_1.index t = ![t.val % 2, t.val / 2] ∧
    win0_2.index t = ![0, t.val / 2] :=
  (by decide +kernel : ∀ t : Fin grid0.N, win0_0.index t = ![t.val % 2, 0] ∧ win0_1.index t = ![t.val % 2, t.val / 2] ∧
    win0_2.index t = ![0, t.val / 2])

theorem in0 (t : Fin cfg0.N) : Products.Block (N := 4096) (P := 1024) (n := 2048) (p := 1024)
    (m ((c : Thread nD τ).loc main_arg0)) (iblk m c 0 t) (2048 * (t.val % 2)) 0 := fun k i hk hi => by
  blk_ext [iblk, V_main_arg0, (idx t).1]

theorem in1 (t : Fin cfg0.N) : Products.Block (N := 4096) (P := 3072) (n := 2048) (p := 1024)
    (m ((c : Thread nD τ).loc main_arg1)) (iblk m c 1 t) (2048 * (t.val % 2)) (1024 * (t.val / 2)) := fun k j hk hj => by
  blk_ext [iblk, V_main_arg1, (idx t).2.1]

/-- The block of the result that an odd point writes back. -/
theorem out (t : Fin cfg0.N) (ht : t.val % 2 = 1) (p : Fin 1024) (q : Fin 1024) {e : S1024x3072.Idx}
    (h0 : (e 0).val = 0 + p.val) (h1 : (e 1).val = 1024 * (t.val / 2) + q.val) :
    (outsAt0 m c t.val t.isLt).1 (ix2 p q) = Products.tn (n := 1024) (p := 3072) (l := 4096)
      (m ((c : Thread nD τ).loc main_arg0)) (m ((c : Thread nD τ).loc main_arg1)) e := by
  have hN : t.val < 6 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm] at x0
  rw [hm, hd] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The array that the call ends with. -/
theorem arr : (dats m 0 c).arrAt 2 cfg0.N = (Products.tn (n := 1024) (p := 3072) (l := 4096)
    (m ((c : Thread nD τ).loc main_arg0)) (m ((c : Thread nD τ).loc main_arg1)) : Vec Ideal S1024x3072 .bf16) := by
  refine (dats m 0 c).arrAt_eq_of_covers 2 _ (by decide +kernel) fun t hf y => ?_
  have e0 : ((win0_2.blk t).view.emb y 0).val = win0_2.index t 0 * 1024 + 1 * (y 0).val := rfl
  have e1 : ((win0_2.blk t).view.emb y 1).val = win0_2.index t 1 * 1024 + 1 * (y 1).val := rfl
  rw [(idx t).2.2] at e0 e1
  blk_simp
  rw [after0_2]
  refine (congrArg _ (eq_ix2 y)).trans (out m c t ((flush0_2 t).mp hf) (y 0) (y 1) ?_ ?_)
  · exact e0.trans (by simp)
  · exact e1.trans (by simp [Nat.mul_comm])

/-! ## The claims -/

/-- The kernel as it runs terminates, keeps its arguments and ends with every counter at zero. -/
theorem frame_p : Cert.quiescent_InXbcWgrad := fun m ρ _ => Cert.InXbcWgrad.Gen.frame m ρ

/-- So does the kernel over the extended reals. -/
theorem frame_pi : Cert.quiescent_InXbcWgradIdeal := fun m ρ _ => Cert.InXbcWgradIdeal.Gen.frame m ρ

/-- The reference over the extended reals terminates and keeps its arguments. -/
theorem frame_ri : Cert.quiescent_InXbcWgradReferenceIdeal := fun m ρ _ =>
  (θ_run Cert.InXbcWgradReferenceIdeal.defs _ _).mono
    (fun r h => ⟨fun c => (h c).2, sem_eq_zero_of_no_sems (by decide) r.2⟩)
    (Cert.InXbcWgradReferenceIdeal.Value.run (F := Ideal) m ρ)

/-- Nothing of the kernel is rewritten. -/
theorem preserves : Cert.preserves_InXbcWgrad_InXbcWgradIdeal := trivial

/-- The reference's product, entry by entry. -/
theorem ref (x : Vec Ideal S4096x1024 .bf16) (w : Vec Ideal S4096x3072 .bf16) :
    Cert.InXbcWgradReferenceIdeal.Read.val_main_v6 (F := Ideal) x w = Products.tn (n := 1024) (p := 3072) (l := 4096) x w := by
  funext i
  rw [Cert.InXbcWgradReferenceIdeal.Read.val_main_v6_apply, Cert.InXbcWgradReferenceIdeal.Read.val_main_v5_apply]
  refine (Cert.InXbcWgradReferenceIdeal.Read.val_main_v4_apply x w _).trans (sum_congr rfl fun k _ => (mul_comm _ _).trans ?_)
  rw [Cert.InXbcWgradReferenceIdeal.Read.val_main_v3_apply, Cert.InXbcWgradReferenceIdeal.Read.val_main_v0_apply]
  exact congrArg₂ (fun a b => x a * w b) (eq_ix2 _) (eq_ix2 _)

/-- On equal arguments, the kernel and the reference end with the same result. -/
theorem algebraic : Cert.algebraic_InXbcWgradIdeal_InXbcWgradReferenceIdeal := by
  intro m ρ m' ρ' _ hagree
  refine ⟨_, Cert.InXbcWgradIdeal.Value.run_blocks (F := Ideal) m ρ, ?_⟩
  refine (θ_run Cert.InXbcWgradReferenceIdeal.defs _ _).mono (fun r hr c => ?_)
    (Cert.InXbcWgradReferenceIdeal.Value.run (F := Ideal) m' ρ')
  obtain ⟨a0, a1⟩ := hagree c
  refine ⟨(hr c).1.trans ((Cert.InXbcWgradReferenceIdeal.Read.val_main_v6_eq _ _).trans ?_), (hr c).2⟩
  rw [a0, a1]
  exact (ref _ _).trans (arr m c).symm

end InXbcWgrad

end
-- ==== Proof.OutWgrad.lean ====
module

public import proofs.«01_k».proof.Defs
public import proofs.«01_k».proof.Proof.Products
public import proofs.«01_k».proof.Proof.Gen.OutWgrad.Frame
public import proofs.«01_k».proof.Proof.Gen.OutWgradIdeal.Value
public import proofs.«01_k».proof.Proof.Gen.OutWgradReferenceIdeal.Run
public import proofs.«01_k».proof.Proof.Gen.OutWgradReferenceIdeal.Read

@[expose] public section

/-!
The gradient of a square weight, of the output projection or of a gate: it is summed over two halves
of the rows, which makes the reference's product.
-/

noncomputable section

namespace OutWgrad

open Idealize.ShloMosaic Idealize.ShloMosaic.TcCoe Idealize.SL.Sem Finset
open Cert.OutWgradIdeal Cert.OutWgradIdeal.Gen

variable (m : (ℓ : Loc nD τ sig) → Buf (Elt Ideal) ℓ) (c : Dev nD)

/-- One half's product added to a block, entry by entry. -/
theorem pay (a : Vec Ideal S1024x1024 .f32) (x : Vec Ideal S2048x1024 .bf16) (w : Vec Ideal S2048x1024 .bf16)
    (i : Fin 1024) (j : Fin 1024) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x : Vec Ideal S2048x1024 .bf16) (w : Vec Ideal S2048x1024 .bf16)

/-- What the first half leaves in the accumulator. -/
theorem first (h0 : cond0_0 i) (h1 : ¬cond0_1 i) (p : Fin 1024) (q : Fin 1024) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1024x1024) Products.zero2, View.readCov_unit_zero (S := S1024x1024) _ Products.zero2]
  simp only [View.readAt_eq_ld, harg3.read_unread, harg4.read_unread,
    View.ld_unit_zero (S := S2048x1024) Products.zero2, View.ld_unit_zero (S := S2048x1024) Products.zero2]
  rw [pay]
  pointwise [k0_pay1]

/-- What the second half, over the accumulator, leaves in the result's block. -/
theorem last (h0 : ¬cond0_0 i) (h1 : cond0_1 i) (a : Vec Ideal S1024x1024 .f32) (p : Fin 1024) (q : Fin 1024) :
    out0_B_2 c i arg3 harg3 arg4 harg4 arg5 harg5 arg6 harg6 h0 h1 x w a (ix2 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1024x1024) Products.zero2]
  simp only [View.readCov_unit_zero (S := S1024x1024) _ Products.zero2, View.readAt_eq_ld, harg3.read_unread, harg4.read_unread, harg6.read_unread,
    View.ld_unit_zero (S := S2048x1024) Products.zero2, View.ld_unit_zero (S := S2048x1024) Products.zero2,
    View.ld_unit_zero (S := S1024x1024) Products.zero2]
  pointwise [k0_pay3]
  exact pay _ _ _ _ _

end points

/-- The blocks of point `t`: half `t % 2` of the rows, all columns of the activations, column
block `t / 2` of the gradient. -/
theorem idx : ∀ t : Fin cfg0.N, win0_0.index t = ![t.val % 2, 0] ∧ win0_1.index t = ![t.val % 2, t.val / 2] ∧
    win0_2.index t = ![0, t.val / 2] :=
  (by decide +kernel : ∀ t : Fin grid0.N, win0_0.index t = ![t.val % 2, 0] ∧ win0_1.index t = ![t.val % 2, t.val / 2] ∧
    win0_2.index t = ![0, t.val / 2])

theorem in0 (t : Fin cfg0.N) : Products.Block (N := 4096) (P := 1024) (n := 2048) (p := 1024)
    (m ((c : Thread nD τ).loc main_arg0)) (iblk m c 0 t) (2048 * (t.val % 2)) 0 := fun k i hk hi => by
  blk_ext [iblk, V_main_arg0, (idx t).1]

theorem in1 (t : Fin cfg0.N) : Products.Block (N := 4096) (P := 1024) (n := 2048) (p := 1024)
    (m ((c : Thread nD τ).loc main_arg1)) (iblk m c 1 t) (2048 * (t.val % 2)) (1024 * (t.val / 2)) := fun k j hk hj => by
  blk_ext [iblk, V_main_arg1, (idx t).2.1]

/-- The block of the result that an odd point writes back. -/
theorem out (t : Fin cfg0.N) (ht : t.val % 2 = 1) (p : Fin 1024) (q : Fin 1024) {e : S1024x1024.Idx}
    (h0 : (e 0).val = 0 + p.val) (h1 : (e 1).val = 1024 * (t.val / 2) + q.val) :
    (outsAt0 m c t.val t.isLt).1 (ix2 p q) = Products.tn (n := 1024) (p := 1024) (l := 4096)
      (m ((c : Thread nD τ).loc main_arg0)) (m ((c : Thread nD τ).loc main_arg1)) e := by
  have hN : t.val < 2 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm] at x0
  rw [hm, hd] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The array that the call ends with. -/
theorem arr : (dats m 0 c).arrAt 2 cfg0.N = (Products.tn (n := 1024) (p := 1024) (l := 4096)
    (m ((c : Thread nD τ).loc main_arg0)) (m ((c : Thread nD τ).loc main_arg1)) : Vec Ideal S1024x1024 .bf16) := by
  refine (dats m 0 c).arrAt_eq_of_covers 2 _ (by decide +kernel) fun t hf y => ?_
  have e0 : ((win0_2.blk t).view.emb y 0).val = win0_2.index t 0 * 1024 + 1 * (y 0).val := rfl
  have e1 : ((win0_2.blk t).view.emb y 1).val = win0_2.index t 1 * 1024 + 1 * (y 1).val := rfl
  rw [(idx t).2.2] at e0 e1
  blk_simp
  rw [after0_2]
  refine (congrArg _ (eq_ix2 y)).trans (out m c t ((flush0_2 t).mp hf) (y 0) (y 1) ?_ ?_)
  · exact e0.trans (by simp)
  · exact e1.trans (by simp [Nat.mul_comm])

/-! ## The claims -/

/-- The kernel as it runs terminates, keeps its arguments and ends with every counter at zero. -/
theorem frame_p : Cert.quiescent_OutWgrad := fun m ρ _ => Cert.OutWgrad.Gen.frame m ρ

/-- So does the kernel over the extended reals. -/
theorem frame_pi : Cert.quiescent_OutWgradIdeal := fun m ρ _ => Cert.OutWgradIdeal.Gen.frame m ρ

/-- The reference over the extended reals terminates and keeps its arguments. -/
theorem frame_ri : Cert.quiescent_OutWgradReferenceIdeal := fun m ρ _ =>
  (θ_run Cert.OutWgradReferenceIdeal.defs _ _).mono
    (fun r h => ⟨fun c => (h c).2, sem_eq_zero_of_no_sems (by decide) r.2⟩)
    (Cert.OutWgradReferenceIdeal.Value.run (F := Ideal) m ρ)

/-- Nothing of the kernel is rewritten. -/
theorem preserves : Cert.preserves_OutWgrad_OutWgradIdeal := trivial

/-- The reference's product, entry by entry. -/
theorem ref (x : Vec Ideal S4096x1024 .bf16) (w : Vec Ideal S4096x1024 .bf16) :
    Cert.OutWgradReferenceIdeal.Read.val_main_v6 (F := Ideal) x w = Products.tn (n := 1024) (p := 1024) (l := 4096) x w := by
  funext i
  rw [Cert.OutWgradReferenceIdeal.Read.val_main_v6_apply, Cert.OutWgradReferenceIdeal.Read.val_main_v5_apply]
  refine (Cert.OutWgradReferenceIdeal.Read.val_main_v4_apply x w _).trans (sum_congr rfl fun k _ => (mul_comm _ _).trans ?_)
  rw [Cert.OutWgradReferenceIdeal.Read.val_main_v3_apply, Cert.OutWgradReferenceIdeal.Read.val_main_v0_apply]
  exact congrArg₂ (fun a b => x a * w b) (eq_ix2 _) (eq_ix2 _)

/-- On equal arguments, the kernel and the reference end with the same result. -/
theorem algebraic : Cert.algebraic_OutWgradIdeal_OutWgradReferenceIdeal := by
  intro m ρ m' ρ' _ hagree
  refine ⟨_, Cert.OutWgradIdeal.Value.run_blocks (F := Ideal) m ρ, ?_⟩
  refine (θ_run Cert.OutWgradReferenceIdeal.defs _ _).mono (fun r hr c => ?_)
    (Cert.OutWgradReferenceIdeal.Value.run (F := Ideal) m' ρ')
  obtain ⟨a0, a1⟩ := hagree c
  refine ⟨(hr c).1.trans ((Cert.OutWgradReferenceIdeal.Read.val_main_v6_eq _ _).trans ?_), (hr c).2⟩
  rw [a0, a1]
  exact (ref _ _).trans (arr m c).symm

end OutWgrad

end
-- ==== Proof.UpWgradA.lean ====
module

public import proofs.«01_k».proof.Defs
public import proofs.«01_k».proof.Proof.Products
public import proofs.«01_k».proof.Proof.Gen.UpWgradA.Frame
public import proofs.«01_k».proof.Proof.Gen.UpWgradAIdeal.Value
public import proofs.«01_k».proof.Proof.Gen.UpWgradAReferenceIdeal.Run
public import proofs.«01_k».proof.Proof.Gen.UpWgradAReferenceIdeal.Read
public import proofs.«01_k».proof.Proof.Gen.On_up_a_written

@[expose] public section

/-!
The gradient of the up projection's weight, its first half of the columns: the kernel writes it as
the first two matrices of a stack of four, each summed over two halves of the rows, which makes the
reference's product. The two other matrices are not written.
-/

noncomputable section

namespace UpWgradA

open Idealize.ShloMosaic Idealize.ShloMosaic.TcCoe Idealize.SL.Sem Finset
open Cert.UpWgradAIdeal Cert.UpWgradAIdeal.Gen

variable (m : (ℓ : Loc nD τ sig) → Buf (Elt Ideal) ℓ) (c : Dev nD)

/-- One half's product added to a block, entry by entry. -/
theorem pay (a : Vec Ideal S1024x1408 .f32) (x : Vec Ideal S2048x1024 .bf16) (w : Vec Ideal S2048x1408 .bf16)
    (i : Fin 1024) (j : Fin 1408) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1408 .bf16) (harg4 : arg4.IsWhole)
  (arg5 : Memref sig .tc .vmem S1x1024x1408 .bf16) (harg5 : arg5.IsWhole) (arg6 : Memref sig .tc .vmem S1024x1408 .f32) (harg6 : arg6.IsWhole)
  (x : Vec Ideal S2048x1024 .bf16) (w : Vec Ideal S2048x1408 .bf16)

/-- What the first half leaves in the accumulator. -/
theorem first (h0 : cond0_0 i) (h1 : ¬cond0_1 i) (p : Fin 1024) (q : Fin 1408) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1024x1408) Products.zero2, View.readCov_unit_zero (S := S1024x1408) _ Products.zero2]
  simp only [View.readAt_eq_ld, harg3.read_unread, harg4.read_unread,
    View.ld_unit_zero (S := S2048x1024) Products.zero2, View.ld_unit_zero (S := S2048x1408) Products.zero2]
  rw [pay]
  pointwise [k0_pay1]

/-- What the second half, over the accumulator, leaves in the result's block. -/
theorem last (h0 : ¬cond0_0 i) (h1 : cond0_1 i) (a : Vec Ideal S1024x1408 .f32) (p : Fin 1024) (q : Fin 1408) :
    out0_B_2 c i arg3 harg3 arg4 harg4 arg5 harg5 arg6 harg6 h0 h1 x w a (ix3 0 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1x1024x1408) Products.zero3]
  simp only [View.readCov_unit_zero (S := S1024x1408) _ Products.zero2, View.readAt_eq_ld, harg3.read_unread, harg4.read_unread, harg6.read_unread,
    View.ld_unit_zero (S := S2048x1024) Products.zero2, View.ld_unit_zero (S := S2048x1408) Products.zero2,
    View.ld_unit_zero (S := S1024x1408) Products.zero2]
  pointwise [k0_pay3]
  exact pay _ _ _ _ _

end points

/-- The blocks of point `t`: half `t % 2` of the rows, all columns of the activations, column
block `t / 2` of the gradient. -/
theorem idx : ∀ t : Fin cfg0.N, win0_0.index t = ![t.val % 2, 0] ∧ win0_1.index t = ![t.val % 2, t.val / 2] ∧
    win0_2.index t = ![t.val / 2, 0, 0] :=
  (by decide +kernel : ∀ t : Fin grid0.N, win0_0.index t = ![t.val % 2, 0] ∧ win0_1.index t = ![t.val % 2, t.val / 2] ∧
    win0_2.index t = ![t.val / 2, 0, 0])

theorem in0 (t : Fin cfg0.N) : Products.Block (N := 4096) (P := 1024) (n := 2048) (p := 1024)
    (m ((c : Thread nD τ).loc main_arg0)) (iblk m c 0 t) (2048 * (t.val % 2)) 0 := fun k i hk hi => by
  blk_ext [iblk, V_main_arg0, (idx t).1]

theorem in1 (t : Fin cfg0.N) : Products.Block (N := 4096) (P := 2816) (n := 2048) (p := 1408)
    (m ((c : Thread nD τ).loc main_arg1)) (iblk m c 1 t) (2048 * (t.val % 2)) (1408 * (t.val / 2)) := fun k j hk hj => by
  blk_ext [iblk, V_main_arg1, (idx t).2.1]

/-- The block of the result that an odd point writes back. -/
theorem out (t : Fin cfg0.N) (ht : t.val % 2 = 1) (p : Fin 1024) (q : Fin 1408) {e : (Shape.mk 2 ![1024, 2816]).Idx}
    (h0 : (e 0).val = 0 + p.val) (h1 : (e 1).val = 1408 * (t.val / 2) + q.val) :
    (outsAt0 m c t.val t.isLt).1 (ix3 0 p q) = Products.tn (n := 1024) (p := 2816) (l := 4096)
      (m ((c : Thread nD τ).loc main_arg0)) (m ((c : Thread nD τ).loc main_arg1)) e := by
  have hN : t.val < 4 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm] at x0
  rw [hm, hd] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The matrices of the stack that the call writes. -/
theorem arr (i : S4x1024x1408.Idx) (hi : (i 0).val < 2) : (dats m 0 c).arrAt 2 cfg0.N i =
    (Products.sheets 4 1408 0 (Products.tn (n := 1024) (p := 2816) (l := 4096) (m ((c : Thread nD τ).loc main_arg0))
      (m ((c : Thread nD τ).loc main_arg1))) : Vec Ideal S4x1024x1408 .bf16) i := by
  refine ((dats m 0 c).arrAt_apply_of_coversWhere 2 _ (P := fun j : S4x1024x1408.Idx => (j 0).val / 1 < 2)
    (fun β => β (0 : Fin 3) < 2) (by decide +kernel) (fun t hf y => ?_) (fun _ => Iff.rfl) i).trans (if_pos (by omega))
  have e0 : ((win0_2.blk t).view.emb y 0).val = win0_2.index t 0 * 1 + 1 * (y 0).val := rfl
  have e1 : ((win0_2.blk t).view.emb y 1).val = win0_2.index t 1 * 1024 + 1 * (y 1).val := rfl
  have e2 : ((win0_2.blk t).view.emb y 2).val = win0_2.index t 2 * 1408 + 1 * (y 2).val := rfl
  have y0 : (y 0).val < 1 := (y 0).isLt
  have y2 : (y 2).val < 1408 := (y 2).isLt
  have hN : t.val < 4 := t.isLt
  rw [(idx t).2.2] at e0 e1 e2
  have f0 := e0.trans (show _ = t.val / 2 by simp)
  have f1 := e1.trans (show _ = 0 + (y 1).val by simp)
  have f2 := e2.trans (show _ = (y 2).val by simp)
  blk_simp
  rw [after0_2]
  have ey : y = ix3 0 (y 1) (y 2) := funext fun a => by
    fin_cases a
    · exact Fin.ext (by show (y 0).val = 0; omega)
    · rfl
    · rfl
  refine (congrArg _ ey).trans ?_
  refine (out m c t ((flush0_2 t).mp hf) (y 1) (y 2) (e := ix2 ((win0_2.blk t).view.emb y 1)
    ⟨1408 * (t.val / 2) + (y 2).val, by omega⟩) f1 rfl).trans (Products.sheets_apply _ _ _ ?_).symm
  show 1408 * (((win0_2.blk t).view.emb y 0).val - 0) + ((win0_2.blk t).view.emb y 2).val = 1408 * (t.val / 2) + (y 2).val
  rw [f0, f2]
  omega

/-! ## The claims -/

/-- The kernel as it runs terminates, keeps its arguments and ends with every counter at zero. -/
theorem frame_p : Cert.quiescent_UpWgradA := fun m ρ _ => Cert.UpWgradA.Gen.frame m ρ

/-- So does the kernel over the extended reals. -/
theorem frame_pi : Cert.quiescent_UpWgradAIdeal := fun m ρ _ => Cert.UpWgradAIdeal.Gen.frame m ρ

/-- The reference over the extended reals terminates and keeps its arguments. -/
theorem frame_ri : Cert.quiescent_UpWgradAReferenceIdeal := fun m ρ _ =>
  (θ_run Cert.UpWgradAReferenceIdeal.defs _ _).mono
    (fun r h => ⟨fun c => (h c).2, sem_eq_zero_of_no_sems (by decide) r.2⟩)
    (Cert.UpWgradAReferenceIdeal.Value.run (F := Ideal) m ρ)

/-- Nothing of the kernel is rewritten. -/
theorem preserves : Cert.preserves_UpWgradA_UpWgradAIdeal := trivial

/-- The reference's product, entry by entry. -/
theorem ref (x : Vec Ideal S4096x1024 .bf16) (w : Vec Ideal S4096x2816 .bf16) (e : (Shape.mk 2 ![1024, 2816]).Idx) :
    Cert.UpWgradAReferenceIdeal.Read.val_main_v6 (F := Ideal) x w e = Products.tn (n := 1024) (p := 2816) (l := 4096) x w e := by
  rw [Cert.UpWgradAReferenceIdeal.Read.val_main_v6_apply, Cert.UpWgradAReferenceIdeal.Read.val_main_v5_apply]
  refine (Cert.UpWgradAReferenceIdeal.Read.val_main_v4_apply x w _).trans (Finset.sum_congr rfl fun k _ => (mul_comm _ _).trans ?_)
  rw [Cert.UpWgradAReferenceIdeal.Read.val_main_v3_apply, Cert.UpWgradAReferenceIdeal.Read.val_main_v0_apply]
  exact congrArg₂ (fun a b => x a * w b) (eq_ix2 _) (eq_ix2 _)

/-- The reference's first two matrices hold that product's columns. -/
theorem ref_stack (x : Vec Ideal S4096x1024 .bf16) (w : Vec Ideal S4096x2816 .bf16) (e : S4x1024x1408.Idx) (he : (e 0).val < 2) :
    Cert.UpWgradAReferenceIdeal.Read.val_main_v10 (F := Ideal) x w e =
      Products.sheets 4 1408 0 (Products.tn (n := 1024) (p := 2816) (l := 4096) x w) e := by
  have h2 : (e 2).val < 1408 := (e 2).isLt
  have h : 1408 * (e 0).val + (e 2).val < 2816 := by omega
  refine Eq.trans ?_ (Products.sheets_apply _ e ⟨1408 * (e 0).val + (e 2).val, h⟩ rfl).symm
  refine Eq.trans ?_ (ref x w (ix2 (e 1) ⟨1408 * (e 0).val + (e 2).val, h⟩))
  unfold Cert.UpWgradAReferenceIdeal.Read.val_main_v10
  refine (congrArg _ (eq_ix3 e)).trans ((Products.above _ _ 0 (by simp) (Cert.UpWgradAReferenceIdeal.Read.val_main_v8 (F := Ideal) x w) rfl 0 rfl
    (e 0) (e 1) (e 2) ⟨(e 0).val, he⟩ (Nat.zero_add _).symm).trans ?_)
  unfold Cert.UpWgradAReferenceIdeal.Read.val_main_v8 Cert.UpWgradAReferenceIdeal.Read.val_main_v7
  exact Products.stack rfl _ _ _ _ _ _ rfl

/-- Where the mask is set. -/
theorem written (x : Vec Ideal S4096x1024 .bf16) (w : Vec Ideal S4096x2816 .bf16) (i : S4x1024x1408.Idx)
    (h : Cert.On_up_a_written.fn (F := Ideal) x w i = 1#1) : (i 0).val < 2 := by
  have key : ∀ q < 4, IntOp.cmpi .slt (BitVec.ofNat 32 q) 2#32 = 1#1 → q < 2 := by decide
  exact key _ (i 0).isLt h

/-- On equal arguments, the kernel and the reference end with the same matrices where the kernel writes. -/
theorem algebraic : Cert.algebraic_UpWgradAIdeal_UpWgradAReferenceIdeal_on_up_a_written := by
  intro m ρ m' ρ' _ hagree
  refine ⟨fun c => (dats m 0 c).arrAt 2 cfg0.N, ?_, ?_⟩
  · exact (θ_run Cert.UpWgradAIdeal.defs _ _).mono (fun r hr c => ⟨fun i _ => congrFun (hr c).1 i, (hr c).2⟩)
      (Cert.UpWgradAIdeal.Value.run_blocks (F := Ideal) m ρ)
  refine (θ_run Cert.UpWgradAReferenceIdeal.defs _ _).mono (fun r hr c => ?_)
    (Cert.UpWgradAReferenceIdeal.Value.run (F := Ideal) m' ρ')
  obtain ⟨a0, a1⟩ := hagree c
  refine ⟨fun i hi => (congrFun ((hr c).1.trans (Cert.UpWgradAReferenceIdeal.Read.val_main_v10_eq _ _)) i).trans ?_, (hr c).2⟩
  have hw := written _ _ i hi
  rw [a0, a1]
  exact (ref_stack _ _ i hw).trans (arr m c i hw).symm

end UpWgradA

end
-- ==== Proof.UpWgradV.lean ====
module

public import proofs.«01_k».proof.Defs
public import proofs.«01_k».proof.Proof.Products
public import proofs.«01_k».proof.Proof.Gen.UpWgradV.Frame
public import proofs.«01_k».proof.Proof.Gen.UpWgradVIdeal.Value
public import proofs.«01_k».proof.Proof.Gen.UpWgradVReferenceIdeal.Run
public import proofs.«01_k».proof.Proof.Gen.UpWgradVReferenceIdeal.Read

@[expose] public section

/-!
The gradient of the up projection's weight, its second half of the columns: the kernel writes it as
the last two matrices of the stack of four that it is given, each summed over two halves of the rows,
which makes the reference's product. The two other matrices stay as they were.
-/

noncomputable section

namespace UpWgradV

open Idealize.ShloMosaic Idealize.ShloMosaic.TcCoe Idealize.SL.Sem Finset
open Cert.UpWgradVIdeal Cert.UpWgradVIdeal.Gen

variable (m : (ℓ : Loc nD τ sig) → Buf (Elt Ideal) ℓ) (c : Dev nD)

/-- One half's product added to a block, entry by entry. -/
theorem pay (a : Vec Ideal S1024x1408 .f32) (x : Vec Ideal S2048x1024 .bf16) (w : Vec Ideal S2048x1408 .bf16)
    (i : Fin 1024) (j : Fin 1408) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1408 .bf16) (harg4 : arg4.IsWhole)
  (arg6 : Memref sig .tc .vmem S1x1024x1408 .bf16) (harg6 : arg6.IsWhole) (arg7 : Memref sig .tc .vmem S1024x1408 .f32) (harg7 : arg7.IsWhole)
  (x : Vec Ideal S2048x1024 .bf16) (w : Vec Ideal S2048x1408 .bf16)

/-- What the first half leaves in the accumulator. -/
theorem first (h0 : cond0_0 i) (h1 : ¬cond0_1 i) (p : Fin 1024) (q : Fin 1408) :
    sout0_A_0 c i arg3 harg3 arg4 harg4 arg6 harg6 arg7 harg7 h0 h1 x w (ix2 p q) =
      Products.tn x w (ix2 p q) := by
  unfold sout0_A_0
  rw [View.read_writes_eq_canon _ _ _ (scover0_A_0 c i arg3 harg3 arg4 harg4 arg6 harg6 arg7 harg7 h0 h1 x w)]
  unfold kernelRun0_A
  dsimp only
  sl_unfold_words
  rw [View.canon_cons_unit_zero (S := S1024x1408) Products.zero2, View.readCov_unit_zero (S := S1024x1408) _ Products.zero2]
  simp only [View.readAt_eq_ld, harg3.read_unread, harg4.read_unread,
    View.ld_unit_zero (S := S2048x1024) Products.zero2, View.ld_unit_zero (S := S2048x1408) Products.zero2]
  rw [pay]
  pointwise [k0_pay1]

/-- What the second half, over the accumulator, leaves in the result's block. -/
theorem last (h0 : ¬cond0_0 i) (h1 : cond0_1 i) (a : Vec Ideal S1024x1408 .f32) (p : Fin 1024) (q : Fin 1408) :
    out0_B_2 c i arg3 harg3 arg4 harg4 arg6 harg6 arg7 harg7 h0 h1 x w a (ix3 0 p q) =
      a (ix2 p q) + Products.tn x w (ix2 p q) := by
  unfold out0_B_2
  rw [View.read_writes_eq_canon _ _ _ (cover0_B_2 c i arg3 harg3 arg4 harg4 arg6 harg6 arg7 harg7 h0 h1 x w a)]
  unfold kernelRun0_B
  dsimp only
  sl_unfold_words
  rw [View.canon_unit_zero (S := S1x1024x1408) Products.zero3]
  simp only [View.readCov_unit_zero (S := S1024x1408) _ Products.zero2, View.readAt_eq_ld, harg3.read_unread, harg4.read_unread, harg7.read_unread,
    View.ld_unit_zero (S := S2048x1024) Products.zero2, View.ld_unit_zero (S := S2048x1408) Products.zero2,
    View.ld_unit_zero (S := S1024x1408) Products.zero2]
  pointwise [k0_pay3]
  exact pay _ _ _ _ _

end points

/-- The blocks of point `t`: half `t % 2` of the rows, all columns of the activations, column
block `t / 2` of the gradient. -/
theorem idx : ∀ t : Fin cfg0.N, win0_0.index t = ![t.val % 2, 0] ∧ win0_1.index t = ![t.val % 2, t.val / 2] ∧
    win0_2.index t = ![t.val / 2 + 2, 0, 0] :=
  (by decide +kernel : ∀ t : Fin grid0.N, win0_0.index t = ![t.val % 2, 0] ∧ win0_1.index t = ![t.val % 2, t.val / 2] ∧
    win0_2.index t = ![t.val / 2 + 2, 0, 0])

theorem in0 (t : Fin cfg0.N) : Products.Block (N := 4096) (P := 1024) (n := 2048) (p := 1024)
    (m ((c : Thread nD τ).loc main_arg0)) (iblk m c 0 t) (2048 * (t.val % 2)) 0 := fun k i hk hi => by
  blk_ext [iblk, V_main_arg0, (idx t).1]

theorem in1 (t : Fin cfg0.N) : Products.Block (N := 4096) (P := 2816) (n := 2048) (p := 1408)
    (m ((c : Thread nD τ).loc main_arg1)) (iblk m c 1 t) (2048 * (t.val % 2)) (1408 * (t.val / 2)) := fun k j hk hj => by
  blk_ext [iblk, V_main_arg1, (idx t).2.1]

/-- The block of the result that an odd point writes back. -/
theorem out (t : Fin cfg0.N) (ht : t.val % 2 = 1) (p : Fin 1024) (q : Fin 1408) {e : (Shape.mk 2 ![1024, 2816]).Idx}
    (h0 : (e 0).val = 0 + p.val) (h1 : (e 1).val = 1408 * (t.val / 2) + q.val) :
    (outsAt0 m c t.val t.isLt).1 (ix3 0 p q) = Products.tn (n := 1024) (p := 2816) (l := 4096)
      (m ((c : Thread nD τ).loc main_arg0)) (m ((c : Thread nD τ).loc main_arg1)) e := by
  have hN : t.val < 4 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm] at x0
  rw [hm, hd] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The stack as the call finds it. -/
theorem V_buf : V m c main_v0 = m ((c : Thread nD τ).loc main_arg2) := by
  simp only [V, hostOps0]
  after_results
  rfl

/-- The product that the call computes, as the last two matrices of a stack. -/
abbrev made (x : Products.Mat 4096 1024) (w : Products.Mat 4096 2816) : Vec Ideal S4x1024x1408 .bf16 :=
  Products.sheets 4 1408 2 (Products.tn x w)

/-- The array that the call ends with. -/
theorem arr : (dats m 0 c).arrAt 2 cfg0.N = fun i : S4x1024x1408.Idx => if 2 ≤ (i 0).val / 1 then
    made (m ((c : Thread nD τ).loc main_arg0)) (m ((c : Thread nD τ).loc main_arg1)) i else V m c main_v0 i := by
  refine (dats m 0 c).arrAt_eq_of_coversWhere 2 _ (fun β => 2 ≤ β (0 : Fin 3)) (by decide +kernel) (fun t hf y => ?_)
    (fun _ => Iff.rfl)
  have e0 : ((win0_2.blk t).view.emb y 0).val = win0_2.index t 0 * 1 + 1 * (y 0).val := rfl
  have e1 : ((win0_2.blk t).view.emb y 1).val = win0_2.index t 1 * 1024 + 1 * (y 1).val := rfl
  have e2 : ((win0_2.blk t).view.emb y 2).val = win0_2.index t 2 * 1408 + 1 * (y 2).val := rfl
  have y0 : (y 0).val < 1 := (y 0).isLt
  have y2 : (y 2).val < 1408 := (y 2).isLt
  have hN : t.val < 4 := t.isLt
  rw [(idx t).2.2] at e0 e1 e2
  have f0 := e0.trans (show _ = t.val / 2 + 2 by simp)
  have f1 := e1.trans (show _ = 0 + (y 1).val by simp)
  have f2 := e2.trans (show _ = (y 2).val by simp)
  blk_simp
  rw [after0_2]
  have ey : y = ix3 0 (y 1) (y 2) := funext fun a => by
    fin_cases a
    · exact Fin.ext (by show (y 0).val = 0; omega)
    · rfl
    · rfl
  refine (congrArg _ ey).trans ?_
  refine (out m c t ((flush0_2 t).mp hf) (y 1) (y 2) (e := ix2 ((win0_2.blk t).view.emb y 1)
    ⟨1408 * (t.val / 2) + (y 2).val, by omega⟩) f1 rfl).trans (Products.sheets_apply _ _ _ ?_).symm
  show 1408 * (((win0_2.blk t).view.emb y 0).val - 2) + ((win0_2.blk t).view.emb y 2).val = 1408 * (t.val / 2) + (y 2).val
  rw [f0, f2]
  omega

/-! ## The claims -/

/-- The kernel as it runs terminates, keeps its arguments and ends with every counter at zero. -/
theorem frame_p : Cert.quiescent_UpWgradV := fun m ρ _ => Cert.UpWgradV.Gen.frame m ρ

/-- So does the kernel over the extended reals. -/
theorem frame_pi : Cert.quiescent_UpWgradVIdeal := fun m ρ _ => Cert.UpWgradVIdeal.Gen.frame m ρ

/-- The reference over the extended reals terminates and keeps its arguments. -/
theorem frame_ri : Cert.quiescent_UpWgradVReferenceIdeal := fun m ρ _ =>
  (θ_run Cert.UpWgradVReferenceIdeal.defs _ _).mono
    (fun r h => ⟨fun c => (h c).2, sem_eq_zero_of_no_sems (by decide) r.2⟩)
    (Cert.UpWgradVReferenceIdeal.Value.run (F := Ideal) m ρ)

/-- Nothing of the kernel is rewritten. -/
theorem preserves : Cert.preserves_UpWgradV_UpWgradVIdeal := trivial

/-- The reference's product, entry by entry. -/
theorem ref (x : Vec Ideal S4096x1024 .bf16) (w : Vec Ideal S4096x2816 .bf16) (e : (Shape.mk 2 ![1024, 2816]).Idx) :
    Cert.UpWgradVReferenceIdeal.Read.val_main_v7 (F := Ideal) x w e = Products.tn (n := 1024) (p := 2816) (l := 4096) x w e := by
  rw [Cert.UpWgradVReferenceIdeal.Read.val_main_v7_apply, Cert.UpWgradVReferenceIdeal.Read.val_main_v6_apply]
  refine (Cert.UpWgradVReferenceIdeal.Read.val_main_v5_apply x w _).trans (Finset.sum_congr rfl fun k _ => (mul_comm _ _).trans ?_)
  rw [Cert.UpWgradVReferenceIdeal.Read.val_main_v4_apply, Cert.UpWgradVReferenceIdeal.Read.val_main_v1_apply]
  exact congrArg₂ (fun a b => x a * w b) (eq_ix2 _) (eq_ix2 _)

/-- The reference's first two matrices are the given stack's. -/
theorem ref_kept (x : Vec Ideal S4096x1024 .bf16) (w : Vec Ideal S4096x2816 .bf16) (b : Vec Ideal S4x1024x1408 .bf16)
    (e : S4x1024x1408.Idx) (he : (e 0).val < 2) : Cert.UpWgradVReferenceIdeal.Read.val_main_v10 (F := Ideal) x w b e = b e := by
  unfold Cert.UpWgradVReferenceIdeal.Read.val_main_v10
  refine (congrArg _ (eq_ix3 e)).trans ((Products.above _ _ 0 (by simp) (Cert.UpWgradVReferenceIdeal.Read.val_main_v0 (F := Ideal) b) rfl 0 rfl
    (e 0) (e 1) (e 2) ⟨(e 0).val, he⟩ (Nat.zero_add _).symm).trans ?_)
  refine (Cert.UpWgradVReferenceIdeal.Read.val_main_v0_apply b _).trans (congrArg b (funext fun a => ?_))
  fin_cases a <;> rfl

/-- Its last two hold the product's columns. -/
theorem ref_made (x : Vec Ideal S4096x1024 .bf16) (w : Vec Ideal S4096x2816 .bf16) (b : Vec Ideal S4x1024x1408 .bf16)
    (e : S4x1024x1408.Idx) (he : 2 ≤ (e 0).val) : Cert.UpWgradVReferenceIdeal.Read.val_main_v10 (F := Ideal) x w b e = made x w e := by
  have h0 : (e 0).val < 4 := (e 0).isLt
  have h2 : (e 2).val < 1408 := (e 2).isLt
  have h : 1408 * ((e 0).val - 2) + (e 2).val < 2816 := by omega
  refine Eq.trans ?_ (Products.sheets_apply _ e ⟨1408 * ((e 0).val - 2) + (e 2).val, h⟩ rfl).symm
  refine Eq.trans ?_ (ref x w (ix2 (e 1) ⟨1408 * ((e 0).val - 2) + (e 2).val, h⟩))
  unfold Cert.UpWgradVReferenceIdeal.Read.val_main_v10
  refine (congrArg _ (eq_ix3 e)).trans ((Products.above _ _ 1 (by simp) (Cert.UpWgradVReferenceIdeal.Read.val_main_v9 (F := Ideal) x w) rfl 2 rfl
    (e 0) (e 1) (e 2) ⟨(e 0).val - 2, by omega⟩ (by show (e 0).val = 2 + ((e 0).val - 2); omega)).trans ?_)
  unfold Cert.UpWgradVReferenceIdeal.Read.val_main_v9 Cert.UpWgradVReferenceIdeal.Read.val_main_v8
  exact Products.stack rfl _ _ _ _ _ _ rfl

/-- On equal arguments, the kernel and the reference end with the same result. -/
theorem algebraic : Cert.algebraic_UpWgradVIdeal_UpWgradVReferenceIdeal := by
  intro m ρ m' ρ' _ hagree
  refine ⟨_, Cert.UpWgradVIdeal.Value.run_blocks (F := Ideal) m ρ, ?_⟩
  refine (θ_run Cert.UpWgradVReferenceIdeal.defs _ _).mono (fun r hr c => ?_)
    (Cert.UpWgradVReferenceIdeal.Value.run (F := Ideal) m' ρ')
  obtain ⟨a0, a1, a2⟩ := hagree c
  refine ⟨(hr c).1.trans ((Cert.UpWgradVReferenceIdeal.Read.val_main_v10_eq _ _ _).trans ?_), (hr c).2⟩
  rw [a0, a1, a2]
  refine Eq.trans (funext fun i => ?_) (arr m c).symm
  by_cases hi : 2 ≤ (i 0).val
  · exact (ref_made _ _ _ i hi).trans (if_pos (by omega)).symm
  · exact (ref_kept _ _ _ i (by omega)).trans ((congrFun (V_buf m c) i).symm.trans (if_neg (by omega)).symm)

end UpWgradV

end
-- ==== Proof.BranchAWgrad.lean ====
module

public import proofs.«01_k».proof.Defs
public import proofs.«01_k».proof.Proof.Products
public import proofs.«01_k».proof.Proof.Gen.BranchAWgrad.Frame
public import proofs.«01_k».proof.Proof.Gen.BranchAWgradIdeal.Value
public import proofs.«01_k».proof.Proof.Gen.BranchAWgradReferenceIdeal.Run
public import proofs.«01_k».proof.Proof.Gen.BranchAWgradReferenceIdeal.Read
public import proofs.«01_k».proof.Proof.Gen.On_branch_a_written

@[expose] public section

/-!
The gradient of a gated branch's weight, of the first 2048 of its 3072 rows: each block of them is
summed over two halves of the arguments' rows, which makes the reference's product. The last block
of rows is not written.
-/

noncomputable section

namespace BranchAWgrad

open Idealize.ShloMosaic Idealize.ShloMosaic.TcCoe Idealize.SL.Sem Finset
open Cert.BranchAWgradIdeal Cert.BranchAWgradIdeal.Gen

variable (m : (ℓ : Loc nD τ sig) → Buf (Elt Ideal) ℓ) (c : Dev nD)

/-- One half's product added to a block, entry by entry. -/
theorem pay (a : Vec Ideal S1024x1024 .f32) (x : Vec Ideal S2048x1024 .bf16) (w : Vec Ideal S2048x1024 .bf16)
    (i : Fin 1024) (j : Fin 1024) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1024 .bf16) (harg4 : arg4.IsWhole)
  (arg5 : Memref sig .tc .vmem S1024x1024 .bf16) (harg5 : arg5.IsWhole) (arg6 : Memref sig .tc .vmem S1024x1024 .f32) (harg6 : arg6.IsWhole)
  (x : Vec Ideal S2048x1024 .bf16) (w : Vec Ideal S2048x1024 .bf16)

/-- What the first half leaves in the accumulator. -/
theorem first (h0 : cond0_0 i) (h1 : ¬cond0_1 i) (p : Fin 1024) (q : Fin 1024) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1024x1024) Products.zero2, View.readCov_unit_zero (S := S1024x1024) _ Products.zero2]
  simp only [View.readAt_eq_ld, harg3.read_unread, harg4.read_unread,
    View.ld_unit_zero (S := S2048x1024) Products.zero2, View.ld_unit_zero (S := S2048x1024) Products.zero2]
  rw [pay]
  pointwise [k0_pay1]

/-- What the second half, over the accumulator, leaves in the result's block. -/
theorem last (h0 : ¬cond0_0 i) (h1 : cond0_1 i) (a : Vec Ideal S1024x1024 .f32) (p : Fin 1024) (q : Fin 1024) :
    out0_B_2 c i arg3 harg3 arg4 harg4 arg5 harg5 arg6 harg6 h0 h1 x w a (ix2 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1024x1024) Products.zero2]
  simp only [View.readCov_unit_zero (S := S1024x1024) _ Products.zero2, View.readAt_eq_ld, harg3.read_unread, harg4.read_unread, harg6.read_unread,
    View.ld_unit_zero (S := S2048x1024) Products.zero2, View.ld_unit_zero (S := S2048x1024) Products.zero2,
    View.ld_unit_zero (S := S1024x1024) Products.zero2]
  pointwise [k0_pay3]
  exact pay _ _ _ _ _

end points

/-- The blocks of point `t`: half `t % 2` of the rows, columns `t / 2` of the activations, all
columns of the gradient. -/
theorem idx : ∀ t : Fin cfg0.N, win0_0.index t = ![t.val % 2, t.val / 2] ∧ win0_1.index t = ![t.val % 2, 0] ∧
    win0_2.index t = ![t.val / 2, 0] :=
  (by decide +kernel : ∀ t : Fin grid0.N, win0_0.index t = ![t.val % 2, t.val / 2] ∧ win0_1.index t = ![t.val % 2, 0] ∧
    win0_2.index t = ![t.val / 2, 0])

theorem in0 (t : Fin cfg0.N) : Products.Block (N := 4096) (P := 2048) (n := 2048) (p := 1024)
    (m ((c : Thread nD τ).loc main_arg0)) (iblk m c 0 t) (2048 * (t.val % 2)) (1024 * (t.val / 2)) := fun k i hk hi => by
  blk_ext [iblk, V_main_arg0, (idx t).1]

theorem in1 (t : Fin cfg0.N) : Products.Block (N := 4096) (P := 1024) (n := 2048) (p := 1024)
    (m ((c : Thread nD τ).loc main_arg1)) (iblk m c 1 t) (2048 * (t.val % 2)) 0 := fun k j hk hj => by
  blk_ext [iblk, V_main_arg1, (idx t).2.1]

/-- The block of the result that an odd point writes back. -/
theorem out (t : Fin cfg0.N) (ht : t.val % 2 = 1) (p : Fin 1024) (q : Fin 1024) {e : (Shape.mk 2 ![2048, 1024]).Idx}
    (h0 : (e 0).val = 1024 * (t.val / 2) + p.val) (h1 : (e 1).val = 0 + q.val) :
    (outsAt0 m c t.val t.isLt).1 (ix2 p q) = Products.tn (n := 2048) (p := 1024) (l := 4096)
      (m ((c : Thread nD τ).loc main_arg0)) (m ((c : Thread nD τ).loc main_arg1)) e := by
  have hN : t.val < 4 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm, hd] at x0
  rw [hm] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The rows that the call writes. -/
theorem arr (i : S3072x1024.Idx) (hi : (i 0).val < 2048) : (dats m 0 c).arrAt 2 cfg0.N i =
    (Products.rows 3072 0 (Products.tn (n := 2048) (p := 1024) (l := 4096) (m ((c : Thread nD τ).loc main_arg0))
      (m ((c : Thread nD τ).loc main_arg1))) : Vec Ideal S3072x1024 .bf16) i := by
  refine ((dats m 0 c).arrAt_apply_of_coversWhere 2 _ (P := fun j : S3072x1024.Idx => (j 0).val / 1024 < 2)
    (fun β => β (0 : Fin 2) < 2) (by decide +kernel) (fun t hf y => ?_) (fun _ => Iff.rfl) i).trans (if_pos (by omega))
  have e0 : ((win0_2.blk t).view.emb y 0).val = win0_2.index t 0 * 1024 + 1 * (y 0).val := rfl
  have e1 : ((win0_2.blk t).view.emb y 1).val = win0_2.index t 1 * 1024 + 1 * (y 1).val := rfl
  have y0 : (y 0).val < 1024 := (y 0).isLt
  have hN : t.val < 4 := t.isLt
  rw [(idx t).2.2] at e0 e1
  have f0 := e0.trans (show _ = 1024 * (t.val / 2) + (y 0).val by simp [Nat.mul_comm])
  have f1 := e1.trans (show _ = 0 + (y 1).val by simp)
  blk_simp
  rw [after0_2]
  refine (congrArg _ (eq_ix2 y)).trans ?_
  refine (out m c t ((flush0_2 t).mp hf) (y 0) (y 1) (e := ix2 ⟨1024 * (t.val / 2) + (y 0).val, by omega⟩
    ((win0_2.blk t).view.emb y 1)) rfl f1).trans (Products.rows_apply _ _ _ ?_).symm
  show ((win0_2.blk t).view.emb y 0).val - 0 = 1024 * (t.val / 2) + (y 0).val
  rw [f0]
  omega

/-! ## The claims -/

/-- The kernel as it runs terminates, keeps its arguments and ends with every counter at zero. -/
theorem frame_p : Cert.quiescent_BranchAWgrad := fun m ρ _ => Cert.BranchAWgrad.Gen.frame m ρ

/-- So does the kernel over the extended reals. -/
theorem frame_pi : Cert.quiescent_BranchAWgradIdeal := fun m ρ _ => Cert.BranchAWgradIdeal.Gen.frame m ρ

/-- The reference over the extended reals terminates and keeps its arguments. -/
theorem frame_ri : Cert.quiescent_BranchAWgradReferenceIdeal := fun m ρ _ =>
  (θ_run Cert.BranchAWgradReferenceIdeal.defs _ _).mono
    (fun r h => ⟨fun c => (h c).2, sem_eq_zero_of_no_sems (by decide) r.2⟩)
    (Cert.BranchAWgradReferenceIdeal.Value.run (F := Ideal) m ρ)

/-- Nothing of the kernel is rewritten. -/
theorem preserves : Cert.preserves_BranchAWgrad_BranchAWgradIdeal := trivial

/-- The reference's product, entry by entry. -/
theorem ref (x : Vec Ideal S4096x2048 .bf16) (w : Vec Ideal S4096x1024 .bf16) (e : (Shape.mk 2 ![2048, 1024]).Idx) :
    Cert.BranchAWgradReferenceIdeal.Read.val_main_v6 (F := Ideal) x w e = Products.tn (n := 2048) (p := 1024) (l := 4096) x w e := by
  rw [Cert.BranchAWgradReferenceIdeal.Read.val_main_v6_apply, Cert.BranchAWgradReferenceIdeal.Read.val_main_v5_apply]
  refine (Cert.BranchAWgradReferenceIdeal.Read.val_main_v4_apply x w _).trans (sum_congr rfl fun k _ => (mul_comm _ _).trans ?_)
  rw [Cert.BranchAWgradReferenceIdeal.Read.val_main_v3_apply, Cert.BranchAWgradReferenceIdeal.Read.val_main_v0_apply]
  exact congrArg₂ (fun a b => x a * w b) (eq_ix2 _) (eq_ix2 _)

/-- The reference's first 2048 rows are that product. -/
theorem ref_rows (x : Vec Ideal S4096x2048 .bf16) (w : Vec Ideal S4096x1024 .bf16) (e : S3072x1024.Idx)
    (he : (e 0).val < 2048) : Cert.BranchAWgradReferenceIdeal.Read.val_main_v8 (F := Ideal) x w e =
      Products.rows 3072 0 (Products.tn (n := 2048) (p := 1024) (l := 4096) x w) e := by
  refine Eq.trans ?_ (Products.rows_apply _ e ⟨(e 0).val, he⟩ rfl).symm
  refine Eq.trans ?_ (ref x w (ix2 ⟨(e 0).val, he⟩ (e 1)))
  unfold Cert.BranchAWgradReferenceIdeal.Read.val_main_v8
  exact (congrArg _ (eq_ix2 e)).trans (Products.below _ _ 0 (by simp) (Cert.BranchAWgradReferenceIdeal.Read.val_main_v6 (F := Ideal) x w) rfl 0 rfl
    (e 0) (e 1) ⟨(e 0).val, he⟩ (Nat.zero_add _).symm)

/-- Where the mask is set. -/
theorem written (x : Vec Ideal S4096x2048 .bf16) (w : Vec Ideal S4096x1024 .bf16) (i : S3072x1024.Idx)
    (h : Cert.On_branch_a_written.fn (F := Ideal) x w i = 1#1) : (i 0).val < 2048 := by
  have key : ∀ q < 3072, IntOp.cmpi .slt (BitVec.ofNat 32 q) 2048#32 = 1#1 → q < 2048 := by decide +kernel
  exact key _ (i 0).isLt h

/-- On equal arguments, the kernel and the reference end with the same rows where the kernel writes. -/
theorem algebraic : Cert.algebraic_BranchAWgradIdeal_BranchAWgradReferenceIdeal_on_branch_a_written := by
  intro m ρ m' ρ' _ hagree
  refine ⟨fun c => (dats m 0 c).arrAt 2 cfg0.N, ?_, ?_⟩
  · exact (θ_run Cert.BranchAWgradIdeal.defs _ _).mono (fun r hr c => ⟨fun i _ => congrFun (hr c).1 i, (hr c).2⟩)
      (Cert.BranchAWgradIdeal.Value.run_blocks (F := Ideal) m ρ)
  refine (θ_run Cert.BranchAWgradReferenceIdeal.defs _ _).mono (fun r hr c => ?_)
    (Cert.BranchAWgradReferenceIdeal.Value.run (F := Ideal) m' ρ')
  obtain ⟨a0, a1⟩ := hagree c
  refine ⟨fun i hi => (congrFun ((hr c).1.trans (Cert.BranchAWgradReferenceIdeal.Read.val_main_v8_eq _ _)) i).trans ?_, (hr c).2⟩
  have hw := written _ _ i hi
  rw [a0, a1]
  exact (ref_rows _ _ i hw).trans (arr m c i hw).symm

end BranchAWgrad

end
-- ==== Proof.BranchBWgrad.lean ====
module

public import proofs.«01_k».proof.Defs
public import proofs.«01_k».proof.Proof.Products
public import proofs.«01_k».proof.Proof.Gen.BranchBWgrad.Frame
public import proofs.«01_k».proof.Proof.Gen.BranchBWgradIdeal.Value
public import proofs.«01_k».proof.Proof.Gen.BranchBWgradReferenceIdeal.Run
public import proofs.«01_k».proof.Proof.Gen.BranchBWgradReferenceIdeal.Read

@[expose] public section

/-!
The gradient of a gated branch's weight, of the last 1024 of its 3072 rows: the kernel writes them into
the array that it is given, summed over two halves of the arguments' rows, which makes the reference's
product. The other rows stay as they were.
-/

noncomputable section

namespace BranchBWgrad

open Idealize.ShloMosaic Idealize.ShloMosaic.TcCoe Idealize.SL.Sem Finset
open Cert.BranchBWgradIdeal Cert.BranchBWgradIdeal.Gen

variable (m : (ℓ : Loc nD τ sig) → Buf (Elt Ideal) ℓ) (c : Dev nD)

/-- One half's product added to a block, entry by entry. -/
theorem pay (a : Vec Ideal S1024x1024 .f32) (x : Vec Ideal S2048x1024 .bf16) (w : Vec Ideal S2048x1024 .bf16)
    (i : Fin 1024) (j : Fin 1024) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x1024 .bf16) (harg4 : arg4.IsWhole)
  (arg6 : Memref sig .tc .vmem S1024x1024 .bf16) (harg6 : arg6.IsWhole) (arg7 : Memref sig .tc .vmem S1024x1024 .f32) (harg7 : arg7.IsWhole)
  (x : Vec Ideal S2048x1024 .bf16) (w : Vec Ideal S2048x1024 .bf16)

/-- What the first half leaves in the accumulator. -/
theorem first (h0 : cond0_0 i) (h1 : ¬cond0_1 i) (p : Fin 1024) (q : Fin 1024) :
    sout0_A_0 c i arg3 harg3 arg4 harg4 arg6 harg6 arg7 harg7 h0 h1 x w (ix2 p q) =
      Products.tn x w (ix2 p q) := by
  unfold sout0_A_0
  rw [View.read_writes_eq_canon _ _ _ (scover0_A_0 c i arg3 harg3 arg4 harg4 arg6 harg6 arg7 harg7 h0 h1 x w)]
  unfold kernelRun0_A
  dsimp only
  sl_unfold_words
  rw [View.canon_cons_unit_zero (S := S1024x1024) Products.zero2, View.readCov_unit_zero (S := S1024x1024) _ Products.zero2]
  simp only [View.readAt_eq_ld, harg3.read_unread, harg4.read_unread,
    View.ld_unit_zero (S := S2048x1024) Products.zero2, View.ld_unit_zero (S := S2048x1024) Products.zero2]
  rw [pay]
  pointwise [k0_pay1]

/-- What the second half, over the accumulator, leaves in the result's block. -/
theorem last (h0 : ¬cond0_0 i) (h1 : cond0_1 i) (a : Vec Ideal S1024x1024 .f32) (p : Fin 1024) (q : Fin 1024) :
    out0_B_2 c i arg3 harg3 arg4 harg4 arg6 harg6 arg7 harg7 h0 h1 x w a (ix2 p q) =
      a (ix2 p q) + Products.tn x w (ix2 p q) := by
  unfold out0_B_2
  rw [View.read_writes_eq_canon _ _ _ (cover0_B_2 c i arg3 harg3 arg4 harg4 arg6 harg6 arg7 harg7 h0 h1 x w a)]
  unfold kernelRun0_B
  dsimp only
  sl_unfold_words
  rw [View.canon_unit_zero (S := S1024x1024) Products.zero2]
  simp only [View.readCov_unit_zero (S := S1024x1024) _ Products.zero2, View.readAt_eq_ld, harg3.read_unread, harg4.read_unread, harg7.read_unread,
    View.ld_unit_zero (S := S2048x1024) Products.zero2, View.ld_unit_zero (S := S2048x1024) Products.zero2,
    View.ld_unit_zero (S := S1024x1024) Products.zero2]
  pointwise [k0_pay3]
  exact pay _ _ _ _ _

end points

/-- The blocks of point `t`: half `t % 2` of the rows of both arguments. -/
theorem idx : ∀ t : Fin cfg0.N, win0_0.index t = ![t.val % 2, 0] ∧ win0_1.index t = ![t.val % 2, 0] ∧
    win0_2.index t = ![2, 0] :=
  (by decide +kernel : ∀ t : Fin grid0.N, win0_0.index t = ![t.val % 2, 0] ∧ win0_1.index t = ![t.val % 2, 0] ∧
    win0_2.index t = ![2, 0])

theorem in0 (t : Fin cfg0.N) : Products.Block (N := 4096) (P := 1024) (n := 2048) (p := 1024)
    (m ((c : Thread nD τ).loc main_arg0)) (iblk m c 0 t) (2048 * (t.val % 2)) 0 := fun k i hk hi => by
  blk_ext [iblk, V_main_arg0, (idx t).1]

theorem in1 (t : Fin cfg0.N) : Products.Block (N := 4096) (P := 1024) (n := 2048) (p := 1024)
    (m ((c : Thread nD τ).loc main_arg1)) (iblk m c 1 t) (2048 * (t.val % 2)) 0 := fun k j hk hj => by
  blk_ext [iblk, V_main_arg1, (idx t).2.1]

/-- The block of the result that an odd point writes back. -/
theorem out (t : Fin cfg0.N) (ht : t.val % 2 = 1) (p : Fin 1024) (q : Fin 1024) {e : S1024x1024.Idx}
    (h0 : (e 0).val = 0 + p.val) (h1 : (e 1).val = 0 + q.val) :
    (outsAt0 m c t.val t.isLt).1 (ix2 p q) = Products.tn (n := 1024) (p := 1024) (l := 4096)
      (m ((c : Thread nD τ).loc main_arg0)) (m ((c : Thread nD τ).loc main_arg1)) e := by
  have hN : t.val < 2 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm] at x0
  rw [hm] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The array as the call finds it. -/
theorem V_buf : V m c main_v0 = m ((c : Thread nD τ).loc main_arg2) := by
  simp only [V, hostOps0]
  after_results
  rfl

/-- The product that the call computes, as the last rows of an array. -/
abbrev made (x w : Products.Mat 4096 1024) : Vec Ideal S3072x1024 .bf16 :=
  Products.rows 3072 2048 (Products.tn x w)

/-- The array that the call ends with. -/
theorem arr : (dats m 0 c).arrAt 2 cfg0.N = fun i : S3072x1024.Idx => if 2 ≤ (i 0).val / 1024 then
    made (m ((c : Thread nD τ).loc main_arg0)) (m ((c : Thread nD τ).loc main_arg1)) i else V m c main_v0 i := by
  refine (dats m 0 c).arrAt_eq_of_coversWhere 2 _ (fun β => 2 ≤ β (0 : Fin 2)) (by decide +kernel) (fun t hf y => ?_)
    (fun _ => Iff.rfl)
  have e0 : ((win0_2.blk t).view.emb y 0).val = win0_2.index t 0 * 1024 + 1 * (y 0).val := rfl
  have e1 : ((win0_2.blk t).view.emb y 1).val = win0_2.index t 1 * 1024 + 1 * (y 1).val := rfl
  have y0 : (y 0).val < 1024 := (y 0).isLt
  have hN : t.val < 2 := t.isLt
  rw [(idx t).2.2] at e0 e1
  have f0 := e0.trans (show _ = 2048 + (y 0).val by simp)
  have f1 := e1.trans (show _ = 0 + (y 1).val by simp)
  blk_simp
  rw [after0_2]
  refine (congrArg _ (eq_ix2 y)).trans ?_
  refine (out m c t ((flush0_2 t).mp hf) (y 0) (y 1) (e := ix2 ⟨(y 0).val, y0⟩
    ((win0_2.blk t).view.emb y 1)) (Nat.zero_add _).symm f1).trans (Products.rows_apply _ _ _ ?_).symm
  show ((win0_2.blk t).view.emb y 0).val - 2048 = (y 0).val
  rw [f0]
  omega

/-! ## The claims -/

/-- The kernel as it runs terminates, keeps its arguments and ends with every counter at zero. -/
theorem frame_p : Cert.quiescent_BranchBWgrad := fun m ρ _ => Cert.BranchBWgrad.Gen.frame m ρ

/-- So does the kernel over the extended reals. -/
theorem frame_pi : Cert.quiescent_BranchBWgradIdeal := fun m ρ _ => Cert.BranchBWgradIdeal.Gen.frame m ρ

/-- The reference over the extended reals terminates and keeps its arguments. -/
theorem frame_ri : Cert.quiescent_BranchBWgradReferenceIdeal := fun m ρ _ =>
  (θ_run Cert.BranchBWgradReferenceIdeal.defs _ _).mono
    (fun r h => ⟨fun c => (h c).2, sem_eq_zero_of_no_sems (by decide) r.2⟩)
    (Cert.BranchBWgradReferenceIdeal.Value.run (F := Ideal) m ρ)

/-- Nothing of the kernel is rewritten. -/
theorem preserves : Cert.preserves_BranchBWgrad_BranchBWgradIdeal := trivial

/-- The reference's product, entry by entry. -/
theorem ref (x : Vec Ideal S4096x1024 .bf16) (w : Vec Ideal S4096x1024 .bf16) (e : S1024x1024.Idx) :
    Cert.BranchBWgradReferenceIdeal.Read.val_main_v7 (F := Ideal) x w e = Products.tn (n := 1024) (p := 1024) (l := 4096) x w e := by
  rw [Cert.BranchBWgradReferenceIdeal.Read.val_main_v7_apply, Cert.BranchBWgradReferenceIdeal.Read.val_main_v6_apply]
  refine (Cert.BranchBWgradReferenceIdeal.Read.val_main_v5_apply x w _).trans (sum_congr rfl fun k _ => (mul_comm _ _).trans ?_)
  rw [Cert.BranchBWgradReferenceIdeal.Read.val_main_v4_apply, Cert.BranchBWgradReferenceIdeal.Read.val_main_v1_apply]
  exact congrArg₂ (fun a b => x a * w b) (eq_ix2 _) (eq_ix2 _)

/-- The reference's first 2048 rows are the given array's. -/
theorem ref_kept (x w : Vec Ideal S4096x1024 .bf16) (b : Vec Ideal S3072x1024 .bf16) (e : S3072x1024.Idx)
    (he : (e 0).val < 2048) : Cert.BranchBWgradReferenceIdeal.Read.val_main_v8 (F := Ideal) x w b e = b e := by
  unfold Cert.BranchBWgradReferenceIdeal.Read.val_main_v8
  refine (congrArg _ (eq_ix2 e)).trans ((Products.below _ _ 0 (by simp) (Cert.BranchBWgradReferenceIdeal.Read.val_main_v0 (F := Ideal) b) rfl 0 rfl
    (e 0) (e 1) ⟨(e 0).val, he⟩ (Nat.zero_add _).symm).trans ?_)
  refine (Cert.BranchBWgradReferenceIdeal.Read.val_main_v0_apply b _).trans (congrArg b (funext fun a => ?_))
  fin_cases a <;> rfl

/-- Its last 1024 are the product. -/
theorem ref_made (x w : Vec Ideal S4096x1024 .bf16) (b : Vec Ideal S3072x1024 .bf16) (e : S3072x1024.Idx)
    (he : 2048 ≤ (e 0).val) : Cert.BranchBWgradReferenceIdeal.Read.val_main_v8 (F := Ideal) x w b e = made x w e := by
  have h0 : (e 0).val < 3072 := (e 0).isLt
  have h : (e 0).val - 2048 < 1024 := by omega
  refine Eq.trans ?_ (Products.rows_apply _ e ⟨(e 0).val - 2048, h⟩ rfl).symm
  refine Eq.trans ?_ (ref x w (ix2 ⟨(e 0).val - 2048, h⟩ (e 1)))
  unfold Cert.BranchBWgradReferenceIdeal.Read.val_main_v8
  exact (congrArg _ (eq_ix2 e)).trans (Products.below _ _ 1 (by simp) (Cert.BranchBWgradReferenceIdeal.Read.val_main_v7 (F := Ideal) x w) rfl 2048 rfl
    (e 0) (e 1) ⟨(e 0).val - 2048, h⟩ (by show (e 0).val = 2048 + ((e 0).val - 2048); omega))

/-- On equal arguments, the kernel and the reference end with the same result. -/
theorem algebraic : Cert.algebraic_BranchBWgradIdeal_BranchBWgradReferenceIdeal := by
  intro m ρ m' ρ' _ hagree
  refine ⟨_, Cert.BranchBWgradIdeal.Value.run_blocks (F := Ideal) m ρ, ?_⟩
  refine (θ_run Cert.BranchBWgradReferenceIdeal.defs _ _).mono (fun r hr c => ?_)
    (Cert.BranchBWgradReferenceIdeal.Value.run (F := Ideal) m' ρ')
  obtain ⟨a0, a1, a2⟩ := hagree c
  refine ⟨(hr c).1.trans ((Cert.BranchBWgradReferenceIdeal.Read.val_main_v8_eq _ _ _).trans ?_), (hr c).2⟩
  rw [a0, a1, a2]
  refine Eq.trans (funext fun i => ?_) (arr m c).symm
  by_cases hi : 2048 ≤ (i 0).val
  · exact (ref_made _ _ _ i hi).trans (if_pos (by omega)).symm
  · exact (ref_kept _ _ _ i (by omega)).trans ((congrFun (V_buf m c) i).symm.trans (if_neg (by omega)).symm)

end BranchBWgrad

end
-- ==== Proof.InDt.lean ====
module

public import proofs.«01_k».proof.Defs
public import proofs.«01_k».proof.Proof.Products
public import proofs.«01_k».proof.Proof.Gen.InDt.Frame
public import proofs.«01_k».proof.Proof.Gen.InDtIdeal.Value
public import proofs.«01_k».proof.Proof.Gen.InDtReferenceIdeal.Run
public import proofs.«01_k».proof.Proof.Gen.InDtReferenceIdeal.Read

@[expose] public section

/-!
The input projection to the step sizes, padded to 128 columns: the kernel's blocks are blocks of one
product of its two arguments, which is the reference's product.
-/

noncomputable section

namespace InDt

open Idealize.ShloMosaic Idealize.ShloMosaic.TcCoe Idealize.SL.Sem
open Cert.InDtIdeal Cert.InDtIdeal.Gen

variable (m : (ℓ : Loc nD τ sig) → Buf (Elt Ideal) ℓ) (c : Dev nD)

/-- The block product of one grid point, entry by entry. -/
theorem pay (x : Vec Ideal S2048x1024 .bf16) (w : Vec Ideal S1024x128 .bf16) (i : Fin 2048) (j : Fin 128) :
    k0_pay1 x w (ix2 i j) = Products.nn x w (ix2 i j) := by
  pointwise [k0_pay1]
  rfl

/-- The blocks of point `t`: row block `t` of the input, the whole weight. -/
theorem idx : ∀ t : Fin cfg0.N, win0_0.index t = ![t.val, 0] ∧ win0_1.index t = ![0, 0] ∧
    win0_2.index t = ![t.val, 0] :=
  (by decide +kernel : ∀ t : Fin grid0.N, win0_0.index t = ![t.val, 0] ∧ win0_1.index t = ![0, 0] ∧
    win0_2.index t = ![t.val, 0])

theorem in0 (t : Fin cfg0.N) : Products.Block (N := 4096) (P := 1024) (n := 2048) (p := 1024)
    (m ((c : Thread nD τ).loc main_arg0)) (iblk m c 0 t) (2048 * t.val) 0 := fun i k hi hk => by
  blk_ext [iblk, V_main_arg0, (idx t).1]

theorem in1 (t : Fin cfg0.N) : Products.Block (N := 1024) (P := 128) (n := 1024) (p := 128)
    (m ((c : Thread nD τ).loc main_arg1)) (iblk m c 1 t) 0 0 := fun k j hk hj => by
  blk_ext [iblk, V_main_arg1, (idx t).2.1]

/-- The array that the call ends with. -/
theorem arr : (dats m 0 c).arrAt 2 cfg0.N = (Products.nn (n := 4096) (p := 128) (l := 1024)
    (m ((c : Thread nD τ).loc main_arg0)) (m ((c : Thread nD τ).loc main_arg1)) : Vec Ideal S4096x128 .f32) := by
  refine (dats m 0 c).arrAt_eq_of_covers 2 _ (by decide +kernel) fun t hf y => ?_
  have e0 : ((win0_2.blk t).view.emb y 0).val = win0_2.index t 0 * 2048 + 1 * (y 0).val := rfl
  have e1 : ((win0_2.blk t).view.emb y 1).val = win0_2.index t 1 * 128 + 1 * (y 1).val := rfl
  rw [(idx t).2.2] at e0 e1
  blk_simp
  rw [after0_2]
  unfold out0_2
  rw [View.canon_unit_zero (S := S2048x128) Products.zero2, View.ld_unit_zero (S := S2048x1024) Products.zero2,
    View.ld_unit_zero (S := S1024x128) Products.zero2]
  refine (congrArg _ (eq_ix2 y)).trans ((pay _ _ (y 0) (y 1)).trans (Products.nn_block (in0 m c t) (in1 m c t) _ _ ?_ ?_))
  · exact e0.trans (by simp [Nat.mul_comm])
  · exact e1.trans (by simp)

/-! ## The claims -/

/-- The kernel as it runs terminates, keeps its arguments and ends with every counter at zero. -/
theorem frame_p : Cert.quiescent_InDt := fun m ρ _ => Cert.InDt.Gen.frame m ρ

/-- So does the kernel over the extended reals. -/
theorem frame_pi : Cert.quiescent_InDtIdeal := fun m ρ _ => Cert.InDtIdeal.Gen.frame m ρ

/-- The reference over the extended reals terminates and keeps its arguments. -/
theorem frame_ri : Cert.quiescent_InDtReferenceIdeal := fun m ρ _ =>
  (θ_run Cert.InDtReferenceIdeal.defs _ _).mono
    (fun r h => ⟨fun c => (h c).2, sem_eq_zero_of_no_sems (by decide) r.2⟩)
    (Cert.InDtReferenceIdeal.Value.run (F := Ideal) m ρ)

/-- Nothing of the kernel is rewritten. -/
theorem preserves : Cert.preserves_InDt_InDtIdeal := trivial

/-- The reference's product, entry by entry. -/
theorem ref (x : Vec Ideal S4096x1024 .bf16) (w : Vec Ideal S1024x128 .bf16) :
    Cert.InDtReferenceIdeal.Read.val_main_v2 (F := Ideal) x w = Products.nn (n := 4096) (p := 128) (l := 1024) x w :=
  funext fun i => (Cert.InDtReferenceIdeal.Read.val_main_v2_apply x w i).trans
    (Finset.sum_congr rfl fun k _ => congrArg₂ (fun a b => x a * w b) (eq_ix2 _) (eq_ix2 _))

/-- On equal arguments, the kernel and the reference end with the same result. -/
theorem algebraic : Cert.algebraic_InDtIdeal_InDtReferenceIdeal := by
  intro m ρ m' ρ' _ hagree
  refine ⟨_, Cert.InDtIdeal.Value.run_blocks (F := Ideal) m ρ, ?_⟩
  refine (θ_run Cert.InDtReferenceIdeal.defs _ _).mono (fun r hr c => ?_)
    (Cert.InDtReferenceIdeal.Value.run (F := Ideal) m' ρ')
  obtain ⟨a0, a1⟩ := hagree c
  refine ⟨(hr c).1.trans ((Cert.InDtReferenceIdeal.Read.val_main_v2_eq _ _).trans ?_), (hr c).2⟩
  rw [a0, a1]
  exact (ref _ _).trans (arr m c).symm

end InDt

end
-- ==== Proof.InDtWgrad.lean ====
module

public import proofs.«01_k».proof.Defs
public import proofs.«01_k».proof.Proof.Products
public import proofs.«01_k».proof.Proof.Gen.InDtWgrad.Frame
public import proofs.«01_k».proof.Proof.Gen.InDtWgradIdeal.Value
public import proofs.«01_k».proof.Proof.Gen.InDtWgradReferenceIdeal.Run
public import proofs.«01_k».proof.Proof.Gen.InDtWgradReferenceIdeal.Read

@[expose] public section

/-!
The gradient of the step sizes' weight, padded to 128 columns: it is summed over two halves of the
rows, which makes the reference's product.
-/

noncomputable section

namespace InDtWgrad

open Idealize.ShloMosaic Idealize.ShloMosaic.TcCoe Idealize.SL.Sem Finset
open Cert.InDtWgradIdeal Cert.InDtWgradIdeal.Gen

variable (m : (ℓ : Loc nD τ sig) → Buf (Elt Ideal) ℓ) (c : Dev nD)

/-- One half's product added to a block, entry by entry. -/
theorem pay (a : Vec Ideal S1024x128 .f32) (x : Vec Ideal S2048x1024 .bf16) (w : Vec Ideal S2048x128 .bf16)
    (i : Fin 1024) (j : Fin 128) : k0_pay2 a x w (ix2 i j) = a (ix2 i j) + Products.tn x w (ix2 i j) := by
  pointwise [k0_pay2]
  rfl

section points

variable (i : grid0.Coords)
  (arg3 : Memref sig .tc .vmem S2048x1024 .bf16) (harg3 : arg3.IsWhole) (arg4 : Memref sig .tc .vmem S2048x128 .bf16) (harg4 : arg4.IsWhole)
  (arg5 : Memref sig .tc .vmem S1024x128 .bf16) (harg5 : arg5.IsWhole) (arg6 : Memref sig .tc .vmem S1024x128 .f32) (harg6 : arg6.IsWhole)
  (x : Vec Ideal S2048x1024 .bf16) (w : Vec Ideal S2048x128 .bf16)

/-- What the first half leaves in the accumulator. -/
theorem first (h0 : cond0_0 i) (h1 : ¬cond0_1 i) (p : Fin 1024) (q : Fin 128) :
    sout0_A_0 c i arg3 harg3 arg4 harg4 arg5 harg5 arg6 harg6 h0 h1 x w (ix2 p q) =
      Products.tn x w (ix2 p q) := by
  unfold sout0_A_0
  rw [View.read_writes_eq_canon _ _ _ (scover0_A_0 c i arg3 harg3 arg4 harg4 arg5 harg5 arg6 harg6 h0 h1 x w)]
  unfold kernelRun0_A
  dsimp only
  sl_unfold_words
  rw [View.canon_cons_unit_zero (S := S1024x128) Products.zero2, View.readCov_unit_zero (S := S1024x128) _ Products.zero2]
  simp only [View.readAt_eq_ld, harg3.read_unread, harg4.read_unread,
    View.ld_unit_zero (S := S2048x1024) Products.zero2, View.ld_unit_zero (S := S2048x128) Products.zero2]
  rw [pay]
  pointwise [k0_pay1]

/-- What the second half, over the accumulator, leaves in the result's block. -/
theorem last (h0 : ¬cond0_0 i) (h1 : cond0_1 i) (a : Vec Ideal S1024x128 .f32) (p : Fin 1024) (q : Fin 128) :
    out0_B_2 c i arg3 harg3 arg4 harg4 arg5 harg5 arg6 harg6 h0 h1 x w a (ix2 p q) =
      a (ix2 p q) + Products.tn x w (ix2 p q) := by
  unfold out0_B_2
  rw [View.read_writes_eq_canon _ _ _ (cover0_B_2 c i arg3 harg3 arg4 harg4 arg5 harg5 arg6 harg6 h0 h1 x w a)]
  unfold kernelRun0_B
  dsimp only
  sl_unfold_words
  rw [View.canon_unit_zero (S := S1024x128) Products.zero2]
  simp only [View.readCov_unit_zero (S := S1024x128) _ Products.zero2, View.readAt_eq_ld, harg3.read_unread, harg4.read_unread, harg6.read_unread,
    View.ld_unit_zero (S := S2048x1024) Products.zero2, View.ld_unit_zero (S := S2048x128) Products.zero2,
    View.ld_unit_zero (S := S1024x128) Products.zero2]
  pointwise [k0_pay3]
  exact pay _ _ _ _ _

end points

/-- The blocks of point `t`: half `t % 2` of the rows, columns `t / 2` of the activations, all
columns of the gradient. -/
theorem idx : ∀ t : Fin cfg0.N, win0_0.index t = ![t.val % 2, t.val / 2] ∧ win0_1.index t = ![t.val % 2, 0] ∧
    win0_2.index t = ![t.val / 2, 0] :=
  (by decide +kernel : ∀ t : Fin grid0.N, win0_0.index t = ![t.val % 2, t.val / 2] ∧ win0_1.index t = ![t.val % 2, 0] ∧
    win0_2.index t = ![t.val / 2, 0])

theorem in0 (t : Fin cfg0.N) : Products.Block (N := 4096) (P := 1024) (n := 2048) (p := 1024)
    (m ((c : Thread nD τ).loc main_arg0)) (iblk m c 0 t) (2048 * (t.val % 2)) (1024 * (t.val / 2)) := fun k i hk hi => by
  blk_ext [iblk, V_main_arg0, (idx t).1]

theorem in1 (t : Fin cfg0.N) : Products.Block (N := 4096) (P := 128) (n := 2048) (p := 128)
    (m ((c : Thread nD τ).loc main_arg1)) (iblk m c 1 t) (2048 * (t.val % 2)) 0 := fun k j hk hj => by
  blk_ext [iblk, V_main_arg1, (idx t).2.1]

/-- The block of the result that an odd point writes back. -/
theorem out (t : Fin cfg0.N) (ht : t.val % 2 = 1) (p : Fin 1024) (q : Fin 128) {e : S1024x128.Idx}
    (h0 : (e 0).val = 1024 * (t.val / 2) + p.val) (h1 : (e 1).val = 0 + q.val) :
    (outsAt0 m c t.val t.isLt).1 (ix2 p q) = Products.tn (n := 1024) (p := 128) (l := 4096)
      (m ((c : Thread nD τ).loc main_arg0)) (m ((c : Thread nD τ).loc main_arg1)) e := by
  have hN : t.val < 2 := t.isLt
  obtain ⟨u, hu, hd⟩ : ∃ u : Fin cfg0.N, u.val = t.val - 1 ∧ u.val / 2 = t.val / 2 :=
    ⟨⟨t.val - 1, by omega⟩, rfl, by dsimp only; omega⟩
  have hm : u.val % 2 = 0 := by omega
  have ea : (outsAt0 m c (t.val - 1) (Nat.lt_of_le_of_lt (Nat.sub_le _ _) t.isLt)).2 = (outsAt0 m c u.val u.isLt).2 := by
    simp only [hu]
  have x0 := in0 m c u
  have x1 := in0 m c t
  have w0 := in1 m c u
  have w1 := in1 m c t
  rw [hm, hd] at x0
  rw [hm] at w0
  rw [ht] at x1 w1
  rw [outsAt0_B m c t (by omega) ht]
  dsimp only
  rw [last, ea, outsAt0_A m c u hm (by omega)]
  dsimp only
  rw [first]
  exact Products.tn_halves rfl x0 x1 w0 w1 p q h0 h1

/-- The array that the call ends with. -/
theorem arr : (dats m 0 c).arrAt 2 cfg0.N = (Products.tn (n := 1024) (p := 128) (l := 4096)
    (m ((c : Thread nD τ).loc main_arg0)) (m ((c : Thread nD τ).loc main_arg1)) : Vec Ideal S1024x128 .bf16) := by
  refine (dats m 0 c).arrAt_eq_of_covers 2 _ (by decide +kernel) fun t hf y => ?_
  have e0 : ((win0_2.blk t).view.emb y 0).val = win0_2.index t 0 * 1024 + 1 * (y 0).val := rfl
  have e1 : ((win0_2.blk t).view.emb y 1).val = win0_2.index t 1 * 128 + 1 * (y 1).val := rfl
  rw [(idx t).2.2] at e0 e1
  blk_simp
  rw [after0_2]
  refine (congrArg _ (eq_ix2 y)).trans (out m c t ((flush0_2 t).mp hf) (y 0) (y 1) ?_ ?_)
  · exact e0.trans (by simp [Nat.mul_comm])
  · exact e1.trans (by simp)

/-! ## The claims -/

/-- The kernel as it runs terminates, keeps its arguments and ends with every counter at zero. -/
theorem frame_p : Cert.quiescent_InDtWgrad := fun m ρ _ => Cert.InDtWgrad.Gen.frame m ρ

/-- So does the kernel over the extended reals. -/
theorem frame_pi : Cert.quiescent_InDtWgradIdeal := fun m ρ _ => Cert.InDtWgradIdeal.Gen.frame m ρ

/-- The reference over the extended reals terminates and keeps its arguments. -/
theorem frame_ri : Cert.quiescent_InDtWgradReferenceIdeal := fun m ρ _ =>
  (θ_run Cert.InDtWgradReferenceIdeal.defs _ _).mono
    (fun r h => ⟨fun c => (h c).2, sem_eq_zero_of_no_sems (by decide) r.2⟩)
    (Cert.InDtWgradReferenceIdeal.Value.run (F := Ideal) m ρ)

/-- Nothing of the kernel is rewritten. -/
theorem preserves : Cert.preserves_InDtWgrad_InDtWgradIdeal := trivial

/-- The reference's product, entry by entry. -/
theorem ref (x : Vec Ideal S4096x1024 .bf16) (w : Vec Ideal S4096x128 .bf16) :
    Cert.InDtWgradReferenceIdeal.Read.val_main_v6 (F := Ideal) x w = Products.tn (n := 1024) (p := 128) (l := 4096) x w := by
  funext i
  rw [Cert.InDtWgradReferenceIdeal.Read.val_main_v6_apply, Cert.InDtWgradReferenceIdeal.Read.val_main_v5_apply]
  refine (Cert.InDtWgradReferenceIdeal.Read.val_main_v4_apply x w _).trans (sum_congr rfl fun k _ => (mul_comm _ _).trans ?_)
  rw [Cert.InDtWgradReferenceIdeal.Read.val_main_v3_apply, Cert.InDtWgradReferenceIdeal.Read.val_main_v0_apply]
  exact congrArg₂ (fun a b => x a * w b) (eq_ix2 _) (eq_ix2 _)

/-- On equal arguments, the kernel and the reference end with the same result. -/
theorem algebraic : Cert.algebraic_InDtWgradIdeal_InDtWgradReferenceIdeal := by
  intro m ρ m' ρ' _ hagree
  refine ⟨_, Cert.InDtWgradIdeal.Value.run_blocks (F := Ideal) m ρ, ?_⟩
  refine (θ_run Cert.InDtWgradReferenceIdeal.defs _ _).mono (fun r hr c => ?_)
    (Cert.InDtWgradReferenceIdeal.Value.run (F := Ideal) m' ρ')
  obtain ⟨a0, a1⟩ := hagree c
  refine ⟨(hr c).1.trans ((Cert.InDtWgradReferenceIdeal.Read.val_main_v6_eq _ _).trans ?_), (hr c).2⟩
  rw [a0, a1]
  exact (ref _ _).trans (arr m c).symm

end InDtWgrad

end
-- ==== Proof.Gates.lean ====
module

public import proofs.«01_k».proof.Defs

@[expose] public section

/-! The gate of one entry, and how the extended reals write it. -/

noncomputable section

namespace Gates

open Idealize.ShloMosaic

/-- The logistic function of an entry and its bias. -/
def gate (x b : EReal) : EReal := Ideal.div 1 (1 + Ideal.exp (-(x + b)))

/-- The kernel writes the negation as a difference from zero. -/
theorem gate_sub (x b : EReal) : Ideal.div 1 (1 + Ideal.exp (0 - (x + b))) = gate x b :=
  congrArg (fun e => Ideal.div 1 (1 + Ideal.exp e)) (zero_sub (x + b))

/-- The gradient of a gate's entry: `d` is the merge's gradient and `p` the branch's entry. -/
def slope (x b p d : EReal) : EReal := d * p * (gate x b * (1 - gate x b))

/-- A column's number in the right half of a row of gates. -/
abbrev right (j : Fin 1024) : Fin 2048 := ⟨1024 + j.val, by omega⟩

/-- A column's number in the left half of a row of gates. -/
abbrev left (j : Fin 1024) : Fin 2048 := ⟨j.val, by omega⟩

end Gates

end
-- ==== Proof.GateBwd.lean ====
module

public import proofs.«01_k».proof.Defs
public import proofs.«01_k».proof.Proof.Products
public import proofs.«01_k».proof.Proof.Gates
public import proofs.«01_k».proof.Proof.Gen.GateBwd.Frame
public import proofs.«01_k».proof.Proof.Gen.GateBwdIdeal.Value
public import proofs.«01_k».proof.Proof.Gen.GateBwdReferenceIdeal.Run
public import proofs.«01_k».proof.Proof.Gen.GateBwdReferenceIdeal.Read

@[expose] public section

/-!
The gradient of the merge of the two branches by their gates. The gradients of the branches and of the
gates are the reference's entry by entry, and the gradients of the two biases are summed over eight
blocks of rows.
-/

noncomputable section

namespace GateBwd

open Idealize.ShloMosaic Idealize.ShloMosaic.TcCoe Idealize.SL.Sem Finset
open Cert.GateBwdIdeal Cert.GateBwdIdeal.Gen

variable (m : (ℓ : Loc nD τ sig) → Buf (Elt Ideal) ℓ) (c : Dev nD)

/-! ## One grid point -/

section pays

variable (x : Vec Ideal S512x1024 .bf16) (a : Vec Ideal S1x1024 .f32) (p d : Vec Ideal S512x1024 .bf16)
  (o : Vec Ideal S1x1024 .f32) (i : Fin 512) (j : Fin 1024)

theorem pay9 : k0_pay9 x a (ix2 i j) = Gates.gate (x (ix2 i j)) (a (ix2 0 j)) := by
  pointwise [k0_pay9]
  exact Gates.gate_sub _ _

theorem pay1 : k0_pay1 x a (ix2 i j) = Gates.gate (x (ix2 i j)) (a (ix2 0 j)) := pay9 x a i j

theorem pay8 : k0_pay8 d (ix2 i j) = d (ix2 i j) := by
  pointwise [k0_pay8]

/-- The gradient of a branch. -/
theorem pay10 : k0_pay10 d x a (ix2 i j) = d (ix2 i j) * Gates.gate (x (ix2 i j)) (a (ix2 0 j)) := by
  pointwise [k0_pay10]
  rw [pay8, pay9]

theorem pay2 : k0_pay2 (k0_pay8 d) x a (ix2 i j) = d (ix2 i j) * Gates.gate (x (ix2 i j)) (a (ix2 0 j)) := by
  pointwise [k0_pay2]
  rw [pay8, pay1]

theorem pay11 : k0_pay11 d x a p (ix2 i j) = Gates.slope (x (ix2 i j)) (a (ix2 0 j)) (p (ix2 i j)) (d (ix2 i j)) := by
  pointwise [k0_pay11]
  rw [pay8, pay9]
  rfl

theorem pay3 : k0_pay3 (k0_pay8 d) x a p (ix2 i j) =
    Gates.slope (x (ix2 i j)) (a (ix2 0 j)) (p (ix2 i j)) (d (ix2 i j)) := by
  pointwise [k0_pay3]
  rw [pay8, pay1]
  rfl

/-- The gradient of a gate. -/
theorem pay12 : k0_pay12 d x a p (ix2 i j) = Gates.slope (x (ix2 i j)) (a (ix2 0 j)) (p (ix2 i j)) (d (ix2 i j)) := by
  pointwise [k0_pay12]
  exact pay11 x a p d i j

theorem pay4 : k0_pay4 (k0_pay8 d) x a p (ix2 i j) =
    Gates.slope (x (ix2 i j)) (a (ix2 0 j)) (p (ix2 i j)) (d (ix2 i j)) := by
  pointwise [k0_pay4]
  exact pay3 x a p d i j

/-- The gradient of a bias: what the block of rows adds to it. -/
theorem pay13 : k0_pay13 d x a p o (ix2 0 j) = o (ix2 0 j) +
    ∑ k : Fin 512, Gates.slope (x (ix2 k j)) (a (ix2 0 j)) (p (ix2 k j)) (d (ix2 k j)) := by
  pointwise [k0_pay13]
  exact congrArg (o (ix2 0 j) + ·) (sum_congr rfl fun k _ => pay11 x a p d k j)

theorem pay5 : k0_pay5 (k0_pay8 d) x a p o (ix2 0 j) = o (ix2 0 j) +
    ∑ k : Fin 512, Gates.slope (x (ix2 k j)) (a (ix2 0 j)) (p (ix2 k j)) (d (ix2 k j)) := by
  pointwise [k0_pay5]
  exact congrArg (o (ix2 0 j) + ·) (sum_congr rfl fun k _ => pay3 x a p d k j)

theorem zero6 : k0_pay6 (F := Ideal) (ix2 0 j) = 0 := by
  pointwise [k0_pay6]

theorem zero7 : k0_pay7 (F := Ideal) (ix2 0 j) = 0 := zero6 j

end pays

section points

variable (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S512x1024 .bf16) (harg11 : arg11.IsWhole)
  (arg12 : Memref sig .tc .vmem S1x1024 .f32) (harg12 : arg12.IsWhole)
  (arg13 : Memref sig .tc .vmem S1x1024 .f32) (harg13 : arg13.IsWhole)
  (g g' : Vec Ideal S512x1024 .bf16) (b b' : Vec Ideal S1x1024 .f32) (p p' d : Vec Ideal S512x1024 .bf16)
  (o o' : Vec Ideal S1x1024 .f32)

/-- What the first point leaves in the six result buffers. -/
theorem first (h : cond0_0 i) :
    out0_A_7 c i arg1 harg1 arg2 harg2 arg3 harg3 arg4 harg4 arg5 harg5 arg6 harg6 arg7 harg7 arg8 harg8 arg9 harg9 arg10 harg10 arg11 harg11 arg12 harg12 arg13 harg13 h g g' b b' p p' d = k0_pay10 d g b ∧
    out0_A_8 c i arg1 harg1 arg2 harg2 arg3 harg3 arg4 harg4 arg5 harg5 arg6 harg6 arg7 harg7 arg8 harg8 arg9 harg9 arg10 harg10 arg11 harg11 arg12 harg12 arg13 harg13 h g g' b b' p p' d = k0_pay2 (k0_pay8 d) g' b' ∧
    out0_A_9 c i arg1 harg1 arg2 harg2 arg3 harg3 arg4 harg4 arg5 harg5 arg6 harg6 arg7 harg7 arg8 harg8 arg9 harg9 arg10 harg10 arg11 harg11 arg12 harg12 arg13 harg13 h g g' b b' p p' d = k0_pay12 d g b p ∧
    out0_A_10 c i arg1 harg1 arg2 harg2 arg3 harg3 arg4 harg4 arg5 harg5 arg6 harg6 arg7 harg7 arg8 harg8 arg9 harg9 arg10 harg10 arg11 harg11 arg12 harg12 arg13 harg13 h g g' b b' p p' d = k0_pay4 (k0_pay8 d) g' b' p' ∧
    out0_A_11 c i arg1 harg1 arg2 harg2 arg3 harg3 arg4 harg4 arg5 harg5 arg6 harg6 arg7 harg7 arg8 harg8 arg9 harg9 arg10 harg10 arg11 harg11 arg12 harg12 arg13 harg13 h g g' b b' p p' d = k0_pay13 d g b p (k0_pay6 (F := Ideal)) ∧
    out0_A_12 c i arg1 harg1 arg2 harg2 arg3 harg3 arg4 harg4 arg5 harg5 arg6 harg6 arg7 harg7 arg8 harg8 arg9 harg9 arg10 harg10 arg11 harg11 arg12 harg12 arg13 harg13 h g g' b b' p p' d = k0_pay5 (k0_pay8 d) g' b' p' (k0_pay7 (F := Ideal)) := by
  refine ⟨(View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 h g g' b b' p p' d)).trans ?_,
    (View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 h g g' b b' p p' d)).trans ?_,
    (View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 h g g' b b' p p' d)).trans ?_,
    (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 h g g' b b' p p' d)).trans ?_,
    (View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 h g g' b b' p p' d)).trans ?_,
    (View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 h g g' b b' p p' d)).trans ?_⟩
  all_goals
    unfold kernelRun0_A
    dsimp only
    sl_unfold_words
    simp only [View.canon_cons_unit_zero (S := S1x1024) Products.zero2, View.canon_unit_zero (S := S1x1024) Products.zero2,
      View.canon_unit_zero (S := S512x1024) Products.zero2, View.readCov_unit_zero (S := S1x1024) _ Products.zero2,
      View.readAt_eq_ld, harg1.read_unread, harg2.read_unread, harg3.read_unread, harg4.read_unread, harg5.read_unread, harg6.read_unread, harg7.read_unread, harg12.read_unread, harg13.read_unread,
      View.ld_unit_zero (S := S512x1024) Products.zero2, View.ld_unit_zero (S := S1x1024) Products.zero2]

/-- What a later point, over the sums of the points before it, leaves in the six result buffers. -/
theorem later (h : ¬cond0_0 i) :
    out0_B_7 c i arg1 harg1 arg2 harg2 arg3 harg3 arg4 harg4 arg5 harg5 arg6 harg6 arg7 harg7 arg8 harg8 arg9 harg9 arg10 harg10 arg11 harg11 arg12 harg12 arg13 harg13 h g g' b b' p p' d o o' = k0_pay10 d g b ∧
    out0_B_8 c i arg1 harg1 arg2 harg2 arg3 harg3 arg4 harg4 arg5 harg5 arg6 harg6 arg7 harg7 arg8 harg8 arg9 harg9 arg10 harg10 arg11 harg11 arg12 harg12 arg13 harg13 h g g' b b' p p' d o o' = k0_pay2 (k0_pay8 d) g' b' ∧
    out0_B_9 c i arg1 harg1 arg2 harg2 arg3 harg3 arg4 harg4 arg5 harg5 arg6 harg6 arg7 harg7 arg8 harg8 arg9 harg9 arg10 harg10 arg11 harg11 arg12 harg12 arg13 harg13 h g g' b b' p p' d o o' = k0_pay12 d g b p ∧
    out0_B_10 c i arg1 harg1 arg2 harg2 arg3 harg3 arg4 harg4 arg5 harg5 arg6 harg6 arg7 harg7 arg8 harg8 arg9 harg9 arg10 harg10 arg11 harg11 arg12 harg12 arg13 harg13 h g g' b b' p p' d o o' = k0_pay4 (k0_pay8 d) g' b' p' ∧
    out0_B_11 c i arg1 harg1 arg2 harg2 arg3 harg3 arg4 harg4 arg5 harg5 arg6 harg6 arg7 harg7 arg8 harg8 arg9 harg9 arg10 harg10 arg11 harg11 arg12 harg12 arg13 harg13 h g g' b b' p p' d o o' = k0_pay13 d g b p o ∧
    out0_B_12 c i arg1 harg1 arg2 harg2 arg3 harg3 arg4 harg4 arg5 harg5 arg6 harg6 arg7 harg7 arg8 harg8 arg9 harg9 arg10 harg10 arg11 harg11 arg12 harg12 arg13 harg13 h g g' b b' p p' d o o' = k0_pay5 (k0_pay8 d) g' b' p' o' := by
  refine ⟨(View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 h g g' b b' p p' d o o')).trans ?_,
    (View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 h g g' b b' p p' d o o')).trans ?_,
    (View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 h g g' b b' p p' d o o')).trans ?_,
    (View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 h g g' b b' p p' d o o')).trans ?_,
    (View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 h g g' b b' p p' d o o')).trans ?_,
    (View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 h g g' b b' p p' d o o')).trans ?_⟩
  all_goals
    unfold kernelRun0_B
    dsimp only
    sl_unfold_words
    simp only [View.canon_cons_unit_zero (S := S1x1024) Products.zero2, View.canon_unit_zero (S := S1x1024) Products.zero2,
      View.canon_unit_zero (S := S512x1024) Products.zero2, View.readCov_unit_zero (S := S1x1024) _ Products.zero2,
      View.readAt_eq_ld, harg1.read_unread, harg2.read_unread, harg3.read_unread, harg4.read_unread, harg5.read_unread, harg6.read_unread, harg7.read_unread, harg12.read_unread, harg13.read_unread,
      View.ld_unit_zero (S := S512x1024) Products.zero2, View.ld_unit_zero (S := S1x1024) Products.zero2]

end points

/-! ## The arrays -/

/-- The gradient of a branch: `side` finds its gates' columns. -/
def mix (side : Fin 1024 → Fin 2048) (g : Vec Ideal S4096x2048 .bf16) (b : Vec Ideal S1x2048 .f32)
    (d : Vec Ideal S4096x1024 .bf16) : Vec Ideal S4096x1024 .bf16 := fun e =>
  d (ix2 (e 0) (e 1)) * Gates.gate (g (ix2 (e 0) (side (e 1)))) (b (ix2 0 (side (e 1))))

/-- The gradient of a branch's gates. -/
def slopes (side : Fin 1024 → Fin 2048) (g : Vec Ideal S4096x2048 .bf16) (b : Vec Ideal S1x2048 .f32)
    (p d : Vec Ideal S4096x1024 .bf16) : Vec Ideal S4096x1024 .bf16 := fun e =>
  Gates.slope (g (ix2 (e 0) (side (e 1)))) (b (ix2 0 (side (e 1)))) (p (ix2 (e 0) (e 1))) (d (ix2 (e 0) (e 1)))

/-- The sums of the columns. -/
def sums (x : Vec Ideal S4096x1024 .bf16) : Vec Ideal S1x1024 .f32 := fun e => ∑ k : Fin 4096, x (ix2 k (e 1))

/-- The blocks of point `t`: row block `t` of the arrays, the two halves of the gates and their biases. -/
theorem idx : ∀ t : Fin cfg0.N, win0_0.index t = ![t.val, 0] ∧ win0_1.index t = ![t.val, 1] ∧
    win0_2.index t = ![0, 0] ∧ win0_3.index t = ![0, 1] ∧ win0_4.index t = ![t.val, 0] ∧ win0_5.index t = ![t.val, 0] ∧
    win0_6.index t = ![t.val, 0] :=
  (by decide +kernel : ∀ t : Fin grid0.N, win0_0.index t = ![t.val, 0] ∧ win0_1.index t = ![t.val, 1] ∧
    win0_2.index t = ![0, 0] ∧ win0_3.index t = ![0, 1] ∧ win0_4.index t = ![t.val, 0] ∧ win0_5.index t = ![t.val, 0] ∧
    win0_6.index t = ![t.val, 0])

/-- Row block `t` of the results, and the whole of the sums. -/
theorem idx_out : ∀ t : Fin cfg0.N, win0_7.index t = ![t.val, 0] ∧ win0_8.index t = ![t.val, 0] ∧
    win0_9.index t = ![t.val, 0] ∧ win0_10.index t = ![t.val, 0] ∧ win0_11.index t = ![0, 0] ∧ win0_12.index t = ![0, 0] :=
  (by decide +kernel : ∀ t : Fin grid0.N, win0_7.index t = ![t.val, 0] ∧ win0_8.index t = ![t.val, 0] ∧
    win0_9.index t = ![t.val, 0] ∧ win0_10.index t = ![t.val, 0] ∧ win0_11.index t = ![0, 0] ∧ win0_12.index t = ![0, 0])

theorem in0 (t : Fin cfg0.N) : Products.Block (N := 4096) (P := 2048) (n := 512) (p := 1024)
    (m ((c : Thread nD τ).loc main_arg0)) (iblk m c 0 t) (512 * t.val) 0 := fun i k hi hk => by
  blk_ext [iblk, V_main_arg0, (idx t).1]

theorem in1 (t : Fin cfg0.N) : Products.Block (N := 4096) (P := 2048) (n := 512) (p := 1024)
    (m ((c : Thread nD τ).loc main_arg0)) (iblk m c 1 t) (512 * t.val) 1024 := fun i k hi hk => by
  blk_ext [iblk, V_main_arg0, (idx t).2.1]

theorem in2 (t : Fin cfg0.N) : Products.Block (N := 1) (P := 2048) (n := 1) (p := 1024)
    (m ((c : Thread nD τ).loc main_arg1)) (iblk m c 2 t) 0 0 := fun i k hi hk => by
  blk_ext [iblk, V_main_arg1, (idx t).2.2.1]

theorem in3 (t : Fin cfg0.N) : Products.Block (N := 1) (P := 2048) (n := 1) (p := 1024)
    (m ((c : Thread nD τ).loc main_arg1)) (iblk m c 3 t) 0 1024 := fun i k hi hk => by
  blk_ext [iblk, V_main_arg1, (idx t).2.2.2.1]

theorem in4 (t : Fin cfg0.N) : Products.Block (N := 4096) (P := 1024) (n := 512) (p := 1024)
    (m ((c : Thread nD τ).loc main_arg2)) (iblk m c 4 t) (512 * t.val) 0 := fun i k hi hk => by
  blk_ext [iblk, V_main_arg2, (idx t).2.2.2.2.1]

theorem in5 (t : Fin cfg0.N) : Products.Block (N := 4096) (P := 1024) (n := 512) (p := 1024)
    (m ((c : Thread nD τ).loc main_arg3)) (iblk m c 5 t) (512 * t.val) 0 := fun i k hi hk => by
  blk_ext [iblk, V_main_arg3, (idx t).2.2.2.2.2.1]

theorem in6 (t : Fin cfg0.N) : Products.Block (N := 4096) (P := 1024) (n := 512) (p := 1024)
    (m ((c : Thread nD τ).loc main_arg4)) (iblk m c 6 t) (512 * t.val) 0 := fun i k hi hk => by
  blk_ext [iblk, V_main_arg4, (idx t).2.2.2.2.2.2]

/-- The array row of row `i` of block `n`. -/
abbrev row (n : ℕ) (i : Fin 512) : Fin 4096 := Fin.ofNat 4096 (512 * n + i.val)

theorem row_val {n : ℕ} (h : n < 8) (i : Fin 512) : (row n i).val = 512 * n + i.val :=
  Nat.mod_eq_of_lt (by omega)

section blocks

variable {g : Vec Ideal S4096x2048 .bf16} {b : Vec Ideal S1x2048 .f32} {p d : Vec Ideal S4096x1024 .bf16}
  {gb : Vec Ideal S512x1024 .bf16} {bb : Vec Ideal S1x1024 .f32} {pb db : Vec Ideal S512x1024 .bf16}
  {n o : ℕ} {side : Fin 1024 → Fin 2048} (h : n < 8) (hs : ∀ j, (side j).val = o + j.val)
  (hg : Products.Block (N := 4096) (P := 2048) (n := 512) (p := 1024) g gb (512 * n) o)
  (hb : Products.Block (N := 1) (P := 2048) (n := 1) (p := 1024) b bb 0 o)
  (hp : Products.Block (N := 4096) (P := 1024) (n := 512) (p := 1024) p pb (512 * n) 0)
  (hd : Products.Block (N := 4096) (P := 1024) (n := 512) (p := 1024) d db (512 * n) 0)
  (i : Fin 512) (j : Fin 1024)

include h hs hg hb hd in
/-- A block of a branch's gradient comes from the blocks of the arguments. -/
theorem mix_block : db (ix2 i j) * Gates.gate (gb (ix2 i j)) (bb (ix2 0 j)) = mix side g b d (ix2 (row n i) j) :=
  congrArg₂ (· * ·) (Products.block_read hd i j (row_val h i) (Nat.zero_add _).symm)
    (congrArg₂ Gates.gate (Products.block_read hg i j (row_val h i) (hs j)) (Products.block_read hb 0 j rfl (hs j)))

include h hs hg hb hp hd in
/-- So does a block of its gates' gradient. -/
theorem slope_block : Gates.slope (gb (ix2 i j)) (bb (ix2 0 j)) (pb (ix2 i j)) (db (ix2 i j)) =
    slopes side g b p d (ix2 (row n i) j) := by
  rw [Products.block_read hd i j (e := ix2 (row n i) j) (row_val h i) (Nat.zero_add _).symm,
    Products.block_read hp i j (e := ix2 (row n i) j) (row_val h i) (Nat.zero_add _).symm,
    Products.block_read hg i j (e := ix2 (row n i) (side j)) (row_val h i) (hs j),
    Products.block_read hb 0 j (e := ix2 0 (side j)) rfl (hs j)]
  rfl

end blocks

/-- The sum of the rows before block `n + 1`. -/
theorem rows_next (f : ℕ → EReal) (n : ℕ) : ∑ r ∈ range (512 * n), f r + ∑ i : Fin 512, f (512 * n + i.val) =
    ∑ r ∈ range (512 * (n + 1)), f r := by
  rw [Nat.mul_succ, sum_range_add, sum_range fun x => f (512 * n + x)]

/-- What the six result buffers hold after point `n`: that block's rows of the first four results, and
the sums of the rows so far. -/
structure Outs (g : Vec Ideal S4096x2048 .bf16) (b : Vec Ideal S1x2048 .f32) (p q d : Vec Ideal S4096x1024 .bf16) (n : ℕ)
    (o : Vec Ideal S512x1024 .bf16 × Vec Ideal S512x1024 .bf16 × Vec Ideal S512x1024 .bf16 × Vec Ideal S512x1024 .bf16 ×
      Vec Ideal S1x1024 .f32 × Vec Ideal S1x1024 .f32) : Prop where
  o7 : ∀ i j, o.1 (ix2 i j) = mix Gates.left g b d (ix2 (row n i) j)
  o8 : ∀ i j, o.2.1 (ix2 i j) = mix Gates.right g b d (ix2 (row n i) j)
  o9 : ∀ i j, o.2.2.1 (ix2 i j) = slopes Gates.left g b p d (ix2 (row n i) j)
  o10 : ∀ i j, o.2.2.2.1 (ix2 i j) = slopes Gates.right g b q d (ix2 (row n i) j)
  o11 : ∀ j, o.2.2.2.2.1 (ix2 0 j) = ∑ r ∈ range (512 * (n + 1)), slopes Gates.left g b p d (ix2 (Fin.ofNat 4096 r) j)
  o12 : ∀ j, o.2.2.2.2.2 (ix2 0 j) = ∑ r ∈ range (512 * (n + 1)), slopes Gates.right g b q d (ix2 (Fin.ofNat 4096 r) j)

/-- The results of the device's arguments. -/
abbrev OutsAt (n : ℕ) (hn : n < cfg0.N) : Prop :=
  Outs (m ((c : Thread nD τ).loc main_arg0)) (m ((c : Thread nD τ).loc main_arg1)) (m ((c : Thread nD τ).loc main_arg2))
    (m ((c : Thread nD τ).loc main_arg3)) (m ((c : Thread nD τ).loc main_arg4)) n (outsAt0 m c n hn)

theorem left_val (j : Fin 1024) : (Gates.left j).val = 0 + j.val := (Nat.zero_add _).symm

theorem right_val (j : Fin 1024) : (Gates.right j).val = 1024 + j.val := rfl

/-- The buffers after the first point. -/
theorem outs_first (hn : 0 < cfg0.N) : OutsAt m c 0 hn := by
  unfold OutsAt
  rw [outsAt0_A m c ⟨0, hn⟩ rfl]
  obtain ⟨e7, e8, e9, e10, e11, e12⟩ := first c (grid0.coords ⟨0, hn⟩) _ (hs0_0 ⟨0, hn⟩) _ (hs0_1 ⟨0, hn⟩) _ (hs0_2 ⟨0, hn⟩) _ (hs0_3 ⟨0, hn⟩) _ (hs0_4 ⟨0, hn⟩) _ (hs0_5 ⟨0, hn⟩) _ (hs0_6 ⟨0, hn⟩) _ (hs0_7 ⟨0, hn⟩) _ (hs0_8 ⟨0, hn⟩) _ (hs0_9 ⟨0, hn⟩) _ (hs0_10 ⟨0, hn⟩) _ (hs0_11 ⟨0, hn⟩) _ (hs0_12 ⟨0, hn⟩) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
    ((hcond0_0 ⟨0, hn⟩).mpr rfl)
  rw [e7, e8, e9, e10, e11, e12]
  refine ⟨fun i j => ?_, fun i j => ?_, fun i j => ?_, fun i j => ?_, fun j => ?_, fun j => ?_⟩ <;> dsimp only
  · exact (pay10 _ _ _ _ _).trans (mix_block (side := Gates.left) (by decide : 0 < 8) left_val (in0 m c ⟨0, hn⟩) (in2 m c ⟨0, hn⟩) (in6 m c ⟨0, hn⟩) i j)
  · exact (pay2 _ _ _ _ _).trans (mix_block (side := Gates.right) (by decide : 0 < 8) right_val (in1 m c ⟨0, hn⟩) (in3 m c ⟨0, hn⟩) (in6 m c ⟨0, hn⟩) i j)
  · exact (pay12 _ _ _ _ _ _).trans (slope_block (side := Gates.left) (by decide : 0 < 8) left_val (in0 m c ⟨0, hn⟩) (in2 m c ⟨0, hn⟩) (in4 m c ⟨0, hn⟩) (in6 m c ⟨0, hn⟩) i j)
  · exact (pay4 _ _ _ _ _ _).trans (slope_block (side := Gates.right) (by decide : 0 < 8) right_val (in1 m c ⟨0, hn⟩) (in3 m c ⟨0, hn⟩) (in5 m c ⟨0, hn⟩) (in6 m c ⟨0, hn⟩) i j)
  · refine (pay13 _ _ _ _ _ _).trans (Eq.trans ?_ (rows_next _ 0))
    exact congrArg₂ (· + ·) (zero6 j) (sum_congr rfl fun k _ => slope_block (side := Gates.left) (by decide : 0 < 8) left_val (in0 m c ⟨0, hn⟩) (in2 m c ⟨0, hn⟩) (in4 m c ⟨0, hn⟩) (in6 m c ⟨0, hn⟩) k j)
  · refine (pay5 _ _ _ _ _ _).trans (Eq.trans ?_ (rows_next _ 0))
    exact congrArg₂ (· + ·) (zero7 j) (sum_congr rfl fun k _ => slope_block (side := Gates.right) (by decide : 0 < 8) right_val (in1 m c ⟨0, hn⟩) (in3 m c ⟨0, hn⟩) (in5 m c ⟨0, hn⟩) (in6 m c ⟨0, hn⟩) k j)

/-- The buffers after a later point. -/
theorem outs_next (n : ℕ) (hn : n + 1 < cfg0.N) (ih : OutsAt m c n (Nat.lt_of_succ_lt hn)) : OutsAt m c (n + 1) hn := by
  have hN : cfg0.N = 8 := N_0
  have hB : ¬(⟨n + 1, hn⟩ : Fin cfg0.N).val % 8 = 0 := by dsimp only; omega
  unfold OutsAt
  rw [outsAt0_B m c ⟨n + 1, hn⟩ hB]
  obtain ⟨e7, e8, e9, e10, e11, e12⟩ := later c (grid0.coords ⟨n + 1, hn⟩) _ (hs0_0 ⟨n + 1, hn⟩) _ (hs0_1 ⟨n + 1, hn⟩) _ (hs0_2 ⟨n + 1, hn⟩) _ (hs0_3 ⟨n + 1, hn⟩) _ (hs0_4 ⟨n + 1, hn⟩) _ (hs0_5 ⟨n + 1, hn⟩) _ (hs0_6 ⟨n + 1, hn⟩) _ (hs0_7 ⟨n + 1, hn⟩) _ (hs0_8 ⟨n + 1, hn⟩) _ (hs0_9 ⟨n + 1, hn⟩) _ (hs0_10 ⟨n + 1, hn⟩) _ (hs0_11 ⟨n + 1, hn⟩) _ (hs0_12 ⟨n + 1, hn⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    (outsAt0 m c n (Nat.lt_of_succ_lt hn)).2.2.2.2.1 (outsAt0 m c n (Nat.lt_of_succ_lt hn)).2.2.2.2.2
    (fun h => hB ((hcond0_0 ⟨n + 1, hn⟩).mp h))
  dsimp only [Nat.add_sub_cancel]
  refine ⟨fun i j => ?_, fun i j => ?_, fun i j => ?_, fun i j => ?_, fun j => ?_, fun j => ?_⟩ <;> dsimp only
  · exact (congrFun e7 _).trans ((pay10 _ _ _ _ _).trans (mix_block (side := Gates.left) (hN ▸ hn) left_val (in0 m c ⟨n + 1, hn⟩) (in2 m c ⟨n + 1, hn⟩) (in6 m c ⟨n + 1, hn⟩) i j))
  · exact (congrFun e8 _).trans ((pay2 _ _ _ _ _).trans (mix_block (side := Gates.right) (hN ▸ hn) right_val (in1 m c ⟨n + 1, hn⟩) (in3 m c ⟨n + 1, hn⟩) (in6 m c ⟨n + 1, hn⟩) i j))
  · exact (congrFun e9 _).trans ((pay12 _ _ _ _ _ _).trans (slope_block (side := Gates.left) (hN ▸ hn) left_val (in0 m c ⟨n + 1, hn⟩) (in2 m c ⟨n + 1, hn⟩) (in4 m c ⟨n + 1, hn⟩) (in6 m c ⟨n + 1, hn⟩) i j))
  · exact (congrFun e10 _).trans ((pay4 _ _ _ _ _ _).trans (slope_block (side := Gates.right) (hN ▸ hn) right_val (in1 m c ⟨n + 1, hn⟩) (in3 m c ⟨n + 1, hn⟩) (in5 m c ⟨n + 1, hn⟩) (in6 m c ⟨n + 1, hn⟩) i j))
  · refine (congrFun e11 _).trans ((pay13 _ _ _ _ _ _).trans (Eq.trans ?_ (rows_next _ (n + 1))))
    exact congrArg₂ (· + ·) (ih.o11 j) (sum_congr rfl fun k _ => slope_block (side := Gates.left) (hN ▸ hn) left_val (in0 m c ⟨n + 1, hn⟩) (in2 m c ⟨n + 1, hn⟩) (in4 m c ⟨n + 1, hn⟩) (in6 m c ⟨n + 1, hn⟩) k j)
  · refine (congrFun e12 _).trans ((pay5 _ _ _ _ _ _).trans (Eq.trans ?_ (rows_next _ (n + 1))))
    exact congrArg₂ (· + ·) (ih.o12 j) (sum_congr rfl fun k _ => slope_block (side := Gates.right) (hN ▸ hn) right_val (in1 m c ⟨n + 1, hn⟩) (in3 m c ⟨n + 1, hn⟩) (in5 m c ⟨n + 1, hn⟩) (in6 m c ⟨n + 1, hn⟩) k j)

/-- The buffers after every point. -/
theorem outs : ∀ (n : ℕ) (hn : n < cfg0.N), OutsAt m c n hn
  | 0, hn => outs_first m c hn
  | n + 1, hn => outs_next m c n hn (outs n (Nat.lt_of_succ_lt hn))

/-- The whole sum of a column. -/
theorem sums_at (x : Vec Ideal S4096x1024 .bf16) (e : S1x1024.Idx) (j : Fin 1024) (h : (e 1).val = j.val) :
    ∑ r ∈ range (512 * (7 + 1)), x (ix2 (Fin.ofNat 4096 r) j) = sums x e := by
  rw [sum_range]
  exact sum_congr rfl fun k _ => congrArg₂ (fun a b => x (ix2 a b)) (Fin.ext (Nat.mod_eq_of_lt k.isLt)) (Fin.ext h.symm)

/-- The arrays that the call ends with. -/
theorem arr7 : (dats m 0 c).arrAt 7 cfg0.N = mix Gates.left (m ((c : Thread nD τ).loc main_arg0)) (m ((c : Thread nD τ).loc main_arg1)) (m ((c : Thread nD τ).loc main_arg4)) := by
  refine (dats m 0 c).arrAt_eq_of_covers 7 _ (by decide +kernel) fun t hf y => ?_
  have e0 : ((win0_7.blk t).view.emb y 0).val = win0_7.index t 0 * 512 + 1 * (y 0).val := rfl
  have e1 : ((win0_7.blk t).view.emb y 1).val = win0_7.index t 1 * 1024 + 1 * (y 1).val := rfl
  rw [(idx_out t).1] at e0 e1
  blk_simp
  rw [after0_7]
  refine (congrArg _ (eq_ix2 y)).trans (((outs m c t.val t.isLt).o7 (y 0) (y 1)).trans (congrArg _ (Products.idx_eq ?_ ?_)))
  · exact e0.trans ((by simp [Nat.mul_comm] : _ = 512 * t.val + (y 0).val).trans (row_val t.isLt (y 0)).symm)
  · exact e1.trans (by simp)

theorem arr8 : (dats m 0 c).arrAt 8 cfg0.N = mix Gates.right (m ((c : Thread nD τ).loc main_arg0)) (m ((c : Thread nD τ).loc main_arg1)) (m ((c : Thread nD τ).loc main_arg4)) := by
  refine (dats m 0 c).arrAt_eq_of_covers 8 _ (by decide +kernel) fun t hf y => ?_
  have e0 : ((win0_8.blk t).view.emb y 0).val = win0_8.index t 0 * 512 + 1 * (y 0).val := rfl
  have e1 : ((win0_8.blk t).view.emb y 1).val = win0_8.index t 1 * 1024 + 1 * (y 1).val := rfl
  rw [(idx_out t).2.1] at e0 e1
  blk_simp
  rw [after0_8]
  refine (congrArg _ (eq_ix2 y)).trans (((outs m c t.val t.isLt).o8 (y 0) (y 1)).trans (congrArg _ (Products.idx_eq ?_ ?_)))
  · exact e0.trans ((by simp [Nat.mul_comm] : _ = 512 * t.val + (y 0).val).trans (row_val t.isLt (y 0)).symm)
  · exact e1.trans (by simp)

theorem arr9 : (dats m 0 c).arrAt 9 cfg0.N = slopes Gates.left (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  have e0 : ((win0_9.blk t).view.emb y 0).val = win0_9.index t 0 * 512 + 1 * (y 0).val := rfl
  have e1 : ((win0_9.blk t).view.emb y 1).val = win0_9.index t 1 * 1024 + 1 * (y 1).val := rfl
  rw [(idx_out t).2.2.1] at e0 e1
  blk_simp
  rw [after0_9]
  refine (congrArg _ (eq_ix2 y)).trans (((outs m c t.val t.isLt).o9 (y 0) (y 1)).trans (congrArg _ (Products.idx_eq ?_ ?_)))
  · exact e0.trans ((by simp [Nat.mul_comm] : _ = 512 * t.val + (y 0).val).trans (row_val t.isLt (y 0)).symm)
  · exact e1.trans (by simp)

theorem arr10 : (dats m 0 c).arrAt 10 cfg0.N = slopes Gates.right (m ((c : Thread nD τ).loc main_arg0)) (m ((c : Thread nD τ).loc main_arg1)) (m ((c : Thread nD τ).loc main_arg3)) (m ((c : Thread nD τ).loc main_arg4)) := by
  refine (dats m 0 c).arrAt_eq_of_covers 10 _ (by decide +kernel) fun t hf y => ?_
  have e0 : ((win0_10.blk t).view.emb y 0).val = win0_10.index t 0 * 512 + 1 * (y 0).val := rfl
  have e1 : ((win0_10.blk t).view.emb y 1).val = win0_10.index t 1 * 1024 + 1 * (y 1).val := rfl
  rw [(idx_out t).2.2.2.1] at e0 e1
  blk_simp
  rw [after0_10]
  refine (congrArg _ (eq_ix2 y)).trans (((outs m c t.val t.isLt).o10 (y 0) (y 1)).trans (congrArg _ (Products.idx_eq ?_ ?_)))
  · exact e0.trans ((by simp [Nat.mul_comm] : _ = 512 * t.val + (y 0).val).trans (row_val t.isLt (y 0)).symm)
  · exact e1.trans (by simp)

theorem arr11 : (dats m 0 c).arrAt 11 cfg0.N = sums (slopes Gates.left (m ((c : Thread nD τ).loc main_arg0)) (m ((c : Thread nD τ).loc main_arg1)) (m ((c : Thread nD τ).loc main_arg2)) (m ((c : Thread nD τ).loc main_arg4))) := by
  refine (dats m 0 c).arrAt_eq_of_covers 11 _ (by decide +kernel) fun t hf y => ?_
  have e1 : ((win0_11.blk t).view.emb y 1).val = win0_11.index t 1 * 1024 + 1 * (y 1).val := rfl
  rw [(idx_out t).2.2.2.2.1] at e1
  have e2 : ((win0_11.blk t).view.emb y 1).val = (y 1).val := e1.trans (by simp)
  have hN : t.val < 8 := t.isLt
  have h7 : 512 * (t.val + 1) = 512 * (7 + 1) := by have := (flush0_11 t).mp hf; omega
  blk_simp
  rw [after0_11]
  have e := (outs m c t.val t.isLt).o11 (y 1)
  rw [h7] at e
  exact (congrArg _ ((eq_ix2 y).trans (congrArg (fun a => ix2 a (y 1)) (Subsingleton.elim (α := Fin 1) (y 0) 0)))).trans
    (e.trans (sums_at _ _ _ e2))

theorem arr12 : (dats m 0 c).arrAt 12 cfg0.N = sums (slopes Gates.right (m ((c : Thread nD τ).loc main_arg0)) (m ((c : Thread nD τ).loc main_arg1)) (m ((c : Thread nD τ).loc main_arg3)) (m ((c : Thread nD τ).loc main_arg4))) := by
  refine (dats m 0 c).arrAt_eq_of_covers 12 _ (by decide +kernel) fun t hf y => ?_
  have e1 : ((win0_12.blk t).view.emb y 1).val = win0_12.index t 1 * 1024 + 1 * (y 1).val := rfl
  rw [(idx_out t).2.2.2.2.2] at e1
  have e2 : ((win0_12.blk t).view.emb y 1).val = (y 1).val := e1.trans (by simp)
  have hN : t.val < 8 := t.isLt
  have h7 : 512 * (t.val + 1) = 512 * (7 + 1) := by have := (flush0_12 t).mp hf; omega
  blk_simp
  rw [after0_12]
  have e := (outs m c t.val t.isLt).o12 (y 1)
  rw [h7] at e
  exact (congrArg _ ((eq_ix2 y).trans (congrArg (fun a => ix2 a (y 1)) (Subsingleton.elim (α := Fin 1) (y 0) 0)))).trans
    (e.trans (sums_at _ _ _ e2))

/-! ## The claims -/

/-- The kernel as it runs terminates, keeps its arguments and ends with every counter at zero. -/
theorem frame_p : Cert.quiescent_GateBwd := fun m ρ _ => Cert.GateBwd.Gen.frame m ρ

/-- So does the kernel over the extended reals. -/
theorem frame_pi : Cert.quiescent_GateBwdIdeal := fun m ρ _ => Cert.GateBwdIdeal.Gen.frame m ρ

/-- The reference over the extended reals terminates and keeps its arguments. -/
theorem frame_ri : Cert.quiescent_GateBwdReferenceIdeal := fun m ρ _ =>
  (θ_run Cert.GateBwdReferenceIdeal.defs _ _).mono
    (fun r h => ⟨fun c => (h c).2.2.2.2.2.2, sem_eq_zero_of_no_sems (by decide) r.2⟩)
    (Cert.GateBwdReferenceIdeal.Value.run (F := Ideal) m ρ)

/-- Nothing of the kernel is rewritten. -/
theorem preserves : Cert.preserves_GateBwd_GateBwdIdeal := trivial

section reference

variable (g : Vec Ideal S4096x2048 .bf16) (b : Vec Ideal S1x2048 .f32) (p q d : Vec Ideal S4096x1024 .bf16)

open Cert.GateBwdReferenceIdeal.Read

/-- The reference's gate, entry by entry. -/
theorem ref_gate (i : Fin 4096) (j : Fin 2048) :
    val_main_v10 (F := Ideal) g b (ix2 i j) = Gates.gate (g (ix2 i j)) (b (ix2 0 j)) := by
  rw [val_main_v10_apply, val_main_v9_apply, val_main_cst_0_apply, val_main_v8_apply, val_main_v7_apply, val_main_cst_apply,
    val_main_v6_apply, val_main_v5_apply, val_main_v4_apply, val_main_v3_apply, val_main_v0_apply,
    show idx_main_v3 (ix2 i j) = ix2 0 j from Products.idx_eq rfl rfl |>.symm]
  simp [Gates.gate]

/-- The slope of the reference's gate. -/
theorem ref_slope (i : Fin 4096) (j : Fin 2048) : val_main_v13 (F := Ideal) g b (ix2 i j) =
    Gates.gate (g (ix2 i j)) (b (ix2 0 j)) * (1 - Gates.gate (g (ix2 i j)) (b (ix2 0 j))) := by
  rw [val_main_v13_apply, val_main_v12_apply, val_main_v11_apply, val_main_cst_1_apply, ref_gate]
  simp

/-- Two matrices with the same entries are one. -/
theorem funext_ix2 {n k : ℕ} {x y : Products.Mat n k} (h : ∀ i j, x (ix2 i j) = y (ix2 i j)) : x = y := funext fun e =>
  (congrArg x (eq_ix2 e)).trans ((h (e 0) (e 1)).trans (congrArg y (eq_ix2 e).symm))

theorem slope0 (i : Fin 4096) (j : Fin 1024) :
    val_main_v25 (F := Ideal) g b p q d (ix2 i (Gates.left j)) = slopes Gates.left g b p d (ix2 i j) := by
  have h : val_main_v24 (F := Ideal) p q d (ix2 i (Gates.left j)) = val_main_v23 (F := Ideal) p d (ix2 i j) :=
    Products.beside _ _ 0 (by simp) (val_main_v23 (F := Ideal) p d) rfl 0 rfl i _ j (Nat.zero_add _).symm
  rw [val_main_v25_apply, h, val_main_v23_apply, val_main_v19_apply, val_main_v1_apply, ref_slope]
  rfl

theorem slope1 (i : Fin 4096) (j : Fin 1024) :
    val_main_v25 (F := Ideal) g b p q d (ix2 i (Gates.right j)) = slopes Gates.right g b q d (ix2 i j) := by
  have h : val_main_v24 (F := Ideal) p q d (ix2 i (Gates.right j)) = val_main_v21 (F := Ideal) q d (ix2 i j) :=
    Products.beside _ _ 1 (by simp) (val_main_v21 (F := Ideal) q d) rfl 1024 rfl i _ j rfl
  rw [val_main_v25_apply, h, val_main_v21_apply, val_main_v19_apply, val_main_v2_apply, ref_slope]
  rfl

/-- The six results of the reference, entry by entry. -/
theorem ref33 : val_main_v33 (F := Ideal) g b d = mix Gates.left g b d := funext_ix2 fun i j => by
  have h : idx_main_v14 (ix2 i j) = ix2 i (Gates.left j) := (Products.idx_eq (by rfl) (by rfl)).symm
  rw [val_main_v33_apply, val_main_v22_apply, val_main_v14_apply, val_main_v19_apply, h, ref_gate]
  exact mul_comm _ _

theorem ref34 : val_main_v34 (F := Ideal) g b d = mix Gates.right g b d := funext_ix2 fun i j => by
  have h : idx_main_v15 (ix2 i j) = ix2 i (Gates.right j) := (Products.idx_eq (by rfl) (by rfl)).symm
  rw [val_main_v34_apply, val_main_v20_apply, val_main_v15_apply, val_main_v19_apply, h, ref_gate]
  exact mul_comm _ _

theorem ref29 : val_main_v29 (F := Ideal) g b p q d = slopes Gates.left g b p d := funext_ix2 fun i j => by
  have h : idx_main_v29 (ix2 i j) = ix2 i (Gates.left j) := (Products.idx_eq (by rfl) (by rfl)).symm
  rw [val_main_v29_apply, val_main_v28_apply, h]
  exact slope0 g b p q d i j

theorem ref30 : val_main_v30 (F := Ideal) g b p q d = slopes Gates.right g b q d := funext_ix2 fun i j => by
  have h : idx_main_v30 (ix2 i j) = ix2 i (Gates.right j) := (Products.idx_eq (by rfl) (by rfl)).symm
  rw [val_main_v30_apply, val_main_v28_apply, h]
  exact slope1 g b p q d i j

/-- The reference's sum of a column. -/
theorem ref_sum (j : Fin 2048) (e : S1x2048.Idx) (h : (e 1).val = j.val) : val_main_v27 (F := Ideal) g b p q d e =
    ∑ k : Fin 4096, val_main_v25 (F := Ideal) g b p q d (ix2 k j) := by
  rw [val_main_v27_apply, val_main_v26_apply, val_main_cst_2_apply]
  refine (congrArg (· + _) (by simp : FloatOps.ofBits (F := Ideal) FTy.f32 0#32 = 0)).trans ((zero_add _).trans ?_)
  exact sum_congr rfl fun k _ => congrArg _ (Products.idx_eq (by rfl) ((by have h0 : (e 0).val < 1 := (e 0).isLt; show (e 0).val * 2048 + (e 1).val = j.val; omega))).symm

theorem ref31 : val_main_v31 (F := Ideal) g b p q d = sums (slopes Gates.left g b p d) := funext fun e => by
  rw [val_main_v31_apply]
  exact (ref_sum g b p q d (Gates.left (e 1)) _ (by rfl)).trans (sum_congr rfl fun k _ => slope0 g b p q d k (e 1))

theorem ref32 : val_main_v32 (F := Ideal) g b p q d = sums (slopes Gates.right g b q d) := funext fun e => by
  rw [val_main_v32_apply]
  exact (ref_sum g b p q d (Gates.right (e 1)) _ (by rfl)).trans (sum_congr rfl fun k _ => slope1 g b p q d k (e 1))

end reference

open Cert.GateBwdReferenceIdeal.Read in
/-- On equal arguments, the kernel and the reference end with the same six results. -/
theorem algebraic : Cert.algebraic_GateBwdIdeal_GateBwdReferenceIdeal := by
  intro m ρ m' ρ' _ hagree
  refine ⟨_, _, _, _, _, _, Cert.GateBwdIdeal.Value.run_blocks (F := Ideal) m ρ, ?_⟩
  refine (θ_run Cert.GateBwdReferenceIdeal.defs _ _).mono (fun r hr c => ?_)
    (Cert.GateBwdReferenceIdeal.Value.run (F := Ideal) m' ρ')
  obtain ⟨a0, a1, a2, a3, a4⟩ := hagree c
  obtain ⟨r0, r1, r2, r3, r4, r5, hk⟩ := hr c
  refine ⟨r0.trans ((val_main_v33_eq _ _ _).trans ?_), r1.trans ((val_main_v34_eq _ _ _).trans ?_),
    r2.trans ((val_main_v29_eq _ _ _ _ _).trans ?_), r3.trans ((val_main_v30_eq _ _ _ _ _).trans ?_),
    r4.trans ((val_main_v31_eq _ _ _ _ _).trans ?_), r5.trans ((val_main_v32_eq _ _ _ _ _).trans ?_), hk⟩
  · rw [a0, a1, a4]; exact (ref33 _ _ _).trans (arr7 m c).symm
  · rw [a0, a1, a4]; exact (ref34 _ _ _).trans (arr8 m c).symm
  · rw [a0, a1, a2, a3, a4]; exact (ref29 _ _ _ _ _).trans (arr9 m c).symm
  · rw [a0, a1, a2, a3, a4]; exact (ref30 _ _ _ _ _).trans (arr10 m c).symm
  · rw [a0, a1, a2, a3, a4]; exact (ref31 _ _ _ _ _).trans (arr11 m c).symm
  · rw [a0, a1, a2, a3, a4]; exact (ref32 _ _ _ _ _).trans (arr12 m c).symm

end GateBwd

end
-- ==== Proof.GateFwd.lean ====
module

public import proofs.«01_k».proof.Defs
public import proofs.«01_k».proof.Proof.Products
public import proofs.«01_k».proof.Proof.Gates
public import proofs.«01_k».proof.Proof.Gen.GateFwd.Frame
public import proofs.«01_k».proof.Proof.Gen.GateFwdIdeal.Value
public import proofs.«01_k».proof.Proof.Gen.GateFwdReferenceIdeal.Run
public import proofs.«01_k».proof.Proof.Gen.GateFwdReferenceIdeal.Read

@[expose] public section

/-!
The merge of the two branches by their gates: a block of it is the same function, entry by entry, of
the blocks of its arguments.
-/

noncomputable section

namespace GateFwd

open Idealize.ShloMosaic Idealize.ShloMosaic.TcCoe Idealize.SL.Sem
open Cert.GateFwdIdeal Cert.GateFwdIdeal.Gen

variable (m : (ℓ : Loc nD τ sig) → Buf (Elt Ideal) ℓ) (c : Dev nD)

/-- The merge of the branches `p` and `q` by the gates `g` with biases `b`. -/
def merge (g : Vec Ideal S4096x2048 .bf16) (b : Vec Ideal S1x2048 .f32) (p q : Vec Ideal S4096x1024 .bf16) :
    Vec Ideal S4096x1024 .bf16 := fun e =>
  Gates.gate (g (ix2 (e 0) (Gates.left (e 1)))) (b (ix2 0 (Gates.left (e 1)))) * p (ix2 (e 0) (e 1)) +
    Gates.gate (g (ix2 (e 0) (Gates.right (e 1)))) (b (ix2 0 (Gates.right (e 1)))) * q (ix2 (e 0) (e 1))

/-- One grid point, entry by entry. -/
theorem pay (x y : Vec Ideal S512x1024 .bf16) (a b : Vec Ideal S1x1024 .f32) (p q : Vec Ideal S512x1024 .bf16)
    (i : Fin 512) (j : Fin 1024) : k0_pay1 x a y b p q (ix2 i j) =
      Gates.gate (x (ix2 i j)) (a (ix2 0 j)) * p (ix2 i j) + Gates.gate (y (ix2 i j)) (b (ix2 0 j)) * q (ix2 i j) := by
  pointwise [k0_pay1]
  rw [Gates.gate_sub, Gates.gate_sub]

/-- The blocks of point `t`: row block `t` of the arrays, the two halves of the gates and their biases. -/
theorem idx : ∀ t : Fin cfg0.N, win0_0.index t = ![t.val, 0] ∧ win0_1.index t = ![t.val, 1] ∧
    win0_2.index t = ![0, 0] ∧ win0_3.index t = ![0, 1] ∧ win0_4.index t = ![t.val, 0] ∧ win0_5.index t = ![t.val, 0] ∧
    win0_6.index t = ![t.val, 0] :=
  (by decide +kernel : ∀ t : Fin grid0.N, win0_0.index t = ![t.val, 0] ∧ win0_1.index t = ![t.val, 1] ∧
    win0_2.index t = ![0, 0] ∧ win0_3.index t = ![0, 1] ∧ win0_4.index t = ![t.val, 0] ∧ win0_5.index t = ![t.val, 0] ∧
    win0_6.index t = ![t.val, 0])

theorem in0 (t : Fin cfg0.N) : Products.Block (N := 4096) (P := 2048) (n := 512) (p := 1024)
    (m ((c : Thread nD τ).loc main_arg0)) (iblk m c 0 t) (512 * t.val) 0 := fun i k hi hk => by
  blk_ext [iblk, V_main_arg0, (idx t).1]

theorem in1 (t : Fin cfg0.N) : Products.Block (N := 4096) (P := 2048) (n := 512) (p := 1024)
    (m ((c : Thread nD τ).loc main_arg0)) (iblk m c 1 t) (512 * t.val) 1024 := fun i k hi hk => by
  blk_ext [iblk, V_main_arg0, (idx t).2.1]

theorem in2 (t : Fin cfg0.N) : Products.Block (N := 1) (P := 2048) (n := 1) (p := 1024)
    (m ((c : Thread nD τ).loc main_arg1)) (iblk m c 2 t) 0 0 := fun i k hi hk => by
  blk_ext [iblk, V_main_arg1, (idx t).2.2.1]

theorem in3 (t : Fin cfg0.N) : Products.Block (N := 1) (P := 2048) (n := 1) (p := 1024)
    (m ((c : Thread nD τ).loc main_arg1)) (iblk m c 3 t) 0 1024 := fun i k hi hk => by
  blk_ext [iblk, V_main_arg1, (idx t).2.2.2.1]

theorem in4 (t : Fin cfg0.N) : Products.Block (N := 4096) (P := 1024) (n := 512) (p := 1024)
    (m ((c : Thread nD τ).loc main_arg2)) (iblk m c 4 t) (512 * t.val) 0 := fun i k hi hk => by
  blk_ext [iblk, V_main_arg2, (idx t).2.2.2.2.1]

theorem in5 (t : Fin cfg0.N) : Products.Block (N := 4096) (P := 1024) (n := 512) (p := 1024)
    (m ((c : Thread nD τ).loc main_arg3)) (iblk m c 5 t) (512 * t.val) 0 := fun i k hi hk => by
  blk_ext [iblk, V_main_arg3, (idx t).2.2.2.2.2.1]

/-- The array that the call ends with. -/
theorem arr : (dats m 0 c).arrAt 6 cfg0.N = merge (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  have e0 : ((win0_6.blk t).view.emb y 0).val = win0_6.index t 0 * 512 + 1 * (y 0).val := rfl
  have e1 : ((win0_6.blk t).view.emb y 1).val = win0_6.index t 1 * 1024 + 1 * (y 1).val := rfl
  rw [(idx t).2.2.2.2.2.2] at e0 e1
  have d0 : ((win0_6.blk t).view.emb y 0).val = 512 * t.val + (y 0).val := e0.trans (by simp [Nat.mul_comm])
  have d1 : ((win0_6.blk t).view.emb y 1).val = (y 1).val := e1.trans (by simp)
  have l1 : ((win0_6.blk t).view.emb y 1).val = 0 + (y 1).val := d1.trans (Nat.zero_add _).symm
  blk_simp
  rw [after0_6]
  unfold out0_6
  rw [View.canon_unit_zero (S := S512x1024) Products.zero2]
  simp only [View.ld_unit_zero (S := S512x1024) Products.zero2, View.ld_unit_zero (S := S1x1024) Products.zero2]
  refine (congrArg _ (eq_ix2 y)).trans ((pay _ _ _ _ _ _ (y 0) (y 1)).trans ?_)
  refine congrArg₂ (· + ·) (congrArg₂ (· * ·) (congrArg₂ Gates.gate ?_ ?_) ?_) (congrArg₂ (· * ·) (congrArg₂ Gates.gate ?_ ?_) ?_)
  · exact Products.block_read (in0 m c t) _ _ d0 l1
  · exact Products.block_read (in2 m c t) _ _ rfl l1
  · exact Products.block_read (in4 m c t) _ _ d0 l1
  · exact Products.block_read (in1 m c t) _ _ d0 (congrArg (1024 + ·) d1)
  · exact Products.block_read (in3 m c t) _ _ rfl (congrArg (1024 + ·) d1)
  · exact Products.block_read (in5 m c t) _ _ d0 l1

/-! ## The claims -/

/-- The kernel as it runs terminates, keeps its arguments and ends with every counter at zero. -/
theorem frame_p : Cert.quiescent_GateFwd := fun m ρ _ => Cert.GateFwd.Gen.frame m ρ

/-- So does the kernel over the extended reals. -/
theorem frame_pi : Cert.quiescent_GateFwdIdeal := fun m ρ _ => Cert.GateFwdIdeal.Gen.frame m ρ

/-- The reference over the extended reals terminates and keeps its arguments. -/
theorem frame_ri : Cert.quiescent_GateFwdReferenceIdeal := fun m ρ _ =>
  (θ_run Cert.GateFwdReferenceIdeal.defs _ _).mono
    (fun r h => ⟨fun c => (h c).2, sem_eq_zero_of_no_sems (by decide) r.2⟩)
    (Cert.GateFwdReferenceIdeal.Value.run (F := Ideal) m ρ)

/-- Nothing of the kernel is rewritten. -/
theorem preserves : Cert.preserves_GateFwd_GateFwdIdeal := trivial

section reference

variable (g : Vec Ideal S4096x2048 .bf16) (b : Vec Ideal S1x2048 .f32) (p q : Vec Ideal S4096x1024 .bf16)

open Cert.GateFwdReferenceIdeal.Read

/-- The reference's gate, entry by entry. -/
theorem ref_gate (i : Fin 4096) (j : Fin 2048) :
    val_main_v10 (F := Ideal) g b (ix2 i j) = Gates.gate (g (ix2 i j)) (b (ix2 0 j)) := by
  rw [val_main_v10_apply, val_main_v9_apply, val_main_cst_0_apply, val_main_v8_apply, val_main_v7_apply, val_main_cst_apply,
    val_main_v6_apply, val_main_v5_apply, val_main_v4_apply, val_main_v3_apply, val_main_v0_apply,
    show idx_main_v3 (ix2 i j) = ix2 0 j from Products.idx_eq rfl rfl |>.symm]
  simp [Gates.gate]

/-- The reference's merge, entry by entry. -/
theorem ref_at (i : Fin 4096) (j : Fin 1024) : val_main_v16 (F := Ideal) g b p q (ix2 i j) = merge g b p q (ix2 i j) := by
  have h1 : idx_main_v11 (ix2 i j) = ix2 i (Gates.left j) := (Products.idx_eq (by rfl) (by rfl)).symm
  have h2 : idx_main_v12 (ix2 i j) = ix2 i (Gates.right j) := (Products.idx_eq (by rfl) (by rfl)).symm
  rw [val_main_v16_apply, val_main_v15_apply, val_main_v14_apply, val_main_v13_apply, val_main_v12_apply, val_main_v11_apply,
    val_main_v1_apply, val_main_v2_apply, h1, h2, ref_gate, ref_gate]
  rfl

theorem ref : val_main_v16 (F := Ideal) g b p q = merge g b p q := funext fun e =>
  (congrArg _ (eq_ix2 e)).trans ((ref_at g b p q (e 0) (e 1)).trans (congrArg (merge g b p q) (eq_ix2 e).symm))

end reference

/-- On equal arguments, the kernel and the reference end with the same result. -/
theorem algebraic : Cert.algebraic_GateFwdIdeal_GateFwdReferenceIdeal := by
  intro m ρ m' ρ' _ hagree
  refine ⟨_, Cert.GateFwdIdeal.Value.run_blocks (F := Ideal) m ρ, ?_⟩
  refine (θ_run Cert.GateFwdReferenceIdeal.defs _ _).mono (fun r hr c => ?_)
    (Cert.GateFwdReferenceIdeal.Value.run (F := Ideal) m' ρ')
  obtain ⟨a0, a1, a2, a3⟩ := hagree c
  refine ⟨(hr c).1.trans ((Cert.GateFwdReferenceIdeal.Read.val_main_v16_eq _ _ _ _).trans ?_), (hr c).2⟩
  rw [a0, a1, a2, a3]
  exact (ref _ _ _ _).trans (arr m c).symm

end GateFwd

end
-- ==== Proof.RmsFwd.lean ====
module

public import proofs.«01_k».proof.Defs
public import proofs.«01_k».proof.Proof.Products
public import proofs.«01_k».proof.Proof.Gen.RmsFwd.Frame
public import proofs.«01_k».proof.Proof.Gen.RmsFwdIdeal.Value
public import proofs.«01_k».proof.Proof.Gen.RmsFwdReferenceIdeal.Run
public import proofs.«01_k».proof.Proof.Gen.RmsFwdReferenceIdeal.Read

@[expose] public section

/-! The root-mean-square norm: a block of rows of it comes from the same rows of its argument. -/

/-! The root-mean-square norm: a block of rows of it comes from the same rows of its argument. -/

noncomputable section

namespace RmsFwd

open Idealize.ShloMosaic Idealize.ShloMosaic.TcCoe Idealize.SL.Sem
open Cert.RmsFwdIdeal Cert.RmsFwdIdeal.Gen

variable (m : (ℓ : Loc nD τ sig) → Buf (Elt Ideal) ℓ) (c : Dev nD)

/-- What a row is scaled by: the root's inverse of its mean square `s / 1024` and a small constant. -/
def scale (s : EReal) : EReal :=
  Ideal.rsqrt (Ideal.div s (Ideal.ofBits .f32 0x44800000#32) + Ideal.ofBits .f32 0x358637BD#32)

/-- The norm of `x` with weight `w`. -/
def norm {n : ℕ} (x : Products.Mat n 1024) (w : Products.Mat 1 1024) : Products.Mat n 1024 := fun e =>
  x (ix2 (e 0) (e 1)) * scale (∑ k : Fin 1024, x (ix2 (e 0) k) * x (ix2 (e 0) k)) * w (ix2 0 (e 1))

/-- One grid point, entry by entry. -/
theorem pay (x : Vec Ideal S512x1024 .f32) (w : Vec Ideal S1x1024 .f32) (i : Fin 512) (j : Fin 1024) :
    k0_pay1 x w (ix2 i j) = norm x w (ix2 i j) := by
  pointwise [k0_pay1]
  rfl

/-- The blocks of point `t`: row block `t` and the whole weight. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧
    win0_2.index t = ![t.val, 0])

theorem in0 (t : Fin cfg0.N) : Products.Block (N := 4096) (P := 1024) (n := 512) (p := 1024)
    (m ((c : Thread nD τ).loc main_arg0)) (iblk m c 0 t) (512 * t.val) 0 := fun i k hi hk => by
  blk_ext [iblk, V_main_arg0, (idx t).1]

theorem in1 (t : Fin cfg0.N) : Products.Block (N := 1) (P := 1024) (n := 1) (p := 1024)
    (m ((c : Thread nD τ).loc main_arg1)) (iblk m c 1 t) 0 0 := fun i k hi hk => by
  blk_ext [iblk, V_main_arg1, (idx t).2.1]

/-- A block of the norm comes from the block of the rows. -/
theorem norm_block {X : Products.Mat 4096 1024} {W w : Products.Mat 1 1024} {x : Products.Mat 512 1024} {r : ℕ}
    (hx : Products.Block X x r 0) (hw : Products.Block W w 0 0) (i : Fin 512) (j : Fin 1024) {e : S4096x1024.Idx}
    (h0 : (e 0).val = r + i.val) (h1 : (e 1).val = 0 + j.val) : norm x w (ix2 i j) = norm X W e := by
  have hr (k : Fin 1024) : x (ix2 i k) = X (ix2 (e 0) k) := Products.block_read hx i k h0 (Nat.zero_add _).symm
  refine congrArg₂ (· * ·) (congrArg₂ (· * ·) (Products.block_read hx i j h0 h1) (congrArg scale ?_))
    (Products.block_read hw 0 j rfl h1)
  exact Finset.sum_congr rfl fun k _ => congrArg₂ (· * ·) (hr k) (hr k)

/-- The array that the call ends with. -/
theorem arr : (dats m 0 c).arrAt 2 cfg0.N = (norm (n := 4096) (m ((c : Thread nD τ).loc main_arg0))
    (m ((c : Thread nD τ).loc main_arg1)) : Vec Ideal S4096x1024 .bf16) := by
  refine (dats m 0 c).arrAt_eq_of_covers 2 _ (by decide +kernel) fun t hf y => ?_
  have e0 : ((win0_2.blk t).view.emb y 0).val = win0_2.index t 0 * 512 + 1 * (y 0).val := rfl
  have e1 : ((win0_2.blk t).view.emb y 1).val = win0_2.index t 1 * 1024 + 1 * (y 1).val := rfl
  rw [(idx t).2.2] at e0 e1
  blk_simp
  rw [after0_2]
  unfold out0_2
  rw [View.canon_unit_zero (S := S512x1024) Products.zero2, View.ld_unit_zero (S := S512x1024) Products.zero2,
    View.ld_unit_zero (S := S1x1024) Products.zero2]
  refine (congrArg _ (eq_ix2 y)).trans ((pay _ _ (y 0) (y 1)).trans (norm_block (in0 m c t) (in1 m c t) _ _ ?_ ?_))
  · exact e0.trans (by simp [Nat.mul_comm])
  · exact e1.trans (by simp)

/-! ## The claims -/

/-- The kernel as it runs terminates, keeps its arguments and ends with every counter at zero. -/
theorem frame_p : Cert.quiescent_RmsFwd := fun m ρ _ => Cert.RmsFwd.Gen.frame m ρ

/-- So does the kernel over the extended reals. -/
theorem frame_pi : Cert.quiescent_RmsFwdIdeal := fun m ρ _ => Cert.RmsFwdIdeal.Gen.frame m ρ

/-- The reference over the extended reals terminates and keeps its arguments. -/
theorem frame_ri : Cert.quiescent_RmsFwdReferenceIdeal := fun m ρ _ =>
  (θ_run Cert.RmsFwdReferenceIdeal.defs _ _).mono
    (fun r h => ⟨fun c => (h c).2, sem_eq_zero_of_no_sems (by decide) r.2⟩)
    (Cert.RmsFwdReferenceIdeal.Value.run (F := Ideal) m ρ)

/-- Nothing of the kernel is rewritten. -/
theorem preserves : Cert.preserves_RmsFwd_RmsFwdIdeal := trivial

section reference

variable (x : Vec Ideal S4096x1024 .f32) (w : Vec Ideal S1x1024 .f32)

open Cert.RmsFwdReferenceIdeal.Read

/-- The reference's sum of squares of a row. -/
theorem ref_sum (i : Fin 4096) (e : Cert.RmsFwdReferenceIdeal.S4096x1.Idx) (h : (e 0).val = i.val) :
    val_main_v2 (F := Ideal) x e = ∑ k : Fin 1024, x (ix2 i k) * x (ix2 i k) := by
  rw [val_main_v2_apply, val_main_v1_apply, val_main_cst_apply]
  refine (congrArg (· + _) (by simp : FloatOps.ofBits (F := Ideal) FTy.f32 0#32 = 0)).trans ((zero_add _).trans ?_)
  refine Finset.sum_congr rfl fun k _ => ?_
  rw [val_main_v0_apply, show idx_main_v1 (idx_main_v2 e) k = ix2 i k from (Products.idx_eq ((by rfl : _ = (e 0).val).trans h) (by rfl)).symm]
  rfl

/-- The reference's norm, entry by entry. -/
theorem ref_at (i : Fin 4096) (j : Fin 1024) : val_main_v12 (F := Ideal) x w (ix2 i j) = norm x w (ix2 i j) := by
  have h : idx_main_v10 (ix2 i j) = ix2 0 j := (Products.idx_eq (by rfl) (by rfl)).symm
  rw [val_main_v12_apply, val_main_v11_apply, val_main_v10_apply, val_main_v9_apply, val_main_v8_apply, val_main_v7_apply,
    val_main_v6_apply, val_main_v5_apply, val_main_v4_apply, val_main_v3_apply, val_main_cst_0_apply, val_main_cst_1_apply,
    h, ref_sum x i _ (by rfl)]
  rfl

theorem ref : val_main_v12 (F := Ideal) x w = norm x w := funext fun e =>
  (congrArg _ (eq_ix2 e)).trans ((ref_at x w (e 0) (e 1)).trans (congrArg (norm x w) (eq_ix2 e).symm))

end reference

/-- On equal arguments, the kernel and the reference end with the same result. -/
theorem algebraic : Cert.algebraic_RmsFwdIdeal_RmsFwdReferenceIdeal := by
  intro m ρ m' ρ' _ hagree
  refine ⟨_, Cert.RmsFwdIdeal.Value.run_blocks (F := Ideal) m ρ, ?_⟩
  refine (θ_run Cert.RmsFwdReferenceIdeal.defs _ _).mono (fun r hr c => ?_)
    (Cert.RmsFwdReferenceIdeal.Value.run (F := Ideal) m' ρ')
  obtain ⟨a0, a1⟩ := hagree c
  refine ⟨(hr c).1.trans ((Cert.RmsFwdReferenceIdeal.Read.val_main_v12_eq _ _).trans ?_), (hr c).2⟩
  rw [a0, a1]
  exact (ref _ _).trans (arr m c).symm

end RmsFwd

end
-- ==== Proof.Adamw.lean ====
module

public import proofs.«01_k».proof.Proof.Products

@[expose] public section

/-! One step of the optimiser, entry by entry: the new moments and the weight's step. -/

noncomputable section

namespace Adamw

open Idealize.ShloMosaic

/-- The new first moment of gradient `g` and moment `p`. -/
def moment (g p : EReal) : EReal := Ideal.ofBits .f32 0x3F666666#32 * p + Ideal.ofBits .f32 0x3DCCCCCD#32 * g

/-- The new second moment of gradient `g` and moment `q`. -/
def square (g q : EReal) : EReal := Ideal.ofBits .f32 0x3F7FBE77#32 * q + Ideal.ofBits .f32 0x3A83126F#32 * (g * g)

/-- The weight's step, from the new moments and the weight. -/
def step (p q w : EReal) : EReal := Ideal.ofBits .f32 0xBA83126F#32 *
  (Ideal.div (Ideal.div p (Ideal.ofBits .f32 0x3F26BD02#32))
      (Ideal.sqrt (Ideal.div q (Ideal.ofBits .f32 0x3C231ACC#32)) + Ideal.ofBits .f32 0x322BCC77#32) +
    Ideal.ofBits .f32 0x3C23D70A#32 * w)

/-- A cast to the same shape changes nothing. -/
theorem cast_self {S : Shape} {α : Type} (x : S.Idx → α) (h : S.ShapeCasts S) : shapeCast S x h = x :=
  funext fun e => shapeCast_apply x h e e rfl

variable {n p : ℕ} (w a b u v : Products.Mat n p)

/-- The four results from two parts `a` and `b` of the gradient: their sum, the weight's step and the new moments. -/
def grad : Products.Mat n p := fun e => a e + b e

def first : Products.Mat n p := fun e => moment (grad a b e) (u e)

def second : Products.Mat n p := fun e => square (grad a b e) (v e)

def delta : Products.Mat n p := fun e => step (first a b u e) (second a b v e) (w e)

section blocks

variable {N P r s : ℕ} {W A B U V : Products.Mat N P} {w a b u v : Products.Mat n p}

theorem block_entry {x : Products.Mat n p} {X : Products.Mat N P} (hx : Products.Block X x r s)
    (y : (⟨2, ![n, p]⟩ : Shape).Idx) {e : (⟨2, ![N, P]⟩ : Shape).Idx} (h0 : (e 0).val = r + (y 0).val)
    (h1 : (e 1).val = s + (y 1).val) : x y = X e :=
  (congrArg x (eq_ix2 y)).trans (Products.block_read hx (y 0) (y 1) h0 h1)

/-- An entry of a result comes from the same entry of each argument. -/
theorem grad_block (ha : Products.Block A a r s) (hb : Products.Block B b r s) (y : (⟨2, ![n, p]⟩ : Shape).Idx)
    {e : (⟨2, ![N, P]⟩ : Shape).Idx} (h0 : (e 0).val = r + (y 0).val) (h1 : (e 1).val = s + (y 1).val) :
    grad a b y = grad A B e :=
  congrArg₂ (· + ·) (block_entry ha y h0 h1) (block_entry hb y h0 h1)

theorem first_block (ha : Products.Block A a r s) (hb : Products.Block B b r s) (hu : Products.Block U u r s)
    (y : (⟨2, ![n, p]⟩ : Shape).Idx) {e : (⟨2, ![N, P]⟩ : Shape).Idx} (h0 : (e 0).val = r + (y 0).val)
    (h1 : (e 1).val = s + (y 1).val) : first a b u y = first A B U e :=
  congrArg₂ moment (grad_block ha hb y h0 h1) (block_entry hu y h0 h1)

theorem second_block (ha : Products.Block A a r s) (hb : Products.Block B b r s) (hv : Products.Block V v r s)
    (y : (⟨2, ![n, p]⟩ : Shape).Idx) {e : (⟨2, ![N, P]⟩ : Shape).Idx} (h0 : (e 0).val = r + (y 0).val)
    (h1 : (e 1).val = s + (y 1).val) : second a b v y = second A B V e :=
  congrArg₂ square (grad_block ha hb y h0 h1) (block_entry hv y h0 h1)

theorem delta_block (hw : Products.Block W w r s) (ha : Products.Block A a r s) (hb : Products.Block B b r s)
    (hu : Products.Block U u r s) (hv : Products.Block V v r s) (y : (⟨2, ![n, p]⟩ : Shape).Idx)
    {e : (⟨2, ![N, P]⟩ : Shape).Idx} (h0 : (e 0).val = r + (y 0).val) (h1 : (e 1).val = s + (y 1).val) :
    delta w a b u v y = delta W A B U V e :=
  (congrArg₂ (step · · _) (first_block ha hb hu y h0 h1) (second_block ha hb hv y h0 h1)).trans
    (congrArg (step _ _) (block_entry hw y h0 h1))

end blocks

end Adamw

end
-- ==== Proof.AdamwDown.lean ====
module

public import proofs.«01_k».proof.Defs
public import proofs.«01_k».proof.Proof.Adamw
public import proofs.«01_k».proof.Proof.Gen.AdamwDown.Frame
public import proofs.«01_k».proof.Proof.Gen.AdamwDownIdeal.Value
public import proofs.«01_k».proof.Proof.Gen.AdamwDownReferenceIdeal.Run
public import proofs.«01_k».proof.Proof.Gen.AdamwDownReferenceIdeal.Read

@[expose] public section

/-!
The optimiser's update of the down-projection's weight: each of its four results is the reference's
function of the arguments, entry by entry.
-/

noncomputable section

namespace AdamwDown

open Idealize.ShloMosaic Idealize.ShloMosaic.TcCoe Idealize.SL.Sem
open Cert.AdamwDownIdeal Cert.AdamwDownIdeal.Gen

variable (m : (ℓ : Loc nD τ sig) → Buf (Elt Ideal) ℓ) (c : Dev nD)

/-! ## One grid point -/

section points

/-- The body on one block: the sum, the step and the moments. -/
theorem pays (w a b p q : Vec Ideal S352x1024 .f32) : k0_pay1 a b = Adamw.grad a b ∧
    k0_pay5 (k0_pay1 a b) p q w = Adamw.delta w a b p q ∧ k0_pay3 (k0_pay1 a b) p = Adamw.first a b p ∧
    k0_pay4 (k0_pay1 a b) q = Adamw.second a b q := by
  simp only [k0_pay5, k0_pay4, k0_pay3, k0_pay2, k0_pay1, Adamw.cast_self]
  exact ⟨funext fun _ => rfl, funext fun _ => rfl, funext fun _ => rfl, funext fun _ => rfl⟩

variable (i : grid0.Coords)
  (arg1 : Memref sig .tc .vmem S352x1024 .f32) (harg1 : arg1.IsWhole)
  (arg2 : Memref sig .tc .vmem S352x1024 .f32) (harg2 : arg2.IsWhole)
  (arg3 : Memref sig .tc .vmem S352x1024 .f32) (harg3 : arg3.IsWhole)
  (arg4 : Memref sig .tc .vmem S352x1024 .f32) (harg4 : arg4.IsWhole)
  (arg5 : Memref sig .tc .vmem S352x1024 .f32) (harg5 : arg5.IsWhole)
  (arg6 : Memref sig .tc .vmem S352x1024 .f32) (harg6 : arg6.IsWhole)
  (arg7 : Memref sig .tc .vmem S352x1024 .f32) (harg7 : arg7.IsWhole)
  (arg8 : Memref sig .tc .vmem S352x1024 .f32) (harg8 : arg8.IsWhole)
  (arg9 : Memref sig .tc .vmem S352x1024 .f32) (harg9 : arg9.IsWhole)
  (w a b p q : Vec Ideal S352x1024 .f32)

/-- What a point leaves in the four result buffers. -/
theorem point :
    out0_A_5 c i arg1 harg1 arg2 harg2 arg3 harg3 arg4 harg4 arg5 harg5 arg6 harg6 arg7 harg7 arg8 harg8 arg9 harg9 w a b p q = k0_pay1 a b ∧
    out0_A_6 c i arg1 harg1 arg2 harg2 arg3 harg3 arg4 harg4 arg5 harg5 arg6 harg6 arg7 harg7 arg8 harg8 arg9 harg9 w a b p q = k0_pay5 (k0_pay1 a b) p q w ∧
    out0_A_7 c i arg1 harg1 arg2 harg2 arg3 harg3 arg4 harg4 arg5 harg5 arg6 harg6 arg7 harg7 arg8 harg8 arg9 harg9 w a b p q = k0_pay3 (k0_pay1 a b) p ∧
    out0_A_8 c i arg1 harg1 arg2 harg2 arg3 harg3 arg4 harg4 arg5 harg5 arg6 harg6 arg7 harg7 arg8 harg8 arg9 harg9 w a b p q = k0_pay4 (k0_pay1 a b) q := by
  refine ⟨(View.read_writes_eq_canon _ _ _ (cover0_A_5 c i arg1 harg1 arg2 harg2 arg3 harg3 arg4 harg4 arg5 harg5 arg6 harg6 arg7 harg7 arg8 harg8 arg9 harg9 w a b p q)).trans ?_,
    (View.read_writes_eq_canon _ _ _ (cover0_A_6 c i arg1 harg1 arg2 harg2 arg3 harg3 arg4 harg4 arg5 harg5 arg6 harg6 arg7 harg7 arg8 harg8 arg9 harg9 w a b p q)).trans ?_,
    (View.read_writes_eq_canon _ _ _ (cover0_A_7 c i arg1 harg1 arg2 harg2 arg3 harg3 arg4 harg4 arg5 harg5 arg6 harg6 arg7 harg7 arg8 harg8 arg9 harg9 w a b p q)).trans ?_,
    (View.read_writes_eq_canon _ _ _ (cover0_A_8 c i arg1 harg1 arg2 harg2 arg3 harg3 arg4 harg4 arg5 harg5 arg6 harg6 arg7 harg7 arg8 harg8 arg9 harg9 w a b p q)).trans ?_⟩
  all_goals
    unfold kernelRun0_A
    dsimp only
    sl_unfold_words
    simp only [View.canon_unit_zero (S := S352x1024) Products.zero2, View.readCov_unit_zero (S := S352x1024) _ Products.zero2,
      View.readAt_eq_ld, harg1.read_unread, harg2.read_unread, harg3.read_unread, harg4.read_unread, harg5.read_unread, View.ld_unit_zero (S := S352x1024) Products.zero2]

end points

/-! ## The arrays -/

/-- Every window of point `t` is row block `t`. -/
theorem idx : ∀ t : Fin cfg0.N, ∀ a : Fin 2, win0_0.index t a = ![t.val, 0] a ∧ win0_1.index t a = ![t.val, 0] a ∧
    win0_2.index t a = ![t.val, 0] a ∧ win0_3.index t a = ![t.val, 0] a ∧ win0_4.index t a = ![t.val, 0] a ∧
    win0_5.index t a = ![t.val, 0] a ∧ win0_6.index t a = ![t.val, 0] a ∧ win0_7.index t a = ![t.val, 0] a ∧
    win0_8.index t a = ![t.val, 0] a := by
  decide +kernel

theorem in0 (t : Fin cfg0.N) : Products.Block (N := 704) (P := 1024) (n := 352) (p := 1024)
    (m ((c : Thread nD τ).loc main_arg0)) (iblk m c 0 t) (352 * t.val) 0 := fun i k hi hk => by
  blk_ext [iblk, V_main_arg0, (idx t 0).1, (idx t 1).1]

theorem in1 (t : Fin cfg0.N) : Products.Block (N := 704) (P := 1024) (n := 352) (p := 1024)
    (m ((c : Thread nD τ).loc main_arg1)) (iblk m c 1 t) (352 * t.val) 0 := fun i k hi hk => by
  blk_ext [iblk, V_main_arg1, (idx t 0).2.1, (idx t 1).2.1]

theorem in2 (t : Fin cfg0.N) : Products.Block (N := 704) (P := 1024) (n := 352) (p := 1024)
    (m ((c : Thread nD τ).loc main_arg2)) (iblk m c 2 t) (352 * t.val) 0 := fun i k hi hk => by
  blk_ext [iblk, V_main_arg2, (idx t 0).2.2.1, (idx t 1).2.2.1]

theorem in3 (t : Fin cfg0.N) : Products.Block (N := 704) (P := 1024) (n := 352) (p := 1024)
    (m ((c : Thread nD τ).loc main_arg3)) (iblk m c 3 t) (352 * t.val) 0 := fun i k hi hk => by
  blk_ext [iblk, V_main_arg3, (idx t 0).2.2.2.1, (idx t 1).2.2.2.1]

theorem in4 (t : Fin cfg0.N) : Products.Block (N := 704) (P := 1024) (n := 352) (p := 1024)
    (m ((c : Thread nD τ).loc main_arg4)) (iblk m c 4 t) (352 * t.val) 0 := fun i k hi hk => by
  blk_ext [iblk, V_main_arg4, (idx t 0).2.2.2.2.1, (idx t 1).2.2.2.2.1]

/-- The buffers after point `t`. -/
theorem point_at (t : Fin cfg0.N) :
    (outsAt0 m c t).1 = k0_pay1 (iblk m c 1 t) (iblk m c 2 t) ∧
    (outsAt0 m c t).2.1 = k0_pay5 (k0_pay1 (iblk m c 1 t) (iblk m c 2 t)) (iblk m c 3 t) (iblk m c 4 t) (iblk m c 0 t) ∧
    (outsAt0 m c t).2.2.1 = k0_pay3 (k0_pay1 (iblk m c 1 t) (iblk m c 2 t)) (iblk m c 3 t) ∧
    (outsAt0 m c t).2.2.2 = k0_pay4 (k0_pay1 (iblk m c 1 t) (iblk m c 2 t)) (iblk m c 4 t) := by
  obtain ⟨p5, p6, p7, p8⟩ := point c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t)
  unfold outsAt0
  dsimp only
  exact ⟨p5, p6, p7, p8⟩

/-- The arrays that the call ends with. -/
theorem arr5 : (dats m 0 c).arrAt 5 cfg0.N = Adamw.grad (n := 704) (p := 1024) (m ((c : Thread nD τ).loc main_arg1)) (m ((c : Thread nD τ).loc main_arg2)) := by
  refine (dats m 0 c).arrAt_eq_of_covers 5 _ (by decide +kernel) fun t hf y => ?_
  have e0 : ((win0_5.blk t).view.emb y 0).val = win0_5.index t 0 * 352 + 1 * (y 0).val := rfl
  have e1 : ((win0_5.blk t).view.emb y 1).val = win0_5.index t 1 * 1024 + 1 * (y 1).val := rfl
  rw [(idx t 0).2.2.2.2.2.1] at e0
  rw [(idx t 1).2.2.2.2.2.1] at e1
  blk_simp
  rw [after0_5]
  exact (congrFun ((point_at m c t).1.trans (pays (iblk m c 0 t) (iblk m c 1 t) (iblk m c 2 t) (iblk m c 3 t) (iblk m c 4 t)).1) y).trans (Adamw.grad_block (in1 m c t) (in2 m c t) y
    (e0.trans (by simp [Nat.mul_comm])) (e1.trans (by simp)))

theorem arr6 : (dats m 0 c).arrAt 6 cfg0.N = Adamw.delta (n := 704) (p := 1024) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e0 : ((win0_6.blk t).view.emb y 0).val = win0_6.index t 0 * 352 + 1 * (y 0).val := rfl
  have e1 : ((win0_6.blk t).view.emb y 1).val = win0_6.index t 1 * 1024 + 1 * (y 1).val := rfl
  rw [(idx t 0).2.2.2.2.2.2.1] at e0
  rw [(idx t 1).2.2.2.2.2.2.1] at e1
  blk_simp
  rw [after0_6]
  exact (congrFun ((point_at m c t).2.1.trans (pays (iblk m c 0 t) (iblk m c 1 t) (iblk m c 2 t) (iblk m c 3 t) (iblk m c 4 t)).2.1) y).trans (Adamw.delta_block (in0 m c t) (in1 m c t) (in2 m c t) (in3 m c t) (in4 m c t) y
    (e0.trans (by simp [Nat.mul_comm])) (e1.trans (by simp)))

theorem arr7 : (dats m 0 c).arrAt 7 cfg0.N = Adamw.first (n := 704) (p := 1024) (m ((c : Thread nD τ).loc main_arg1)) (m ((c : Thread nD τ).loc main_arg2)) (m ((c : Thread nD τ).loc main_arg3)) := by
  refine (dats m 0 c).arrAt_eq_of_covers 7 _ (by decide +kernel) fun t hf y => ?_
  have e0 : ((win0_7.blk t).view.emb y 0).val = win0_7.index t 0 * 352 + 1 * (y 0).val := rfl
  have e1 : ((win0_7.blk t).view.emb y 1).val = win0_7.index t 1 * 1024 + 1 * (y 1).val := rfl
  rw [(idx t 0).2.2.2.2.2.2.2.1] at e0
  rw [(idx t 1).2.2.2.2.2.2.2.1] at e1
  blk_simp
  rw [after0_7]
  exact (congrFun ((point_at m c t).2.2.1.trans (pays (iblk m c 0 t) (iblk m c 1 t) (iblk m c 2 t) (iblk m c 3 t) (iblk m c 4 t)).2.2.1) y).trans (Adamw.first_block (in1 m c t) (in2 m c t) (in3 m c t) y
    (e0.trans (by simp [Nat.mul_comm])) (e1.trans (by simp)))

theorem arr8 : (dats m 0 c).arrAt 8 cfg0.N = Adamw.second (n := 704) (p := 1024) (m ((c : Thread nD τ).loc main_arg1)) (m ((c : Thread nD τ).loc main_arg2)) (m ((c : Thread nD τ).loc main_arg4)) := by
  refine (dats m 0 c).arrAt_eq_of_covers 8 _ (by decide +kernel) fun t hf y => ?_
  have e0 : ((win0_8.blk t).view.emb y 0).val = win0_8.index t 0 * 352 + 1 * (y 0).val := rfl
  have e1 : ((win0_8.blk t).view.emb y 1).val = win0_8.index t 1 * 1024 + 1 * (y 1).val := rfl
  rw [(idx t 0).2.2.2.2.2.2.2.2] at e0
  rw [(idx t 1).2.2.2.2.2.2.2.2] at e1
  blk_simp
  rw [after0_8]
  exact (congrFun ((point_at m c t).2.2.2.trans (pays (iblk m c 0 t) (iblk m c 1 t) (iblk m c 2 t) (iblk m c 3 t) (iblk m c 4 t)).2.2.2) y).trans (Adamw.second_block (in1 m c t) (in2 m c t) (in4 m c t) y
    (e0.trans (by simp [Nat.mul_comm])) (e1.trans (by simp)))

/-! ## The claims -/

/-- The kernel as it runs terminates, keeps its arguments and ends with every counter at zero. -/
theorem frame_p : Cert.quiescent_AdamwDown := fun m ρ _ => Cert.AdamwDown.Gen.frame m ρ

/-- So does the kernel over the extended reals. -/
theorem frame_pi : Cert.quiescent_AdamwDownIdeal := fun m ρ _ => Cert.AdamwDownIdeal.Gen.frame m ρ

/-- The reference over the extended reals terminates and keeps its arguments. -/
theorem frame_ri : Cert.quiescent_AdamwDownReferenceIdeal := fun m ρ _ =>
  (θ_run Cert.AdamwDownReferenceIdeal.defs _ _).mono
    (fun r h => ⟨fun c => (h c).2.2.2.2, sem_eq_zero_of_no_sems (by decide) r.2⟩)
    (Cert.AdamwDownReferenceIdeal.Value.run (F := Ideal) m ρ)

/-- Nothing of the kernel is rewritten. -/
theorem preserves : Cert.preserves_AdamwDown_AdamwDownIdeal := trivial

section reference

variable (w a b p q : Vec Ideal S704x1024 .f32)

open Cert.AdamwDownReferenceIdeal.Read

/-- The four results of the reference, entry by entry. -/
theorem ref_grad : val_main_v0 (F := Ideal) a b = Adamw.grad a b := funext fun _ => rfl

theorem ref_delta : val_main_v24 (F := Ideal) w a b p q = Adamw.delta w a b p q := funext fun _ => rfl

theorem ref_first : val_main_v5 (F := Ideal) a b p = Adamw.first a b p := funext fun _ => rfl

theorem ref_second : val_main_v11 (F := Ideal) a b q = Adamw.second a b q := funext fun _ => rfl

end reference

open Cert.AdamwDownReferenceIdeal.Read in
/-- On equal arguments, the kernel and the reference end with the same four results. -/
theorem algebraic : Cert.algebraic_AdamwDownIdeal_AdamwDownReferenceIdeal := by
  intro m ρ m' ρ' _ hagree
  refine ⟨_, _, _, _, Cert.AdamwDownIdeal.Value.run_blocks (F := Ideal) m ρ, ?_⟩
  refine (θ_run Cert.AdamwDownReferenceIdeal.defs _ _).mono (fun r hr c => ?_)
    (Cert.AdamwDownReferenceIdeal.Value.run (F := Ideal) m' ρ')
  obtain ⟨a0, a1, a2, a3, a4⟩ := hagree c
  obtain ⟨r0, r1, r2, r3, hk⟩ := hr c
  refine ⟨r0.trans ((val_main_v0_eq _ _).trans ?_), r1.trans ((val_main_v24_eq _ _ _ _ _).trans ?_),
    r2.trans ((val_main_v5_eq _ _ _).trans ?_), r3.trans ((val_main_v11_eq _ _ _).trans ?_), hk⟩
  · rw [a1, a2]; exact (ref_grad _ _).trans (arr5 m c).symm
  · rw [a0, a1, a2, a3, a4]; exact (ref_delta _ _ _ _ _).trans (arr6 m c).symm
  · rw [a1, a2, a3]; exact (ref_first _ _ _).trans (arr7 m c).symm
  · rw [a1, a2, a4]; exact (ref_second _ _ _).trans (arr8 m c).symm

end AdamwDown

end
-- ==== Proof.AdamwOut.lean ====
module

public import proofs.«01_k».proof.Defs
public import proofs.«01_k».proof.Proof.Adamw
public import proofs.«01_k».proof.Proof.Gen.AdamwOut.Frame
public import proofs.«01_k».proof.Proof.Gen.AdamwOutIdeal.Value
public import proofs.«01_k».proof.Proof.Gen.AdamwOutReferenceIdeal.Run
public import proofs.«01_k».proof.Proof.Gen.AdamwOutReferenceIdeal.Read

@[expose] public section

/-!
The optimiser's update of the output projection's weight: each of its four results is the reference's
function of the arguments, entry by entry.
-/

noncomputable section

namespace AdamwOut

open Idealize.ShloMosaic Idealize.ShloMosaic.TcCoe Idealize.SL.Sem
open Cert.AdamwOutIdeal Cert.AdamwOutIdeal.Gen

variable (m : (ℓ : Loc nD τ sig) → Buf (Elt Ideal) ℓ) (c : Dev nD)

/-! ## One grid point -/

section points

/-- The body on one block: the sum, the step and the moments. -/
theorem pays (w a b p q : Vec Ideal S256x1024 .f32) : k0_pay1 a b = Adamw.grad a b ∧
    k0_pay5 (k0_pay1 a b) p q w = Adamw.delta w a b p q ∧ k0_pay3 (k0_pay1 a b) p = Adamw.first a b p ∧
    k0_pay4 (k0_pay1 a b) q = Adamw.second a b q := by
  simp only [k0_pay5, k0_pay4, k0_pay3, k0_pay2, k0_pay1, Adamw.cast_self]
  exact ⟨funext fun _ => rfl, funext fun _ => rfl, funext fun _ => rfl, funext fun _ => rfl⟩

variable (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (w a b p q : Vec Ideal S256x1024 .f32)

/-- What a point leaves in the four result buffers. -/
theorem point :
    out0_A_5 c i arg1 harg1 arg2 harg2 arg3 harg3 arg4 harg4 arg5 harg5 arg6 harg6 arg7 harg7 arg8 harg8 arg9 harg9 w a b p q = k0_pay1 a b ∧
    out0_A_6 c i arg1 harg1 arg2 harg2 arg3 harg3 arg4 harg4 arg5 harg5 arg6 harg6 arg7 harg7 arg8 harg8 arg9 harg9 w a b p q = k0_pay5 (k0_pay1 a b) p q w ∧
    out0_A_7 c i arg1 harg1 arg2 harg2 arg3 harg3 arg4 harg4 arg5 harg5 arg6 harg6 arg7 harg7 arg8 harg8 arg9 harg9 w a b p q = k0_pay3 (k0_pay1 a b) p ∧
    out0_A_8 c i arg1 harg1 arg2 harg2 arg3 harg3 arg4 harg4 arg5 harg5 arg6 harg6 arg7 harg7 arg8 harg8 arg9 harg9 w a b p q = k0_pay4 (k0_pay1 a b) q := by
  refine ⟨(View.read_writes_eq_canon _ _ _ (cover0_A_5 c i arg1 harg1 arg2 harg2 arg3 harg3 arg4 harg4 arg5 harg5 arg6 harg6 arg7 harg7 arg8 harg8 arg9 harg9 w a b p q)).trans ?_,
    (View.read_writes_eq_canon _ _ _ (cover0_A_6 c i arg1 harg1 arg2 harg2 arg3 harg3 arg4 harg4 arg5 harg5 arg6 harg6 arg7 harg7 arg8 harg8 arg9 harg9 w a b p q)).trans ?_,
    (View.read_writes_eq_canon _ _ _ (cover0_A_7 c i arg1 harg1 arg2 harg2 arg3 harg3 arg4 harg4 arg5 harg5 arg6 harg6 arg7 harg7 arg8 harg8 arg9 harg9 w a b p q)).trans ?_,
    (View.read_writes_eq_canon _ _ _ (cover0_A_8 c i arg1 harg1 arg2 harg2 arg3 harg3 arg4 harg4 arg5 harg5 arg6 harg6 arg7 harg7 arg8 harg8 arg9 harg9 w a b p q)).trans ?_⟩
  all_goals
    unfold kernelRun0_A
    dsimp only
    sl_unfold_words
    simp only [View.canon_unit_zero (S := S256x1024) Products.zero2, View.readCov_unit_zero (S := S256x1024) _ Products.zero2,
      View.readAt_eq_ld, harg1.read_unread, harg2.read_unread, harg3.read_unread, harg4.read_unread, harg5.read_unread, View.ld_unit_zero (S := S256x1024) Products.zero2]

end points

/-! ## The arrays -/

/-- Every window of point `t` is row block `t`. -/
theorem idx : ∀ t : Fin cfg0.N, ∀ a : Fin 2, win0_0.index t a = ![t.val, 0] a ∧ win0_1.index t a = ![t.val, 0] a ∧
    win0_2.index t a = ![t.val, 0] a ∧ win0_3.index t a = ![t.val, 0] a ∧ win0_4.index t a = ![t.val, 0] a ∧
    win0_5.index t a = ![t.val, 0] a ∧ win0_6.index t a = ![t.val, 0] a ∧ win0_7.index t a = ![t.val, 0] a ∧
    win0_8.index t a = ![t.val, 0] a := by
  decide +kernel

theorem in0 (t : Fin cfg0.N) : Products.Block (N := 256) (P := 1024) (n := 256) (p := 1024)
    (m ((c : Thread nD τ).loc main_arg0)) (iblk m c 0 t) (256 * t.val) 0 := fun i k hi hk => by
  blk_ext [iblk, V_main_arg0, (idx t 0).1, (idx t 1).1]

theorem in1 (t : Fin cfg0.N) : Products.Block (N := 256) (P := 1024) (n := 256) (p := 1024)
    (m ((c : Thread nD τ).loc main_arg1)) (iblk m c 1 t) (256 * t.val) 0 := fun i k hi hk => by
  blk_ext [iblk, V_main_arg1, (idx t 0).2.1, (idx t 1).2.1]

theorem in2 (t : Fin cfg0.N) : Products.Block (N := 256) (P := 1024) (n := 256) (p := 1024)
    (m ((c : Thread nD τ).loc main_arg2)) (iblk m c 2 t) (256 * t.val) 0 := fun i k hi hk => by
  blk_ext [iblk, V_main_arg2, (idx t 0).2.2.1, (idx t 1).2.2.1]

theorem in3 (t : Fin cfg0.N) : Products.Block (N := 256) (P := 1024) (n := 256) (p := 1024)
    (m ((c : Thread nD τ).loc main_arg3)) (iblk m c 3 t) (256 * t.val) 0 := fun i k hi hk => by
  blk_ext [iblk, V_main_arg3, (idx t 0).2.2.2.1, (idx t 1).2.2.2.1]

theorem in4 (t : Fin cfg0.N) : Products.Block (N := 256) (P := 1024) (n := 256) (p := 1024)
    (m ((c : Thread nD τ).loc main_arg4)) (iblk m c 4 t) (256 * t.val) 0 := fun i k hi hk => by
  blk_ext [iblk, V_main_arg4, (idx t 0).2.2.2.2.1, (idx t 1).2.2.2.2.1]

/-- The buffers after point `t`. -/
theorem point_at (t : Fin cfg0.N) :
    (outsAt0 m c t).1 = k0_pay1 (iblk m c 1 t) (iblk m c 2 t) ∧
    (outsAt0 m c t).2.1 = k0_pay5 (k0_pay1 (iblk m c 1 t) (iblk m c 2 t)) (iblk m c 3 t) (iblk m c 4 t) (iblk m c 0 t) ∧
    (outsAt0 m c t).2.2.1 = k0_pay3 (k0_pay1 (iblk m c 1 t) (iblk m c 2 t)) (iblk m c 3 t) ∧
    (outsAt0 m c t).2.2.2 = k0_pay4 (k0_pay1 (iblk m c 1 t) (iblk m c 2 t)) (iblk m c 4 t) := by
  obtain ⟨p5, p6, p7, p8⟩ := point c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t)
  unfold outsAt0
  dsimp only
  exact ⟨p5, p6, p7, p8⟩

/-- The arrays that the call ends with. -/
theorem arr5 : (dats m 0 c).arrAt 5 cfg0.N = Adamw.grad (n := 256) (p := 1024) (m ((c : Thread nD τ).loc main_arg1)) (m ((c : Thread nD τ).loc main_arg2)) := by
  refine (dats m 0 c).arrAt_eq_of_covers 5 _ (by decide +kernel) fun t hf y => ?_
  have e0 : ((win0_5.blk t).view.emb y 0).val = win0_5.index t 0 * 256 + 1 * (y 0).val := rfl
  have e1 : ((win0_5.blk t).view.emb y 1).val = win0_5.index t 1 * 1024 + 1 * (y 1).val := rfl
  rw [(idx t 0).2.2.2.2.2.1] at e0
  rw [(idx t 1).2.2.2.2.2.1] at e1
  blk_simp
  rw [after0_5]
  exact (congrFun ((point_at m c t).1.trans (pays (iblk m c 0 t) (iblk m c 1 t) (iblk m c 2 t) (iblk m c 3 t) (iblk m c 4 t)).1) y).trans (Adamw.grad_block (in1 m c t) (in2 m c t) y
    (e0.trans (by simp [Nat.mul_comm])) (e1.trans (by simp)))

theorem arr6 : (dats m 0 c).arrAt 6 cfg0.N = Adamw.delta (n := 256) (p := 1024) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e0 : ((win0_6.blk t).view.emb y 0).val = win0_6.index t 0 * 256 + 1 * (y 0).val := rfl
  have e1 : ((win0_6.blk t).view.emb y 1).val = win0_6.index t 1 * 1024 + 1 * (y 1).val := rfl
  rw [(idx t 0).2.2.2.2.2.2.1] at e0
  rw [(idx t 1).2.2.2.2.2.2.1] at e1
  blk_simp
  rw [after0_6]
  exact (congrFun ((point_at m c t).2.1.trans (pays (iblk m c 0 t) (iblk m c 1 t) (iblk m c 2 t) (iblk m c 3 t) (iblk m c 4 t)).2.1) y).trans (Adamw.delta_block (in0 m c t) (in1 m c t) (in2 m c t) (in3 m c t) (in4 m c t) y
    (e0.trans (by simp [Nat.mul_comm])) (e1.trans (by simp)))

theorem arr7 : (dats m 0 c).arrAt 7 cfg0.N = Adamw.first (n := 256) (p := 1024) (m ((c : Thread nD τ).loc main_arg1)) (m ((c : Thread nD τ).loc main_arg2)) (m ((c : Thread nD τ).loc main_arg3)) := by
  refine (dats m 0 c).arrAt_eq_of_covers 7 _ (by decide +kernel) fun t hf y => ?_
  have e0 : ((win0_7.blk t).view.emb y 0).val = win0_7.index t 0 * 256 + 1 * (y 0).val := rfl
  have e1 : ((win0_7.blk t).view.emb y 1).val = win0_7.index t 1 * 1024 + 1 * (y 1).val := rfl
  rw [(idx t 0).2.2.2.2.2.2.2.1] at e0
  rw [(idx t 1).2.2.2.2.2.2.2.1] at e1
  blk_simp
  rw [after0_7]
  exact (congrFun ((point_at m c t).2.2.1.trans (pays (iblk m c 0 t) (iblk m c 1 t) (iblk m c 2 t) (iblk m c 3 t) (iblk m c 4 t)).2.2.1) y).trans (Adamw.first_block (in1 m c t) (in2 m c t) (in3 m c t) y
    (e0.trans (by simp [Nat.mul_comm])) (e1.trans (by simp)))

theorem arr8 : (dats m 0 c).arrAt 8 cfg0.N = Adamw.second (n := 256) (p := 1024) (m ((c : Thread nD τ).loc main_arg1)) (m ((c : Thread nD τ).loc main_arg2)) (m ((c : Thread nD τ).loc main_arg4)) := by
  refine (dats m 0 c).arrAt_eq_of_covers 8 _ (by decide +kernel) fun t hf y => ?_
  have e0 : ((win0_8.blk t).view.emb y 0).val = win0_8.index t 0 * 256 + 1 * (y 0).val := rfl
  have e1 : ((win0_8.blk t).view.emb y 1).val = win0_8.index t 1 * 1024 + 1 * (y 1).val := rfl
  rw [(idx t 0).2.2.2.2.2.2.2.2] at e0
  rw [(idx t 1).2.2.2.2.2.2.2.2] at e1
  blk_simp
  rw [after0_8]
  exact (congrFun ((point_at m c t).2.2.2.trans (pays (iblk m c 0 t) (iblk m c 1 t) (iblk m c 2 t) (iblk m c 3 t) (iblk m c 4 t)).2.2.2) y).trans (Adamw.second_block (in1 m c t) (in2 m c t) (in4 m c t) y
    (e0.trans (by simp [Nat.mul_comm])) (e1.trans (by simp)))

/-! ## The claims -/

/-- The kernel as it runs terminates, keeps its arguments and ends with every counter at zero. -/
theorem frame_p : Cert.quiescent_AdamwOut := fun m ρ _ => Cert.AdamwOut.Gen.frame m ρ

/-- So does the kernel over the extended reals. -/
theorem frame_pi : Cert.quiescent_AdamwOutIdeal := fun m ρ _ => Cert.AdamwOutIdeal.Gen.frame m ρ

/-- The reference over the extended reals terminates and keeps its arguments. -/
theorem frame_ri : Cert.quiescent_AdamwOutReferenceIdeal := fun m ρ _ =>
  (θ_run Cert.AdamwOutReferenceIdeal.defs _ _).mono
    (fun r h => ⟨fun c => (h c).2.2.2.2, sem_eq_zero_of_no_sems (by decide) r.2⟩)
    (Cert.AdamwOutReferenceIdeal.Value.run (F := Ideal) m ρ)

/-- Nothing of the kernel is rewritten. -/
theorem preserves : Cert.preserves_AdamwOut_AdamwOutIdeal := trivial

section reference

variable (w a b p q : Vec Ideal S256x1024 .f32)

open Cert.AdamwOutReferenceIdeal.Read

/-- The four results of the reference, entry by entry. -/
theorem ref_grad : val_main_v0 (F := Ideal) a b = Adamw.grad a b := funext fun _ => rfl

theorem ref_delta : val_main_v24 (F := Ideal) w a b p q = Adamw.delta w a b p q := funext fun _ => rfl

theorem ref_first : val_main_v5 (F := Ideal) a b p = Adamw.first a b p := funext fun _ => rfl

theorem ref_second : val_main_v11 (F := Ideal) a b q = Adamw.second a b q := funext fun _ => rfl

end reference

open Cert.AdamwOutReferenceIdeal.Read in
/-- On equal arguments, the kernel and the reference end with the same four results. -/
theorem algebraic : Cert.algebraic_AdamwOutIdeal_AdamwOutReferenceIdeal := by
  intro m ρ m' ρ' _ hagree
  refine ⟨_, _, _, _, Cert.AdamwOutIdeal.Value.run_blocks (F := Ideal) m ρ, ?_⟩
  refine (θ_run Cert.AdamwOutReferenceIdeal.defs _ _).mono (fun r hr c => ?_)
    (Cert.AdamwOutReferenceIdeal.Value.run (F := Ideal) m' ρ')
  obtain ⟨a0, a1, a2, a3, a4⟩ := hagree c
  obtain ⟨r0, r1, r2, r3, hk⟩ := hr c
  refine ⟨r0.trans ((val_main_v0_eq _ _).trans ?_), r1.trans ((val_main_v24_eq _ _ _ _ _).trans ?_),
    r2.trans ((val_main_v5_eq _ _ _).trans ?_), r3.trans ((val_main_v11_eq _ _ _).trans ?_), hk⟩
  · rw [a1, a2]; exact (ref_grad _ _).trans (arr5 m c).symm
  · rw [a0, a1, a2, a3, a4]; exact (ref_delta _ _ _ _ _).trans (arr6 m c).symm
  · rw [a1, a2, a3]; exact (ref_first _ _ _).trans (arr7 m c).symm
  · rw [a1, a2, a4]; exact (ref_second _ _ _).trans (arr8 m c).symm

end AdamwOut

end
-- ==== Proof.AdamwBranch.lean ====
module

public import proofs.«01_k».proof.Defs
public import proofs.«01_k».proof.Proof.Adamw
public import proofs.«01_k».proof.Proof.Gen.AdamwBranch.Frame
public import proofs.«01_k».proof.Proof.Gen.AdamwBranchIdeal.Value
public import proofs.«01_k».proof.Proof.Gen.AdamwBranchReferenceIdeal.Run
public import proofs.«01_k».proof.Proof.Gen.AdamwBranchReferenceIdeal.Read

@[expose] public section

/-!
The optimiser's update of the branches' weight: each of its four results is the reference's
function of the arguments, entry by entry.
-/

noncomputable section

namespace AdamwBranch

open Idealize.ShloMosaic Idealize.ShloMosaic.TcCoe Idealize.SL.Sem
open Cert.AdamwBranchIdeal Cert.AdamwBranchIdeal.Gen

variable (m : (ℓ : Loc nD τ sig) → Buf (Elt Ideal) ℓ) (c : Dev nD)

/-! ## One grid point -/

section points

/-- The body on one block: the sum, the step and the moments. -/
theorem pays (w a b p q : Vec Ideal S256x1024 .f32) : k0_pay1 a b = Adamw.grad a b ∧
    k0_pay5 (k0_pay1 a b) p q w = Adamw.delta w a b p q ∧ k0_pay3 (k0_pay1 a b) p = Adamw.first a b p ∧
    k0_pay4 (k0_pay1 a b) q = Adamw.second a b q := by
  simp only [k0_pay5, k0_pay4, k0_pay3, k0_pay2, k0_pay1, Adamw.cast_self]
  exact ⟨funext fun _ => rfl, funext fun _ => rfl, funext fun _ => rfl, funext fun _ => rfl⟩

variable (i : grid0.Coords)
  (arg1 : Memref sig .tc .vmem S256x1024 .f32) (harg1 : arg1.IsWhole)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S256x1024 .f32) (harg7 : arg7.IsWhole)
  (arg8 : Memref sig .tc .vmem S256x1024 .f32) (harg8 : arg8.IsWhole)
  (arg9 : Memref sig .tc .vmem S256x1024 .f32) (harg9 : arg9.IsWhole)
  (w a b p q : Vec Ideal S256x1024 .f32)

/-- What a point leaves in the four result buffers. -/
theorem point :
    out0_A_5 c i arg1 harg1 arg2 harg2 arg3 harg3 arg4 harg4 arg5 harg5 arg6 harg6 arg7 harg7 arg8 harg8 arg9 harg9 w a b p q = k0_pay1 a b ∧
    out0_A_6 c i arg1 harg1 arg2 harg2 arg3 harg3 arg4 harg4 arg5 harg5 arg6 harg6 arg7 harg7 arg8 harg8 arg9 harg9 w a b p q = k0_pay5 (k0_pay1 a b) p q w ∧
    out0_A_7 c i arg1 harg1 arg2 harg2 arg3 harg3 arg4 harg4 arg5 harg5 arg6 harg6 arg7 harg7 arg8 harg8 arg9 harg9 w a b p q = k0_pay3 (k0_pay1 a b) p ∧
    out0_A_8 c i arg1 harg1 arg2 harg2 arg3 harg3 arg4 harg4 arg5 harg5 arg6 harg6 arg7 harg7 arg8 harg8 arg9 harg9 w a b p q = k0_pay4 (k0_pay1 a b) q := by
  refine ⟨(View.read_writes_eq_canon _ _ _ (cover0_A_5 c i arg1 harg1 arg2 harg2 arg3 harg3 arg4 harg4 arg5 harg5 arg6 harg6 arg7 harg7 arg8 harg8 arg9 harg9 w a b p q)).trans ?_,
    (View.read_writes_eq_canon _ _ _ (cover0_A_6 c i arg1 harg1 arg2 harg2 arg3 harg3 arg4 harg4 arg5 harg5 arg6 harg6 arg7 harg7 arg8 harg8 arg9 harg9 w a b p q)).trans ?_,
    (View.read_writes_eq_canon _ _ _ (cover0_A_7 c i arg1 harg1 arg2 harg2 arg3 harg3 arg4 harg4 arg5 harg5 arg6 harg6 arg7 harg7 arg8 harg8 arg9 harg9 w a b p q)).trans ?_,
    (View.read_writes_eq_canon _ _ _ (cover0_A_8 c i arg1 harg1 arg2 harg2 arg3 harg3 arg4 harg4 arg5 harg5 arg6 harg6 arg7 harg7 arg8 harg8 arg9 harg9 w a b p q)).trans ?_⟩
  all_goals
    unfold kernelRun0_A
    dsimp only
    sl_unfold_words
    simp only [View.canon_unit_zero (S := S256x1024) Products.zero2, View.readCov_unit_zero (S := S256x1024) _ Products.zero2,
      View.readAt_eq_ld, harg1.read_unread, harg2.read_unread, harg3.read_unread, harg4.read_unread, harg5.read_unread, View.ld_unit_zero (S := S256x1024) Products.zero2]

end points

/-! ## The arrays -/

/-- Every window of point `t` is row block `t`. -/
theorem idx : ∀ t : Fin cfg0.N, ∀ a : Fin 2, win0_0.index t a = ![t.val, 0] a ∧ win0_1.index t a = ![t.val, 0] a ∧
    win0_2.index t a = ![t.val, 0] a ∧ win0_3.index t a = ![t.val, 0] a ∧ win0_4.index t a = ![t.val, 0] a ∧
    win0_5.index t a = ![t.val, 0] a ∧ win0_6.index t a = ![t.val, 0] a ∧ win0_7.index t a = ![t.val, 0] a ∧
    win0_8.index t a = ![t.val, 0] a := by
  decide +kernel

theorem in0 (t : Fin cfg0.N) : Products.Block (N := 768) (P := 1024) (n := 256) (p := 1024)
    (m ((c : Thread nD τ).loc main_arg0)) (iblk m c 0 t) (256 * t.val) 0 := fun i k hi hk => by
  blk_ext [iblk, V_main_arg0, (idx t 0).1, (idx t 1).1]

theorem in1 (t : Fin cfg0.N) : Products.Block (N := 768) (P := 1024) (n := 256) (p := 1024)
    (m ((c : Thread nD τ).loc main_arg1)) (iblk m c 1 t) (256 * t.val) 0 := fun i k hi hk => by
  blk_ext [iblk, V_main_arg1, (idx t 0).2.1, (idx t 1).2.1]

theorem in2 (t : Fin cfg0.N) : Products.Block (N := 768) (P := 1024) (n := 256) (p := 1024)
    (m ((c : Thread nD τ).loc main_arg2)) (iblk m c 2 t) (256 * t.val) 0 := fun i k hi hk => by
  blk_ext [iblk, V_main_arg2, (idx t 0).2.2.1, (idx t 1).2.2.1]

theorem in3 (t : Fin cfg0.N) : Products.Block (N := 768) (P := 1024) (n := 256) (p := 1024)
    (m ((c : Thread nD τ).loc main_arg3)) (iblk m c 3 t) (256 * t.val) 0 := fun i k hi hk => by
  blk_ext [iblk, V_main_arg3, (idx t 0).2.2.2.1, (idx t 1).2.2.2.1]

theorem in4 (t : Fin cfg0.N) : Products.Block (N := 768) (P := 1024) (n := 256) (p := 1024)
    (m ((c : Thread nD τ).loc main_arg4)) (iblk m c 4 t) (256 * t.val) 0 := fun i k hi hk => by
  blk_ext [iblk, V_main_arg4, (idx t 0).2.2.2.2.1, (idx t 1).2.2.2.2.1]

/-- The buffers after point `t`. -/
theorem point_at (t : Fin cfg0.N) :
    (outsAt0 m c t).1 = k0_pay1 (iblk m c 1 t) (iblk m c 2 t) ∧
    (outsAt0 m c t).2.1 = k0_pay5 (k0_pay1 (iblk m c 1 t) (iblk m c 2 t)) (iblk m c 3 t) (iblk m c 4 t) (iblk m c 0 t) ∧
    (outsAt0 m c t).2.2.1 = k0_pay3 (k0_pay1 (iblk m c 1 t) (iblk m c 2 t)) (iblk m c 3 t) ∧
    (outsAt0 m c t).2.2.2 = k0_pay4 (k0_pay1 (iblk m c 1 t) (iblk m c 2 t)) (iblk m c 4 t) := by
  obtain ⟨p5, p6, p7, p8⟩ := point c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t)
  unfold outsAt0
  dsimp only
  exact ⟨p5, p6, p7, p8⟩

/-- The arrays that the call ends with. -/
theorem arr5 : (dats m 0 c).arrAt 5 cfg0.N = Adamw.grad (n := 768) (p := 1024) (m ((c : Thread nD τ).loc main_arg1)) (m ((c : Thread nD τ).loc main_arg2)) := by
  refine (dats m 0 c).arrAt_eq_of_covers 5 _ (by decide +kernel) fun t hf y => ?_
  have e0 : ((win0_5.blk t).view.emb y 0).val = win0_5.index t 0 * 256 + 1 * (y 0).val := rfl
  have e1 : ((win0_5.blk t).view.emb y 1).val = win0_5.index t 1 * 1024 + 1 * (y 1).val := rfl
  rw [(idx t 0).2.2.2.2.2.1] at e0
  rw [(idx t 1).2.2.2.2.2.1] at e1
  blk_simp
  rw [after0_5]
  exact (congrFun ((point_at m c t).1.trans (pays (iblk m c 0 t) (iblk m c 1 t) (iblk m c 2 t) (iblk m c 3 t) (iblk m c 4 t)).1) y).trans (Adamw.grad_block (in1 m c t) (in2 m c t) y
    (e0.trans (by simp [Nat.mul_comm])) (e1.trans (by simp)))

theorem arr6 : (dats m 0 c).arrAt 6 cfg0.N = Adamw.delta (n := 768) (p := 1024) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e0 : ((win0_6.blk t).view.emb y 0).val = win0_6.index t 0 * 256 + 1 * (y 0).val := rfl
  have e1 : ((win0_6.blk t).view.emb y 1).val = win0_6.index t 1 * 1024 + 1 * (y 1).val := rfl
  rw [(idx t 0).2.2.2.2.2.2.1] at e0
  rw [(idx t 1).2.2.2.2.2.2.1] at e1
  blk_simp
  rw [after0_6]
  exact (congrFun ((point_at m c t).2.1.trans (pays (iblk m c 0 t) (iblk m c 1 t) (iblk m c 2 t) (iblk m c 3 t) (iblk m c 4 t)).2.1) y).trans (Adamw.delta_block (in0 m c t) (in1 m c t) (in2 m c t) (in3 m c t) (in4 m c t) y
    (e0.trans (by simp [Nat.mul_comm])) (e1.trans (by simp)))

theorem arr7 : (dats m 0 c).arrAt 7 cfg0.N = Adamw.first (n := 768) (p := 1024) (m ((c : Thread nD τ).loc main_arg1)) (m ((c : Thread nD τ).loc main_arg2)) (m ((c : Thread nD τ).loc main_arg3)) := by
  refine (dats m 0 c).arrAt_eq_of_covers 7 _ (by decide +kernel) fun t hf y => ?_
  have e0 : ((win0_7.blk t).view.emb y 0).val = win0_7.index t 0 * 256 + 1 * (y 0).val := rfl
  have e1 : ((win0_7.blk t).view.emb y 1).val = win0_7.index t 1 * 1024 + 1 * (y 1).val := rfl
  rw [(idx t 0).2.2.2.2.2.2.2.1] at e0
  rw [(idx t 1).2.2.2.2.2.2.2.1] at e1
  blk_simp
  rw [after0_7]
  exact (congrFun ((point_at m c t).2.2.1.trans (pays (iblk m c 0 t) (iblk m c 1 t) (iblk m c 2 t) (iblk m c 3 t) (iblk m c 4 t)).2.2.1) y).trans (Adamw.first_block (in1 m c t) (in2 m c t) (in3 m c t) y
    (e0.trans (by simp [Nat.mul_comm])) (e1.trans (by simp)))

theorem arr8 : (dats m 0 c).arrAt 8 cfg0.N = Adamw.second (n := 768) (p := 1024) (m ((c : Thread nD τ).loc main_arg1)) (m ((c : Thread nD τ).loc main_arg2)) (m ((c : Thread nD τ).loc main_arg4)) := by
  refine (dats m 0 c).arrAt_eq_of_covers 8 _ (by decide +kernel) fun t hf y => ?_
  have e0 : ((win0_8.blk t).view.emb y 0).val = win0_8.index t 0 * 256 + 1 * (y 0).val := rfl
  have e1 : ((win0_8.blk t).view.emb y 1).val = win0_8.index t 1 * 1024 + 1 * (y 1).val := rfl
  rw [(idx t 0).2.2.2.2.2.2.2.2] at e0
  rw [(idx t 1).2.2.2.2.2.2.2.2] at e1
  blk_simp
  rw [after0_8]
  exact (congrFun ((point_at m c t).2.2.2.trans (pays (iblk m c 0 t) (iblk m c 1 t) (iblk m c 2 t) (iblk m c 3 t) (iblk m c 4 t)).2.2.2) y).trans (Adamw.second_block (in1 m c t) (in2 m c t) (in4 m c t) y
    (e0.trans (by simp [Nat.mul_comm])) (e1.trans (by simp)))

/-! ## The claims -/

/-- The kernel as it runs terminates, keeps its arguments and ends with every counter at zero. -/
theorem frame_p : Cert.quiescent_AdamwBranch := fun m ρ _ => Cert.AdamwBranch.Gen.frame m ρ

/-- So does the kernel over the extended reals. -/
theorem frame_pi : Cert.quiescent_AdamwBranchIdeal := fun m ρ _ => Cert.AdamwBranchIdeal.Gen.frame m ρ

/-- The reference over the extended reals terminates and keeps its arguments. -/
theorem frame_ri : Cert.quiescent_AdamwBranchReferenceIdeal := fun m ρ _ =>
  (θ_run Cert.AdamwBranchReferenceIdeal.defs _ _).mono
    (fun r h => ⟨fun c => (h c).2.2.2.2, sem_eq_zero_of_no_sems (by decide) r.2⟩)
    (Cert.AdamwBranchReferenceIdeal.Value.run (F := Ideal) m ρ)

/-- Nothing of the kernel is rewritten. -/
theorem preserves : Cert.preserves_AdamwBranch_AdamwBranchIdeal := trivial

section reference

variable (w a b p q : Vec Ideal S768x1024 .f32)

open Cert.AdamwBranchReferenceIdeal.Read

/-- The four results of the reference, entry by entry. -/
theorem ref_grad : val_main_v0 (F := Ideal) a b = Adamw.grad a b := funext fun _ => rfl

theorem ref_delta : val_main_v24 (F := Ideal) w a b p q = Adamw.delta w a b p q := funext fun _ => rfl

theorem ref_first : val_main_v5 (F := Ideal) a b p = Adamw.first a b p := funext fun _ => rfl

theorem ref_second : val_main_v11 (F := Ideal) a b q = Adamw.second a b q := funext fun _ => rfl

end reference

open Cert.AdamwBranchReferenceIdeal.Read in
/-- On equal arguments, the kernel and the reference end with the same four results. -/
theorem algebraic : Cert.algebraic_AdamwBranchIdeal_AdamwBranchReferenceIdeal := by
  intro m ρ m' ρ' _ hagree
  refine ⟨_, _, _, _, Cert.AdamwBranchIdeal.Value.run_blocks (F := Ideal) m ρ, ?_⟩
  refine (θ_run Cert.AdamwBranchReferenceIdeal.defs _ _).mono (fun r hr c => ?_)
    (Cert.AdamwBranchReferenceIdeal.Value.run (F := Ideal) m' ρ')
  obtain ⟨a0, a1, a2, a3, a4⟩ := hagree c
  obtain ⟨r0, r1, r2, r3, hk⟩ := hr c
  refine ⟨r0.trans ((val_main_v0_eq _ _).trans ?_), r1.trans ((val_main_v24_eq _ _ _ _ _).trans ?_),
    r2.trans ((val_main_v5_eq _ _ _).trans ?_), r3.trans ((val_main_v11_eq _ _ _).trans ?_), hk⟩
  · rw [a1, a2]; exact (ref_grad _ _).trans (arr5 m c).symm
  · rw [a0, a1, a2, a3, a4]; exact (ref_delta _ _ _ _ _).trans (arr6 m c).symm
  · rw [a1, a2, a3]; exact (ref_first _ _ _).trans (arr7 m c).symm
  · rw [a1, a2, a4]; exact (ref_second _ _ _).trans (arr8 m c).symm

end AdamwBranch

end
-- ==== Proof.AdamwUp.lean ====
module

public import proofs.«01_k».proof.Defs
public import proofs.«01_k».proof.Proof.Adamw
public import proofs.«01_k».proof.Proof.Gen.AdamwUp.Frame
public import proofs.«01_k».proof.Proof.Gen.AdamwUpIdeal.Value
public import proofs.«01_k».proof.Proof.Gen.AdamwUpReferenceIdeal.Run
public import proofs.«01_k».proof.Proof.Gen.AdamwUpReferenceIdeal.Read

@[expose] public section

/-!
The optimiser's update of the up-projection's weight: each of its four results is the reference's
function of the arguments, entry by entry.
-/

noncomputable section

namespace AdamwUp

open Idealize.ShloMosaic Idealize.ShloMosaic.TcCoe Idealize.SL.Sem
open Cert.AdamwUpIdeal Cert.AdamwUpIdeal.Gen

variable (m : (ℓ : Loc nD τ sig) → Buf (Elt Ideal) ℓ) (c : Dev nD)

/-! ## One grid point -/

section points

/-- The body on one block: the sum, the step and the moments. -/
theorem pays (w a b p q : Vec Ideal S256x1408 .f32) : k0_pay1 a b = Adamw.grad a b ∧
    k0_pay5 (k0_pay1 a b) p q w = Adamw.delta w a b p q ∧ k0_pay3 (k0_pay1 a b) p = Adamw.first a b p ∧
    k0_pay4 (k0_pay1 a b) q = Adamw.second a b q := by
  simp only [k0_pay5, k0_pay4, k0_pay3, k0_pay2, k0_pay1, Adamw.cast_self]
  exact ⟨funext fun _ => rfl, funext fun _ => rfl, funext fun _ => rfl, funext fun _ => rfl⟩

variable (i : grid0.Coords)
  (arg1 : Memref sig .tc .vmem S256x1408 .f32) (harg1 : arg1.IsWhole)
  (arg2 : Memref sig .tc .vmem S256x1408 .f32) (harg2 : arg2.IsWhole)
  (arg3 : Memref sig .tc .vmem S256x1408 .f32) (harg3 : arg3.IsWhole)
  (arg4 : Memref sig .tc .vmem S256x1408 .f32) (harg4 : arg4.IsWhole)
  (arg5 : Memref sig .tc .vmem S256x1408 .f32) (harg5 : arg5.IsWhole)
  (arg6 : Memref sig .tc .vmem S256x1408 .f32) (harg6 : arg6.IsWhole)
  (arg7 : Memref sig .tc .vmem S256x1408 .f32) (harg7 : arg7.IsWhole)
  (arg8 : Memref sig .tc .vmem S256x1408 .f32) (harg8 : arg8.IsWhole)
  (arg9 : Memref sig .tc .vmem S256x1408 .f32) (harg9 : arg9.IsWhole)
  (w a b p q : Vec Ideal S256x1408 .f32)

/-- What a point leaves in the four result buffers. -/
theorem point :
    out0_A_5 c i arg1 harg1 arg2 harg2 arg3 harg3 arg4 harg4 arg5 harg5 arg6 harg6 arg7 harg7 arg8 harg8 arg9 harg9 w a b p q = k0_pay1 a b ∧
    out0_A_6 c i arg1 harg1 arg2 harg2 arg3 harg3 arg4 harg4 arg5 harg5 arg6 harg6 arg7 harg7 arg8 harg8 arg9 harg9 w a b p q = k0_pay5 (k0_pay1 a b) p q w ∧
    out0_A_7 c i arg1 harg1 arg2 harg2 arg3 harg3 arg4 harg4 arg5 harg5 arg6 harg6 arg7 harg7 arg8 harg8 arg9 harg9 w a b p q = k0_pay3 (k0_pay1 a b) p ∧
    out0_A_8 c i arg1 harg1 arg2 harg2 arg3 harg3 arg4 harg4 arg5 harg5 arg6 harg6 arg7 harg7 arg8 harg8 arg9 harg9 w a b p q = k0_pay4 (k0_pay1 a b) q := by
  refine ⟨(View.read_writes_eq_canon _ _ _ (cover0_A_5 c i arg1 harg1 arg2 harg2 arg3 harg3 arg4 harg4 arg5 harg5 arg6 harg6 arg7 harg7 arg8 harg8 arg9 harg9 w a b p q)).trans ?_,
    (View.read_writes_eq_canon _ _ _ (cover0_A_6 c i arg1 harg1 arg2 harg2 arg3 harg3 arg4 harg4 arg5 harg5 arg6 harg6 arg7 harg7 arg8 harg8 arg9 harg9 w a b p q)).trans ?_,
    (View.read_writes_eq_canon _ _ _ (cover0_A_7 c i arg1 harg1 arg2 harg2 arg3 harg3 arg4 harg4 arg5 harg5 arg6 harg6 arg7 harg7 arg8 harg8 arg9 harg9 w a b p q)).trans ?_,
    (View.read_writes_eq_canon _ _ _ (cover0_A_8 c i arg1 harg1 arg2 harg2 arg3 harg3 arg4 harg4 arg5 harg5 arg6 harg6 arg7 harg7 arg8 harg8 arg9 harg9 w a b p q)).trans ?_⟩
  all_goals
    unfold kernelRun0_A
    dsimp only
    sl_unfold_words
    simp only [View.canon_unit_zero (S := S256x1408) Products.zero2, View.readCov_unit_zero (S := S256x1408) _ Products.zero2,
      View.readAt_eq_ld, harg1.read_unread, harg2.read_unread, harg3.read_unread, harg4.read_unread, harg5.read_unread, View.ld_unit_zero (S := S256x1408) Products.zero2]

end points

/-! ## The arrays -/

/-- Every window of point `t` is row block `t`. -/
theorem idx : ∀ t : Fin cfg0.N, ∀ a : Fin 2, win0_0.index t a = ![t.val, 0] a ∧ win0_1.index t a = ![t.val, 0] a ∧
    win0_2.index t a = ![t.val, 0] a ∧ win0_3.index t a = ![t.val, 0] a ∧ win0_4.index t a = ![t.val, 0] a ∧
    win0_5.index t a = ![t.val, 0] a ∧ win0_6.index t a = ![t.val, 0] a ∧ win0_7.index t a = ![t.val, 0] a ∧
    win0_8.index t a = ![t.val, 0] a := by
  decide +kernel

theorem in0 (t : Fin cfg0.N) : Products.Block (N := 1024) (P := 1408) (n := 256) (p := 1408)
    (m ((c : Thread nD τ).loc main_arg0)) (iblk m c 0 t) (256 * t.val) 0 := fun i k hi hk => by
  blk_ext [iblk, V_main_arg0, (idx t 0).1, (idx t 1).1]

theorem in1 (t : Fin cfg0.N) : Products.Block (N := 1024) (P := 1408) (n := 256) (p := 1408)
    (m ((c : Thread nD τ).loc main_arg1)) (iblk m c 1 t) (256 * t.val) 0 := fun i k hi hk => by
  blk_ext [iblk, V_main_arg1, (idx t 0).2.1, (idx t 1).2.1]

theorem in2 (t : Fin cfg0.N) : Products.Block (N := 1024) (P := 1408) (n := 256) (p := 1408)
    (m ((c : Thread nD τ).loc main_arg2)) (iblk m c 2 t) (256 * t.val) 0 := fun i k hi hk => by
  blk_ext [iblk, V_main_arg2, (idx t 0).2.2.1, (idx t 1).2.2.1]

theorem in3 (t : Fin cfg0.N) : Products.Block (N := 1024) (P := 1408) (n := 256) (p := 1408)
    (m ((c : Thread nD τ).loc main_arg3)) (iblk m c 3 t) (256 * t.val) 0 := fun i k hi hk => by
  blk_ext [iblk, V_main_arg3, (idx t 0).2.2.2.1, (idx t 1).2.2.2.1]

theorem in4 (t : Fin cfg0.N) : Products.Block (N := 1024) (P := 1408) (n := 256) (p := 1408)
    (m ((c : Thread nD τ).loc main_arg4)) (iblk m c 4 t) (256 * t.val) 0 := fun i k hi hk => by
  blk_ext [iblk, V_main_arg4, (idx t 0).2.2.2.2.1, (idx t 1).2.2.2.2.1]

/-- The buffers after point `t`. -/
theorem point_at (t : Fin cfg0.N) :
    (outsAt0 m c t).1 = k0_pay1 (iblk m c 1 t) (iblk m c 2 t) ∧
    (outsAt0 m c t).2.1 = k0_pay5 (k0_pay1 (iblk m c 1 t) (iblk m c 2 t)) (iblk m c 3 t) (iblk m c 4 t) (iblk m c 0 t) ∧
    (outsAt0 m c t).2.2.1 = k0_pay3 (k0_pay1 (iblk m c 1 t) (iblk m c 2 t)) (iblk m c 3 t) ∧
    (outsAt0 m c t).2.2.2 = k0_pay4 (k0_pay1 (iblk m c 1 t) (iblk m c 2 t)) (iblk m c 4 t) := by
  obtain ⟨p5, p6, p7, p8⟩ := point c (grid0.coords t) _ (hs0_0 t) _ (hs0_1 t) _ (hs0_2 t) _ (hs0_3 t) _ (hs0_4 t) _ (hs0_5 t) _ (hs0_6 t) _ (hs0_7 t) _ (hs0_8 t) (iblk m c 0 t) (iblk m c 1 t) (iblk m c 2 t) (iblk m c 3 t) (iblk m c 4 t)
  unfold outsAt0
  dsimp only
  exact ⟨p5, p6, p7, p8⟩

/-- The arrays that the call ends with. -/
theorem arr5 : (dats m 0 c).arrAt 5 cfg0.N = Adamw.grad (n := 1024) (p := 1408) (m ((c : Thread nD τ).loc main_arg1)) (m ((c : Thread nD τ).loc main_arg2)) := by
  refine (dats m 0 c).arrAt_eq_of_covers 5 _ (by decide +kernel) fun t hf y => ?_
  have e0 : ((win0_5.blk t).view.emb y 0).val = win0_5.index t 0 * 256 + 1 * (y 0).val := rfl
  have e1 : ((win0_5.blk t).view.emb y 1).val = win0_5.index t 1 * 1408 + 1 * (y 1).val := rfl
  rw [(idx t 0).2.2.2.2.2.1] at e0
  rw [(idx t 1).2.2.2.2.2.1] at e1
  blk_simp
  rw [after0_5]
  exact (congrFun ((point_at m c t).1.trans (pays (iblk m c 0 t) (iblk m c 1 t) (iblk m c 2 t) (iblk m c 3 t) (iblk m c 4 t)).1) y).trans (Adamw.grad_block (in1 m c t) (in2 m c t) y
    (e0.trans (by simp [Nat.mul_comm])) (e1.trans (by simp)))

theorem arr6 : (dats m 0 c).arrAt 6 cfg0.N = Adamw.delta (n := 1024) (p := 1408) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have e0 : ((win0_6.blk t).view.emb y 0).val = win0_6.index t 0 * 256 + 1 * (y 0).val := rfl
  have e1 : ((win0_6.blk t).view.emb y 1).val = win0_6.index t 1 * 1408 + 1 * (y 1).val := rfl
  rw [(idx t 0).2.2.2.2.2.2.1] at e0
  rw [(idx t 1).2.2.2.2.2.2.1] at e1
  blk_simp
  rw [after0_6]
  exact (congrFun ((point_at m c t).2.1.trans (pays (iblk m c 0 t) (iblk m c 1 t) (iblk m c 2 t) (iblk m c 3 t) (iblk m c 4 t)).2.1) y).trans (Adamw.delta_block (in0 m c t) (in1 m c t) (in2 m c t) (in3 m c t) (in4 m c t) y
    (e0.trans (by simp [Nat.mul_comm])) (e1.trans (by simp)))

theorem arr7 : (dats m 0 c).arrAt 7 cfg0.N = Adamw.first (n := 1024) (p := 1408) (m ((c : Thread nD τ).loc main_arg1)) (m ((c : Thread nD τ).loc main_arg2)) (m ((c : Thread nD τ).loc main_arg3)) := by
  refine (dats m 0 c).arrAt_eq_of_covers 7 _ (by decide +kernel) fun t hf y => ?_
  have e0 : ((win0_7.blk t).view.emb y 0).val = win0_7.index t 0 * 256 + 1 * (y 0).val := rfl
  have e1 : ((win0_7.blk t).view.emb y 1).val = win0_7.index t 1 * 1408 + 1 * (y 1).val := rfl
  rw [(idx t 0).2.2.2.2.2.2.2.1] at e0
  rw [(idx t 1).2.2.2.2.2.2.2.1] at e1
  blk_simp
  rw [after0_7]
  exact (congrFun ((point_at m c t).2.2.1.trans (pays (iblk m c 0 t) (iblk m c 1 t) (iblk m c 2 t) (iblk m c 3 t) (iblk m c 4 t)).2.2.1) y).trans (Adamw.first_block (in1 m c t) (in2 m c t) (in3 m c t) y
    (e0.trans (by simp [Nat.mul_comm])) (e1.trans (by simp)))

theorem arr8 : (dats m 0 c).arrAt 8 cfg0.N = Adamw.second (n := 1024) (p := 1408) (m ((c : Thread nD τ).loc main_arg1)) (m ((c : Thread nD τ).loc main_arg2)) (m ((c : Thread nD τ).loc main_arg4)) := by
  refine (dats m 0 c).arrAt_eq_of_covers 8 _ (by decide +kernel) fun t hf y => ?_
  have e0 : ((win0_8.blk t).view.emb y 0).val = win0_8.index t 0 * 256 + 1 * (y 0).val := rfl
  have e1 : ((win0_8.blk t).view.emb y 1).val = win0_8.index t 1 * 1408 + 1 * (y 1).val := rfl
  rw [(idx t 0).2.2.2.2.2.2.2.2] at e0
  rw [(idx t 1).2.2.2.2.2.2.2.2] at e1
  blk_simp
  rw [after0_8]
  exact (congrFun ((point_at m c t).2.2.2.trans (pays (iblk m c 0 t) (iblk m c 1 t) (iblk m c 2 t) (iblk m c 3 t) (iblk m c 4 t)).2.2.2) y).trans (Adamw.second_block (in1 m c t) (in2 m c t) (in4 m c t) y
    (e0.trans (by simp [Nat.mul_comm])) (e1.trans (by simp)))

/-! ## The claims -/

/-- The kernel as it runs terminates, keeps its arguments and ends with every counter at zero. -/
theorem frame_p : Cert.quiescent_AdamwUp := fun m ρ _ => Cert.AdamwUp.Gen.frame m ρ

/-- So does the kernel over the extended reals. -/
theorem frame_pi : Cert.quiescent_AdamwUpIdeal := fun m ρ _ => Cert.AdamwUpIdeal.Gen.frame m ρ

/-- The reference over the extended reals terminates and keeps its arguments. -/
theorem frame_ri : Cert.quiescent_AdamwUpReferenceIdeal := fun m ρ _ =>
  (θ_run Cert.AdamwUpReferenceIdeal.defs _ _).mono
    (fun r h => ⟨fun c => (h c).2.2.2.2, sem_eq_zero_of_no_sems (by decide) r.2⟩)
    (Cert.AdamwUpReferenceIdeal.Value.run (F := Ideal) m ρ)

/-- Nothing of the kernel is rewritten. -/
theorem preserves : Cert.preserves_AdamwUp_AdamwUpIdeal := trivial

section reference

variable (w a b p q : Vec Ideal S1024x1408 .f32)

open Cert.AdamwUpReferenceIdeal.Read

/-- The four results of the reference, entry by entry. -/
theorem ref_grad : val_main_v0 (F := Ideal) a b = Adamw.grad a b := funext fun _ => rfl

theorem ref_delta : val_main_v24 (F := Ideal) w a b p q = Adamw.delta w a b p q := funext fun _ => rfl

theorem ref_first : val_main_v5 (F := Ideal) a b p = Adamw.first a b p := funext fun _ => rfl

theorem ref_second : val_main_v11 (F := Ideal) a b q = Adamw.second a b q := funext fun _ => rfl

end reference

open Cert.AdamwUpReferenceIdeal.Read in
/-- On equal arguments, the kernel and the reference end with the same four results. -/
theorem algebraic : Cert.algebraic_AdamwUpIdeal_AdamwUpReferenceIdeal := by
  intro m ρ m' ρ' _ hagree
  refine ⟨_, _, _, _, Cert.AdamwUpIdeal.Value.run_blocks (F := Ideal) m ρ, ?_⟩
  refine (θ_run Cert.AdamwUpReferenceIdeal.defs _ _).mono (fun r hr c => ?_)
    (Cert.AdamwUpReferenceIdeal.Value.run (F := Ideal) m' ρ')
  obtain ⟨a0, a1, a2, a3, a4⟩ := hagree c
  obtain ⟨r0, r1, r2, r3, hk⟩ := hr c
  refine ⟨r0.trans ((val_main_v0_eq _ _).trans ?_), r1.trans ((val_main_v24_eq _ _ _ _ _).trans ?_),
    r2.trans ((val_main_v5_eq _ _ _).trans ?_), r3.trans ((val_main_v11_eq _ _ _).trans ?_), hk⟩
  · rw [a1, a2]; exact (ref_grad _ _).trans (arr5 m c).symm
  · rw [a0, a1, a2, a3, a4]; exact (ref_delta _ _ _ _ _).trans (arr6 m c).symm
  · rw [a1, a2, a3]; exact (ref_first _ _ _).trans (arr7 m c).symm
  · rw [a1, a2, a4]; exact (ref_second _ _ _).trans (arr8 m c).symm

end AdamwUp

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Claims
public import proofs.«01_k».proof.Proof.InDgrad
public import proofs.«01_k».proof.Proof.UpDgrad
public import proofs.«01_k».proof.Proof.DownDgrad
public import proofs.«01_k».proof.Proof.DownWgrad
public import proofs.«01_k».proof.Proof.UpProj
public import proofs.«01_k».proof.Proof.DownProj
public import proofs.«01_k».proof.Proof.InXbc
public import proofs.«01_k».proof.Proof.InZ
public import proofs.«01_k».proof.Proof.InUv
public import proofs.«01_k».proof.Proof.BranchA
public import proofs.«01_k».proof.Proof.BranchB
public import proofs.«01_k».proof.Proof.OutProj
public import proofs.«01_k».proof.Proof.BranchADgrad
public import proofs.«01_k».proof.Proof.OutDgrad
public import proofs.«01_k».proof.Proof.InZWgrad
public import proofs.«01_k».proof.Proof.InXbcWgrad
public import proofs.«01_k».proof.Proof.OutWgrad
public import proofs.«01_k».proof.Proof.UpWgradA
public import proofs.«01_k».proof.Proof.UpWgradV
public import proofs.«01_k».proof.Proof.BranchAWgrad
public import proofs.«01_k».proof.Proof.BranchBWgrad
public import proofs.«01_k».proof.Proof.InDt
public import proofs.«01_k».proof.Proof.InDtWgrad
public import proofs.«01_k».proof.Proof.GateBwd
public import proofs.«01_k».proof.Proof.GateFwd
public import proofs.«01_k».proof.Proof.RmsFwd
public import proofs.«01_k».proof.Proof.AdamwDown
public import proofs.«01_k».proof.Proof.AdamwOut
public import proofs.«01_k».proof.Proof.AdamwBranch
public import proofs.«01_k».proof.Proof.AdamwUp

@[expose] public section

noncomputable section

namespace Cert.Proof

/-- All that this certificate claims. -/
theorem claim : Cert.Claim :=
  ⟨Cert.Kernel.Gen.facts, Cert.KernelIdeal.Gen.facts, Cert.ReferenceIdeal.Gen.facts, Cert.InDgrad.Gen.facts,
    Cert.InDgradIdeal.Gen.facts, Cert.InDgradReferenceIdeal.Gen.facts, Cert.UpDgrad.Gen.facts,
    Cert.UpDgradIdeal.Gen.facts, Cert.UpDgradReferenceIdeal.Gen.facts, Cert.DownDgrad.Gen.facts,
    Cert.DownDgradIdeal.Gen.facts, Cert.DownDgradReferenceIdeal.Gen.facts, Cert.DownWgrad.Gen.facts,
    Cert.DownWgradIdeal.Gen.facts, Cert.DownWgradReferenceIdeal.Gen.facts, Cert.UpProj.Gen.facts,
    Cert.UpProjIdeal.Gen.facts, Cert.UpProjReferenceIdeal.Gen.facts, Cert.DownProj.Gen.facts,
    Cert.DownProjIdeal.Gen.facts, Cert.DownProjReferenceIdeal.Gen.facts, Cert.InXbc.Gen.facts,
    Cert.InXbcIdeal.Gen.facts, Cert.InXbcReferenceIdeal.Gen.facts, Cert.InZ.Gen.facts, Cert.InZIdeal.Gen.facts,
    Cert.InZReferenceIdeal.Gen.facts, Cert.InUv.Gen.facts, Cert.InUvIdeal.Gen.facts,
    Cert.InUvReferenceIdeal.Gen.facts, Cert.BranchA.Gen.facts, Cert.BranchAIdeal.Gen.facts,
    Cert.BranchAReferenceIdeal.Gen.facts, Cert.BranchB.Gen.facts, Cert.BranchBIdeal.Gen.facts,
    Cert.BranchBReferenceIdeal.Gen.facts, Cert.OutProj.Gen.facts, Cert.OutProjIdeal.Gen.facts,
    Cert.OutProjReferenceIdeal.Gen.facts, Cert.BranchADgrad.Gen.facts, Cert.BranchADgradIdeal.Gen.facts,
    Cert.BranchADgradReferenceIdeal.Gen.facts, Cert.OutDgrad.Gen.facts, Cert.OutDgradIdeal.Gen.facts,
    Cert.OutDgradReferenceIdeal.Gen.facts, Cert.InZWgrad.Gen.facts, Cert.InZWgradIdeal.Gen.facts,
    Cert.InZWgradReferenceIdeal.Gen.facts, Cert.InXbcWgrad.Gen.facts, Cert.InXbcWgradIdeal.Gen.facts,
    Cert.InXbcWgradReferenceIdeal.Gen.facts, Cert.OutWgrad.Gen.facts, Cert.OutWgradIdeal.Gen.facts,
    Cert.OutWgradReferenceIdeal.Gen.facts, Cert.UpWgradA.Gen.facts, Cert.UpWgradAIdeal.Gen.facts,
    Cert.UpWgradAReferenceIdeal.Gen.facts, Cert.UpWgradV.Gen.facts, Cert.UpWgradVIdeal.Gen.facts,
    Cert.UpWgradVReferenceIdeal.Gen.facts, Cert.BranchAWgrad.Gen.facts, Cert.BranchAWgradIdeal.Gen.facts,
    Cert.BranchAWgradReferenceIdeal.Gen.facts, Cert.BranchBWgrad.Gen.facts, Cert.BranchBWgradIdeal.Gen.facts,
    Cert.BranchBWgradReferenceIdeal.Gen.facts, Cert.InDt.Gen.facts, Cert.InDtIdeal.Gen.facts,
    Cert.InDtReferenceIdeal.Gen.facts, Cert.InDtWgrad.Gen.facts, Cert.InDtWgradIdeal.Gen.facts,
    Cert.InDtWgradReferenceIdeal.Gen.facts, Cert.GateBwd.Gen.facts, Cert.GateBwdIdeal.Gen.facts,
    Cert.GateBwdReferenceIdeal.Gen.facts, Cert.GateFwd.Gen.facts, Cert.GateFwdIdeal.Gen.facts,
    Cert.GateFwdReferenceIdeal.Gen.facts, Cert.RmsFwd.Gen.facts, Cert.RmsFwdIdeal.Gen.facts,
    Cert.RmsFwdReferenceIdeal.Gen.facts, Cert.AdamwDown.Gen.facts, Cert.AdamwDownIdeal.Gen.facts,
    Cert.AdamwDownReferenceIdeal.Gen.facts, Cert.AdamwOut.Gen.facts, Cert.AdamwOutIdeal.Gen.facts,
    Cert.AdamwOutReferenceIdeal.Gen.facts, Cert.AdamwBranch.Gen.facts, Cert.AdamwBranchIdeal.Gen.facts,
    Cert.AdamwBranchReferenceIdeal.Gen.facts, Cert.AdamwUp.Gen.facts, Cert.AdamwUpIdeal.Gen.facts,
    Cert.AdamwUpReferenceIdeal.Gen.facts, Sgu.preFacts, Cert.On_up_a_written.Gen.facts,
    Cert.On_branch_a_written.Gen.facts, Sgu.frame_p, Sgu.frame_pi, Sgu.frame_pi_finite, Sgu.frame_ri,
    Sgu.frame_ri_finite, InDgrad.frame_p, InDgrad.frame_pi, InDgrad.frame_ri, UpDgrad.frame_p, UpDgrad.frame_pi,
    UpDgrad.frame_ri, DownDgrad.frame_p, DownDgrad.frame_pi, DownDgrad.frame_ri, DownWgrad.frame_p,
    DownWgrad.frame_pi, DownWgrad.frame_ri, UpProj.frame_p, UpProj.frame_pi, UpProj.frame_ri, DownProj.frame_p,
    DownProj.frame_pi, DownProj.frame_ri, InXbc.frame_p, InXbc.frame_pi, InXbc.frame_ri, InZ.frame_p, InZ.frame_pi,
    InZ.frame_ri, InUv.frame_p, InUv.frame_pi, InUv.frame_ri, BranchA.frame_p, BranchA.frame_pi, BranchA.frame_ri,
    BranchB.frame_p, BranchB.frame_pi, BranchB.frame_ri, OutProj.frame_p, OutProj.frame_pi, OutProj.frame_ri,
    BranchADgrad.frame_p, BranchADgrad.frame_pi, BranchADgrad.frame_ri, OutDgrad.frame_p, OutDgrad.frame_pi,
    OutDgrad.frame_ri, InZWgrad.frame_p, InZWgrad.frame_pi, InZWgrad.frame_ri, InXbcWgrad.frame_p,
    InXbcWgrad.frame_pi, InXbcWgrad.frame_ri, OutWgrad.frame_p, OutWgrad.frame_pi, OutWgrad.frame_ri,
    UpWgradA.frame_p, UpWgradA.frame_pi, UpWgradA.frame_ri, UpWgradV.frame_p, UpWgradV.frame_pi, UpWgradV.frame_ri,
    BranchAWgrad.frame_p, BranchAWgrad.frame_pi, BranchAWgrad.frame_ri, BranchBWgrad.frame_p, BranchBWgrad.frame_pi,
    BranchBWgrad.frame_ri, InDt.frame_p, InDt.frame_pi, InDt.frame_ri, InDtWgrad.frame_p, InDtWgrad.frame_pi,
    InDtWgrad.frame_ri, GateBwd.frame_p, GateBwd.frame_pi, GateBwd.frame_ri, GateFwd.frame_p, GateFwd.frame_pi,
    GateFwd.frame_ri, RmsFwd.frame_p, RmsFwd.frame_pi, RmsFwd.frame_ri, AdamwDown.frame_p, AdamwDown.frame_pi,
    AdamwDown.frame_ri, AdamwOut.frame_p, AdamwOut.frame_pi, AdamwOut.frame_ri, AdamwBranch.frame_p,
    AdamwBranch.frame_pi, AdamwBranch.frame_ri, AdamwUp.frame_p, AdamwUp.frame_pi, AdamwUp.frame_ri, Sgu.preserves,
    Sgu.algebraic, InDgrad.preserves, InDgrad.algebraic, UpDgrad.preserves, UpDgrad.algebraic, DownDgrad.preserves,
    DownDgrad.algebraic, DownWgrad.preserves, DownWgrad.algebraic, UpProj.preserves, UpProj.algebraic,
    DownProj.preserves, DownProj.algebraic, InXbc.preserves, InXbc.algebraic, InZ.preserves, InZ.algebraic,
    InUv.preserves, InUv.algebraic, BranchA.preserves, BranchA.algebraic, BranchB.preserves, BranchB.algebraic,
    OutProj.preserves, OutProj.algebraic, BranchADgrad.preserves, BranchADgrad.algebraic, OutDgrad.preserves,
    OutDgrad.algebraic, InZWgrad.preserves, InZWgrad.algebraic, InXbcWgrad.preserves, InXbcWgrad.algebraic,
    OutWgrad.preserves, OutWgrad.algebraic, UpWgradA.preserves, UpWgradA.algebraic, UpWgradV.preserves,
    UpWgradV.algebraic, BranchAWgrad.preserves, BranchAWgrad.algebraic, BranchBWgrad.preserves,
    BranchBWgrad.algebraic, InDt.preserves, InDt.algebraic, InDtWgrad.preserves, InDtWgrad.algebraic,
    GateBwd.preserves, GateBwd.algebraic, GateFwd.preserves, GateFwd.algebraic, RmsFwd.preserves, RmsFwd.algebraic,
    AdamwDown.preserves, AdamwDown.algebraic, AdamwOut.preserves, AdamwOut.algebraic, AdamwBranch.preserves,
    AdamwBranch.algebraic, AdamwUp.preserves, AdamwUp.algebraic⟩

end Cert.Proof

end
